-- ==== Defs.lean ====
def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_finite_in [hPre_finite_in : Cert.Pre_finite_in.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.2.2 = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_finite_in [hPre_finite_in : Cert.Pre_finite_in.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.2.2 = (fun _ => 1#1)

def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbKernelIdeal_sb_in [hPre_sb_in : Cert.Pre_sb_in.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_sb_in.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1))).1 = (fun _ => 1#1)
    ∧ (Cert.Pre_sb_in.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1))).2.1 = (fun _ => 1#1)
    ∧ (Cert.Pre_sb_in.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1))).2.2 = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_sb_in [hPre_sb_in : Cert.Pre_sb_in.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_sb_in.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1))).1 = (fun _ => 1#1)
    ∧ (Cert.Pre_sb_in.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1))).2.1 = (fun _ => 1#1)
    ∧ (Cert.Pre_sb_in.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1))).2.2 = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvKernelIdeal_conv_in [hPre_conv_in : Cert.Pre_conv_in.Facts] (m : (ℓ : Loc Cert.ConvKernelIdeal.nD Cert.ConvKernelIdeal.τ Cert.ConvKernelIdeal.sig) → Buf (Elt Ideal) ℓ) : Prop :=
  ∀ c : Dev Cert.ConvKernelIdeal.nD,
    (Cert.Pre_conv_in.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4))).1 = (fun _ => 1#1)
    ∧ (Cert.Pre_conv_in.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4))).2.1 = (fun _ => 1#1)
    ∧ (Cert.Pre_conv_in.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4))).2.2.1 = (fun _ => 1#1)
    ∧ (Cert.Pre_conv_in.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4))).2.2.2.1 = (fun _ => 1#1)
    ∧ (Cert.Pre_conv_in.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4))).2.2.2.2 = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_conv_in [hPre_conv_in : Cert.Pre_conv_in.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_conv_in.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4))).1 = (fun _ => 1#1)
    ∧ (Cert.Pre_conv_in.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4))).2.1 = (fun _ => 1#1)
    ∧ (Cert.Pre_conv_in.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4))).2.2.1 = (fun _ => 1#1)
    ∧ (Cert.Pre_conv_in.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4))).2.2.2.1 = (fun _ => 1#1)
    ∧ (Cert.Pre_conv_in.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4))).2.2.2.2 = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdKernelIdeal_fwd_in [hPre_fwd_in : Cert.Pre_fwd_in.Facts] (m : (ℓ : Loc Cert.FwdKernelIdeal.nD Cert.FwdKernelIdeal.τ Cert.FwdKernelIdeal.sig) → Buf (Elt Ideal) ℓ) : Prop :=
  ∀ c : Dev Cert.FwdKernelIdeal.nD,
    (Cert.Pre_fwd_in.fn (F := Ideal) (m ((c.tc : Thread Cert.FwdKernelIdeal.nD Cert.FwdKernelIdeal.τ).loc Cert.FwdKernelIdeal.main_arg0))).1 = (fun _ => 1#1)
    ∧ (Cert.Pre_fwd_in.fn (F := Ideal) (m ((c.tc : Thread Cert.FwdKernelIdeal.nD Cert.FwdKernelIdeal.τ).loc Cert.FwdKernelIdeal.main_arg0))).2 = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_fwd_in [hPre_fwd_in : Cert.Pre_fwd_in.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_fwd_in.fn (F := Ideal) (m ((c.tc : Thread Cert.FwdReferenceIdeal.nD Cert.FwdReferenceIdeal.τ).loc Cert.FwdReferenceIdeal.main_arg0))).1 = (fun _ => 1#1)
    ∧ (Cert.Pre_fwd_in.fn (F := Ideal) (m ((c.tc : Thread Cert.FwdReferenceIdeal.nD Cert.FwdReferenceIdeal.τ).loc Cert.FwdReferenceIdeal.main_arg0))).2 = (fun _ => 1#1)

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InKernelIdeal_pre_finite_in [hInKernelIdeal : Cert.InKernelIdeal.Facts] [hPre_finite_in : Cert.Pre_finite_in.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_finite_in m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_InReferenceIdeal_pre_finite_in [hInReferenceIdeal : Cert.InReferenceIdeal.Facts] [hPre_finite_in : Cert.Pre_finite_in.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_finite_in m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ r.2.sem = fun _ => 0)

def quiescent_SbKernelIdeal_pre_sb_in [hSbKernelIdeal : Cert.SbKernelIdeal.Facts] [hPre_sb_in : Cert.Pre_sb_in.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_sb_in m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1))
      ∧ r.2.sem = fun _ => 0)

def quiescent_SbReferenceIdeal_pre_sb_in [hSbReferenceIdeal : Cert.SbReferenceIdeal.Facts] [hPre_sb_in : Cert.Pre_sb_in.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_sb_in m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3)
      ∧ r.2.mem ((c.tc : Thread Cert.ConvKernel.nD Cert.ConvKernel.τ).loc Cert.ConvKernel.main_arg4) = m ((c.tc : Thread Cert.ConvKernel.nD Cert.ConvKernel.τ).loc Cert.ConvKernel.main_arg4))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4))
      ∧ r.2.sem = fun _ => 0)

def quiescent_ConvKernelIdeal_pre_conv_in [hConvKernelIdeal : Cert.ConvKernelIdeal.Facts] [hPre_conv_in : Cert.Pre_conv_in.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal_conv_in m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4))
      ∧ r.2.sem = fun _ => 0)

def quiescent_ConvReferenceIdeal_pre_conv_in [hConvReferenceIdeal : Cert.ConvReferenceIdeal.Facts] [hPre_conv_in : Cert.Pre_conv_in.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_conv_in m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0))
      ∧ r.2.sem = fun _ => 0)

def quiescent_FwdKernelIdeal_pre_fwd_in [hFwdKernelIdeal : Cert.FwdKernelIdeal.Facts] [hPre_fwd_in : Cert.Pre_fwd_in.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal_fwd_in m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0))
      ∧ r.2.sem = fun _ => 0)

def quiescent_FwdReferenceIdeal_pre_fwd_in [hFwdReferenceIdeal : Cert.FwdReferenceIdeal.Facts] [hPre_fwd_in : Cert.Pre_fwd_in.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_fwd_in m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def preserves_InKernel_InKernelIdeal : Prop :=
  True

def algebraic_InKernelIdeal_InReferenceIdeal_pre_finite_in [hInKernelIdeal : Cert.InKernelIdeal.Facts] [hInReferenceIdeal : Cert.InReferenceIdeal.Facts] [hPre_finite_in : Cert.Pre_finite_in.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_finite_in m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v14_0)) (v1 : (c : Dev Cert.InKernelIdeal.nD) → Buf (Elt Ideal) ((c.tc : Thread Cert.InKernelIdeal.nD Cert.InKernelIdeal.τ).loc Cert.InKernelIdeal.main_v14_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v14_0) = v0 c
          ∧ r.2.mem ((c.tc : Thread Cert.InKernelIdeal.nD Cert.InKernelIdeal.τ).loc Cert.InKernelIdeal.main_v14_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v43) = v0 c
          ∧ r.2.mem ((c.tc : Thread Cert.InReferenceIdeal.nD Cert.InReferenceIdeal.τ).loc Cert.InReferenceIdeal.main_v26) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_SbKernel_SbKernelIdeal : Prop :=
  True

def algebraic_SbKernelIdeal_SbReferenceIdeal_pre_sb_in [hSbKernelIdeal : Cert.SbKernelIdeal.Facts] [hSbReferenceIdeal : Cert.SbReferenceIdeal.Facts] [hPre_sb_in : Cert.Pre_sb_in.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal_sb_in m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)
      ∧ m' ((c.tc : Thread Cert.SbReferenceIdeal.nD Cert.SbReferenceIdeal.τ).loc Cert.SbReferenceIdeal.main_arg1) = m ((c.tc : Thread Cert.SbKernelIdeal.nD Cert.SbKernelIdeal.τ).loc Cert.SbKernelIdeal.main_arg1)) →
    ∃ (v0 : (c : Dev Cert.SbKernelIdeal.nD) → Buf (Elt Ideal) ((c.tc : Thread Cert.SbKernelIdeal.nD Cert.SbKernelIdeal.τ).loc Cert.SbKernelIdeal.main_v35_0)) (v1 : (c : Dev Cert.SbKernelIdeal.nD) → Buf (Elt Ideal) ((c.tc : Thread Cert.SbKernelIdeal.nD Cert.SbKernelIdeal.τ).loc Cert.SbKernelIdeal.main_v35_1)) (v2 : (c : Dev Cert.SbKernelIdeal.nD) → Buf (Elt Ideal) ((c.tc : Thread Cert.SbKernelIdeal.nD Cert.SbKernelIdeal.τ).loc Cert.SbKernelIdeal.main_v35_2)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v35_0) = v0 c
          ∧ r.2.mem ((c.tc : Thread Cert.SbKernelIdeal.nD Cert.SbKernelIdeal.τ).loc Cert.SbKernelIdeal.main_v35_1) = v1 c
          ∧ r.2.mem ((c.tc : Thread Cert.SbKernelIdeal.nD Cert.SbKernelIdeal.τ).loc Cert.SbKernelIdeal.main_v35_2) = v2 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v65) = v0 c
          ∧ r.2.mem ((c.tc : Thread Cert.SbReferenceIdeal.nD Cert.SbReferenceIdeal.τ).loc Cert.SbReferenceIdeal.main_v67) = v1 c
          ∧ r.2.mem ((c.tc : Thread Cert.SbReferenceIdeal.nD Cert.SbReferenceIdeal.τ).loc Cert.SbReferenceIdeal.main_v69) = v2 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1))

def preserves_ConvKernel_ConvKernelIdeal : Prop :=
  True

def algebraic_ConvKernelIdeal_ConvReferenceIdeal_pre_conv_in [hConvKernelIdeal : Cert.ConvKernelIdeal.Facts] [hConvReferenceIdeal : Cert.ConvReferenceIdeal.Facts] [hPre_conv_in : Cert.Pre_conv_in.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal_conv_in m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)
      ∧ m' ((c.tc : Thread Cert.ConvReferenceIdeal.nD Cert.ConvReferenceIdeal.τ).loc Cert.ConvReferenceIdeal.main_arg4) = m ((c.tc : Thread Cert.ConvKernelIdeal.nD Cert.ConvKernelIdeal.τ).loc Cert.ConvKernelIdeal.main_arg4)) →
    ∃ (v0 : (c : Dev Cert.ConvKernelIdeal.nD) → Buf (Elt Ideal) ((c.tc : Thread Cert.ConvKernelIdeal.nD Cert.ConvKernelIdeal.τ).loc Cert.ConvKernelIdeal.main_v3_0)) (v1 : (c : Dev Cert.ConvKernelIdeal.nD) → Buf (Elt Ideal) ((c.tc : Thread Cert.ConvKernelIdeal.nD Cert.ConvKernelIdeal.τ).loc Cert.ConvKernelIdeal.main_v3_1)) (v2 : (c : Dev Cert.ConvKernelIdeal.nD) → Buf (Elt Ideal) ((c.tc : Thread Cert.ConvKernelIdeal.nD Cert.ConvKernelIdeal.τ).loc Cert.ConvKernelIdeal.main_v3_2)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v3_0) = v0 c
          ∧ r.2.mem ((c.tc : Thread Cert.ConvKernelIdeal.nD Cert.ConvKernelIdeal.τ).loc Cert.ConvKernelIdeal.main_v3_1) = v1 c
          ∧ r.2.mem ((c.tc : Thread Cert.ConvKernelIdeal.nD Cert.ConvKernelIdeal.τ).loc Cert.ConvKernelIdeal.main_v3_2) = v2 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
          ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v99) = v0 c
          ∧ r.2.mem ((c.tc : Thread Cert.ConvReferenceIdeal.nD Cert.ConvReferenceIdeal.τ).loc Cert.ConvReferenceIdeal.main_v100) = v1 c
          ∧ r.2.mem ((c.tc : Thread Cert.ConvReferenceIdeal.nD Cert.ConvReferenceIdeal.τ).loc Cert.ConvReferenceIdeal.main_v96) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4))

def preserves_FwdKernel_FwdKernelIdeal : Prop :=
  True

def algebraic_FwdKernelIdeal_FwdReferenceIdeal_pre_fwd_in [hFwdKernelIdeal : Cert.FwdKernelIdeal.Facts] [hFwdReferenceIdeal : Cert.FwdReferenceIdeal.Facts] [hPre_fwd_in : Cert.Pre_fwd_in.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal_fwd_in m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)) →
    ∃ (v0 : (c : Dev Cert.FwdKernelIdeal.nD) → Buf (Elt Ideal) ((c.tc : Thread Cert.FwdKernelIdeal.nD Cert.FwdKernelIdeal.τ).loc Cert.FwdKernelIdeal.main_v2_0)) (v1 : (c : Dev Cert.FwdKernelIdeal.nD) → Buf (Elt Ideal) ((c.tc : Thread Cert.FwdKernelIdeal.nD Cert.FwdKernelIdeal.τ).loc Cert.FwdKernelIdeal.main_v2_1)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v2_0) = v0 c
          ∧ r.2.mem ((c.tc : Thread Cert.FwdKernelIdeal.nD Cert.FwdKernelIdeal.τ).loc Cert.FwdKernelIdeal.main_v2_1) = v1 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v52) = v0 c
          ∧ r.2.mem ((c.tc : Thread Cert.FwdReferenceIdeal.nD Cert.FwdReferenceIdeal.τ).loc Cert.FwdReferenceIdeal.main_v56) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0))

def preserves_PrepKernel_PrepKernelIdeal : Prop :=
  True

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)) →
    ∃ (v0 : (c : Dev Cert.PrepKernelIdeal.nD) → Buf (Elt Ideal) ((c.tc : Thread Cert.PrepKernelIdeal.nD Cert.PrepKernelIdeal.τ).loc Cert.PrepKernelIdeal.main_v3)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v3) = v0 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v52) = v0 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v6_0)) (v1 : (c : Dev Cert.ProjKernelIdeal.nD) → Buf (Elt Ideal) ((c.tc : Thread Cert.ProjKernelIdeal.nD Cert.ProjKernelIdeal.τ).loc Cert.ProjKernelIdeal.main_v6_1)) (v2 : (c : Dev Cert.ProjKernelIdeal.nD) → Buf (Elt Ideal) ((c.tc : Thread Cert.ProjKernelIdeal.nD Cert.ProjKernelIdeal.τ).loc Cert.ProjKernelIdeal.main_v6_2)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v6_0) = v0 c
          ∧ r.2.mem ((c.tc : Thread Cert.ProjKernelIdeal.nD Cert.ProjKernelIdeal.τ).loc Cert.ProjKernelIdeal.main_v6_1) = v1 c
          ∧ r.2.mem ((c.tc : Thread Cert.ProjKernelIdeal.nD Cert.ProjKernelIdeal.τ).loc Cert.ProjKernelIdeal.main_v6_2) = v2 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v20) = v0 c
          ∧ r.2.mem ((c.tc : Thread Cert.ProjReferenceIdeal.nD Cert.ProjReferenceIdeal.τ).loc Cert.ProjReferenceIdeal.main_v18) = v1 c
          ∧ r.2.mem ((c.tc : Thread Cert.ProjReferenceIdeal.nD Cert.ProjReferenceIdeal.τ).loc Cert.ProjReferenceIdeal.main_v22) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def Claim : Prop :=
  ∃ (hInKernel : Cert.InKernel.Facts) (hInKernelIdeal : Cert.InKernelIdeal.Facts) (hInReferenceIdeal : Cert.InReferenceIdeal.Facts) (hSbKernel : Cert.SbKernel.Facts) (hSbKernelIdeal : Cert.SbKernelIdeal.Facts) (hSbReferenceIdeal : Cert.SbReferenceIdeal.Facts) (hConvKernel : Cert.ConvKernel.Facts) (hConvKernelIdeal : Cert.ConvKernelIdeal.Facts) (hConvReferenceIdeal : Cert.ConvReferenceIdeal.Facts) (hFwdKernel : Cert.FwdKernel.Facts) (hFwdKernelIdeal : Cert.FwdKernelIdeal.Facts) (hFwdReferenceIdeal : Cert.FwdReferenceIdeal.Facts) (hPrepKernel : Cert.PrepKernel.Facts) (hPrepKernelIdeal : Cert.PrepKernelIdeal.Facts) (hPrepReferenceIdeal : Cert.PrepReferenceIdeal.Facts) (hProjKernel : Cert.ProjKernel.Facts) (hProjKernelIdeal : Cert.ProjKernelIdeal.Facts) (hProjReferenceIdeal : Cert.ProjReferenceIdeal.Facts) (hPre_finite_in : Cert.Pre_finite_in.Facts) (hPre_sb_in : Cert.Pre_sb_in.Facts) (hPre_conv_in : Cert.Pre_conv_in.Facts) (hPre_fwd_in : Cert.Pre_fwd_in.Facts),
    quiescent_InKernel (hInKernel := hInKernel)
    ∧ quiescent_InKernelIdeal (hInKernelIdeal := hInKernelIdeal)
    ∧ quiescent_InKernelIdeal_pre_finite_in (hInKernelIdeal := hInKernelIdeal) (hPre_finite_in := hPre_finite_in)
    ∧ quiescent_InReferenceIdeal (hInReferenceIdeal := hInReferenceIdeal)
    ∧ quiescent_InReferenceIdeal_pre_finite_in (hInReferenceIdeal := hInReferenceIdeal) (hPre_finite_in := hPre_finite_in)
    ∧ quiescent_SbKernel (hSbKernel := hSbKernel)
    ∧ quiescent_SbKernelIdeal (hSbKernelIdeal := hSbKernelIdeal)
    ∧ quiescent_SbKernelIdeal_pre_sb_in (hSbKernelIdeal := hSbKernelIdeal) (hPre_sb_in := hPre_sb_in)
    ∧ quiescent_SbReferenceIdeal (hSbReferenceIdeal := hSbReferenceIdeal)
    ∧ quiescent_SbReferenceIdeal_pre_sb_in (hSbReferenceIdeal := hSbReferenceIdeal) (hPre_sb_in := hPre_sb_in)
    ∧ quiescent_ConvKernel (hConvKernel := hConvKernel)
    ∧ quiescent_ConvKernelIdeal (hConvKernelIdeal := hConvKernelIdeal)
    ∧ quiescent_ConvKernelIdeal_pre_conv_in (hConvKernelIdeal := hConvKernelIdeal) (hPre_conv_in := hPre_conv_in)
    ∧ quiescent_ConvReferenceIdeal (hConvReferenceIdeal := hConvReferenceIdeal)
    ∧ quiescent_ConvReferenceIdeal_pre_conv_in (hConvReferenceIdeal := hConvReferenceIdeal) (hPre_conv_in := hPre_conv_in)
    ∧ quiescent_FwdKernel (hFwdKernel := hFwdKernel)
    ∧ quiescent_FwdKernelIdeal (hFwdKernelIdeal := hFwdKernelIdeal)
    ∧ quiescent_FwdKernelIdeal_pre_fwd_in (hFwdKernelIdeal := hFwdKernelIdeal) (hPre_fwd_in := hPre_fwd_in)
    ∧ quiescent_FwdReferenceIdeal (hFwdReferenceIdeal := hFwdReferenceIdeal)
    ∧ quiescent_FwdReferenceIdeal_pre_fwd_in (hFwdReferenceIdeal := hFwdReferenceIdeal) (hPre_fwd_in := hPre_fwd_in)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ preserves_InKernel_InKernelIdeal
    ∧ algebraic_InKernelIdeal_InReferenceIdeal_pre_finite_in (hInKernelIdeal := hInKernelIdeal) (hInReferenceIdeal := hInReferenceIdeal) (hPre_finite_in := hPre_finite_in)
    ∧ preserves_SbKernel_SbKernelIdeal
    ∧ algebraic_SbKernelIdeal_SbReferenceIdeal_pre_sb_in (hSbKernelIdeal := hSbKernelIdeal) (hSbReferenceIdeal := hSbReferenceIdeal) (hPre_sb_in := hPre_sb_in)
    ∧ preserves_ConvKernel_ConvKernelIdeal
    ∧ algebraic_ConvKernelIdeal_ConvReferenceIdeal_pre_conv_in (hConvKernelIdeal := hConvKernelIdeal) (hConvReferenceIdeal := hConvReferenceIdeal) (hPre_conv_in := hPre_conv_in)
    ∧ preserves_FwdKernel_FwdKernelIdeal
    ∧ algebraic_FwdKernelIdeal_FwdReferenceIdeal_pre_fwd_in (hFwdKernelIdeal := hFwdKernelIdeal) (hFwdReferenceIdeal := hFwdReferenceIdeal) (hPre_fwd_in := hPre_fwd_in)
    ∧ preserves_PrepKernel_PrepKernelIdeal
    ∧ algebraic_PrepKernelIdeal_PrepReferenceIdeal (hPrepKernelIdeal := hPrepKernelIdeal) (hPrepReferenceIdeal := hPrepReferenceIdeal)
    ∧ preserves_ProjKernel_ProjKernelIdeal
    ∧ algebraic_ProjKernelIdeal_ProjReferenceIdeal (hProjKernelIdeal := hProjKernelIdeal) (hProjReferenceIdeal := hProjReferenceIdeal)
-- ==== Pre_conv_in.lean ====
abbrev S1x4096x4616 : Shape := ⟨3, ![1, 4096, 4616]⟩
abbrev S1x4x1024 : Shape := ⟨3, ![1, 4, 1024]⟩
abbrev S1x1024 : Shape := ⟨2, ![1, 1024]⟩
abbrev S4096x512 : Shape := ⟨2, ![4096, 512]⟩
abbrev S1x4096x1024 : Shape := ⟨3, ![1, 4096, 1024]⟩
abbrev S_ : Shape := ⟨0, ![]⟩

class Facts : Prop where
  slices_S1x4096x4616_S1x4096x1024_0_0_2048 : S1x4096x4616.Slices ![0, 0, 2048] S1x4096x1024
  bcast_S_S1x4096x1024 : S_.BroadcastsInDim S1x4096x1024 (![] : Fin 0 → Fin S1x4096x1024.rank)
  bcast_S_S1x4x1024 : S_.BroadcastsInDim S1x4x1024 (![] : Fin 0 → Fin S1x4x1024.rank)
  bcast_S_S1x1024 : S_.BroadcastsInDim S1x1024 (![] : Fin 0 → Fin S1x1024.rank)
  bitsLt_bf16_f32 : FTy.bits .bf16 < FTy.bits .f32
  bcast_S_S4096x512 : S_.BroadcastsInDim S4096x512 (![] : Fin 0 → Fin S4096x512.rank)

variable [Facts]

def fn {F : FTy → Type} [FloatOps F] (main_arg0 : FVec F S1x4096x4616 .f32) (main_arg1 : FVec F S1x4x1024 .f32) (main_arg2 : FVec F S1x1024 .f32) (main_arg3 : FVec F S4096x512 .bf16) (main_arg4 : FVec F S4096x512 .bf16) : IVec S1x4096x1024 1 × IVec S1x4x1024 1 × IVec S1x1024 1 × IVec S4096x512 1 × IVec S4096x512 1 :=
  let main_v0 : FVec F S1x4096x1024 .f32 := (extractStridedSlice S1x4096x1024 ![0, 0, 2048] · slices_S1x4096x4616_S1x4096x1024_0_0_2048) main_arg0
  let main_v1 : FVec F S1x4096x1024 .f32 := Host.absf main_v0
  let main_cst : FVec F S_ .f32 := constant S_ .f32 0x7F800000#32
  let main_v2 : FVec F S1x4096x1024 .f32 := broadcastInDim S1x4096x1024 ![] bcast_S_S1x4096x1024 main_cst
  let main_v3 : IVec S1x4096x1024 1 := cmpf .olt main_v1 main_v2
  let main_v4 : FVec F S1x4x1024 .f32 := Host.absf main_arg1
  let main_cst_0 : FVec F S_ .f32 := constant S_ .f32 0x7F800000#32
  let main_v5 : FVec F S1x4x1024 .f32 := broadcastInDim S1x4x1024 ![] bcast_S_S1x4x1024 main_cst_0
  let main_v6 : IVec S1x4x1024 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S4096x512 .f32 := (extf .f32 · bitsLt_bf16_f32) main_arg3
  let main_v11 : FVec F S4096x512 .f32 := Host.absf main_v10
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  let main_v14 : FVec F S4096x512 .f32 := (extf .f32 · bitsLt_bf16_f32) main_arg4
  let main_v15 : FVec F S4096x512 .f32 := Host.absf main_v14
  let main_cst_3 : FVec F S_ .f32 := constant S_ .f32 0x7F800000#32
  let main_v16 : FVec F S4096x512 .f32 := broadcastInDim S4096x512 ![] bcast_S_S4096x512 main_cst_3
  let main_v17 : IVec S4096x512 1 := cmpf .olt main_v15 main_v16
  (main_v3, main_v6, main_v9, main_v13, main_v17)
-- ==== Pre_finite_in.lean ====
abbrev S1x4096x1024 : Shape := ⟨3, ![1, 4096, 1024]⟩
abbrev S1x1024 : Shape := ⟨2, ![1, 1024]⟩
abbrev S1x1024x4616 : Shape := ⟨3, ![1, 1024, 4616]⟩
abbrev S1x4096x4616 : Shape := ⟨3, ![1, 4096, 4616]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x4616 : S_.BroadcastsInDim S1x1024x4616 (![] : Fin 0 → Fin S1x1024x4616.rank)
  bcast_S_S1x4096x4616 : S_.BroadcastsInDim S1x4096x4616 (![] : Fin 0 → Fin S1x4096x4616.rank)

variable [Facts]

def fn {F : FTy → Type} [FloatOps F] (main_arg0 : FVec F S1x4096x1024 .f32) (main_arg1 : FVec F S1x1024 .f32) (main_arg2 : FVec F S1x1024x4616 .f32) (main_arg3 : FVec F S1x4096x4616 .f32) (main_arg4 : FVec F S1x4096x1024 .f32) : IVec S1x4096x1024 1 × IVec S1x1024 1 × IVec S1x1024x4616 1 × IVec S1x4096x4616 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4616 .f32 := Host.absf main_arg2
  let main_cst_1 : FVec F S_ .f32 := constant S_ .f32 0x7F800000#32
  let main_v7 : FVec F S1x1024x4616 .f32 := broadcastInDim S1x1024x4616 ![] bcast_S_S1x1024x4616 main_cst_1
  let main_v8 : IVec S1x1024x4616 1 := cmpf .olt main_v6 main_v7
  let main_v9 : FVec F S1x4096x4616 .f32 := Host.absf main_arg3
  let main_cst_2 : FVec F S_ .f32 := constant S_ .f32 0x7F800000#32
  let main_v10 : FVec F S1x4096x4616 .f32 := broadcastInDim S1x4096x4616 ![] bcast_S_S1x4096x4616 main_cst_2
  let main_v11 : IVec S1x4096x4616 1 := cmpf .olt main_v9 main_v10
  (main_v2, main_v5, main_v8, main_v11)
-- ==== Pre_fwd_in.lean ====
abbrev S1x4096x4616 : Shape := ⟨3, ![1, 4096, 4616]⟩
abbrev S1x4096x512 : Shape := ⟨3, ![1, 4096, 512]⟩
abbrev S1x4096x4 : Shape := ⟨3, ![1, 4096, 4]⟩
abbrev S1x4096x8x64 : Shape := ⟨4, ![1, 4096, 8, 64]⟩
abbrev S1x8x4096x64 : Shape := ⟨4, ![1, 8, 4096, 64]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x1536 : Shape := ⟨3, ![1, 4096, 1536]⟩

class Facts : Prop where
  slices_S1x4096x4616_S1x4096x512_0_0_0 : S1x4096x4616.Slices ![0, 0, 0] S1x4096x512
  slices_S1x4096x4616_S1x4096x512_0_0_512 : S1x4096x4616.Slices ![0, 0, 512] S1x4096x512
  slices_S1x4096x4616_S1x4096x512_0_0_1024 : S1x4096x4616.Slices ![0, 0, 1024] S1x4096x512
  slices_S1x4096x4616_S1x4096x512_0_0_1536 : S1x4096x4616.Slices ![0, 0, 1536] S1x4096x512
  slices_S1x4096x4616_S1x4096x512_0_0_2048 : S1x4096x4616.Slices ![0, 0, 2048] S1x4096x512
  slices_S1x4096x4616_S1x4096x512_0_0_2560 : S1x4096x4616.Slices ![0, 0, 2560] S1x4096x512
  slices_S1x4096x4616_S1x4096x512_0_0_3072 : S1x4096x4616.Slices ![0, 0, 3072] S1x4096x512
  slices_S1x4096x4616_S1x4096x512_0_0_3584 : S1x4096x4616.Slices ![0, 0, 3584] S1x4096x512
  slices_S1x4096x4616_S1x4096x512_0_0_4096 : S1x4096x4616.Slices ![0, 0, 4096] S1x4096x512
  slices_S1x4096x4616_S1x4096x4_0_0_4608 : S1x4096x4616.Slices ![0, 0, 4608] S1x4096x4
  slices_S1x4096x4616_S1x4096x4_0_0_4612 : S1x4096x4616.Slices ![0, 0, 4612] S1x4096x4
  shapeCasts_S1x4096x512_S1x4096x8x64 : S1x4096x512.ShapeCasts S1x4096x8x64
  transposes_S1x4096x8x64_S1x8x4096x64_0_2_1_3 : S1x4096x8x64.Transposes [0, 2, 1, 3] S1x8x4096x64
  bcast_S_S1x8x4096x4096 : S_.BroadcastsInDim S1x8x4096x4096 (![] : Fin 0 → Fin S1x8x4096x4096.rank)
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  slices_S1x4096x4616_S1x4096x1536_0_0_0 : S1x4096x4616.Slices ![0, 0, 0] S1x4096x1536
  bcast_S_S1x4096x1536 : S_.BroadcastsInDim S1x4096x1536 (![] : Fin 0 → Fin S1x4096x1536.rank)
  bcast_S4096x4096_S1x8x4096x4096_2_3 : S4096x4096.BroadcastsInDim S1x8x4096x4096 (![2, 3] : Fin 2 → Fin S1x8x4096x4096.rank)
  dot_S1x8x4096x64_S1x8x4096x64_S1x8x4096x4096_3_3_2_2_01_01_wf : DotDims.WF S1x8x4096x64 S1x8x4096x64 S1x8x4096x4096 [3] [3] [2] [2] [0, 1] [0, 1]

variable [Facts]

def dot_S1x8x4096x64_S1x8x4096x64_S1x8x4096x4096_3_3_2_2_01_01 : DotDims S1x8x4096x64 S1x8x4096x64 S1x8x4096x4096 where
  lhsContracting := [3]
  rhsContracting := [3]
  lhsNonContracting := [2]
  rhsNonContracting := [2]
  lhsBatch := [0, 1]
  rhsBatch := [0, 1]
  wf := dot_S1x8x4096x64_S1x8x4096x64_S1x8x4096x4096_3_3_2_2_01_01_wf
def fn_where {F : FTy → Type} [FloatOps F] (arg0 : IVec S4096x4096 1) (arg1 : FVec F S1x8x4096x4096 .f32) (arg2 : FVec F S_ .f32) : FVec F S1x8x4096x4096 .f32 :=
  let v0 : FVec F S_ .f32 := id arg2
  let v1 : IVec S1x8x4096x4096 1 := broadcastInDim S1x8x4096x4096 ![2, 3] bcast_S4096x4096_S1x8x4096x4096_2_3 arg0
  let v2 : FVec F S1x8x4096x4096 .f32 := broadcastInDim S1x8x4096x4096 ![] bcast_S_S1x8x4096x4096 v0
  let v3 : FVec F S1x8x4096x4096 .f32 := select v1 arg1 v2
  v3

def fn_part1 {F : FTy → Type} [FloatOps F] (main_arg0 : FVec F S1x4096x4616 .f32) (main_v17 : FVec F S1x8x4096x4096 .f32) (main_v21 : IVec S4096x1 32) (main_v22 : IVec S4096x4096 32) : IVec S1x4096x1536 1 × IVec S1x8x4096x4096 1 :=
  let main_v23 : IVec S4096x4096 32 := broadcastInDim S4096x4096 ![0, 1] bcast_S4096x1_S4096x4096_0_1 main_v21
  let main_v24 : IVec S4096x4096 1 := cmpi .slt main_v22 main_v23
  let main_v25 : FVec F S1x4096x1536 .f32 := (extractStridedSlice S1x4096x1536 ![0, 0, 0] · slices_S1x4096x4616_S1x4096x1536_0_0_0) main_arg0
  let main_v26 : FVec F S1x4096x1536 .f32 := Host.absf main_v25
  let main_cst_0 : FVec F S_ .f32 := constant S_ .f32 0x7F800000#32
  let main_v27 : FVec F S1x4096x1536 .f32 := broadcastInDim S1x4096x1536 ![] bcast_S_S1x4096x1536 main_cst_0
  let main_v28 : IVec S1x4096x1536 1 := cmpf .olt main_v26 main_v27
  let main_cst_1 : FVec F S_ .f32 := constant S_ .f32 0x00000000#32
  let main_v29 : FVec F S1x8x4096x4096 .f32 := fn_where (F := F) main_v24 main_v17 main_cst_1
  let main_cst_2 : FVec F S_ .f32 := constant S_ .f32 0xC2A00000#32
  let main_v30 : FVec F S1x8x4096x4096 .f32 := broadcastInDim S1x8x4096x4096 ![] bcast_S_S1x8x4096x4096 main_cst_2
  let main_v31 : IVec S1x8x4096x4096 1 := cmpf .oge main_v29 main_v30
  (main_v28, main_v31)

def fn {F : FTy → Type} [FloatOps F] (main_arg0 : FVec F S1x4096x4616 .f32) : IVec S1x4096x1536 1 × IVec S1x8x4096x4096 1 :=
  let main_v0 : FVec F S1x4096x512 .f32 := (extractStridedSlice S1x4096x512 ![0, 0, 0] · slices_S1x4096x4616_S1x4096x512_0_0_0) main_arg0
  let main_v1 : FVec F S1x4096x512 .f32 := (extractStridedSlice S1x4096x512 ![0, 0, 512] · slices_S1x4096x4616_S1x4096x512_0_0_512) main_arg0
  let main_v2 : FVec F S1x4096x512 .f32 := (extractStridedSlice S1x4096x512 ![0, 0, 1024] · slices_S1x4096x4616_S1x4096x512_0_0_1024) main_arg0
  let main_v3 : FVec F S1x4096x512 .f32 := (extractStridedSlice S1x4096x512 ![0, 0, 1536] · slices_S1x4096x4616_S1x4096x512_0_0_1536) main_arg0
  let main_v4 : FVec F S1x4096x512 .f32 := (extractStridedSlice S1x4096x512 ![0, 0, 2048] · slices_S1x4096x4616_S1x4096x512_0_0_2048) main_arg0
  let main_v5 : FVec F S1x4096x512 .f32 := (extractStridedSlice S1x4096x512 ![0, 0, 2560] · slices_S1x4096x4616_S1x4096x512_0_0_2560) main_arg0
  let main_v6 : FVec F S1x4096x512 .f32 := (extractStridedSlice S1x4096x512 ![0, 0, 3072] · slices_S1x4096x4616_S1x4096x512_0_0_3072) main_arg0
  let main_v7 : FVec F S1x4096x512 .f32 := (extractStridedSlice S1x4096x512 ![0, 0, 3584] · slices_S1x4096x4616_S1x4096x512_0_0_3584) main_arg0
  let main_v8 : FVec F S1x4096x512 .f32 := (extractStridedSlice S1x4096x512 ![0, 0, 4096] · slices_S1x4096x4616_S1x4096x512_0_0_4096) main_arg0
  let main_v9 : FVec F S1x4096x4 .f32 := (extractStridedSlice S1x4096x4 ![0, 0, 4608] · slices_S1x4096x4616_S1x4096x4_0_0_4608) main_arg0
  let main_v10 : FVec F S1x4096x4 .f32 := (extractStridedSlice S1x4096x4 ![0, 0, 4612] · slices_S1x4096x4616_S1x4096x4_0_0_4612) main_arg0
  let main_v11 : FVec F S1x4096x8x64 .f32 := shapeCast S1x4096x8x64 main_v0 shapeCasts_S1x4096x512_S1x4096x8x64
  let main_v12 : FVec F S1x8x4096x64 .f32 := (transpose S1x8x4096x64 [0, 2, 1, 3] · transposes_S1x4096x8x64_S1x8x4096x64_0_2_1_3) main_v11
  let main_v13 : FVec F S1x4096x8x64 .f32 := shapeCast S1x4096x8x64 main_v1 shapeCasts_S1x4096x512_S1x4096x8x64
  let main_v14 : FVec F S1x8x4096x64 .f32 := (transpose S1x8x4096x64 [0, 2, 1, 3] · transposes_S1x4096x8x64_S1x8x4096x64_0_2_1_3) main_v13
  let main_v15 : FVec F S1x8x4096x4096 .f32 := (fun l r => Host.dotGeneral dot_S1x8x4096x64_S1x8x4096x64_S1x8x4096x4096_3_3_2_2_01_01 none l r) main_v12 main_v14
  let main_cst : FVec F S_ .f32 := constant S_ .f32 0x3E000000#32
  let main_v16 : FVec F S1x8x4096x4096 .f32 := broadcastInDim S1x8x4096x4096 ![] bcast_S_S1x8x4096x4096 main_cst
  let main_v17 : FVec F S1x8x4096x4096 .f32 := mulf main_v15 main_v16
  let main_v18 : IVec S4096 32 := iotaInDim S4096 32 0
  let main_v19 : IVec S1x4096 32 := broadcastInDim S1x4096 ![1] bcast_S4096_S1x4096_1 main_v18
  let main_v20 : IVec S4096 32 := iotaInDim S4096 32 0
  let main_v21 : IVec S4096x1 32 := broadcastInDim S4096x1 ![0] bcast_S4096_S4096x1_0 main_v20
  let main_v22 : IVec S4096x4096 32 := broadcastInDim S4096x4096 ![0, 1] bcast_S1x4096_S4096x4096_0_1 main_v19
  fn_part1 (F := F) main_arg0 main_v17 main_v21 main_v22
-- ==== Pre_sb_in.lean ====
abbrev S1x4096x4616 : Shape := ⟨3, ![1, 4096, 4616]⟩
abbrev S4096x512 : Shape := ⟨2, ![4096, 512]⟩
abbrev S1x4096x512 : Shape := ⟨3, ![1, 4096, 512]⟩
abbrev S1x4096x4 : Shape := ⟨3, ![1, 4096, 4]⟩
abbrev S1x4096x8x64 : Shape := ⟨4, ![1, 4096, 8, 64]⟩
abbrev S1x8x4096x64 : Shape := ⟨4, ![1, 8, 4096, 64]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x1536 : Shape := ⟨3, ![1, 4096, 1536]⟩

class Facts : Prop where
  slices_S1x4096x4616_S1x4096x512_0_0_0 : S1x4096x4616.Slices ![0, 0, 0] S1x4096x512
  slices_S1x4096x4616_S1x4096x512_0_0_512 : S1x4096x4616.Slices ![0, 0, 512] S1x4096x512
  slices_S1x4096x4616_S1x4096x512_0_0_1024 : S1x4096x4616.Slices ![0, 0, 1024] S1x4096x512
  slices_S1x4096x4616_S1x4096x512_0_0_1536 : S1x4096x4616.Slices ![0, 0, 1536] S1x4096x512
  slices_S1x4096x4616_S1x4096x512_0_0_2048 : S1x4096x4616.Slices ![0, 0, 2048] S1x4096x512
  slices_S1x4096x4616_S1x4096x512_0_0_2560 : S1x4096x4616.Slices ![0, 0, 2560] S1x4096x512
  slices_S1x4096x4616_S1x4096x512_0_0_3072 : S1x4096x4616.Slices ![0, 0, 3072] S1x4096x512
  slices_S1x4096x4616_S1x4096x512_0_0_3584 : S1x4096x4616.Slices ![0, 0, 3584] S1x4096x512
  slices_S1x4096x4616_S1x4096x512_0_0_4096 : S1x4096x4616.Slices ![0, 0, 4096] S1x4096x512
  slices_S1x4096x4616_S1x4096x4_0_0_4608 : S1x4096x4616.Slices ![0, 0, 4608] S1x4096x4
  slices_S1x4096x4616_S1x4096x4_0_0_4612 : S1x4096x4616.Slices ![0, 0, 4612] S1x4096x4
  shapeCasts_S1x4096x512_S1x4096x8x64 : S1x4096x512.ShapeCasts S1x4096x8x64
  transposes_S1x4096x8x64_S1x8x4096x64_0_2_1_3 : S1x4096x8x64.Transposes [0, 2, 1, 3] S1x8x4096x64
  bcast_S_S1x8x4096x4096 : S_.BroadcastsInDim S1x8x4096x4096 (![] : Fin 0 → Fin S1x8x4096x4096.rank)
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  slices_S1x4096x4616_S1x4096x1536_0_0_0 : S1x4096x4616.Slices ![0, 0, 0] S1x4096x1536
  bcast_S_S1x4096x1536 : S_.BroadcastsInDim S1x4096x1536 (![] : Fin 0 → Fin S1x4096x1536.rank)
  bcast_S_S4096x512 : S_.BroadcastsInDim S4096x512 (![] : Fin 0 → Fin S4096x512.rank)
  bcast_S4096x4096_S1x8x4096x4096_2_3 : S4096x4096.BroadcastsInDim S1x8x4096x4096 (![2, 3] : Fin 2 → Fin S1x8x4096x4096.rank)
  dot_S1x8x4096x64_S1x8x4096x64_S1x8x4096x4096_3_3_2_2_01_01_wf : DotDims.WF S1x8x4096x64 S1x8x4096x64 S1x8x4096x4096 [3] [3] [2] [2] [0, 1] [0, 1]

variable [Facts]

def dot_S1x8x4096x64_S1x8x4096x64_S1x8x4096x4096_3_3_2_2_01_01 : DotDims S1x8x4096x64 S1x8x4096x64 S1x8x4096x4096 where
  lhsContracting := [3]
  rhsContracting := [3]
  lhsNonContracting := [2]
  rhsNonContracting := [2]
  lhsBatch := [0, 1]
  rhsBatch := [0, 1]
  wf := dot_S1x8x4096x64_S1x8x4096x64_S1x8x4096x4096_3_3_2_2_01_01_wf
def fn_where {F : FTy → Type} [FloatOps F] (arg0 : IVec S4096x4096 1) (arg1 : FVec F S1x8x4096x4096 .f32) (arg2 : FVec F S_ .f32) : FVec F S1x8x4096x4096 .f32 :=
  let v0 : FVec F S_ .f32 := id arg2
  let v1 : IVec S1x8x4096x4096 1 := broadcastInDim S1x8x4096x4096 ![2, 3] bcast_S4096x4096_S1x8x4096x4096_2_3 arg0
  let v2 : FVec F S1x8x4096x4096 .f32 := broadcastInDim S1x8x4096x4096 ![] bcast_S_S1x8x4096x4096 v0
  let v3 : FVec F S1x8x4096x4096 .f32 := select v1 arg1 v2
  v3

def fn_part1 {F : FTy → Type} [FloatOps F] (main_arg0 : FVec F S1x4096x4616 .f32) (main_arg1 : FVec F S4096x512 .f32) (main_v17 : FVec F S1x8x4096x4096 .f32) (main_v21 : IVec S4096x1 32) (main_v22 : IVec S4096x4096 32) : IVec S1x4096x1536 1 × IVec S4096x512 1 × IVec S1x8x4096x4096 1 :=
  let main_v23 : IVec S4096x4096 32 := broadcastInDim S4096x4096 ![0, 1] bcast_S4096x1_S4096x4096_0_1 main_v21
  let main_v24 : IVec S4096x4096 1 := cmpi .slt main_v22 main_v23
  let main_v25 : FVec F S1x4096x1536 .f32 := (extractStridedSlice S1x4096x1536 ![0, 0, 0] · slices_S1x4096x4616_S1x4096x1536_0_0_0) main_arg0
  let main_v26 : FVec F S1x4096x1536 .f32 := Host.absf main_v25
  let main_cst_0 : FVec F S_ .f32 := constant S_ .f32 0x7F800000#32
  let main_v27 : FVec F S1x4096x1536 .f32 := broadcastInDim S1x4096x1536 ![] bcast_S_S1x4096x1536 main_cst_0
  let main_v28 : IVec S1x4096x1536 1 := cmpf .olt main_v26 main_v27
  let main_v29 : FVec F S4096x512 .f32 := Host.absf main_arg1
  let main_cst_1 : FVec F S_ .f32 := constant S_ .f32 0x7F800000#32
  let main_v30 : FVec F S4096x512 .f32 := broadcastInDim S4096x512 ![] bcast_S_S4096x512 main_cst_1
  let main_v31 : IVec S4096x512 1 := cmpf .olt main_v29 main_v30
  let main_cst_2 : FVec F S_ .f32 := constant S_ .f32 0x00000000#32
  let main_v32 : FVec F S1x8x4096x4096 .f32 := fn_where (F := F) main_v24 main_v17 main_cst_2
  let main_cst_3 : FVec F S_ .f32 := constant S_ .f32 0xC2A00000#32
  let main_v33 : FVec F S1x8x4096x4096 .f32 := broadcastInDim S1x8x4096x4096 ![] bcast_S_S1x8x4096x4096 main_cst_3
  let main_v34 : IVec S1x8x4096x4096 1 := cmpf .oge main_v32 main_v33
  (main_v28, main_v31, main_v34)

def fn {F : FTy → Type} [FloatOps F] (main_arg0 : FVec F S1x4096x4616 .f32) (main_arg1 : FVec F S4096x512 .f32) : IVec S1x4096x1536 1 × IVec S4096x512 1 × IVec S1x8x4096x4096 1 :=
  let main_v0 : FVec F S1x4096x512 .f32 := (extractStridedSlice S1x4096x512 ![0, 0, 0] · slices_S1x4096x4616_S1x4096x512_0_0_0) main_arg0
  let main_v1 : FVec F S1x4096x512 .f32 := (extractStridedSlice S1x4096x512 ![0, 0, 512] · slices_S1x4096x4616_S1x4096x512_0_0_512) main_arg0
  let main_v2 : FVec F S1x4096x512 .f32 := (extractStridedSlice S1x4096x512 ![0, 0, 1024] · slices_S1x4096x4616_S1x4096x512_0_0_1024) main_arg0
  let main_v3 : FVec F S1x4096x512 .f32 := (extractStridedSlice S1x4096x512 ![0, 0, 1536] · slices_S1x4096x4616_S1x4096x512_0_0_1536) main_arg0
  let main_v4 : FVec F S1x4096x512 .f32 := (extractStridedSlice S1x4096x512 ![0, 0, 2048] · slices_S1x4096x4616_S1x4096x512_0_0_2048) main_arg0
  let main_v5 : FVec F S1x4096x512 .f32 := (extractStridedSlice S1x4096x512 ![0, 0, 2560] · slices_S1x4096x4616_S1x4096x512_0_0_2560) main_arg0
  let main_v6 : FVec F S1x4096x512 .f32 := (extractStridedSlice S1x4096x512 ![0, 0, 3072] · slices_S1x4096x4616_S1x4096x512_0_0_3072) main_arg0
  let main_v7 : FVec F S1x4096x512 .f32 := (extractStridedSlice S1x4096x512 ![0, 0, 3584] · slices_S1x4096x4616_S1x4096x512_0_0_3584) main_arg0
  let main_v8 : FVec F S1x4096x512 .f32 := (extractStridedSlice S1x4096x512 ![0, 0, 4096] · slices_S1x4096x4616_S1x4096x512_0_0_4096) main_arg0
  let main_v9 : FVec F S1x4096x4 .f32 := (extractStridedSlice S1x4096x4 ![0, 0, 4608] · slices_S1x4096x4616_S1x4096x4_0_0_4608) main_arg0
  let main_v10 : FVec F S1x4096x4 .f32 := (extractStridedSlice S1x4096x4 ![0, 0, 4612] · slices_S1x4096x4616_S1x4096x4_0_0_4612) main_arg0
  let main_v11 : FVec F S1x4096x8x64 .f32 := shapeCast S1x4096x8x64 main_v0 shapeCasts_S1x4096x512_S1x4096x8x64
  let main_v12 : FVec F S1x8x4096x64 .f32 := (transpose S1x8x4096x64 [0, 2, 1, 3] · transposes_S1x4096x8x64_S1x8x4096x64_0_2_1_3) main_v11
  let main_v13 : FVec F S1x4096x8x64 .f32 := shapeCast S1x4096x8x64 main_v1 shapeCasts_S1x4096x512_S1x4096x8x64
  let main_v14 : FVec F S1x8x4096x64 .f32 := (transpose S1x8x4096x64 [0, 2, 1, 3] · transposes_S1x4096x8x64_S1x8x4096x64_0_2_1_3) main_v13
  let main_v15 : FVec F S1x8x4096x4096 .f32 := (fun l r => Host.dotGeneral dot_S1x8x4096x64_S1x8x4096x64_S1x8x4096x4096_3_3_2_2_01_01 none l r) main_v12 main_v14
  let main_cst : FVec F S_ .f32 := constant S_ .f32 0x3E000000#32
  let main_v16 : FVec F S1x8x4096x4096 .f32 := broadcastInDim S1x8x4096x4096 ![] bcast_S_S1x8x4096x4096 main_cst
  let main_v17 : FVec F S1x8x4096x4096 .f32 := mulf main_v15 main_v16
  let main_v18 : IVec S4096 32 := iotaInDim S4096 32 0
  let main_v19 : IVec S1x4096 32 := broadcastInDim S1x4096 ![1] bcast_S4096_S1x4096_1 main_v18
  let main_v20 : IVec S4096 32 := iotaInDim S4096 32 0
  let main_v21 : IVec S4096x1 32 := broadcastInDim S4096x1 ![0] bcast_S4096_S4096x1_0 main_v20
  let main_v22 : IVec S4096x4096 32 := broadcastInDim S4096x4096 ![0, 1] bcast_S1x4096_S4096x4096_0_1 main_v19
  fn_part1 (F := F) main_arg0 main_arg1 main_v17 main_v21 main_v22
-- ==== InKernel.lean ====
abbrev S1x4096x1024 : Shape := ⟨3, ![1, 4096, 1024]⟩
abbrev S1x1024 : Shape := ⟨2, ![1, 1024]⟩
abbrev S1x1024x4616 : Shape := ⟨3, ![1, 1024, 4616]⟩
abbrev S1x4096x4616 : Shape := ⟨3, ![1, 4096, 4616]⟩
abbrev S1024x4616 : Shape := ⟨2, ![1024, 4616]⟩
abbrev S4616x1024 : Shape := ⟨2, ![4616, 1024]⟩
abbrev S8x1024 : Shape := ⟨2, ![8, 1024]⟩
abbrev S_ : Shape := ⟨0, ![]⟩
abbrev S128x1024 : Shape := ⟨2, ![128, 1024]⟩
abbrev S1x4096x4608 : Shape := ⟨3, ![1, 4096, 4608]⟩
abbrev S4096x4608 : Shape := ⟨2, ![4096, 4608]⟩
abbrev S1x4096x8 : Shape := ⟨3, ![1, 4096, 8]⟩
abbrev S4096x8 : Shape := ⟨2, ![4096, 8]⟩
abbrev S4096x128 : Shape := ⟨2, ![4096, 128]⟩
abbrev S4096x1024 : Shape := ⟨2, ![4096, 1024]⟩
abbrev S1024x1152 : Shape := ⟨2, ![1024, 1152]⟩
abbrev S1024x128 : Shape := ⟨2, ![1024, 128]⟩
abbrev S1152x1024 : Shape := ⟨2, ![1152, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 25
  | .vmem => 16
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4616, .f32⟩
  | .hbm, ⟨3, _⟩ => ⟨S1x4096x4616, .f32⟩
  | .hbm, ⟨4, _⟩ => ⟨S1x4096x1024, .f32⟩
  | .hbm, ⟨5, _⟩ => ⟨S1024x4616, .f32⟩
  | .hbm, ⟨6, _⟩ => ⟨S4616x1024, .f32⟩
  | .hbm, ⟨7, _⟩ => ⟨S4616x1024, .bf16⟩
  | .hbm, ⟨8, _⟩ => ⟨S8x1024, .bf16⟩
  | .hbm, ⟨9, _⟩ => ⟨S_, .i32⟩
  | .hbm, ⟨10, _⟩ => ⟨S_, .bf16⟩
  | .hbm, ⟨11, _⟩ => ⟨S128x1024, .bf16⟩
  | .hbm, ⟨12, _⟩ => ⟨S1x4096x4608, .f32⟩
  | .hbm, ⟨13, _⟩ => ⟨S4096x4608, .f32⟩
  | .hbm, ⟨14, _⟩ => ⟨S4096x4608, .bf16⟩
  | .hbm, ⟨15, _⟩ => ⟨S1x4096x8, .f32⟩
  | .hbm, ⟨16, _⟩ => ⟨S4096x8, .f32⟩
  | .hbm, ⟨17, _⟩ => ⟨S_, .i32⟩
  | .hbm, ⟨18, _⟩ => ⟨S_, .f32⟩
  | .hbm, ⟨19, _⟩ => ⟨S4096x128, .f32⟩
  | .hbm, ⟨20, _⟩ => ⟨S4096x128, .bf16⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x128, .bf16⟩
  | .local _ .vmem, ⟨3, _⟩ => ⟨S1024x128, .bf16⟩
  | .local _ .vmem, ⟨4, _⟩ => ⟨S1152x1024, .bf16⟩
  | .local _ .vmem, ⟨5, _⟩ => ⟨S1152x1024, .bf16⟩
  | .local _ .vmem, ⟨6, _⟩ => ⟨S128x1024, .bf16⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_25 : BitVec 32 := 0#32
  let v49 : BitVec 1 := Scalar.cmpi .eq arg0 c0_i32_25
  let v50 : BitVec 32 := Scalar.extui v49
  let c0_i32_26 : BitVec 32 := 0#32
  let v51 : BitVec 1 := Scalar.cmpi .ne v50 c0_i32_26
  v51

def k0_cond4 (i : grid0.Coords) : BitVec 1 :=
  let arg0 : BitVec 32 := BitVec.ofNat 32 (i 0).val
  let c0_i32_27 : BitVec 32 := 0#32
  let v52 : BitVec 1 := Scalar.cmpi .sgt arg0 c0_i32_27
  let v53 : BitVec 32 := Scalar.extui v52
  let c0_i32_28 : BitVec 32 := 0#32
  let v54 : BitVec 1 := Scalar.cmpi .ne v53 c0_i32_28
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== InReferenceIdeal.lean ====
abbrev S1x4096x1024 : Shape := ⟨3, ![1, 4096, 1024]⟩
abbrev S1x1024 : Shape := ⟨2, ![1, 1024]⟩
abbrev S1x1024x4616 : Shape := ⟨3, ![1, 1024, 4616]⟩
abbrev S1x4096x4616 : Shape := ⟨3, ![1, 4096, 4616]⟩
abbrev S_ : Shape := ⟨0, ![]⟩
abbrev S1x4096 : Shape := ⟨2, ![1, 4096]⟩
abbrev S1x4096x1 : Shape := ⟨3, ![1, 4096, 1]⟩
abbrev S1024 : Shape := ⟨1, ![1024]⟩
abbrev S1x1x1024 : Shape := ⟨3, ![1, 1, 1024]⟩
abbrev S1024x4616 : Shape := ⟨2, ![1024, 4616]⟩
abbrev S4096 : Shape := ⟨1, ![4096]⟩
abbrev S4096x1024 : Shape := ⟨2, ![4096, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4616, .f32⟩
  | .hbm, ⟨3, _⟩ => ⟨S1x4096x4616, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1024x4616, .f32⟩
  | .hbm, ⟨27, _⟩ => ⟨S1x4096x4616, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S1x4096x1024, .f32⟩
  | .hbm, ⟨39, _⟩ => ⟨S_, .f32⟩
  | .hbm, ⟨40, _⟩ => ⟨S1x4096, .f32⟩
  | .hbm, ⟨41, _⟩ => ⟨S1x4096x1, .f32⟩
  | .hbm, ⟨42, _⟩ => ⟨S1x4096x1024, .f32⟩
  | .hbm, ⟨43, _⟩ => ⟨S1x4096x1024, .f32⟩
  | .hbm, ⟨44, _⟩ => ⟨S1x4096x1024, .f32⟩
  | .hbm, ⟨45, _⟩ => ⟨S1x4096x1, .f32⟩
  | .hbm, ⟨46, _⟩ => ⟨S_, .f32⟩
  | .hbm, ⟨47, _⟩ => ⟨S1x4096x1, .f32⟩
  | .hbm, ⟨48, _⟩ => ⟨S1x4096x1, .f32⟩
  | .hbm, ⟨49, _⟩ => ⟨S_, .f32⟩
  | .hbm, ⟨50, _⟩ => ⟨S4096, .f32⟩
  | .hbm, ⟨51, _⟩ => ⟨S1x4096, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== SbKernel.lean ====
abbrev S1x4096x4616 : Shape := ⟨3, ![1, 4096, 4616]⟩
abbrev S4096x512 : Shape := ⟨2, ![4096, 512]⟩
abbrev S1x4096x512 : Shape := ⟨3, ![1, 4096, 512]⟩
abbrev S1x4096x4 : Shape := ⟨3, ![1, 4096, 4]⟩
abbrev S1x4096x8x64 : Shape := ⟨4, ![1, 4096, 8, 64]⟩
abbrev S1x8x4096x64 : Shape := ⟨4, ![1, 8, 4096, 64]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S8x4096 : Shape := ⟨2, ![8, 4096]⟩
abbrev S4096x8 : Shape := ⟨2, ![4096, 8]⟩
abbrev S4096x8x64 : Shape := ⟨3, ![4096, 8, 64]⟩
abbrev S1x4096x4608 : Shape := ⟨3, ![1, 4096, 4608]⟩
abbrev S4096x4608 : Shape := ⟨2, ![4096, 4608]⟩
abbrev S1024x128 : Shape := ⟨2, ![1024, 128]⟩
abbrev S4096x128 : Shape := ⟨2, ![4096, 128]⟩
abbrev S2x1024x128 : Shape := ⟨3, ![2, 1024, 128]⟩
abbrev S128x4096 : Shape := ⟨2, ![128, 4096]⟩
abbrev S256x256 : Shape := ⟨2, ![256, 256]⟩
abbrev S512x256 : Shape := ⟨2, ![512, 256]⟩
abbrev S128x1024 : Shape := ⟨2, ![128, 1024]⟩
abbrev S256x128 : Shape := ⟨2, ![256, 128]⟩
abbrev S128x256 : Shape := ⟨2, ![128, 256]⟩
abbrev S1024x256 : Shape := ⟨2, ![1024, 256]⟩
abbrev S1024x512 : Shape := ⟨2, ![1024, 512]⟩
abbrev S1x1024x128 : Shape := ⟨3, ![1, 1024, 128]⟩
abbrev S1024x1 : Shape := ⟨2, ![1024, 1]⟩
abbrev S768x256 : Shape := ⟨2, ![768, 256]⟩
abbrev S768x128 : Shape := ⟨2, ![768, 128]⟩
abbrev S768x512 : Shape := ⟨2, ![768, 512]⟩
abbrev S1x768x128 : Shape := ⟨3, ![1, 768, 128]⟩
abbrev S128x768 : Shape := ⟨2, ![128, 768]⟩
abbrev S768x1 : Shape := ⟨2, ![768, 1]⟩
abbrev S512x128 : Shape := ⟨2, ![512, 128]⟩
abbrev S512x512 : Shape := ⟨2, ![512, 512]⟩
abbrev S1x512x128 : Shape := ⟨3, ![1, 512, 128]⟩
abbrev S128x512 : Shape := ⟨2, ![128, 512]⟩
abbrev S512x1 : Shape := ⟨2, ![512, 1]⟩
abbrev S256x512 : Shape := ⟨2, ![256, 512]⟩
abbrev S1x256x128 : Shape := ⟨3, ![1, 256, 128]⟩
abbrev S256x1 : Shape := ⟨2, ![256, 1]⟩

abbrev nBuf : Space → Nat
  | .hbm => 61
  | .vmem => 21
  | .smem => 0
  | _ => 0

abbrev bufTy : (tb : Table) → Fin (tcTables nBuf tb) → BufTy
  | .hbm, ⟨0, _⟩ => ⟨S1x4096x4616, .f32⟩
  | .hbm, ⟨1, _⟩ => ⟨S4096x512, .f32⟩
  | .hbm, ⟨2, _⟩ => ⟨S1x4096x512, .f32⟩
  | .hbm, ⟨3, _⟩ => ⟨S1x4096x512, .f32⟩
  | .hbm, ⟨4, _⟩ => ⟨S1x4096x512, .f32⟩
  | .hbm, ⟨5, _⟩ => ⟨S1x4096x512, .f32⟩
  | .hbm, ⟨6, _⟩ => ⟨S1x4096x512, .f32⟩
  | .hbm, ⟨7, _⟩ => ⟨S1x4096x512, .f32⟩
  | .hbm, ⟨8, _⟩ => ⟨S1x4096x512, .f32⟩
  | .hbm, ⟨9, _⟩ => ⟨S1x4096x512, .f32⟩
  | .hbm, ⟨10, _⟩ => ⟨S1x4096x512, .f32⟩
  | .hbm, ⟨11, _⟩ => ⟨S1x4096x4, .f32⟩
  | .hbm, ⟨12, _⟩ => ⟨S1x4096x4, .f32⟩
  | .hbm, ⟨13, _⟩ => ⟨S1x4096x8x64, .f32⟩
  | .hbm, ⟨14, _⟩ => ⟨S1x8x4096x64, .f32⟩
  | .hbm, ⟨15, _⟩ => ⟨S1x4096x8x64, .f32⟩
  | .hbm, ⟨16, _⟩ => ⟨S1x8x4096x64, .f32⟩
  | .hbm, ⟨17, _⟩ => ⟨S1x8x4096x4096, .f32⟩
  | .hbm, ⟨18, _⟩ => ⟨S_, .f32⟩
  | .hbm, ⟨19, _⟩ => ⟨S1x8x4096x4096, .f32⟩
  | .hbm, ⟨20, _⟩ => ⟨S1x8x4096x4096, .f32⟩
  | .hbm, ⟨21, _⟩ => ⟨S4096, .i32⟩
  | .hbm, ⟨22, _⟩ => ⟨S1x4096, .i32⟩
  | .hbm, ⟨23, _⟩ => ⟨S4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S1x8x4096x4096, .f32⟩
  | .hbm, ⟨29, _⟩ => ⟨S_, .f32⟩
  | .hbm, ⟨30, _⟩ => ⟨S1x8x4096x4096, .f32⟩
  | .hbm, ⟨31, _⟩ => ⟨S1x8x4096x4096, .f32⟩
  | .hbm, ⟨32, _⟩ => ⟨S1x8x4096x4096, .f32⟩
  | .hbm, ⟨33, _⟩ => ⟨S1x8x4096x4096, .f32⟩
  | .hbm, ⟨34, _⟩ => ⟨S1x8x4096x4096, .i1⟩
  | .hbm, ⟨35, _⟩ => ⟨S1x8x4096x4096, .f32⟩
  | .hbm, ⟨36, _⟩ => ⟨S1x8x4096x4096, .f32⟩
  | .hbm, ⟨37, _⟩ => ⟨S1x8x4096x4096, .f32⟩
  | .hbm, ⟨38, _⟩ => ⟨S1x8x4096x4096, .f32⟩
  | .hbm, ⟨39, _⟩ => ⟨S1x8x4096x4096, .f32⟩
  | .hbm, ⟨40, _⟩ => ⟨S1x8x4096x4096, .f32⟩
  | .hbm, ⟨41, _⟩ => ⟨S1x8x4096x4096, .f32⟩
  | .hbm, ⟨42, _⟩ => ⟨S1x8x4096x4096, .f32⟩
  | .hbm, ⟨43, _⟩ => ⟨S1x8x4096x4096, .f32⟩
  | .hbm, ⟨44, _⟩ => ⟨S1x8x4096x4096, .f32⟩
  | .hbm, ⟨45, _⟩ => ⟨S_, .f32⟩
  | .hbm, ⟨46, _⟩ => ⟨S_, .f32⟩
  | .hbm, ⟨47, _⟩ => ⟨S1x8x4096x4096, .i1⟩
  | .hbm, ⟨48, _⟩ => ⟨S1x8x4096x4096, .f32⟩
  | .hbm, ⟨49, _⟩ => ⟨S1x8x4096x4096, .f32⟩
  | .hbm, ⟨50, _⟩ => ⟨S_, .f32⟩
  | .hbm, ⟨51, _⟩ => ⟨S1x8x4096, .f32⟩
  | .hbm, ⟨52, _⟩ => ⟨S8x4096, .f32⟩
  | .hbm, ⟨53, _⟩ => ⟨S4096x8, .f32⟩
  | .hbm, ⟨54, _⟩ => ⟨S4096x8x64, .f32⟩
  | .hbm, ⟨55, _⟩ => ⟨S4096x512, .f32⟩
  | .hbm, ⟨56, _⟩ => ⟨S1x4096x4608, .f32⟩
  | .hbm, ⟨57, _⟩ => ⟨S4096x4608, .f32⟩
  | .hbm, ⟨58, _⟩ => ⟨S4096x512, .bf16⟩
  | .hbm, ⟨59, _⟩ => ⟨S4096x512, .bf16⟩
  | .hbm, ⟨60, _⟩ => ⟨S4096x512, .bf16⟩
  | .local _ .vmem, ⟨0, _⟩ => ⟨S1024x128, .f32⟩
  | .local _ .vmem, ⟨1, _⟩ => ⟨S1024x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S2x1024x128, .f32⟩
  | .local _ .vmem, ⟨17, _⟩ => ⟨S2x1024x128, .f32⟩
  | .local _ .vmem, ⟨18, _⟩ => ⟨S2x1024x128, .f32⟩
  | .local _ .vmem, ⟨19, _⟩ => ⟨S128x4096, .f32⟩
  | .local _ .vmem, ⟨20, _⟩ => ⟨S128x4096, .f32⟩
  | _, _ => ⟨S1x4096x4616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v25 : Ref sig .tc := ⟨.hbm, 43, rfl⟩
abbrev main_v26 : Ref sig .tc := ⟨.hbm, 44, rfl⟩
abbrev main_cst_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v27 : Ref sig .tc := ⟨.hbm, 49, rfl⟩
abbrev main_cst_1 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35_0 : Ref sig .tc := ⟨.hbm, 58, rfl⟩
abbrev main_v35_1 : Ref sig .tc := ⟨.hbm, 59, rfl⟩
abbrev main_v35_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_26 : BitVec 32 := 0#32
  let c4_i32 : BitVec 32 := 4#32
  let arg1 : BitVec 32 := BitVec.ofNat 32 (i 1).val
  let v59 : BitVec 32 := Scalar.muli c4_i32 arg1
  let v60 : BitVec 32 := Scalar.subi v59 c0_i32_26
  let c1_i32 : BitVec 32 := 1#32
  let v62 : BitVec 32 := Scalar.divsi v60 c1_i32
  let v63 : BitVec 32 := Scalar.muli v62 c1_i32
  let v64 : BitVec 32 := Scalar.addi c0_i32_26 v63
  let c1_i32_27 : BitVec 32 := 1#32
  ⟨c0_i32_26, v64, c1_i32_27⟩
def k0_mult1 (i : grid0.Coords) (k0_t1 : Fin (k0_t1_loop i).trips) : BitVec 32 :=
  let c0_i32_26 : BitVec 32 := 0#32
  let c1_i32_27 : BitVec 32 := 1#32
  let arg15 : BitVec 32 := Scf.iv c0_i32_26 c1_i32_27 k0_t1
  let c256_i32_325 : BitVec 32 := 256#32
  let v791 : BitVec 32 := Scalar.muli arg15 c256_i32_325
  v791
def k0_off1 (i : grid0.Coords) (k0_t1 : Fin (k0_t1_loop i).trips) : Fin 2 → Nat :=
  let c0_i32_26 : BitVec 32 := 0#32
  let c1_i32_27 : BitVec 32 := 1#32
  let arg15 : BitVec 32 := Scf.iv c0_i32_26 c1_i32_27 k0_t1
  let c256_i32_325 : BitVec 32 := 256#32
  let v791 : BitVec 32 := Scalar.muli arg15 c256_i32_325
  let v792 : BitVec 32 := v791
  let v793 : Index := Scalar.indexCast v792
  let c0_326 : Index := 0#32
  ![v793.toNat, 0]
def k0_off2 (i : grid0.Coords) (k0_t1 : Fin (k0_t1_loop i).trips) : Fin 2 → Nat :=
  let c0_386 : Index := 0#32
  let c0_i32_26 : BitVec 32 := 0#32
  let c1_i32_27 : BitVec 32 := 1#32
  let arg15 : BitVec 32 := Scf.iv c0_i32_26 c1_i32_27 k0_t1
  let c256_i32_325 : BitVec 32 := 256#32
  let v791 : BitVec 32 := Scalar.muli arg15 c256_i32_325
  let v792 : BitVec 32 := v791
  let v931 : Index := Scalar.indexCast v792
  ![0, v931.toNat]
@[reducible] def k0_t2_loop (i : grid0.Coords) : Scf.Loop 32 :=
  let c0_i32_26 : BitVec 32 := 0#32
  let c4_i32 : BitVec 32 := 4#32
  let arg1 : BitVec 32 := BitVec.ofNat 32 (i 1).val
  let v59 : BitVec 32 := Scalar.muli c4_i32 arg1
  let v60 : BitVec 32 := Scalar.subi v59 c0_i32_26
  let c1_i32 : BitVec 32 := 1#32
  let v62 : BitVec 32 := Scalar.divsi v60 c1_i32
  let v63 : BitVec 32 := Scalar.muli v62 c1_i32
  let v64 : BitVec 32 := Scalar.addi c0_i32_26 v63
  let v61 : BitVec 32 := Scalar.addi c0_i32_26 v60
  let c1_i32_28 : BitVec 32 := 1#32
  ⟨v64, v61, c1_i32_28⟩
def k0_mult2 (i : grid0.Coords) (k0_t2 : Fin (k0_t2_loop i).trips) : BitVec 32 :=
  let c0_i32_26 : BitVec 32 := 0#32
  let c4_i32 : BitVec 32 := 4#32
  let arg1 : BitVec 32 := BitVec.ofNat 32 (i 1).val
  let v59 : BitVec 32 := Scalar.muli c4_i32 arg1
  let v60 : BitVec 32 := Scalar.subi v59 c0_i32_26
  let c1_i32 : BitVec 32 := 1#32
  let v62 : BitVec 32 := Scalar.divsi v60 c1_i32
  let v63 : BitVec 32 := Scalar.muli v62 c1_i32
  let v64 : BitVec 32 := Scalar.addi c0_i32_26 v63
  let c1_i32_28 : BitVec 32 := 1#32
  let arg15 : BitVec 32 := Scf.iv v64 c1_i32_28 k0_t2
  let c256_i32_325 : BitVec 32 := 256#32
  let v791 : BitVec 32 := Scalar.muli arg15 c256_i32_325
  v791
def k0_off3 (i : grid0.Coords) (k0_t2 : Fin (k0_t2_loop i).trips) : Fin 2 → Nat :=
  let c0_i32_26 : BitVec 32 := 0#32
  let c4_i32 : BitVec 32 := 4#32
  let arg1 : BitVec 32 := BitVec.ofNat 32 (i 1).val
  let v59 : BitVec 32 := Scalar.muli c4_i32 arg1
  let v60 : BitVec 32 := Scalar.subi v59 c0_i32_26
  let c1_i32 : BitVec 32 := 1#32
  let v62 : BitVec 32 := Scalar.divsi v60 c1_i32
  let v63 : BitVec 32 := Scalar.muli v62 c1_i32
  let v64 : BitVec 32 := Scalar.addi c0_i32_26 v63
  let c1_i32_28 : BitVec 32 := 1#32
  let arg15 : BitVec 32 := Scf.iv v64 c1_i32_28 k0_t2
  let c256_i32_325 : BitVec 32 := 256#32
  let v791 : BitVec 32 := Scalar.muli arg15 c256_i32_325
  let v792 : BitVec 32 := v791
  let v793 : Index := Scalar.indexCast v792
  let c0_326 : Index := 0#32
  ![v793.toNat, 0]
def k0_off4 (i : grid0.Coords) (k0_t2 : Fin (k0_t2_loop i).trips) : Fin 2 → Nat :=
  let c0_386 : Index := 0#32
  let c0_i32_26 : BitVec 32 := 0#32
  let c4_i32 : BitVec 32 := 4#32
  let arg1 : BitVec 32 := BitVec.ofNat 32 (i 1).val
  let v59 : BitVec 32 := Scalar.muli c4_i32 arg1
  let v60 : BitVec 32 := Scalar.subi v59 c0_i32_26
  let c1_i32 : BitVec 32 := 1#32
  let v62 : BitVec 32 := Scalar.divsi v60 c1_i32
  let v63 : BitVec 32 := Scalar.muli v62 c1_i32
  let v64 : BitVec 32 := Scalar.addi c0_i32_26 v63
  let c1_i32_28 : BitVec 32 := 1#32
  let arg15 : BitVec 32 := Scf.iv v64 c1_i32_28 k0_t2
  let c256_i32_325 : BitVec 32 := 256#32
  let v791 : BitVec 32 := Scalar.muli arg15 c256_i32_325
  let v792 : BitVec 32 := v791
  let v931 : Index := Scalar.indexCast v792
  ![0, v931.toNat]
def k0_mult3 (i : grid0.Coords) : BitVec 32 :=
  let c4_i32_29 : BitVec 32 := 4#32
  let arg1 : BitVec 32 := BitVec.ofNat 32 (i 1).val
  let v65 : BitVec 32 := Scalar.muli c4_i32_29 arg1
  let c0_i32_30 : BitVec 32 := 0#32
  let v66 : BitVec 32 := Scalar.addi v65 c0_i32_30
  let c256_i32 : BitVec 32 := 256#32
  let v70 : BitVec 32 := Scalar.muli v66 c256_i32
  v70
def k0_off5 (i : grid0.Coords) (c0_i32_30 : BitVec 32) : Fin 2 → Nat :=
  let c4_i32_29 : BitVec 32 := 4#32
  let arg1 : BitVec 32 := BitVec.ofNat 32 (i 1).val
  let v65 : BitVec 32 := Scalar.muli c4_i32_29 arg1
  let v66 : BitVec 32 := Scalar.addi v65 c0_i32_30
  let c256_i32 : BitVec 32 := 256#32
  let v70 : BitVec 32 := Scalar.muli v66 c256_i32
  let v71 : BitVec 32 := v70
  let v72 : Index := Scalar.indexCast v71
  let c0_31 : Index := 0#32
  ![v72.toNat, 0]
def k0_off6 (i : grid0.Coords) (c0_i32_30 : BitVec 32) : Fin 2 → Nat :=
  let c0_96 : Index := 0#32
  let c4_i32_29 : BitVec 32 := 4#32
  let arg1 : BitVec 32 := BitVec.ofNat 32 (i 1).val
  let v65 : BitVec 32 := Scalar.muli c4_i32_29 arg1
  let v66 : BitVec 32 := Scalar.addi v65 c0_i32_30
  let c256_i32 : BitVec 32 := 256#32
  let v70 : BitVec 32 := Scalar.muli v66 c256_i32
  let v71 : BitVec 32 := v70
  let v222 : Index := Scalar.indexCast v71
  ![0, v222.toNat]
def k0_mult4 (i : grid0.Coords) : BitVec 32 :=
  let c4_i32_100 : BitVec 32 := 4#32
  let arg1 : BitVec 32 := BitVec.ofNat 32 (i 1).val
  let v236 : BitVec 32 := Scalar.muli c4_i32_100 arg1
  let c1_i32_101 : BitVec 32 := 1#32
  let v237 : BitVec 32 := Scalar.addi v236 c1_i32_101
  let c256_i32_102 : BitVec 32 := 256#32
  let v241 : BitVec 32 := Scalar.muli v237 c256_i32_102
  v241
def k0_mult5 (i : grid0.Coords) : BitVec 32 :=
  let c4_i32_172 : BitVec 32 := 4#32
  let arg1 : BitVec 32 := BitVec.ofNat 32 (i 1).val
  let v417 : BitVec 32 := Scalar.muli c4_i32_172 arg1
  let c2_i32 : BitVec 32 := 2#32
  let v418 : BitVec 32 := Scalar.addi v417 c2_i32
  let c256_i32_173 : BitVec 32 := 256#32
  let v422 : BitVec 32 := Scalar.muli v418 c256_i32_173
  v422
def k0_mult6 (i : grid0.Coords) : BitVec 32 :=
  let c4_i32_243 : BitVec 32 := 4#32
  let arg1 : BitVec 32 := BitVec.ofNat 32 (i 1).val
  let v598 : BitVec 32 := Scalar.muli c4_i32_243 arg1
  let c3_i32 : BitVec 32 := 3#32
  let v599 : BitVec 32 := Scalar.addi v598 c3_i32
  let c256_i32_244 : BitVec 32 := 256#32
  let v603 : BitVec 32 := Scalar.muli v599 c256_i32_244
  v603
def k0_cond2 (i : grid0.Coords) : BitVec 1 :=
  let arg1 : BitVec 32 := BitVec.ofNat 32 (i 1).val
  let c3_i32_323 : BitVec 32 := 3#32
  let v788 : BitVec 1 := Scalar.cmpi .eq arg1 c3_i32_323
  let v789 : BitVec 32 := Scalar.extui v788
  let c0_i32_324 : BitVec 32 := 0#32
  let v790 : BitVec 1 := Scalar.cmpi .ne v789 c0_i32_324
  v790

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SbReferenceIdeal.lean ====
abbrev S1x4096x4616 : Shape := ⟨3, ![1, 4096, 4616]⟩
abbrev S4096x512 : Shape := ⟨2, ![4096, 512]⟩
abbrev S1x4096x512 : Shape := ⟨3, ![1, 4096, 512]⟩
abbrev S1x4096x4 : Shape := ⟨3, ![1, 4096, 4]⟩
abbrev S1x4096x8x64 : Shape := ⟨4, ![1, 4096, 8, 64]⟩
abbrev S1x8x4096x64 : Shape := ⟨4, ![1, 8, 4096, 64]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x64x4096 : Shape := ⟨4, ![1, 8, 64, 4096]⟩

abbrev nBuf : Space → Nat
  | .hbm => 143
  | .vmem => 0
  | .smem => 0
  | _ => 0

abbrev hbmTy0_0 (i : Nat) : BufTy := match i % 128 with
  | 0 => ⟨S1x4096x4616, .f32⟩
  | 1 => ⟨S4096x512, .f32⟩
  | 2 => ⟨S1x4096x512, .f32⟩
  | 3 => ⟨S1x4096x512, .f32⟩
  | 4 => ⟨S1x4096x512, .f32⟩
  | 5 => ⟨S1x4096x512, .f32⟩
  | 6 => ⟨S1x4096x512, .f32⟩
  | 7 => ⟨S1x4096x512, .f32⟩
  | 8 => ⟨S1x4096x512, .f32⟩
  | 9 => ⟨S1x4096x512, .f32⟩
  | 10 => ⟨S1x4096x512, .f32⟩
  | 11 => ⟨S1x4096x4, .f32⟩
  | 12 => ⟨S1x4096x4, .f32⟩
  | 13 => ⟨S1x4096x8x64, .f32⟩
  | 14 => ⟨S1x8x4096x64, .f32⟩
  | 15 => ⟨S1x4096x8x64, .f32⟩
  | 16 => ⟨S1x8x4096x64, .f32⟩
  | 17 => ⟨S1x4096x8x64, .f32⟩
  | 18 => ⟨S1x8x4096x64, .f32⟩
  | 19 => ⟨S1x8x4096x4096, .f32⟩
  | 20 => ⟨S_, .f32⟩
  | 21 => ⟨S1x8x4096x4096, .f32⟩
  | 22 => ⟨S1x8x4096x4096, .f32⟩
  | 23 => ⟨S4096, .i32⟩
  | 24 => ⟨S1x4096, .i32⟩
  | 25 => ⟨S4096, .i32⟩
  | 26 => ⟨S4096x1, .i32⟩
  | 27 => ⟨S4096x4096, .i32⟩
  | 28 => ⟨S4096x4096, .i32⟩
  | 29 => ⟨S4096x4096, .i1⟩
  | 30 => ⟨S1x8x4096x4096, .f32⟩
  | 31 => ⟨S_, .f32⟩
  | 32 => ⟨S1x8x4096x4096, .f32⟩
  | 33 => ⟨S1x8x4096x4096, .f32⟩
  | 34 => ⟨S1x8x4096x4096, .f32⟩
  | 35 => ⟨S1x8x4096x4096, .f32⟩
  | 36 => ⟨S1x8x4096x4096, .i1⟩
  | 37 => ⟨S1x8x4096x4096, .f32⟩
  | 38 => ⟨S1x8x4096x4096, .f32⟩
  | 39 => ⟨S1x8x4096x4096, .f32⟩
  | 40 => ⟨S1x8x4096x4096, .f32⟩
  | 41 => ⟨S1x8x4096x4096, .f32⟩
  | 42 => ⟨S1x8x4096x4096, .f32⟩
  | 43 => ⟨S1x8x4096x4096, .f32⟩
  | 44 => ⟨S1x8x4096x4096, .f32⟩
  | 45 => ⟨S_, .f32⟩
  | 46 => ⟨S1x8x4096x4096, .f32⟩
  | 47 => ⟨S1x8x4096x4096, .i1⟩
  | 48 => ⟨S_, .f32⟩
  | 49 => ⟨S1x8x4096x4096, .f32⟩
  | 50 => ⟨S1x8x4096x4096, .f32⟩
  | 51 => ⟨S_, .f32⟩
  | 52 => ⟨S1x8x4096x4096, .f32⟩
  | 53 => ⟨S1x8x4096x4096, .i1⟩
  | 54 => ⟨S_, .f32⟩
  | 55 => ⟨S1x8x4096x4096, .f32⟩
  | 56 => ⟨S1x8x4096x4096, .f32⟩
  | 57 => ⟨S1x8x4096x4096, .f32⟩
  | 58 => ⟨S1x8x4096x4096, .f32⟩
  | 59 => ⟨S_, .f32⟩
  | 60 => ⟨S_, .f32⟩
  | 61 => ⟨S_, .i1⟩
  | 62 => ⟨S_, .f32⟩
  | 63 => ⟨S_, .f32⟩
  | 64 => ⟨S_, .f32⟩
  | 65 => ⟨S_, .f32⟩
  | 66 => ⟨S1x8x4096x4096, .f32⟩
  | 67 => ⟨S1x8x4096x4096, .i1⟩
  | 68 => ⟨S_, .f32⟩
  | 69 => ⟨S1x8x4096x4096, .f32⟩
  | 70 => ⟨S1x8x4096x4096, .f32⟩
  | 71 => ⟨S1x8x4096x4096, .f32⟩
  | 72 => ⟨S1x8x4096x4096, .f32⟩
  | 73 => ⟨S1x8x4096x4096, .f32⟩
  | 74 => ⟨S_, .f32⟩
  | 75 => ⟨S1x8x4096x4096, .f32⟩
  | 76 => ⟨S1x8x4096x4096, .f32⟩
  | 77 => ⟨S1x8x4096x4096, .f32⟩
  | 78 => ⟨S1x8x4096x4096, .f32⟩
  | 79 => ⟨S_, .f32⟩
  | 80 => ⟨S_, .f32⟩
  | 81 => ⟨S1x8x4096x4096, .i1⟩
  | 82 => ⟨S1x8x4096x4096, .f32⟩
  | 83 => ⟨S1x8x4096x4096, .f32⟩
  | 84 => ⟨S_, .f32⟩
  | 85 => ⟨S1x8x4096x4096, .f32⟩
  | 86 => ⟨S_, .f32⟩
  | 87 => ⟨S_, .f32⟩
  | 88 => ⟨S1x8x4096x4096, .f32⟩
  | 89 => ⟨S1x8x4096x4096, .f32⟩
  | 90 => ⟨S1x8x4096x4096, .f32⟩
  | 91 => ⟨S1x8x4096x4096, .f32⟩
  | 92 => ⟨S_, .f32⟩
  | 93 => ⟨S_, .f32⟩
  | 94 => ⟨S1x8x4096x4096, .i1⟩
  | 95 => ⟨S1x8x4096x4096, .f32⟩
  | 96 => ⟨S1x8x4096x4096, .f32⟩
  | 97 => ⟨S_, .f32⟩
  | 98 => ⟨S1x8x4096x4096, .f32⟩
  | 99 => ⟨S1x8x4096x64, .f32⟩
  | 100 => ⟨S1x4096x8x64, .f32⟩
  | 101 => ⟨S1x4096x512, .f32⟩
  | 102 => ⟨S1x4096x512, .f32⟩
  | 103 => ⟨S1x4096x8x64, .f32⟩
  | 104 => ⟨S1x8x4096x64, .f32⟩
  | 105 => ⟨S1x8x64x4096, .f32⟩
  | 106 => ⟨S1x8x4096x64, .f32⟩
  | 107 => ⟨S1x8x4096x4096, .f32⟩
  | 108 => ⟨S_, .f32⟩
  | 109 => ⟨S1x8x4096x4096, .f32⟩
  | 110 => ⟨S1x8x4096x4096, .f32⟩
  | 111 => ⟨S1x8x4096x4096, .f32⟩
  | 112 => ⟨S1x8x4096x4096, .f32⟩
  | 113 => ⟨S_, .f32⟩
  | 114 => ⟨S_, .f32⟩
  | 115 => ⟨S1x8x4096x4096, .f32⟩
  | 116 => ⟨S1x8x4096x4096, .f32⟩
  | 117 => ⟨S_, .f32⟩
  | 118 => ⟨S1x8x4096x4096, .f32⟩
  | 119 => ⟨S1x8x4096x4096, .f32⟩
  | 120 => ⟨S1x8x4096x4096, .f32⟩
  | 121 => ⟨S1x8x4096x4096, .f32⟩
  | 122 => ⟨S1x8x4096x4096, .f32⟩
  | 123 => ⟨S1x8x4096x4096, .f32⟩
  | 124 => ⟨S1x8x4096x4096, .f32⟩
  | 125 => ⟨S1x8x4096x4096, .f32⟩
  | 126 => ⟨S_, .f32⟩
  | 127 => ⟨S1x8x4096x4096, .f32⟩
  | _ => ⟨S1x4096x4616, .f32⟩

abbrev hbmTy0_1 (i : Nat) : BufTy := match i % 128 with
  | 0 => ⟨S1x8x4096x4096, .f32⟩
  | 1 => ⟨S1x8x4096x64, .f32⟩
  | 2 => ⟨S1x8x4096x64, .f32⟩
  | 3 => ⟨S1x4096x8x64, .f32⟩
  | 4 => ⟨S1x4096x512, .f32⟩
  | 5 => ⟨S1x4096x8x64, .f32⟩
  | 6 => ⟨S1x4096x512, .f32⟩
  | 7 => ⟨S1x4096x8x64, .f32⟩
  | 8 => ⟨S1x4096x512, .f32⟩
  | 9 => ⟨S4096x512, .f32⟩
  | 10 => ⟨S4096x512, .bf16⟩
  | 11 => ⟨S4096x512, .f32⟩
  | 12 => ⟨S4096x512, .bf16⟩
  | 13 => ⟨S4096x512, .f32⟩
  | 14 => ⟨S4096x512, .bf16⟩
  | _ => ⟨S1x4096x4616, .f32⟩

abbrev hbmTy (i : Nat) : BufTy := match i / 128 with
  | 0 => hbmTy0_0 i
  | 1 => hbmTy0_1 i
  | _ => ⟨S1x4096x4616, .f32⟩

abbrev bufTy : (tb : Table) → Fin (tcTables nBuf tb) → BufTy
  | .hbm, ⟨i, _⟩ => hbmTy i
  | _, _ => ⟨S1x4096x4616, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1_0 : Ref sig .tc := ⟨.hbm, 44, rfl⟩
abbrev main_call0_call0_cst_0 : Ref sig .tc := ⟨.hbm, 45, rfl⟩
abbrev main_call0_call0_v13 : Ref sig .tc := ⟨.hbm, 46, rfl⟩
abbrev main_call0_call0_v14 : Ref sig .tc := ⟨.hbm, 47, rfl⟩
abbrev main_call0_call0_cst_1 : Ref sig .tc := ⟨.hbm, 48, rfl⟩
abbrev main_call0_call0_v15 : Ref sig .tc := ⟨.hbm, 49, rfl⟩
abbrev main_call0_call0_v16 : Ref sig .tc := ⟨.hbm, 50, rfl⟩
abbrev main_call0_call0_cst_2 : Ref sig .tc := ⟨.hbm, 51, rfl⟩
abbrev main_call0_call0_v17 : Ref sig .tc := ⟨.hbm, 52, rfl⟩
abbrev main_call0_call0_v18 : Ref sig .tc := ⟨.hbm, 53, rfl⟩
abbrev main_call0_call0_cst_3 : Ref sig .tc := ⟨.hbm, 54, rfl⟩
abbrev main_call0_call0_v19 : Ref sig .tc := ⟨.hbm, 55, rfl⟩
abbrev main_call0_call0_v20 : Ref sig .tc := ⟨.hbm, 56, rfl⟩
abbrev main_call0_call0_v21 : Ref sig .tc := ⟨.hbm, 57, rfl⟩
abbrev main_v27_1 : Ref sig .tc := ⟨.hbm, 58, rfl⟩
abbrev main_call0_call0_cst_4 : Ref sig .tc := ⟨.hbm, 59, rfl⟩
abbrev main_call0_call0_cst_5 : Ref sig .tc := ⟨.hbm, 60, rfl⟩
abbrev main_call0_call0_v23 : Ref sig .tc := ⟨.hbm, 61, rfl⟩
abbrev main_call0_call0_cst_6 : Ref sig .tc := ⟨.hbm, 62, rfl⟩
abbrev main_call0_call0_cst_7 : Ref sig .tc := ⟨.hbm, 63, rfl⟩
abbrev main_call0_call0_v24 : Ref sig .tc := ⟨.hbm, 64, rfl⟩
abbrev main_call0_call0_cst_8 : Ref sig .tc := ⟨.hbm, 65, rfl⟩
abbrev main_call0_call0_v25 : Ref sig .tc := ⟨.hbm, 66, rfl⟩
abbrev main_call0_call0_v26 : Ref sig .tc := ⟨.hbm, 67, rfl⟩
abbrev main_call0_call0_cst_9 : Ref sig .tc := ⟨.hbm, 68, rfl⟩
abbrev main_call0_call0_v27 : Ref sig .tc := ⟨.hbm, 69, rfl⟩
abbrev main_call0_call0_v28 : Ref sig .tc := ⟨.hbm, 70, rfl⟩
abbrev main_call0_call0_v29 : Ref sig .tc := ⟨.hbm, 71, rfl⟩
abbrev main_call0_call0_v30 : Ref sig .tc := ⟨.hbm, 72, rfl⟩
abbrev main_call0_call0_v31 : Ref sig .tc := ⟨.hbm, 73, rfl⟩
abbrev main_call0_call0_cst_10 : Ref sig .tc := ⟨.hbm, 74, rfl⟩
abbrev main_call0_call0_v32 : Ref sig .tc := ⟨.hbm, 75, rfl⟩
abbrev main_v27_2 : Ref sig .tc := ⟨.hbm, 76, rfl⟩
abbrev main_v27_0 : Ref sig .tc := ⟨.hbm, 77, rfl⟩
abbrev main_v28 : Ref sig .tc := ⟨.hbm, 78, rfl⟩
abbrev main_cst_0 : Ref sig .tc := ⟨.hbm, 79, rfl⟩
abbrev main_call1_v0 : Ref sig .tc := ⟨.hbm, 80, rfl⟩
abbrev main_v29_1 : Ref sig .tc := ⟨.hbm, 81, rfl⟩
abbrev main_call1_v2 : Ref sig .tc := ⟨.hbm, 82, rfl⟩
abbrev main_v29_0 : Ref sig .tc := ⟨.hbm, 83, rfl⟩
abbrev main_call1_cst : Ref sig .tc := ⟨.hbm, 84, rfl⟩
abbrev main_v29_2 : Ref sig .tc := ⟨.hbm, 85, rfl⟩
abbrev main_call2_cst : Ref sig .tc := ⟨.hbm, 86, rfl⟩
abbrev main_call2_v0 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_cst_1 : Ref sig .tc := ⟨.hbm, 92, rfl⟩
abbrev main_call3_v0 : Ref sig .tc := ⟨.hbm, 93, rfl⟩
abbrev main_v34_1 : Ref sig .tc := ⟨.hbm, 94, rfl⟩
abbrev main_call3_v2 : Ref sig .tc := ⟨.hbm, 95, rfl⟩
abbrev main_v34_0 : Ref sig .tc := ⟨.hbm, 96, rfl⟩
abbrev main_call3_cst : Ref sig .tc := ⟨.hbm, 97, rfl⟩
abbrev main_v34_2 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_call4_cst : Ref sig .tc := ⟨.hbm, 108, rfl⟩
abbrev main_call4_v0 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_call5_cst : Ref sig .tc := ⟨.hbm, 113, rfl⟩
abbrev main_call5_v0 : Ref sig .tc := ⟨.hbm, 114, rfl⟩
abbrev main_v47 : Ref sig .tc := ⟨.hbm, 115, rfl⟩
abbrev main_v48 : Ref sig .tc := ⟨.hbm, 116, rfl⟩
abbrev main_call6_cst : Ref sig .tc := ⟨.hbm, 117, rfl⟩
abbrev main_call6_v0 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_call7_v0 : Ref sig .tc := ⟨.hbm, 122, rfl⟩
abbrev main_call7_v1 : Ref sig .tc := ⟨.hbm, 123, rfl⟩
abbrev main_v52 : Ref sig .tc := ⟨.hbm, 124, rfl⟩
abbrev main_v53 : Ref sig .tc := ⟨.hbm, 125, rfl⟩
abbrev main_cst_2 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩

abbrev nD : Nat := 1
abbrev τ : Topo := Topo.v7x

variable {F : FTy → Type} [FloatOps F]
-- ==== ConvKernel.lean ====
abbrev S1x4096x4616 : Shape := ⟨3, ![1, 4096, 4616]⟩
abbrev S1x4x1024 : Shape := ⟨3, ![1, 4, 1024]⟩
abbrev S1x1024 : Shape := ⟨2, ![1, 1024]⟩
abbrev S4096x512 : Shape := ⟨2, ![4096, 512]⟩
abbrev S1x4096x4608 : Shape := ⟨3, ![1, 4096, 4608]⟩
abbrev S4096x4608 : Shape := ⟨2, ![4096, 4608]⟩
abbrev S4x1024 : Shape := ⟨2, ![4, 1024]⟩
abbrev S4096x1024 : Shape := ⟨2, ![4096, 1024]⟩
abbrev S4096x128 : Shape := ⟨2, ![4096, 128]⟩
abbrev S4x128 : Shape := ⟨2, ![4, 128]⟩
abbrev S1x128 : Shape := ⟨2, ![1, 128]⟩
abbrev S4104x128 : Shape := ⟨2, ![4104, 128]⟩
abbrev S256x128 : Shape := ⟨2, ![256, 128]⟩
abbrev S8x128 : Shape := ⟨2, ![8, 128]⟩
abbrev S264x128 : Shape := ⟨2, ![264, 128]⟩
abbrev S128 : Shape := ⟨1, ![128]⟩

abbrev nBuf : Space → Nat
  | .hbm => 11
  | .vmem => 17
  | .smem => 0
  | _ => 0

abbrev bufTy : (tb : Table) → Fin (tcTables nBuf tb) → BufTy
  | .hbm, ⟨0, _⟩ => ⟨S1x4096x4616, .f32⟩
  | .hbm, ⟨1, _⟩ => ⟨S1x4x1024, .f32⟩
  | .hbm, ⟨2, _⟩ => ⟨S1x1024, .f32⟩
  | .hbm, ⟨3, _⟩ => ⟨S4096x512, .bf16⟩
  | .hbm, ⟨4, _⟩ => ⟨S4096x512, .bf16⟩
  | .hbm, ⟨5, _⟩ => ⟨S1x4096x4608, .f32⟩
  | .hbm, ⟨6, _⟩ => ⟨S4096x4608, .f32⟩
  | .hbm, ⟨7, _⟩ => ⟨S4x1024, .f32⟩
  | .hbm, ⟨8, _⟩ => ⟨S4096x1024, .bf16⟩
  | .hbm, ⟨9, _⟩ => ⟨S4x1024, .f32⟩
  | .hbm, ⟨10, _⟩ => ⟨S1x1024, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4x128, .f32⟩
  | .local _ .vmem, ⟨13, _⟩ => ⟨S4x128, .f32⟩
  | .local _ .vmem, ⟨14, _⟩ => ⟨S1x128, .f32⟩
  | .local _ .vmem, ⟨15, _⟩ => ⟨S1x128, .f32⟩
  | .local _ .vmem, ⟨16, _⟩ => ⟨S4104x128, .f32⟩
  | _, _ => ⟨S1x4096x4616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvReferenceIdeal.lean ====
abbrev S1x4096x4616 : Shape := ⟨3, ![1, 4096, 4616]⟩
abbrev S1x4x1024 : Shape := ⟨3, ![1, 4, 1024]⟩
abbrev S1x1024 : Shape := ⟨2, ![1, 1024]⟩
abbrev S4096x512 : Shape := ⟨2, ![4096, 512]⟩
abbrev S1x4096x1024 : Shape := ⟨3, ![1, 4096, 1024]⟩
abbrev S1x4096x512 : Shape := ⟨3, ![1, 4096, 512]⟩
abbrev S4x1024 : Shape := ⟨2, ![4, 1024]⟩
abbrev S1024 : Shape := ⟨1, ![1024]⟩
abbrev S_ : Shape := ⟨0, ![]⟩
abbrev S1x3x1024 : Shape := ⟨3, ![1, 3, 1024]⟩
abbrev S1x4099x1024 : Shape := ⟨3, ![1, 4099, 1024]⟩
abbrev S1x1x1024 : Shape := ⟨3, ![1, 1, 1024]⟩
abbrev S4096x1024 : Shape := ⟨2, ![4096, 1024]⟩

abbrev nBuf : Space → Nat
  | .hbm => 143
  | .vmem => 0
  | .smem => 0
  | _ => 0

abbrev hbmTy0_0 (i : Nat) : BufTy := match i % 128 with
  | 0 => ⟨S1x4096x4616, .f32⟩
  | 1 => ⟨S1x4x1024, .f32⟩
  | 2 => ⟨S1x1024, .f32⟩
  | 3 => ⟨S4096x512, .bf16⟩
  | 4 => ⟨S4096x512, .bf16⟩
  | 5 => ⟨S1x4096x1024, .f32⟩
  | 6 => ⟨S4096x512, .f32⟩
  | 7 => ⟨S1x4096x512, .f32⟩
  | 8 => ⟨S4096x512, .f32⟩
  | 9 => ⟨S1x4096x512, .f32⟩
  | 10 => ⟨S4x1024, .f32⟩
  | 11 => ⟨S1024, .f32⟩
  | 12 => ⟨S_, .f32⟩
  | 13 => ⟨S1x3x1024, .f32⟩
  | 14 => ⟨S1x4099x1024, .f32⟩
  | 15 => ⟨S_, .f32⟩
  | 16 => ⟨S1x3x1024, .f32⟩
  | 17 => ⟨S1x1024, .f32⟩
  | 18 => ⟨S1024, .f32⟩
  | 19 => ⟨S1x4096x1024, .f32⟩
  | 20 => ⟨S1x1x1024, .f32⟩
  | 21 => ⟨S1x4096x1024, .f32⟩
  | 22 => ⟨S1x4096x1024, .f32⟩
  | 23 => ⟨S1x1x1024, .f32⟩
  | 24 => ⟨S1x4096x1024, .f32⟩
  | 25 => ⟨S1x4096x1024, .f32⟩
  | 26 => ⟨S1x1024, .f32⟩
  | 27 => ⟨S1024, .f32⟩
  | 28 => ⟨S1x4096x1024, .f32⟩
  | 29 => ⟨S1x1x1024, .f32⟩
  | 30 => ⟨S1x4096x1024, .f32⟩
  | 31 => ⟨S1x4096x1024, .f32⟩
  | 32 => ⟨S1x4096x1024, .f32⟩
  | 33 => ⟨S1x1024, .f32⟩
  | 34 => ⟨S1024, .f32⟩
  | 35 => ⟨S1x4096x1024, .f32⟩
  | 36 => ⟨S1x1x1024, .f32⟩
  | 37 => ⟨S1x4096x1024, .f32⟩
  | 38 => ⟨S1x4096x1024, .f32⟩
  | 39 => ⟨S1x4096x1024, .f32⟩
  | 40 => ⟨S1x1024, .f32⟩
  | 41 => ⟨S1024, .f32⟩
  | 42 => ⟨S1x4096x1024, .f32⟩
  | 43 => ⟨S1x1x1024, .f32⟩
  | 44 => ⟨S1x4096x1024, .f32⟩
  | 45 => ⟨S1x4096x1024, .f32⟩
  | 46 => ⟨S1x4096x1024, .f32⟩
  | 47 => ⟨S1x4096x1024, .f32⟩
  | 48 => ⟨S1x4096x1024, .f32⟩
  | 49 => ⟨S_, .f32⟩
  | 50 => ⟨S1x4096x1024, .f32⟩
  | 51 => ⟨S1x4096x1024, .f32⟩
  | 52 => ⟨S_, .f32⟩
  | 53 => ⟨S1x4096x1024, .f32⟩
  | 54 => ⟨S1x4096x1024, .f32⟩
  | 55 => ⟨S_, .f32⟩
  | 56 => ⟨S1x4096x1024, .f32⟩
  | 57 => ⟨S1x4096x1024, .f32⟩
  | 58 => ⟨S1x4096x1024, .f32⟩
  | 59 => ⟨S1x4096x1024, .f32⟩
  | 60 => ⟨S1x4096x512, .f32⟩
  | 61 => ⟨S1x4096x512, .f32⟩
  | 62 => ⟨S_, .f32⟩
  | 63 => ⟨S1x4096x512, .f32⟩
  | 64 => ⟨S1x4096x512, .f32⟩
  | 65 => ⟨S_, .f32⟩
  | 66 => ⟨S1x4096x512, .f32⟩
  | 67 => ⟨S1x4096x512, .f32⟩
  | 68 => ⟨S1x4096x1024, .f32⟩
  | 69 => ⟨S1x4096x1024, .f32⟩
  | 70 => ⟨S1x4096x1024, .f32⟩
  | 71 => ⟨S1x4096x1024, .f32⟩
  | 72 => ⟨S1x4096x1024, .f32⟩
  | 73 => ⟨S1x4096x1024, .f32⟩
  | 74 => ⟨S1x4096x1024, .f32⟩
  | 75 => ⟨S1x4096x1024, .f32⟩
  | 76 => ⟨S_, .f32⟩
  | 77 => ⟨S1x1024, .f32⟩
  | 78 => ⟨S1x1x1024, .f32⟩
  | 79 => ⟨S_, .f32⟩
  | 80 => ⟨S1024, .f32⟩
  | 81 => ⟨S_, .f32⟩
  | 82 => ⟨S1x4099x1024, .f32⟩
  | 83 => ⟨S1x1024, .f32⟩
  | 84 => ⟨S_, .f32⟩
  | 85 => ⟨S4x1024, .f32⟩
  | 86 => ⟨S1x4096x1024, .f32⟩
  | 87 => ⟨S1x4096x1024, .f32⟩
  | 88 => ⟨S1x4096x1024, .f32⟩
  | 89 => ⟨S_, .f32⟩
  | 90 => ⟨S1x1024, .f32⟩
  | 91 => ⟨S1x1x1024, .f32⟩
  | 92 => ⟨S_, .f32⟩
  | 93 => ⟨S1024, .f32⟩
  | 94 => ⟨S_, .f32⟩
  | 95 => ⟨S1x4099x1024, .f32⟩
  | 96 => ⟨S1x4099x1024, .f32⟩
  | 97 => ⟨S1x1024, .f32⟩
  | 98 => ⟨S_, .f32⟩
  | 99 => ⟨S4x1024, .f32⟩
  | 100 => ⟨S4x1024, .f32⟩
  | 101 => ⟨S1x4096x1024, .f32⟩
  | 102 => ⟨S1x4096x1024, .f32⟩
  | 103 => ⟨S1x4096x1024, .f32⟩
  | 104 => ⟨S_, .f32⟩
  | 105 => ⟨S1x1024, .f32⟩
  | 106 => ⟨S1x1x1024, .f32⟩
  | 107 => ⟨S_, .f32⟩
  | 108 => ⟨S1024, .f32⟩
  | 109 => ⟨S_, .f32⟩
  | 110 => ⟨S1x4099x1024, .f32⟩
  | 111 => ⟨S1x4099x1024, .f32⟩
  | 112 => ⟨S1x1024, .f32⟩
  | 113 => ⟨S_, .f32⟩
  | 114 => ⟨S4x1024, .f32⟩
  | 115 => ⟨S4x1024, .f32⟩
  | 116 => ⟨S_, .f32⟩
  | 117 => ⟨S1x1024, .f32⟩
  | 118 => ⟨S1x1x1024, .f32⟩
  | 119 => ⟨S_, .f32⟩
  | 120 => ⟨S1024, .f32⟩
  | 121 => ⟨S1x4096x1024, .f32⟩
  | 122 => ⟨S1x4096x1024, .f32⟩
  | 123 => ⟨S1x4096x1024, .f32⟩
  | 124 => ⟨S_, .f32⟩
  | 125 => ⟨S1x1024, .f32⟩
  | 126 => ⟨S1x1x1024, .f32⟩
  | 127 => ⟨S_, .f32⟩
  | _ => ⟨S1x4096x4616, .f32⟩

abbrev hbmTy0_1 (i : Nat) : BufTy := match i % 128 with
  | 0 => ⟨S1024, .f32⟩
  | 1 => ⟨S_, .f32⟩
  | 2 => ⟨S1x4099x1024, .f32⟩
  | 3 => ⟨S1x4099x1024, .f32⟩
  | 4 => ⟨S1x1024, .f32⟩
  | 5 => ⟨S_, .f32⟩
  | 6 => ⟨S4x1024, .f32⟩
  | 7 => ⟨S4x1024, .f32⟩
  | 8 => ⟨S1x3x1024, .f32⟩
  | 9 => ⟨S1x4096x1024, .f32⟩
  | 10 => ⟨S1x1024, .f32⟩
  | 11 => ⟨S1x4x1024, .f32⟩
  | 12 => ⟨S4096x1024, .f32⟩
  | 13 => ⟨S4096x1024, .bf16⟩
  | 14 => ⟨S4x1024, .f32⟩
  | _ => ⟨S1x4096x4616, .f32⟩

abbrev hbmTy (i : Nat) : BufTy := match i / 128 with
  | 0 => hbmTy0_0 i
  | 1 => hbmTy0_1 i
  | _ => ⟨S1x4096x4616, .f32⟩

abbrev bufTy : (tb : Table) → Fin (tcTables nBuf tb) → BufTy
  | .hbm, ⟨i, _⟩ => hbmTy i
  | _, _ => ⟨S1x4096x4616, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v40_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v40_1 : Ref sig .tc := ⟨.hbm, 58, rfl⟩
abbrev main_v40_0 : Ref sig .tc := ⟨.hbm, 59, rfl⟩
abbrev main_v41 : Ref sig .tc := ⟨.hbm, 60, rfl⟩
abbrev main_v42 : Ref sig .tc := ⟨.hbm, 61, rfl⟩
abbrev main_cst_1 : Ref sig .tc := ⟨.hbm, 62, rfl⟩
abbrev main_v43 : Ref sig .tc := ⟨.hbm, 63, rfl⟩
abbrev main_v44 : Ref sig .tc := ⟨.hbm, 64, rfl⟩
abbrev main_cst_2 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_3 : Ref sig .tc := ⟨.hbm, 76, rfl⟩
abbrev main_v52 : Ref sig .tc := ⟨.hbm, 77, rfl⟩
abbrev main_v53 : Ref sig .tc := ⟨.hbm, 78, rfl⟩
abbrev main_cst_4 : Ref sig .tc := ⟨.hbm, 79, rfl⟩
abbrev main_v54 : Ref sig .tc := ⟨.hbm, 80, rfl⟩
abbrev main_cst_5 : Ref sig .tc := ⟨.hbm, 81, rfl⟩
abbrev main_v55 : Ref sig .tc := ⟨.hbm, 82, rfl⟩
abbrev main_v56 : Ref sig .tc := ⟨.hbm, 83, rfl⟩
abbrev main_cst_6 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_7 : Ref sig .tc := ⟨.hbm, 89, rfl⟩
abbrev main_v61 : Ref sig .tc := ⟨.hbm, 90, rfl⟩
abbrev main_v62 : Ref sig .tc := ⟨.hbm, 91, rfl⟩
abbrev main_cst_8 : Ref sig .tc := ⟨.hbm, 92, rfl⟩
abbrev main_v63 : Ref sig .tc := ⟨.hbm, 93, rfl⟩
abbrev main_cst_9 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_10 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_11 : Ref sig .tc := ⟨.hbm, 104, rfl⟩
abbrev main_v72 : Ref sig .tc := ⟨.hbm, 105, rfl⟩
abbrev main_v73 : Ref sig .tc := ⟨.hbm, 106, rfl⟩
abbrev main_cst_12 : Ref sig .tc := ⟨.hbm, 107, rfl⟩
abbrev main_v74 : Ref sig .tc := ⟨.hbm, 108, rfl⟩
abbrev main_cst_13 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_14 : Ref sig .tc := ⟨.hbm, 113, rfl⟩
abbrev main_v78 : Ref sig .tc := ⟨.hbm, 114, rfl⟩
abbrev main_v79 : Ref sig .tc := ⟨.hbm, 115, rfl⟩
abbrev main_cst_15 : Ref sig .tc := ⟨.hbm, 116, rfl⟩
abbrev main_v80 : Ref sig .tc := ⟨.hbm, 117, rfl⟩
abbrev main_v81 : Ref sig .tc := ⟨.hbm, 118, rfl⟩
abbrev main_cst_16 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_17 : Ref sig .tc := ⟨.hbm, 124, rfl⟩
abbrev main_v86 : Ref sig .tc := ⟨.hbm, 125, rfl⟩
abbrev main_v87 : Ref sig .tc := ⟨.hbm, 126, rfl⟩
abbrev main_cst_18 : Ref sig .tc := ⟨.hbm, 127, rfl⟩
abbrev main_v88 : Ref sig .tc := ⟨.hbm, 128, rfl⟩
abbrev main_cst_19 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_20 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩

abbrev nD : Nat := 1
abbrev τ : Topo := Topo.v7x

variable {F : FTy → Type} [FloatOps F]
-- ==== FwdKernel.lean ====
abbrev S1x4096x4616 : Shape := ⟨3, ![1, 4096, 4616]⟩
abbrev S1x4096x4608 : Shape := ⟨3, ![1, 4096, 4608]⟩
abbrev S4096x4608 : Shape := ⟨2, ![4096, 4608]⟩
abbrev S4096x512 : Shape := ⟨2, ![4096, 512]⟩
abbrev S1024x128 : Shape := ⟨2, ![1024, 128]⟩
abbrev S4096x128 : Shape := ⟨2, ![4096, 128]⟩
abbrev S2x1024x128 : Shape := ⟨3, ![2, 1024, 128]⟩
abbrev S2x1024x256 : Shape := ⟨3, ![2, 1024, 256]⟩
abbrev S256x256 : Shape := ⟨2, ![256, 256]⟩
abbrev S512x256 : Shape := ⟨2, ![512, 256]⟩
abbrev S256x128 : Shape := ⟨2, ![256, 128]⟩
abbrev S256x1 : Shape := ⟨2, ![256, 1]⟩
abbrev S256x512 : Shape := ⟨2, ![256, 512]⟩
abbrev S1x256x128 : Shape := ⟨3, ![1, 256, 128]⟩
abbrev S512x128 : Shape := ⟨2, ![512, 128]⟩
abbrev S512x1 : Shape := ⟨2, ![512, 1]⟩
abbrev S512x512 : Shape := ⟨2, ![512, 512]⟩
abbrev S1x512x128 : Shape := ⟨3, ![1, 512, 128]⟩
abbrev S768x256 : Shape := ⟨2, ![768, 256]⟩
abbrev S768x128 : Shape := ⟨2, ![768, 128]⟩
abbrev S768x1 : Shape := ⟨2, ![768, 1]⟩
abbrev S768x512 : Shape := ⟨2, ![768, 512]⟩
abbrev S1x768x128 : Shape := ⟨3, ![1, 768, 128]⟩
abbrev S1024x256 : Shape := ⟨2, ![1024, 256]⟩
abbrev S1024x1 : Shape := ⟨2, ![1024, 1]⟩
abbrev S1024x512 : Shape := ⟨2, ![1024, 512]⟩
abbrev S1x1024x128 : Shape := ⟨3, ![1, 1024, 128]⟩
abbrev S1x1024x256 : Shape := ⟨3, ![1, 1024, 256]⟩

abbrev nBuf : Space → Nat
  | .hbm => 5
  | .vmem => 13
  | .smem => 0
  | _ => 0

abbrev bufTy : (tb : Table) → Fin (tcTables nBuf tb) → BufTy
  | .hbm, ⟨0, _⟩ => ⟨S1x4096x4616, .f32⟩
  | .hbm, ⟨1, _⟩ => ⟨S1x4096x4608, .f32⟩
  | .hbm, ⟨2, _⟩ => ⟨S4096x4608, .f32⟩
  | .hbm, ⟨3, _⟩ => ⟨S4096x512, .f32⟩
  | .hbm, ⟨4, _⟩ => ⟨S4096x512, .f32⟩
  | .local _ .vmem, ⟨0, _⟩ => ⟨S1024x128, .f32⟩
  | .local _ .vmem, ⟨1, _⟩ => ⟨S1024x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S2x1024x128, .f32⟩
  | .local _ .vmem, ⟨11, _⟩ => ⟨S2x1024x128, .f32⟩
  | .local _ .vmem, ⟨12, _⟩ => ⟨S2x1024x256, .f32⟩
  | _, _ => ⟨S1x4096x4616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let c4_i32 : BitVec 32 := 4#32
  let arg1 : BitVec 32 := BitVec.ofNat 32 (i 1).val
  let v32 : BitVec 32 := Scalar.muli c4_i32 arg1
  let c3_i32 : BitVec 32 := 3#32
  let v33 : BitVec 32 := Scalar.addi v32 c3_i32
  let c256_i32 : BitVec 32 := 256#32
  let v37 : BitVec 32 := Scalar.muli v33 c256_i32
  v37
def k0_off1 (i : grid0.Coords) (c3_i32 : BitVec 32) : Fin 2 → Nat :=
  let c4_i32 : BitVec 32 := 4#32
  let arg1 : BitVec 32 := BitVec.ofNat 32 (i 1).val
  let v32 : BitVec 32 := Scalar.muli c4_i32 arg1
  let v33 : BitVec 32 := Scalar.addi v32 c3_i32
  let c256_i32 : BitVec 32 := 256#32
  let v37 : BitVec 32 := Scalar.muli v33 c256_i32
  let v38 : BitVec 32 := v37
  let v39 : Index := Scalar.indexCast v38
  let c0_13 : Index := 0#32
  ![v39.toNat, 0]
def k0_mult2 (i : grid0.Coords) : BitVec 32 :=
  let c4_i32_51 : BitVec 32 := 4#32
  let arg1 : BitVec 32 := BitVec.ofNat 32 (i 1).val
  let v131 : BitVec 32 := Scalar.muli c4_i32_51 arg1
  let c2_i32 : BitVec 32 := 2#32
  let v132 : BitVec 32 := Scalar.addi v131 c2_i32
  let c256_i32_52 : BitVec 32 := 256#32
  let v136 : BitVec 32 := Scalar.muli v132 c256_i32_52
  v136
def k0_mult3 (i : grid0.Coords) : BitVec 32 :=
  let c4_i32_92 : BitVec 32 := 4#32
  let arg1 : BitVec 32 := BitVec.ofNat 32 (i 1).val
  let v230 : BitVec 32 := Scalar.muli c4_i32_92 arg1
  let c1_i32 : BitVec 32 := 1#32
  let v231 : BitVec 32 := Scalar.addi v230 c1_i32
  let c256_i32_93 : BitVec 32 := 256#32
  let v235 : BitVec 32 := Scalar.muli v231 c256_i32_93
  v235
def k0_mult4 (i : grid0.Coords) : BitVec 32 :=
  let c4_i32_133 : BitVec 32 := 4#32
  let arg1 : BitVec 32 := BitVec.ofNat 32 (i 1).val
  let v329 : BitVec 32 := Scalar.muli c4_i32_133 arg1
  let c0_i32 : BitVec 32 := 0#32
  let v330 : BitVec 32 := Scalar.addi v329 c0_i32
  let c256_i32_134 : BitVec 32 := 256#32
  let v334 : BitVec 32 := Scalar.muli v330 c256_i32_134
  v334
def k0_cond1 (i : grid0.Coords) : BitVec 1 :=
  let arg1 : BitVec 32 := BitVec.ofNat 32 (i 1).val
  let c0_i32_175 : BitVec 32 := 0#32
  let v426 : BitVec 1 := Scalar.cmpi .sgt arg1 c0_i32_175
  let v427 : BitVec 32 := Scalar.extui v426
  let c0_i32_176 : BitVec 32 := 0#32
  let v428 : BitVec 1 := Scalar.cmpi .ne v427 c0_i32_176
  v428

def k0_mult5 (i : grid0.Coords) : BitVec 32 :=
  let c4_i32_199 : BitVec 32 := 4#32
  let arg1 : BitVec 32 := BitVec.ofNat 32 (i 1).val
  let v447 : BitVec 32 := Scalar.muli c4_i32_199 arg1
  let c1_i32_200 : BitVec 32 := 1#32
  let v448 : BitVec 32 := Scalar.subi v447 c1_i32_200
  let c256_i32_201 : BitVec 32 := 256#32
  let v449 : BitVec 32 := Scalar.muli v448 c256_i32_201
  v449
def k0_off2 (i : grid0.Coords) : Fin 2 → Nat :=
  let c4_i32_199 : BitVec 32 := 4#32
  let arg1 : BitVec 32 := BitVec.ofNat 32 (i 1).val
  let v447 : BitVec 32 := Scalar.muli c4_i32_199 arg1
  let c1_i32_200 : BitVec 32 := 1#32
  let v448 : BitVec 32 := Scalar.subi v447 c1_i32_200
  let c256_i32_201 : BitVec 32 := 256#32
  let v449 : BitVec 32 := Scalar.muli v448 c256_i32_201
  let v450 : BitVec 32 := v449
  let v451 : Index := Scalar.indexCast v450
  let c0_202 : Index := 0#32
  ![v451.toNat, 0]
@[reducible] def k0_t1_loop (i : grid0.Coords) : Scf.Loop 32 :=
  let c0_i32_179 : BitVec 32 := 0#32
  let c2_i32_177 : BitVec 32 := 2#32
  let arg1 : BitVec 32 := BitVec.ofNat 32 (i 1).val
  let v429 : BitVec 32 := Scalar.muli c2_i32_177 arg1
  let v430 : BitVec 32 := Scalar.subi v429 c0_i32_179
  let c1_i32_180 : BitVec 32 := 1#32
  let v432 : BitVec 32 := Scalar.divsi v430 c1_i32_180
  let v433 : BitVec 32 := Scalar.muli v432 c1_i32_180
  let v434 : BitVec 32 := Scalar.addi c0_i32_179 v433
  let c1_i32_181 : BitVec 32 := 1#32
  ⟨c0_i32_179, v434, c1_i32_181⟩
def k0_mult6 (i : grid0.Coords) (k0_t1 : Fin (k0_t1_loop i).trips) : BitVec 32 :=
  let c4_i32_199 : BitVec 32 := 4#32
  let arg1 : BitVec 32 := BitVec.ofNat 32 (i 1).val
  let v447 : BitVec 32 := Scalar.muli c4_i32_199 arg1
  let c1_i32_200 : BitVec 32 := 1#32
  let v448 : BitVec 32 := Scalar.subi v447 c1_i32_200
  let c2_i32_201 : BitVec 32 := 2#32
  let c0_i32_179 : BitVec 32 := 0#32
  let c1_i32_181 : BitVec 32 := 1#32
  let arg10 : BitVec 32 := Scf.iv c0_i32_179 c1_i32_181 k0_t1
  let v449 : BitVec 32 := Scalar.muli c2_i32_201 arg10
  let v450 : BitVec 32 := Scalar.subi v448 v449
  let c256_i32_202 : BitVec 32 := 256#32
  let v451 : BitVec 32 := Scalar.muli v450 c256_i32_202
  v451
def k0_off3 (i : grid0.Coords) (k0_t1 : Fin (k0_t1_loop i).trips) (c1_i32_200 : BitVec 32) : Fin 2 → Nat :=
  let c4_i32_199 : BitVec 32 := 4#32
  let arg1 : BitVec 32 := BitVec.ofNat 32 (i 1).val
  let v447 : BitVec 32 := Scalar.muli c4_i32_199 arg1
  let v448 : BitVec 32 := Scalar.subi v447 c1_i32_200
  let c2_i32_201 : BitVec 32 := 2#32
  let c0_i32_179 : BitVec 32 := 0#32
  let c1_i32_181 : BitVec 32 := 1#32
  let arg10 : BitVec 32 := Scf.iv c0_i32_179 c1_i32_181 k0_t1
  let v449 : BitVec 32 := Scalar.muli c2_i32_201 arg10
  let v450 : BitVec 32 := Scalar.subi v448 v449
  let c256_i32_202 : BitVec 32 := 256#32
  let v451 : BitVec 32 := Scalar.muli v450 c256_i32_202
  let v452 : BitVec 32 := v451
  let v453 : Index := Scalar.indexCast v452
  let c0_203 : Index := 0#32
  ![v453.toNat, 0]
def k0_mult7 (i : grid0.Coords) (k0_t1 : Fin (k0_t1_loop i).trips) : BitVec 32 :=
  let c4_i32_199 : BitVec 32 := 4#32
  let arg1 : BitVec 32 := BitVec.ofNat 32 (i 1).val
  let v447 : BitVec 32 := Scalar.muli c4_i32_199 arg1
  let c1_i32_200 : BitVec 32 := 1#32
  let v448 : BitVec 32 := Scalar.subi v447 c1_i32_200
  let c2_i32_201 : BitVec 32 := 2#32
  let c0_i32_179 : BitVec 32 := 0#32
  let c1_i32_181 : BitVec 32 := 1#32
  let arg10 : BitVec 32 := Scf.iv c0_i32_179 c1_i32_181 k0_t1
  let v449 : BitVec 32 := Scalar.muli c2_i32_201 arg10
  let v450 : BitVec 32 := Scalar.subi v448 v449
  let c1_i32_205 : BitVec 32 := 1#32
  let v461 : BitVec 32 := Scalar.subi v450 c1_i32_205
  let c0_i32_206 : BitVec 32 := 0#32
  let v462 : BitVec 32 := Scalar.maxsi v461 c0_i32_206
  let c256_i32_207 : BitVec 32 := 256#32
  let v463 : BitVec 32 := Scalar.muli v462 c256_i32_207
  v463
def k0_off4 (i : grid0.Coords) (k0_t1 : Fin (k0_t1_loop i).trips) (c1_i32_200 : BitVec 32) : Fin 2 → Nat :=
  let c4_i32_199 : BitVec 32 := 4#32
  let arg1 : BitVec 32 := BitVec.ofNat 32 (i 1).val
  let v447 : BitVec 32 := Scalar.muli c4_i32_199 arg1
  let v448 : BitVec 32 := Scalar.subi v447 c1_i32_200
  let c2_i32_201 : BitVec 32 := 2#32
  let c0_i32_179 : BitVec 32 := 0#32
  let c1_i32_181 : BitVec 32 := 1#32
  let arg10 : BitVec 32 := Scf.iv c0_i32_179 c1_i32_181 k0_t1
  let v449 : BitVec 32 := Scalar.muli c2_i32_201 arg10
  let v450 : BitVec 32 := Scalar.subi v448 v449
  let c1_i32_205 : BitVec 32 := 1#32
  let v461 : BitVec 32 := Scalar.subi v450 c1_i32_205
  let c0_i32_206 : BitVec 32 := 0#32
  let v462 : BitVec 32 := Scalar.maxsi v461 c0_i32_206
  let c256_i32_207 : BitVec 32 := 256#32
  let v463 : BitVec 32 := Scalar.muli v462 c256_i32_207
  let v464 : BitVec 32 := v463
  let v465 : Index := Scalar.indexCast v464
  let c0_208 : Index := 0#32
  ![v465.toNat, 0]
def k0_mult8 (i : grid0.Coords) (k0_t1 : Fin (k0_t1_loop i).trips) : BitVec 32 :=
  let c4_i32_255 : BitVec 32 := 4#32
  let arg1 : BitVec 32 := BitVec.ofNat 32 (i 1).val
  let v553 : BitVec 32 := Scalar.muli c4_i32_255 arg1
  let c2_i32_256 : BitVec 32 := 2#32
  let v554 : BitVec 32 := Scalar.subi v553 c2_i32_256
  let c2_i32_257 : BitVec 32 := 2#32
  let c0_i32_179 : BitVec 32 := 0#32
  let c1_i32_181 : BitVec 32 := 1#32
  let arg10 : BitVec 32 := Scf.iv c0_i32_179 c1_i32_181 k0_t1
  let v555 : BitVec 32 := Scalar.muli c2_i32_257 arg10
  let v556 : BitVec 32 := Scalar.subi v554 v555
  let c256_i32_258 : BitVec 32 := 256#32
  let v557 : BitVec 32 := Scalar.muli v556 c256_i32_258
  v557
def k0_mult9 (i : grid0.Coords) (k0_t1 : Fin (k0_t1_loop i).trips) : BitVec 32 :=
  let c4_i32_255 : BitVec 32 := 4#32
  let arg1 : BitVec 32 := BitVec.ofNat 32 (i 1).val
  let v553 : BitVec 32 := Scalar.muli c4_i32_255 arg1
  let c2_i32_256 : BitVec 32 := 2#32
  let v554 : BitVec 32 := Scalar.subi v553 c2_i32_256
  let c2_i32_257 : BitVec 32 := 2#32
  let c0_i32_179 : BitVec 32 := 0#32
  let c1_i32_181 : BitVec 32 := 1#32
  let arg10 : BitVec 32 := Scf.iv c0_i32_179 c1_i32_181 k0_t1
  let v555 : BitVec 32 := Scalar.muli c2_i32_257 arg10
  let v556 : BitVec 32 := Scalar.subi v554 v555
  let c1_i32_261 : BitVec 32 := 1#32
  let v567 : BitVec 32 := Scalar.subi v556 c1_i32_261
  let c0_i32_262 : BitVec 32 := 0#32
  let v568 : BitVec 32 := Scalar.maxsi v567 c0_i32_262
  let c256_i32_263 : BitVec 32 := 256#32
  let v569 : BitVec 32 := Scalar.muli v568 c256_i32_263
  v569
@[reducible] def k0_t2_loop (i : grid0.Coords) : Scf.Loop 32 :=
  let c0_i32_179 : BitVec 32 := 0#32
  let c2_i32_177 : BitVec 32 := 2#32
  let arg1 : BitVec 32 := BitVec.ofNat 32 (i 1).val
  let v429 : BitVec 32 := Scalar.muli c2_i32_177 arg1
  let v430 : BitVec 32 := Scalar.subi v429 c0_i32_179
  let c1_i32_180 : BitVec 32 := 1#32
  let v432 : BitVec 32 := Scalar.divsi v430 c1_i32_180
  let v433 : BitVec 32 := Scalar.muli v432 c1_i32_180
  let v434 : BitVec 32 := Scalar.addi c0_i32_179 v433
  let v431 : BitVec 32 := Scalar.addi c0_i32_179 v430
  let c1_i32_182 : BitVec 32 := 1#32
  ⟨v434, v431, c1_i32_182⟩
def k0_mult10 (i : grid0.Coords) (k0_t2 : Fin (k0_t2_loop i).trips) : BitVec 32 :=
  let c4_i32_199 : BitVec 32 := 4#32
  let arg1 : BitVec 32 := BitVec.ofNat 32 (i 1).val
  let v447 : BitVec 32 := Scalar.muli c4_i32_199 arg1
  let c1_i32_200 : BitVec 32 := 1#32
  let v448 : BitVec 32 := Scalar.subi v447 c1_i32_200
  let c2_i32_201 : BitVec 32 := 2#32
  let c0_i32_179 : BitVec 32 := 0#32
  let c2_i32_177 : BitVec 32 := 2#32
  let v429 : BitVec 32 := Scalar.muli c2_i32_177 arg1
  let v430 : BitVec 32 := Scalar.subi v429 c0_i32_179
  let c1_i32_180 : BitVec 32 := 1#32
  let v432 : BitVec 32 := Scalar.divsi v430 c1_i32_180
  let v433 : BitVec 32 := Scalar.muli v432 c1_i32_180
  let v434 : BitVec 32 := Scalar.addi c0_i32_179 v433
  let c1_i32_182 : BitVec 32 := 1#32
  let arg10 : BitVec 32 := Scf.iv v434 c1_i32_182 k0_t2
  let v449 : BitVec 32 := Scalar.muli c2_i32_201 arg10
  let v450 : BitVec 32 := Scalar.subi v448 v449
  let c256_i32_202 : BitVec 32 := 256#32
  let v451 : BitVec 32 := Scalar.muli v450 c256_i32_202
  v451
def k0_off5 (i : grid0.Coords) (k0_t2 : Fin (k0_t2_loop i).trips) (c1_i32_200 : BitVec 32) : Fin 2 → Nat :=
  let c4_i32_199 : BitVec 32 := 4#32
  let arg1 : BitVec 32 := BitVec.ofNat 32 (i 1).val
  let v447 : BitVec 32 := Scalar.muli c4_i32_199 arg1
  let v448 : BitVec 32 := Scalar.subi v447 c1_i32_200
  let c2_i32_201 : BitVec 32 := 2#32
  let c0_i32_179 : BitVec 32 := 0#32
  let c2_i32_177 : BitVec 32 := 2#32
  let v429 : BitVec 32 := Scalar.muli c2_i32_177 arg1
  let v430 : BitVec 32 := Scalar.subi v429 c0_i32_179
  let c1_i32_180 : BitVec 32 := 1#32
  let v432 : BitVec 32 := Scalar.divsi v430 c1_i32_180
  let v433 : BitVec 32 := Scalar.muli v432 c1_i32_180
  let v434 : BitVec 32 := Scalar.addi c0_i32_179 v433
  let c1_i32_182 : BitVec 32 := 1#32
  let arg10 : BitVec 32 := Scf.iv v434 c1_i32_182 k0_t2
  let v449 : BitVec 32 := Scalar.muli c2_i32_201 arg10
  let v450 : BitVec 32 := Scalar.subi v448 v449
  let c256_i32_202 : BitVec 32 := 256#32
  let v451 : BitVec 32 := Scalar.muli v450 c256_i32_202
  let v452 : BitVec 32 := v451
  let v453 : Index := Scalar.indexCast v452
  let c0_203 : Index := 0#32
  ![v453.toNat, 0]
def k0_mult11 (i : grid0.Coords) (k0_t2 : Fin (k0_t2_loop i).trips) : BitVec 32 :=
  let c4_i32_199 : BitVec 32 := 4#32
  let arg1 : BitVec 32 := BitVec.ofNat 32 (i 1).val
  let v447 : BitVec 32 := Scalar.muli c4_i32_199 arg1
  let c1_i32_200 : BitVec 32 := 1#32
  let v448 : BitVec 32 := Scalar.subi v447 c1_i32_200
  let c2_i32_201 : BitVec 32 := 2#32
  let c0_i32_179 : BitVec 32 := 0#32
  let c2_i32_177 : BitVec 32 := 2#32
  let v429 : BitVec 32 := Scalar.muli c2_i32_177 arg1
  let v430 : BitVec 32 := Scalar.subi v429 c0_i32_179
  let c1_i32_180 : BitVec 32 := 1#32
  let v432 : BitVec 32 := Scalar.divsi v430 c1_i32_180
  let v433 : BitVec 32 := Scalar.muli v432 c1_i32_180
  let v434 : BitVec 32 := Scalar.addi c0_i32_179 v433
  let c1_i32_182 : BitVec 32 := 1#32
  let arg10 : BitVec 32 := Scf.iv v434 c1_i32_182 k0_t2
  let v449 : BitVec 32 := Scalar.muli c2_i32_201 arg10
  let v450 : BitVec 32 := Scalar.subi v448 v449
  let c1_i32_205 : BitVec 32 := 1#32
  let v461 : BitVec 32 := Scalar.subi v450 c1_i32_205
  let c0_i32_206 : BitVec 32 := 0#32
  let v462 : BitVec 32 := Scalar.maxsi v461 c0_i32_206
  let c256_i32_207 : BitVec 32 := 256#32
  let v463 : BitVec 32 := Scalar.muli v462 c256_i32_207
  v463
def k0_off6 (i : grid0.Coords) (k0_t2 : Fin (k0_t2_loop i).trips) (c1_i32_200 : BitVec 32) : Fin 2 → Nat :=
  let c4_i32_199 : BitVec 32 := 4#32
  let arg1 : BitVec 32 := BitVec.ofNat 32 (i 1).val
  let v447 : BitVec 32 := Scalar.muli c4_i32_199 arg1
  let v448 : BitVec 32 := Scalar.subi v447 c1_i32_200
  let c2_i32_201 : BitVec 32 := 2#32
  let c0_i32_179 : BitVec 32 := 0#32
  let c2_i32_177 : BitVec 32 := 2#32
  let v429 : BitVec 32 := Scalar.muli c2_i32_177 arg1
  let v430 : BitVec 32 := Scalar.subi v429 c0_i32_179
  let c1_i32_180 : BitVec 32 := 1#32
  let v432 : BitVec 32 := Scalar.divsi v430 c1_i32_180
  let v433 : BitVec 32 := Scalar.muli v432 c1_i32_180
  let v434 : BitVec 32 := Scalar.addi c0_i32_179 v433
  let c1_i32_182 : BitVec 32 := 1#32
  let arg10 : BitVec 32 := Scf.iv v434 c1_i32_182 k0_t2
  let v449 : BitVec 32 := Scalar.muli c2_i32_201 arg10
  let v450 : BitVec 32 := Scalar.subi v448 v449
  let c1_i32_205 : BitVec 32 := 1#32
  let v461 : BitVec 32 := Scalar.subi v450 c1_i32_205
  let c0_i32_206 : BitVec 32 := 0#32
  let v462 : BitVec 32 := Scalar.maxsi v461 c0_i32_206
  let c256_i32_207 : BitVec 32 := 256#32
  let v463 : BitVec 32 := Scalar.muli v462 c256_i32_207
  let v464 : BitVec 32 := v463
  let v465 : Index := Scalar.indexCast v464
  let c0_208 : Index := 0#32
  ![v465.toNat, 0]
def k0_mult12 (i : grid0.Coords) (k0_t2 : Fin (k0_t2_loop i).trips) : BitVec 32 :=
  let c4_i32_255 : BitVec 32 := 4#32
  let arg1 : BitVec 32 := BitVec.ofNat 32 (i 1).val
  let v553 : BitVec 32 := Scalar.muli c4_i32_255 arg1
  let c2_i32_256 : BitVec 32 := 2#32
  let v554 : BitVec 32 := Scalar.subi v553 c2_i32_256
  let c2_i32_257 : BitVec 32 := 2#32
  let c0_i32_179 : BitVec 32 := 0#32
  let c2_i32_177 : BitVec 32 := 2#32
  let v429 : BitVec 32 := Scalar.muli c2_i32_177 arg1
  let v430 : BitVec 32 := Scalar.subi v429 c0_i32_179
  let c1_i32_180 : BitVec 32 := 1#32
  let v432 : BitVec 32 := Scalar.divsi v430 c1_i32_180
  let v433 : BitVec 32 := Scalar.muli v432 c1_i32_180
  let v434 : BitVec 32 := Scalar.addi c0_i32_179 v433
  let c1_i32_182 : BitVec 32 := 1#32
  let arg10 : BitVec 32 := Scf.iv v434 c1_i32_182 k0_t2
  let v555 : BitVec 32 := Scalar.muli c2_i32_257 arg10
  let v556 : BitVec 32 := Scalar.subi v554 v555
  let c256_i32_258 : BitVec 32 := 256#32
  let v557 : BitVec 32 := Scalar.muli v556 c256_i32_258
  v557
def k0_mult13 (i : grid0.Coords) (k0_t2 : Fin (k0_t2_loop i).trips) : BitVec 32 :=
  let c4_i32_255 : BitVec 32 := 4#32
  let arg1 : BitVec 32 := BitVec.ofNat 32 (i 1).val
  let v553 : BitVec 32 := Scalar.muli c4_i32_255 arg1
  let c2_i32_256 : BitVec 32 := 2#32
  let v554 : BitVec 32 := Scalar.subi v553 c2_i32_256
  let c2_i32_257 : BitVec 32 := 2#32
  let c0_i32_179 : BitVec 32 := 0#32
  let c2_i32_177 : BitVec 32 := 2#32
  let v429 : BitVec 32 := Scalar.muli c2_i32_177 arg1
  let v430 : BitVec 32 := Scalar.subi v429 c0_i32_179
  let c1_i32_180 : BitVec 32 := 1#32
  let v432 : BitVec 32 := Scalar.divsi v430 c1_i32_180
  let v433 : BitVec 32 := Scalar.muli v432 c1_i32_180
  let v434 : BitVec 32 := Scalar.addi c0_i32_179 v433
  let c1_i32_182 : BitVec 32 := 1#32
  let arg10 : BitVec 32 := Scf.iv v434 c1_i32_182 k0_t2
  let v555 : BitVec 32 := Scalar.muli c2_i32_257 arg10
  let v556 : BitVec 32 := Scalar.subi v554 v555
  let c1_i32_261 : BitVec 32 := 1#32
  let v567 : BitVec 32 := Scalar.subi v556 c1_i32_261
  let c0_i32_262 : BitVec 32 := 0#32
  let v568 : BitVec 32 := Scalar.maxsi v567 c0_i32_262
  let c256_i32_263 : BitVec 32 := 256#32
  let v569 : BitVec 32 := Scalar.muli v568 c256_i32_263
  v569
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdReferenceIdeal.lean ====
abbrev S1x4096x4616 : Shape := ⟨3, ![1, 4096, 4616]⟩
abbrev S1x4096x512 : Shape := ⟨3, ![1, 4096, 512]⟩
abbrev S1x4096x4 : Shape := ⟨3, ![1, 4096, 4]⟩
abbrev S1x4096x8x64 : Shape := ⟨4, ![1, 4096, 8, 64]⟩
abbrev S1x8x4096x64 : Shape := ⟨4, ![1, 8, 4096, 64]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S4096x512 : Shape := ⟨2, ![4096, 512]⟩
abbrev S8x4096 : Shape := ⟨2, ![8, 4096]⟩
abbrev S4096x8 : Shape := ⟨2, ![4096, 8]⟩
abbrev S4096x8x64 : Shape := ⟨3, ![4096, 8, 64]⟩

abbrev nBuf : Space → Nat
  | .hbm => 105
  | .vmem => 0
  | .smem => 0
  | _ => 0

abbrev bufTy : (tb : Table) → Fin (tcTables nBuf tb) → BufTy
  | .hbm, ⟨0, _⟩ => ⟨S1x4096x4616, .f32⟩
  | .hbm, ⟨1, _⟩ => ⟨S1x4096x512, .f32⟩
  | .hbm, ⟨2, _⟩ => ⟨S1x4096x512, .f32⟩
  | .hbm, ⟨3, _⟩ => ⟨S1x4096x512, .f32⟩
  | .hbm, ⟨4, _⟩ => ⟨S1x4096x512, .f32⟩
  | .hbm, ⟨5, _⟩ => ⟨S1x4096x512, .f32⟩
  | .hbm, ⟨6, _⟩ => ⟨S1x4096x512, .f32⟩
  | .hbm, ⟨7, _⟩ => ⟨S1x4096x512, .f32⟩
  | .hbm, ⟨8, _⟩ => ⟨S1x4096x512, .f32⟩
  | .hbm, ⟨9, _⟩ => ⟨S1x4096x512, .f32⟩
  | .hbm, ⟨10, _⟩ => ⟨S1x4096x4, .f32⟩
  | .hbm, ⟨11, _⟩ => ⟨S1x4096x4, .f32⟩
  | .hbm, ⟨12, _⟩ => ⟨S1x4096x8x64, .f32⟩
  | .hbm, ⟨13, _⟩ => ⟨S1x8x4096x64, .f32⟩
  | .hbm, ⟨14, _⟩ => ⟨S1x4096x8x64, .f32⟩
  | .hbm, ⟨15, _⟩ => ⟨S1x8x4096x64, .f32⟩
  | .hbm, ⟨16, _⟩ => ⟨S1x4096x8x64, .f32⟩
  | .hbm, ⟨17, _⟩ => ⟨S1x8x4096x64, .f32⟩
  | .hbm, ⟨18, _⟩ => ⟨S1x8x4096x4096, .f32⟩
  | .hbm, ⟨19, _⟩ => ⟨S_, .f32⟩
  | .hbm, ⟨20, _⟩ => ⟨S1x8x4096x4096, .f32⟩
  | .hbm, ⟨21, _⟩ => ⟨S1x8x4096x4096, .f32⟩
  | .hbm, ⟨22, _⟩ => ⟨S4096, .i32⟩
  | .hbm, ⟨23, _⟩ => ⟨S1x4096, .i32⟩
  | .hbm, ⟨24, _⟩ => ⟨S4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S1x8x4096x4096, .f32⟩
  | .hbm, ⟨30, _⟩ => ⟨S_, .f32⟩
  | .hbm, ⟨31, _⟩ => ⟨S1x8x4096x4096, .f32⟩
  | .hbm, ⟨32, _⟩ => ⟨S1x8x4096x4096, .f32⟩
  | .hbm, ⟨33, _⟩ => ⟨S1x8x4096x4096, .f32⟩
  | .hbm, ⟨34, _⟩ => ⟨S1x8x4096x4096, .f32⟩
  | .hbm, ⟨35, _⟩ => ⟨S1x8x4096x4096, .i1⟩
  | .hbm, ⟨36, _⟩ => ⟨S1x8x4096x4096, .f32⟩
  | .hbm, ⟨37, _⟩ => ⟨S1x8x4096x4096, .f32⟩
  | .hbm, ⟨38, _⟩ => ⟨S1x8x4096x4096, .f32⟩
  | .hbm, ⟨39, _⟩ => ⟨S1x8x4096x4096, .f32⟩
  | .hbm, ⟨40, _⟩ => ⟨S1x8x4096x4096, .f32⟩
  | .hbm, ⟨41, _⟩ => ⟨S1x8x4096x4096, .f32⟩
  | .hbm, ⟨42, _⟩ => ⟨S1x8x4096x4096, .f32⟩
  | .hbm, ⟨43, _⟩ => ⟨S1x8x4096x4096, .f32⟩
  | .hbm, ⟨44, _⟩ => ⟨S1x8x4096x4096, .f32⟩
  | .hbm, ⟨45, _⟩ => ⟨S1x8x4096x4096, .f32⟩
  | .hbm, ⟨46, _⟩ => ⟨S_, .f32⟩
  | .hbm, ⟨47, _⟩ => ⟨S_, .f32⟩
  | .hbm, ⟨48, _⟩ => ⟨S1x8x4096x4096, .i1⟩
  | .hbm, ⟨49, _⟩ => ⟨S1x8x4096x4096, .f32⟩
  | .hbm, ⟨50, _⟩ => ⟨S1x8x4096x4096, .f32⟩
  | .hbm, ⟨51, _⟩ => ⟨S_, .f32⟩
  | .hbm, ⟨52, _⟩ => ⟨S_, .f32⟩
  | .hbm, ⟨53, _⟩ => ⟨S1x8x4096x4096, .f32⟩
  | .hbm, ⟨54, _⟩ => ⟨S1x8x4096x4096, .f32⟩
  | .hbm, ⟨55, _⟩ => ⟨S1x8x4096x4096, .f32⟩
  | .hbm, ⟨56, _⟩ => ⟨S1x8x4096x4096, .f32⟩
  | .hbm, ⟨57, _⟩ => ⟨S_, .f32⟩
  | .hbm, ⟨58, _⟩ => ⟨S_, .f32⟩
  | .hbm, ⟨59, _⟩ => ⟨S1x8x4096x4096, .i1⟩
  | .hbm, ⟨60, _⟩ => ⟨S1x8x4096x4096, .f32⟩
  | .hbm, ⟨61, _⟩ => ⟨S1x8x4096x4096, .f32⟩
  | .hbm, ⟨62, _⟩ => ⟨S1x8x4096x64, .f32⟩
  | .hbm, ⟨63, _⟩ => ⟨S1x4096x8x64, .f32⟩
  | .hbm, ⟨64, _⟩ => ⟨S1x4096x512, .f32⟩
  | .hbm, ⟨65, _⟩ => ⟨S1x8x4096x4096, .f32⟩
  | .hbm, ⟨66, _⟩ => ⟨S_, .f32⟩
  | .hbm, ⟨67, _⟩ => ⟨S1x8x4096x4096, .f32⟩
  | .hbm, ⟨68, _⟩ => ⟨S1x8x4096x4096, .f32⟩
  | .hbm, ⟨69, _⟩ => ⟨S4096, .i32⟩
  | .hbm, ⟨70, _⟩ => ⟨S1x4096, .i32⟩
  | .hbm, ⟨71, _⟩ => ⟨S4096, .i32⟩
  | .hbm, ⟨72, _⟩ => ⟨S4096x1, .i32⟩
  | .hbm, ⟨73, _⟩ => ⟨S4096x4096, .i32⟩
  | .hbm, ⟨74, _⟩ => ⟨S4096x4096, .i32⟩
  | .hbm, ⟨75, _⟩ => ⟨S4096x4096, .i1⟩
  | .hbm, ⟨76, _⟩ => ⟨S1x8x4096x4096, .f32⟩
  | .hbm, ⟨77, _⟩ => ⟨S_, .f32⟩
  | .hbm, ⟨78, _⟩ => ⟨S1x8x4096x4096, .f32⟩
  | .hbm, ⟨79, _⟩ => ⟨S1x8x4096x4096, .f32⟩
  | .hbm, ⟨80, _⟩ => ⟨S1x8x4096x4096, .f32⟩
  | .hbm, ⟨81, _⟩ => ⟨S1x8x4096x4096, .f32⟩
  | .hbm, ⟨82, _⟩ => ⟨S1x8x4096x4096, .i1⟩
  | .hbm, ⟨83, _⟩ => ⟨S1x8x4096x4096, .f32⟩
  | .hbm, ⟨84, _⟩ => ⟨S1x8x4096x4096, .f32⟩
  | .hbm, ⟨85, _⟩ => ⟨S1x8x4096x4096, .f32⟩
  | .hbm, ⟨86, _⟩ => ⟨S1x8x4096x4096, .f32⟩
  | .hbm, ⟨87, _⟩ => ⟨S1x8x4096x4096, .f32⟩
  | .hbm, ⟨88, _⟩ => ⟨S1x8x4096x4096, .f32⟩
  | .hbm, ⟨89, _⟩ => ⟨S1x8x4096x4096, .f32⟩
  | .hbm, ⟨90, _⟩ => ⟨S1x8x4096x4096, .f32⟩
  | .hbm, ⟨91, _⟩ => ⟨S1x8x4096x4096, .f32⟩
  | .hbm, ⟨92, _⟩ => ⟨S1x8x4096x4096, .f32⟩
  | .hbm, ⟨93, _⟩ => ⟨S_, .f32⟩
  | .hbm, ⟨94, _⟩ => ⟨S_, .f32⟩
  | .hbm, ⟨95, _⟩ => ⟨S1x8x4096x4096, .i1⟩
  | .hbm, ⟨96, _⟩ => ⟨S1x8x4096x4096, .f32⟩
  | .hbm, ⟨97, _⟩ => ⟨S1x8x4096x4096, .f32⟩
  | .hbm, ⟨98, _⟩ => ⟨S_, .f32⟩
  | .hbm, ⟨99, _⟩ => ⟨S1x8x4096, .f32⟩
  | .hbm, ⟨100, _⟩ => ⟨S4096x512, .f32⟩
  | .hbm, ⟨101, _⟩ => ⟨S8x4096, .f32⟩
  | .hbm, ⟨102, _⟩ => ⟨S4096x8, .f32⟩
  | .hbm, ⟨103, _⟩ => ⟨S4096x8x64, .f32⟩
  | .hbm, ⟨104, _⟩ => ⟨S4096x512, .f32⟩
  | _, _ => ⟨S1x4096x4616, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_cst : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v27 : Ref sig .tc := ⟨.hbm, 44, rfl⟩
abbrev main_v28 : Ref sig .tc := ⟨.hbm, 45, rfl⟩
abbrev main_cst_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v29 : Ref sig .tc := ⟨.hbm, 50, rfl⟩
abbrev main_call2_cst : Ref sig .tc := ⟨.hbm, 51, rfl⟩
abbrev main_call2_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_1 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_2 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call4_v0 : Ref sig .tc := ⟨.hbm, 76, rfl⟩
abbrev main_call4_call0_cst : Ref sig .tc := ⟨.hbm, 77, rfl⟩
abbrev main_call4_call0_v0 : Ref sig .tc := ⟨.hbm, 78, rfl⟩
abbrev main_call4_call0_v1 : Ref sig .tc := ⟨.hbm, 79, rfl⟩
abbrev main_call4_call0_v2 : Ref sig .tc := ⟨.hbm, 80, rfl⟩
abbrev main_call4_call0_v3 : Ref sig .tc := ⟨.hbm, 81, rfl⟩
abbrev main_call4_call0_v4 : Ref sig .tc := ⟨.hbm, 82, rfl⟩
abbrev main_call4_call0_v5 : Ref sig .tc := ⟨.hbm, 83, rfl⟩
abbrev main_call4_call0_v6 : Ref sig .tc := ⟨.hbm, 84, rfl⟩
abbrev main_call4_call0_v7 : Ref sig .tc := ⟨.hbm, 85, rfl⟩
abbrev main_call4_call0_v8 : Ref sig .tc := ⟨.hbm, 86, rfl⟩
abbrev main_call4_call0_v9 : Ref sig .tc := ⟨.hbm, 87, rfl⟩
abbrev main_call4_call0_v10 : Ref sig .tc := ⟨.hbm, 88, rfl⟩
abbrev main_call4_call0_v11 : Ref sig .tc := ⟨.hbm, 89, rfl⟩
abbrev main_call4_v1 : Ref sig .tc := ⟨.hbm, 90, rfl⟩
abbrev main_v48 : Ref sig .tc := ⟨.hbm, 91, rfl⟩
abbrev main_v49 : Ref sig .tc := ⟨.hbm, 92, rfl⟩
abbrev main_cst_3 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_v50 : Ref sig .tc := ⟨.hbm, 97, rfl⟩
abbrev main_cst_4 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩

abbrev nD : Nat := 1
abbrev τ : Topo := Topo.v7x

variable {F : FTy → Type} [FloatOps F]
-- ==== PrepKernel.lean ====
abbrev S1x4096x4616 : Shape := ⟨3, ![1, 4096, 4616]⟩
abbrev S1x4x1024 : Shape := ⟨3, ![1, 4, 1024]⟩
abbrev S1x1024 : Shape := ⟨2, ![1, 1024]⟩
abbrev S1x4096x4608 : Shape := ⟨3, ![1, 4096, 4608]⟩
abbrev S4096x4608 : Shape := ⟨2, ![4096, 4608]⟩
abbrev S4x1024 : Shape := ⟨2, ![4, 1024]⟩
abbrev S4096x1536 : Shape := ⟨2, ![4096, 1536]⟩
abbrev S4096x128 : Shape := ⟨2, ![4096, 128]⟩
abbrev S4x128 : Shape := ⟨2, ![4, 128]⟩
abbrev S1x128 : Shape := ⟨2, ![1, 128]⟩
abbrev S256x128 : Shape := ⟨2, ![256, 128]⟩
abbrev S8x128 : Shape := ⟨2, ![8, 128]⟩
abbrev S264x128 : Shape := ⟨2, ![264, 128]⟩

abbrev nBuf : Space → Nat
  | .hbm => 7
  | .vmem => 8
  | .smem => 0
  | _ => 0

abbrev bufTy : (tb : Table) → Fin (tcTables nBuf tb) → BufTy
  | .hbm, ⟨0, _⟩ => ⟨S1x4096x4616, .f32⟩
  | .hbm, ⟨1, _⟩ => ⟨S1x4x1024, .f32⟩
  | .hbm, ⟨2, _⟩ => ⟨S1x1024, .f32⟩
  | .hbm, ⟨3, _⟩ => ⟨S1x4096x4608, .f32⟩
  | .hbm, ⟨4, _⟩ => ⟨S4096x4608, .f32⟩
  | .hbm, ⟨5, _⟩ => ⟨S4x1024, .f32⟩
  | .hbm, ⟨6, _⟩ => ⟨S4096x1536, .bf16⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S4096x128, .bf16⟩
  | .local _ .vmem, ⟨7, _⟩ => ⟨S4096x128, .bf16⟩
  | _, _ => ⟨S1x4096x4616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c8_i32 : BitVec 32 := 8#32
  let v5 : BitVec 1 := Scalar.cmpi .slt arg0 c8_i32
  let v6 : BitVec 32 := Scalar.extui v5
  let c0_i32 : BitVec 32 := 0#32
  let v7 : BitVec 1 := Scalar.cmpi .ne v6 c0_i32
  v7

def k0_cond2 (i : grid0.Coords) : BitVec 1 :=
  let arg0 : BitVec 32 := BitVec.ofNat 32 (i 0).val
  let c8_i32_4 : BitVec 32 := 8#32
  let v8 : BitVec 1 := Scalar.cmpi .sge arg0 c8_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PrepReferenceIdeal.lean ====
abbrev S1x4096x4616 : Shape := ⟨3, ![1, 4096, 4616]⟩
abbrev S1x4x1024 : Shape := ⟨3, ![1, 4, 1024]⟩
abbrev S1x1024 : Shape := ⟨2, ![1, 1024]⟩
abbrev S1x4096x512 : Shape := ⟨3, ![1, 4096, 512]⟩
abbrev S1x4096x4 : Shape := ⟨3, ![1, 4096, 4]⟩
abbrev S1x4096x1024 : Shape := ⟨3, ![1, 4096, 1024]⟩
abbrev S4x1024 : Shape := ⟨2, ![4, 1024]⟩
abbrev S1024 : Shape := ⟨1, ![1024]⟩
abbrev S_ : Shape := ⟨0, ![]⟩
abbrev S1x4099x1024 : Shape := ⟨3, ![1, 4099, 1024]⟩
abbrev S1x1x1024 : Shape := ⟨3, ![1, 1, 1024]⟩
abbrev S1x4096x1536 : Shape := ⟨3, ![1, 4096, 1536]⟩
abbrev S4096x1536 : Shape := ⟨2, ![4096, 1536]⟩

abbrev nBuf : Space → Nat
  | .hbm => 67
  | .vmem => 0
  | .smem => 0
  | _ => 0

abbrev bufTy : (tb : Table) → Fin (tcTables nBuf tb) → BufTy
  | .hbm, ⟨0, _⟩ => ⟨S1x4096x4616, .f32⟩
  | .hbm, ⟨1, _⟩ => ⟨S1x4x1024, .f32⟩
  | .hbm, ⟨2, _⟩ => ⟨S1x1024, .f32⟩
  | .hbm, ⟨3, _⟩ => ⟨S1x4096x512, .f32⟩
  | .hbm, ⟨4, _⟩ => ⟨S1x4096x512, .f32⟩
  | .hbm, ⟨5, _⟩ => ⟨S1x4096x512, .f32⟩
  | .hbm, ⟨6, _⟩ => ⟨S1x4096x512, .f32⟩
  | .hbm, ⟨7, _⟩ => ⟨S1x4096x512, .f32⟩
  | .hbm, ⟨8, _⟩ => ⟨S1x4096x512, .f32⟩
  | .hbm, ⟨9, _⟩ => ⟨S1x4096x512, .f32⟩
  | .hbm, ⟨10, _⟩ => ⟨S1x4096x512, .f32⟩
  | .hbm, ⟨11, _⟩ => ⟨S1x4096x512, .f32⟩
  | .hbm, ⟨12, _⟩ => ⟨S1x4096x4, .f32⟩
  | .hbm, ⟨13, _⟩ => ⟨S1x4096x4, .f32⟩
  | .hbm, ⟨14, _⟩ => ⟨S1x4096x1024, .f32⟩
  | .hbm, ⟨15, _⟩ => ⟨S4x1024, .f32⟩
  | .hbm, ⟨16, _⟩ => ⟨S1024, .f32⟩
  | .hbm, ⟨17, _⟩ => ⟨S_, .i32⟩
  | .hbm, ⟨18, _⟩ => ⟨S_, .f32⟩
  | .hbm, ⟨19, _⟩ => ⟨S1x4099x1024, .f32⟩
  | .hbm, ⟨20, _⟩ => ⟨S1x1024, .f32⟩
  | .hbm, ⟨21, _⟩ => ⟨S1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1x1x1024, .f32⟩
  | .hbm, ⟨27, _⟩ => ⟨S1x4096x1024, .f32⟩
  | .hbm, ⟨28, _⟩ => ⟨S1x4096x1024, .f32⟩
  | .hbm, ⟨29, _⟩ => ⟨S1x1024, .f32⟩
  | .hbm, ⟨30, _⟩ => ⟨S1024, .f32⟩
  | .hbm, ⟨31, _⟩ => ⟨S1x4096x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S1x1024, .f32⟩
  | .hbm, ⟨37, _⟩ => ⟨S1024, .f32⟩
  | .hbm, ⟨38, _⟩ => ⟨S1x4096x1024, .f32⟩
  | .hbm, ⟨39, _⟩ => ⟨S1x1x1024, .f32⟩
  | .hbm, ⟨40, _⟩ => ⟨S1x4096x1024, .f32⟩
  | .hbm, ⟨41, _⟩ => ⟨S1x4096x1024, .f32⟩
  | .hbm, ⟨42, _⟩ => ⟨S1x4096x1024, .f32⟩
  | .hbm, ⟨43, _⟩ => ⟨S1x1024, .f32⟩
  | .hbm, ⟨44, _⟩ => ⟨S1024, .f32⟩
  | .hbm, ⟨45, _⟩ => ⟨S1x4096x1024, .f32⟩
  | .hbm, ⟨46, _⟩ => ⟨S1x1x1024, .f32⟩
  | .hbm, ⟨47, _⟩ => ⟨S1x4096x1024, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S_, .f32⟩
  | .hbm, ⟨53, _⟩ => ⟨S1x4096x1024, .f32⟩
  | .hbm, ⟨54, _⟩ => ⟨S1x4096x1024, .f32⟩
  | .hbm, ⟨55, _⟩ => ⟨S_, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S1x4096x512, .f32⟩
  | .hbm, ⟨60, _⟩ => ⟨S1x4096x512, .f32⟩
  | .hbm, ⟨61, _⟩ => ⟨S_, .f32⟩
  | .hbm, ⟨62, _⟩ => ⟨S1x4096x512, .f32⟩
  | .hbm, ⟨63, _⟩ => ⟨S1x4096x512, .f32⟩
  | .hbm, ⟨64, _⟩ => ⟨S1x4096x1536, .f32⟩
  | .hbm, ⟨65, _⟩ => ⟨S4096x1536, .f32⟩
  | .hbm, ⟨66, _⟩ => ⟨S4096x1536, .bf16⟩
  | _, _ => ⟨S1x4096x4616, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== ProjKernel.lean ====
abbrev S1x4096x1024 : Shape := ⟨3, ![1, 4096, 1024]⟩
abbrev S1x1024 : Shape := ⟨2, ![1, 1024]⟩
abbrev S1x1024x4616 : Shape := ⟨3, ![1, 1024, 4616]⟩
abbrev S1024x4616 : Shape := ⟨2, ![1024, 4616]⟩
abbrev S4616x1024 : Shape := ⟨2, ![4616, 1024]⟩
abbrev S8x1024 : Shape := ⟨2, ![8, 1024]⟩
abbrev S_ : Shape := ⟨0, ![]⟩
abbrev S128x1024 : Shape := ⟨2, ![128, 1024]⟩
abbrev S4096x1024 : Shape := ⟨2, ![4096, 1024]⟩
abbrev S4096x4608 : Shape := ⟨2, ![4096, 4608]⟩
abbrev S4096x128 : Shape := ⟨2, ![4096, 128]⟩
abbrev S1024x1024 : Shape := ⟨2, ![1024, 1024]⟩
abbrev S1152x1024 : Shape := ⟨2, ![1152, 1024]⟩
abbrev S1024x1152 : Shape := ⟨2, ![1024, 1152]⟩
abbrev S1024x128 : Shape := ⟨2, ![1024, 128]⟩
abbrev S1024 : Shape := ⟨1, ![1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4616, .f32⟩
  | .hbm, ⟨3, _⟩ => ⟨S1024x4616, .f32⟩
  | .hbm, ⟨4, _⟩ => ⟨S4616x1024, .f32⟩
  | .hbm, ⟨5, _⟩ => ⟨S4616x1024, .bf16⟩
  | .hbm, ⟨6, _⟩ => ⟨S8x1024, .bf16⟩
  | .hbm, ⟨7, _⟩ => ⟨S_, .i32⟩
  | .hbm, ⟨8, _⟩ => ⟨S_, .bf16⟩
  | .hbm, ⟨9, _⟩ => ⟨S128x1024, .bf16⟩
  | .hbm, ⟨10, _⟩ => ⟨S4096x1024, .f32⟩
  | .hbm, ⟨11, _⟩ => ⟨S4096x4608, .f32⟩
  | .hbm, ⟨12, _⟩ => ⟨S4096x128, .f32⟩
  | .hbm, ⟨13, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1152x1024, .bf16⟩
  | .local _ .vmem, ⟨4, _⟩ => ⟨S1152x1024, .bf16⟩
  | .local _ .vmem, ⟨5, _⟩ => ⟨S128x1024, .bf16⟩
  | .local _ .vmem, ⟨6, _⟩ => ⟨S1024x1152, .f32⟩
  | .local _ .vmem, ⟨7, _⟩ => ⟨S1024x1152, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ProjReferenceIdeal.lean ====
abbrev S1x4096x1024 : Shape := ⟨3, ![1, 4096, 1024]⟩
abbrev S1x1024 : Shape := ⟨2, ![1, 1024]⟩
abbrev S1x1024x4616 : Shape := ⟨3, ![1, 1024, 4616]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4616 : Shape := ⟨2, ![1024, 4616]⟩
abbrev S1x4096x4616 : Shape := ⟨3, ![1, 4096, 4616]⟩
abbrev S1x4096x8 : Shape := ⟨3, ![1, 4096, 8]⟩
abbrev S4096x8 : Shape := ⟨2, ![4096, 8]⟩
abbrev S4096x128 : Shape := ⟨2, ![4096, 128]⟩
abbrev S1x4096x4608 : Shape := ⟨3, ![1, 4096, 4608]⟩
abbrev S4096x4608 : Shape := ⟨2, ![4096, 4608]⟩
abbrev S4096x1024 : Shape := ⟨2, ![4096, 1024]⟩

abbrev nBuf : Space → Nat
  | .hbm => 31
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4616, .f32⟩
  | .hbm, ⟨3, _⟩ => ⟨S1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1024x4616, .f32⟩
  | .hbm, ⟨21, _⟩ => ⟨S1x4096x4616, .f32⟩
  | .hbm, ⟨22, _⟩ => ⟨S1x4096x8, .f32⟩
  | .hbm, ⟨23, _⟩ => ⟨S4096x8, .f32⟩
  | .hbm, ⟨24, _⟩ => ⟨S_, .i32⟩
  | .hbm, ⟨25, _⟩ => ⟨S_, .f32⟩
  | .hbm, ⟨26, _⟩ => ⟨S4096x128, .f32⟩
  | .hbm, ⟨27, _⟩ => ⟨S1x4096x4608, .f32⟩
  | .hbm, ⟨28, _⟩ => ⟨S4096x4608, .f32⟩
  | .hbm, ⟨29, _⟩ => ⟨S4096x1024, .f32⟩
  | .hbm, ⟨30, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Reals.lean ====
module

public import Idealize.ShloMosaic.Lib.Pointwise
public import Idealize.ShloMosaic.Lib.IdealHost

/-! Real numbers among the extended reals: which operations keep a value real, and the real values of the literals that
the programs of this directory share. -/

@[expose] public section
noncomputable section

namespace Cert.Reals
open Idealize.ShloMosaic

/-- The extended real `x` is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
/-- A finite sum of reals, taken among the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem IsReal.sum {ι : Type*} (s : Finset ι) {f : ι → EReal} (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A family of real values is a family of real numbers. -/
theorem exists_real {ι : Type*} {f : ι → EReal} (h : ∀ i, IsReal (f i)) : ∃ g : ι → ℝ, f = fun i => (g i : EReal) := by
  choose g hg using h
  exact ⟨g, funext hg⟩

/-- The quotient of reals by a real that is not zero. -/
theorem div_real {a b : ℝ} (hb : b ≠ 0) : Ideal.div (a : EReal) (b : EReal) = ((a / b : ℝ) : EReal) := by
  rw [Ideal.div_coe hb, ← EReal.coe_mul, mul_one_div]

/-- The reciprocal square root of a positive real. -/
theorem rsqrt_real {a : ℝ} (ha : 0 < a) : Ideal.rsqrt (a : EReal) = (((Real.sqrt a)⁻¹ : ℝ) : EReal) := by
  rw [Ideal.rsqrt_coe, if_neg (not_lt.2 ha.le), if_neg ha.ne']

/-- Absolute value below infinity, as the predicates spell it, says that the value is real. -/
theorem isReal_of_abs_lt {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have hlt : max x (-x) < ⊤ := by
    by_contra hc
    simp [Ideal.cmp, hc] at h
  induction x using EReal.rec with
  | bot => simp at hlt
  | coe r => exact ⟨r, rfl⟩
  | top => simp at hlt

theorem bits_1024 : Ideal.ofBits .f32 0x44800000#32 = ((1024 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul, -EReal.coe_neg]; norm_num
/-- The literal 10⁻⁶ of the norms is a positive real. -/
theorem bits_eps : ∃ e : ℝ, 0 < e ∧ Ideal.ofBits .f32 0x358637BD#32 = (e : EReal) := by
  refine ⟨(2 ^ 23 + 407485 : ℕ) * (2 : ℝ) ^ (-43 : ℤ), by positivity, ?_⟩
  simp [Ideal.ofBits, Ideal.ieee, -EReal.coe_mul]

end Cert.Reals
end
-- ==== Proof.InMath.lean ====
module

public import proofs.«01_k».proof.Proof.Gen.InKernelIdeal.Skeleton
public import proofs.«01_k».proof.Proof.Gen.InReferenceIdeal.Read
public import proofs.«01_k».proof.Proof.Reals

/-! The arithmetic of the in-projection's backward call: what the kernel's payloads and the reference compute at an
index, and why the two agree on real arguments. -/

@[expose] public section
set_option maxRecDepth 16384
noncomputable section

namespace Cert.InProof
open Idealize.ShloMosaic Idealize.ShloMosaic.TcCoe Idealize.SL.Sem Cert.Reals

/-- The reciprocal root mean square of a row. -/
def rms (x : Fin 1024 → EReal) : EReal :=
  Ideal.rsqrt (Ideal.div (∑ k, x k * x k) (Ideal.ofBits .f32 0x44800000#32) + Ideal.ofBits .f32 0x358637BD#32)

/-- The kernel's gradient of a row through the norm, at lane `l`. -/
def gradK (x du w : Fin 1024 → EReal) (l : Fin 1024) : EReal :=
  rms x * (du l * w l - x l * rms x
    * Ideal.div (∑ k, du k * w k * (x k * rms x)) (Ideal.ofBits .f32 0x44800000#32))

/-- The derivative of the row's mean square, as the reference's transposed program has it. -/
def msR (x du w : Fin 1024 → EReal) : EReal :=
  Ideal.div ((∑ k, x k * (du k * w k)) * (Ideal.ofBits .f32 0xBF000000#32
    * Ideal.div (rms x) (Ideal.div (∑ k, x k * x k) (Ideal.ofBits .f32 0x44800000#32) + Ideal.ofBits .f32 0x358637BD#32)))
    (Ideal.ofBits .f32 0x44800000#32)

/-- The gradient through the norm: the kernel's closed form is the reference's three terms. -/
theorem grad_eq (x du w : Fin 1024 → EReal) (hx : ∀ k, IsReal (x k)) (hd : ∀ k, IsReal (du k)) (hw : ∀ k, IsReal (w k))
    (dt : EReal) (l : Fin 1024) :
    dt + gradK x du w l = dt + du l * w l * rms x + x l * msR x du w + msR x du w * x l := by
  obtain ⟨X, rfl⟩ := exists_real hx
  obtain ⟨D, rfl⟩ := exists_real hd
  obtain ⟨W, rfl⟩ := exists_real hw
  obtain ⟨e, he, hb⟩ := bits_eps
  rw [add_assoc, add_assoc]
  congr 1
  have hq : 0 ≤ ∑ k, X k * X k := Finset.sum_nonneg fun k _ => mul_self_nonneg _
  have hm : 0 < (∑ k, X k * X k) / 1024 + e := by positivity
  have hr : rms (fun k => (X k : EReal)) = (((Real.sqrt ((∑ k, X k * X k) / 1024 + e))⁻¹ : ℝ) : EReal) := by
    unfold rms
    rw [bits_1024, hb]
    simp only [← EReal.coe_mul, ← coe_sum]
    rw [div_real (by norm_num), ← EReal.coe_add, rsqrt_real hm]
  have hs : (Real.sqrt ((∑ k, X k * X k) / 1024 + e))⁻¹ * (Real.sqrt ((∑ k, X k * X k) / 1024 + e))⁻¹
      = ((∑ k, X k * X k) / 1024 + e)⁻¹ := by
    rw [← mul_inv, Real.mul_self_sqrt hm.le]
  unfold gradK msR
  rw [hr]
  rw [bits_1024, bits_neg_half, hb]
  generalize Real.sqrt ((∑ k, X k * X k) / 1024 + e) = q at hs
  simp only [← EReal.coe_mul, ← coe_sum]
  rw [div_real (by norm_num : (1024 : ℝ) ≠ 0), div_real (by norm_num : (1024 : ℝ) ≠ 0), ← EReal.coe_add,
    div_real hm.ne']
  generalize (∑ k, X k * X k) / 1024 + e = M at hs hm
  simp only [← EReal.coe_mul, ← coe_sum]
  rw [div_real (by norm_num : (1024 : ℝ) ≠ 0)]
  simp only [← EReal.coe_mul, ← EReal.coe_sub, ← EReal.coe_add]
  congr 1
  have e1 : ∑ k, D k * W k * (X k * q⁻¹) = (∑ k, X k * (D k * W k)) * q⁻¹ := by
    rw [Finset.sum_mul]; exact Finset.sum_congr rfl fun k _ => by ring
  rw [e1]
  generalize ∑ k, X k * (D k * W k) = S
  rw [div_eq_mul_inv q⁻¹ M, ← hs]
  ring

section Kernel
open Cert.InKernelIdeal Cert.InKernelIdeal.Gen

theorem pay1_at (a : FVec Ideal S1024x128 .bf16) (b : FVec Ideal S128x1024 .bf16) (r l : Fin 1024) :
    k0_pay1 (F := Ideal) a b (ix2 r l) = ∑ k : Fin 128, a (ix2 r k) * b (ix2 k l) := by
  pointwise [k0_pay1]

theorem pay2_at (acc : FVec Ideal S1024x1024 .f32) (a : FVec Ideal S1024x1152 .bf16) (b : FVec Ideal S1152x1024 .bf16)
    (r l : Fin 1024) :
    k0_pay2 (F := Ideal) acc a b (ix2 r l) = acc (ix2 r l) + ∑ k : Fin 1152, a (ix2 r k) * b (ix2 k l) := by
  pointwise [k0_pay2]

theorem pay7_at (x acc : FVec Ideal S1024x1024 .f32) (w : FVec Ideal S1x1024 .f32) (dt : FVec Ideal S1024x1024 .f32)
    (r l : Fin 1024) :
    k0_pay7 (F := Ideal) x acc w dt (ix2 r l)
      = dt (ix2 r l) + gradK (fun k => x (ix2 r k)) (fun k => acc (ix2 r k)) (fun k => w (ix2 0 k)) l := by
  pointwise [k0_pay7, k0_pay6, k0_pay5, k0_pay4, gradK, rms]

theorem pay8_at (x acc : FVec Ideal S1024x1024 .f32) (l : Fin 1024) :
    k0_pay8 (F := Ideal) x acc (ix2 0 l)
      = ∑ r : Fin 1024, acc (ix2 r l) * (x (ix2 r l) * rms (fun k => x (ix2 r k))) := by
  pointwise [k0_pay8, k0_pay6, k0_pay5, k0_pay4, rms]

theorem pay3_at (x acc : FVec Ideal S1x1024 .f32) (l : Fin 1024) :
    k0_pay3 (F := Ideal) x acc (ix2 0 l) = acc (ix2 0 l) + x (ix2 0 l) := by
  pointwise [k0_pay3]

end Kernel

section Reference
open Cert.InReferenceIdeal Cert.InReferenceIdeal.Read

/-- A sum over axes of size one is the one element. -/
theorem red_rows (h : S1x4096x1.ReducesTo [0, 2] S4096) (x : S1x4096x1.Idx → EReal) (r : Fin 4096) :
    Ideal.hostReduceAdd h x 0 (ix1 r) = x (ix3 0 r 0) := by
  have hf : ∀ i : S1x4096x1.Idx, h.drop i = ix1 r ↔ ∃ _ : Unit, ix3 0 r 0 = i := fun i => by
    constructor
    · intro e
      refine ⟨(), ?_⟩
      have h1 : (h.drop i 0 : ℕ) = i 1 := rfl
      rw [e] at h1
      idx_vars i
      have : r = i1 := Fin.ext h1
      subst this
      idx_ext <;> omega
    · rintro ⟨_, rfl⟩
      funext b; apply Fin.ext
      match b with
      | ⟨0, _⟩ => rfl
  unfold Ideal.hostReduceAdd
  rw [Finset.sum_filter_eq_sum_of_fiber _ (fun _ : Unit => ix3 0 r 0) (fun _ _ _ => rfl) hf]
  simp

theorem red_lanes (h : S1x1x1024.ReducesTo [0, 1] S1024) (x : S1x1x1024.Idx → EReal) (l : Fin 1024) :
    Ideal.hostReduceAdd h x 0 (ix1 l) = x (ix3 0 0 l) := by
  have hf : ∀ i : S1x1x1024.Idx, h.drop i = ix1 l ↔ ∃ _ : Unit, ix3 0 0 l = i := fun i => by
    constructor
    · intro e
      refine ⟨(), ?_⟩
      have h1 : (h.drop i 0 : ℕ) = i 2 := rfl
      rw [e] at h1
      idx_vars i
      have : l = i2 := Fin.ext h1
      subst this
      idx_ext <;> omega
    · rintro ⟨_, rfl⟩
      funext b; apply Fin.ext
      match b with
      | ⟨0, _⟩ => rfl
  unfold Ideal.hostReduceAdd
  rw [Finset.sum_filter_eq_sum_of_fiber _ (fun _ : Unit => ix3 0 0 l) (fun _ _ _ => rfl) hf]
  simp

/-- The gradient that reaches the norm's output, at row `r` and lane `l`. -/
def duR (W : FVec Ideal S1x1024x4616 .f32) (D : FVec Ideal S1x4096x4616 .f32) (r : Fin 4096) (l : Fin 1024) : EReal :=
  ∑ k : Fin 4616, D (ix3 0 r k) * W (ix3 0 l k)

theorem ref_gpw (x : FVec Ideal S1x4096x1024 .f32) (W : FVec Ideal S1x1024x4616 .f32) (D : FVec Ideal S1x4096x4616 .f32)
    (l : Fin 1024) :
    val_main_v26 (F := Ideal) x W D (ix2 0 l)
      = ∑ r : Fin 4096, x (ix3 0 r l) * rms (fun k => x (ix3 0 r k)) * duR W D r l := by
  pointwise [val_main_v0, val_main_cst, val_main_v1, val_main_v2, val_main_cst_0, val_main_v3, val_main_v4, val_main_cst_1,
    val_main_v5, val_main_v6, val_main_v7, val_main_v11, val_main_v12, val_main_v17, val_main_v19, val_main_v20,
    val_main_cst_3, val_main_v21, val_main_v22, val_main_cst_4, val_main_v25, val_main_v26, red_lanes, rms, duR]

theorem ref_dx (x : FVec Ideal S1x4096x1024 .f32) (w : FVec Ideal S1x1024 .f32) (W : FVec Ideal S1x1024x4616 .f32)
    (D : FVec Ideal S1x4096x4616 .f32) (dh : FVec Ideal S1x4096x1024 .f32) (r : Fin 4096) (l : Fin 1024) :
    val_main_v43 (F := Ideal) x w W D dh (ix2 r l)
      = dh (ix3 0 r l) + duR W D r l * w (ix2 0 l) * rms (fun k => x (ix3 0 r k))
        + x (ix3 0 r l) * msR (fun k => x (ix3 0 r k)) (duR W D r) (fun k => w (ix2 0 k))
        + msR (fun k => x (ix3 0 r k)) (duR W D r) (fun k => w (ix2 0 k)) * x (ix3 0 r l) := by
  pointwise [val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v13, val_main_v14, val_main_v17, val_main_v19, val_main_v23, val_main_v24, val_main_v27, val_main_cst_5,
    val_main_v28, val_main_v29, val_main_v30, val_main_v31, val_main_v32, val_main_v33, val_main_cst_6, val_main_v34,
    val_main_v35, val_main_cst_7, val_main_v36, val_main_v37, val_main_v38, val_main_v39, val_main_v40, val_main_v41,
    val_main_v42, val_main_v43, red_rows, rms, duR, msR]

end Reference
end Cert.InProof
end
-- ==== Proof.InBlk.lean ====
module

public import proofs.«01_k».proof.Proof.InMath
public import proofs.«01_k».proof.Proof.Gen.InKernelIdeal.Value
public import Idealize.ShloMosaic.Lib.Pipeline.ValueKit
public import Idealize.ShloMosaic.Lib.Claim
public import Idealize.ShloMosaic.Lib.StableHlo.ReadAt

/-! What the in-projection's backward kernel leaves in its two results, as functions of the arguments. -/

@[expose] public section
set_option maxRecDepth 16384
noncomputable section

namespace Cert.InProof
open Idealize.ShloMosaic Idealize.ShloMosaic.TcCoe Idealize.SL.Sem Cert.Reals
open Cert.InKernelIdeal Cert.InKernelIdeal.Gen

variable (m : (ℓ : Loc nD τ sig) → Buf (Elt Ideal) ℓ)

abbrev argX (c : Dev nD) : FVec Ideal S1x4096x1024 .f32 := m ((c : Thread nD τ).loc main_arg0)
abbrev argP (c : Dev nD) : FVec Ideal S1x1024 .f32 := m ((c : Thread nD τ).loc main_arg1)
abbrev argW (c : Dev nD) : FVec Ideal S1x1024x4616 .f32 := m ((c : Thread nD τ).loc main_arg2)
abbrev argD (c : Dev nD) : FVec Ideal S1x4096x4616 .f32 := m ((c : Thread nD τ).loc main_arg3)
abbrev argH (c : Dev nD) : FVec Ideal S1x4096x1024 .f32 := m ((c : Thread nD τ).loc main_arg4)

/-- The index maps of the windows, decided over the grid. -/
theorem idx : ∀ t : Fin cfg0.N, win0_0.index t = ![t.val / 4, t.val % 4] ∧ win0_1.index t = ![t.val / 4, 0]
    ∧ win0_2.index t = ![t.val % 4, 0] ∧ win0_3.index t = ![0, 0] ∧ win0_4.index t = ![t.val / 4, 0]
    ∧ win0_5.index t = ![0, 0] ∧ win0_6.index t = ![t.val / 4, 0] :=
  (by decide +kernel : ∀ t : Fin grid0.N, _)

theorem zero_f32 : (Scalar.sitofp FTy.f32 0#32 : Ideal .f32) = 0 := by
  show ((((0#32 : BitVec 32).toInt : ℤ) : ℝ) : EReal) = 0
  simp

theorem zero_bf16 : (Scalar.sitofp FTy.bf16 0#32 : Ideal .bf16) = 0 := by
  show ((((0#32 : BitVec 32).toInt : ℤ) : ℝ) : EReal) = 0
  simp

theorem e7 (c : Dev nD) (i : Fin 4096) (l : Fin 4608) :
    (show FVec Ideal S4096x4608 .bf16 from V m c main_v7) (ix2 i l) = argD m c (ix3 0 i ⟨l, by omega⟩) := by
  unfold V
  simp only [List.flatten_cons, List.flatten_nil, List.append_nil, List.cons_append, List.nil_append]
  after_reads_at

theorem e11 (c : Dev nD) (i : Fin 4096) (k : Fin 128) :
    (show FVec Ideal S4096x128 .bf16 from V m c main_v11) (ix2 i k) = if h : k.val < 8 then argD m c (ix3 0 i ⟨4608 + k, by omega⟩) else 0 := by
  unfold V
  simp only [List.flatten_cons, List.flatten_nil, List.append_nil, List.cons_append, List.nil_append]
  after_reads_at
  exact dite_congr rfl (fun _ => rfl) fun _ => zero_f32

theorem e2 (c : Dev nD) (l : Fin 4616) (r : Fin 1024) :
    (show FVec Ideal S4616x1024 .bf16 from V m c main_v2) (ix2 l r) = argW m c (ix3 0 r l) := by
  unfold V
  simp only [List.flatten_cons, List.flatten_nil, List.append_nil, List.cons_append, List.nil_append]
  after_reads_at

theorem e4 (c : Dev nD) (k : Fin 128) (r : Fin 1024) :
    (show FVec Ideal S128x1024 .bf16 from V m c main_v4) (ix2 k r) = if h : k.val < 8 then argW m c (ix3 0 r ⟨4608 + k, by omega⟩) else 0 := by
  unfold V
  simp only [List.flatten_cons, List.flatten_nil, List.append_nil, List.cons_append, List.nil_append]
  after_reads_at
  exact dite_congr rfl (fun _ => rfl) fun _ => zero_bf16

theorem e12 (c : Dev nD) (i : Fin 4096) (l : Fin 1024) :
    (show FVec Ideal S4096x1024 .f32 from V m c main_v12) (ix2 i l) = argX m c (ix3 0 i l) := by
  unfold V
  simp only [List.flatten_cons, List.flatten_nil, List.append_nil, List.cons_append, List.nil_append]
  after_reads_at

theorem e13 (c : Dev nD) (i : Fin 4096) (l : Fin 1024) :
    (show FVec Ideal S4096x1024 .f32 from V m c main_v13) (ix2 i l) = argH m c (ix3 0 i l) := by
  unfold V
  simp only [List.flatten_cons, List.flatten_nil, List.append_nil, List.cons_append, List.nil_append]
  after_reads_at

theorem blk0 (c : Dev nD) (t : Fin cfg0.N) (r : Fin 1024) (k : Fin 1152) (i : Fin 4096) (l : Fin 4608)
    (hi : (i : ℕ) = t.val / 4 * 1024 + r) (hl : (l : ℕ) = t.val % 4 * 1152 + k) :
    (show FVec Ideal S1024x1152 .bf16 from iblk m c 0 t) (ix2 r k) = argD m c (ix3 0 i ⟨l, by omega⟩) := by
  obtain ⟨x0, x1, x2, x3, x4, x5, x6⟩ := idx t
  have he : (win0_0.blk t).view.emb (ix2 r k) = ix2 i l := by blk_ext [x0]
  blk_simp [iblk]
  rw [he]
  exact e7 m c i l

theorem blk1 (c : Dev nD) (t : Fin cfg0.N) (r : Fin 1024) (k : Fin 128) (i : Fin 4096)
    (hi : (i : ℕ) = t.val / 4 * 1024 + r) :
    (show FVec Ideal S1024x128 .bf16 from iblk m c 1 t) (ix2 r k) = if h : k.val < 8 then argD m c (ix3 0 i ⟨4608 + k, by omega⟩) else 0 := by
  obtain ⟨x0, x1, x2, x3, x4, x5, x6⟩ := idx t
  have he : (win0_1.blk t).view.emb (ix2 r k) = ix2 i k := by blk_ext [x1]
  blk_simp [iblk]
  rw [he]
  exact e11 m c i k

theorem blk3 (c : Dev nD) (t : Fin cfg0.N) (k : Fin 128) (r : Fin 1024) :
    (show FVec Ideal S128x1024 .bf16 from iblk m c 3 t) (ix2 k r) = if h : k.val < 8 then argW m c (ix3 0 r ⟨4608 + k, by omega⟩) else 0 := by
  obtain ⟨x0, x1, x2, x3, x4, x5, x6⟩ := idx t
  have he : (win0_3.blk t).view.emb (ix2 k r) = ix2 k r := by blk_ext [x3]
  blk_simp [iblk]
  rw [he]
  exact e4 m c k r

theorem blk4 (c : Dev nD) (t : Fin cfg0.N) (r : Fin 1024) (k : Fin 1024) (i : Fin 4096)
    (hi : (i : ℕ) = t.val / 4 * 1024 + r) :
    (show FVec Ideal S1024x1024 .f32 from iblk m c 4 t) (ix2 r k) = argX m c (ix3 0 i k) := by
  obtain ⟨x0, x1, x2, x3, x4, x5, x6⟩ := idx t
  have he : (win0_4.blk t).view.emb (ix2 r k) = ix2 i k := by blk_ext [x4]
  blk_simp [iblk]
  rw [he]
  exact e12 m c i k

theorem blk6 (c : Dev nD) (t : Fin cfg0.N) (r : Fin 1024) (k : Fin 1024) (i : Fin 4096)
    (hi : (i : ℕ) = t.val / 4 * 1024 + r) :
    (show FVec Ideal S1024x1024 .f32 from iblk m c 6 t) (ix2 r k) = argH m c (ix3 0 i k) := by
  obtain ⟨x0, x1, x2, x3, x4, x5, x6⟩ := idx t
  have he : (win0_6.blk t).view.emb (ix2 r k) = ix2 i k := by blk_ext [x6]
  blk_simp [iblk]
  rw [he]
  exact e13 m c i k

theorem blk5 (c : Dev nD) (t : Fin cfg0.N) (k : Fin 1024) :
    (show FVec Ideal S1x1024 .f32 from iblk m c 5 t) (ix2 0 k) = argP m c (ix2 0 k) := by
  obtain ⟨x0, x1, x2, x3, x4, x5, x6⟩ := idx t
  blk_ext [iblk, V, x5]

theorem uncut2 : ∀ t : Fin cfg0.N, ∀ a, (cfg0.win 2).clip (cfg0.grid.coords t) a = none :=
  (by decide +kernel : ∀ t : Fin grid0.N, ∀ a, win0_2.clip (grid0.coords t) a = none)

theorem blk2 (c : Dev nD) (t : Fin cfg0.N) (k : Fin 1152) (r : Fin 1024) (l : Fin 4616)
    (hl : (l : ℕ) = t.val % 4 * 1152 + k) :
    X0_2 m c t (ix2 k r) = argW m c (ix3 0 r l) := by
  obtain ⟨x0, x1, x2, x3, x4, x5, x6⟩ := idx t
  have hm : (cfg0.win 2).moved (cfg0.grid.coords t) (ix2 k r) = true :=
    ((cfg0.win 2).moved_iff _ _).mpr fun a => by
      have := ((ix2 k r : S1152x1024.Idx) a).isLt; unfold Pipeline.Window.xsize; rw [uncut2 t a]; exact this
  unfold X0_2 Pipeline.Window.fill
  rw [dif_pos hm]
  blk_simp [iblk]
  refine (congrArg (V m c main_v2) ?_).trans (e2 m c l r)
  blk_ext [x2]

end Cert.InProof
end
-- ==== Proof.InValue.lean ====
module

public import proofs.«01_k».proof.Proof.InBlk
public import Idealize.ShloMosaic.Lib.Pipeline.ReadBack

/-! What the in-projection's backward kernel leaves in its two results, as functions of the arguments. -/

@[expose] public section
set_option maxRecDepth 16384
noncomputable section

namespace Cert.InProof
open Idealize.ShloMosaic Idealize.ShloMosaic.TcCoe Idealize.SL.Sem Cert.Reals
open Cert.InKernelIdeal Cert.InKernelIdeal.Gen

variable (m : (ℓ : Loc nD τ sig) → Buf (Elt Ideal) ℓ)

/-- The accumulator after the product of point `t`, from the one before it. -/
abbrev stepAcc (c : Dev nD) (t : Fin cfg0.N) (a : FVec Ideal S1024x1024 .f32) : FVec Ideal S1024x1024 .f32 :=
  k0_pay2 (F := Ideal) a (iblk m c 0 t) (X0_2 m c t)

theorem accA (c : Dev nD) (t : Fin cfg0.N) (h0 : t.val % 4 = 0) (h1 : ¬t.val % 4 = 3) :
    (outsAt0 m c t.val t.isLt).2.2 = stepAcc m c t (k0_pay1 (F := Ideal) (iblk m c 1 t) (iblk m c 3 t)) := by
  rw [outsAt0_A m c t h0 h1]
  frame_out
theorem carryA (c : Dev nD) (t p : Fin cfg0.N) (hp : p.val + 1 = t.val) (h0 : t.val % 4 = 0) (h1 : ¬t.val % 4 = 3) :
    (outsAt0 m c t.val t.isLt).2.1 = (outsAt0 m c p.val p.isLt).2.1 := by
  obtain ⟨p, hpl⟩ := p
  obtain rfl : p = t.val - 1 := by simp only at hp; omega
  rw [outsAt0_A m c t h0 h1]
  rfl
theorem accB (c : Dev nD) (t p : Fin cfg0.N) (hp : p.val + 1 = t.val) (h0 : ¬t.val % 4 = 0) (h1 : ¬t.val % 4 = 3) :
    (outsAt0 m c t.val t.isLt).2.2 = stepAcc m c t (outsAt0 m c p.val p.isLt).2.2 := by
  obtain ⟨p, hpl⟩ := p
  obtain rfl : p = t.val - 1 := by simp only at hp; omega
  rw [outsAt0_B m c t h0 h1]
  frame_out
  rw [read_unread_whole]
theorem carryB (c : Dev nD) (t p : Fin cfg0.N) (hp : p.val + 1 = t.val) (h0 : ¬t.val % 4 = 0) (h1 : ¬t.val % 4 = 3) :
    (outsAt0 m c t.val t.isLt).2.1 = (outsAt0 m c p.val p.isLt).2.1 := by
  obtain ⟨p, hpl⟩ := p
  obtain rfl : p = t.val - 1 := by simp only at hp; omega
  rw [outsAt0_B m c t h0 h1]
  rfl
theorem outC (c : Dev nD) (t p : Fin cfg0.N) (hp : p.val + 1 = t.val) (h0 : ¬t.val % 4 = 0) (h1 : t.val % 4 = 3) (h2 : t.val < 4) (h3 : ¬4 ≤ t.val) :
    (outsAt0 m c t.val t.isLt).1 = k0_pay7 (F := Ideal) (iblk m c 4 t) (stepAcc m c t (outsAt0 m c p.val p.isLt).2.2) (iblk m c 5 t) (iblk m c 6 t)
     ∧ (outsAt0 m c t.val t.isLt).2.1 = k0_pay8 (F := Ideal) (iblk m c 4 t) (stepAcc m c t (outsAt0 m c p.val p.isLt).2.2) := by
  obtain ⟨p, hpl⟩ := p
  obtain rfl : p = t.val - 1 := by simp only at hp; omega
  rw [outsAt0_C m c t h0 h1 h2 h3]
  constructor
  · frame_out
    rw [read_unread_whole]
  · frame_out
    rw [read_unread_whole]
theorem outD (c : Dev nD) (t p : Fin cfg0.N) (hp : p.val + 1 = t.val) (h0 : ¬t.val % 4 = 0) (h1 : t.val % 4 = 3) (h2 : ¬ t.val < 4) (h3 : 4 ≤ t.val) :
    (outsAt0 m c t.val t.isLt).1 = k0_pay7 (F := Ideal) (iblk m c 4 t) (stepAcc m c t (outsAt0 m c p.val p.isLt).2.2) (iblk m c 5 t) (iblk m c 6 t)
     ∧ (outsAt0 m c t.val t.isLt).2.1 = k0_pay3 (F := Ideal) (k0_pay8 (F := Ideal) (iblk m c 4 t) (stepAcc m c t (outsAt0 m c p.val p.isLt).2.2))
        (outsAt0 m c p.val p.isLt).2.1 := by
  obtain ⟨p, hpl⟩ := p
  obtain rfl : p = t.val - 1 := by simp only at hp; omega
  rw [outsAt0_D m c t h0 h1 h2 h3]
  constructor
  · frame_out
    rw [read_unread_whole]
  · frame_out
    rw [read_unread_whole]

/-! ## The accumulator, summed over a row block's four column tiles -/

/-- The gradient of the normalized row, as the kernel adds it up: the narrow remainder, then tile after tile. -/
abbrev tile (c : Dev nD) (i : Fin 4096) (l : Fin 1024) (j : Fin 4) : EReal :=
  ∑ k : Fin 1152, argD m c (ix3 0 i ⟨j * 1152 + k, by omega⟩) * argW m c (ix3 0 l ⟨j * 1152 + k, by omega⟩)

abbrev rest (c : Dev nD) (i : Fin 4096) (l : Fin 1024) : EReal :=
  ∑ k : Fin 128, (if h : k.val < 8 then argD m c (ix3 0 i ⟨4608 + k, by omega⟩) else 0)
    * (if h : k.val < 8 then argW m c (ix3 0 l ⟨4608 + k, by omega⟩) else 0)

theorem stepAcc_at (c : Dev nD) (t : Fin cfg0.N) (a : FVec Ideal S1024x1024 .f32) (r l : Fin 1024) (i : Fin 4096)
    (hi : (i : ℕ) = t.val / 4 * 1024 + r) (j : Fin 4) (hj : t.val % 4 = j) :
    stepAcc m c t a (ix2 r l) = a (ix2 r l) + tile m c i l j := by
  refine (pay2_at a _ _ r l).trans (congrArg _ (Finset.sum_congr rfl fun k _ => ?_))
  have hjk : (j : ℕ) * 1152 + k < 4608 := by omega
  exact congrArg₂ _ (blk0 m c t r k i ⟨j * 1152 + k, hjk⟩ hi (by rw [hj])) (blk2 m c t k l ⟨j * 1152 + k, by omega⟩ (by rw [hj]))

theorem rest_at (c : Dev nD) (t : Fin cfg0.N) (r l : Fin 1024) (i : Fin 4096) (hi : (i : ℕ) = t.val / 4 * 1024 + r) :
    k0_pay1 (F := Ideal) (iblk m c 1 t) (iblk m c 3 t) (ix2 r l) = rest m c i l := by
  refine (pay1_at _ _ r l).trans (Finset.sum_congr rfl fun k _ => ?_)
  exact congrArg₂ _ (blk1 m c t r k i hi) (blk3 m c t k l)

theorem sum_tiles (c : Dev nD) (i : Fin 4096) (l : Fin 1024) :
    rest m c i l + tile m c i l 0 + tile m c i l 1 + tile m c i l 2 + tile m c i l 3 = duR (argW m c) (argD m c) i l := by
  have hr : rest m c i l = ∑ k : Fin 8, argD m c (ix3 0 i ⟨4608 + k, by omega⟩) * argW m c (ix3 0 l ⟨4608 + k, by omega⟩) := by
    refine (Fin.sum_univ_add (a := 8) (b := 120) _).trans ?_
    have h0 : ∀ k : Fin 120, ¬ (Fin.natAdd 8 k : Fin 128).val < 8 := fun k => by simp
    have h1 : ∀ k : Fin 8, (Fin.castAdd 120 k : Fin 128).val < 8 := fun k => by simp
    rw [Finset.sum_eq_zero (s := (Finset.univ : Finset (Fin 120))) fun k _ => by rw [dif_neg (h0 k), zero_mul], add_zero]
    refine Finset.sum_congr rfl fun k _ => ?_
    rw [dif_pos (h1 k), dif_pos (h1 k)]
    rfl
  have ht : duR (argW m c) (argD m c) i l
      = (tile m c i l 0 + tile m c i l 1 + tile m c i l 2 + tile m c i l 3)
        + ∑ k : Fin 8, argD m c (ix3 0 i ⟨4608 + k, by omega⟩) * argW m c (ix3 0 l ⟨4608 + k, by omega⟩) := by
    refine (Fin.sum_univ_add (a := 4608) (b := 8) _).trans (congrArg₂ _ ?_ rfl)
    rw [Fin.sum_univ_tiles 4 1152 rfl, Fin.sum_univ_four]
    rfl
  rw [hr, ht]
  abel

/-- The accumulator at a row block's last point holds the gradient of the normalized rows. -/
theorem acc_last (c : Dev nD) (b : Fin 4) (p t : Fin cfg0.N) (ht : t.val = 4 * b + 3) (hp : p.val + 1 = t.val) (r l : Fin 1024)
    (i : Fin 4096) (hi : (i : ℕ) = b * 1024 + r) :
    stepAcc m c t (outsAt0 m c p.val p.isLt).2.2 (ix2 r l) = duR (argW m c) (argD m c) i l := by
  have hN : cfg0.N = 16 := N_0
  have h2 : (4 * b + 2 : ℕ) < cfg0.N := by omega
  have h1 : (4 * b + 1 : ℕ) < cfg0.N := by omega
  have h0 : (4 * b + 0 : ℕ) < cfg0.N := by omega
  obtain rfl : p = ⟨4 * b + 2, h2⟩ := Fin.ext (by dsimp only; omega)
  rw [stepAcc_at m c t _ r l i (by omega) 3 (by show t.val % 4 = 3; omega),
    accB m c ⟨4 * b + 2, h2⟩ ⟨4 * b + 1, h1⟩ rfl (by dsimp only; omega) (by dsimp only; omega),
    stepAcc_at m c ⟨4 * b + 2, h2⟩ _ r l i (by dsimp only; omega) 2 (by show (4 * b.val + 2) % 4 = 2; omega),
    accB m c ⟨4 * b + 1, h1⟩ ⟨4 * b + 0, h0⟩ rfl (by dsimp only; omega) (by dsimp only; omega),
    stepAcc_at m c ⟨4 * b + 1, h1⟩ _ r l i (by dsimp only; omega) 1 (by show (4 * b.val + 1) % 4 = 1; omega),
    accA m c ⟨4 * b + 0, h0⟩ (by dsimp only; omega) (by dsimp only; omega),
    stepAcc_at m c ⟨4 * b + 0, h0⟩ _ r l i (by dsimp only; omega) 0 (by show (4 * b.val + 0) % 4 = 0; omega),
    rest_at m c ⟨4 * b + 0, h0⟩ r l i (by dsimp only; omega)]
  exact sum_tiles m c i l

/-! ## The two results -/

/-- The rows' gradient through the norm, the kernel's way. -/
theorem out7 (c : Dev nD) (b : Fin 4) (t : Fin cfg0.N) (ht : t.val = 4 * b + 3) (r l : Fin 1024) (i : Fin 4096)
    (hi : (i : ℕ) = b * 1024 + r) :
    (outsAt0 m c t.val t.isLt).1 (ix2 r l)
      = argH m c (ix3 0 i l) + gradK (fun k => argX m c (ix3 0 i k)) (duR (argW m c) (argD m c) i) (fun k => argP m c (ix2 0 k)) l := by
  have hN : cfg0.N = 16 := N_0
  have h2 : (4 * b + 2 : ℕ) < cfg0.N := by omega
  have hb : t.val / 4 = b := by omega
  have key : (outsAt0 m c t.val t.isLt).1 = k0_pay7 (F := Ideal) (iblk m c 4 t)
      (stepAcc m c t (outsAt0 m c (⟨4 * b + 2, h2⟩ : Fin cfg0.N).val h2).2.2) (iblk m c 5 t) (iblk m c 6 t) := by
    by_cases hc : t.val < 4
    · exact (outC m c t ⟨4 * b + 2, h2⟩ (by dsimp only; omega) (by omega) (by omega) hc (by omega)).1
    · exact (outD m c t ⟨4 * b + 2, h2⟩ (by dsimp only; omega) (by omega) (by omega) hc (by omega)).1
  rw [key]
  refine (pay7_at _ _ _ _ r l).trans (congrArg₂ _ (blk6 m c t r l i (by omega)) ?_)
  have ex : (fun k => (show FVec Ideal S1024x1024 .f32 from iblk m c 4 t) (ix2 r k)) = fun k => argX m c (ix3 0 i k) :=
    funext fun k => blk4 m c t r k i (by omega)
  have ea : (fun k => stepAcc m c t (outsAt0 m c (⟨4 * b + 2, h2⟩ : Fin cfg0.N).val h2).2.2 (ix2 r k)) = duR (argW m c) (argD m c) i :=
    funext fun k => acc_last m c b ⟨4 * b + 2, h2⟩ t ht (by dsimp only; omega) r k i hi
  have ew : (fun k => (show FVec Ideal S1x1024 .f32 from iblk m c 5 t) (ix2 0 k)) = fun k => argP m c (ix2 0 k) :=
    funext fun k => blk5 m c t k
  exact congrFun (congr (congr (congrArg gradK ex) ea) ew) l

/-- One row's share of the norm weight's gradient. -/
abbrev rowW (c : Dev nD) (l : Fin 1024) (i : Fin 4096) : EReal :=
  duR (argW m c) (argD m c) i l * (argX m c (ix3 0 i l) * rms (fun k => argX m c (ix3 0 i k)))

/-- One row block's share. -/
abbrev blkW (c : Dev nD) (l : Fin 1024) (b : Fin 4) : EReal := ∑ r : Fin 1024, rowW m c l ⟨b * 1024 + r, by omega⟩

theorem pay8_blk (c : Dev nD) (b : Fin 4) (p t : Fin cfg0.N) (ht : t.val = 4 * b + 3) (hp : p.val + 1 = t.val) (l : Fin 1024) :
    k0_pay8 (F := Ideal) (iblk m c 4 t) (stepAcc m c t (outsAt0 m c p.val p.isLt).2.2) (ix2 0 l) = blkW m c l b := by
  refine (pay8_at _ _ l).trans (Finset.sum_congr rfl fun r _ => ?_)
  have ex : (fun k => (show FVec Ideal S1024x1024 .f32 from iblk m c 4 t) (ix2 r k)) = fun k => argX m c (ix3 0 ⟨b * 1024 + r, by omega⟩ k) :=
    funext fun k => blk4 m c t r k ⟨b * 1024 + r, by omega⟩ (by show (b : ℕ) * 1024 + r = _; omega)
  exact congrArg₂ _ (acc_last m c b p t ht hp r l ⟨b * 1024 + r, by omega⟩ rfl)
    (congrArg₂ _ (congrFun ex l) (congrArg rms ex))

/-- The carried weight gradient: what a row block's last point adds. -/
theorem out8_next (c : Dev nD) (b : Fin 4) (q t : Fin cfg0.N) (hb : 0 < b.val) (ht : t.val = 4 * b + 3) (hq : q.val + 4 = t.val) (l : Fin 1024) :
    (outsAt0 m c t.val t.isLt).2.1 (ix2 0 l) = (outsAt0 m c q.val q.isLt).2.1 (ix2 0 l) + blkW m c l b := by
  have hN : cfg0.N = 16 := N_0
  have h2 : (4 * b + 2 : ℕ) < cfg0.N := by omega
  have h1 : (4 * b + 1 : ℕ) < cfg0.N := by omega
  have h0 : (4 * b + 0 : ℕ) < cfg0.N := by omega
  rw [(outD m c t ⟨4 * b + 2, h2⟩ (by dsimp only; omega) (by omega) (by omega) (by omega) (by omega)).2]
  refine (pay3_at _ _ l).trans (congrArg₂ _ ?_ (pay8_blk m c b ⟨4 * b + 2, h2⟩ t ht (by dsimp only; omega) l))
  rw [carryB m c ⟨4 * b + 2, h2⟩ ⟨4 * b + 1, h1⟩ rfl (by dsimp only; omega) (by dsimp only; omega),
    carryB m c ⟨4 * b + 1, h1⟩ ⟨4 * b + 0, h0⟩ rfl (by dsimp only; omega) (by dsimp only; omega),
    carryA m c ⟨4 * b + 0, h0⟩ q (by dsimp only; omega) (by dsimp only; omega) (by dsimp only; omega)]

theorem out8_first (c : Dev nD) (t : Fin cfg0.N) (ht : t.val = 3) (l : Fin 1024) :
    (outsAt0 m c t.val t.isLt).2.1 (ix2 0 l) = blkW m c l 0 := by
  have hN : cfg0.N = 16 := N_0
  have h2 : 2 < cfg0.N := by omega
  rw [(outC m c t ⟨2, h2⟩ (by show 2 + 1 = _; omega) (by omega) (by omega) (by omega) (by omega)).2]
  exact pay8_blk m c 0 ⟨2, h2⟩ t (by rw [ht]; rfl) (by show 2 + 1 = _; omega) l

theorem out8_last (c : Dev nD) (t : Fin cfg0.N) (ht : t.val = 15) (l : Fin 1024) :
    (outsAt0 m c t.val t.isLt).2.1 (ix2 0 l) = ∑ i : Fin 4096, rowW m c l i := by
  have hN : cfg0.N = 16 := N_0
  have h11 : 11 < cfg0.N := by omega
  have h7 : 7 < cfg0.N := by omega
  have h3 : 3 < cfg0.N := by omega
  rw [out8_next m c 3 ⟨11, h11⟩ t (by decide) (by rw [ht]; rfl) (by rw [ht]) l,
    out8_next m c 2 ⟨7, h7⟩ ⟨11, h11⟩ (by decide) rfl rfl l,
    out8_next m c 1 ⟨3, h3⟩ ⟨7, h7⟩ (by decide) rfl rfl l,
    out8_first m c ⟨3, h3⟩ rfl l]
  rw [Fin.sum_univ_tiles 4 1024 rfl (rowW m c l), Fin.sum_univ_four]

/-! ## The arrays after the run -/

theorem G7_at (c : Dev nD) (i : Fin 4096) (l : Fin 1024) :
    (show FVec Ideal S4096x1024 .f32 from Value.G7 m c) (ix2 i l)
      = argH m c (ix3 0 i l) + gradK (fun k => argX m c (ix3 0 i k)) (duR (argW m c) (argD m c) i) (fun k => argP m c (ix2 0 k)) l := by
  have hN : cfg0.N = 16 := N_0
  have hp : Value.pt7Of (ix2 i l) = 4 * (i.val / 1024) + 3 := by
    show 4 * (1 * (i.val / 1024 - 0) + 1 * (l.val / 1024 - 0)) + 3 = _
    omega
  have hl : Value.loc7Of (ix2 i l) = ix2 ⟨i.val % 1024, by omega⟩ l := by
    funext a; apply Fin.ext
    match a with
    | ⟨0, _⟩ => rfl
    | ⟨1, _⟩ => exact Nat.mod_eq_of_lt l.isLt
  have hlt : 4 * (i.val / 1024) + 3 < cfg0.N := by omega
  show Value.G7 m c (ix2 i l) = _
  unfold Value.G7
  rw [dif_pos (by omega), Value.fold0_congr m c _ (by omega) (4 * (i.val / 1024) + 3) (by omega) hp, ← Value.outsAt0_sweep m c _ hlt, hl]
  exact out7 m c ⟨i.val / 1024, by omega⟩ ⟨_, hlt⟩ rfl _ l i (by dsimp only; omega)

theorem G8_at (c : Dev nD) (l : Fin 1024) :
    (show FVec Ideal S1x1024 .f32 from Value.G8 m c) (ix2 0 l) = ∑ i : Fin 4096, rowW m c l i := by
  have h15 : 15 < cfg0.N := lt_of_lt_of_eq (by decide) N_0.symm
  show Value.G8 m c (ix2 0 l) = _
  rw [Value.G8_last, ← Value.outsAt0_sweep m c _ h15]
  exact out8_last m c ⟨15, h15⟩ rfl l

end Cert.InProof
end
-- ==== Proof.InClaim.lean ====
module

public import proofs.«01_k».proof.Defs
public import proofs.«01_k».proof.Proof.InValue
public import proofs.«01_k».proof.Proof.Gen.InKernel.Frame
public import proofs.«01_k».proof.Proof.Gen.InReferenceIdeal.Run
public import proofs.«01_k».proof.Proof.Gen.InReferenceIdeal.Read

/-! The in-projection's claims: the precondition read as real entries, and the value claim. -/

@[expose] public section
set_option maxRecDepth 16384
noncomputable section

namespace Cert.InProof
open Idealize.ShloMosaic Idealize.ShloMosaic.TcCoe Idealize.SL.Sem Cert.Reals

theorem preFacts : Cert.Pre_finite_in.Facts := ⟨by decide, by decide, by decide, by decide⟩

attribute [local instance] preFacts Cert.InKernelIdeal.Gen.facts Cert.InReferenceIdeal.Gen.facts

open Cert.InKernelIdeal Cert.InKernelIdeal.Gen in
theorem reals (m : (ℓ : Loc nD τ sig) → Buf (Elt Ideal) ℓ) (h : Cert.Pre_InKernelIdeal_finite_in m) (c : Dev nD) :
    (∀ i, IsReal (argX m c i)) ∧ (∀ i, IsReal (argP m c i)) ∧ (∀ i, IsReal (argW m c i)) ∧ ∀ i, IsReal (argD m c i) :=
  ⟨fun i => isReal_of_abs_lt (congrFun (h c).1 i), fun i => isReal_of_abs_lt (congrFun (h c).2.1 i),
   fun i => isReal_of_abs_lt (congrFun (h c).2.2.1 i), fun i => isReal_of_abs_lt (congrFun (h c).2.2.2 i)⟩

open Cert.InKernelIdeal Cert.InKernelIdeal.Gen Cert.InReferenceIdeal.Read in
theorem res0 (m : (ℓ : Loc nD τ sig) → Buf (Elt Ideal) ℓ) (h : Cert.Pre_InKernelIdeal_finite_in m) (c : Dev nD) :
    val_main_v43 (F := Ideal) (argX m c) (argP m c) (argW m c) (argD m c) (argH m c) = Value.G7 m c := by
  obtain ⟨hx, hp, hw, hd⟩ := reals m h c
  funext i
  obtain ⟨r, l, rfl⟩ : ∃ (r : Fin 4096) (l : Fin 1024), i = ix2 r l := ⟨i 0, i 1, eq_ix2 i⟩
  refine (ref_dx _ _ _ _ _ r l).trans (Eq.trans ?_ (G7_at m c r l).symm)
  have hdu : ∀ k, IsReal (duR (argW m c) (argD m c) r k) := fun k => IsReal.sum _ fun j _ => (hd _).mul (hw _)
  exact (grad_eq (fun k => argX m c (ix3 0 r k)) (duR (argW m c) (argD m c) r) (fun k => argP m c (ix2 0 k))
    (fun k => hx _) hdu (fun k => hp _) (argH m c (ix3 0 r l)) l).symm

open Cert.InKernelIdeal Cert.InKernelIdeal.Gen Cert.InReferenceIdeal.Read in
theorem res1 (m : (ℓ : Loc nD τ sig) → Buf (Elt Ideal) ℓ) (c : Dev nD) :
    val_main_v26 (F := Ideal) (argX m c) (argW m c) (argD m c) = Value.G8 m c := by
  funext i
  obtain ⟨r, l, rfl⟩ : ∃ (r : Fin 1) (l : Fin 1024), i = ix2 r l := ⟨i 0, i 1, eq_ix2 i⟩
  obtain rfl : r = 0 := Subsingleton.elim _ _
  refine (ref_gpw _ _ _ l).trans (Eq.trans ?_ (G8_at m c l).symm)
  exact Finset.sum_congr rfl fun i _ => mul_comm _ _

theorem algebraic : Cert.algebraic_InKernelIdeal_InReferenceIdeal_pre_finite_in := by
  intro m g m' g' hpre hag
  refine ⟨fun c => Cert.InKernelIdeal.Value.G7 m c, fun c => Cert.InKernelIdeal.Value.G8 m c, ?_, ?_⟩
  · exact Cert.InKernelIdeal.Value.run m g
  · refine (θ_run _ _ _).mono (fun r h c => ?_) (Cert.InReferenceIdeal.Value.run m' g')
    obtain ⟨h0, h1, hrest⟩ := h c
    obtain ⟨a0, a1, a2, a3, a4⟩ := hag c
    refine ⟨h0.trans ?_, h1.trans ?_, hrest⟩
    · rw [Cert.InReferenceIdeal.Read.val_main_v43_eq, a0, a1, a2, a3, a4]
      exact res0 m hpre c
    · refine (Cert.InReferenceIdeal.Read.val_main_v26_eq _ _ _).trans ?_
      rw [a0, a2, a3]
      exact res1 m c

theorem frameR : Cert.quiescent_InReferenceIdeal := by
  intro m g _
  exact (θ_run _ _ _).mono (fun r h => ⟨fun c => (h c).2.2, sem_eq_zero_of_no_sems (by decide) r.2⟩)
    (Cert.InReferenceIdeal.Value.run m g)

end Cert.InProof
end
-- ==== Proof.SbMath.lean ====
module

public import Idealize.ShloMosaic.Lib.Pointwise

/-! The gradients of one pair of heads of stick-breaking attention, over the reals. A row `t` attends to the columns
`s < t`. Lanes 0 to 63 of a row belong to the first head of the pair (`w = 0`), lanes 64 to 127 to the second (`w = 1`). -/

@[expose] public section
noncomputable section

namespace Cert.SbMath
open Finset

/-- What the gradients are computed of: queries, keys, values and the result's cotangent by row and lane, and by row and
head the sum of the row's log keep weights. -/
structure Dat where
  Q : ℕ → ℕ → ℝ
  K : ℕ → ℕ → ℝ
  V : ℕ → ℕ → ℝ
  DY : ℕ → ℕ → ℝ
  T : ℕ → ℕ → ℝ

namespace Dat
variable (D : Dat)

/-- The scaled and negated query of head `w`: zero at the other head's lanes. -/
def qm (w t l : ℕ) : ℝ := if l / 64 = w then -(D.Q t l * (1 / 8)) else 0
/-- The cotangent of head `w`: zero at the other head's lanes. -/
def ym (w t l : ℕ) : ℝ := if l / 64 = w then D.DY t l else 0
/-- The negated score, at most 80. -/
def nz (w t s : ℕ) : ℝ := min (∑ x : Fin 128, D.qm w t x * D.K s x) 80
/-- Minus the log of the stick's share that `s` takes. -/
def sp (w t s : ℕ) : ℝ := Real.log (1 + Real.exp (D.nz w t s))
/-- The log of the share that `s` leaves. -/
def lk (w t s : ℕ) : ℝ := if s < t then D.nz w t s - D.sp w t s else 0
/-- The log keep weights of the first `n` columns, added. -/
def cp (w t n : ℕ) : ℝ := ∑ s ∈ range n, D.lk w t s
/-- The same within one block of columns that starts at `S`. -/
def pp (w t S c : ℕ) : ℝ := ∑ x ∈ range (c + 1), D.lk w t (S + x)
/-- The attention weight. -/
def a (w t s : ℕ) : ℝ := if s < t then Real.exp (D.T t w - D.cp w t (s + 1) - D.sp w t s) else 0
/-- The weight's cotangent times the weight. -/
def g (w t s : ℕ) : ℝ := (∑ x : Fin 128, D.ym w t x * D.V s x) * D.a w t s
/-- Those of the first `n` columns, added. -/
def cg (w t n : ℕ) : ℝ := ∑ s ∈ range n, D.g w t s
/-- The same within one block of columns that starts at `S`. -/
def gg (w t S c : ℕ) : ℝ := ∑ x ∈ range c, D.g w t (S + x)
/-- The score's cotangent. -/
def dz (w t s : ℕ) : ℝ := if s < t then D.g w t s - Real.exp (-D.sp w t s) * (D.g w t s + D.cg w t s) else 0
/-- The query's cotangent, of the first `n` columns. -/
def dqa (w t l n : ℕ) : ℝ := ∑ s ∈ range n, D.dz w t s * D.K s l
/-- The key's cotangent with its sign reversed, of the first `n` rows. -/
def dk (l s n : ℕ) : ℝ := ∑ t ∈ range n, (D.qm 0 t l * D.dz 0 t s + D.qm 1 t l * D.dz 1 t s)
/-- The value's cotangent, of the first `n` rows. -/
def dv (l s n : ℕ) : ℝ := ∑ t ∈ range n, (D.ym 0 t l * D.a 0 t s + D.ym 1 t l * D.a 1 t s)
/-- One head's part of the key's cotangent, of `n` rows. -/
def kacc (w : ℕ) (row : ℕ → ℕ) (n l s : ℕ) : ℝ := ∑ x : Fin n, D.qm w (row x) l * D.dz w (row x) s
/-- One head's part of the value's cotangent, of `n` rows. -/
def vacc (w : ℕ) (row : ℕ → ℕ) (n l s : ℕ) : ℝ := ∑ x : Fin n, D.ym w (row x) l * D.a w (row x) s

theorem lk_zero {w t s : ℕ} (h : t ≤ s) : D.lk w t s = 0 := if_neg (not_lt.2 h)
theorem a_zero {w t s : ℕ} (h : t ≤ s) : D.a w t s = 0 := if_neg (not_lt.2 h)
theorem g_zero {w t s : ℕ} (h : t ≤ s) : D.g w t s = 0 := by rw [g, D.a_zero h, mul_zero]
theorem dz_zero {w t s : ℕ} (h : t ≤ s) : D.dz w t s = 0 := if_neg (not_lt.2 h)

theorem cp_add (w t S c : ℕ) : D.cp w t (S + c + 1) = D.cp w t S + D.pp w t S c := by
  rw [cp, cp, pp, add_assoc, sum_range_add]
theorem cg_add (w t S c : ℕ) : D.cg w t (S + c) = D.cg w t S + D.gg w t S c := by
  rw [cg, cg, gg, sum_range_add]

theorem cp_next (w t S : ℕ) : D.cp w t (S + 256) = D.cp w t S + D.pp w t S 255 := D.cp_add w t S 255
theorem cg_next (w t S : ℕ) : D.cg w t (S + 256) = D.cg w t S + (D.gg w t S 255 + D.g w t (S + 255)) := by
  rw [show S + 256 = S + 255 + 1 from rfl, ← add_assoc, ← D.cg_add, cg, cg, sum_range_succ]
theorem dqa_next (w t l S : ℕ) :
    D.dqa w t l (S + 256) = D.dqa w t l S + ∑ x : Fin 256, D.dz w t (S + x) * D.K (S + x) l := by
  rw [dqa, dqa, sum_range_add, Finset.sum_range (fun x => D.dz w t (S + x) * D.K (S + x) l)]

/-- Terms that are zero add nothing. -/
theorem tail_zero (f : ℕ → ℝ) (n k : ℕ) (h : ∀ x, f (n + x) = 0) : ∑ x ∈ range (n + k), f x = ∑ x ∈ range n, f x := by
  rw [sum_range_add, sum_eq_zero (s := range k) (f := fun x => f (n + x)) (fun x _ => h x), add_zero]

theorem cp_skip {w t S : ℕ} (h : t ≤ S) : D.cp w t (S + 256) = D.cp w t S :=
  tail_zero _ S 256 fun _ => D.lk_zero (by omega)
theorem cg_skip {w t S : ℕ} (h : t ≤ S) : D.cg w t (S + 256) = D.cg w t S :=
  tail_zero _ S 256 fun _ => D.g_zero (by omega)
theorem dqa_skip {w t l S : ℕ} (h : t ≤ S) : D.dqa w t l (S + 256) = D.dqa w t l S :=
  tail_zero _ S 256 fun x => by rw [D.dz_zero (show t ≤ S + x by omega), zero_mul]

/-- Columns at or behind the row add nothing. -/
theorem cp_all {w t n : ℕ} (h : t ≤ n) : D.cp w t n = D.cp w t t := by
  obtain ⟨k, rfl⟩ := Nat.exists_eq_add_of_le h
  exact tail_zero _ t k fun _ => D.lk_zero (by omega)
theorem dqa_all {w t l n : ℕ} (h : t ≤ n) : D.dqa w t l n = D.dqa w t l t := by
  obtain ⟨k, rfl⟩ := Nat.exists_eq_add_of_le h
  exact tail_zero _ t k fun x => by rw [D.dz_zero (show t ≤ t + x by omega), zero_mul]

/-- A sum over the rows from `b` on, of which those before `b + r0` are zero. -/
theorem rows_next (f : ℕ → ℝ) (b r0 n : ℕ) (h0 : ∀ r, r < r0 → f (b + r) = 0) :
    ∑ t ∈ range (b + (r0 + n)), f t = ∑ t ∈ range b, f t + ∑ x : Fin n, f (b + (r0 + x)) := by
  rw [sum_range_add, sum_range_add, sum_eq_zero (fun x hx => h0 x (mem_range.1 hx)), zero_add,
    Finset.sum_range (fun x => f (b + (r0 + x)))]

theorem dk_next (l s b r0 n : ℕ) (h : b + r0 ≤ s ∨ r0 = 0) :
    D.dk l s (b + (r0 + n)) = D.dk l s b + (D.kacc 0 (fun r => b + (r0 + r)) n l s + D.kacc 1 (fun r => b + (r0 + r)) n l s) := by
  rw [dk, dk, kacc, kacc, rows_next _ b r0 n, ← sum_add_distrib (f := fun x : Fin n => D.qm 0 (b + (r0 + x)) l * D.dz 0 (b + (r0 + x)) s)]
  intro r hr
  rw [D.dz_zero (by omega), D.dz_zero (by omega), mul_zero, mul_zero, add_zero]
theorem dv_next (l s b r0 n : ℕ) (h : b + r0 ≤ s ∨ r0 = 0) :
    D.dv l s (b + (r0 + n)) = D.dv l s b + (D.vacc 0 (fun r => b + (r0 + r)) n l s + D.vacc 1 (fun r => b + (r0 + r)) n l s) := by
  rw [dv, dv, vacc, vacc, rows_next _ b r0 n, ← sum_add_distrib (f := fun x : Fin n => D.ym 0 (b + (r0 + x)) l * D.a 0 (b + (r0 + x)) s)]
  intro r hr
  rw [D.a_zero (by omega), D.a_zero (by omega), mul_zero, mul_zero, add_zero]

theorem dk_zero {l s n : ℕ} (h : n ≤ s + 1) : D.dk l s n = 0 :=
  sum_eq_zero fun t ht => by
    have := mem_range.1 ht
    rw [D.dz_zero (by omega), D.dz_zero (by omega), mul_zero, mul_zero, add_zero]
theorem dv_zero {l s n : ℕ} (h : n ≤ s + 1) : D.dv l s n = 0 :=
  sum_eq_zero fun t ht => by
    have := mem_range.1 ht
    rw [D.a_zero (by omega), D.a_zero (by omega), mul_zero, mul_zero, add_zero]

end Dat
end Cert.SbMath
end
-- ==== Proof.SbPlain.lean ====
module

public import proofs.«01_k».proof.Proof.SbMath
public import proofs.«01_k».proof.Proof.Reals

/-! Stick-breaking attention's gradients over the reals as the reference's program computes them, a head at a time, and
why the kernel's arithmetic (two heads to a block of lanes, the score's negation at most 80) is the same. -/

@[expose] public section
noncomputable section

namespace Cert.SbProof
open Finset Cert.SbMath

variable (P Y : ℕ → ℕ → ℝ)

/-- The score of query `t` and key `s` in head `h`. -/
def zr (h t s : ℕ) : ℝ := (∑ d : Fin 64, P t (64 * h + d) * P s (512 + (64 * h + d))) * (1 / 8)
/-- Minus the log of the share that `s` takes of what is left. -/
def sg (h t s : ℕ) : ℝ := Real.log (1 + Real.exp (-zr P h t s))
/-- The log of the share that `s` leaves. -/
def lr (h t s : ℕ) : ℝ := if s < t then -sg P h t s - zr P h t s else 0
/-- The log of the weight of `s`: of its share, and of what the later keys left. -/
def er (h t s : ℕ) : ℝ :=
  -sg P h t s + ((∑ x ∈ range 4096, lr P h t x - ∑ x ∈ range s, lr P h t x) - lr P h t s)
/-- The weight. -/
def ar (h t s : ℕ) : ℝ := if s < t then Real.exp (er P h t s) else 0
/-- The cotangent of the weight's log. -/
def gr (h t s : ℕ) : ℝ := (∑ d : Fin 64, Y t (64 * h + d) * P s (1024 + (64 * h + d))) * ar P h t s
/-- The score's cotangent. -/
def dr (h t s : ℕ) : ℝ :=
  if s < t then gr P Y h t s - (1 + Real.exp (-zr P h t s))⁻¹ * (gr P Y h t s + ∑ x ∈ range s, gr P Y h t x) else 0

/-- A pair of heads, `2p` and `2p + 1`, as the kernel's block of 128 lanes has it. -/
def dat (p : ℕ) : Dat where
  Q t l := P t (128 * p + l)
  K t l := P t (512 + (128 * p + l))
  V t l := P t (1024 + (128 * p + l))
  DY t l := Y t (128 * p + l)
  T t w := ∑ x ∈ range 4096, lr P (2 * p + w) t x

/-- Only the lanes of head `w` count. -/
theorem half (f : ℕ → ℝ) {w : ℕ} (hw : w < 2) :
    ∑ x : Fin 128, (if x.val / 64 = w then f x else 0) = ∑ d : Fin 64, f (64 * w + d) := by
  rw [Fin.sum_univ_eq_sum_range (fun x => if x / 64 = w then f x else 0) 128,
    Fin.sum_univ_eq_sum_range (fun d => f (64 * w + d)) 64, show 128 = 64 + 64 from rfl, sum_range_add]
  have h0 : ∀ v, v < 2 → ∑ x ∈ range 64, (if (64 * v + x) / 64 = w then f (64 * v + x) else 0)
      = if v = w then ∑ x ∈ range 64, f (64 * v + x) else 0 := by
    intro v _
    split
    · next e =>
      refine sum_congr rfl fun x hx => if_pos ?_
      have := mem_range.1 hx
      omega
    · next e =>
      refine sum_eq_zero fun x hx => if_neg ?_
      have := mem_range.1 hx
      omega
  have a0 := h0 0 (by omega)
  have a1 := h0 1 (by omega)
  simp only [Nat.mul_zero, Nat.zero_add] at a0
  simp only [Nat.mul_one] at a1
  rw [a0, a1]
  interval_cases w <;> simp

variable {P Y} {p : ℕ}

theorem scores {w : ℕ} (hw : w < 2) (t s : ℕ) :
    ∑ x : Fin 128, (dat P Y p).qm w t x * (dat P Y p).K s x = -zr P (2 * p + w) t s := by
  have e : ∀ x : Fin 128, (dat P Y p).qm w t x * (dat P Y p).K s x
      = if x.val / 64 = w then (fun l => -(P t (128 * p + l) * (1 / 8)) * P s (512 + (128 * p + l))) x else 0 := by
    intro x
    simp only [Dat.qm, dat]
    split
    · rfl
    · rw [zero_mul]
  rw [sum_congr rfl fun x _ => e x, half (fun l => -(P t (128 * p + l) * (1 / 8)) * P s (512 + (128 * p + l))) hw, zr, sum_mul,
    ← sum_neg_distrib]
  refine sum_congr rfl fun d _ => ?_
  rw [show 64 * (2 * p + w) + d.val = 128 * p + (64 * w + d.val) by ring]
  ring

theorem cots {w : ℕ} (hw : w < 2) (t s : ℕ) :
    ∑ x : Fin 128, (dat P Y p).ym w t x * (dat P Y p).V s x
      = ∑ d : Fin 64, Y t (64 * (2 * p + w) + d) * P s (1024 + (64 * (2 * p + w) + d)) := by
  have e : ∀ x : Fin 128, (dat P Y p).ym w t x * (dat P Y p).V s x
      = if x.val / 64 = w then (fun l => Y t (128 * p + l) * P s (1024 + (128 * p + l))) x else 0 := by
    intro x
    simp only [Dat.ym, dat]
    split
    · rfl
    · rw [zero_mul]
  rw [sum_congr rfl fun x _ => e x, half (fun l => Y t (128 * p + l) * P s (1024 + (128 * p + l))) hw]
  refine sum_congr rfl fun d _ => ?_
  rw [show 64 * (2 * p + w) + d.val = 128 * p + (64 * w + d.val) by ring]

/-- No score of a pair that counts is below −80. -/
def Low (P : ℕ → ℕ → ℝ) : Prop := ∀ h t s, h < 8 → t < 4096 → s < t → -80 ≤ zr P h t s

section
variable (hz : Low P) (hp : p < 4) {w t : ℕ} (hw : w < 2) (ht : t < 4096)
include hz hp hw ht

theorem nz_eq {s : ℕ} (hs : s < t) : (dat P Y p).nz w t s = -zr P (2 * p + w) t s := by
  rw [Dat.nz, scores hw]
  have := hz (2 * p + w) t s (by omega) ht hs
  exact min_eq_left (by linarith)
theorem sp_eq {s : ℕ} (hs : s < t) : (dat P Y p).sp w t s = sg P (2 * p + w) t s := by
  rw [Dat.sp, nz_eq hz hp hw ht hs, sg]
theorem lk_eq (s : ℕ) : (dat P Y p).lk w t s = lr P (2 * p + w) t s := by
  rw [Dat.lk, lr]
  split
  · next hs => rw [nz_eq hz hp hw ht hs, sp_eq hz hp hw ht hs]; ring
  · rfl
theorem cp_eq (n : ℕ) : (dat P Y p).cp w t n = ∑ x ∈ range n, lr P (2 * p + w) t x :=
  sum_congr rfl fun x _ => lk_eq hz hp hw ht x
theorem a_eq (s : ℕ) : (dat P Y p).a w t s = ar P (2 * p + w) t s := by
  rw [Dat.a, ar]
  split
  · next hs =>
    rw [cp_eq hz hp hw ht, sp_eq hz hp hw ht hs, sum_range_succ, er]
    refine congrArg Real.exp ?_
    show ∑ x ∈ range 4096, lr P (2 * p + w) t x - _ - _ = _
    ring
  · rfl
theorem g_eq (s : ℕ) : (dat P Y p).g w t s = gr P Y (2 * p + w) t s := by
  rw [Dat.g, cots hw, a_eq hz hp hw ht, gr]
theorem cg_eq (n : ℕ) : (dat P Y p).cg w t n = ∑ x ∈ range n, gr P Y (2 * p + w) t x :=
  sum_congr rfl fun x _ => g_eq hz hp hw ht x
theorem dz_eq (s : ℕ) : (dat P Y p).dz w t s = dr P Y (2 * p + w) t s := by
  rw [Dat.dz, dr]
  split
  · next hs =>
    rw [g_eq hz hp hw ht, cg_eq hz hp hw ht, sp_eq hz hp hw ht hs, sg, Real.exp_neg, Real.exp_log (by positivity)]
  · rfl
end

section
variable (hz : Low P) (hp : p < 4) {l : ℕ} (hl : l < 128)
include hz hp hl

/-- The query's cotangent. -/
theorem dq_eq {t n : ℕ} (ht : t < 4096) (hn : t ≤ n) :
    (dat P Y p).dqa (l / 64) t l n * (1 / 8)
      = ∑ s ∈ range 4096, dr P Y (2 * p + l / 64) t s * (1 / 8) * P s (512 + (128 * p + l)) := by
  rw [Dat.dqa_all _ hn, ← Dat.dqa_all _ (show t ≤ 4096 by omega), Dat.dqa, sum_mul]
  refine sum_congr rfl fun s _ => ?_
  rw [dz_eq hz hp (by omega) ht]
  show dr P Y _ t s * P s (512 + (128 * p + l)) * (1 / 8) = _
  ring

theorem pick (f : ℕ → ℝ) (A B : ℝ) (h0 : l / 64 = 0 → f 0 = A ∧ B = 0) (h1 : l / 64 = 1 → f 1 = B ∧ A = 0) :
    A + B = f (l / 64) := by
  have : l / 64 = 0 ∨ l / 64 = 1 := by omega
  rcases this with h | h
  · rw [h, (h0 h).1, (h0 h).2, add_zero]
  · rw [h, (h1 h).1, (h1 h).2, zero_add]

/-- The key's. -/
theorem dk_eq (s : ℕ) :
    -(dat P Y p).dk l s 4096 = ∑ t ∈ range 4096, dr P Y (2 * p + l / 64) t s * (1 / 8) * P t (128 * p + l) := by
  rw [Dat.dk, ← sum_neg_distrib]
  refine sum_congr rfl fun t ht => ?_
  have ht := mem_range.1 ht
  rw [dz_eq hz hp (by omega) ht, dz_eq hz hp (by omega) ht, neg_add]
  refine pick hz hp hl (fun w => dr P Y (2 * p + w) t s * (1 / 8) * P t (128 * p + l)) _ _ (fun h => ?_) (fun h => ?_)
  · rw [Dat.qm, if_pos h, Dat.qm, if_neg (by omega)]
    refine ⟨?_, by ring⟩
    show _ = -(-(P t (128 * p + l) * (1 / 8)) * _)
    ring
  · rw [Dat.qm, if_pos h, Dat.qm, if_neg (by omega)]
    refine ⟨?_, by ring⟩
    show _ = -(-(P t (128 * p + l) * (1 / 8)) * _)
    ring

/-- The value's. -/
theorem dv_eq (s : ℕ) :
    (dat P Y p).dv l s 4096 = ∑ t ∈ range 4096, Y t (128 * p + l) * ar P (2 * p + l / 64) t s := by
  rw [Dat.dv]
  refine sum_congr rfl fun t ht => ?_
  have ht := mem_range.1 ht
  rw [a_eq hz hp (by omega) ht, a_eq hz hp (by omega) ht]
  refine pick hz hp hl (fun w => Y t (128 * p + l) * ar P (2 * p + w) t s) _ _ (fun h => ?_) (fun h => ?_)
  · rw [Dat.ym, if_pos h, Dat.ym, if_neg (by omega)]
    exact ⟨rfl, by ring⟩
  · rw [Dat.ym, if_pos h, Dat.ym, if_neg (by omega)]
    exact ⟨rfl, by ring⟩
end

end Cert.SbProof
-- ==== Proof.SbOps.lean ====
module

public import Idealize.ShloMosaic.Lib.Pointwise
public import Idealize.ShloMosaic.Lib.IdealHost
public import Idealize.ShloMosaic.Lib.WordCmp
public import proofs.«01_k».proof.Proof.Reals
public import proofs.«01_k».proof.Proof.SbMath

/-! One operation of the attention's backward kernel at a time, over the extended reals: where the operands are the reals
of `SbMath`, so is the result. -/

@[expose] public section
noncomputable section

namespace Cert.SbMath.Dat
open Idealize.ShloMosaic Cert.Reals
variable (D : Dat)

theorem bits_80 : Ideal.ofBits .f32 0x42A00000#32 = ((80 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem coe_min (x y : ℝ) : min (x : EReal) (y : EReal) = ((min x y : ℝ) : EReal) :=
  (EReal.coe_strictMono.monotone.map_min).symm
theorem exp_e (x : ℝ) : Ideal.exp (x : EReal) = ((Real.exp x : ℝ) : EReal) := by
  first | exact Ideal.exp_coe x | rfl
theorem log_e {x : ℝ} (h : 0 < x) : Ideal.log (x : EReal) = ((Real.log x : ℝ) : EReal) := by
  rw [Ideal.log_coe, if_neg (not_le.2 h)]
/-- The lower triangle's bit. -/
def bit (p : Prop) [Decidable p] : BitVec 1 := if p then 1#1 else 0#1
/-- The lower triangle's entry. -/
def one (p : Prop) [Decidable p] : ℝ := if p then 1 else 0
theorem sel_pos {p : Prop} [Decidable p] (h : p) (x y : EReal) : Scalar.select (bit p) x y = x := by
  rw [bit, if_pos h]; rfl
theorem sel_neg {p : Prop} [Decidable p] (h : ¬p) (x y : EReal) : Scalar.select (bit p) x y = y := by
  rw [bit, if_neg h]; rfl

theorem slt_bit {x y : ℕ} (hx : x < 1024) (hy : y < 1024) :
    IntOp.cmpi .slt (BitVec.ofNat 32 x) (BitVec.ofNat 32 y) = bit (x < y) := by
  have e : ∀ n : ℕ, n < 1024 → (BitVec.ofNat 32 n).toNat = n := fun n h => by
    rw [BitVec.toNat_ofNat]; exact Nat.mod_eq_of_lt (by omega)
  rw [WordCmp.cmpi_slt_of_lt (by rw [e x hx]; omega) (by rw [e y hy]; omega), e x hx, e y hy, bit]
  by_cases h : x < y <;> simp [h]
theorem sle_bit {x y : ℕ} (hx : x < 1024) (hy : y < 1024) :
    IntOp.cmpi .sle (BitVec.ofNat 32 x) (BitVec.ofNat 32 y) = bit (x ≤ y) := by
  have e : ∀ n : ℕ, n < 1024 → (BitVec.ofNat 32 n).toNat = n := fun n h => by
    rw [BitVec.toNat_ofNat]; exact Nat.mod_eq_of_lt (by omega)
  rw [WordCmp.cmpi_sle_of_lt (by rw [e x hx]; omega) (by rw [e y hy]; omega), e x hx, e y hy, bit]
  by_cases h : x ≤ y <;> simp [h]
/-- A bit widened to a word and converted. -/
theorem bit_cvt (p : Prop) [Decidable p] : (FloatOps.sitofp .f32 (BitVec.setWidth 32 (bit p)) : Ideal .f32) = ((one p : ℝ) : EReal) := by
  by_cases h : p
  · rw [bit, one, if_pos h, if_pos h]
    show (((((1#1 : BitVec 1).setWidth 32).toInt : ℤ) : ℝ) : EReal) = _
    simp
  · rw [bit, one, if_neg h, if_neg h]
    show (((((0#1 : BitVec 1).setWidth 32).toInt : ℤ) : ℝ) : EReal) = _
    simp

theorem nz_e (w t s : ℕ) :
    min (∑ x : Fin 128, ((D.qm w t x : ℝ) : EReal) * ((D.K s x : ℝ) : EReal)) (Ideal.ofBits .f32 0x42A00000#32)
      = ((D.nz w t s : ℝ) : EReal) := by
  rw [bits_80, nz, ← coe_min, coe_sum]
  simp only [EReal.coe_mul]
theorem sp_e' (w t s : ℕ) : Ideal.log (1 + ((Real.exp (D.nz w t s) : ℝ) : EReal)) = ((D.sp w t s : ℝ) : EReal) := by
  rw [← EReal.coe_one, ← EReal.coe_add, log_e (by positivity), sp]
theorem sp_e (w t s : ℕ) : Ideal.log (1 + Ideal.exp ((D.nz w t s : ℝ) : EReal)) = ((D.sp w t s : ℝ) : EReal) := by
  rw [exp_e, sp_e']
theorem lk_e {w t s : ℕ} (h : s < t) : ((D.nz w t s : ℝ) : EReal) - ((D.sp w t s : ℝ) : EReal) = ((D.lk w t s : ℝ) : EReal) := by
  rw [lk, if_pos h, EReal.coe_sub]
theorem lkm_e {w t s r c : ℕ} (h : c < r ↔ s < t) :
    Scalar.select (bit (c < r)) (((D.nz w t s : ℝ) : EReal) - ((D.sp w t s : ℝ) : EReal)) 0 = ((D.lk w t s : ℝ) : EReal) := by
  by_cases hc : c < r
  · rw [sel_pos hc, D.lk_e (h.1 hc)]
  · rw [sel_neg hc, D.lk_zero (not_lt.1 fun hh => hc (h.2 hh)), EReal.coe_zero]

theorem lkm_mul {w t s r c : ℕ} (h : c < r ↔ s < t) (y : EReal) :
    Scalar.select (bit (c < r)) ((((D.nz w t s : ℝ) : EReal) - ((D.sp w t s : ℝ) : EReal)) * y) 0 = ((D.lk w t s : ℝ) : EReal) * y := by
  by_cases hc : c < r
  · rw [sel_pos hc, D.lk_e (h.1 hc)]
  · rw [sel_neg hc, D.lk_zero (not_lt.1 fun hh => hc (h.2 hh)), EReal.coe_zero, zero_mul]

/-- A sum against the column of the lower triangle that ends at `c`. -/
theorem tri_le (f : ℕ → ℝ) (c : Fin 256) : ∑ x : Fin 256, f x * one ((x : ℕ) ≤ c) = ∑ x ∈ Finset.range (c + 1), f x := by
  rw [← Finset.sum_range (fun x => f x * one (x ≤ (c : ℕ))),
    ← Finset.sum_subset (Finset.range_mono (show (c : ℕ) + 1 ≤ 256 by omega))]
  · exact Finset.sum_congr rfl fun x hx => by
      rw [one, if_pos (by have := Finset.mem_range.1 hx; omega), mul_one]
  · intro x _ hx
    rw [one, if_neg (fun h => hx (Finset.mem_range.2 (by omega))), mul_zero]
theorem tri_lt (f : ℕ → ℝ) (c : Fin 256) : ∑ x : Fin 256, f x * one ((x : ℕ) < c) = ∑ x ∈ Finset.range c, f x := by
  rw [← Finset.sum_range (fun x => f x * one (x < (c : ℕ))),
    ← Finset.sum_subset (Finset.range_mono (show (c : ℕ) ≤ 256 by omega))]
  · exact Finset.sum_congr rfl fun x hx => by
      rw [one, if_pos (Finset.mem_range.1 hx), mul_one]
  · intro x _ hx
    rw [one, if_neg (fun h => hx (Finset.mem_range.2 h)), mul_zero]

theorem pp_e (w t S : ℕ) (c : Fin 256) :
    ∑ x : Fin 256, ((D.lk w t (S + x) : ℝ) : EReal) * ((one ((x : ℕ) % 256 ≤ c) : ℝ) : EReal)
      + ∑ x : Fin 256, (((D.lk w t (S + x) : ℝ) : EReal) - ((D.lk w t (S + x) : ℝ) : EReal)) * ((one ((256 + (x : ℕ)) % 256 ≤ c) : ℝ) : EReal)
      = ((D.pp w t S c : ℝ) : EReal) := by
  rw [Finset.sum_eq_zero (s := Finset.univ)
    (f := fun x : Fin 256 => (((D.lk w t (S + x) : ℝ) : EReal) - ((D.lk w t (S + x) : ℝ) : EReal)) * ((one ((256 + (x : ℕ)) % 256 ≤ c) : ℝ) : EReal))
    (fun x _ => by rw [← EReal.coe_sub, sub_self, EReal.coe_zero, zero_mul]), add_zero, pp, ← tri_le, coe_sum]
  refine Finset.sum_congr rfl fun x _ => ?_
  rw [EReal.coe_mul, Nat.mod_eq_of_lt x.isLt]
theorem a_e {w t S c : ℕ} (h : S + c < t) :
    Ideal.exp (((D.T t w : ℝ) : EReal) - ((D.cp w t S : ℝ) : EReal) - ((D.pp w t S c : ℝ) : EReal) - ((D.sp w t (S + c) : ℝ) : EReal))
      = ((D.a w t (S + c) : ℝ) : EReal) := by
  rw [← EReal.coe_sub, ← EReal.coe_sub, ← EReal.coe_sub, exp_e, a, if_pos h, D.cp_add]
  congr 2; ring
theorem am_e {w t S c r : ℕ} (h : c < r ↔ S + c < t) :
    Scalar.select (bit (c < r))
      (Ideal.exp (((D.T t w : ℝ) : EReal) - ((D.cp w t S : ℝ) : EReal) - ((D.pp w t S c : ℝ) : EReal) - ((D.sp w t (S + c) : ℝ) : EReal))) 0
      = ((D.a w t (S + c) : ℝ) : EReal) := by
  by_cases hc : c < r
  · rw [sel_pos hc, D.a_e (h.1 hc)]
  · rw [sel_neg hc, D.a_zero (not_lt.1 fun hh => hc (h.2 hh)), EReal.coe_zero]
theorem g_e (w t s : ℕ) :
    (∑ x : Fin 128, ((D.ym w t x : ℝ) : EReal) * ((D.V s x : ℝ) : EReal)) * ((D.a w t s : ℝ) : EReal) = ((D.g w t s : ℝ) : EReal) := by
  rw [g, EReal.coe_mul, coe_sum]
  simp only [EReal.coe_mul]
theorem gg_e (w t S : ℕ) (c : Fin 256) :
    ∑ x : Fin 256, ((D.g w t (S + x) : ℝ) : EReal) * ((one ((x : ℕ) < c) : ℝ) : EReal) = ((D.gg w t S c : ℝ) : EReal) := by
  rw [gg, ← tri_lt (fun x => D.g w t (S + x)), coe_sum]
  simp only [EReal.coe_mul]
theorem nsp_e (w t s : ℕ) : (0 : EReal) - ((D.sp w t s : ℝ) : EReal) = ((-D.sp w t s : ℝ) : EReal) := by
  rw [zero_sub, EReal.coe_neg]
theorem dz_e {w t S c : ℕ} (h : S + c < t) :
    ((D.g w t (S + c) : ℝ) : EReal) - ((Real.exp (-D.sp w t (S + c)) : ℝ) : EReal)
      * (((D.g w t (S + c) : ℝ) : EReal) + (((D.cg w t S : ℝ) : EReal) + ((D.gg w t S c : ℝ) : EReal)))
      = ((D.dz w t (S + c) : ℝ) : EReal) := by
  rw [← EReal.coe_add, ← EReal.coe_add, ← EReal.coe_mul, ← EReal.coe_sub, dz, if_pos h, D.cg_add]
theorem dzm_e {w t S c r : ℕ} (h : c < r ↔ S + c < t) :
    Scalar.select (bit (c < r))
      (((D.g w t (S + c) : ℝ) : EReal) - ((Real.exp (-D.sp w t (S + c)) : ℝ) : EReal)
        * (((D.g w t (S + c) : ℝ) : EReal) + (((D.cg w t S : ℝ) : EReal) + ((D.gg w t S c : ℝ) : EReal)))) 0
      = ((D.dz w t (S + c) : ℝ) : EReal) := by
  by_cases hc : c < r
  · rw [sel_pos hc, D.dz_e (h.1 hc)]
  · rw [sel_neg hc, D.dz_zero (not_lt.1 fun hh => hc (h.2 hh)), EReal.coe_zero]
theorem dqa_e (w t l S : ℕ) :
    ((D.dqa w t l S : ℝ) : EReal) + ∑ x : Fin 256, ((D.dz w t (S + x) : ℝ) : EReal) * ((D.K (S + x) l : ℝ) : EReal)
      = ((D.dqa w t l (S + 256) : ℝ) : EReal) := by
  rw [D.dqa_next, EReal.coe_add, coe_sum]
  simp only [EReal.coe_mul]
theorem cp_e (w t S : ℕ) : ((D.cp w t S : ℝ) : EReal) + ((D.pp w t S ((255 : Fin 256) : ℕ) : ℝ) : EReal) = ((D.cp w t (S + 256) : ℝ) : EReal) := by
  rw [D.cp_next, EReal.coe_add]; rfl
theorem cg_e (w t S : ℕ) :
    ((D.cg w t S : ℝ) : EReal) + (((D.gg w t S ((255 : Fin 256) : ℕ) : ℝ) : EReal) + ((D.g w t (S + ((255 : Fin 256) : ℕ)) : ℝ) : EReal))
      = ((D.cg w t (S + 256) : ℝ) : EReal) := by
  rw [D.cg_next, EReal.coe_add, EReal.coe_add]; rfl
theorem kacc_e (w : ℕ) (row : ℕ → ℕ) (n l s : ℕ) :
    ∑ x : Fin n, ((D.qm w (row x) l : ℝ) : EReal) * ((D.dz w (row x) s : ℝ) : EReal) = ((D.kacc w row n l s : ℝ) : EReal) := by
  rw [kacc, coe_sum]
  simp only [EReal.coe_mul]
theorem vacc_e (w : ℕ) (row : ℕ → ℕ) (n l s : ℕ) :
    ∑ x : Fin n, ((D.ym w (row x) l : ℝ) : EReal) * ((D.a w (row x) s : ℝ) : EReal) = ((D.vacc w row n l s : ℝ) : EReal) := by
  rw [vacc, coe_sum]
  simp only [EReal.coe_mul]

end Cert.SbMath.Dat
end
-- ==== Proof.SbSoft.lean ====
module

public import proofs.«01_k».proof.Proof.SbPlain
public import proofs.«01_k».proof.Proof.SbOps

/-! The log of the logistic function as the host's programs compute it, and the strict triangle's comparison. -/

@[expose] public section
noncomputable section

namespace Cert.SbProof
open Idealize.ShloMosaic Cert.Reals Cert.SbMath Cert.SbMath.Dat

/-- The stable form of `log (1 + exp z)`. -/
theorem softplus (z : ℝ) :
    (if (z : EReal) ≠ (z : EReal) then (z : EReal) else max (z : EReal) 0 + Ideal.log1p (Ideal.exp (-(FloatOps.absf (F := Ideal) (φ := .f32) (z : EReal) : EReal))))
      = ((Real.log (1 + Real.exp z) : ℝ) : EReal) := by
  rw [if_neg (fun h => h rfl)]
  have ha : (FloatOps.absf (F := Ideal) (φ := .f32) (z : EReal) : EReal) = ((|z| : ℝ) : EReal) := by
    show max (z : EReal) (-(z : EReal)) = _
    rw [← EReal.coe_neg, abs_eq_max_neg, ← EReal.coe_strictMono.monotone.map_max]
  have hm : max (z : EReal) 0 = ((max z 0 : ℝ) : EReal) := by
    rw [← EReal.coe_zero, ← EReal.coe_strictMono.monotone.map_max]
  rw [ha, hm, ← EReal.coe_neg, exp_e]
  show _ + Ideal.log (1 + _) = _
  rw [← EReal.coe_one, ← EReal.coe_add, log_e (by positivity), ← EReal.coe_add]
  congr 1
  rcases le_total 0 z with h | h
  · rw [max_eq_left h, abs_of_nonneg h]
    have : 1 + Real.exp z = Real.exp z * (1 + Real.exp (-z)) := by
      rw [mul_add, mul_one, ← Real.exp_add, add_neg_cancel, Real.exp_zero, add_comm]
    rw [this, Real.log_mul (by positivity) (by positivity), Real.log_exp]
  · rw [max_eq_right h, abs_of_nonpos h, neg_neg, zero_add]

theorem lt_bit {x y : ℕ} (hx : x < 4096) (hy : y < 4096) :
    IntOp.cmpi .slt (BitVec.ofNat 32 x) (BitVec.ofNat 32 y) = bit (x < y) := by
  have e : ∀ n : ℕ, n < 4096 → (BitVec.ofNat 32 n).toNat = n := fun n h => by
    rw [BitVec.toNat_ofNat]; exact Nat.mod_eq_of_lt (by omega)
  rw [WordCmp.cmpi_slt_of_lt (by rw [e x hx]; omega) (by rw [e y hy]; omega), e x hx, e y hy, bit]
  by_cases h : x < y <;> simp [h]

theorem coe_ne_inf (z : ℝ) : ¬(z : EReal) = Ideal.ofBits .f32 0x7F800000#32 := by
  have ht : Ideal.ofBits .f32 0x7F800000#32 = ⊤ := by simp [Ideal.ofBits, Ideal.ieee]
  rw [ht]; exact EReal.coe_ne_top z

/-- A real sum over the first naturals, as a sum over the finite type. -/
theorem sum_fin {n : ℕ} (f : ℕ → ℝ) (g : Fin n → EReal) (h : ∀ k, g k = (f k : EReal)) :
    ∑ k, g k = ((∑ k ∈ Finset.range n, f k : ℝ) : EReal) := by
  rw [Finset.sum_range f, coe_sum]
  exact Finset.sum_congr rfl fun k _ => h k

/-- A masked real. -/
theorem masked {p : Prop} [Decidable p] (a : ℝ) : Scalar.select (bit p) (a : EReal) 0 = ((if p then a else 0 : ℝ) : EReal) := by
  by_cases h : p
  · rw [sel_pos h, if_pos h]
  · rw [sel_neg h, if_neg h, EReal.coe_zero]

end Cert.SbProof
-- ==== Proof.SbBlk.lean ====
module

public import proofs.«01_k».proof.Proof.SbSoft
public import proofs.«01_k».proof.Proof.Gen.SbKernelIdeal.Value
public import Idealize.ShloMosaic.Lib.Pipeline.ValueKit
public import Idealize.ShloMosaic.Lib.Claim
public import Idealize.ShloMosaic.Lib.StableHlo.ReadAt

/-! What the stick-breaking backward kernel's blocks hold at each point of its grid: the rows of the projection, the log
of what each query leaves, and the cotangent. -/

@[expose] public section
set_option maxRecDepth 16384
noncomputable section

namespace Cert.SbProof
open Idealize.ShloMosaic Idealize.ShloMosaic.TcCoe Idealize.SL.Sem Cert.Reals Cert.SbMath
open Cert.SbKernelIdeal Cert.SbKernelIdeal.Gen

variable (m : (ℓ : Loc nD τ sig) → Buf (Elt Ideal) ℓ)

abbrev argP (c : Dev nD) : FVec Ideal S1x4096x4616 .f32 := m ((c : Thread nD τ).loc main_arg0)
abbrev argY (c : Dev nD) : FVec Ideal S4096x512 .f32 := m ((c : Thread nD τ).loc main_arg1)

/-- The index maps of the windows, decided over the grid. -/
theorem idx : ∀ t : Fin cfg0.N, win0_0.index t = ![t.val % 4, t.val / 4] ∧ win0_1.index t = ![0, 4 + t.val / 4]
    ∧ win0_2.index t = ![0, 8 + t.val / 4] ∧ win0_3.index t = ![t.val % 4, t.val / 4] ∧ win0_4.index t = ![t.val % 4, t.val / 4] :=
  (by decide +kernel : ∀ t : Fin grid0.N, _)

/-- The second grid coordinate. -/
theorem coord1 : ∀ t : Fin cfg0.N, (grid0.coords t 1).val = t.val % 4 :=
  (by decide +kernel : ∀ t : Fin grid0.N, _)

theorem e34 (c : Dev nD) (i : Fin 4096) (l : Fin 4608) :
    (show FVec Ideal S4096x4608 .f32 from V m c main_v34) (ix2 i l) = argP m c (ix3 0 i ⟨l, by omega⟩) := by
  unfold Gen.V
  simp only [List.flatten_cons, List.flatten_nil, List.append_nil, List.cons_append, List.nil_append]
  after_reads_at

theorem eY (c : Dev nD) (i : Fin 4096) (l : Fin 512) :
    (show FVec Ideal S4096x512 .f32 from V m c main_arg1) (ix2 i l) = argY m c (ix2 i l) := by
  unfold Gen.V
  simp only [List.flatten_cons, List.flatten_nil, List.append_nil, List.cons_append, List.nil_append]
  after_reads_at

/-- The host's masked log of the share a key leaves, at a real score. -/
theorem leaves (P : ℕ → ℕ → ℝ) (h i x : ℕ) (hi : i < 4096) (hx : x < 4096) (Z : EReal) (hZ : Z = (zr P h i x : EReal)) (z0 : EReal) (h0 : z0 = 0) :
    Scalar.select (IntOp.cmpi .slt (BitVec.ofNat 32 x) (BitVec.ofNat 32 i))
      ((-if -Z ≠ -Z then -Z else max (-Z) 0 + Ideal.log1p (Ideal.exp (-(FloatOps.absf (F := Ideal) (φ := .f32) (-Z) : EReal)))) - Z) z0
      = (lr P h i x : EReal) := by
  rw [hZ, h0, ← EReal.coe_neg, softplus, lt_bit hx hi, ← EReal.coe_neg, ← EReal.coe_sub, masked]
  rfl

variable {P Y : ℕ → ℕ → ℝ} (c : Dev nD)
  (hP : ∀ (t : Fin 4096) (j : Fin 4616), j.val < 1536 → argP m c (ix3 0 t j) = (P t j : EReal))
  (hY : ∀ (t : Fin 4096) (j : Fin 512), argY m c (ix2 t j) = (Y t j : EReal))

section
include hP
theorem score (h : Fin 8) (t s : Fin 4096) :
    (∑ x : Fin 64, argP m c (ix3 0 t ⟨h.val * 64 + x.val, by omega⟩) * argP m c (ix3 0 s ⟨512 + (h.val * 64 + x.val), by omega⟩))
      * Ideal.ofBits .f32 0x3E000000#32 = (zr P h t s : EReal) := by
  rw [Dat.bits_eighth, zr, EReal.coe_mul, coe_sum]
  refine congrArg (· * _) (Finset.sum_congr rfl fun d _ => ?_)
  rw [hP _ _ (show h.val * 64 + d.val < 1536 by omega), hP _ _ (show 512 + (h.val * 64 + d.val) < 1536 by omega), EReal.coe_mul]
  show ((P t (h.val * 64 + d.val) : ℝ) : EReal) * ((P s (512 + (h.val * 64 + d.val)) : ℝ) : EReal) = _
  rw [mul_comm h.val 64]

theorem e32 (i : Fin 4096) (h : Fin 8) (d : Fin 64) :
    (show FVec Ideal S4096x512 .f32 from V m c main_v32) (ix2 i ⟨h.val * 64 + d.val, by omega⟩)
      = ((∑ x ∈ Finset.range 4096, lr P h i x : ℝ) : EReal) := by
  unfold Gen.V
  simp only [List.flatten_cons, List.flatten_nil, List.append_nil, List.cons_append, List.nil_append]
  after_reads_at
  refine sum_fin _ _ fun x => ?_
  exact leaves P h i x i.isLt x.isLt _ (score m c hP h i x) _ (Ideal.ofBits_zero .f32)

theorem blk0 (t : Fin cfg0.N) (r : Fin 1024) (l : Fin 128) (hN : t.val < 16) :
    (show FVec Ideal S1024x128 .f32 from iblk m c 0 t) (ix2 r l) = ((P (1024 * (t.val % 4) + r) (128 * (t.val / 4) + l) : ℝ) : EReal) := by
  obtain ⟨x0, x1, x2, x3, x4⟩ := idx t
  have he : (win0_0.blk t).view.emb (ix2 r l) = ix2 (⟨t.val % 4 * 1024 + r, by omega⟩ : Fin 4096) (⟨t.val / 4 * 128 + l, by omega⟩ : Fin 4608) := by
    blk_ext [x0]
  blk_simp [iblk]
  rw [he]
  refine (e34 m c _ _).trans ((hP _ _ (by show t.val / 4 * 128 + l.val < 1536; omega)).trans ?_)
  show ((P (t.val % 4 * 1024 + r) (t.val / 4 * 128 + l) : ℝ) : EReal) = _
  rw [mul_comm (t.val % 4), mul_comm (t.val / 4)]

theorem blk1 (t : Fin cfg0.N) (s : Fin 4096) (l : Fin 128) (hN : t.val < 16) :
    (show FVec Ideal S4096x128 .f32 from iblk m c 1 t) (ix2 s l) = ((P s (512 + (128 * (t.val / 4) + l)) : ℝ) : EReal) := by
  obtain ⟨x0, x1, x2, x3, x4⟩ := idx t
  have he : (win0_1.blk t).view.emb (ix2 s l) = ix2 s (⟨512 + (128 * (t.val / 4) + l), by omega⟩ : Fin 4608) := by
    blk_ext [x1]
  blk_simp [iblk]
  rw [he]
  exact (e34 m c _ _).trans (hP _ _ (by show 512 + (128 * (t.val / 4) + l.val) < 1536; omega))

theorem blk2 (t : Fin cfg0.N) (s : Fin 4096) (l : Fin 128) (hN : t.val < 16) :
    (show FVec Ideal S4096x128 .f32 from iblk m c 2 t) (ix2 s l) = ((P s (1024 + (128 * (t.val / 4) + l)) : ℝ) : EReal) := by
  obtain ⟨x0, x1, x2, x3, x4⟩ := idx t
  have he : (win0_2.blk t).view.emb (ix2 s l) = ix2 s (⟨1024 + (128 * (t.val / 4) + l), by omega⟩ : Fin 4608) := by
    blk_ext [x2]
  blk_simp [iblk]
  rw [he]
  exact (e34 m c _ _).trans (hP _ _ (by show 1024 + (128 * (t.val / 4) + l.val) < 1536; omega))

theorem blk3 (t : Fin cfg0.N) (r : Fin 1024) (l : Fin 128) (hN : t.val < 16) :
    (show FVec Ideal S1024x128 .f32 from iblk m c 3 t) (ix2 r l)
      = ((∑ x ∈ Finset.range 4096, lr P (2 * (t.val / 4) + l / 64) (1024 * (t.val % 4) + r) x : ℝ) : EReal) := by
  obtain ⟨x0, x1, x2, x3, x4⟩ := idx t
  have he : (win0_3.blk t).view.emb (ix2 r l) = ix2 (⟨1024 * (t.val % 4) + r, by omega⟩ : Fin 4096)
      (⟨(⟨2 * (t.val / 4) + l / 64, by omega⟩ : Fin 8).val * 64 + (⟨l % 64, by omega⟩ : Fin 64).val, by dsimp only; omega⟩ : Fin 512) := by
    blk_ext [x3]
  blk_simp [iblk]
  rw [he]
  exact e32 m c hP _ _ _
end

include hY in
theorem blk4 (t : Fin cfg0.N) (r : Fin 1024) (l : Fin 128) (hN : t.val < 16) :
    (show FVec Ideal S1024x128 .f32 from iblk m c 4 t) (ix2 r l) = ((Y (1024 * (t.val % 4) + r) (128 * (t.val / 4) + l) : ℝ) : EReal) := by
  obtain ⟨x0, x1, x2, x3, x4⟩ := idx t
  have he : (win0_4.blk t).view.emb (ix2 r l) = ix2 (⟨1024 * (t.val % 4) + r, by omega⟩ : Fin 4096) (⟨128 * (t.val / 4) + l, by omega⟩ : Fin 512) := by
    blk_ext [x4]
  blk_simp [iblk]
  rw [he]
  exact (eY m c _ _).trans (hY _ _)

end Cert.SbProof
end
-- ==== Proof.SbMem.lean ====
module

public import Idealize.ShloMosaic.Lib.Pointwise
public import Idealize.ShloMosaic.Lib.WritesUnit
public import Idealize.ShloMosaic.Lib.Pipeline.FrameBody
public import Idealize.ShloMosaic.Lib.Pipeline.ReadBack

/-! What a buffer of two heads' rows, or of transposed columns, holds after one store. -/

@[expose] public section
noncomputable section

namespace Cert.SbProof
open Idealize.ShloMosaic Idealize.ShloMosaic.TcCoe

variable {sig : RefSig} {κ : Kind} {sp : Space} {e : EltTy}

/-- A load of one head's rows from `r0` on. -/
theorem ld3 {n m : ℕ} (v : View sig κ sp ⟨3, ![2, 1024, m]⟩ .f32) (f : v.ty.Contents (Elt Ideal)) (w : Fin 2) (r0 : ℕ)
    (inb : ∀ a, (![w.val, r0, 0] : Fin 3 → ℕ) a + (⟨3, ![1, n, m]⟩ : Shape).size a ≤ (⟨3, ![2, 1024, m]⟩ : Shape).size a)
    (spec : ℕ → ℕ → ℝ) (h : ∀ (r : Fin 1024) (l : Fin m), v.read (Elt Ideal) f (ix3 w r l) = ((spec r l : ℝ) : EReal))
    (r : Fin n) (l : Fin m) :
    v.readAt (Elt Ideal) (Rect.unit (s := ⟨3, ![2, 1024, m]⟩) ![w.val, r0, 0] (⟨3, ![1, n, m]⟩ : Shape).size inb).toLoadRect f (ix3 0 r l)
      = ((spec (r0 + r) l : ℝ) : EReal) := by
  have h1 : r0 + n ≤ 1024 := inb 1
  have hr := r.isLt
  rw [View.readAt_apply]
  have key : (Rect.unit (s := ⟨3, ![2, 1024, m]⟩) ![w.val, r0, 0] (⟨3, ![1, n, m]⟩ : Shape).size inb).toLoadRect.idx (ix3 0 r l)
      = ix3 w ⟨r0 + r, by omega⟩ l := by
    funext a
    fin_cases a
    · exact Fin.ext (by show w.val + 1 * 0 = w.val; omega)
    · exact Fin.ext (by show r0 + 1 * r.val = r0 + r.val; omega)
    · exact Fin.ext (by show 0 + 1 * l.val = l.val; omega)
  exact (congrArg (v.read (Elt Ideal) f) key).trans (h ⟨r0 + r, by omega⟩ l)

/-- A load of one head's rows, all of them. -/
theorem ld3z {n m : ℕ} (v : View sig κ sp ⟨3, ![2, 1024, m]⟩ .f32) (f : v.ty.Contents (Elt Ideal)) (w : Fin 2)
    (inb : ∀ a, (![w.val, 0, 0] : Fin 3 → ℕ) a + (⟨3, ![1, n, m]⟩ : Shape).size a ≤ (⟨3, ![2, 1024, m]⟩ : Shape).size a)
    (spec : ℕ → ℕ → ℝ) (h : ∀ (r : Fin 1024) (l : Fin m), v.read (Elt Ideal) f (ix3 w r l) = ((spec r l : ℝ) : EReal))
    (r : Fin n) (l : Fin m) :
    v.readAt (Elt Ideal) (Rect.unit (s := ⟨3, ![2, 1024, m]⟩) ![w.val, 0, 0] (⟨3, ![1, n, m]⟩ : Shape).size inb).toLoadRect f (ix3 0 r l)
      = ((spec r l : ℝ) : EReal) := by
  rw [ld3 v f w 0 inb spec h r l, zero_add]

/-- The same load of a buffer whose stores are known. -/
theorem ldc3 {n m : ℕ} (v : View sig κ sp ⟨3, ![2, 1024, m]⟩ .f32) (L : List (View.Piece (Elt Ideal) ⟨3, ![2, 1024, m]⟩ .f32)) (w : Fin 2) (r0 : ℕ)
    (inb : ∀ a, (![w.val, r0, 0] : Fin 3 → ℕ) a + (⟨3, ![1, n, m]⟩ : Shape).size a ≤ (⟨3, ![2, 1024, m]⟩ : Shape).size a)
    (spec : ℕ → ℕ → ℝ) (h : ∀ (r : Fin 1024) (l : Fin m), v.read (Elt Ideal) (v.writes (Elt Ideal) v.junk L) (ix3 w r l) = ((spec r l : ℝ) : EReal))
    (r : Fin n) (l : Fin m) :
    v.readCov L (Rect.unit (s := ⟨3, ![2, 1024, m]⟩) ![w.val, r0, 0] (⟨3, ![1, n, m]⟩ : Shape).size inb).toLoadRect (ix3 0 r l)
      = ((spec (r0 + r) l : ℝ) : EReal) := by
  rw [View.readCov_eq_canon', ← View.read_writes_junk_eq_canon v L]
  exact ld3 v _ w r0 inb spec h r l

/-- The same load, of all the rows. -/
theorem ldc3z {n m : ℕ} (v : View sig κ sp ⟨3, ![2, 1024, m]⟩ .f32) (L : List (View.Piece (Elt Ideal) ⟨3, ![2, 1024, m]⟩ .f32)) (w : Fin 2)
    (inb : ∀ a, (![w.val, 0, 0] : Fin 3 → ℕ) a + (⟨3, ![1, n, m]⟩ : Shape).size a ≤ (⟨3, ![2, 1024, m]⟩ : Shape).size a)
    (spec : ℕ → ℕ → ℝ) (h : ∀ (r : Fin 1024) (l : Fin m), v.read (Elt Ideal) (v.writes (Elt Ideal) v.junk L) (ix3 w r l) = ((spec r l : ℝ) : EReal))
    (r : Fin n) (l : Fin m) :
    v.readCov L (Rect.unit (s := ⟨3, ![2, 1024, m]⟩) ![w.val, 0, 0] (⟨3, ![1, n, m]⟩ : Shape).size inb).toLoadRect (ix3 0 r l)
      = ((spec r l : ℝ) : EReal) := by
  rw [ldc3 v L w 0 inb spec h r l, zero_add]

/-- After a store of a head's rows from `r0` to the end, the head's rows are the new ones. -/
theorem st3 {n m : ℕ} (v : View sig κ sp ⟨3, ![2, 1024, m]⟩ .f32) (f : v.ty.Contents (Elt Ideal)) (w : Fin 2) (r0 : ℕ)
    (inb : ∀ a, (![w.val, r0, 0] : Fin 3 → ℕ) a + (⟨3, ![1, n, m]⟩ : Shape).size a ≤ (⟨3, ![2, 1024, m]⟩ : Shape).size a)
    (pay : Vec Ideal ⟨3, ![1, n, m]⟩ .f32) (L : List (View.Piece (Elt Ideal) ⟨3, ![2, 1024, m]⟩ .f32))
    (spec : ℕ → ℕ → ℝ) (hn : r0 + n = 1024) (hp : ∀ (r : Fin n) (l : Fin m), pay (ix3 0 r l) = ((spec (r0 + r) l : ℝ) : EReal))
    (ho : ∀ (r : Fin 1024) (l : Fin m), (r : ℕ) < r0 → v.read (Elt Ideal) (v.writes (Elt Ideal) f L) (ix3 w r l) = ((spec r l : ℝ) : EReal))
    (r : Fin 1024) (l : Fin m) :
    v.read (Elt Ideal) (v.writes (Elt Ideal) f ((⟨Rect.unit (s := ⟨3, ![2, 1024, m]⟩) ![w.val, r0, 0] (⟨3, ![1, n, m]⟩ : Shape).size inb, pay⟩ : View.Piece (Elt Ideal) ⟨3, ![2, 1024, m]⟩ .f32) :: L)) (ix3 w r l)
      = ((spec r l : ℝ) : EReal) := by
  by_cases hr : (r : ℕ) < r0
  · rw [View.read_writes_cons_unit_of_not_mem v f inb pay L (ix3 w r l) rfl 1 (Or.inl hr)]
    exact ho r l hr
  · have hx : ∀ a, ((ix3 w r l : (⟨3, ![2, 1024, m]⟩ : Shape).Idx) a).val = (![w.val, r0, 0] : Fin 3 → ℕ) a + ((ix3 (0 : Fin 1) (⟨r - r0, by omega⟩ : Fin n) l : (⟨3, ![1, n, m]⟩ : Shape).Idx) a).val := by
      intro a
      fin_cases a
      · show w.val = w.val + 0; rfl
      · show r.val = r0 + (r.val - r0); omega
      · show l.val = 0 + l.val; omega
    refine (View.read_writes_cons_unit_of_mem v f inb pay L (ix3 w r l) (ix3 (0 : Fin 1) (⟨r - r0, by omega⟩ : Fin n) l) rfl hx).trans ?_
    rw [hp]
    show ((spec (r0 + (r.val - r0)) l : ℝ) : EReal) = _
    rw [show r0 + (r.val - r0) = r.val by omega]

/-- The other head's rows stay. -/
theorem so3 {n m : ℕ} (v : View sig κ sp ⟨3, ![2, 1024, m]⟩ .f32) (f : v.ty.Contents (Elt Ideal)) (w w' : Fin 2) (hw : w' ≠ w) (r0 : ℕ)
    (inb : ∀ a, (![w.val, r0, 0] : Fin 3 → ℕ) a + (⟨3, ![1, n, m]⟩ : Shape).size a ≤ (⟨3, ![2, 1024, m]⟩ : Shape).size a)
    (pay : Vec Ideal ⟨3, ![1, n, m]⟩ .f32) (L : List (View.Piece (Elt Ideal) ⟨3, ![2, 1024, m]⟩ .f32))
    (spec : ℕ → ℕ → ℝ)
    (ho : ∀ (r : Fin 1024) (l : Fin m), v.read (Elt Ideal) (v.writes (Elt Ideal) f L) (ix3 w' r l) = ((spec r l : ℝ) : EReal))
    (r : Fin 1024) (l : Fin m) :
    v.read (Elt Ideal) (v.writes (Elt Ideal) f ((⟨Rect.unit (s := ⟨3, ![2, 1024, m]⟩) ![w.val, r0, 0] (⟨3, ![1, n, m]⟩ : Shape).size inb, pay⟩ : View.Piece (Elt Ideal) ⟨3, ![2, 1024, m]⟩ .f32) :: L)) (ix3 w' r l)
      = ((spec r l : ℝ) : EReal) := by
  have : w'.val ≠ w.val := fun h => hw (Fin.ext h)
  rw [View.read_writes_cons_unit_of_not_mem v f inb pay L (ix3 w' r l) rfl 0
    (show w'.val < w.val ∨ w.val + 1 ≤ w'.val by omega)]
  exact ho r l

/-- A load of whole rows from `r0` on. -/
theorem ldr {n N : ℕ} (v : View sig κ sp ⟨2, ![N, 128]⟩ .f32) (f : v.ty.Contents (Elt Ideal)) (r0 : ℕ) {off : Fin 2 → ℕ} (hoff : off = ![r0, 0])
    (inb : ∀ a, off a + (⟨2, ![n, 128]⟩ : Shape).size a ≤ (⟨2, ![N, 128]⟩ : Shape).size a)
    (spec : ℕ → ℕ → ℝ) (h : ∀ (r : Fin N) (l : Fin 128), v.read (Elt Ideal) f (ix2 r l) = ((spec r l : ℝ) : EReal))
    (r : Fin n) (l : Fin 128) :
    v.readAt (Elt Ideal) (Rect.unit (s := ⟨2, ![N, 128]⟩) off (⟨2, ![n, 128]⟩ : Shape).size inb).toLoadRect f (ix2 r l)
      = ((spec (r0 + r) l : ℝ) : EReal) := by
  subst hoff
  have h1 : r0 + n ≤ N := inb 0
  have hr := r.isLt
  rw [View.readAt_apply]
  have key : (Rect.unit (s := ⟨2, ![N, 128]⟩) ![r0, 0] (⟨2, ![n, 128]⟩ : Shape).size inb).toLoadRect.idx (ix2 r l)
      = ix2 ⟨r0 + r, by omega⟩ l := by
    funext a
    fin_cases a
    · exact Fin.ext (by show r0 + 1 * r.val = r0 + r.val; omega)
    · exact Fin.ext (by show 0 + 1 * l.val = l.val; omega)
  exact (congrArg (v.read (Elt Ideal) f) key).trans (h ⟨r0 + r, by omega⟩ l)

/-- A load of whole rows, all of them. -/
theorem ldrz {n N : ℕ} (v : View sig κ sp ⟨2, ![N, 128]⟩ .f32) (f : v.ty.Contents (Elt Ideal))
    (inb : ∀ a, (![0, 0] : Fin 2 → ℕ) a + (⟨2, ![n, 128]⟩ : Shape).size a ≤ (⟨2, ![N, 128]⟩ : Shape).size a)
    (spec : ℕ → ℕ → ℝ) (h : ∀ (r : Fin N) (l : Fin 128), v.read (Elt Ideal) f (ix2 r l) = ((spec r l : ℝ) : EReal))
    (r : Fin n) (l : Fin 128) :
    v.readAt (Elt Ideal) (Rect.unit (s := ⟨2, ![N, 128]⟩) ![0, 0] (⟨2, ![n, 128]⟩ : Shape).size inb).toLoadRect f (ix2 r l)
      = ((spec r l : ℝ) : EReal) := by
  rw [ldr v f 0 rfl inb spec h r l, zero_add]

/-- A load of 256 columns from `s0` on. -/
theorem ldt (v : View sig κ sp ⟨2, ![128, 4096]⟩ .f32) (f : v.ty.Contents (Elt Ideal)) (s0 : ℕ) {off : Fin 2 → ℕ} (hoff : off = ![0, s0])
    (inb : ∀ a, off a + (⟨2, ![128, 256]⟩ : Shape).size a ≤ (⟨2, ![128, 4096]⟩ : Shape).size a)
    (spec : ℕ → ℕ → ℝ) (h : ∀ (l : Fin 128) (s : Fin 4096), v.read (Elt Ideal) f (ix2 l s) = ((spec l s : ℝ) : EReal))
    (l : Fin 128) (s : Fin 256) :
    v.readAt (Elt Ideal) (Rect.unit (s := ⟨2, ![128, 4096]⟩) off (⟨2, ![128, 256]⟩ : Shape).size inb).toLoadRect f (ix2 l s)
      = ((spec l (s0 + s) : ℝ) : EReal) := by
  subst hoff
  have h1 : s0 + 256 ≤ 4096 := inb 1
  rw [View.readAt_apply]
  have key : (Rect.unit (s := ⟨2, ![128, 4096]⟩) ![0, s0] (⟨2, ![128, 256]⟩ : Shape).size inb).toLoadRect.idx (ix2 l s)
      = ix2 l ⟨s0 + s, by omega⟩ := by
    funext a
    fin_cases a
    · exact Fin.ext (by show 0 + 1 * l.val = l.val; omega)
    · exact Fin.ext (by show s0 + 1 * s.val = s0 + s.val; omega)
  exact (congrArg (v.read (Elt Ideal) f) key).trans (h l ⟨s0 + s, by omega⟩)

/-- The same load, of columns whose description is simpler on the part loaded. -/
theorem ldtx (v : View sig κ sp ⟨2, ![128, 4096]⟩ .f32) (f : v.ty.Contents (Elt Ideal)) (s0 : ℕ) {off : Fin 2 → ℕ} (hoff : off = ![0, s0])
    (inb : ∀ a, off a + (⟨2, ![128, 256]⟩ : Shape).size a ≤ (⟨2, ![128, 4096]⟩ : Shape).size a)
    (spec spec' : ℕ → ℕ → ℝ) (h : ∀ (l : Fin 128) (s : Fin 4096), v.read (Elt Ideal) f (ix2 l s) = ((spec l s : ℝ) : EReal))
    (hs : ∀ l s, s0 ≤ s → spec l s = spec' l s) (l : Fin 128) (s : Fin 256) :
    v.readAt (Elt Ideal) (Rect.unit (s := ⟨2, ![128, 4096]⟩) off (⟨2, ![128, 256]⟩ : Shape).size inb).toLoadRect f (ix2 l s)
      = ((spec' l (s0 + s) : ℝ) : EReal) := by
  rw [ldt v f s0 hoff inb spec h l s, hs _ _ (by omega)]

/-- After a store of 256 columns, those are the new ones and the others stay. -/
theorem stt (v : View sig κ sp ⟨2, ![128, 4096]⟩ .f32) (f : v.ty.Contents (Elt Ideal)) (s0 : ℕ) {off : Fin 2 → ℕ} (hoff : off = ![0, s0])
    (inb : ∀ a, off a + (⟨2, ![128, 256]⟩ : Shape).size a ≤ (⟨2, ![128, 4096]⟩ : Shape).size a)
    (pay : Vec Ideal ⟨2, ![128, 256]⟩ .f32) (L : List (View.Piece (Elt Ideal) ⟨2, ![128, 4096]⟩ .f32))
    (spec : ℕ → ℕ → ℝ) (hp : ∀ (l : Fin 128) (s : Fin 256), pay (ix2 l s) = ((spec l (s0 + s) : ℝ) : EReal))
    (ho : ∀ (l : Fin 128) (s : Fin 4096), ((s : ℕ) < s0 ∨ s0 + 256 ≤ s) → v.read (Elt Ideal) (v.writes (Elt Ideal) f L) (ix2 l s) = ((spec l s : ℝ) : EReal))
    (l : Fin 128) (s : Fin 4096) :
    v.read (Elt Ideal) (v.writes (Elt Ideal) f ((⟨Rect.unit (s := ⟨2, ![128, 4096]⟩) off (⟨2, ![128, 256]⟩ : Shape).size inb, pay⟩ : View.Piece (Elt Ideal) ⟨2, ![128, 4096]⟩ .f32) :: L)) (ix2 l s)
      = ((spec l s : ℝ) : EReal) := by
  subst hoff
  by_cases hs : (s : ℕ) < s0 ∨ s0 + 256 ≤ s
  · rw [View.read_writes_cons_unit_of_not_mem v f inb pay L (ix2 l s) rfl 1 hs]
    exact ho l s hs
  · have hx : ∀ a, ((ix2 l s : (⟨2, ![128, 4096]⟩ : Shape).Idx) a).val = (![0, s0] : Fin 2 → ℕ) a + ((ix2 l (⟨s - s0, by omega⟩ : Fin 256) : (⟨2, ![128, 256]⟩ : Shape).Idx) a).val := by
      intro a
      fin_cases a
      · show l.val = 0 + l.val; omega
      · show s.val = s0 + (s.val - s0); omega
    refine (View.read_writes_cons_unit_of_mem v f inb pay L (ix2 l s) (ix2 l (⟨s - s0, by omega⟩ : Fin 256)) rfl hx).trans ?_
    rw [hp]
    show ((spec l (s0 + (s.val - s0)) : ℝ) : EReal) = _
    rw [show s0 + (s.val - s0) = s.val by omega]

end Cert.SbProof
end
-- ==== Proof.SbIns.lean ====
module

public import proofs.«01_k».proof.Proof.Gen.SbKernelIdeal.Skeleton
public import proofs.«01_k».proof.Proof.SbOps
public import proofs.«01_k».proof.Proof.SbMem

/-! What the attention's backward kernel holds while it walks over one query block: its prepared rows, and its buffers. -/

@[expose] public section
set_option maxRecDepth 16384
noncomputable section

namespace Cert.SbProof
open Idealize.ShloMosaic Idealize.ShloMosaic.TcCoe
open Cert.SbKernelIdeal Cert.SbKernelIdeal.Gen Cert.SbMath Cert.SbMath.Dat

/-- The triangles and both heads' rows, of the query block that starts at row `b`. -/
structure Ins (D : Dat) (b : ℕ) (v2 : IVec S1024x128 1) (v9 : FVec Ideal S512x256 .bf16) (v13 : FVec Ideal S256x256 .bf16) (v22 v27 v31 v34 : FVec Ideal S1024x128 .bf16)
    (v35 v36 v37 v38 : FVec Ideal S128x1024 .bf16) (v40 v41 v42 : FVec Ideal S1024x128 .f32) : Prop where
  h_v2 : ∀ (r : Fin 1024) (l : Fin 128), v2 (ix2 r l) = bit ((l : ℕ) < 64)
  h_v9 : ∀ (x : Fin 512) (c : Fin 256), v9 (ix2 x c) = ((one ((x : ℕ) % 256 ≤ (c : ℕ)) : ℝ) : EReal)
  h_v13 : ∀ (x : Fin 256) (c : Fin 256), v13 (ix2 x c) = ((one ((x : ℕ) < (c : ℕ)) : ℝ) : EReal)
  h_v22 : ∀ (r : Fin 1024) (l : Fin 128), v22 (ix2 r l) = ((D.qm 0 (b + ↑r) ↑l : ℝ) : EReal)
  h_v27 : ∀ (r : Fin 1024) (l : Fin 128), v27 (ix2 r l) = ((D.qm 1 (b + ↑r) ↑l : ℝ) : EReal)
  h_v31 : ∀ (r : Fin 1024) (l : Fin 128), v31 (ix2 r l) = ((D.ym 0 (b + ↑r) ↑l : ℝ) : EReal)
  h_v34 : ∀ (r : Fin 1024) (l : Fin 128), v34 (ix2 r l) = ((D.ym 1 (b + ↑r) ↑l : ℝ) : EReal)
  h_v35 : ∀ (l : Fin 128) (r : Fin 1024), v35 (ix2 l r) = ((D.qm 0 (b + ↑r) ↑l : ℝ) : EReal)
  h_v36 : ∀ (l : Fin 128) (r : Fin 1024), v36 (ix2 l r) = ((D.qm 1 (b + ↑r) ↑l : ℝ) : EReal)
  h_v37 : ∀ (l : Fin 128) (r : Fin 1024), v37 (ix2 l r) = ((D.ym 0 (b + ↑r) ↑l : ℝ) : EReal)
  h_v38 : ∀ (l : Fin 128) (r : Fin 1024), v38 (ix2 l r) = ((D.ym 1 (b + ↑r) ↑l : ℝ) : EReal)
  h_v40 : ∀ (r : Fin 1024) (l : Fin 128), v40 (ix2 r l) = ((D.T (b + ↑r) (↑l / 64) : ℝ) : EReal)
  h_v41 : ∀ (r : Fin 1024) (l : Fin 128), v41 (ix2 r l) = ((D.T (b + ↑r) (1 - ↑l / 64) : ℝ) : EReal)
  h_v42 : ∀ (r : Fin 1024) (l : Fin 128), v42 (ix2 r l) = ((D.T (b + ↑r) 0 : ℝ) : EReal)

/-- The two heads' rows a buffer holds. -/
def Hold3 (a : Memref sig .tc .vmem S2x1024x128 .f32) (f : BufTy.Contents (Elt Ideal) a.view.ty) (w : Fin 2) (spec : ℕ → ℕ → ℝ) : Prop :=
  ∀ (r : Fin 1024) (l : Fin 128), a.view.read (Elt Ideal) f (ix3 w r l) = ((spec r l : ℝ) : EReal)

/-- The columns a transposed buffer holds. -/
def HoldT (a : Memref sig .tc .vmem S128x4096 .f32) (f : BufTy.Contents (Elt Ideal) a.view.ty) (spec : ℕ → ℕ → ℝ) : Prop :=
  ∀ (l : Fin 128) (s : Fin 4096), a.view.read (Elt Ideal) f (ix2 l s) = ((spec l s : ℝ) : EReal)

/-- The buffers once the keys before `n` are done. -/
structure St (D : Dat) (b n : ℕ) (a10 a11 a12 : Memref sig .tc .vmem S2x1024x128 .f32) (a13 a14 : Memref sig .tc .vmem S128x4096 .f32)
    (f10 : BufTy.Contents (Elt Ideal) a10.view.ty) (f11 : BufTy.Contents (Elt Ideal) a11.view.ty) (f12 : BufTy.Contents (Elt Ideal) a12.view.ty)
    (f13 : BufTy.Contents (Elt Ideal) a13.view.ty) (f14 : BufTy.Contents (Elt Ideal) a14.view.ty) : Prop where
  q0 : Hold3 a10 f10 0 fun r l => D.dqa 0 (b + r) l n
  q1 : Hold3 a10 f10 1 fun r l => D.dqa 1 (b + r) l n
  c0 : Hold3 a11 f11 0 fun r _ => D.cp 0 (b + r) n
  c1 : Hold3 a11 f11 1 fun r _ => D.cp 1 (b + r) n
  g0 : Hold3 a12 f12 0 fun r _ => D.cg 0 (b + r) n
  g1 : Hold3 a12 f12 1 fun r _ => D.cg 1 (b + r) n
  kt : HoldT a13 f13 fun l s => -D.dk l s (if s < n then b + 1024 else b)
  vt : HoldT a14 f14 fun l s => D.dv l s (if s < n then b + 1024 else b)

end Cert.SbProof
end
-- ==== Proof.SbPayS.lean ====
module

public import proofs.«01_k».proof.Proof.Gen.SbKernelIdeal.Skeleton
public import proofs.«01_k».proof.Proof.SbOps

/-! What the attention's backward kernel computes before its first block: the triangles, and both heads' rows. -/

@[expose] public section
set_option maxRecDepth 16384
noncomputable section

namespace Cert.SbProof
open Idealize.ShloMosaic Idealize.ShloMosaic.TcCoe
open Cert.SbKernelIdeal Cert.SbKernelIdeal.Gen Cert.SbMath Cert.SbMath.Dat

theorem p67 (r : Fin 1024) (l : Fin 128) : k0_pay67 (ix2 r l) = bit ((l : ℕ) < 64) := by
  pointwise [k0_pay67]
  exact slt_bit (by omega) (by omega)

theorem p68 (x : Fin 512) (c : Fin 256) : k0_pay68 (F := Ideal) (ix2 x c) = ((one ((x : ℕ) % 256 ≤ (c : ℕ)) : ℝ) : EReal) := by
  pointwise [k0_pay68]
  split
  · rename_i h
    rw [sle_bit (by omega) (by omega)]
    refine (bit_cvt _).trans ?_
    rw [Nat.mod_eq_of_lt h]
  · rename_i h
    rw [sle_bit (by omega) (by omega)]
    refine (bit_cvt _).trans ?_
    rw [show (x : ℕ) % 256 = x - 256 by omega]

theorem p69 (x : Fin 256) (c : Fin 256) : k0_pay69 (F := Ideal) (ix2 x c) = ((one ((x : ℕ) < (c : ℕ)) : ℝ) : EReal) := by
  pointwise [k0_pay69]
  rw [slt_bit (by omega) (by omega)]
  exact bit_cvt _

section
variable (D : Dat) {b : ℕ}

theorem q0 {v : Vec Ideal S1024x128 .f32} (h : ∀ (r : Fin 1024) (l : Fin 128), v (ix2 r l) = ((D.Q (b + r) l : ℝ) : EReal))
    (r : Fin 1024) (l : Fin 128) : k0_pay70 (F := Ideal) v (ix2 r l) = ((D.Q (b + r) ↑l * (1 / 8) : ℝ) : EReal) := by
  pointwise [k0_pay70]
  rw [h, bits_eighth, EReal.coe_mul]

theorem p71 {v : Vec Ideal S1024x128 .f32} (h : ∀ (r : Fin 1024) (l : Fin 128), v (ix2 r l) = ((D.Q (b + r) l : ℝ) : EReal))
    (r : Fin 1024) (l : Fin 128) : k0_pay71 (F := Ideal) v (ix2 r l) = ((D.qm 0 (b + r) l : ℝ) : EReal) := by
  pointwise [k0_pay71]
  rw [q0 D h, p67, qm]
  by_cases hl : (l : ℕ) < 64
  · rw [sel_pos hl, if_pos (by omega), zero_sub, EReal.coe_neg]
  · rw [sel_neg hl, if_neg (by omega), EReal.coe_zero]

theorem p72 {v : Vec Ideal S1024x128 .f32} (h : ∀ (r : Fin 1024) (l : Fin 128), v (ix2 r l) = ((D.Q (b + r) l : ℝ) : EReal))
    (r : Fin 1024) (l : Fin 128) : k0_pay72 (F := Ideal) v (ix2 r l) = ((D.qm 1 (b + r) l : ℝ) : EReal) := by
  pointwise [k0_pay72]
  rw [q0 D h, p67, qm]
  by_cases hl : (l : ℕ) < 64
  · rw [sel_pos hl, if_neg (by omega), EReal.coe_zero]
  · rw [sel_neg hl, if_pos (by omega), zero_sub, EReal.coe_neg]

theorem p73 {v : Vec Ideal S1024x128 .f32} (h : ∀ (r : Fin 1024) (l : Fin 128), v (ix2 r l) = ((D.DY (b + r) l : ℝ) : EReal))
    (r : Fin 1024) (l : Fin 128) : k0_pay73 (F := Ideal) v (ix2 r l) = ((D.ym 0 (b + r) l : ℝ) : EReal) := by
  pointwise [k0_pay73]
  rw [h, p67, ym]
  by_cases hl : (l : ℕ) < 64
  · rw [sel_pos hl, if_pos (by omega)]
  · rw [sel_neg hl, if_neg (by omega), EReal.coe_zero]

theorem p74 {v : Vec Ideal S1024x128 .f32} (h : ∀ (r : Fin 1024) (l : Fin 128), v (ix2 r l) = ((D.DY (b + r) l : ℝ) : EReal))
    (r : Fin 1024) (l : Fin 128) : k0_pay74 (F := Ideal) v (ix2 r l) = ((D.ym 1 (b + r) l : ℝ) : EReal) := by
  pointwise [k0_pay74]
  rw [h, p67, ym]
  by_cases hl : (l : ℕ) < 64
  · rw [sel_pos hl, if_neg (by omega), EReal.coe_zero]
  · rw [sel_neg hl, if_pos (by omega)]

theorem p75 {v : Vec Ideal S1024x128 .f32} (h : ∀ (r : Fin 1024) (l : Fin 128), v (ix2 r l) = ((D.Q (b + r) l : ℝ) : EReal))
    (l : Fin 128) (r : Fin 1024) : k0_pay75 (F := Ideal) v (ix2 l r) = ((D.qm 0 (b + r) l : ℝ) : EReal) := by
  pointwise [k0_pay75]
  exact p71 D h r l
theorem p76 {v : Vec Ideal S1024x128 .f32} (h : ∀ (r : Fin 1024) (l : Fin 128), v (ix2 r l) = ((D.Q (b + r) l : ℝ) : EReal))
    (l : Fin 128) (r : Fin 1024) : k0_pay76 (F := Ideal) v (ix2 l r) = ((D.qm 1 (b + r) l : ℝ) : EReal) := by
  pointwise [k0_pay76]
  exact p72 D h r l
theorem p77 {v : Vec Ideal S1024x128 .f32} (h : ∀ (r : Fin 1024) (l : Fin 128), v (ix2 r l) = ((D.DY (b + r) l : ℝ) : EReal))
    (l : Fin 128) (r : Fin 1024) : k0_pay77 (F := Ideal) v (ix2 l r) = ((D.ym 0 (b + r) l : ℝ) : EReal) := by
  pointwise [k0_pay77]
  exact p73 D h r l
theorem p78 {v : Vec Ideal S1024x128 .f32} (h : ∀ (r : Fin 1024) (l : Fin 128), v (ix2 r l) = ((D.DY (b + r) l : ℝ) : EReal))
    (l : Fin 128) (r : Fin 1024) : k0_pay78 (F := Ideal) v (ix2 l r) = ((D.ym 1 (b + r) l : ℝ) : EReal) := by
  pointwise [k0_pay78]
  exact p74 D h r l

theorem p79 {v : Vec Ideal S1024x128 .f32} (h : ∀ (r : Fin 1024) (l : Fin 128), v (ix2 r l) = ((D.T (b + r) (↑l / 64) : ℝ) : EReal))
    (r : Fin 1024) (l : Fin 128) : k0_pay79 (F := Ideal) v (ix2 r l) = ((D.T (b + r) (↑l / 64) : ℝ) : EReal) := by
  pointwise [k0_pay79]
  exact h r l
theorem p80 {v : Vec Ideal S1024x128 .f32} (h : ∀ (r : Fin 1024) (l : Fin 128), v (ix2 r l) = ((D.T (b + r) (↑l / 64) : ℝ) : EReal))
    (r : Fin 1024) (l : Fin 128) : k0_pay80 (F := Ideal) v (ix2 r l) = ((D.T (b + r) (1 - ↑l / 64) : ℝ) : EReal) := by
  pointwise [k0_pay80]
  rw [p79 D h]
  congr 2
  show ((l : ℕ) + 128 - 64) % 128 / 64 = _
  omega
theorem p81 {v : Vec Ideal S1024x128 .f32} (h : ∀ (r : Fin 1024) (l : Fin 128), v (ix2 r l) = ((D.T (b + r) (↑l / 64) : ℝ) : EReal))
    (r : Fin 1024) (l : Fin 128) : k0_pay81 (F := Ideal) v (ix2 r l) = ((D.T (b + r) 0 : ℝ) : EReal) := by
  pointwise [k0_pay81]
  rw [p79 D h, p80 D h, p67]
  by_cases hl : (l : ℕ) < 64
  · rw [sel_pos hl, show (l : ℕ) / 64 = 0 by omega]
  · rw [sel_neg hl, show 1 - (l : ℕ) / 64 = 0 by omega]
theorem p82 {v2 : IVec S1024x128 1} {v40 v41 : FVec Ideal S1024x128 .f32}
    (h2 : ∀ (r : Fin 1024) (l : Fin 128), v2 (ix2 r l) = bit ((l : ℕ) < 64))
    (h40 : ∀ (r : Fin 1024) (l : Fin 128), v40 (ix2 r l) = ((D.T (b + r) (↑l / 64) : ℝ) : EReal))
    (h41 : ∀ (r : Fin 1024) (l : Fin 128), v41 (ix2 r l) = ((D.T (b + r) (1 - ↑l / 64) : ℝ) : EReal))
    (r : Fin 1024) (l : Fin 128) : k0_pay82 (F := Ideal) v2 v40 v41 (ix2 r l) = ((D.T (b + r) 1 : ℝ) : EReal) := by
  pointwise [k0_pay82]
  rw [h40, h41, h2]
  by_cases hl : (l : ℕ) < 64
  · rw [sel_pos hl, show 1 - (l : ℕ) / 64 = 1 by omega]
  · rw [sel_neg hl, show (l : ℕ) / 64 = 1 by omega]

theorem p83 (w : Fin 2) (r : Fin 1024) (l : Fin 128) : k0_pay83 (F := Ideal) (ix3 w r l) = 0 := by pointwise [k0_pay83]
theorem p84 (w : Fin 2) (r : Fin 1024) (l : Fin 128) : k0_pay84 (F := Ideal) (ix3 w r l) = 0 := by pointwise [k0_pay84]
theorem p85 (w : Fin 2) (r : Fin 1024) (l : Fin 128) : k0_pay85 (F := Ideal) (ix3 w r l) = 0 := by pointwise [k0_pay85]
theorem p86 (l : Fin 128) (s : Fin 4096) : k0_pay86 (F := Ideal) (ix2 l s) = 0 := by pointwise [k0_pay86]
theorem p87 (l : Fin 128) (s : Fin 4096) : k0_pay87 (F := Ideal) (ix2 l s) = 0 := by pointwise [k0_pay87]

/-- The query's cotangent, stored. -/
theorem p2 {v2 : IVec S1024x128 1} {v779 v781 : Vec Ideal S1x1024x128 .f32}
    (h2 : ∀ (r : Fin 1024) (l : Fin 128), v2 (ix2 r l) = bit ((l : ℕ) < 64))
    (h0 : ∀ (r : Fin 1024) (l : Fin 128), v779 (ix3 0 r l) = ((D.dqa 0 (b + r) l (b + 1024) : ℝ) : EReal))
    (h1 : ∀ (r : Fin 1024) (l : Fin 128), v781 (ix3 0 r l) = ((D.dqa 1 (b + r) l (b + 1024) : ℝ) : EReal))
    (r : Fin 1024) (l : Fin 128) :
    k0_pay2 (F := Ideal) v2 v779 v781 (ix2 r l) = ((D.dqa (↑l / 64) (b + r) l (b + 1024) * (1 / 8) : ℝ) : EReal) := by
  pointwise [k0_pay2]
  rw [h0, h1, h2, bits_eighth]
  by_cases hl : (l : ℕ) < 64
  · rw [sel_pos hl, show (l : ℕ) / 64 = 0 by omega, EReal.coe_mul]
  · rw [sel_neg hl, show (l : ℕ) / 64 = 1 by omega, EReal.coe_mul]
theorem p1 (v : FVec Ideal S128x256 .f32) (l : Fin 128) (s : Fin 256) : k0_pay1 (F := Ideal) v (ix2 l s) = v (ix2 l s) := by
  pointwise [k0_pay1]
theorem p3 (v : Vec Ideal S128x4096 .f32) (s : Fin 4096) (l : Fin 128) : k0_pay3 (F := Ideal) v (ix2 s l) = v (ix2 l s) := by
  pointwise [k0_pay3]
theorem p4 (v : Vec Ideal S128x4096 .f32) (s : Fin 4096) (l : Fin 128) : k0_pay4 (F := Ideal) v (ix2 s l) = v (ix2 l s) := by
  pointwise [k0_pay4]

end
end Cert.SbProof
end
-- ==== Proof.SbPayL.lean ====
module

public import proofs.«01_k».proof.Proof.Gen.SbKernelIdeal.Skeleton
public import proofs.«01_k».proof.Proof.SbOps

/-! What one block of 256 columns in front of the rows computes, one expression at a time. -/

@[expose] public section
set_option maxRecDepth 16384
noncomputable section

namespace Cert.SbProof
open Idealize.ShloMosaic Idealize.ShloMosaic.TcCoe
open Cert.SbKernelIdeal Cert.SbKernelIdeal.Gen Cert.SbMath Cert.SbMath.Dat

variable (D : Dat) {b : ℕ} {S : ℕ} (hS : S + 256 ≤ b)
variable {v9 : FVec Ideal S512x256 .bf16}
  {v819 v817 v839 v881 v883 v903 : Vec Ideal S1x1024x128 .f32}
  {v35 v37 v38 v36 : FVec Ideal S128x1024 .bf16}
  {v816 v880 v891 v825 v893 v889 v827 v829 v869 v831 v870 : FVec Ideal S1024x256 .f32}
  {v27 v22 v34 v31 : FVec Ideal S1024x128 .bf16}
  {v884 v818 v882 v42 v43 v820 : FVec Ideal S1024x128 .f32}
  {v911 v801 v802 v850 v847 : FVec Ideal S128x256 .f32}
  {v13 : FVec Ideal S256x256 .bf16}
  {v932 v939 : Vec Ideal S128x256 .f32}
  {v794 v798 : Vec Ideal S256x128 .f32}
  {v796 v800 : FVec Ideal S256x128 .bf16}
  {cst_360 : Ideal .f32}
variable (h_v9 : ∀ (x : Fin 512) (c : Fin 256), v9 (ix2 x c) = ((one ((x : ℕ) % 256 ≤ (c : ℕ)) : ℝ) : EReal))
  (h_v819 : ∀ (r : Fin 1024) (l : Fin 128), v819 (ix3 0 r l) = ((D.cg 0 (b + r) S : ℝ) : EReal))
  (h_v35 : ∀ (l : Fin 128) (r : Fin 1024), v35 (ix2 l r) = ((D.qm 0 (b + r) l : ℝ) : EReal))
  (h_v37 : ∀ (l : Fin 128) (r : Fin 1024), v37 (ix2 l r) = ((D.ym 0 (b + r) l : ℝ) : EReal))
  (h_v816 : ∀ (r : Fin 1024) (c : Fin 256), v816 (ix2 r c) = ((D.pp 0 (b + r) S c : ℝ) : EReal))
  (h_v27 : ∀ (r : Fin 1024) (l : Fin 128), v27 (ix2 r l) = ((D.qm 1 (b + r) l : ℝ) : EReal))
  (h_v880 : ∀ (r : Fin 1024) (c : Fin 256), v880 (ix2 r c) = ((D.pp 1 (b + r) S c : ℝ) : EReal))
  (h_v884 : ∀ (r : Fin 1024) (l : Fin 128), v884 (ix2 r l) = ((D.cg 1 (b + r) S : ℝ) : EReal))
  (h_v911 : ∀ (l : Fin 128) (s : Fin 256), v911 (ix2 l s) = ((D.kacc 0 (fun x => b + x) 1024 l (S + s) + D.kacc 1 (fun x => b + x) 1024 l (S + s) : ℝ) : EReal))
  (h_v38 : ∀ (l : Fin 128) (r : Fin 1024), v38 (ix2 l r) = ((D.ym 1 (b + r) l : ℝ) : EReal))
  (h_v13 : ∀ (x : Fin 256) (c : Fin 256), v13 (ix2 x c) = ((one ((x : ℕ) < (c : ℕ)) : ℝ) : EReal))
  (h_v801 : ∀ (l : Fin 128) (s : Fin 256), v801 (ix2 l s) = 0)
  (h_v802 : ∀ (l : Fin 128) (s : Fin 256), v802 (ix2 l s) = 0)
  (h_v818 : ∀ (r : Fin 1024) (l : Fin 128), v818 (ix2 r l) = ((D.cp 0 (b + r) S : ℝ) : EReal))
  (h_v882 : ∀ (r : Fin 1024) (l : Fin 128), v882 (ix2 r l) = ((D.cp 1 (b + r) S : ℝ) : EReal))
  (h_v891 : ∀ (r : Fin 1024) (c : Fin 256), v891 (ix2 r c) = ((D.g 1 (b + r) (S + c) : ℝ) : EReal))
  (h_v932 : ∀ (l : Fin 128) (s : Fin 256), v932 (ix2 l s) = ((-D.dk l (S + s) b : ℝ) : EReal))
  (h_v850 : ∀ (l : Fin 128) (s : Fin 256), v850 (ix2 l s) = ((D.vacc 0 (fun x => b + x) 1024 l (S + s) : ℝ) : EReal))
  (h_v22 : ∀ (r : Fin 1024) (l : Fin 128), v22 (ix2 r l) = ((D.qm 0 (b + r) l : ℝ) : EReal))
  (h_v34 : ∀ (r : Fin 1024) (l : Fin 128), v34 (ix2 r l) = ((D.ym 1 (b + r) l : ℝ) : EReal))
  (h_v825 : ∀ (r : Fin 1024) (c : Fin 256), v825 (ix2 r c) = ((D.a 0 (b + r) (S + c) : ℝ) : EReal))
  (h_v893 : ∀ (r : Fin 1024) (c : Fin 256), v893 (ix2 r c) = ((D.gg 1 (b + r) S c : ℝ) : EReal))
  (h_v889 : ∀ (r : Fin 1024) (c : Fin 256), v889 (ix2 r c) = ((D.a 1 (b + r) (S + c) : ℝ) : EReal))
  (h_v31 : ∀ (r : Fin 1024) (l : Fin 128), v31 (ix2 r l) = ((D.ym 0 (b + r) l : ℝ) : EReal))
  (h_v36 : ∀ (l : Fin 128) (r : Fin 1024), v36 (ix2 l r) = ((D.qm 1 (b + r) l : ℝ) : EReal))
  (h_v939 : ∀ (l : Fin 128) (s : Fin 256), v939 (ix2 l s) = ((D.dv l (S + s) b : ℝ) : EReal))
  (h_v42 : ∀ (r : Fin 1024) (l : Fin 128), v42 (ix2 r l) = ((D.T (b + r) 0 : ℝ) : EReal))
  (h_v43 : ∀ (r : Fin 1024) (l : Fin 128), v43 (ix2 r l) = ((D.T (b + r) 1 : ℝ) : EReal))
  (h_v794 : ∀ (s : Fin 256) (l : Fin 128), v794 (ix2 s l) = ((D.K (S + s) l : ℝ) : EReal))
  (h_v796 : ∀ (s : Fin 256) (l : Fin 128), v796 (ix2 s l) = ((D.K (S + s) l : ℝ) : EReal))
  (h_v798 : ∀ (s : Fin 256) (l : Fin 128), v798 (ix2 s l) = ((D.V (S + s) l : ℝ) : EReal))
  (h_v820 : ∀ (r : Fin 1024) (l : Fin 128), v820 (ix2 r l) = ((D.cg 0 (b + r) S : ℝ) : EReal))
  (h_v800 : ∀ (s : Fin 256) (l : Fin 128), v800 (ix2 s l) = ((D.V (S + s) l : ℝ) : EReal))
  (h_v817 : ∀ (r : Fin 1024) (l : Fin 128), v817 (ix3 0 r l) = ((D.cp 0 (b + r) S : ℝ) : EReal))
  (h_v827 : ∀ (r : Fin 1024) (c : Fin 256), v827 (ix2 r c) = ((D.g 0 (b + r) (S + c) : ℝ) : EReal))
  (h_v847 : ∀ (l : Fin 128) (s : Fin 256), v847 (ix2 l s) = ((D.kacc 0 (fun x => b + x) 1024 l (S + s) : ℝ) : EReal))
  (h_v829 : ∀ (r : Fin 1024) (c : Fin 256), v829 (ix2 r c) = ((D.gg 0 (b + r) S c : ℝ) : EReal))
  (h_v869 : ∀ (r : Fin 1024) (c : Fin 256), v869 (ix2 r c) = ((D.nz 1 (b + r) (S + c) : ℝ) : EReal))
  (h_v831 : ∀ (r : Fin 1024) (c : Fin 256), v831 (ix2 r c) = ((-D.sp 0 (b + r) (S + c) : ℝ) : EReal))
  (h_v870 : ∀ (r : Fin 1024) (c : Fin 256), v870 (ix2 r c) = ((Real.exp (D.nz 1 (b + r) (S + c)) : ℝ) : EReal))
  (h_v839 : ∀ (r : Fin 1024) (l : Fin 128), v839 (ix3 0 r l) = ((D.dqa 0 (b + r) l S : ℝ) : EReal))
  (h_cst_360 : cst_360 = 1)
  (h_v881 : ∀ (r : Fin 1024) (l : Fin 128), v881 (ix3 0 r l) = ((D.cp 1 (b + r) S : ℝ) : EReal))
  (h_v883 : ∀ (r : Fin 1024) (l : Fin 128), v883 (ix3 0 r l) = ((D.cg 1 (b + r) S : ℝ) : EReal))
  (h_v903 : ∀ (r : Fin 1024) (l : Fin 128), v903 (ix3 0 r l) = ((D.dqa 1 (b + r) l S : ℝ) : EReal))

include hS h_v794 in
theorem p5 : ∀ (s : Fin 256) (l : Fin 128), (k0_pay5 v794) (ix2 s l) = ((D.K (S + s) l : ℝ) : EReal) := by
  intro s l
  pointwise [k0_pay5]
  simp only [h_v794]

include hS h_v798 in
theorem p6 : ∀ (s : Fin 256) (l : Fin 128), (k0_pay6 v798) (ix2 s l) = ((D.V (S + s) l : ℝ) : EReal) := by
  intro s l
  pointwise [k0_pay6]
  simp only [h_v798]

include D hS in
theorem p7 : ∀ (l : Fin 128) (s : Fin 256), (k0_pay7 (F := Ideal)) (ix2 l s) = 0 := by
  intro l s
  pointwise [k0_pay7]

include D hS in
theorem p8 : ∀ (l : Fin 128) (s : Fin 256), (k0_pay8 (F := Ideal)) (ix2 l s) = 0 := by
  intro l s
  pointwise [k0_pay8]

include hS h_v22 h_v794 in
theorem p9 : ∀ (r : Fin 1024) (c : Fin 256), (k0_pay9 v22 v794) (ix2 r c) = ((D.nz 0 (b + r) (S + c) : ℝ) : EReal) := by
  intro r c
  pointwise [k0_pay9]
  simp only [h_v22, h_v794, p5 D hS h_v794]
  with_reducible_and_instances exact D.nz_e 0 (b + r.val) (S + c.val)

include hS h_v22 h_v794 in
theorem p10 : ∀ (r : Fin 1024) (c : Fin 256), (k0_pay10 v22 v794) (ix2 r c) = ((D.sp 0 (b + r) (S + c) : ℝ) : EReal) := by
  intro r c
  pointwise [k0_pay10]
  simp only [h_v22, h_v794, p9 D hS h_v22 h_v794]
  with_reducible_and_instances exact D.sp_e 0 (b + r.val) (S + c.val)

include hS h_v9 h_v22 h_v794 in
theorem p11 : ∀ (r : Fin 1024) (c : Fin 256), (k0_pay11 v9 v22 v794) (ix2 r c) = ((D.pp 0 (b + r) S c : ℝ) : EReal) := by
  intro r c
  have L := fun x : Fin 256 => D.lk_e (w := 0) (t := b + r.val) (s := S + ↑x) (by omega)
  pointwise [k0_pay11]
  simp only [h_v9, h_v22, h_v794, p10 D hS h_v22 h_v794, p9 D hS h_v22 h_v794, L]
  with_reducible_and_instances exact D.pp_e 0 (b + r.val) S c

include hS h_v817 in
theorem p12 : ∀ (r : Fin 1024) (l : Fin 128), (k0_pay12 v817) (ix2 r l) = ((D.cp 0 (b + r) S : ℝ) : EReal) := by
  intro r l
  pointwise [k0_pay12]
  simp only [h_v817]

include hS h_v819 in
theorem p13 : ∀ (r : Fin 1024) (l : Fin 128), (k0_pay13 v819) (ix2 r l) = ((D.cg 0 (b + r) S : ℝ) : EReal) := by
  intro r l
  pointwise [k0_pay13]
  simp only [h_v819]

include hS h_v9 h_v22 h_v42 h_v794 h_v817 in
theorem p14 : ∀ (r : Fin 1024) (c : Fin 256), (k0_pay14 v9 v22 v42 v794 v817) (ix2 r c) = ((D.a 0 (b + r) (S + c) : ℝ) : EReal) := by
  intro r c
  pointwise [k0_pay14]
  simp only [h_v9, h_v22, h_v42, h_v794, h_v817, p10 D hS h_v22 h_v794, p11 D hS h_v9 h_v22 h_v794, p12 D hS h_v817, dite_eq_ite, ite_self]
  with_reducible_and_instances exact D.a_e (by omega)

include hS h_v9 h_v22 h_v31 h_v42 h_v794 h_v798 h_v817 in
theorem p15 : ∀ (r : Fin 1024) (c : Fin 256), (k0_pay15 v9 v22 v31 v42 v794 v798 v817) (ix2 r c) = ((D.g 0 (b + r) (S + c) : ℝ) : EReal) := by
  intro r c
  pointwise [k0_pay15]
  simp only [h_v9, h_v22, h_v31, h_v42, h_v794, h_v798, h_v817, p14 D hS h_v9 h_v22 h_v42 h_v794 h_v817, p6 D hS h_v798]
  with_reducible_and_instances exact D.g_e 0 (b + r.val) (S + c.val)

include hS h_v9 h_v13 h_v22 h_v31 h_v42 h_v794 h_v798 h_v817 in
theorem p16 : ∀ (r : Fin 1024) (c : Fin 256), (k0_pay16 v9 v13 v22 v31 v42 v794 v798 v817) (ix2 r c) = ((D.gg 0 (b + r) S c : ℝ) : EReal) := by
  intro r c
  pointwise [k0_pay16]
  simp only [h_v9, h_v13, h_v22, h_v31, h_v42, h_v794, h_v798, h_v817, p15 D hS h_v9 h_v22 h_v31 h_v42 h_v794 h_v798 h_v817]
  with_reducible_and_instances exact D.gg_e 0 (b + r.val) S c

include hS h_v22 h_v794 in
theorem p17 : ∀ (r : Fin 1024) (c : Fin 256), (k0_pay17 v22 v794) (ix2 r c) = ((-D.sp 0 (b + r) (S + c) : ℝ) : EReal) := by
  intro r c
  pointwise [k0_pay17]
  simp only [h_v22, h_v794, p10 D hS h_v22 h_v794]
  with_reducible_and_instances exact D.nsp_e 0 (b + r.val) (S + c.val)

include hS h_v820 h_v827 h_v829 h_v831 in
theorem p18 : ∀ (r : Fin 1024) (c : Fin 256), (k0_pay18 v820 v827 v829 v831) (ix2 r c) = ((D.dz 0 (b + r) (S + c) : ℝ) : EReal) := by
  intro r c
  pointwise [k0_pay18]
  simp only [h_v820, h_v827, h_v829, h_v831, dite_eq_ite, ite_self, D.nsp_e, exp_e]
  with_reducible_and_instances exact D.dz_e (by omega)

include hS h_v796 h_v820 h_v827 h_v829 h_v831 h_v839 in
theorem p19 : ∀ (r : Fin 1024) (l : Fin 128), (k0_pay19 v796 v820 v827 v829 v831 v839) (ix3 0 r l) = ((D.dqa 0 (b + r) l (S + 256) : ℝ) : EReal) := by
  intro r l
  pointwise [k0_pay19]
  simp only [h_v796, h_v820, h_v827, h_v829, h_v831, h_v839, p18 D hS h_v820 h_v827 h_v829 h_v831]
  with_reducible_and_instances exact D.dqa_e 0 (b + r.val) l.val S

include hS h_v35 h_v801 h_v820 h_v827 h_v829 h_v831 in
theorem p20 : ∀ (l : Fin 128) (s : Fin 256), (k0_pay20 v35 v801 v820 v827 v829 v831) (ix2 l s) = ((D.kacc 0 (fun x => b + x) 1024 l (S + s) : ℝ) : EReal) := by
  intro l s
  pointwise [k0_pay20]
  simp only [h_v35, h_v801, h_v820, h_v827, h_v829, h_v831, p18 D hS h_v820 h_v827 h_v829 h_v831]
  with_reducible_and_instances exact (zero_add _).trans (D.kacc_e 0 (fun x => b + x) 1024 l.val (S + s.val))

include hS h_v37 h_v802 h_v825 in
theorem p21 : ∀ (l : Fin 128) (s : Fin 256), (k0_pay21 v37 v802 v825) (ix2 l s) = ((D.vacc 0 (fun x => b + x) 1024 l (S + s) : ℝ) : EReal) := by
  intro l s
  pointwise [k0_pay21]
  simp only [h_v37, h_v802, h_v825]
  with_reducible_and_instances exact (zero_add _).trans (D.vacc_e 0 (fun x => b + x) 1024 l.val (S + s.val))

include hS h_v816 h_v818 in
theorem p22 : ∀ (r : Fin 1024) (l : Fin 128), (k0_pay22 v816 v818) (ix3 0 r l) = ((D.cp 0 (b + r) (S + 256) : ℝ) : EReal) := by
  intro r l
  pointwise [k0_pay22]
  simp only [h_v816, h_v818]
  with_reducible_and_instances exact D.cp_e 0 (b + r.val) S

include hS h_v820 h_v827 h_v829 in
theorem p23 : ∀ (r : Fin 1024) (l : Fin 128), (k0_pay23 v820 v827 v829) (ix3 0 r l) = ((D.cg 0 (b + r) (S + 256) : ℝ) : EReal) := by
  intro r l
  pointwise [k0_pay23]
  simp only [h_v820, h_v827, h_v829]
  with_reducible_and_instances exact D.cg_e 0 (b + r.val) S

include hS h_v27 h_v796 in
theorem p24 : ∀ (r : Fin 1024) (c : Fin 256), (k0_pay24 v27 v796) (ix2 r c) = ((D.nz 1 (b + r) (S + c) : ℝ) : EReal) := by
  intro r c
  pointwise [k0_pay24]
  simp only [h_v27, h_v796]
  with_reducible_and_instances exact D.nz_e 1 (b + r.val) (S + c.val)

include hS h_v27 h_v796 in
theorem p25 : ∀ (r : Fin 1024) (c : Fin 256), (k0_pay25 v27 v796) (ix2 r c) = ((Real.exp (D.nz 1 (b + r) (S + c)) : ℝ) : EReal) := by
  intro r c
  pointwise [k0_pay25]
  simp only [h_v27, h_v796, p24 D hS h_v27 h_v796]
  with_reducible_and_instances exact exp_e _

include hS h_v870 h_cst_360 in
theorem p26 : ∀ (r : Fin 1024) (c : Fin 256), (k0_pay26 v870 cst_360) (ix2 r c) = ((D.sp 1 (b + r) (S + c) : ℝ) : EReal) := by
  intro r c
  pointwise [k0_pay26]
  simp only [h_v870, h_cst_360, zero_add, add_zero]
  with_reducible_and_instances exact D.sp_e' 1 (b + r.val) (S + c.val)

include hS h_v9 h_v869 h_v870 h_cst_360 in
theorem p27 : ∀ (r : Fin 1024) (c : Fin 256), (k0_pay27 v9 v869 v870 cst_360) (ix2 r c) = ((D.pp 1 (b + r) S c : ℝ) : EReal) := by
  intro r c
  have L := fun x : Fin 256 => D.lk_e (w := 1) (t := b + r.val) (s := S + ↑x) (by omega)
  pointwise [k0_pay27]
  simp only [h_v9, h_v869, h_v870, zero_add, add_zero, p26 D hS h_v870 h_cst_360, L]
  with_reducible_and_instances exact D.pp_e 1 (b + r.val) S c

include hS h_v881 in
theorem p28 : ∀ (r : Fin 1024) (l : Fin 128), (k0_pay28 v881) (ix2 r l) = ((D.cp 1 (b + r) S : ℝ) : EReal) := by
  intro r l
  pointwise [k0_pay28]
  simp only [h_v881]

include hS h_v883 in
theorem p29 : ∀ (r : Fin 1024) (l : Fin 128), (k0_pay29 v883) (ix2 r l) = ((D.cg 1 (b + r) S : ℝ) : EReal) := by
  intro r l
  pointwise [k0_pay29]
  simp only [h_v883]

include hS h_v9 h_v43 h_v869 h_v870 h_cst_360 h_v881 in
theorem p30 : ∀ (r : Fin 1024) (c : Fin 256), (k0_pay30 v9 v43 v869 v870 cst_360 v881) (ix2 r c) = ((D.a 1 (b + r) (S + c) : ℝ) : EReal) := by
  intro r c
  pointwise [k0_pay30]
  simp only [h_v9, h_v43, h_v869, h_v870, h_v881, zero_add, add_zero, p26 D hS h_v870 h_cst_360, p27 D hS h_v9 h_v869 h_v870 h_cst_360, p28 D hS h_v881, dite_eq_ite, ite_self]
  with_reducible_and_instances exact D.a_e (by omega)

include hS h_v9 h_v34 h_v43 h_v800 h_v869 h_v870 h_cst_360 h_v881 in
theorem p31 : ∀ (r : Fin 1024) (c : Fin 256), (k0_pay31 v9 v34 v43 v800 v869 v870 cst_360 v881) (ix2 r c) = ((D.g 1 (b + r) (S + c) : ℝ) : EReal) := by
  intro r c
  pointwise [k0_pay31]
  simp only [h_v9, h_v34, h_v43, h_v800, h_v869, h_v870, h_v881, zero_add, add_zero, p30 D hS h_v9 h_v43 h_v869 h_v870 h_cst_360 h_v881]
  with_reducible_and_instances exact D.g_e 1 (b + r.val) (S + c.val)

include hS h_v9 h_v13 h_v34 h_v43 h_v800 h_v869 h_v870 h_cst_360 h_v881 in
theorem p32 : ∀ (r : Fin 1024) (c : Fin 256), (k0_pay32 v9 v13 v34 v43 v800 v869 v870 cst_360 v881) (ix2 r c) = ((D.gg 1 (b + r) S c : ℝ) : EReal) := by
  intro r c
  pointwise [k0_pay32]
  simp only [h_v9, h_v13, h_v34, h_v43, h_v800, h_v869, h_v870, h_v881, zero_add, add_zero, p31 D hS h_v9 h_v34 h_v43 h_v800 h_v869 h_v870 h_cst_360 h_v881]
  with_reducible_and_instances exact D.gg_e 1 (b + r.val) S c

include hS h_v9 h_v13 h_v34 h_v43 h_v800 h_v869 h_v870 h_cst_360 h_v881 h_v883 in
theorem p33 : ∀ (r : Fin 1024) (c : Fin 256), (k0_pay33 v9 v13 v34 v43 v800 v869 v870 cst_360 v881 v883) (ix2 r c) = ((D.dz 1 (b + r) (S + c) : ℝ) : EReal) := by
  intro r c
  pointwise [k0_pay33]
  simp only [h_v9, h_v13, h_v34, h_v43, h_v800, h_v869, h_v870, h_v881, h_v883, zero_add, add_zero, p26 D hS h_v870 h_cst_360, p29 D hS h_v883, p31 D hS h_v9 h_v34 h_v43 h_v800 h_v869 h_v870 h_cst_360 h_v881, p32 D hS h_v9 h_v13 h_v34 h_v43 h_v800 h_v869 h_v870 h_cst_360 h_v881, dite_eq_ite, ite_self, D.nsp_e, exp_e]
  with_reducible_and_instances exact D.dz_e (by omega)

include hS h_v9 h_v13 h_v34 h_v43 h_v796 h_v800 h_v869 h_v870 h_cst_360 h_v881 h_v883 h_v903 in
theorem p34 : ∀ (r : Fin 1024) (l : Fin 128), (k0_pay34 v9 v13 v34 v43 v796 v800 v869 v870 cst_360 v881 v883 v903) (ix3 0 r l) = ((D.dqa 1 (b + r) l (S + 256) : ℝ) : EReal) := by
  intro r l
  pointwise [k0_pay34]
  simp only [h_v9, h_v13, h_v34, h_v43, h_v796, h_v800, h_v869, h_v870, h_v881, h_v883, h_v903, zero_add, add_zero, p33 D hS h_v9 h_v13 h_v34 h_v43 h_v800 h_v869 h_v870 h_cst_360 h_v881 h_v883]
  with_reducible_and_instances exact D.dqa_e 1 (b + r.val) l.val S

include hS h_v9 h_v13 h_v34 h_v36 h_v43 h_v800 h_v847 h_v869 h_v870 h_cst_360 h_v881 h_v883 in
theorem p35 : ∀ (l : Fin 128) (s : Fin 256), (k0_pay35 v9 v13 v34 v36 v43 v800 v847 v869 v870 cst_360 v881 v883) (ix2 l s) = ((D.kacc 0 (fun x => b + x) 1024 l (S + s) + D.kacc 1 (fun x => b + x) 1024 l (S + s) : ℝ) : EReal) := by
  intro l s
  pointwise [k0_pay35]
  simp only [h_v9, h_v13, h_v34, h_v36, h_v43, h_v800, h_v847, h_v869, h_v870, h_v881, h_v883, zero_add, add_zero, p33 D hS h_v9 h_v13 h_v34 h_v43 h_v800 h_v869 h_v870 h_cst_360 h_v881 h_v883]
  rw [EReal.coe_add]
  with_reducible_and_instances exact congrArg _ (D.kacc_e 1 (fun x => b + x) 1024 l.val (S + s.val))

include hS h_v880 h_v882 in
theorem p88 : ∀ (r : Fin 1024) (l : Fin 128), (k0_pay88 v880 v882) (ix3 0 r l) = ((D.cp 1 (b + r) (S + 256) : ℝ) : EReal) := by
  intro r l
  pointwise [k0_pay88]
  simp only [h_v880, h_v882]
  with_reducible_and_instances exact D.cp_e 1 (b + r.val) S

include hS h_v884 h_v891 h_v893 in
theorem p89 : ∀ (r : Fin 1024) (l : Fin 128), (k0_pay89 v884 v891 v893) (ix3 0 r l) = ((D.cg 1 (b + r) (S + 256) : ℝ) : EReal) := by
  intro r l
  pointwise [k0_pay89]
  simp only [h_v884, h_v891, h_v893]
  with_reducible_and_instances exact D.cg_e 1 (b + r.val) S

include hS h_v911 h_v932 in
theorem p90 : ∀ (l : Fin 128) (s : Fin 256), (k0_pay90 v911 v932) (ix2 l s) = ((-D.dk l (S + s) (b + 1024) : ℝ) : EReal) := by
  intro l s
  have N := D.dk_next l.val (S + s.val) b 0 1024 (Or.inr rfl)
  simp only [zero_add, Nat.reduceAdd] at N
  pointwise [k0_pay90]
  simp only [h_v911, h_v932, EReal.coe_add]
  rw [N, neg_add, ← sub_eq_add_neg, EReal.coe_sub, EReal.coe_add]

include hS h_v38 h_v850 h_v889 h_v939 in
theorem p91 : ∀ (l : Fin 128) (s : Fin 256), (k0_pay91 v38 v850 v889 v939) (ix2 l s) = ((D.dv l (S + s) (b + 1024) : ℝ) : EReal) := by
  intro l s
  have N := D.dv_next l.val (S + s.val) b 0 1024 (Or.inr rfl)
  simp only [zero_add, Nat.reduceAdd] at N
  pointwise [k0_pay91]
  simp only [h_v38, h_v850, h_v889, h_v939, EReal.coe_add]
  rw [N, EReal.coe_add, EReal.coe_add]
  with_reducible_and_instances exact congrArg (_ + ·) (congrArg (_ + ·) (D.vacc_e 1 (fun x => b + x) 1024 l.val (S + s.val)))

end Cert.SbProof
end
-- ==== Proof.SbTrip.lean ====
module

public import proofs.«01_k».proof.Proof.Gen.SbKernelIdeal.Loops
public import proofs.«01_k».proof.Proof.SbIns
public import proofs.«01_k».proof.Proof.SbPayS
public import proofs.«01_k».proof.Proof.SbPayL

/-! One trip of the attention's backward loop over whole key blocks before the diagonal. -/

@[expose] public section
set_option maxRecDepth 16384
noncomputable section

namespace Cert.SbProof
open Idealize.ShloMosaic Idealize.ShloMosaic.TcCoe
open Cert.SbKernelIdeal Cert.SbKernelIdeal.Gen Cert.SbMath Cert.SbMath.Dat

theorem trips1 : ∀ i : grid0.Coords, (k0_t1_loop i).trips = 4 * (i 1).val := by decide +kernel

theorem bits_one : Ideal.ofBits .f32 0x3F800000#32 = (1 : EReal) := by
  rw [← EReal.coe_one]
  simp [Ideal.ofBits, Ideal.ieee, -EReal.coe_mul, -EReal.coe_one]; norm_num

theorem trip_holds (D : Dat) (𝒱 : Variants) (c : Dev nD) (bd : Option 𝒱.V) (i : grid0.Coords) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S128x4096 .f32) (harg13 : arg13.IsWhole) (arg14 : Memref sig .tc .vmem S128x4096 .f32) (harg14 : arg14.IsWhole) (arg1 : BitVec 32) (v2 : IVec S1024x128 1) (v9 : FVec Ideal S512x256 .bf16) (v13 : FVec Ideal S256x256 .bf16) (v22 : FVec Ideal S1024x128 .bf16) (v27 : FVec Ideal S1024x128 .bf16) (v31 : FVec Ideal S1024x128 .bf16) (v34 : FVec Ideal S1024x128 .bf16) (v35 : FVec Ideal S128x1024 .bf16) (v36 : FVec Ideal S128x1024 .bf16) (v37 : FVec Ideal S128x1024 .bf16) (v38 : FVec Ideal S128x1024 .bf16) (v40 : FVec Ideal S1024x128 .f32) (v41 : FVec Ideal S1024x128 .f32) (v42 : FVec Ideal S1024x128 .f32) (X_arg3 : BufTy.Contents (Elt Ideal) arg3.view.ty) (X_arg4 : BufTy.Contents (Elt Ideal) arg4.view.ty) (k : Fin (k0_t1_loop i).trips)
    (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty)
    {b : ℕ} (hb : b = 1024 * (i 1).val) (I : Ins D b v2 v9 v13 v22 v27 v31 v34 v35 v36 v37 v38 v40 v41 v42)
    (hX3 : ∀ (s : Fin 4096) (l : Fin 128), arg3.view.read (Elt Ideal) X_arg3 (ix2 s l) = ((D.K ↑s ↑l : ℝ) : EReal))
    (hX4 : ∀ (s : Fin 4096) (l : Fin 128), arg4.view.read (Elt Ideal) X_arg4 (ix2 s l) = ((D.V ↑s ↑l : ℝ) : EReal))
    (H : St D b (256 * k.val) arg10 arg11 arg12 arg13 arg14 f10 f11 f12 f13 f14) :
    St D b (256 * k.val + 256) arg10 arg11 arg12 arg13 arg14
      (arg10.view.writes (Elt Ideal) f10 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v2 v9 v13 v22 v27 v31 v34 v35 v36 v37 v38 v40 v41 v42 X_arg3 X_arg4 k f10 f11 f12 f13 f14).1)
      (arg11.view.writes (Elt Ideal) f11 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v2 v9 v13 v22 v27 v31 v34 v35 v36 v37 v38 v40 v41 v42 X_arg3 X_arg4 k f10 f11 f12 f13 f14).2.1)
      (arg12.view.writes (Elt Ideal) f12 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v2 v9 v13 v22 v27 v31 v34 v35 v36 v37 v38 v40 v41 v42 X_arg3 X_arg4 k f10 f11 f12 f13 f14).2.2.1)
      (arg13.view.writes (Elt Ideal) f13 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v2 v9 v13 v22 v27 v31 v34 v35 v36 v37 v38 v40 v41 v42 X_arg3 X_arg4 k f10 f11 f12 f13 f14).2.2.2.1)
      (arg14.view.writes (Elt Ideal) f14 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v2 v9 v13 v22 v27 v31 v34 v35 v36 v37 v38 v40 v41 v42 X_arg3 X_arg4 k f10 f11 f12 f13 f14).2.2.2.2) := by
  have hS : 256 * k.val + 256 ≤ b := by
    have h1 := k.isLt
    have h2 := trips1 i
    omega
  unfold tripL_k0_t1 trip_k0_t1
  dsimp only
  have o1 := k0_off1_eq i k
  have o2 := k0_off2_eq i k
  have hK := ldr (n := 256) arg3.view X_arg3 (256 * k.val) o1 (k0_off1_inb i k) (fun s l => D.K s l) hX3
  have hV := ldr (n := 256) arg4.view X_arg4 (256 * k.val) o1 (k0_off1_inb i k) (fun s l => D.V s l) hX4
  have hkt := ldtx arg13.view f13 (256 * k.val) o2 (k0_off2_inb i k) (fun l s => -D.dk l s (if s < 256 * k.val then b + 1024 else b)) (fun l s => -D.dk l s b) H.kt (fun l s h => by
    show -D.dk l s (if s < 256 * k.val then b + 1024 else b) = -D.dk l s b
    rw [if_neg (by omega)])
  have hvt := ldtx arg14.view f14 (256 * k.val) o2 (k0_off2_inb i k) (fun l s => D.dv l s (if s < 256 * k.val then b + 1024 else b)) (fun l s => D.dv l s b) H.vt (fun l s h => by
    show D.dv l s (if s < 256 * k.val then b + 1024 else b) = D.dv l s b
    rw [if_neg (by omega)])
  have hq0 : ∀ (r : Fin 1024) (l : Fin 128), View.readAt (Elt Ideal) arg10.view (Rect.unit (s := S2x1024x128) ![0, 0, 0] S1x1024x128.size inb_S2x1024x128_S1x1024x128_0_0_0).toLoadRect f10 (ix3 0 r l) = ((D.dqa 0 (b + r) l (256 * k.val) : ℝ) : EReal) :=
    ld3z (n := 1024) arg10.view f10 0 inb_S2x1024x128_S1x1024x128_0_0_0 (fun r l => D.dqa 0 (b + r) l (256 * k.val)) H.q0
  have hq1 : ∀ (r : Fin 1024) (l : Fin 128), View.readAt (Elt Ideal) arg10.view (Rect.unit (s := S2x1024x128) ![1, 0, 0] S1x1024x128.size inb_S2x1024x128_S1x1024x128_1_0_0).toLoadRect f10 (ix3 0 r l) = ((D.dqa 1 (b + r) l (256 * k.val) : ℝ) : EReal) :=
    ld3z (n := 1024) arg10.view f10 1 inb_S2x1024x128_S1x1024x128_1_0_0 (fun r l => D.dqa 1 (b + r) l (256 * k.val)) H.q1
  have hc0 : ∀ (r : Fin 1024) (l : Fin 128), View.readAt (Elt Ideal) arg11.view (Rect.unit (s := S2x1024x128) ![0, 0, 0] S1x1024x128.size inb_S2x1024x128_S1x1024x128_0_0_0).toLoadRect f11 (ix3 0 r l) = ((D.cp 0 (b + r) (256 * k.val) : ℝ) : EReal) :=
    ld3z (n := 1024) arg11.view f11 0 inb_S2x1024x128_S1x1024x128_0_0_0 (fun r _ => D.cp 0 (b + r) (256 * k.val)) H.c0
  have hc1 : ∀ (r : Fin 1024) (l : Fin 128), View.readAt (Elt Ideal) arg11.view (Rect.unit (s := S2x1024x128) ![1, 0, 0] S1x1024x128.size inb_S2x1024x128_S1x1024x128_1_0_0).toLoadRect f11 (ix3 0 r l) = ((D.cp 1 (b + r) (256 * k.val) : ℝ) : EReal) :=
    ld3z (n := 1024) arg11.view f11 1 inb_S2x1024x128_S1x1024x128_1_0_0 (fun r _ => D.cp 1 (b + r) (256 * k.val)) H.c1
  have hg0 : ∀ (r : Fin 1024) (l : Fin 128), View.readAt (Elt Ideal) arg12.view (Rect.unit (s := S2x1024x128) ![0, 0, 0] S1x1024x128.size inb_S2x1024x128_S1x1024x128_0_0_0).toLoadRect f12 (ix3 0 r l) = ((D.cg 0 (b + r) (256 * k.val) : ℝ) : EReal) :=
    ld3z (n := 1024) arg12.view f12 0 inb_S2x1024x128_S1x1024x128_0_0_0 (fun r _ => D.cg 0 (b + r) (256 * k.val)) H.g0
  have hg1 : ∀ (r : Fin 1024) (l : Fin 128), View.readAt (Elt Ideal) arg12.view (Rect.unit (s := S2x1024x128) ![1, 0, 0] S1x1024x128.size inb_S2x1024x128_S1x1024x128_1_0_0).toLoadRect f12 (ix3 0 r l) = ((D.cg 1 (b + r) (256 * k.val) : ℝ) : EReal) :=
    ld3z (n := 1024) arg12.view f12 1 inb_S2x1024x128_S1x1024x128_1_0_0 (fun r _ => D.cg 1 (b + r) (256 * k.val)) H.g1
  have h_r : ∀ (s : Fin 256) (l : Fin 128), (trip_k0_t1.sl.r i arg3 X_arg3 k) (ix2 s l) = ((D.K ((256 * k.val) + ↑s) ↑l : ℝ) : EReal) := by
    unfold trip_k0_t1.sl.r
    with_reducible_and_instances exact p5 D hS hK
  have h_r_1 : ∀ (s : Fin 256) (l : Fin 128), (trip_k0_t1.sl.r_1 i arg4 X_arg4 k) (ix2 s l) = ((D.V ((256 * k.val) + ↑s) ↑l : ℝ) : EReal) := by
    unfold trip_k0_t1.sl.r_1
    with_reducible_and_instances exact p6 D hS hV
  have h_cst_360 : (trip_k0_t1.sl.cst_360 : Ideal .f32) = 1 := by unfold trip_k0_t1.sl.cst_360; exact bits_one
  have h_v881 : ∀ (r : Fin 1024) (l : Fin 128), (trip_k0_t1.sl.v881 arg11 f11) (ix3 0 r l) = _ := hc1
  have h_v883 : ∀ (r : Fin 1024) (l : Fin 128), (trip_k0_t1.sl.v883 arg12 f12) (ix3 0 r l) = _ := hg1
  have h_v903 : ∀ (r : Fin 1024) (l : Fin 128), (trip_k0_t1.sl.v903 arg10 f10) (ix3 0 r l) = _ := hq1
  have h_r_2 : ∀ (r : Fin 1024) (c : Fin 256), (trip_k0_t1.sl.r_2 i arg3 v9 v22 X_arg3 k) (ix2 r c) = ((D.pp 0 (b + ↑r) (256 * k.val) ↑c : ℝ) : EReal) := by
    unfold trip_k0_t1.sl.r_2
    with_reducible_and_instances exact p11 D hS I.h_v9 I.h_v22 hK
  have h_r_3 : ∀ (r : Fin 1024) (l : Fin 128), (trip_k0_t1.sl.r_3 arg11 f11) (ix2 r l) = ((D.cp 0 (b + ↑r) (256 * k.val) : ℝ) : EReal) := by
    unfold trip_k0_t1.sl.r_3
    with_reducible_and_instances exact p12 D hS hc0
  have h_r_4 : ∀ (r : Fin 1024) (l : Fin 128), (trip_k0_t1.sl.r_4 arg12 f12) (ix2 r l) = ((D.cg 0 (b + ↑r) (256 * k.val) : ℝ) : EReal) := by
    unfold trip_k0_t1.sl.r_4
    with_reducible_and_instances exact p13 D hS hg0
  have h_r_5 : ∀ (r : Fin 1024) (c : Fin 256), (trip_k0_t1.sl.r_5 i arg3 arg11 v9 v22 v42 X_arg3 k f11) (ix2 r c) = ((D.a 0 (b + ↑r) ((256 * k.val) + ↑c) : ℝ) : EReal) := by
    unfold trip_k0_t1.sl.r_5
    with_reducible_and_instances exact p14 D hS I.h_v9 I.h_v22 I.h_v42 hK hc0
  have h_r_6 : ∀ (r : Fin 1024) (c : Fin 256), (trip_k0_t1.sl.r_6 i arg3 arg4 arg11 v9 v22 v31 v42 X_arg3 X_arg4 k f11) (ix2 r c) = ((D.g 0 (b + ↑r) ((256 * k.val) + ↑c) : ℝ) : EReal) := by
    unfold trip_k0_t1.sl.r_6
    with_reducible_and_instances exact p15 D hS I.h_v9 I.h_v22 I.h_v31 I.h_v42 hK hV hc0
  have h_r_7 : ∀ (r : Fin 1024) (c : Fin 256), (trip_k0_t1.sl.r_7 i arg3 arg4 arg11 v9 v13 v22 v31 v42 X_arg3 X_arg4 k f11) (ix2 r c) = ((D.gg 0 (b + ↑r) (256 * k.val) ↑c : ℝ) : EReal) := by
    unfold trip_k0_t1.sl.r_7
    with_reducible_and_instances exact p16 D hS I.h_v9 I.h_v13 I.h_v22 I.h_v31 I.h_v42 hK hV hc0
  have h_r_8 : ∀ (r : Fin 1024) (c : Fin 256), (trip_k0_t1.sl.r_8 i arg3 v22 X_arg3 k) (ix2 r c) = ((-D.sp 0 (b + ↑r) ((256 * k.val) + ↑c) : ℝ) : EReal) := by
    unfold trip_k0_t1.sl.r_8
    with_reducible_and_instances exact p17 D hS I.h_v22 hK
  have h_r_9 : ∀ (l : Fin 128) (s : Fin 256), (trip_k0_t1.sl.r_9 i arg3 arg4 arg11 arg12 v9 v13 v22 v31 v35 v42 X_arg3 X_arg4 k f11 f12) (ix2 l s) = ((D.kacc 0 (fun x => b + x) 1024 ↑l ((256 * k.val) + ↑s) : ℝ) : EReal) := by
    unfold trip_k0_t1.sl.r_9
    with_reducible_and_instances exact p20 D hS I.h_v35 (p7 D hS) h_r_4 h_r_6 h_r_7 h_r_8
  have h_r_10 : ∀ (l : Fin 128) (s : Fin 256), (trip_k0_t1.sl.r_10 i arg3 arg11 v9 v22 v37 v42 X_arg3 k f11) (ix2 l s) = ((D.vacc 0 (fun x => b + x) 1024 ↑l ((256 * k.val) + ↑s) : ℝ) : EReal) := by
    unfold trip_k0_t1.sl.r_10
    with_reducible_and_instances exact p21 D hS I.h_v37 (p8 D hS) h_r_5
  have h_r_11 : ∀ (r : Fin 1024) (c : Fin 256), (trip_k0_t1.sl.r_11 i arg3 v27 X_arg3 k) (ix2 r c) = ((D.nz 1 (b + ↑r) ((256 * k.val) + ↑c) : ℝ) : EReal) := by
    unfold trip_k0_t1.sl.r_11
    with_reducible_and_instances exact p24 D hS I.h_v27 h_r
  have h_r_12 : ∀ (r : Fin 1024) (c : Fin 256), (trip_k0_t1.sl.r_12 i arg3 v27 X_arg3 k) (ix2 r c) = ((Real.exp (D.nz 1 (b + ↑r) ((256 * k.val) + ↑c)) : ℝ) : EReal) := by
    unfold trip_k0_t1.sl.r_12
    with_reducible_and_instances exact p25 D hS I.h_v27 h_r
  have h_r_13 : ∀ (r : Fin 1024) (c : Fin 256), (trip_k0_t1.sl.r_13 i arg3 v9 v27 X_arg3 k) (ix2 r c) = ((D.pp 1 (b + ↑r) (256 * k.val) ↑c : ℝ) : EReal) := by
    unfold trip_k0_t1.sl.r_13
    with_reducible_and_instances exact p27 D hS I.h_v9 h_r_11 h_r_12 h_cst_360
  have h_r_14 : ∀ (r : Fin 1024) (l : Fin 128), (trip_k0_t1.sl.r_14 arg11 f11) (ix2 r l) = ((D.cp 1 (b + ↑r) (256 * k.val) : ℝ) : EReal) := by
    unfold trip_k0_t1.sl.r_14
    with_reducible_and_instances exact p28 D hS h_v881
  have h_r_15 : ∀ (r : Fin 1024) (l : Fin 128), (trip_k0_t1.sl.r_15 arg12 f12) (ix2 r l) = ((D.cg 1 (b + ↑r) (256 * k.val) : ℝ) : EReal) := by
    unfold trip_k0_t1.sl.r_15
    with_reducible_and_instances exact p29 D hS h_v883
  have h_r_16 : ∀ (r : Fin 1024) (c : Fin 256), (trip_k0_t1.sl.r_16 i arg3 arg11 v2 v9 v27 v40 v41 X_arg3 k f11) (ix2 r c) = ((D.a 1 (b + ↑r) ((256 * k.val) + ↑c) : ℝ) : EReal) := by
    unfold trip_k0_t1.sl.r_16
    with_reducible_and_instances exact p30 D hS I.h_v9 (p82 D I.h_v2 I.h_v40 I.h_v41) h_r_11 h_r_12 h_cst_360 h_v881
  have h_r_17 : ∀ (r : Fin 1024) (c : Fin 256), (trip_k0_t1.sl.r_17 i arg3 arg4 arg11 v2 v9 v27 v34 v40 v41 X_arg3 X_arg4 k f11) (ix2 r c) = ((D.g 1 (b + ↑r) ((256 * k.val) + ↑c) : ℝ) : EReal) := by
    unfold trip_k0_t1.sl.r_17
    with_reducible_and_instances exact p31 D hS I.h_v9 I.h_v34 (p82 D I.h_v2 I.h_v40 I.h_v41) h_r_1 h_r_11 h_r_12 h_cst_360 h_v881
  have h_r_18 : ∀ (r : Fin 1024) (c : Fin 256), (trip_k0_t1.sl.r_18 i arg3 arg4 arg11 v2 v9 v13 v27 v34 v40 v41 X_arg3 X_arg4 k f11) (ix2 r c) = ((D.gg 1 (b + ↑r) (256 * k.val) ↑c : ℝ) : EReal) := by
    unfold trip_k0_t1.sl.r_18
    with_reducible_and_instances exact p32 D hS I.h_v9 I.h_v13 I.h_v34 (p82 D I.h_v2 I.h_v40 I.h_v41) h_r_1 h_r_11 h_r_12 h_cst_360 h_v881
  have h_r_19 : ∀ (l : Fin 128) (s : Fin 256), (trip_k0_t1.sl.r_19 i arg3 arg4 arg11 arg12 v2 v9 v13 v22 v27 v31 v34 v35 v36 v40 v41 v42 X_arg3 X_arg4 k f11 f12) (ix2 l s) = ((D.kacc 0 (fun x => b + x) 1024 ↑l ((256 * k.val) + ↑s) + D.kacc 1 (fun x => b + x) 1024 ↑l ((256 * k.val) + ↑s) : ℝ) : EReal) := by
    unfold trip_k0_t1.sl.r_19
    with_reducible_and_instances exact p35 D hS I.h_v9 I.h_v13 I.h_v34 I.h_v36 (p82 D I.h_v2 I.h_v40 I.h_v41) h_r_1 h_r_9 h_r_11 h_r_12 h_cst_360 h_v881 h_v883
  refine ⟨?_, ?_, ?_, ?_, ?_, ?_, ?_, ?_⟩
  · intro r l
    refine so3 arg10.view _ 1 0 (by decide) 0 inb_S2x1024x128_S1x1024x128_1_0_0 _ _ (fun r l => D.dqa 0 (b + r) l (256 * k.val + 256)) (fun r l => ?_) r l
    refine st3 arg10.view _ 0 0 inb_S2x1024x128_S1x1024x128_0_0_0 _ _ (fun r l => D.dqa 0 (b + r) l (256 * k.val + 256)) (by decide) (fun r l => ?_) (fun r l h => absurd h (Nat.not_lt_zero _)) r l
    rw [zero_add]
    with_reducible_and_instances exact p19 D hS h_r h_r_4 h_r_6 h_r_7 h_r_8 hq0 r l
  · intro r l
    refine st3 arg10.view _ 1 0 inb_S2x1024x128_S1x1024x128_1_0_0 _ _ (fun r l => D.dqa 1 (b + r) l (256 * k.val + 256)) (by decide) (fun r l => ?_) (fun r l h => absurd h (Nat.not_lt_zero _)) r l
    rw [zero_add]
    with_reducible_and_instances exact p34 D hS I.h_v9 I.h_v13 I.h_v34 (p82 D I.h_v2 I.h_v40 I.h_v41) h_r h_r_1 h_r_11 h_r_12 h_cst_360 h_v881 h_v883 h_v903 r l
  · intro r l
    refine so3 arg11.view _ 1 0 (by decide) 0 inb_S2x1024x128_S1x1024x128_1_0_0 _ _ (fun r l => D.cp 0 (b + r) (256 * k.val + 256)) (fun r l => ?_) r l
    refine st3 arg11.view _ 0 0 inb_S2x1024x128_S1x1024x128_0_0_0 _ _ (fun r l => D.cp 0 (b + r) (256 * k.val + 256)) (by decide) (fun r l => ?_) (fun r l h => absurd h (Nat.not_lt_zero _)) r l
    rw [zero_add]
    with_reducible_and_instances exact p22 D hS h_r_2 h_r_3 r l
  · intro r l
    refine st3 arg11.view _ 1 0 inb_S2x1024x128_S1x1024x128_1_0_0 _ _ (fun r l => D.cp 1 (b + r) (256 * k.val + 256)) (by decide) (fun r l => ?_) (fun r l h => absurd h (Nat.not_lt_zero _)) r l
    rw [zero_add]
    with_reducible_and_instances exact p88 D hS h_r_13 h_r_14 r l
  · intro r l
    refine so3 arg12.view _ 1 0 (by decide) 0 inb_S2x1024x128_S1x1024x128_1_0_0 _ _ (fun r l => D.cg 0 (b + r) (256 * k.val + 256)) (fun r l => ?_) r l
    refine st3 arg12.view _ 0 0 inb_S2x1024x128_S1x1024x128_0_0_0 _ _ (fun r l => D.cg 0 (b + r) (256 * k.val + 256)) (by decide) (fun r l => ?_) (fun r l h => absurd h (Nat.not_lt_zero _)) r l
    rw [zero_add]
    with_reducible_and_instances exact p23 D hS h_r_4 h_r_6 h_r_7 r l
  · intro r l
    refine st3 arg12.view _ 1 0 inb_S2x1024x128_S1x1024x128_1_0_0 _ _ (fun r l => D.cg 1 (b + r) (256 * k.val + 256)) (by decide) (fun r l => ?_) (fun r l h => absurd h (Nat.not_lt_zero _)) r l
    rw [zero_add]
    with_reducible_and_instances exact p89 D hS h_r_15 h_r_17 h_r_18 r l
  · intro l s
    refine stt arg13.view _ (256 * k.val) o2 (k0_off2_inb i k) _ _ (fun l s => -D.dk l s (if s < 256 * k.val + 256 then b + 1024 else b)) (fun l s => ?_) (fun l s h => ?_) l s
    · show _ = ((-D.dk l.val (256 * k.val + s.val) (if 256 * k.val + s.val < 256 * k.val + 256 then b + 1024 else b) : ℝ) : EReal)
      rw [if_pos (by omega)]
      with_reducible_and_instances exact p90 D hS h_r_19 hkt l s
    · refine (H.kt l s).trans ?_
      show ((-D.dk l.val s.val (if s.val < 256 * k.val then b + 1024 else b) : ℝ) : EReal) = ((-D.dk l.val s.val (if s.val < 256 * k.val + 256 then b + 1024 else b) : ℝ) : EReal)
      by_cases h1 : s.val < 256 * k.val
      · rw [if_pos h1, if_pos (by omega)]
      · rw [if_neg h1, if_neg (by omega)]
  · intro l s
    refine stt arg14.view _ (256 * k.val) o2 (k0_off2_inb i k) _ _ (fun l s => D.dv l s (if s < 256 * k.val + 256 then b + 1024 else b)) (fun l s => ?_) (fun l s h => ?_) l s
    · show _ = ((D.dv l.val (256 * k.val + s.val) (if 256 * k.val + s.val < 256 * k.val + 256 then b + 1024 else b) : ℝ) : EReal)
      rw [if_pos (by omega)]
      with_reducible_and_instances exact p91 D hS I.h_v38 h_r_10 h_r_16 hvt l s
    · refine (H.vt l s).trans ?_
      show ((D.dv l.val s.val (if s.val < 256 * k.val then b + 1024 else b) : ℝ) : EReal) = ((D.dv l.val s.val (if s.val < 256 * k.val + 256 then b + 1024 else b) : ℝ) : EReal)
      by_cases h1 : s.val < 256 * k.val
      · rw [if_pos h1, if_pos (by omega)]
      · rw [if_neg h1, if_neg (by omega)]

end Cert.SbProof
end
-- ==== Proof.SbLoop.lean ====
module

public import proofs.«01_k».proof.Proof.SbTrip

/-! The attention's backward loop over whole key blocks before the diagonal, all of it. -/

@[expose] public section
set_option maxRecDepth 16384
noncomputable section

namespace Cert.SbProof
open Idealize.ShloMosaic Idealize.ShloMosaic.TcCoe
open Cert.SbKernelIdeal Cert.SbKernelIdeal.Gen Cert.SbMath Cert.SbMath.Dat

theorem loop_holds (D : Dat) (𝒱 : Variants) (c : Dev nD) (bd : Option 𝒱.V) (i : grid0.Coords) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S128x4096 .f32) (harg13 : arg13.IsWhole) (arg14 : Memref sig .tc .vmem S128x4096 .f32) (harg14 : arg14.IsWhole) (arg1 : BitVec 32) (v2 : IVec S1024x128 1) (v9 : FVec Ideal S512x256 .bf16) (v13 : FVec Ideal S256x256 .bf16) (v22 : FVec Ideal S1024x128 .bf16) (v27 : FVec Ideal S1024x128 .bf16) (v31 : FVec Ideal S1024x128 .bf16) (v34 : FVec Ideal S1024x128 .bf16) (v35 : FVec Ideal S128x1024 .bf16) (v36 : FVec Ideal S128x1024 .bf16) (v37 : FVec Ideal S128x1024 .bf16) (v38 : FVec Ideal S128x1024 .bf16) (v40 : FVec Ideal S1024x128 .f32) (v41 : FVec Ideal S1024x128 .f32) (v42 : FVec Ideal S1024x128 .f32) (X_arg3 : BufTy.Contents (Elt Ideal) arg3.view.ty) (X_arg4 : BufTy.Contents (Elt Ideal) arg4.view.ty)
    (G10 : BufTy.Contents (Elt Ideal) arg10.view.ty) (G11 : BufTy.Contents (Elt Ideal) arg11.view.ty) (G12 : BufTy.Contents (Elt Ideal) arg12.view.ty) (G13 : BufTy.Contents (Elt Ideal) arg13.view.ty) (G14 : BufTy.Contents (Elt Ideal) arg14.view.ty)
    {b : ℕ} (hb : b = 1024 * (i 1).val) (I : Ins D b v2 v9 v13 v22 v27 v31 v34 v35 v36 v37 v38 v40 v41 v42)
    (hX3 : ∀ (s : Fin 4096) (l : Fin 128), arg3.view.read (Elt Ideal) X_arg3 (ix2 s l) = ((D.K ↑s ↑l : ℝ) : EReal))
    (hX4 : ∀ (s : Fin 4096) (l : Fin 128), arg4.view.read (Elt Ideal) X_arg4 (ix2 s l) = ((D.V ↑s ↑l : ℝ) : EReal))
    (H : St D b 0 arg10 arg11 arg12 arg13 arg14 G10 G11 G12 G13 G14) (n : ℕ) (hn : n ≤ (k0_t1_loop i).trips) :
    St D b (256 * n) arg10 arg11 arg12 arg13 arg14
      (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v2 v9 v13 v22 v27 v31 v34 v35 v36 v37 v38 v40 v41 v42 X_arg3 X_arg4 G10 G11 G12 G13 G14 n).1) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v2 v9 v13 v22 v27 v31 v34 v35 v36 v37 v38 v40 v41 v42 X_arg3 X_arg4 G10 G11 G12 G13 G14 n).2.1) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v2 v9 v13 v22 v27 v31 v34 v35 v36 v37 v38 v40 v41 v42 X_arg3 X_arg4 G10 G11 G12 G13 G14 n).2.2.1) (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v2 v9 v13 v22 v27 v31 v34 v35 v36 v37 v38 v40 v41 v42 X_arg3 X_arg4 G10 G11 G12 G13 G14 n).2.2.2.1) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v2 v9 v13 v22 v27 v31 v34 v35 v36 v37 v38 v40 v41 v42 X_arg3 X_arg4 G10 G11 G12 G13 G14 n).2.2.2.2) := by
  induction n with
  | zero =>
    rw [pb_k0_t1.eq_1]
    exact H
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v2 v9 v13 v22 v27 v31 v34 v35 v36 v37 v38 v40 v41 v42 X_arg3 X_arg4 G10 G11 G12 G13 G14 ⟨n, hn⟩
    dsimp only at e
    rw [e]
    dsimp only
    rw [View.writes_append, View.writes_append, View.writes_append, View.writes_append, View.writes_append]
    exact trip_holds D 𝒱 c bd i arg2 harg2 arg3 harg3 arg4 harg4 arg5 harg5 arg6 harg6 arg7 harg7 arg8 harg8 arg9 harg9 arg10 harg10 arg11 harg11 arg12 harg12 arg13 harg13 arg14 harg14 arg1 v2 v9 v13 v22 v27 v31 v34 v35 v36 v37 v38 v40 v41 v42 X_arg3 X_arg4 ⟨n, hn⟩ _ _ _ _ _ hb I hX3 hX4 (ih (Nat.le_of_succ_le hn))

end Cert.SbProof
end
-- ==== Proof.SbPay0.lean ====
module

public import proofs.«01_k».proof.Proof.Gen.SbKernelIdeal.Skeleton
public import proofs.«01_k».proof.Proof.SbOps

/-! What the first block of 256 columns on the diagonal computes, one expression at a time. -/

@[expose] public section
set_option maxRecDepth 16384
noncomputable section

namespace Cert.SbProof
open Idealize.ShloMosaic Idealize.ShloMosaic.TcCoe
open Cert.SbKernelIdeal Cert.SbKernelIdeal.Gen Cert.SbMath Cert.SbMath.Dat

variable (D : Dat) {b : ℕ}
variable {v9 : FVec Ideal S512x256 .bf16}
  {v100 v194 v98 v168 v170 v124 : Vec Ideal S1x1024x128 .f32}
  {v35 v37 v36 v38 : FVec Ideal S128x1024 .bf16}
  {v97 v167 v180 v108 v182 v178 v152 v110 v153 v112 v114 : FVec Ideal S1024x256 .f32}
  {v27 v22 v34 v31 : FVec Ideal S1024x128 .bf16}
  {v171 v99 v169 v43 v42 v101 v195 cst_84 : FVec Ideal S1024x128 .f32}
  {v13 : FVec Ideal S256x256 .bf16}
  {v81 v132 v135 v80 : FVec Ideal S128x256 .f32}
  {v230 v223 : Vec Ideal S128x256 .f32}
  {v69 : IVec S1024x256 1}
  {v73 v77 : Vec Ideal S256x128 .f32}
  {v75 v79 : FVec Ideal S256x128 .bf16}
  {v193 : FVec Ideal S1024x256 .bf16}
variable (h_v9 : ∀ (x : Fin 512) (c : Fin 256), v9 (ix2 x c) = ((one ((x : ℕ) % 256 ≤ (c : ℕ)) : ℝ) : EReal))
  (h_v100 : ∀ (r : Fin 1024) (l : Fin 128), v100 (ix3 0 r l) = ((D.cg 0 (b + r) b : ℝ) : EReal))
  (h_v35 : ∀ (l : Fin 128) (r : Fin 1024), v35 (ix2 l r) = ((D.qm 0 (b + r) l : ℝ) : EReal))
  (h_v37 : ∀ (l : Fin 128) (r : Fin 1024), v37 (ix2 l r) = ((D.ym 0 (b + r) l : ℝ) : EReal))
  (h_v97 : ∀ (r : Fin 1024) (c : Fin 256), v97 (ix2 r c) = ((D.pp 0 (b + r) b c : ℝ) : EReal))
  (h_v27 : ∀ (r : Fin 1024) (l : Fin 128), v27 (ix2 r l) = ((D.qm 1 (b + r) l : ℝ) : EReal))
  (h_v194 : ∀ (r : Fin 1024) (l : Fin 128), v194 (ix3 0 r l) = ((D.dqa 1 (b + r) l b : ℝ) : EReal))
  (h_v167 : ∀ (r : Fin 1024) (c : Fin 256), v167 (ix2 r c) = ((D.pp 1 (b + r) b c : ℝ) : EReal))
  (h_v171 : ∀ (r : Fin 1024) (l : Fin 128), v171 (ix2 r l) = ((D.cg 1 (b + r) b : ℝ) : EReal))
  (h_v36 : ∀ (l : Fin 128) (r : Fin 1024), v36 (ix2 l r) = ((D.qm 1 (b + r) l : ℝ) : EReal))
  (h_v38 : ∀ (l : Fin 128) (r : Fin 1024), v38 (ix2 l r) = ((D.ym 1 (b + r) l : ℝ) : EReal))
  (h_v13 : ∀ (x : Fin 256) (c : Fin 256), v13 (ix2 x c) = ((one ((x : ℕ) < (c : ℕ)) : ℝ) : EReal))
  (h_v81 : ∀ (l : Fin 128) (s : Fin 256), v81 (ix2 l s) = 0)
  (h_v99 : ∀ (r : Fin 1024) (l : Fin 128), v99 (ix2 r l) = ((D.cp 0 (b + r) b : ℝ) : EReal))
  (h_v169 : ∀ (r : Fin 1024) (l : Fin 128), v169 (ix2 r l) = ((D.cp 1 (b + r) b : ℝ) : EReal))
  (h_v180 : ∀ (r : Fin 1024) (c : Fin 256), v180 (ix2 r c) = ((D.g 1 (b + r) (b + c) : ℝ) : EReal))
  (h_v132 : ∀ (l : Fin 128) (s : Fin 256), v132 (ix2 l s) = ((D.kacc 0 (fun x => b + x) 1024 l (b + s) : ℝ) : EReal))
  (h_v135 : ∀ (l : Fin 128) (s : Fin 256), v135 (ix2 l s) = ((D.vacc 0 (fun x => b + x) 1024 l (b + s) : ℝ) : EReal))
  (h_v22 : ∀ (r : Fin 1024) (l : Fin 128), v22 (ix2 r l) = ((D.qm 0 (b + r) l : ℝ) : EReal))
  (h_v34 : ∀ (r : Fin 1024) (l : Fin 128), v34 (ix2 r l) = ((D.ym 1 (b + r) l : ℝ) : EReal))
  (h_v108 : ∀ (r : Fin 1024) (c : Fin 256), v108 (ix2 r c) = ((D.a 0 (b + r) (b + c) : ℝ) : EReal))
  (h_v182 : ∀ (r : Fin 1024) (c : Fin 256), v182 (ix2 r c) = ((D.gg 1 (b + r) b c : ℝ) : EReal))
  (h_v178 : ∀ (r : Fin 1024) (c : Fin 256), v178 (ix2 r c) = ((D.a 1 (b + r) (b + c) : ℝ) : EReal))
  (h_v31 : ∀ (r : Fin 1024) (l : Fin 128), v31 (ix2 r l) = ((D.ym 0 (b + r) l : ℝ) : EReal))
  (h_v43 : ∀ (r : Fin 1024) (l : Fin 128), v43 (ix2 r l) = ((D.T (b + r) 1 : ℝ) : EReal))
  (h_v230 : ∀ (l : Fin 128) (s : Fin 256), v230 (ix2 l s) = ((D.dv l (b + s) b : ℝ) : EReal))
  (h_v42 : ∀ (r : Fin 1024) (l : Fin 128), v42 (ix2 r l) = ((D.T (b + r) 0 : ℝ) : EReal))
  (h_v69 : ∀ (r : Fin 1024) (c : Fin 256), v69 (ix2 r c) = bit ((c : ℕ) < (r : ℕ)))
  (h_v73 : ∀ (s : Fin 256) (l : Fin 128), v73 (ix2 s l) = ((D.K (b + s) l : ℝ) : EReal))
  (h_v75 : ∀ (s : Fin 256) (l : Fin 128), v75 (ix2 s l) = ((D.K (b + s) l : ℝ) : EReal))
  (h_v80 : ∀ (l : Fin 128) (s : Fin 256), v80 (ix2 l s) = 0)
  (h_v79 : ∀ (s : Fin 256) (l : Fin 128), v79 (ix2 s l) = ((D.V (b + s) l : ℝ) : EReal))
  (h_v77 : ∀ (s : Fin 256) (l : Fin 128), v77 (ix2 s l) = ((D.V (b + s) l : ℝ) : EReal))
  (h_v193 : ∀ (r : Fin 1024) (c : Fin 256), v193 (ix2 r c) = ((D.dz 1 (b + r) (b + c) : ℝ) : EReal))
  (h_v101 : ∀ (r : Fin 1024) (l : Fin 128), v101 (ix2 r l) = ((D.cg 0 (b + r) b : ℝ) : EReal))
  (h_v152 : ∀ (r : Fin 1024) (c : Fin 256), v152 (ix2 r c) = ∑ x : Fin 128, ((D.qm 1 (b + r) x : ℝ) : EReal) * ((D.K (b + c) x : ℝ) : EReal))
  (h_v98 : ∀ (r : Fin 1024) (l : Fin 128), v98 (ix3 0 r l) = ((D.cp 0 (b + r) b : ℝ) : EReal))
  (h_v195 : ∀ (r : Fin 1024) (l : Fin 128), v195 (ix2 r l) = ((D.dqa 1 (b + r) l b : ℝ) : EReal))
  (h_v223 : ∀ (l : Fin 128) (s : Fin 256), v223 (ix2 l s) = ((-D.dk l (b + s) b : ℝ) : EReal))
  (h_v110 : ∀ (r : Fin 1024) (c : Fin 256), v110 (ix2 r c) = ((D.g 0 (b + r) (b + c) : ℝ) : EReal))
  (h_v153 : ∀ (r : Fin 1024) (c : Fin 256), v153 (ix2 r c) = Ideal.ofBits .f32 0x42A00000#32)
  (h_cst_84 : ∀ i, cst_84 i = 0)
  (h_v112 : ∀ (r : Fin 1024) (c : Fin 256), v112 (ix2 r c) = ((D.gg 0 (b + r) b c : ℝ) : EReal))
  (h_v168 : ∀ (r : Fin 1024) (l : Fin 128), v168 (ix3 0 r l) = ((D.cp 1 (b + r) b : ℝ) : EReal))
  (h_v114 : ∀ (r : Fin 1024) (c : Fin 256), v114 (ix2 r c) = ((-D.sp 0 (b + r) (b + c) : ℝ) : EReal))
  (h_v170 : ∀ (r : Fin 1024) (l : Fin 128), v170 (ix3 0 r l) = ((D.cg 1 (b + r) b : ℝ) : EReal))
  (h_v124 : ∀ (r : Fin 1024) (l : Fin 128), v124 (ix3 0 r l) = ((D.dqa 0 (b + r) l b : ℝ) : EReal))

include D in
theorem p96 : ∀ (r : Fin 1024) (c : Fin 256), (k0_pay96) (ix2 r c) = bit ((c : ℕ) < (r : ℕ)) := by
  intro r c
  pointwise [k0_pay96]
  rw [slt_bit (by omega) (by omega)]

include h_v73 in
theorem p97 : ∀ (s : Fin 256) (l : Fin 128), (k0_pay97 v73) (ix2 s l) = ((D.K (b + s) l : ℝ) : EReal) := by
  intro s l
  pointwise [k0_pay97]
  simp only [h_v73]

include h_v77 in
theorem p98 : ∀ (s : Fin 256) (l : Fin 128), (k0_pay98 v77) (ix2 s l) = ((D.V (b + s) l : ℝ) : EReal) := by
  intro s l
  pointwise [k0_pay98]
  simp only [h_v77]

include D in
theorem p99 : ∀ (l : Fin 128) (s : Fin 256), (k0_pay99 (F := Ideal)) (ix2 l s) = 0 := by
  intro l s
  pointwise [k0_pay99]

include D in
theorem p100 : ∀ (l : Fin 128) (s : Fin 256), (k0_pay100 (F := Ideal)) (ix2 l s) = 0 := by
  intro l s
  pointwise [k0_pay100]

include h_v22 h_v73 in
theorem p101 : ∀ (r : Fin 1024) (c : Fin 256), (k0_pay101 v22 v73) (ix2 r c) = ((D.nz 0 (b + r) (b + c) : ℝ) : EReal) := by
  intro r c
  pointwise [k0_pay101]
  simp only [h_v22, h_v73, p97 D h_v73]
  with_reducible_and_instances exact D.nz_e 0 (b + r.val) (b + c.val)

include h_v22 h_v73 in
theorem p102 : ∀ (r : Fin 1024) (c : Fin 256), (k0_pay102 v22 v73) (ix2 r c) = ((D.sp 0 (b + r) (b + c) : ℝ) : EReal) := by
  intro r c
  pointwise [k0_pay102]
  simp only [h_v22, h_v73, p101 D h_v22 h_v73]
  with_reducible_and_instances exact D.sp_e 0 (b + r.val) (b + c.val)

include h_v9 h_v22 h_v69 h_v73 in
theorem p103 : ∀ (r : Fin 1024) (c : Fin 256), (k0_pay103 v9 v22 v69 v73) (ix2 r c) = ((D.pp 0 (b + r) b c : ℝ) : EReal) := by
  intro r c
  have L := fun x : Fin 256 => D.lkm_e (w := 0) (t := b + r.val) (s := b + ↑x) (r := r.val) (c := ↑x) (by omega)
  have L2 := fun (x : Fin 256) (y : EReal) => D.lkm_mul (w := 0) (t := b + r.val) (s := b + ↑x) (r := r.val) (c := ↑x) (by omega) y
  pointwise [k0_pay103]
  simp only [h_v9, h_v22, h_v69, h_v73, p101 D h_v22 h_v73, p102 D h_v22 h_v73, L, L2]
  with_reducible_and_instances exact D.pp_e 0 (b + r.val) b c

include h_v98 in
theorem p104 : ∀ (r : Fin 1024) (l : Fin 128), (k0_pay104 v98) (ix2 r l) = ((D.cp 0 (b + r) b : ℝ) : EReal) := by
  intro r l
  pointwise [k0_pay104]
  simp only [h_v98]

include h_v100 in
theorem p105 : ∀ (r : Fin 1024) (l : Fin 128), (k0_pay105 v100) (ix2 r l) = ((D.cg 0 (b + r) b : ℝ) : EReal) := by
  intro r l
  pointwise [k0_pay105]
  simp only [h_v100]

include h_v9 h_v22 h_v42 h_v69 h_v73 h_v98 in
theorem p106 : ∀ (r : Fin 1024) (c : Fin 256), (k0_pay106 v9 v22 v42 v69 v73 v98) (ix2 r c) = ((D.a 0 (b + r) (b + c) : ℝ) : EReal) := by
  intro r c
  pointwise [k0_pay106]
  simp only [h_v9, h_v22, h_v42, h_v69, h_v73, h_v98, p102 D h_v22 h_v73, p103 D h_v9 h_v22 h_v69 h_v73, p104 D h_v98, dite_eq_ite, ite_self]
  with_reducible_and_instances exact D.am_e (by omega)

include h_v9 h_v22 h_v31 h_v42 h_v69 h_v73 h_v77 h_v98 in
theorem p107 : ∀ (r : Fin 1024) (c : Fin 256), (k0_pay107 v9 v22 v31 v42 v69 v73 v77 v98) (ix2 r c) = ((D.g 0 (b + r) (b + c) : ℝ) : EReal) := by
  intro r c
  pointwise [k0_pay107]
  simp only [h_v9, h_v22, h_v31, h_v42, h_v69, h_v73, h_v77, h_v98, p106 D h_v9 h_v22 h_v42 h_v69 h_v73 h_v98, p98 D h_v77]
  with_reducible_and_instances exact D.g_e 0 (b + r.val) (b + c.val)

include h_v9 h_v13 h_v22 h_v31 h_v42 h_v69 h_v73 h_v77 h_v98 in
theorem p108 : ∀ (r : Fin 1024) (c : Fin 256), (k0_pay108 v9 v13 v22 v31 v42 v69 v73 v77 v98) (ix2 r c) = ((D.gg 0 (b + r) b c : ℝ) : EReal) := by
  intro r c
  pointwise [k0_pay108]
  simp only [h_v9, h_v13, h_v22, h_v31, h_v42, h_v69, h_v73, h_v77, h_v98, p107 D h_v9 h_v22 h_v31 h_v42 h_v69 h_v73 h_v77 h_v98]
  with_reducible_and_instances exact D.gg_e 0 (b + r.val) b c

include h_v22 h_v73 in
theorem p109 : ∀ (r : Fin 1024) (c : Fin 256), (k0_pay109 v22 v73) (ix2 r c) = ((-D.sp 0 (b + r) (b + c) : ℝ) : EReal) := by
  intro r c
  pointwise [k0_pay109]
  simp only [h_v22, h_v73, p102 D h_v22 h_v73]
  with_reducible_and_instances exact D.nsp_e 0 (b + r.val) (b + c.val)

include h_v69 h_v101 h_v110 h_v112 h_v114 in
theorem p110 : ∀ (r : Fin 1024) (c : Fin 256), (k0_pay110 v69 v101 v110 v112 v114) (ix2 r c) = ((D.dz 0 (b + r) (b + c) : ℝ) : EReal) := by
  intro r c
  pointwise [k0_pay110]
  simp only [h_v69, h_v101, h_v110, h_v112, h_v114, dite_eq_ite, ite_self, D.nsp_e, exp_e]
  with_reducible_and_instances exact D.dzm_e (by omega)

include h_v69 h_v75 h_v101 h_v110 h_v112 h_v114 h_v124 in
theorem p111 : ∀ (r : Fin 1024) (l : Fin 128), (k0_pay111 v69 v75 v101 v110 v112 v114 v124) (ix3 0 r l) = ((D.dqa 0 (b + r) l (b + 256) : ℝ) : EReal) := by
  intro r l
  pointwise [k0_pay111]
  simp only [h_v69, h_v75, h_v101, h_v110, h_v112, h_v114, h_v124, p110 D h_v69 h_v101 h_v110 h_v112 h_v114]
  with_reducible_and_instances exact D.dqa_e 0 (b + r.val) l.val b

include h_v35 h_v69 h_v80 h_v101 h_v110 h_v112 h_v114 in
theorem p112 : ∀ (l : Fin 128) (s : Fin 256), (k0_pay112 v35 v69 v80 v101 v110 v112 v114) (ix2 l s) = ((D.kacc 0 (fun x => b + x) 1024 l (b + s) : ℝ) : EReal) := by
  intro l s
  pointwise [k0_pay112]
  simp only [h_v35, h_v69, h_v80, h_v101, h_v110, h_v112, h_v114, p110 D h_v69 h_v101 h_v110 h_v112 h_v114]
  with_reducible_and_instances exact (zero_add _).trans (D.kacc_e 0 (fun x => b + x) 1024 l.val (b + s.val))

include h_v37 h_v81 h_v108 in
theorem p113 : ∀ (l : Fin 128) (s : Fin 256), (k0_pay113 v37 v81 v108) (ix2 l s) = ((D.vacc 0 (fun x => b + x) 1024 l (b + s) : ℝ) : EReal) := by
  intro l s
  pointwise [k0_pay113]
  simp only [h_v37, h_v81, h_v108]
  with_reducible_and_instances exact (zero_add _).trans (D.vacc_e 0 (fun x => b + x) 1024 l.val (b + s.val))

include h_v97 h_v99 in
theorem p114 : ∀ (r : Fin 1024) (l : Fin 128), (k0_pay114 v97 v99) (ix3 0 r l) = ((D.cp 0 (b + r) (b + 256) : ℝ) : EReal) := by
  intro r l
  pointwise [k0_pay114]
  simp only [h_v97, h_v99]
  with_reducible_and_instances exact D.cp_e 0 (b + r.val) b

include h_v101 h_v110 h_v112 in
theorem p115 : ∀ (r : Fin 1024) (l : Fin 128), (k0_pay115 v101 v110 v112) (ix3 0 r l) = ((D.cg 0 (b + r) (b + 256) : ℝ) : EReal) := by
  intro r l
  pointwise [k0_pay115]
  simp only [h_v101, h_v110, h_v112]
  with_reducible_and_instances exact D.cg_e 0 (b + r.val) b

include h_v27 h_v75 in
theorem p116 : ∀ (r : Fin 1024) (c : Fin 256), (k0_pay116 v27 v75) (ix2 r c) = ∑ x : Fin 128, ((D.qm 1 (b + r) x : ℝ) : EReal) * ((D.K (b + c) x : ℝ) : EReal) := by
  intro r c
  pointwise [k0_pay116]
  simp only [h_v27, h_v75]

include D in
theorem p117 : ∀ (r : Fin 1024) (c : Fin 256), (k0_pay117 (F := Ideal)) (ix2 r c) = Ideal.ofBits .f32 0x42A00000#32 := by
  intro r c
  pointwise [k0_pay117]

include h_v152 h_v153 in
theorem p118 : ∀ (r : Fin 1024) (c : Fin 256), (k0_pay118 v152 v153) (ix2 r c) = ((D.nz 1 (b + r) (b + c) : ℝ) : EReal) := by
  intro r c
  pointwise [k0_pay118]
  simp only [h_v152, h_v153]
  with_reducible_and_instances exact D.nz_e 1 (b + r.val) (b + c.val)

include h_v152 h_v153 in
theorem p119 : ∀ (r : Fin 1024) (c : Fin 256), (k0_pay119 v152 v153) (ix2 r c) = ((D.sp 1 (b + r) (b + c) : ℝ) : EReal) := by
  intro r c
  pointwise [k0_pay119]
  simp only [h_v152, h_v153, p118 D h_v152 h_v153]
  with_reducible_and_instances exact D.sp_e 1 (b + r.val) (b + c.val)

include h_v9 h_v69 h_v152 h_v153 in
theorem p120 : ∀ (r : Fin 1024) (c : Fin 256), (k0_pay120 v9 v69 v152 v153) (ix2 r c) = ((D.pp 1 (b + r) b c : ℝ) : EReal) := by
  intro r c
  have L := fun x : Fin 256 => D.lkm_e (w := 1) (t := b + r.val) (s := b + ↑x) (r := r.val) (c := ↑x) (by omega)
  have L2 := fun (x : Fin 256) (y : EReal) => D.lkm_mul (w := 1) (t := b + r.val) (s := b + ↑x) (r := r.val) (c := ↑x) (by omega) y
  pointwise [k0_pay120]
  simp only [h_v9, h_v69, h_v152, h_v153, p118 D h_v152 h_v153, p119 D h_v152 h_v153, L, L2]
  with_reducible_and_instances exact D.pp_e 1 (b + r.val) b c

include h_v168 in
theorem p121 : ∀ (r : Fin 1024) (l : Fin 128), (k0_pay121 v168) (ix2 r l) = ((D.cp 1 (b + r) b : ℝ) : EReal) := by
  intro r l
  pointwise [k0_pay121]
  simp only [h_v168]

include h_v170 in
theorem p122 : ∀ (r : Fin 1024) (l : Fin 128), (k0_pay122 v170) (ix2 r l) = ((D.cg 1 (b + r) b : ℝ) : EReal) := by
  intro r l
  pointwise [k0_pay122]
  simp only [h_v170]

include h_v9 h_v43 h_v69 h_v152 h_v153 h_v168 in
theorem p123 : ∀ (r : Fin 1024) (c : Fin 256), (k0_pay123 v9 v43 v69 v152 v153 v168) (ix2 r c) = ((D.a 1 (b + r) (b + c) : ℝ) : EReal) := by
  intro r c
  pointwise [k0_pay123]
  simp only [h_v9, h_v43, h_v69, h_v152, h_v153, h_v168, p119 D h_v152 h_v153, p120 D h_v9 h_v69 h_v152 h_v153, p121 D h_v168, dite_eq_ite, ite_self]
  with_reducible_and_instances exact D.am_e (by omega)

include h_v9 h_v34 h_v43 h_v69 h_v79 h_v152 h_v153 h_v168 in
theorem p124 : ∀ (r : Fin 1024) (c : Fin 256), (k0_pay124 v9 v34 v43 v69 v79 v152 v153 v168) (ix2 r c) = ((D.g 1 (b + r) (b + c) : ℝ) : EReal) := by
  intro r c
  pointwise [k0_pay124]
  simp only [h_v9, h_v34, h_v43, h_v69, h_v79, h_v152, h_v153, h_v168, p123 D h_v9 h_v43 h_v69 h_v152 h_v153 h_v168]
  with_reducible_and_instances exact D.g_e 1 (b + r.val) (b + c.val)

include h_v9 h_v13 h_v34 h_v43 h_v69 h_v79 h_v152 h_v153 h_v168 in
theorem p125 : ∀ (r : Fin 1024) (c : Fin 256), (k0_pay125 v9 v13 v34 v43 v69 v79 v152 v153 v168) (ix2 r c) = ((D.gg 1 (b + r) b c : ℝ) : EReal) := by
  intro r c
  pointwise [k0_pay125]
  simp only [h_v9, h_v13, h_v34, h_v43, h_v69, h_v79, h_v152, h_v153, h_v168, p124 D h_v9 h_v34 h_v43 h_v69 h_v79 h_v152 h_v153 h_v168]
  with_reducible_and_instances exact D.gg_e 1 (b + r.val) b c

include h_v9 h_v13 h_v34 h_v43 h_v69 h_v79 h_v152 h_v153 h_v168 h_v170 in
theorem p126 : ∀ (r : Fin 1024) (c : Fin 256), (k0_pay126 v9 v13 v34 v43 v69 v79 v152 v153 v168 v170) (ix2 r c) = ((D.dz 1 (b + r) (b + c) : ℝ) : EReal) := by
  intro r c
  pointwise [k0_pay126]
  simp only [h_v9, h_v13, h_v34, h_v43, h_v69, h_v79, h_v152, h_v153, h_v168, h_v170, p119 D h_v152 h_v153, p122 D h_v170, p124 D h_v9 h_v34 h_v43 h_v69 h_v79 h_v152 h_v153 h_v168, p125 D h_v9 h_v13 h_v34 h_v43 h_v69 h_v79 h_v152 h_v153 h_v168, dite_eq_ite, ite_self, D.nsp_e, exp_e]
  with_reducible_and_instances exact D.dzm_e (by omega)

include h_v194 in
theorem p127 : ∀ (r : Fin 1024) (l : Fin 128), (k0_pay127 v194) (ix2 r l) = ((D.dqa 1 (b + r) l b : ℝ) : EReal) := by
  intro r l
  pointwise [k0_pay127]
  simp only [h_v194]

include h_v75 h_v193 h_v195 h_cst_84 in
theorem p128 : ∀ (r : Fin 1024) (l : Fin 128), (k0_pay128 v75 v193 v195 cst_84) (ix3 0 r l) = ((D.dqa 1 (b + r) l (b + 256) : ℝ) : EReal) := by
  intro r l
  pointwise [k0_pay128]
  simp only [h_v75, h_v193, h_v195, h_cst_84, zero_add, add_zero]
  with_reducible_and_instances exact D.dqa_e 1 (b + r.val) l.val b

include h_v167 h_v169 in
theorem p129 : ∀ (r : Fin 1024) (l : Fin 128), (k0_pay129 v167 v169) (ix3 0 r l) = ((D.cp 1 (b + r) (b + 256) : ℝ) : EReal) := by
  intro r l
  pointwise [k0_pay129]
  simp only [h_v167, h_v169]
  with_reducible_and_instances exact D.cp_e 1 (b + r.val) b

include h_v171 h_v180 h_v182 in
theorem p130 : ∀ (r : Fin 1024) (l : Fin 128), (k0_pay130 v171 v180 v182) (ix3 0 r l) = ((D.cg 1 (b + r) (b + 256) : ℝ) : EReal) := by
  intro r l
  pointwise [k0_pay130]
  simp only [h_v171, h_v180, h_v182]
  with_reducible_and_instances exact D.cg_e 1 (b + r.val) b

include h_v36 h_v132 h_v193 h_v223 in
theorem p131 : ∀ (l : Fin 128) (s : Fin 256), (k0_pay131 v36 v132 v193 v223) (ix2 l s) = ((-D.dk l (b + s) (b + 1024) : ℝ) : EReal) := by
  intro l s
  have N := D.dk_next l.val (b + s.val) b 0 1024 (Or.inr rfl)
  simp only [zero_add, Nat.reduceAdd] at N
  pointwise [k0_pay131]
  simp only [h_v36, h_v132, h_v193, h_v223, EReal.coe_add]
  rw [N, neg_add, ← sub_eq_add_neg, EReal.coe_sub, EReal.coe_add]
  with_reducible_and_instances exact congrArg (_ - ·) (congrArg (_ + ·) (D.kacc_e 1 (fun x => b + x) 1024 l.val (b + s.val)))

include h_v38 h_v135 h_v178 h_v230 in
theorem p132 : ∀ (l : Fin 128) (s : Fin 256), (k0_pay132 v38 v135 v178 v230) (ix2 l s) = ((D.dv l (b + s) (b + 1024) : ℝ) : EReal) := by
  intro l s
  have N := D.dv_next l.val (b + s.val) b 0 1024 (Or.inr rfl)
  simp only [zero_add, Nat.reduceAdd] at N
  pointwise [k0_pay132]
  simp only [h_v38, h_v135, h_v178, h_v230, EReal.coe_add]
  rw [N, EReal.coe_add, EReal.coe_add]
  with_reducible_and_instances exact congrArg (_ + ·) (congrArg (_ + ·) (D.vacc_e 1 (fun x => b + x) 1024 l.val (b + s.val)))

end Cert.SbProof
end
-- ==== Proof.SbPay1.lean ====
module

public import proofs.«01_k».proof.Proof.Gen.SbKernelIdeal.Skeleton
public import proofs.«01_k».proof.Proof.SbOps

/-! What the second block of 256 columns on the diagonal computes, one expression at a time. -/

@[expose] public section
set_option maxRecDepth 16384
noncomputable section

namespace Cert.SbProof
open Idealize.ShloMosaic Idealize.ShloMosaic.TcCoe
open Cert.SbKernelIdeal Cert.SbKernelIdeal.Gen Cert.SbMath Cert.SbMath.Dat

variable (D : Dat) {b : ℕ}
variable {v248 v244 : Vec Ideal S256x128 .f32}
  {v31 v22 v27 v34 : FVec Ideal S1024x128 .bf16}
  {v9 : FVec Ideal S512x256 .bf16}
  {v273 v348 v271 v346 v373 v298 : Vec Ideal S1x768x128 .f32}
  {v42 v43 : FVec Ideal S1024x128 .f32}
  {v13 : FVec Ideal S256x256 .bf16}
  {v37 v38 v35 v36 : FVec Ideal S128x1024 .bf16}
  {v345 v357 v336 v359 v261 v270 cst_150 v277 v284 v286 : FVec Ideal S768x256 .f32}
  {v399 v347 v349 v274 v272 : FVec Ideal S768x128 .f32}
  {v382 v386 v311 v252 v307 v251 : FVec Ideal S128x256 .f32}
  {v404 v411 : Vec Ideal S128x256 .f32}
  {v240 : IVec S768x256 1}
  {v246 v250 : FVec Ideal S256x128 .bf16}
  {v254 : FVec Ideal S768x128 .bf16}
  {v360 : FVec Ideal S768x256 .bf16}
variable (h_v248 : ∀ (s : Fin 256) (l : Fin 128), v248 (ix2 s l) = ((D.V (b + 256 + s) l : ℝ) : EReal))
  (h_v31 : ∀ (r : Fin 1024) (l : Fin 128), v31 (ix2 r l) = ((D.ym 0 (b + r) l : ℝ) : EReal))
  (h_v9 : ∀ (x : Fin 512) (c : Fin 256), v9 (ix2 x c) = ((one ((x : ℕ) % 256 ≤ (c : ℕ)) : ℝ) : EReal))
  (h_v273 : ∀ (r : Fin 768) (l : Fin 128), v273 (ix3 0 r l) = ((D.cg 0 (b + (256 + r)) (b + 256) : ℝ) : EReal))
  (h_v42 : ∀ (r : Fin 1024) (l : Fin 128), v42 (ix2 r l) = ((D.T (b + r) 0 : ℝ) : EReal))
  (h_v13 : ∀ (x : Fin 256) (c : Fin 256), v13 (ix2 x c) = ((one ((x : ℕ) < (c : ℕ)) : ℝ) : EReal))
  (h_v37 : ∀ (l : Fin 128) (r : Fin 1024), v37 (ix2 l r) = ((D.ym 0 (b + r) l : ℝ) : EReal))
  (h_v348 : ∀ (r : Fin 768) (l : Fin 128), v348 (ix3 0 r l) = ((D.cg 1 (b + (256 + r)) (b + 256) : ℝ) : EReal))
  (h_v38 : ∀ (l : Fin 128) (r : Fin 1024), v38 (ix2 l r) = ((D.ym 1 (b + r) l : ℝ) : EReal))
  (h_v345 : ∀ (r : Fin 768) (c : Fin 256), v345 (ix2 r c) = ((D.pp 1 (b + (256 + r)) (b + 256) c : ℝ) : EReal))
  (h_v399 : ∀ (r : Fin 768) (l : Fin 128), v399 (ix2 r l) = ((D.cg 1 (b + (256 + r)) (b + 256 + 256) : ℝ) : EReal))
  (h_v382 : ∀ (l : Fin 128) (s : Fin 256), v382 (ix2 l s) = ((D.kacc 0 (fun x => b + (256 + x)) 768 l (b + 256 + s) + D.kacc 1 (fun x => b + (256 + x)) 768 l (b + 256 + s) : ℝ) : EReal))
  (h_v386 : ∀ (l : Fin 128) (s : Fin 256), v386 (ix2 l s) = ((D.vacc 0 (fun x => b + (256 + x)) 768 l (b + 256 + s) + D.vacc 1 (fun x => b + (256 + x)) 768 l (b + 256 + s) : ℝ) : EReal))
  (h_v22 : ∀ (r : Fin 1024) (l : Fin 128), v22 (ix2 r l) = ((D.qm 0 (b + r) l : ℝ) : EReal))
  (h_v27 : ∀ (r : Fin 1024) (l : Fin 128), v27 (ix2 r l) = ((D.qm 1 (b + r) l : ℝ) : EReal))
  (h_v271 : ∀ (r : Fin 768) (l : Fin 128), v271 (ix3 0 r l) = ((D.cp 0 (b + (256 + r)) (b + 256) : ℝ) : EReal))
  (h_v35 : ∀ (l : Fin 128) (r : Fin 1024), v35 (ix2 l r) = ((D.qm 0 (b + r) l : ℝ) : EReal))
  (h_v36 : ∀ (l : Fin 128) (r : Fin 1024), v36 (ix2 l r) = ((D.qm 1 (b + r) l : ℝ) : EReal))
  (h_v311 : ∀ (l : Fin 128) (s : Fin 256), v311 (ix2 l s) = ((D.vacc 0 (fun x => b + (256 + x)) 768 l (b + 256 + s) : ℝ) : EReal))
  (h_v347 : ∀ (r : Fin 768) (l : Fin 128), v347 (ix2 r l) = ((D.cp 1 (b + (256 + r)) (b + 256) : ℝ) : EReal))
  (h_v404 : ∀ (l : Fin 128) (s : Fin 256), v404 (ix2 l s) = ((-D.dk l (b + 256 + s) b : ℝ) : EReal))
  (h_v411 : ∀ (l : Fin 128) (s : Fin 256), v411 (ix2 l s) = ((D.dv l (b + 256 + s) b : ℝ) : EReal))
  (h_v244 : ∀ (s : Fin 256) (l : Fin 128), v244 (ix2 s l) = ((D.K (b + 256 + s) l : ℝ) : EReal))
  (h_v34 : ∀ (r : Fin 1024) (l : Fin 128), v34 (ix2 r l) = ((D.ym 1 (b + r) l : ℝ) : EReal))
  (h_v357 : ∀ (r : Fin 768) (c : Fin 256), v357 (ix2 r c) = ((D.a 1 (b + (256 + r)) (b + 256 + c) : ℝ) : EReal))
  (h_v43 : ∀ (r : Fin 1024) (l : Fin 128), v43 (ix2 r l) = ((D.T (b + r) 1 : ℝ) : EReal))
  (h_v240 : ∀ (r : Fin 768) (c : Fin 256), v240 (ix2 r c) = bit ((c : ℕ) < (r : ℕ)))
  (h_v252 : ∀ (l : Fin 128) (s : Fin 256), v252 (ix2 l s) = 0)
  (h_v246 : ∀ (s : Fin 256) (l : Fin 128), v246 (ix2 s l) = ((D.K (b + 256 + s) l : ℝ) : EReal))
  (h_v307 : ∀ (l : Fin 128) (s : Fin 256), v307 (ix2 l s) = ((D.kacc 0 (fun x => b + (256 + x)) 768 l (b + 256 + s) : ℝ) : EReal))
  (h_v250 : ∀ (s : Fin 256) (l : Fin 128), v250 (ix2 s l) = ((D.V (b + 256 + s) l : ℝ) : EReal))
  (h_v336 : ∀ (r : Fin 768) (c : Fin 256), v336 (ix2 r c) = ((D.sp 1 (b + (256 + r)) (b + 256 + c) : ℝ) : EReal))
  (h_v251 : ∀ (l : Fin 128) (s : Fin 256), v251 (ix2 l s) = 0)
  (h_v346 : ∀ (r : Fin 768) (l : Fin 128), v346 (ix3 0 r l) = ((D.cp 1 (b + (256 + r)) (b + 256) : ℝ) : EReal))
  (h_v349 : ∀ (r : Fin 768) (l : Fin 128), v349 (ix2 r l) = ((D.cg 1 (b + (256 + r)) (b + 256) : ℝ) : EReal))
  (h_v254 : ∀ (r : Fin 768) (l : Fin 128), v254 (ix2 r l) = ((D.ym 0 (b + (256 + r)) l : ℝ) : EReal))
  (h_v359 : ∀ (r : Fin 768) (c : Fin 256), v359 (ix2 r c) = ((D.g 1 (b + (256 + r)) (b + 256 + c) : ℝ) : EReal))
  (h_v261 : ∀ (r : Fin 768) (c : Fin 256), v261 (ix2 r c) = ((D.sp 0 (b + (256 + r)) (b + 256 + c) : ℝ) : EReal))
  (h_v360 : ∀ (r : Fin 768) (c : Fin 256), v360 (ix2 r c) = ((D.g 1 (b + (256 + r)) (b + 256 + c) : ℝ) : EReal))
  (h_v270 : ∀ (r : Fin 768) (c : Fin 256), v270 (ix2 r c) = ((D.pp 0 (b + (256 + r)) (b + 256) c : ℝ) : EReal))
  (h_cst_150 : ∀ i, cst_150 i = 0)
  (h_v274 : ∀ (r : Fin 768) (l : Fin 128), v274 (ix2 r l) = ((D.cg 0 (b + (256 + r)) (b + 256) : ℝ) : EReal))
  (h_v272 : ∀ (r : Fin 768) (l : Fin 128), v272 (ix2 r l) = ((D.cp 0 (b + (256 + r)) (b + 256) : ℝ) : EReal))
  (h_v373 : ∀ (r : Fin 768) (l : Fin 128), v373 (ix3 0 r l) = ((D.dqa 1 (b + (256 + r)) l (b + 256) : ℝ) : EReal))
  (h_v277 : ∀ (r : Fin 768) (c : Fin 256), v277 (ix2 r c) = ((D.T (b + (256 + r)) 0 : ℝ) : EReal) - ((D.cp 0 (b + (256 + r)) (b + 256) : ℝ) : EReal))
  (h_v284 : ∀ (r : Fin 768) (c : Fin 256), v284 (ix2 r c) = ((D.g 0 (b + (256 + r)) (b + 256 + c) : ℝ) : EReal))
  (h_v298 : ∀ (r : Fin 768) (l : Fin 128), v298 (ix3 0 r l) = ((D.dqa 0 (b + (256 + r)) l (b + 256) : ℝ) : EReal))
  (h_v286 : ∀ (r : Fin 768) (c : Fin 256), v286 (ix2 r c) = ((D.gg 0 (b + (256 + r)) (b + 256) c : ℝ) : EReal))

include D in
theorem p133 : ∀ (r : Fin 768) (c : Fin 256), (k0_pay133) (ix2 r c) = bit ((c : ℕ) < (r : ℕ)) := by
  intro r c
  pointwise [k0_pay133]
  rw [slt_bit (by omega) (by omega)]

include h_v244 in
theorem p134 : ∀ (s : Fin 256) (l : Fin 128), (k0_pay134 v244) (ix2 s l) = ((D.K (b + 256 + s) l : ℝ) : EReal) := by
  intro s l
  pointwise [k0_pay134]
  simp only [h_v244]

include h_v248 in
theorem p135 : ∀ (s : Fin 256) (l : Fin 128), (k0_pay135 v248) (ix2 s l) = ((D.V (b + 256 + s) l : ℝ) : EReal) := by
  intro s l
  pointwise [k0_pay135]
  simp only [h_v248]

include D in
theorem p136 : ∀ (l : Fin 128) (s : Fin 256), (k0_pay136 (F := Ideal)) (ix2 l s) = 0 := by
  intro l s
  pointwise [k0_pay136]

include D in
theorem p137 : ∀ (l : Fin 128) (s : Fin 256), (k0_pay137 (F := Ideal)) (ix2 l s) = 0 := by
  intro l s
  pointwise [k0_pay137]

include h_v31 in
theorem p138 : ∀ (r : Fin 768) (l : Fin 128), (k0_pay138 v31) (ix2 r l) = ((D.ym 0 (b + (256 + r)) l : ℝ) : EReal) := by
  intro r l
  pointwise [k0_pay138]
  simp only [h_v31]

include h_v22 h_v244 in
theorem p139 : ∀ (r : Fin 768) (c : Fin 256), (k0_pay139 v22 v244) (ix2 r c) = ((D.nz 0 (b + (256 + r)) (b + 256 + c) : ℝ) : EReal) := by
  intro r c
  pointwise [k0_pay139]
  simp only [h_v22, h_v244, p134 D h_v244]
  with_reducible_and_instances exact D.nz_e 0 (b + (256 + r.val)) (b + 256 + c.val)

include h_v22 h_v244 in
theorem p140 : ∀ (r : Fin 768) (c : Fin 256), (k0_pay140 v22 v244) (ix2 r c) = ((D.sp 0 (b + (256 + r)) (b + 256 + c) : ℝ) : EReal) := by
  intro r c
  pointwise [k0_pay140]
  simp only [h_v22, h_v244, p139 D h_v22 h_v244]
  with_reducible_and_instances exact D.sp_e 0 (b + (256 + r.val)) (b + 256 + c.val)

include h_v9 h_v22 h_v244 in
theorem p141 : ∀ (r : Fin 768) (c : Fin 256), (k0_pay141 v9 v22 v244) (ix2 r c) = ((D.pp 0 (b + (256 + r)) (b + 256) c : ℝ) : EReal) := by
  intro r c
  have L := fun x : Fin 256 => D.lkm_e (w := 0) (t := b + (256 + r.val)) (s := (b + 256) + ↑x) (r := r.val) (c := ↑x) (by omega)
  have L2 := fun (x : Fin 256) (y : EReal) => D.lkm_mul (w := 0) (t := b + (256 + r.val)) (s := (b + 256) + ↑x) (r := r.val) (c := ↑x) (by omega) y
  pointwise [k0_pay141]
  simp only [h_v9, h_v22, h_v244, p133 D, p139 D h_v22 h_v244, p140 D h_v22 h_v244, L, L2]
  with_reducible_and_instances exact D.pp_e 0 (b + (256 + r.val)) (b + 256) c

include h_v271 in
theorem p142 : ∀ (r : Fin 768) (l : Fin 128), (k0_pay142 v271) (ix2 r l) = ((D.cp 0 (b + (256 + r)) (b + 256) : ℝ) : EReal) := by
  intro r l
  pointwise [k0_pay142]
  simp only [h_v271]

include h_v273 in
theorem p143 : ∀ (r : Fin 768) (l : Fin 128), (k0_pay143 v273) (ix2 r l) = ((D.cg 0 (b + (256 + r)) (b + 256) : ℝ) : EReal) := by
  intro r l
  pointwise [k0_pay143]
  simp only [h_v273]

include h_v42 h_v271 in
theorem p144 : ∀ (r : Fin 768) (c : Fin 256), (k0_pay144 v42 v271) (ix2 r c) = ((D.T (b + (256 + r)) 0 : ℝ) : EReal) - ((D.cp 0 (b + (256 + r)) (b + 256) : ℝ) : EReal) := by
  intro r c
  pointwise [k0_pay144]
  simp only [h_v42, h_v271, p142 D h_v271, dite_eq_ite, ite_self]

include h_v240 h_v261 h_v270 h_v277 in
theorem p145 : ∀ (r : Fin 768) (c : Fin 256), (k0_pay145 v240 v261 v270 v277) (ix2 r c) = ((D.a 0 (b + (256 + r)) (b + 256 + c) : ℝ) : EReal) := by
  intro r c
  pointwise [k0_pay145]
  simp only [h_v240, h_v261, h_v270, h_v277, dite_eq_ite, ite_self]
  with_reducible_and_instances exact D.am_e (by omega)

include h_v240 h_v250 h_v254 h_v261 h_v270 h_v277 in
theorem p146 : ∀ (r : Fin 768) (c : Fin 256), (k0_pay146 v240 v250 v254 v261 v270 v277) (ix2 r c) = ((D.g 0 (b + (256 + r)) (b + 256 + c) : ℝ) : EReal) := by
  intro r c
  pointwise [k0_pay146]
  simp only [h_v240, h_v250, h_v254, h_v261, h_v270, h_v277, p145 D h_v240 h_v261 h_v270 h_v277]
  with_reducible_and_instances exact D.g_e 0 (b + (256 + r.val)) (b + 256 + c.val)

include h_v13 h_v240 h_v250 h_v254 h_v261 h_v270 h_v277 in
theorem p147 : ∀ (r : Fin 768) (c : Fin 256), (k0_pay147 v13 v240 v250 v254 v261 v270 v277) (ix2 r c) = ((D.gg 0 (b + (256 + r)) (b + 256) c : ℝ) : EReal) := by
  intro r c
  pointwise [k0_pay147]
  simp only [h_v13, h_v240, h_v250, h_v254, h_v261, h_v270, h_v277, p146 D h_v240 h_v250 h_v254 h_v261 h_v270 h_v277]
  with_reducible_and_instances exact D.gg_e 0 (b + (256 + r.val)) (b + 256) c

include h_v13 h_v240 h_v250 h_v254 h_v261 h_v270 h_v274 h_v277 in
theorem p148 : ∀ (r : Fin 768) (c : Fin 256), (k0_pay148 v13 v240 v250 v254 v261 v270 v274 v277) (ix2 r c) = ((D.dz 0 (b + (256 + r)) (b + 256 + c) : ℝ) : EReal) := by
  intro r c
  pointwise [k0_pay148]
  simp only [h_v13, h_v240, h_v250, h_v254, h_v261, h_v270, h_v274, h_v277, p146 D h_v240 h_v250 h_v254 h_v261 h_v270 h_v277, p147 D h_v13 h_v240 h_v250 h_v254 h_v261 h_v270 h_v277, dite_eq_ite, ite_self, D.nsp_e, exp_e]
  with_reducible_and_instances exact D.dzm_e (by omega)

include h_v13 h_v240 h_v246 h_v250 h_v254 h_v261 h_v270 h_v274 h_v277 h_v298 in
theorem p149 : ∀ (r : Fin 768) (l : Fin 128), (k0_pay149 v13 v240 v246 v250 v254 v261 v270 v274 v277 v298) (ix3 0 r l) = ((D.dqa 0 (b + (256 + r)) l (b + 256 + 256) : ℝ) : EReal) := by
  intro r l
  pointwise [k0_pay149]
  simp only [h_v13, h_v240, h_v246, h_v250, h_v254, h_v261, h_v270, h_v274, h_v277, h_v298, p148 D h_v13 h_v240 h_v250 h_v254 h_v261 h_v270 h_v274 h_v277]
  with_reducible_and_instances exact D.dqa_e 0 (b + (256 + r.val)) l.val (b + 256)

include h_v13 h_v35 h_v240 h_v250 h_v251 h_v254 h_v261 h_v270 h_v274 h_v277 in
theorem p150 : ∀ (l : Fin 128) (s : Fin 256), (k0_pay150 v13 v35 v240 v250 v251 v254 v261 v270 v274 v277) (ix2 l s) = ((D.kacc 0 (fun x => b + (256 + x)) 768 l (b + 256 + s) : ℝ) : EReal) := by
  intro l s
  pointwise [k0_pay150]
  simp only [h_v13, h_v35, h_v240, h_v250, h_v251, h_v254, h_v261, h_v270, h_v274, h_v277, p148 D h_v13 h_v240 h_v250 h_v254 h_v261 h_v270 h_v274 h_v277]
  with_reducible_and_instances exact (zero_add _).trans (D.kacc_e 0 (fun x => b + (256 + x)) 768 l.val (b + 256 + s.val))

include h_v37 h_v240 h_v252 h_v261 h_v270 h_v277 in
theorem p151 : ∀ (l : Fin 128) (s : Fin 256), (k0_pay151 v37 v240 v252 v261 v270 v277) (ix2 l s) = ((D.vacc 0 (fun x => b + (256 + x)) 768 l (b + 256 + s) : ℝ) : EReal) := by
  intro l s
  pointwise [k0_pay151]
  simp only [h_v37, h_v240, h_v252, h_v261, h_v270, h_v277, p145 D h_v240 h_v261 h_v270 h_v277]
  with_reducible_and_instances exact (zero_add _).trans (D.vacc_e 0 (fun x => b + (256 + x)) 768 l.val (b + 256 + s.val))

include h_v270 h_v272 in
theorem p152 : ∀ (r : Fin 768) (l : Fin 128), (k0_pay152 v270 v272) (ix3 0 r l) = ((D.cp 0 (b + (256 + r)) (b + 256 + 256) : ℝ) : EReal) := by
  intro r l
  pointwise [k0_pay152]
  simp only [h_v270, h_v272]
  with_reducible_and_instances exact D.cp_e 0 (b + (256 + r.val)) (b + 256)

include h_v274 h_v284 h_v286 in
theorem p153 : ∀ (r : Fin 768) (l : Fin 128), (k0_pay153 v274 v284 v286) (ix3 0 r l) = ((D.cg 0 (b + (256 + r)) (b + 256 + 256) : ℝ) : EReal) := by
  intro r l
  pointwise [k0_pay153]
  simp only [h_v274, h_v284, h_v286]
  with_reducible_and_instances exact D.cg_e 0 (b + (256 + r.val)) (b + 256)

include h_v27 h_v246 in
theorem p154 : ∀ (r : Fin 768) (c : Fin 256), (k0_pay154 v27 v246) (ix2 r c) = ((D.nz 1 (b + (256 + r)) (b + 256 + c) : ℝ) : EReal) := by
  intro r c
  pointwise [k0_pay154]
  simp only [h_v27, h_v246]
  with_reducible_and_instances exact D.nz_e 1 (b + (256 + r.val)) (b + 256 + c.val)

include h_v27 h_v246 in
theorem p155 : ∀ (r : Fin 768) (c : Fin 256), (k0_pay155 v27 v246) (ix2 r c) = ((D.sp 1 (b + (256 + r)) (b + 256 + c) : ℝ) : EReal) := by
  intro r c
  pointwise [k0_pay155]
  simp only [h_v27, h_v246, p154 D h_v27 h_v246]
  with_reducible_and_instances exact D.sp_e 1 (b + (256 + r.val)) (b + 256 + c.val)

include h_v9 h_v27 h_v240 h_v246 in
theorem p156 : ∀ (r : Fin 768) (c : Fin 256), (k0_pay156 v9 v27 v240 v246) (ix2 r c) = ((D.pp 1 (b + (256 + r)) (b + 256) c : ℝ) : EReal) := by
  intro r c
  have L := fun x : Fin 256 => D.lkm_e (w := 1) (t := b + (256 + r.val)) (s := (b + 256) + ↑x) (r := r.val) (c := ↑x) (by omega)
  have L2 := fun (x : Fin 256) (y : EReal) => D.lkm_mul (w := 1) (t := b + (256 + r.val)) (s := (b + 256) + ↑x) (r := r.val) (c := ↑x) (by omega) y
  pointwise [k0_pay156]
  simp only [h_v9, h_v27, h_v240, h_v246, p154 D h_v27 h_v246, p155 D h_v27 h_v246, L, L2]
  with_reducible_and_instances exact D.pp_e 1 (b + (256 + r.val)) (b + 256) c

include h_v346 in
theorem p157 : ∀ (r : Fin 768) (l : Fin 128), (k0_pay157 v346) (ix2 r l) = ((D.cp 1 (b + (256 + r)) (b + 256) : ℝ) : EReal) := by
  intro r l
  pointwise [k0_pay157]
  simp only [h_v346]

include h_v348 in
theorem p158 : ∀ (r : Fin 768) (l : Fin 128), (k0_pay158 v348) (ix2 r l) = ((D.cg 1 (b + (256 + r)) (b + 256) : ℝ) : EReal) := by
  intro r l
  pointwise [k0_pay158]
  simp only [h_v348]

include h_v9 h_v27 h_v43 h_v240 h_v246 h_v346 in
theorem p159 : ∀ (r : Fin 768) (c : Fin 256), (k0_pay159 v9 v27 v43 v240 v246 v346) (ix2 r c) = ((D.a 1 (b + (256 + r)) (b + 256 + c) : ℝ) : EReal) := by
  intro r c
  pointwise [k0_pay159]
  simp only [h_v9, h_v27, h_v43, h_v240, h_v246, h_v346, p155 D h_v27 h_v246, p156 D h_v9 h_v27 h_v240 h_v246, p157 D h_v346, dite_eq_ite, ite_self]
  with_reducible_and_instances exact D.am_e (by omega)

include h_v9 h_v27 h_v34 h_v43 h_v240 h_v246 h_v250 h_v346 in
theorem p160 : ∀ (r : Fin 768) (c : Fin 256), (k0_pay160 v9 v27 v34 v43 v240 v246 v250 v346) (ix2 r c) = ((D.g 1 (b + (256 + r)) (b + 256 + c) : ℝ) : EReal) := by
  intro r c
  pointwise [k0_pay160]
  simp only [h_v9, h_v27, h_v34, h_v43, h_v240, h_v246, h_v250, h_v346, p159 D h_v9 h_v27 h_v43 h_v240 h_v246 h_v346]
  with_reducible_and_instances exact D.g_e 1 (b + (256 + r.val)) (b + 256 + c.val)

include h_v9 h_v27 h_v34 h_v43 h_v240 h_v246 h_v250 h_v346 in
theorem p161 : ∀ (r : Fin 768) (c : Fin 256), (k0_pay161 v9 v27 v34 v43 v240 v246 v250 v346) (ix2 r c) = ((D.g 1 (b + (256 + r)) (b + 256 + c) : ℝ) : EReal) := by
  intro r c
  pointwise [k0_pay161]
  simp only [h_v9, h_v27, h_v34, h_v43, h_v240, h_v246, h_v250, h_v346, p160 D h_v9 h_v27 h_v34 h_v43 h_v240 h_v246 h_v250 h_v346]

include h_v13 h_v360 h_cst_150 in
theorem p162 : ∀ (r : Fin 768) (c : Fin 256), (k0_pay162 v13 v360 cst_150) (ix2 r c) = ((D.gg 1 (b + (256 + r)) (b + 256) c : ℝ) : EReal) := by
  intro r c
  pointwise [k0_pay162]
  simp only [h_v13, h_v360, h_cst_150, zero_add, add_zero]
  with_reducible_and_instances exact D.gg_e 1 (b + (256 + r.val)) (b + 256) c

include h_v13 h_v240 h_v336 h_v349 h_v359 h_v360 h_cst_150 in
theorem p163 : ∀ (r : Fin 768) (c : Fin 256), (k0_pay163 v13 v240 v336 v349 v359 v360 cst_150) (ix2 r c) = ((D.dz 1 (b + (256 + r)) (b + 256 + c) : ℝ) : EReal) := by
  intro r c
  pointwise [k0_pay163]
  simp only [h_v13, h_v240, h_v336, h_v349, h_v359, h_v360, zero_add, add_zero, p162 D h_v13 h_v360 h_cst_150, dite_eq_ite, ite_self, D.nsp_e, exp_e]
  with_reducible_and_instances exact D.dzm_e (by omega)

include h_v13 h_v240 h_v246 h_v336 h_v349 h_v359 h_v360 h_cst_150 h_v373 in
theorem p164 : ∀ (r : Fin 768) (l : Fin 128), (k0_pay164 v13 v240 v246 v336 v349 v359 v360 cst_150 v373) (ix3 0 r l) = ((D.dqa 1 (b + (256 + r)) l (b + 256 + 256) : ℝ) : EReal) := by
  intro r l
  pointwise [k0_pay164]
  simp only [h_v13, h_v240, h_v246, h_v336, h_v349, h_v359, h_v360, h_v373, zero_add, add_zero, p163 D h_v13 h_v240 h_v336 h_v349 h_v359 h_v360 h_cst_150]
  with_reducible_and_instances exact D.dqa_e 1 (b + (256 + r.val)) l.val (b + 256)

include h_v13 h_v36 h_v240 h_v307 h_v336 h_v349 h_v359 h_v360 h_cst_150 in
theorem p165 : ∀ (l : Fin 128) (s : Fin 256), (k0_pay165 v13 v36 v240 v307 v336 v349 v359 v360 cst_150) (ix2 l s) = ((D.kacc 0 (fun x => b + (256 + x)) 768 l (b + 256 + s) + D.kacc 1 (fun x => b + (256 + x)) 768 l (b + 256 + s) : ℝ) : EReal) := by
  intro l s
  pointwise [k0_pay165]
  simp only [h_v13, h_v36, h_v240, h_v307, h_v336, h_v349, h_v359, h_v360, zero_add, add_zero, p163 D h_v13 h_v240 h_v336 h_v349 h_v359 h_v360 h_cst_150]
  rw [EReal.coe_add]
  with_reducible_and_instances exact congrArg _ (D.kacc_e 1 (fun x => b + (256 + x)) 768 l.val (b + 256 + s.val))

include h_v38 h_v311 h_v357 in
theorem p166 : ∀ (l : Fin 128) (s : Fin 256), (k0_pay166 v38 v311 v357) (ix2 l s) = ((D.vacc 0 (fun x => b + (256 + x)) 768 l (b + 256 + s) + D.vacc 1 (fun x => b + (256 + x)) 768 l (b + 256 + s) : ℝ) : EReal) := by
  intro l s
  pointwise [k0_pay166]
  simp only [h_v38, h_v311, h_v357]
  rw [EReal.coe_add]
  with_reducible_and_instances exact congrArg _ (D.vacc_e 1 (fun x => b + (256 + x)) 768 l.val (b + 256 + s.val))

include h_v345 h_v347 in
theorem p167 : ∀ (r : Fin 768) (l : Fin 128), (k0_pay167 v345 v347) (ix3 0 r l) = ((D.cp 1 (b + (256 + r)) (b + 256 + 256) : ℝ) : EReal) := by
  intro r l
  pointwise [k0_pay167]
  simp only [h_v345, h_v347]
  with_reducible_and_instances exact D.cp_e 1 (b + (256 + r.val)) (b + 256)

include h_v13 h_v349 h_v359 h_v360 h_cst_150 in
theorem p168 : ∀ (r : Fin 768) (l : Fin 128), (k0_pay168 v13 v349 v359 v360 cst_150) (ix2 r l) = ((D.cg 1 (b + (256 + r)) (b + 256 + 256) : ℝ) : EReal) := by
  intro r l
  pointwise [k0_pay168]
  simp only [h_v13, h_v349, h_v359, h_v360, zero_add, add_zero, p162 D h_v13 h_v360 h_cst_150]
  with_reducible_and_instances exact D.cg_e 1 (b + (256 + r.val)) (b + 256)

include h_v399 in
theorem p169 : ∀ (r : Fin 768) (l : Fin 128), (k0_pay169 v399) (ix3 0 r l) = ((D.cg 1 (b + (256 + r)) (b + 256 + 256) : ℝ) : EReal) := by
  intro r l
  pointwise [k0_pay169]
  simp only [h_v399]

include h_v382 h_v404 in
theorem p170 : ∀ (l : Fin 128) (s : Fin 256), (k0_pay170 v382 v404) (ix2 l s) = ((-D.dk l (b + 256 + s) (b + 1024) : ℝ) : EReal) := by
  intro l s
  have N := D.dk_next l.val (b + 256 + s.val) b 256 768 (Or.inl (by omega))
  simp only [zero_add, Nat.reduceAdd] at N
  pointwise [k0_pay170]
  simp only [h_v382, h_v404, EReal.coe_add]
  rw [N, neg_add, ← sub_eq_add_neg, EReal.coe_sub, EReal.coe_add]

include h_v386 h_v411 in
theorem p171 : ∀ (l : Fin 128) (s : Fin 256), (k0_pay171 v386 v411) (ix2 l s) = ((D.dv l (b + 256 + s) (b + 1024) : ℝ) : EReal) := by
  intro l s
  have N := D.dv_next l.val (b + 256 + s.val) b 256 768 (Or.inl (by omega))
  simp only [zero_add, Nat.reduceAdd] at N
  pointwise [k0_pay171]
  simp only [h_v386, h_v411, EReal.coe_add]
  rw [N, EReal.coe_add, EReal.coe_add]

end Cert.SbProof
end
-- ==== Proof.SbPay2.lean ====
module

public import proofs.«01_k».proof.Proof.Gen.SbKernelIdeal.Skeleton
public import proofs.«01_k».proof.Proof.SbOps

/-! What the third block of 256 columns on the diagonal computes, one expression at a time. -/

@[expose] public section
set_option maxRecDepth 16384
noncomputable section

namespace Cert.SbProof
open Idealize.ShloMosaic Idealize.ShloMosaic.TcCoe
open Cert.SbKernelIdeal Cert.SbKernelIdeal.Gen Cert.SbMath Cert.SbMath.Dat

variable (D : Dat) {b : ℕ}
variable {v429 v425 : Vec Ideal S256x128 .f32}
  {v31 v22 v34 v27 : FVec Ideal S1024x128 .bf16}
  {v9 v478 : FVec Ideal S512x256 .bf16}
  {v482 v455 v530 v453 v528 : FVec Ideal S512x128 .f32}
  {v35 v37 v38 v36 : FVec Ideal S128x1024 .bf16}
  {v451 v465 v540 v463 v467 v542 v442 v443 v517 v526 : FVec Ideal S512x256 .f32}
  {v563 v567 v432 v433 v492 v488 : FVec Ideal S128x256 .f32}
  {v13 : FVec Ideal S256x256 .bf16}
  {v585 v592 : Vec Ideal S128x256 .f32}
  {v42 v43 : FVec Ideal S1024x128 .f32}
  {v421 : IVec S512x256 1}
  {v427 v431 : FVec Ideal S256x128 .bf16}
  {v435 v510 : FVec Ideal S512x128 .bf16}
  {cst_181 : Ideal .f32}
  {v452 v527 v454 v529 v479 v554 : Vec Ideal S1x512x128 .f32}
variable (h_v429 : ∀ (s : Fin 256) (l : Fin 128), v429 (ix2 s l) = ((D.V (b + 512 + s) l : ℝ) : EReal))
  (h_v31 : ∀ (r : Fin 1024) (l : Fin 128), v31 (ix2 r l) = ((D.ym 0 (b + r) l : ℝ) : EReal))
  (h_v22 : ∀ (r : Fin 1024) (l : Fin 128), v22 (ix2 r l) = ((D.qm 0 (b + r) l : ℝ) : EReal))
  (h_v9 : ∀ (x : Fin 512) (c : Fin 256), v9 (ix2 x c) = ((one ((x : ℕ) % 256 ≤ (c : ℕ)) : ℝ) : EReal))
  (h_v482 : ∀ (r : Fin 512) (l : Fin 128), v482 (ix2 r l) = ((D.dqa 0 (b + (512 + r)) l (b + 512 + 256) : ℝ) : EReal))
  (h_v35 : ∀ (l : Fin 128) (r : Fin 1024), v35 (ix2 l r) = ((D.qm 0 (b + r) l : ℝ) : EReal))
  (h_v37 : ∀ (l : Fin 128) (r : Fin 1024), v37 (ix2 l r) = ((D.ym 0 (b + r) l : ℝ) : EReal))
  (h_v451 : ∀ (r : Fin 512) (c : Fin 256), v451 (ix2 r c) = ((D.pp 0 (b + (512 + r)) (b + 512) c : ℝ) : EReal))
  (h_v455 : ∀ (r : Fin 512) (l : Fin 128), v455 (ix2 r l) = ((D.cg 0 (b + (512 + r)) (b + 512) : ℝ) : EReal))
  (h_v34 : ∀ (r : Fin 1024) (l : Fin 128), v34 (ix2 r l) = ((D.ym 1 (b + r) l : ℝ) : EReal))
  (h_v38 : ∀ (l : Fin 128) (r : Fin 1024), v38 (ix2 l r) = ((D.ym 1 (b + r) l : ℝ) : EReal))
  (h_v530 : ∀ (r : Fin 512) (l : Fin 128), v530 (ix2 r l) = ((D.cg 1 (b + (512 + r)) (b + 512) : ℝ) : EReal))
  (h_v563 : ∀ (l : Fin 128) (s : Fin 256), v563 (ix2 l s) = ((D.kacc 0 (fun x => b + (512 + x)) 512 l (b + 512 + s) + D.kacc 1 (fun x => b + (512 + x)) 512 l (b + 512 + s) : ℝ) : EReal))
  (h_v567 : ∀ (l : Fin 128) (s : Fin 256), v567 (ix2 l s) = ((D.vacc 0 (fun x => b + (512 + x)) 512 l (b + 512 + s) + D.vacc 1 (fun x => b + (512 + x)) 512 l (b + 512 + s) : ℝ) : EReal))
  (h_v425 : ∀ (s : Fin 256) (l : Fin 128), v425 (ix2 s l) = ((D.K (b + 512 + s) l : ℝ) : EReal))
  (h_v13 : ∀ (x : Fin 256) (c : Fin 256), v13 (ix2 x c) = ((one ((x : ℕ) < (c : ℕ)) : ℝ) : EReal))
  (h_v27 : ∀ (r : Fin 1024) (l : Fin 128), v27 (ix2 r l) = ((D.qm 1 (b + r) l : ℝ) : EReal))
  (h_v432 : ∀ (l : Fin 128) (s : Fin 256), v432 (ix2 l s) = 0)
  (h_v433 : ∀ (l : Fin 128) (s : Fin 256), v433 (ix2 l s) = 0)
  (h_v453 : ∀ (r : Fin 512) (l : Fin 128), v453 (ix2 r l) = ((D.cp 0 (b + (512 + r)) (b + 512) : ℝ) : EReal))
  (h_v465 : ∀ (r : Fin 512) (c : Fin 256), v465 (ix2 r c) = ((D.g 0 (b + (512 + r)) (b + 512 + c) : ℝ) : EReal))
  (h_v540 : ∀ (r : Fin 512) (c : Fin 256), v540 (ix2 r c) = ((D.g 1 (b + (512 + r)) (b + 512 + c) : ℝ) : EReal))
  (h_v585 : ∀ (l : Fin 128) (s : Fin 256), v585 (ix2 l s) = ((-D.dk l (b + 512 + s) b : ℝ) : EReal))
  (h_v592 : ∀ (l : Fin 128) (s : Fin 256), v592 (ix2 l s) = ((D.dv l (b + 512 + s) b : ℝ) : EReal))
  (h_v42 : ∀ (r : Fin 1024) (l : Fin 128), v42 (ix2 r l) = ((D.T (b + r) 0 : ℝ) : EReal))
  (h_v36 : ∀ (l : Fin 128) (r : Fin 1024), v36 (ix2 l r) = ((D.qm 1 (b + r) l : ℝ) : EReal))
  (h_v478 : ∀ (r : Fin 512) (c : Fin 256), v478 (ix2 r c) = ((D.dz 0 (b + (512 + r)) (b + 512 + c) : ℝ) : EReal))
  (h_v463 : ∀ (r : Fin 512) (c : Fin 256), v463 (ix2 r c) = ((D.a 0 (b + (512 + r)) (b + 512 + c) : ℝ) : EReal))
  (h_v467 : ∀ (r : Fin 512) (c : Fin 256), v467 (ix2 r c) = ((D.gg 0 (b + (512 + r)) (b + 512) c : ℝ) : EReal))
  (h_v542 : ∀ (r : Fin 512) (c : Fin 256), v542 (ix2 r c) = ((D.gg 1 (b + (512 + r)) (b + 512) c : ℝ) : EReal))
  (h_v43 : ∀ (r : Fin 1024) (l : Fin 128), v43 (ix2 r l) = ((D.T (b + r) 1 : ℝ) : EReal))
  (h_v421 : ∀ (r : Fin 512) (c : Fin 256), v421 (ix2 r c) = bit ((c : ℕ) < (r : ℕ)))
  (h_v427 : ∀ (s : Fin 256) (l : Fin 128), v427 (ix2 s l) = ((D.K (b + 512 + s) l : ℝ) : EReal))
  (h_v492 : ∀ (l : Fin 128) (s : Fin 256), v492 (ix2 l s) = ((D.vacc 0 (fun x => b + (512 + x)) 512 l (b + 512 + s) : ℝ) : EReal))
  (h_v431 : ∀ (s : Fin 256) (l : Fin 128), v431 (ix2 s l) = ((D.V (b + 512 + s) l : ℝ) : EReal))
  (h_v435 : ∀ (r : Fin 512) (l : Fin 128), v435 (ix2 r l) = ((D.ym 0 (b + (512 + r)) l : ℝ) : EReal))
  (h_v488 : ∀ (l : Fin 128) (s : Fin 256), v488 (ix2 l s) = ((D.kacc 0 (fun x => b + (512 + x)) 512 l (b + 512 + s) : ℝ) : EReal))
  (h_v442 : ∀ (r : Fin 512) (c : Fin 256), v442 (ix2 r c) = ((D.sp 0 (b + (512 + r)) (b + 512 + c) : ℝ) : EReal))
  (h_v510 : ∀ (r : Fin 512) (l : Fin 128), v510 (ix2 r l) = ((D.ym 1 (b + (512 + r)) l : ℝ) : EReal))
  (h_v443 : ∀ (r : Fin 512) (c : Fin 256), v443 (ix2 r c) = ((D.nz 0 (b + (512 + r)) (b + 512 + c) : ℝ) : EReal) - ((D.sp 0 (b + (512 + r)) (b + 512 + c) : ℝ) : EReal))
  (h_v517 : ∀ (r : Fin 512) (c : Fin 256), v517 (ix2 r c) = ((D.sp 1 (b + (512 + r)) (b + 512 + c) : ℝ) : EReal))
  (h_cst_181 : cst_181 = 0)
  (h_v526 : ∀ (r : Fin 512) (c : Fin 256), v526 (ix2 r c) = ((D.pp 1 (b + (512 + r)) (b + 512) c : ℝ) : EReal))
  (h_v452 : ∀ (r : Fin 512) (l : Fin 128), v452 (ix3 0 r l) = ((D.cp 0 (b + (512 + r)) (b + 512) : ℝ) : EReal))
  (h_v527 : ∀ (r : Fin 512) (l : Fin 128), v527 (ix3 0 r l) = ((D.cp 1 (b + (512 + r)) (b + 512) : ℝ) : EReal))
  (h_v528 : ∀ (r : Fin 512) (l : Fin 128), v528 (ix2 r l) = ((D.cp 1 (b + (512 + r)) (b + 512) : ℝ) : EReal))
  (h_v454 : ∀ (r : Fin 512) (l : Fin 128), v454 (ix3 0 r l) = ((D.cg 0 (b + (512 + r)) (b + 512) : ℝ) : EReal))
  (h_v529 : ∀ (r : Fin 512) (l : Fin 128), v529 (ix3 0 r l) = ((D.cg 1 (b + (512 + r)) (b + 512) : ℝ) : EReal))
  (h_v479 : ∀ (r : Fin 512) (l : Fin 128), v479 (ix3 0 r l) = ((D.dqa 0 (b + (512 + r)) l (b + 512) : ℝ) : EReal))
  (h_v554 : ∀ (r : Fin 512) (l : Fin 128), v554 (ix3 0 r l) = ((D.dqa 1 (b + (512 + r)) l (b + 512) : ℝ) : EReal))

include D in
theorem p172 : ∀ (r : Fin 512) (c : Fin 256), (k0_pay172) (ix2 r c) = bit ((c : ℕ) < (r : ℕ)) := by
  intro r c
  pointwise [k0_pay172]
  rw [slt_bit (by omega) (by omega)]

include h_v425 in
theorem p173 : ∀ (s : Fin 256) (l : Fin 128), (k0_pay173 v425) (ix2 s l) = ((D.K (b + 512 + s) l : ℝ) : EReal) := by
  intro s l
  pointwise [k0_pay173]
  simp only [h_v425]

include h_v429 in
theorem p174 : ∀ (s : Fin 256) (l : Fin 128), (k0_pay174 v429) (ix2 s l) = ((D.V (b + 512 + s) l : ℝ) : EReal) := by
  intro s l
  pointwise [k0_pay174]
  simp only [h_v429]

include D in
theorem p175 : ∀ (l : Fin 128) (s : Fin 256), (k0_pay175 (F := Ideal)) (ix2 l s) = 0 := by
  intro l s
  pointwise [k0_pay175]

include D in
theorem p176 : ∀ (l : Fin 128) (s : Fin 256), (k0_pay176 (F := Ideal)) (ix2 l s) = 0 := by
  intro l s
  pointwise [k0_pay176]

include h_v31 in
theorem p177 : ∀ (r : Fin 512) (l : Fin 128), (k0_pay177 v31) (ix2 r l) = ((D.ym 0 (b + (512 + r)) l : ℝ) : EReal) := by
  intro r l
  pointwise [k0_pay177]
  simp only [h_v31]

include h_v22 h_v425 in
theorem p178 : ∀ (r : Fin 512) (c : Fin 256), (k0_pay178 v22 v425) (ix2 r c) = ((D.nz 0 (b + (512 + r)) (b + 512 + c) : ℝ) : EReal) := by
  intro r c
  pointwise [k0_pay178]
  simp only [h_v22, h_v425, p173 D h_v425]
  with_reducible_and_instances exact D.nz_e 0 (b + (512 + r.val)) (b + 512 + c.val)

include h_v22 h_v425 in
theorem p179 : ∀ (r : Fin 512) (c : Fin 256), (k0_pay179 v22 v425) (ix2 r c) = ((D.sp 0 (b + (512 + r)) (b + 512 + c) : ℝ) : EReal) := by
  intro r c
  pointwise [k0_pay179]
  simp only [h_v22, h_v425, p178 D h_v22 h_v425]
  with_reducible_and_instances exact D.sp_e 0 (b + (512 + r.val)) (b + 512 + c.val)

include h_v22 h_v425 in
theorem p180 : ∀ (r : Fin 512) (c : Fin 256), (k0_pay180 v22 v425) (ix2 r c) = ((D.nz 0 (b + (512 + r)) (b + 512 + c) : ℝ) : EReal) - ((D.sp 0 (b + (512 + r)) (b + 512 + c) : ℝ) : EReal) := by
  intro r c
  pointwise [k0_pay180]
  simp only [h_v22, h_v425, p178 D h_v22 h_v425, p179 D h_v22 h_v425]

include h_v9 h_v421 h_v443 h_cst_181 in
theorem p181 : ∀ (r : Fin 512) (c : Fin 256), (k0_pay181 v9 v421 v443 cst_181) (ix2 r c) = ((D.pp 0 (b + (512 + r)) (b + 512) c : ℝ) : EReal) := by
  intro r c
  have L := fun x : Fin 256 => D.lkm_e (w := 0) (t := b + (512 + r.val)) (s := (b + 512) + ↑x) (r := r.val) (c := ↑x) (by omega)
  have L2 := fun (x : Fin 256) (y : EReal) => D.lkm_mul (w := 0) (t := b + (512 + r.val)) (s := (b + 512) + ↑x) (r := r.val) (c := ↑x) (by omega) y
  pointwise [k0_pay181]
  simp only [h_v9, h_v421, h_v443, h_cst_181, zero_add, add_zero, L, L2]
  with_reducible_and_instances exact D.pp_e 0 (b + (512 + r.val)) (b + 512) c

include h_v452 in
theorem p182 : ∀ (r : Fin 512) (l : Fin 128), (k0_pay182 v452) (ix2 r l) = ((D.cp 0 (b + (512 + r)) (b + 512) : ℝ) : EReal) := by
  intro r l
  pointwise [k0_pay182]
  simp only [h_v452]

include h_v454 in
theorem p183 : ∀ (r : Fin 512) (l : Fin 128), (k0_pay183 v454) (ix2 r l) = ((D.cg 0 (b + (512 + r)) (b + 512) : ℝ) : EReal) := by
  intro r l
  pointwise [k0_pay183]
  simp only [h_v454]

include h_v9 h_v42 h_v421 h_v442 h_v443 h_cst_181 h_v452 in
theorem p184 : ∀ (r : Fin 512) (c : Fin 256), (k0_pay184 v9 v42 v421 v442 v443 cst_181 v452) (ix2 r c) = ((D.a 0 (b + (512 + r)) (b + 512 + c) : ℝ) : EReal) := by
  intro r c
  pointwise [k0_pay184]
  simp only [h_v9, h_v42, h_v421, h_v442, h_v443, h_v452, zero_add, add_zero, p181 D h_v9 h_v421 h_v443 h_cst_181, p182 D h_v452, dite_eq_ite, ite_self]
  with_reducible_and_instances exact D.am_e (by omega)

include h_v9 h_v42 h_v421 h_v431 h_v435 h_v442 h_v443 h_cst_181 h_v452 in
theorem p185 : ∀ (r : Fin 512) (c : Fin 256), (k0_pay185 v9 v42 v421 v431 v435 v442 v443 cst_181 v452) (ix2 r c) = ((D.g 0 (b + (512 + r)) (b + 512 + c) : ℝ) : EReal) := by
  intro r c
  pointwise [k0_pay185]
  simp only [h_v9, h_v42, h_v421, h_v431, h_v435, h_v442, h_v443, h_v452, zero_add, add_zero, p184 D h_v9 h_v42 h_v421 h_v442 h_v443 h_cst_181 h_v452]
  with_reducible_and_instances exact D.g_e 0 (b + (512 + r.val)) (b + 512 + c.val)

include h_v9 h_v13 h_v42 h_v421 h_v431 h_v435 h_v442 h_v443 h_cst_181 h_v452 in
theorem p186 : ∀ (r : Fin 512) (c : Fin 256), (k0_pay186 v9 v13 v42 v421 v431 v435 v442 v443 cst_181 v452) (ix2 r c) = ((D.gg 0 (b + (512 + r)) (b + 512) c : ℝ) : EReal) := by
  intro r c
  pointwise [k0_pay186]
  simp only [h_v9, h_v13, h_v42, h_v421, h_v431, h_v435, h_v442, h_v443, h_v452, zero_add, add_zero, p185 D h_v9 h_v42 h_v421 h_v431 h_v435 h_v442 h_v443 h_cst_181 h_v452]
  with_reducible_and_instances exact D.gg_e 0 (b + (512 + r.val)) (b + 512) c

include h_v9 h_v13 h_v42 h_v421 h_v431 h_v435 h_v442 h_v443 h_cst_181 h_v452 h_v454 in
theorem p187 : ∀ (r : Fin 512) (c : Fin 256), (k0_pay187 v9 v13 v42 v421 v431 v435 v442 v443 cst_181 v452 v454) (ix2 r c) = ((D.dz 0 (b + (512 + r)) (b + 512 + c) : ℝ) : EReal) := by
  intro r c
  pointwise [k0_pay187]
  simp only [h_v9, h_v13, h_v42, h_v421, h_v431, h_v435, h_v442, h_v443, h_v452, h_v454, zero_add, add_zero, p183 D h_v454, p185 D h_v9 h_v42 h_v421 h_v431 h_v435 h_v442 h_v443 h_cst_181 h_v452, p186 D h_v9 h_v13 h_v42 h_v421 h_v431 h_v435 h_v442 h_v443 h_cst_181 h_v452, dite_eq_ite, ite_self, D.nsp_e, exp_e]
  with_reducible_and_instances exact D.dzm_e (by omega)

include h_v9 h_v13 h_v42 h_v421 h_v427 h_v431 h_v435 h_v442 h_v443 h_cst_181 h_v452 h_v454 h_v479 in
theorem p188 : ∀ (r : Fin 512) (l : Fin 128), (k0_pay188 v9 v13 v42 v421 v427 v431 v435 v442 v443 cst_181 v452 v454 v479) (ix2 r l) = ((D.dqa 0 (b + (512 + r)) l (b + 512 + 256) : ℝ) : EReal) := by
  intro r l
  pointwise [k0_pay188]
  simp only [h_v9, h_v13, h_v42, h_v421, h_v427, h_v431, h_v435, h_v442, h_v443, h_v452, h_v454, h_v479, zero_add, add_zero, p187 D h_v9 h_v13 h_v42 h_v421 h_v431 h_v435 h_v442 h_v443 h_cst_181 h_v452 h_v454]
  with_reducible_and_instances exact D.dqa_e 0 (b + (512 + r.val)) l.val (b + 512)

include h_v482 in
theorem p189 : ∀ (r : Fin 512) (l : Fin 128), (k0_pay189 v482) (ix3 0 r l) = ((D.dqa 0 (b + (512 + r)) l (b + 512 + 256) : ℝ) : EReal) := by
  intro r l
  pointwise [k0_pay189]
  simp only [h_v482]

include h_v35 h_v432 h_v478 in
theorem p190 : ∀ (l : Fin 128) (s : Fin 256), (k0_pay190 v35 v432 v478) (ix2 l s) = ((D.kacc 0 (fun x => b + (512 + x)) 512 l (b + 512 + s) : ℝ) : EReal) := by
  intro l s
  pointwise [k0_pay190]
  simp only [h_v35, h_v432, h_v478]
  with_reducible_and_instances exact (zero_add _).trans (D.kacc_e 0 (fun x => b + (512 + x)) 512 l.val (b + 512 + s.val))

include h_v37 h_v433 h_v463 in
theorem p191 : ∀ (l : Fin 128) (s : Fin 256), (k0_pay191 v37 v433 v463) (ix2 l s) = ((D.vacc 0 (fun x => b + (512 + x)) 512 l (b + 512 + s) : ℝ) : EReal) := by
  intro l s
  pointwise [k0_pay191]
  simp only [h_v37, h_v433, h_v463]
  with_reducible_and_instances exact (zero_add _).trans (D.vacc_e 0 (fun x => b + (512 + x)) 512 l.val (b + 512 + s.val))

include h_v451 h_v453 in
theorem p192 : ∀ (r : Fin 512) (l : Fin 128), (k0_pay192 v451 v453) (ix3 0 r l) = ((D.cp 0 (b + (512 + r)) (b + 512 + 256) : ℝ) : EReal) := by
  intro r l
  pointwise [k0_pay192]
  simp only [h_v451, h_v453]
  with_reducible_and_instances exact D.cp_e 0 (b + (512 + r.val)) (b + 512)

include h_v455 h_v465 h_v467 in
theorem p193 : ∀ (r : Fin 512) (l : Fin 128), (k0_pay193 v455 v465 v467) (ix3 0 r l) = ((D.cg 0 (b + (512 + r)) (b + 512 + 256) : ℝ) : EReal) := by
  intro r l
  pointwise [k0_pay193]
  simp only [h_v455, h_v465, h_v467]
  with_reducible_and_instances exact D.cg_e 0 (b + (512 + r.val)) (b + 512)

include h_v34 in
theorem p194 : ∀ (r : Fin 512) (l : Fin 128), (k0_pay194 v34) (ix2 r l) = ((D.ym 1 (b + (512 + r)) l : ℝ) : EReal) := by
  intro r l
  pointwise [k0_pay194]
  simp only [h_v34]

include h_v27 h_v427 in
theorem p195 : ∀ (r : Fin 512) (c : Fin 256), (k0_pay195 v27 v427) (ix2 r c) = ((D.nz 1 (b + (512 + r)) (b + 512 + c) : ℝ) : EReal) := by
  intro r c
  pointwise [k0_pay195]
  simp only [h_v27, h_v427]
  with_reducible_and_instances exact D.nz_e 1 (b + (512 + r.val)) (b + 512 + c.val)

include h_v27 h_v427 in
theorem p196 : ∀ (r : Fin 512) (c : Fin 256), (k0_pay196 v27 v427) (ix2 r c) = ((D.sp 1 (b + (512 + r)) (b + 512 + c) : ℝ) : EReal) := by
  intro r c
  pointwise [k0_pay196]
  simp only [h_v27, h_v427, p195 D h_v27 h_v427]
  with_reducible_and_instances exact D.sp_e 1 (b + (512 + r.val)) (b + 512 + c.val)

include h_v9 h_v27 h_v421 h_v427 in
theorem p197 : ∀ (r : Fin 512) (c : Fin 256), (k0_pay197 v9 v27 v421 v427) (ix2 r c) = ((D.pp 1 (b + (512 + r)) (b + 512) c : ℝ) : EReal) := by
  intro r c
  have L := fun x : Fin 256 => D.lkm_e (w := 1) (t := b + (512 + r.val)) (s := (b + 512) + ↑x) (r := r.val) (c := ↑x) (by omega)
  have L2 := fun (x : Fin 256) (y : EReal) => D.lkm_mul (w := 1) (t := b + (512 + r.val)) (s := (b + 512) + ↑x) (r := r.val) (c := ↑x) (by omega) y
  pointwise [k0_pay197]
  simp only [h_v9, h_v27, h_v421, h_v427, p195 D h_v27 h_v427, p196 D h_v27 h_v427, L, L2]
  with_reducible_and_instances exact D.pp_e 1 (b + (512 + r.val)) (b + 512) c

include h_v527 in
theorem p198 : ∀ (r : Fin 512) (l : Fin 128), (k0_pay198 v527) (ix2 r l) = ((D.cp 1 (b + (512 + r)) (b + 512) : ℝ) : EReal) := by
  intro r l
  pointwise [k0_pay198]
  simp only [h_v527]

include h_v529 in
theorem p199 : ∀ (r : Fin 512) (l : Fin 128), (k0_pay199 v529) (ix2 r l) = ((D.cg 1 (b + (512 + r)) (b + 512) : ℝ) : EReal) := by
  intro r l
  pointwise [k0_pay199]
  simp only [h_v529]

include h_v43 h_v421 h_v517 h_v526 h_v527 in
theorem p200 : ∀ (r : Fin 512) (c : Fin 256), (k0_pay200 v43 v421 v517 v526 v527) (ix2 r c) = ((D.a 1 (b + (512 + r)) (b + 512 + c) : ℝ) : EReal) := by
  intro r c
  pointwise [k0_pay200]
  simp only [h_v43, h_v421, h_v517, h_v526, h_v527, p198 D h_v527, dite_eq_ite, ite_self]
  with_reducible_and_instances exact D.am_e (by omega)

include h_v43 h_v421 h_v431 h_v510 h_v517 h_v526 h_v527 in
theorem p201 : ∀ (r : Fin 512) (c : Fin 256), (k0_pay201 v43 v421 v431 v510 v517 v526 v527) (ix2 r c) = ((D.g 1 (b + (512 + r)) (b + 512 + c) : ℝ) : EReal) := by
  intro r c
  pointwise [k0_pay201]
  simp only [h_v43, h_v421, h_v431, h_v510, h_v517, h_v526, h_v527, p200 D h_v43 h_v421 h_v517 h_v526 h_v527]
  with_reducible_and_instances exact D.g_e 1 (b + (512 + r.val)) (b + 512 + c.val)

include h_v13 h_v43 h_v421 h_v431 h_v510 h_v517 h_v526 h_v527 in
theorem p202 : ∀ (r : Fin 512) (c : Fin 256), (k0_pay202 v13 v43 v421 v431 v510 v517 v526 v527) (ix2 r c) = ((D.gg 1 (b + (512 + r)) (b + 512) c : ℝ) : EReal) := by
  intro r c
  pointwise [k0_pay202]
  simp only [h_v13, h_v43, h_v421, h_v431, h_v510, h_v517, h_v526, h_v527, p201 D h_v43 h_v421 h_v431 h_v510 h_v517 h_v526 h_v527]
  with_reducible_and_instances exact D.gg_e 1 (b + (512 + r.val)) (b + 512) c

include h_v13 h_v43 h_v421 h_v431 h_v510 h_v517 h_v526 h_v527 h_v529 in
theorem p203 : ∀ (r : Fin 512) (c : Fin 256), (k0_pay203 v13 v43 v421 v431 v510 v517 v526 v527 v529) (ix2 r c) = ((D.dz 1 (b + (512 + r)) (b + 512 + c) : ℝ) : EReal) := by
  intro r c
  pointwise [k0_pay203]
  simp only [h_v13, h_v43, h_v421, h_v431, h_v510, h_v517, h_v526, h_v527, h_v529, p199 D h_v529, p201 D h_v43 h_v421 h_v431 h_v510 h_v517 h_v526 h_v527, p202 D h_v13 h_v43 h_v421 h_v431 h_v510 h_v517 h_v526 h_v527, dite_eq_ite, ite_self, D.nsp_e, exp_e]
  with_reducible_and_instances exact D.dzm_e (by omega)

include h_v13 h_v43 h_v421 h_v427 h_v431 h_v510 h_v517 h_v526 h_v527 h_v529 h_v554 in
theorem p204 : ∀ (r : Fin 512) (l : Fin 128), (k0_pay204 v13 v43 v421 v427 v431 v510 v517 v526 v527 v529 v554) (ix3 0 r l) = ((D.dqa 1 (b + (512 + r)) l (b + 512 + 256) : ℝ) : EReal) := by
  intro r l
  pointwise [k0_pay204]
  simp only [h_v13, h_v43, h_v421, h_v427, h_v431, h_v510, h_v517, h_v526, h_v527, h_v529, h_v554, p203 D h_v13 h_v43 h_v421 h_v431 h_v510 h_v517 h_v526 h_v527 h_v529]
  with_reducible_and_instances exact D.dqa_e 1 (b + (512 + r.val)) l.val (b + 512)

include h_v13 h_v36 h_v43 h_v421 h_v431 h_v488 h_v510 h_v517 h_v526 h_v527 h_v529 in
theorem p205 : ∀ (l : Fin 128) (s : Fin 256), (k0_pay205 v13 v36 v43 v421 v431 v488 v510 v517 v526 v527 v529) (ix2 l s) = ((D.kacc 0 (fun x => b + (512 + x)) 512 l (b + 512 + s) + D.kacc 1 (fun x => b + (512 + x)) 512 l (b + 512 + s) : ℝ) : EReal) := by
  intro l s
  pointwise [k0_pay205]
  simp only [h_v13, h_v36, h_v43, h_v421, h_v431, h_v488, h_v510, h_v517, h_v526, h_v527, h_v529, p203 D h_v13 h_v43 h_v421 h_v431 h_v510 h_v517 h_v526 h_v527 h_v529]
  rw [EReal.coe_add]
  with_reducible_and_instances exact congrArg _ (D.kacc_e 1 (fun x => b + (512 + x)) 512 l.val (b + 512 + s.val))

include h_v38 h_v43 h_v421 h_v492 h_v517 h_v526 h_v527 in
theorem p206 : ∀ (l : Fin 128) (s : Fin 256), (k0_pay206 v38 v43 v421 v492 v517 v526 v527) (ix2 l s) = ((D.vacc 0 (fun x => b + (512 + x)) 512 l (b + 512 + s) + D.vacc 1 (fun x => b + (512 + x)) 512 l (b + 512 + s) : ℝ) : EReal) := by
  intro l s
  pointwise [k0_pay206]
  simp only [h_v38, h_v43, h_v421, h_v492, h_v517, h_v526, h_v527, p200 D h_v43 h_v421 h_v517 h_v526 h_v527]
  rw [EReal.coe_add]
  with_reducible_and_instances exact congrArg _ (D.vacc_e 1 (fun x => b + (512 + x)) 512 l.val (b + 512 + s.val))

include h_v526 h_v528 in
theorem p207 : ∀ (r : Fin 512) (l : Fin 128), (k0_pay207 v526 v528) (ix3 0 r l) = ((D.cp 1 (b + (512 + r)) (b + 512 + 256) : ℝ) : EReal) := by
  intro r l
  pointwise [k0_pay207]
  simp only [h_v526, h_v528]
  with_reducible_and_instances exact D.cp_e 1 (b + (512 + r.val)) (b + 512)

include h_v530 h_v540 h_v542 in
theorem p208 : ∀ (r : Fin 512) (l : Fin 128), (k0_pay208 v530 v540 v542) (ix3 0 r l) = ((D.cg 1 (b + (512 + r)) (b + 512 + 256) : ℝ) : EReal) := by
  intro r l
  pointwise [k0_pay208]
  simp only [h_v530, h_v540, h_v542]
  with_reducible_and_instances exact D.cg_e 1 (b + (512 + r.val)) (b + 512)

include h_v563 h_v585 in
theorem p209 : ∀ (l : Fin 128) (s : Fin 256), (k0_pay209 v563 v585) (ix2 l s) = ((-D.dk l (b + 512 + s) (b + 1024) : ℝ) : EReal) := by
  intro l s
  have N := D.dk_next l.val (b + 512 + s.val) b 512 512 (Or.inl (by omega))
  simp only [zero_add, Nat.reduceAdd] at N
  pointwise [k0_pay209]
  simp only [h_v563, h_v585, EReal.coe_add]
  rw [N, neg_add, ← sub_eq_add_neg, EReal.coe_sub, EReal.coe_add]

include h_v567 h_v592 in
theorem p210 : ∀ (l : Fin 128) (s : Fin 256), (k0_pay210 v567 v592) (ix2 l s) = ((D.dv l (b + 512 + s) (b + 1024) : ℝ) : EReal) := by
  intro l s
  have N := D.dv_next l.val (b + 512 + s.val) b 512 512 (Or.inl (by omega))
  simp only [zero_add, Nat.reduceAdd] at N
  pointwise [k0_pay210]
  simp only [h_v567, h_v592, EReal.coe_add]
  rw [N, EReal.coe_add, EReal.coe_add]

end Cert.SbProof
end
-- ==== Proof.SbPay3.lean ====
module

public import proofs.«01_k».proof.Proof.Gen.SbKernelIdeal.Skeleton
public import proofs.«01_k».proof.Proof.SbOps

/-! What the fourth block of 256 columns on the diagonal computes, one expression at a time. -/

@[expose] public section
set_option maxRecDepth 16384
noncomputable section

namespace Cert.SbProof
open Idealize.ShloMosaic Idealize.ShloMosaic.TcCoe
open Cert.SbKernelIdeal Cert.SbKernelIdeal.Gen Cert.SbMath Cert.SbMath.Dat

variable (D : Dat) {b : ℕ}
variable {v606 v610 : Vec Ideal S256x128 .f32}
  {v9 : FVec Ideal S512x256 .bf16}
  {v635 v633 v735 v660 v708 v710 : Vec Ideal S1x256x128 .f32}
  {v35 v37 v36 v38 : FVec Ideal S128x1024 .bf16}
  {v632 v707 v721 v644 v723 v719 v646 v648 v651 cst_279 : FVec Ideal S256x256 .f32}
  {v27 v34 v22 v31 : FVec Ideal S1024x128 .bf16}
  {v711 v634 v709 v636 : FVec Ideal S256x128 .f32}
  {v13 v734 : FVec Ideal S256x256 .bf16}
  {v614 v669 v673 v613 : FVec Ideal S128x256 .f32}
  {v43 v42 : FVec Ideal S1024x128 .f32}
  {v773 v766 : Vec Ideal S128x256 .f32}
  {v602 : IVec S256x256 1}
  {v608 v612 v690 v691 : FVec Ideal S256x128 .bf16}
variable (h_v606 : ∀ (s : Fin 256) (l : Fin 128), v606 (ix2 s l) = ((D.K (b + 768 + s) l : ℝ) : EReal))
  (h_v9 : ∀ (x : Fin 512) (c : Fin 256), v9 (ix2 x c) = ((one ((x : ℕ) % 256 ≤ (c : ℕ)) : ℝ) : EReal))
  (h_v635 : ∀ (r : Fin 256) (l : Fin 128), v635 (ix3 0 r l) = ((D.cg 0 (b + (768 + r)) (b + 768) : ℝ) : EReal))
  (h_v35 : ∀ (l : Fin 128) (r : Fin 1024), v35 (ix2 l r) = ((D.qm 0 (b + r) l : ℝ) : EReal))
  (h_v37 : ∀ (l : Fin 128) (r : Fin 1024), v37 (ix2 l r) = ((D.ym 0 (b + r) l : ℝ) : EReal))
  (h_v632 : ∀ (r : Fin 256) (c : Fin 256), v632 (ix2 r c) = ((D.pp 0 (b + (768 + r)) (b + 768) c : ℝ) : EReal))
  (h_v27 : ∀ (r : Fin 1024) (l : Fin 128), v27 (ix2 r l) = ((D.qm 1 (b + r) l : ℝ) : EReal))
  (h_v34 : ∀ (r : Fin 1024) (l : Fin 128), v34 (ix2 r l) = ((D.ym 1 (b + r) l : ℝ) : EReal))
  (h_v36 : ∀ (l : Fin 128) (r : Fin 1024), v36 (ix2 l r) = ((D.qm 1 (b + r) l : ℝ) : EReal))
  (h_v38 : ∀ (l : Fin 128) (r : Fin 1024), v38 (ix2 l r) = ((D.ym 1 (b + r) l : ℝ) : EReal))
  (h_v13 : ∀ (x : Fin 256) (c : Fin 256), v13 (ix2 x c) = ((one ((x : ℕ) < (c : ℕ)) : ℝ) : EReal))
  (h_v614 : ∀ (l : Fin 128) (s : Fin 256), v614 (ix2 l s) = 0)
  (h_v634 : ∀ (r : Fin 256) (l : Fin 128), v634 (ix2 r l) = ((D.cp 0 (b + (768 + r)) (b + 768) : ℝ) : EReal))
  (h_v669 : ∀ (l : Fin 128) (s : Fin 256), v669 (ix2 l s) = ((D.kacc 0 (fun x => b + (768 + x)) 256 l (b + 768 + s) : ℝ) : EReal))
  (h_v673 : ∀ (l : Fin 128) (s : Fin 256), v673 (ix2 l s) = ((D.vacc 0 (fun x => b + (768 + x)) 256 l (b + 768 + s) : ℝ) : EReal))
  (h_v22 : ∀ (r : Fin 1024) (l : Fin 128), v22 (ix2 r l) = ((D.qm 0 (b + r) l : ℝ) : EReal))
  (h_v43 : ∀ (r : Fin 1024) (l : Fin 128), v43 (ix2 r l) = ((D.T (b + r) 1 : ℝ) : EReal))
  (h_v644 : ∀ (r : Fin 256) (c : Fin 256), v644 (ix2 r c) = ((D.a 0 (b + (768 + r)) (b + 768 + c) : ℝ) : EReal))
  (h_v719 : ∀ (r : Fin 256) (c : Fin 256), v719 (ix2 r c) = ((D.a 1 (b + (768 + r)) (b + 768 + c) : ℝ) : EReal))
  (h_v31 : ∀ (r : Fin 1024) (l : Fin 128), v31 (ix2 r l) = ((D.ym 0 (b + r) l : ℝ) : EReal))
  (h_v773 : ∀ (l : Fin 128) (s : Fin 256), v773 (ix2 l s) = ((D.dv l (b + 768 + s) b : ℝ) : EReal))
  (h_v42 : ∀ (r : Fin 1024) (l : Fin 128), v42 (ix2 r l) = ((D.T (b + r) 0 : ℝ) : EReal))
  (h_v602 : ∀ (r : Fin 256) (c : Fin 256), v602 (ix2 r c) = bit ((c : ℕ) < (r : ℕ)))
  (h_v613 : ∀ (l : Fin 128) (s : Fin 256), v613 (ix2 l s) = 0)
  (h_v608 : ∀ (s : Fin 256) (l : Fin 128), v608 (ix2 s l) = ((D.K (b + 768 + s) l : ℝ) : EReal))
  (h_v610 : ∀ (s : Fin 256) (l : Fin 128), v610 (ix2 s l) = ((D.V (b + 768 + s) l : ℝ) : EReal))
  (h_v636 : ∀ (r : Fin 256) (l : Fin 128), v636 (ix2 r l) = ((D.cg 0 (b + (768 + r)) (b + 768) : ℝ) : EReal))
  (h_v612 : ∀ (s : Fin 256) (l : Fin 128), v612 (ix2 s l) = ((D.V (b + 768 + s) l : ℝ) : EReal))
  (h_v734 : ∀ (r : Fin 256) (c : Fin 256), v734 (ix2 r c) = ((D.dz 1 (b + (768 + r)) (b + 768 + c) : ℝ) : EReal))
  (h_v633 : ∀ (r : Fin 256) (l : Fin 128), v633 (ix3 0 r l) = ((D.cp 0 (b + (768 + r)) (b + 768) : ℝ) : EReal))
  (h_v646 : ∀ (r : Fin 256) (c : Fin 256), v646 (ix2 r c) = ((D.g 0 (b + (768 + r)) (b + 768 + c) : ℝ) : EReal))
  (h_v690 : ∀ (r : Fin 256) (l : Fin 128), v690 (ix2 r l) = ((D.qm 1 (b + (768 + r)) l : ℝ) : EReal))
  (h_v735 : ∀ (r : Fin 256) (l : Fin 128), v735 (ix3 0 r l) = ((D.dqa 1 (b + (768 + r)) l (b + 768) : ℝ) : EReal))
  (h_v766 : ∀ (l : Fin 128) (s : Fin 256), v766 (ix2 l s) = ((-D.dk l (b + 768 + s) b : ℝ) : EReal))
  (h_v648 : ∀ (r : Fin 256) (c : Fin 256), v648 (ix2 r c) = ((D.gg 0 (b + (768 + r)) (b + 768) c : ℝ) : EReal))
  (h_v691 : ∀ (r : Fin 256) (l : Fin 128), v691 (ix2 r l) = ((D.ym 1 (b + (768 + r)) l : ℝ) : EReal))
  (h_v651 : ∀ (r : Fin 256) (c : Fin 256), v651 (ix2 r c) = ((Real.exp (-D.sp 0 (b + (768 + r)) (b + 768 + c)) : ℝ) : EReal))
  (h_cst_279 : ∀ i, cst_279 i = 0)
  (h_v660 : ∀ (r : Fin 256) (l : Fin 128), v660 (ix3 0 r l) = ((D.dqa 0 (b + (768 + r)) l (b + 768) : ℝ) : EReal))
  (h_v708 : ∀ (r : Fin 256) (l : Fin 128), v708 (ix3 0 r l) = ((D.cp 1 (b + (768 + r)) (b + 768) : ℝ) : EReal))
  (h_v710 : ∀ (r : Fin 256) (l : Fin 128), v710 (ix3 0 r l) = ((D.cg 1 (b + (768 + r)) (b + 768) : ℝ) : EReal))

include D in
theorem p211 : ∀ (r : Fin 256) (c : Fin 256), (k0_pay211) (ix2 r c) = bit ((c : ℕ) < (r : ℕ)) := by
  intro r c
  pointwise [k0_pay211]
  rw [slt_bit (by omega) (by omega)]

include h_v606 in
theorem p212 : ∀ (s : Fin 256) (l : Fin 128), (k0_pay212 v606) (ix2 s l) = ((D.K (b + 768 + s) l : ℝ) : EReal) := by
  intro s l
  pointwise [k0_pay212]
  simp only [h_v606]

include h_v610 in
theorem p213 : ∀ (s : Fin 256) (l : Fin 128), (k0_pay213 v610) (ix2 s l) = ((D.V (b + 768 + s) l : ℝ) : EReal) := by
  intro s l
  pointwise [k0_pay213]
  simp only [h_v610]

include D in
theorem p214 : ∀ (l : Fin 128) (s : Fin 256), (k0_pay214 (F := Ideal)) (ix2 l s) = 0 := by
  intro l s
  pointwise [k0_pay214]

include D in
theorem p215 : ∀ (l : Fin 128) (s : Fin 256), (k0_pay215 (F := Ideal)) (ix2 l s) = 0 := by
  intro l s
  pointwise [k0_pay215]

include h_v22 h_v608 in
theorem p216 : ∀ (r : Fin 256) (c : Fin 256), (k0_pay216 v22 v608) (ix2 r c) = ((D.nz 0 (b + (768 + r)) (b + 768 + c) : ℝ) : EReal) := by
  intro r c
  pointwise [k0_pay216]
  simp only [h_v22, h_v608]
  with_reducible_and_instances exact D.nz_e 0 (b + (768 + r.val)) (b + 768 + c.val)

include h_v22 h_v608 in
theorem p217 : ∀ (r : Fin 256) (c : Fin 256), (k0_pay217 v22 v608) (ix2 r c) = ((D.sp 0 (b + (768 + r)) (b + 768 + c) : ℝ) : EReal) := by
  intro r c
  pointwise [k0_pay217]
  simp only [h_v22, h_v608, p216 D h_v22 h_v608]
  with_reducible_and_instances exact D.sp_e 0 (b + (768 + r.val)) (b + 768 + c.val)

include h_v9 h_v22 h_v602 h_v608 in
theorem p218 : ∀ (r : Fin 256) (c : Fin 256), (k0_pay218 v9 v22 v602 v608) (ix2 r c) = ((D.pp 0 (b + (768 + r)) (b + 768) c : ℝ) : EReal) := by
  intro r c
  have L := fun x : Fin 256 => D.lkm_e (w := 0) (t := b + (768 + r.val)) (s := (b + 768) + ↑x) (r := r.val) (c := ↑x) (by omega)
  have L2 := fun (x : Fin 256) (y : EReal) => D.lkm_mul (w := 0) (t := b + (768 + r.val)) (s := (b + 768) + ↑x) (r := r.val) (c := ↑x) (by omega) y
  pointwise [k0_pay218]
  simp only [h_v9, h_v22, h_v602, h_v608, p216 D h_v22 h_v608, p217 D h_v22 h_v608, L, L2]
  with_reducible_and_instances exact D.pp_e 0 (b + (768 + r.val)) (b + 768) c

include h_v633 in
theorem p219 : ∀ (r : Fin 256) (l : Fin 128), (k0_pay219 v633) (ix2 r l) = ((D.cp 0 (b + (768 + r)) (b + 768) : ℝ) : EReal) := by
  intro r l
  pointwise [k0_pay219]
  simp only [h_v633]

include h_v635 in
theorem p220 : ∀ (r : Fin 256) (l : Fin 128), (k0_pay220 v635) (ix2 r l) = ((D.cg 0 (b + (768 + r)) (b + 768) : ℝ) : EReal) := by
  intro r l
  pointwise [k0_pay220]
  simp only [h_v635]

include h_v9 h_v22 h_v42 h_v602 h_v608 h_v633 in
theorem p221 : ∀ (r : Fin 256) (c : Fin 256), (k0_pay221 v9 v22 v42 v602 v608 v633) (ix2 r c) = ((D.a 0 (b + (768 + r)) (b + 768 + c) : ℝ) : EReal) := by
  intro r c
  pointwise [k0_pay221]
  simp only [h_v9, h_v22, h_v42, h_v602, h_v608, h_v633, p217 D h_v22 h_v608, p218 D h_v9 h_v22 h_v602 h_v608, p219 D h_v633, dite_eq_ite, ite_self]
  with_reducible_and_instances exact D.am_e (by omega)

include h_v9 h_v22 h_v31 h_v42 h_v602 h_v608 h_v610 h_v633 in
theorem p222 : ∀ (r : Fin 256) (c : Fin 256), (k0_pay222 v9 v22 v31 v42 v602 v608 v610 v633) (ix2 r c) = ((D.g 0 (b + (768 + r)) (b + 768 + c) : ℝ) : EReal) := by
  intro r c
  pointwise [k0_pay222]
  simp only [h_v9, h_v22, h_v31, h_v42, h_v602, h_v608, h_v610, h_v633, p213 D h_v610, p221 D h_v9 h_v22 h_v42 h_v602 h_v608 h_v633]
  with_reducible_and_instances exact D.g_e 0 (b + (768 + r.val)) (b + 768 + c.val)

include h_v9 h_v13 h_v22 h_v31 h_v42 h_v602 h_v608 h_v610 h_v633 in
theorem p223 : ∀ (r : Fin 256) (c : Fin 256), (k0_pay223 v9 v13 v22 v31 v42 v602 v608 v610 v633) (ix2 r c) = ((D.gg 0 (b + (768 + r)) (b + 768) c : ℝ) : EReal) := by
  intro r c
  pointwise [k0_pay223]
  simp only [h_v9, h_v13, h_v22, h_v31, h_v42, h_v602, h_v608, h_v610, h_v633, p222 D h_v9 h_v22 h_v31 h_v42 h_v602 h_v608 h_v610 h_v633]
  with_reducible_and_instances exact D.gg_e 0 (b + (768 + r.val)) (b + 768) c

include h_v22 h_v608 in
theorem p224 : ∀ (r : Fin 256) (c : Fin 256), (k0_pay224 v22 v608) (ix2 r c) = ((Real.exp (-D.sp 0 (b + (768 + r)) (b + 768 + c)) : ℝ) : EReal) := by
  intro r c
  pointwise [k0_pay224]
  simp only [h_v22, h_v608, p217 D h_v22 h_v608]
  rw [D.nsp_e, exp_e]

include h_v602 h_v636 h_v646 h_v648 h_v651 in
theorem p225 : ∀ (r : Fin 256) (c : Fin 256), (k0_pay225 v602 v636 v646 v648 v651) (ix2 r c) = ((D.dz 0 (b + (768 + r)) (b + 768 + c) : ℝ) : EReal) := by
  intro r c
  pointwise [k0_pay225]
  simp only [h_v602, h_v636, h_v646, h_v648, h_v651, dite_eq_ite, ite_self, D.nsp_e, exp_e]
  with_reducible_and_instances exact D.dzm_e (by omega)

include h_v602 h_v608 h_v636 h_v646 h_v648 h_v651 h_v660 in
theorem p226 : ∀ (r : Fin 256) (l : Fin 128), (k0_pay226 v602 v608 v636 v646 v648 v651 v660) (ix3 0 r l) = ((D.dqa 0 (b + (768 + r)) l (b + 768 + 256) : ℝ) : EReal) := by
  intro r l
  pointwise [k0_pay226]
  simp only [h_v602, h_v608, h_v636, h_v646, h_v648, h_v651, h_v660, p225 D h_v602 h_v636 h_v646 h_v648 h_v651]
  with_reducible_and_instances exact D.dqa_e 0 (b + (768 + r.val)) l.val (b + 768)

include h_v35 h_v602 h_v613 h_v636 h_v646 h_v648 h_v651 in
theorem p227 : ∀ (l : Fin 128) (s : Fin 256), (k0_pay227 v35 v602 v613 v636 v646 v648 v651) (ix2 l s) = ((D.kacc 0 (fun x => b + (768 + x)) 256 l (b + 768 + s) : ℝ) : EReal) := by
  intro l s
  pointwise [k0_pay227]
  simp only [h_v35, h_v602, h_v613, h_v636, h_v646, h_v648, h_v651, p225 D h_v602 h_v636 h_v646 h_v648 h_v651]
  with_reducible_and_instances exact (zero_add _).trans (D.kacc_e 0 (fun x => b + (768 + x)) 256 l.val (b + 768 + s.val))

include h_v37 h_v614 h_v644 in
theorem p228 : ∀ (l : Fin 128) (s : Fin 256), (k0_pay228 v37 v614 v644) (ix2 l s) = ((D.vacc 0 (fun x => b + (768 + x)) 256 l (b + 768 + s) : ℝ) : EReal) := by
  intro l s
  pointwise [k0_pay228]
  simp only [h_v37, h_v614, h_v644]
  with_reducible_and_instances exact (zero_add _).trans (D.vacc_e 0 (fun x => b + (768 + x)) 256 l.val (b + 768 + s.val))

include h_v632 h_v634 in
theorem p229 : ∀ (r : Fin 256) (l : Fin 128), (k0_pay229 v632 v634) (ix3 0 r l) = ((D.cp 0 (b + (768 + r)) (b + 768 + 256) : ℝ) : EReal) := by
  intro r l
  pointwise [k0_pay229]
  simp only [h_v632, h_v634]
  with_reducible_and_instances exact D.cp_e 0 (b + (768 + r.val)) (b + 768)

include h_v636 h_v646 h_v648 in
theorem p230 : ∀ (r : Fin 256) (l : Fin 128), (k0_pay230 v636 v646 v648) (ix3 0 r l) = ((D.cg 0 (b + (768 + r)) (b + 768 + 256) : ℝ) : EReal) := by
  intro r l
  pointwise [k0_pay230]
  simp only [h_v636, h_v646, h_v648]
  with_reducible_and_instances exact D.cg_e 0 (b + (768 + r.val)) (b + 768)

include h_v27 in
theorem p231 : ∀ (r : Fin 256) (l : Fin 128), (k0_pay231 v27) (ix2 r l) = ((D.qm 1 (b + (768 + r)) l : ℝ) : EReal) := by
  intro r l
  pointwise [k0_pay231]
  simp only [h_v27]

include h_v34 in
theorem p232 : ∀ (r : Fin 256) (l : Fin 128), (k0_pay232 v34) (ix2 r l) = ((D.ym 1 (b + (768 + r)) l : ℝ) : EReal) := by
  intro r l
  pointwise [k0_pay232]
  simp only [h_v34]

include h_v608 h_v690 h_cst_279 in
theorem p233 : ∀ (r : Fin 256) (c : Fin 256), (k0_pay233 v608 v690 cst_279) (ix2 r c) = ((D.nz 1 (b + (768 + r)) (b + 768 + c) : ℝ) : EReal) := by
  intro r c
  pointwise [k0_pay233]
  simp only [h_v608, h_v690, h_cst_279, zero_add, add_zero]
  with_reducible_and_instances exact D.nz_e 1 (b + (768 + r.val)) (b + 768 + c.val)

include h_v608 h_v690 h_cst_279 in
theorem p234 : ∀ (r : Fin 256) (c : Fin 256), (k0_pay234 v608 v690 cst_279) (ix2 r c) = ((D.sp 1 (b + (768 + r)) (b + 768 + c) : ℝ) : EReal) := by
  intro r c
  pointwise [k0_pay234]
  simp only [h_v608, h_v690, zero_add, add_zero, p233 D h_v608 h_v690 h_cst_279]
  with_reducible_and_instances exact D.sp_e 1 (b + (768 + r.val)) (b + 768 + c.val)

include h_v9 h_v602 h_v608 h_v690 h_cst_279 in
theorem p235 : ∀ (r : Fin 256) (c : Fin 256), (k0_pay235 v9 v602 v608 v690 cst_279) (ix2 r c) = ((D.pp 1 (b + (768 + r)) (b + 768) c : ℝ) : EReal) := by
  intro r c
  have L := fun x : Fin 256 => D.lkm_e (w := 1) (t := b + (768 + r.val)) (s := (b + 768) + ↑x) (r := r.val) (c := ↑x) (by omega)
  have L2 := fun (x : Fin 256) (y : EReal) => D.lkm_mul (w := 1) (t := b + (768 + r.val)) (s := (b + 768) + ↑x) (r := r.val) (c := ↑x) (by omega) y
  pointwise [k0_pay235]
  simp only [h_v9, h_v602, h_v608, h_v690, zero_add, add_zero, p233 D h_v608 h_v690 h_cst_279, p234 D h_v608 h_v690 h_cst_279, L, L2]
  with_reducible_and_instances exact D.pp_e 1 (b + (768 + r.val)) (b + 768) c

include h_v708 in
theorem p236 : ∀ (r : Fin 256) (l : Fin 128), (k0_pay236 v708) (ix2 r l) = ((D.cp 1 (b + (768 + r)) (b + 768) : ℝ) : EReal) := by
  intro r l
  pointwise [k0_pay236]
  simp only [h_v708]

include h_v710 in
theorem p237 : ∀ (r : Fin 256) (l : Fin 128), (k0_pay237 v710) (ix2 r l) = ((D.cg 1 (b + (768 + r)) (b + 768) : ℝ) : EReal) := by
  intro r l
  pointwise [k0_pay237]
  simp only [h_v710]

include h_v9 h_v43 h_v602 h_v608 h_v690 h_cst_279 h_v708 in
theorem p238 : ∀ (r : Fin 256) (c : Fin 256), (k0_pay238 v9 v43 v602 v608 v690 cst_279 v708) (ix2 r c) = ((D.a 1 (b + (768 + r)) (b + 768 + c) : ℝ) : EReal) := by
  intro r c
  pointwise [k0_pay238]
  simp only [h_v9, h_v43, h_v602, h_v608, h_v690, h_v708, zero_add, add_zero, p234 D h_v608 h_v690 h_cst_279, p235 D h_v9 h_v602 h_v608 h_v690 h_cst_279, p236 D h_v708, dite_eq_ite, ite_self]
  with_reducible_and_instances exact D.am_e (by omega)

include h_v9 h_v43 h_v602 h_v608 h_v612 h_v690 h_v691 h_cst_279 h_v708 in
theorem p239 : ∀ (r : Fin 256) (c : Fin 256), (k0_pay239 v9 v43 v602 v608 v612 v690 v691 cst_279 v708) (ix2 r c) = ((D.g 1 (b + (768 + r)) (b + 768 + c) : ℝ) : EReal) := by
  intro r c
  pointwise [k0_pay239]
  simp only [h_v9, h_v43, h_v602, h_v608, h_v612, h_v690, h_v691, h_v708, zero_add, add_zero, p238 D h_v9 h_v43 h_v602 h_v608 h_v690 h_cst_279 h_v708]
  with_reducible_and_instances exact D.g_e 1 (b + (768 + r.val)) (b + 768 + c.val)

include h_v9 h_v13 h_v43 h_v602 h_v608 h_v612 h_v690 h_v691 h_cst_279 h_v708 in
theorem p240 : ∀ (r : Fin 256) (c : Fin 256), (k0_pay240 v9 v13 v43 v602 v608 v612 v690 v691 cst_279 v708) (ix2 r c) = ((D.gg 1 (b + (768 + r)) (b + 768) c : ℝ) : EReal) := by
  intro r c
  pointwise [k0_pay240]
  simp only [h_v9, h_v13, h_v43, h_v602, h_v608, h_v612, h_v690, h_v691, h_v708, zero_add, add_zero, p239 D h_v9 h_v43 h_v602 h_v608 h_v612 h_v690 h_v691 h_cst_279 h_v708]
  with_reducible_and_instances exact D.gg_e 1 (b + (768 + r.val)) (b + 768) c

include h_v9 h_v13 h_v43 h_v602 h_v608 h_v612 h_v690 h_v691 h_cst_279 h_v708 h_v710 in
theorem p241 : ∀ (r : Fin 256) (c : Fin 256), (k0_pay241 v9 v13 v43 v602 v608 v612 v690 v691 cst_279 v708 v710) (ix2 r c) = ((D.dz 1 (b + (768 + r)) (b + 768 + c) : ℝ) : EReal) := by
  intro r c
  pointwise [k0_pay241]
  simp only [h_v9, h_v13, h_v43, h_v602, h_v608, h_v612, h_v690, h_v691, h_v708, h_v710, zero_add, add_zero, p234 D h_v608 h_v690 h_cst_279, p237 D h_v710, p239 D h_v9 h_v43 h_v602 h_v608 h_v612 h_v690 h_v691 h_cst_279 h_v708, p240 D h_v9 h_v13 h_v43 h_v602 h_v608 h_v612 h_v690 h_v691 h_cst_279 h_v708, dite_eq_ite, ite_self, D.nsp_e, exp_e]
  with_reducible_and_instances exact D.dzm_e (by omega)

include h_v608 h_v734 h_v735 in
theorem p242 : ∀ (r : Fin 256) (l : Fin 128), (k0_pay242 v608 v734 v735) (ix3 0 r l) = ((D.dqa 1 (b + (768 + r)) l (b + 768 + 256) : ℝ) : EReal) := by
  intro r l
  pointwise [k0_pay242]
  simp only [h_v608, h_v734, h_v735]
  with_reducible_and_instances exact D.dqa_e 1 (b + (768 + r.val)) l.val (b + 768)

include h_v36 h_v669 h_v734 h_v766 in
theorem p245 : ∀ (l : Fin 128) (s : Fin 256), (k0_pay245 v36 v669 v734 v766) (ix2 l s) = ((-D.dk l (b + 768 + s) (b + 1024) : ℝ) : EReal) := by
  intro l s
  have N := D.dk_next l.val (b + 768 + s.val) b 768 256 (Or.inl (by omega))
  simp only [zero_add, Nat.reduceAdd] at N
  pointwise [k0_pay245]
  simp only [h_v36, h_v669, h_v734, h_v766, EReal.coe_add]
  rw [N, neg_add, ← sub_eq_add_neg, EReal.coe_sub, EReal.coe_add]
  with_reducible_and_instances exact congrArg (_ - ·) (congrArg (_ + ·) (D.kacc_e 1 (fun x => b + (768 + x)) 256 l.val (b + 768 + s.val)))

include h_v38 h_v673 h_v719 h_v773 in
theorem p246 : ∀ (l : Fin 128) (s : Fin 256), (k0_pay246 v38 v673 v719 v773) (ix2 l s) = ((D.dv l (b + 768 + s) (b + 1024) : ℝ) : EReal) := by
  intro l s
  have N := D.dv_next l.val (b + 768 + s.val) b 768 256 (Or.inl (by omega))
  simp only [zero_add, Nat.reduceAdd] at N
  pointwise [k0_pay246]
  simp only [h_v38, h_v673, h_v719, h_v773, EReal.coe_add]
  rw [N, EReal.coe_add, EReal.coe_add]
  with_reducible_and_instances exact congrArg (_ + ·) (congrArg (_ + ·) (D.vacc_e 1 (fun x => b + (768 + x)) 256 l.val (b + 768 + s.val)))

end Cert.SbProof
end
-- ==== Proof.SbDiag.lean ====
module

public import proofs.«01_k».proof.Proof.SbLoop
public import proofs.«01_k».proof.Proof.SbPay0
public import proofs.«01_k».proof.Proof.SbPay1
public import proofs.«01_k».proof.Proof.SbPay2
public import proofs.«01_k».proof.Proof.SbPay3

/-! The attention's backward kernel on the four key blocks of the diagonal: each value it computes, and each store, in order. -/

@[expose] public section
set_option maxRecDepth 16384
noncomputable section

namespace Cert.SbProof
open Idealize.ShloMosaic Idealize.ShloMosaic.TcCoe
open Cert.SbKernelIdeal Cert.SbKernelIdeal.Gen Cert.SbMath Cert.SbMath.Dat

/-- The query block's rows, as the kernel loads them. -/
abbrev qb (a : Memref sig .tc .vmem S1024x128 .f32) (X : BufTy.Contents (Elt Ideal) a.view.ty) :=
  View.readAt (Elt Ideal) a.view (Rect.unit (s := S1024x128) ![0, 0] S1024x128.size inb_S1024x128_S1024x128_0_0).toLoadRect X

/-- The rows of the diagonal's `d`-th key block. -/
abbrev kb (a : Memref sig .tc .vmem S4096x128 .f32) (X : BufTy.Contents (Elt Ideal) a.view.ty) (i : grid0.Coords) (d : Fin 4) :=
  View.readAt (Elt Ideal) a.view (Rect.unit (s := S4096x128) (k0_off5 i (BitVec.ofNat 32 d.val)) S256x128.size (k0_off5_inb i d)).toLoadRect X

/-- The columns of the diagonal's `d`-th key block. -/
abbrev tb (a : Memref sig .tc .vmem S128x4096 .f32) (f : BufTy.Contents (Elt Ideal) a.view.ty) (L : List (View.Piece (Elt Ideal) S128x4096 .f32))
    (i : grid0.Coords) (d : Fin 4) :=
  View.readAt (Elt Ideal) a.view (Rect.unit (s := S128x4096) (k0_off6 i (BitVec.ofNat 32 d.val)) S128x256.size (k0_off6_inb i d)).toLoadRect
    (a.view.writes (Elt Ideal) f L)

/-- A store to those columns. -/
abbrev pt (i : grid0.Coords) (d : Fin 4) (pay : Vec Ideal S128x256 .f32) : View.Piece (Elt Ideal) S128x4096 .f32 :=
  ⟨Rect.unit (s := S128x4096) (k0_off6 i (BitVec.ofNat 32 d.val)) S128x256.size (k0_off6_inb i d), pay⟩

/-- One head's rows from `o` to the end. -/
abbrev hr (w : Fin 2) (o n : ℕ) (inb : ∀ x, (![w.val, o, 0] : Fin 3 → ℕ) x + (⟨3, ![1, n, 128]⟩ : Shape).size x ≤ S2x1024x128.size x := by decide) :=
  Rect.unit (s := S2x1024x128) ![w.val, o, 0] (⟨3, ![1, n, 128]⟩ : Shape).size inb

/-- A load of those rows. -/
abbrev cov (a : Memref sig .tc .vmem S2x1024x128 .f32) (L : List (View.Piece (Elt Ideal) S2x1024x128 .f32)) (w : Fin 2) (o n : ℕ)
    (inb : ∀ x, (![w.val, o, 0] : Fin 3 → ℕ) x + (⟨3, ![1, n, 128]⟩ : Shape).size x ≤ S2x1024x128.size x := by decide) : Vec Ideal ⟨3, ![1, n, 128]⟩ .f32 :=
  a.view.readCov L (hr w o n inb).toLoadRect

/-- A store to those rows. -/
abbrev pc (w : Fin 2) (o n : ℕ) (pay : Vec Ideal ⟨3, ![1, n, 128]⟩ .f32)
    (inb : ∀ x, (![w.val, o, 0] : Fin 3 → ℕ) x + (⟨3, ![1, n, 128]⟩ : Shape).size x ≤ S2x1024x128.size x := by decide) : View.Piece (Elt Ideal) S2x1024x128 .f32 :=
  ⟨hr w o n inb, pay⟩

section
variable {a : Memref sig .tc .vmem S2x1024x128 .f32} {L L' : List (View.Piece (Elt Ideal) S2x1024x128 .f32)} {w w' : Fin 2} {o n : ℕ}
  {inb : ∀ x, (![w.val, o, 0] : Fin 3 → ℕ) x + (⟨3, ![1, n, 128]⟩ : Shape).size x ≤ S2x1024x128.size x}
  {inb0 : ∀ x, (![w.val, 0, 0] : Fin 3 → ℕ) x + (⟨3, ![1, 1024, 128]⟩ : Shape).size x ≤ S2x1024x128.size x}
  {v pay : Vec Ideal ⟨3, ![1, n, 128]⟩ .f32} {v0 pay0 : Vec Ideal ⟨3, ![1, 1024, 128]⟩ .f32} {spec : ℕ → ℕ → ℝ}

/-- What a value's name holds is what the value holds. -/
theorem at2 {n m : ℕ} {t : FTy} {q q' : FVec Ideal ⟨2, ![n, m]⟩ t} {f : Fin n → Fin m → EReal} (e : q = q')
    (h : ∀ (r : Fin n) (l : Fin m), q' (ix2 r l) = f r l) (r : Fin n) (l : Fin m) : q (ix2 r l) = f r l := e ▸ h r l

/-- A load of one head's rows holds what the buffer holds there. -/
theorem covAt (e : v = cov a L w o n inb) (H : Hold3 a (a.view.writes (Elt Ideal) a.view.junk L) w spec) (r : Fin n) (l : Fin 128) :
    v (ix3 0 r l) = ((spec (o + r) l : ℝ) : EReal) := by
  rw [e]; exact ldc3 a.view L w o inb spec H r l

/-- The same, of all the rows. -/
theorem cov0 (e : v0 = cov a L w 0 1024 inb0) (H : Hold3 a (a.view.writes (Elt Ideal) a.view.junk L) w spec) (r : Fin 1024) (l : Fin 128) :
    v0 (ix3 0 r l) = ((spec r l : ℝ) : EReal) := by
  rw [e]; exact ldc3z a.view L w inb0 spec H r l

/-- A store to a head's rows from `o` to the end leaves the new sums everywhere, if the rows before `o` gain nothing. -/
theorem put (spec' : ℕ → ℕ → ℝ) (e : L' = pc w o n pay inb :: L) (H : Hold3 a (a.view.writes (Elt Ideal) a.view.junk L) w spec)
    (hs : ∀ r l, r < o → spec r l = spec' r l) (p : ∀ (r : Fin n) (l : Fin 128), pay (ix3 0 r l) = ((spec' (o + r) l : ℝ) : EReal))
    (ho : o + n = 1024 := by decide) : Hold3 a (a.view.writes (Elt Ideal) a.view.junk L') w spec' := by
  rw [e]
  exact st3 a.view _ w o inb pay L spec' ho p (fun r l h => (H r l).trans (by rw [hs _ _ h]))

/-- The same, of all the rows. -/
theorem put0 (a : Memref sig .tc .vmem S2x1024x128 .f32) (spec' : ℕ → ℕ → ℝ) (e : L' = pc w 0 1024 pay0 inb0 :: L)
    (p : ∀ (r : Fin 1024) (l : Fin 128), pay0 (ix3 0 r l) = ((spec' r l : ℝ) : EReal)) :
    Hold3 a (a.view.writes (Elt Ideal) a.view.junk L') w spec' := by
  rw [e]
  exact st3 a.view _ w 0 inb0 pay0 L spec' rfl (fun r l => by rw [zero_add]; exact p r l) (fun r l h => absurd h (Nat.not_lt_zero _))

/-- A store to one head's rows leaves the other's. -/
theorem other (e : L' = pc w o n pay inb :: L) (H : Hold3 a (a.view.writes (Elt Ideal) a.view.junk L) w' spec) (hw : w' ≠ w := by decide) :
    Hold3 a (a.view.writes (Elt Ideal) a.view.junk L') w' spec := by
  rw [e]; exact so3 a.view _ w w' hw o inb pay L spec H

end

section
variable {i : grid0.Coords} {b S : ℕ} {a : Memref sig .tc .vmem S128x4096 .f32} {f : BufTy.Contents (Elt Ideal) a.view.ty}
  {L L' : List (View.Piece (Elt Ideal) S128x4096 .f32)} {pay : Vec Ideal S128x256 .f32}

/-- The query block's rows hold what its operand holds. -/
theorem qbAt {a : Memref sig .tc .vmem S1024x128 .f32} {X : BufTy.Contents (Elt Ideal) a.view.ty} (spec : ℕ → ℕ → ℝ)
    (h : ∀ (r : Fin 1024) (l : Fin 128), a.view.read (Elt Ideal) X (ix2 r l) = ((spec r l : ℝ) : EReal)) (r : Fin 1024) (l : Fin 128) :
    qb a X (ix2 r l) = ((spec r l : ℝ) : EReal) :=
  ldrz (n := 1024) a.view X inb_S1024x128_S1024x128_0_0 spec h r l

/-- A key block's rows hold what its operand holds there. -/
theorem kbAt (d : Fin 4) {a : Memref sig .tc .vmem S4096x128 .f32} {X : BufTy.Contents (Elt Ideal) a.view.ty} (spec : ℕ → ℕ → ℝ)
    (o : k0_off5 i (BitVec.ofNat 32 d.val) = ![S, 0])
    (h : ∀ (r : Fin 4096) (l : Fin 128), a.view.read (Elt Ideal) X (ix2 r l) = ((spec r l : ℝ) : EReal)) (s : Fin 256) (l : Fin 128) :
    kb a X i d (ix2 s l) = ((spec (S + s) l : ℝ) : EReal) :=
  ldr (n := 256) a.view X S o (k0_off5_inb i d) spec h s l

/-- A key block's columns before its store: this query block's rows are not in them. -/
theorem colT (d : Fin 4) (g : ℕ → ℕ → ℕ → ℝ) (o : k0_off6 i (BitVec.ofNat 32 d.val) = ![0, S])
    (H : HoldT a (a.view.writes (Elt Ideal) f L) fun l s => g l s (if s < S then b + 1024 else b)) (l : Fin 128) (s : Fin 256) :
    tb a f L i d (ix2 l s) = ((g l (S + s) b : ℝ) : EReal) :=
  ldtx a.view _ S o (k0_off6_inb i d) (fun l s => g l s (if s < S then b + 1024 else b)) (fun l s => g l s b) H
    (fun l s h => by show g l s (if s < S then b + 1024 else b) = g l s b; rw [if_neg (by omega)]) l s

/-- The store to a key block's columns adds this query block's rows to them. -/
theorem putT (d : Fin 4) (g : ℕ → ℕ → ℕ → ℝ) (o : k0_off6 i (BitVec.ofNat 32 d.val) = ![0, S]) (e : L' = pt i d pay :: L)
    (H : HoldT a (a.view.writes (Elt Ideal) f L) fun l s => g l s (if s < S then b + 1024 else b))
    (p : ∀ (l : Fin 128) (s : Fin 256), pay (ix2 l s) = ((g l (S + s) (b + 1024) : ℝ) : EReal)) :
    HoldT a (a.view.writes (Elt Ideal) f L') fun l s => g l s (if s < S + 256 then b + 1024 else b) := by
  rw [e]
  refine stt a.view _ S o (k0_off6_inb i d) pay L (fun l s => g l s (if s < S + 256 then b + 1024 else b)) (fun l s => ?_) (fun l s h => (H l s).trans ?_)
  · rw [p l s]; show _ = ((g l (S + s) (if S + s.val < S + 256 then b + 1024 else b) : ℝ) : EReal); rw [if_pos (by omega)]
  · show ((g l s (if s.val < S then b + 1024 else b) : ℝ) : EReal) = ((g l s (if s.val < S + 256 then b + 1024 else b) : ℝ) : EReal)
    by_cases h1 : s.val < S
    · rw [if_pos h1, if_pos (by omega)]
    · rw [if_neg h1, if_neg (by omega)]

end

/-- From the buffers at the diagonal to the query block's results. -/
theorem diagonal (D : Dat) (i : grid0.Coords) {b : ℕ} (hb : b = 1024 * (i 1).val)
    (arg2 : Memref sig .tc .vmem S1024x128 .f32) (arg3 : Memref sig .tc .vmem S4096x128 .f32) (arg4 : Memref sig .tc .vmem S4096x128 .f32) (arg5 : Memref sig .tc .vmem S1024x128 .f32) (arg6 : Memref sig .tc .vmem S1024x128 .f32) (arg10 : Memref sig .tc .vmem S2x1024x128 .f32) (arg11 : Memref sig .tc .vmem S2x1024x128 .f32) (arg12 : Memref sig .tc .vmem S2x1024x128 .f32) (arg13 : Memref sig .tc .vmem S128x4096 .f32) (arg14 : Memref sig .tc .vmem S128x4096 .f32)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f13 : BufTy.Contents (Elt Ideal) arg13.view.ty) (f14 : BufTy.Contents (Elt Ideal) arg14.view.ty)
    {L0 L1 L2 : List (View.Piece (Elt Ideal) S2x1024x128 .f32)} {L3 L4 : List (View.Piece (Elt Ideal) S128x4096 .f32)}
    {q_0 q_1 q_2 q_3 : FVec Ideal S1024x128 .bf16}
    {q_10 q_8 q_9 q_16 cst_84 q_11 q_15 q_31 q_26 q_25 : FVec Ideal S1024x128 .f32}
    {q_12 q_13 q_32 q_33 q_54 q_55 q_78 q_79 q_89 q_90 : FVec Ideal S256x128 .bf16}
    {q_4 q_5 q_6 q_7 : FVec Ideal S128x1024 .bf16}
    {v100 v98 v124 v168 v170 v194 v779 v781 : Vec Ideal S1x1024x128 .f32}
    {q_18 q_19 q_20 q_23 q_14 q_28 q_29 q_24 q_17 q_27 : FVec Ideal S1024x256 .f32}
    {HS0_1_1 HS1_1_1 HS2_1_1 HS0_2 HS2_2 HS1_2 HS0_3 HS2_3 HS1_3 HS0_4 HS1_4 HS2_4 HS0_5 HS1_5 HS2_5 HS0_6 HS2_6 HS1_6 HS0_7 HS1_7 HS2_7 HS0_8 : List (View.Piece (Elt Ideal) S2x1024x128 .f32)}
    {q_30 : FVec Ideal S1024x256 .bf16}
    {q_34 : FVec Ideal S768x128 .bf16}
    {q_35 q_36 q_39 cst_150 q_44 q_40 q_41 q_49 q_45 q_48 : FVec Ideal S768x256 .f32}
    {v273 v271 v298 v348 v346 v373 : Vec Ideal S1x768x128 .f32}
    {q_38 q_47 q_37 q_46 q_53 : FVec Ideal S768x128 .f32}
    {q_50 : FVec Ideal S768x256 .bf16}
    {cst_181 : Ideal .f32}
    {q_56 q_69 : FVec Ideal S512x128 .bf16}
    {q_57 q_58 q_70 q_71 q_59 q_63 q_64 q_74 q_75 q_62 : FVec Ideal S512x256 .f32}
    {v452 v454 v479 v527 v529 v554 : Vec Ideal S1x512x128 .f32}
    {q_66 q_60 q_61 q_73 q_72 : FVec Ideal S512x128 .f32}
    {v635 v633 v660 v708 v710 v735 : Vec Ideal S1x256x128 .f32}
    {q_82 q_81 : FVec Ideal S256x128 .f32}
    {q_84 q_85 q_86 cst_279 q_80 q_83 q_94 : FVec Ideal S256x256 .f32}
    {q_97 : FVec Ideal S256x256 .bf16}
    {q_21 q_42 q_51 q_67 q_76 q_22 q_43 q_52 q_68 q_77 q_87 q_88 q_98 : FVec Ideal S128x256 .f32}
    {v223 v230 : Vec Ideal S128x256 .f32}
    {HS3_1 HS3_2 HS3_3 HS4_1 HS4_2 HS4_3 HS3_4 HS4_4 : List (View.Piece (Elt Ideal) S128x4096 .f32)}
    {q_65 : FVec Ideal S512x256 .bf16}
    (hX2 : ∀ (r : Fin 1024) (l : Fin 128), arg2.view.read (Elt Ideal) X2 (ix2 r l) = ((D.Q (b + ↑r) ↑l : ℝ) : EReal))
    (hX3 : ∀ (s : Fin 4096) (l : Fin 128), arg3.view.read (Elt Ideal) X3 (ix2 s l) = ((D.K ↑s ↑l : ℝ) : EReal))
    (hX4 : ∀ (s : Fin 4096) (l : Fin 128), arg4.view.read (Elt Ideal) X4 (ix2 s l) = ((D.V ↑s ↑l : ℝ) : EReal))
    (hX5 : ∀ (r : Fin 1024) (l : Fin 128), arg5.view.read (Elt Ideal) X5 (ix2 r l) = ((D.T (b + ↑r) (↑l / 64) : ℝ) : EReal))
    (hX6 : ∀ (r : Fin 1024) (l : Fin 128), arg6.view.read (Elt Ideal) X6 (ix2 r l) = ((D.DY (b + ↑r) ↑l : ℝ) : EReal))
    (e_HS4_4 : HS4_4 = pt i 3 (k0_pay1 q_98) :: HS4_3)
    (e_HS3_4 : HS3_4 = pt i 3 (k0_pay245 q_5 q_87 q_97 (tb arg13 f13 HS3_3 i 3)) :: HS3_3)
    (e_v781 : v781 = cov arg10 HS0_8 1 0 1024)
    (e_v779 : v779 = cov arg10 HS0_8 0 0 1024)
    (e_q_98 : q_98 = k0_pay246 q_7 q_88 q_94 (tb arg14 f14 HS4_3 i 3))
    (e_q_94 : q_94 = k0_pay238 k0_pay68 q_11 k0_pay211 q_78 q_89 cst_279 v708)
    (e_q_88 : q_88 = k0_pay228 q_6 k0_pay215 q_83)
    (e_q_87 : q_87 = k0_pay227 q_4 k0_pay211 k0_pay214 q_82 q_84 q_85 q_86)
    (e_q_83 : q_83 = k0_pay221 k0_pay68 q_0 q_10 k0_pay211 q_78 v633)
    (e_HS4_3 : HS4_3 = pt i 2 (k0_pay210 q_77 (tb arg14 f14 HS4_2 i 2)) :: HS4_2)
    (e_q_77 : q_77 = k0_pay206 q_7 q_11 k0_pay172 q_68 q_70 q_71 v527)
    (e_q_68 : q_68 = k0_pay191 q_6 k0_pay176 q_62)
    (e_q_62 : q_62 = k0_pay184 k0_pay68 q_10 k0_pay172 q_57 q_58 cst_181 v452)
    (e_HS4_2 : HS4_2 = pt i 1 (k0_pay171 q_52 (tb arg14 f14 HS4_1 i 1)) :: HS4_1)
    (e_q_52 : q_52 = k0_pay166 q_7 q_43 q_48)
    (e_q_48 : q_48 = k0_pay159 k0_pay68 q_1 q_11 k0_pay133 q_32 v346)
    (e_q_43 : q_43 = k0_pay151 q_6 k0_pay133 k0_pay137 q_35 q_36 q_39)
    (e_HS4_1 : HS4_1 = pt i 0 (k0_pay132 q_7 q_22 q_27 v230) :: L4)
    (e_v230 : v230 = tb arg14 f14 L4 i 0)
    (e_q_27 : q_27 = k0_pay123 k0_pay68 q_11 k0_pay96 q_23 k0_pay117 v168)
    (e_q_22 : q_22 = k0_pay113 q_6 k0_pay100 q_17)
    (e_q_17 : q_17 = k0_pay106 k0_pay68 q_0 q_10 k0_pay96 (kb arg3 X3 i 0) v98)
    (e_HS3_3 : HS3_3 = pt i 2 (k0_pay209 q_76 (tb arg13 f13 HS3_2 i 2)) :: HS3_2)
    (e_q_76 : q_76 = k0_pay205 k0_pay69 q_5 q_11 k0_pay172 q_55 q_67 q_69 q_70 q_71 v527 v529)
    (e_q_67 : q_67 = k0_pay190 q_4 k0_pay175 q_65)
    (e_q_65 : q_65 = k0_pay187 k0_pay68 k0_pay69 q_10 k0_pay172 q_55 q_56 q_57 q_58 cst_181 v452 v454)
    (e_HS3_2 : HS3_2 = pt i 1 (k0_pay170 q_51 (tb arg13 f13 HS3_1 i 1)) :: HS3_1)
    (e_q_51 : q_51 = k0_pay165 k0_pay69 q_5 k0_pay133 q_42 q_44 q_47 q_49 q_50 cst_150)
    (e_q_42 : q_42 = k0_pay150 k0_pay69 q_4 k0_pay133 q_33 k0_pay136 q_34 q_35 q_36 q_38 q_39)
    (e_HS3_1 : HS3_1 = pt i 0 (k0_pay131 q_5 q_21 q_30 v223) :: L3)
    (e_v223 : v223 = tb arg13 f13 L3 i 0)
    (e_q_21 : q_21 = k0_pay112 q_4 k0_pay96 k0_pay99 q_16 q_18 q_19 q_20)
    (e_HS0_8 : HS0_8 = pc 1 768 256 (k0_pay242 q_78 q_97 v735) :: HS0_7)
    (e_v735 : v735 = cov arg10 HS0_7 1 768 256)
    (e_q_97 : q_97 = k0_pay241 k0_pay68 k0_pay69 q_11 k0_pay211 q_78 q_79 q_89 q_90 cst_279 v708 v710)
    (e_v710 : v710 = cov arg12 HS2_7 1 768 256)
    (e_HS2_7 : HS2_7 = pc 0 768 256 (k0_pay230 q_82 q_84 q_85) :: HS2_6)
    (e_v708 : v708 = cov arg11 HS1_7 1 768 256)
    (e_HS1_7 : HS1_7 = pc 0 768 256 (k0_pay229 q_80 q_81) :: HS1_6)
    (e_q_81 : q_81 = k0_pay219 v633)
    (e_q_80 : q_80 = k0_pay218 k0_pay68 q_0 k0_pay211 q_78)
    (e_q_90 : q_90 = k0_pay232 q_3)
    (e_q_89 : q_89 = k0_pay231 q_1)
    (e_q_79 : q_79 = k0_pay213 (kb arg4 X4 i 3))
    (h_cst_279 : ∀ i, cst_279 i = 0)
    (e_HS0_7 : HS0_7 = pc 0 768 256 (k0_pay226 k0_pay211 q_78 q_82 q_84 q_85 q_86 v660) :: HS0_6)
    (e_v660 : v660 = cov arg10 HS0_6 0 768 256)
    (e_q_86 : q_86 = k0_pay224 q_0 q_78)
    (e_q_85 : q_85 = k0_pay223 k0_pay68 k0_pay69 q_0 q_2 q_10 k0_pay211 q_78 (kb arg4 X4 i 3) v633)
    (e_q_84 : q_84 = k0_pay222 k0_pay68 q_0 q_2 q_10 k0_pay211 q_78 (kb arg4 X4 i 3) v633)
    (e_v633 : v633 = cov arg11 HS1_6 0 768 256)
    (e_HS1_6 : HS1_6 = pc 1 512 512 (k0_pay207 q_71 q_72) :: HS1_5)
    (e_q_72 : q_72 = k0_pay198 v527)
    (e_q_82 : q_82 = k0_pay220 v635)
    (e_v635 : v635 = cov arg12 HS2_6 0 768 256)
    (e_HS2_6 : HS2_6 = pc 1 512 512 (k0_pay208 q_73 q_74 q_75) :: HS2_5)
    (e_q_75 : q_75 = k0_pay202 k0_pay69 q_11 k0_pay172 q_55 q_69 q_70 q_71 v527)
    (e_q_74 : q_74 = k0_pay201 q_11 k0_pay172 q_55 q_69 q_70 q_71 v527)
    (e_q_73 : q_73 = k0_pay199 v529)
    (e_q_78 : q_78 = k0_pay212 (kb arg3 X3 i 3))
    (e_HS0_6 : HS0_6 = pc 1 512 512 (k0_pay204 k0_pay69 q_11 k0_pay172 q_54 q_55 q_69 q_70 q_71 v527 v529 v554) :: HS0_5)
    (e_v554 : v554 = cov arg10 HS0_5 1 512 512)
    (e_v529 : v529 = cov arg12 HS2_5 1 512 512)
    (e_HS2_5 : HS2_5 = pc 0 512 512 (k0_pay193 q_61 q_63 q_64) :: HS2_4)
    (e_q_64 : q_64 = k0_pay186 k0_pay68 k0_pay69 q_10 k0_pay172 q_55 q_56 q_57 q_58 cst_181 v452)
    (e_q_63 : q_63 = k0_pay185 k0_pay68 q_10 k0_pay172 q_55 q_56 q_57 q_58 cst_181 v452)
    (e_q_61 : q_61 = k0_pay183 v454)
    (e_v527 : v527 = cov arg11 HS1_5 1 512 512)
    (e_HS1_5 : HS1_5 = pc 0 512 512 (k0_pay192 q_59 q_60) :: HS1_4)
    (e_q_60 : q_60 = k0_pay182 v452)
    (e_q_59 : q_59 = k0_pay181 k0_pay68 k0_pay172 q_58 cst_181)
    (e_q_71 : q_71 = k0_pay197 k0_pay68 q_1 k0_pay172 q_54)
    (e_q_70 : q_70 = k0_pay196 q_1 q_54)
    (e_q_69 : q_69 = k0_pay194 q_3)
    (e_HS0_5 : HS0_5 = pc 0 512 512 (k0_pay189 q_66) :: HS0_4)
    (e_q_66 : q_66 = k0_pay188 k0_pay68 k0_pay69 q_10 k0_pay172 q_54 q_55 q_56 q_57 q_58 cst_181 v452 v454 v479)
    (e_v479 : v479 = cov arg10 HS0_4 0 512 512)
    (e_v454 : v454 = cov arg12 HS2_4 0 512 512)
    (e_HS2_4 : HS2_4 = pc 1 256 768 (k0_pay169 q_53) :: HS2_3)
    (e_q_53 : q_53 = k0_pay168 k0_pay69 q_47 q_49 q_50 cst_150)
    (e_v452 : v452 = cov arg11 HS1_4 0 512 512)
    (e_HS1_4 : HS1_4 = pc 1 256 768 (k0_pay167 q_45 q_46) :: HS1_3)
    (e_q_46 : q_46 = k0_pay157 v346)
    (e_q_45 : q_45 = k0_pay156 k0_pay68 q_1 k0_pay133 q_32)
    (e_q_58 : q_58 = k0_pay180 q_0 (kb arg3 X3 i 2))
    (e_q_57 : q_57 = k0_pay179 q_0 (kb arg3 X3 i 2))
    (e_q_56 : q_56 = k0_pay177 q_2)
    (e_q_55 : q_55 = k0_pay174 (kb arg4 X4 i 2))
    (e_q_54 : q_54 = k0_pay173 (kb arg3 X3 i 2))
    (h_cst_181 : cst_181 = 0)
    (e_HS0_4 : HS0_4 = pc 1 256 768 (k0_pay164 k0_pay69 k0_pay133 q_32 q_44 q_47 q_49 q_50 cst_150 v373) :: HS0_3)
    (e_v373 : v373 = cov arg10 HS0_3 1 256 768)
    (e_q_50 : q_50 = k0_pay161 k0_pay68 q_1 q_3 q_11 k0_pay133 q_32 q_33 v346)
    (e_q_49 : q_49 = k0_pay160 k0_pay68 q_1 q_3 q_11 k0_pay133 q_32 q_33 v346)
    (e_v346 : v346 = cov arg11 HS1_3 1 256 768)
    (e_HS1_3 : HS1_3 = pc 0 256 768 (k0_pay152 q_36 q_37) :: HS1_2)
    (e_q_37 : q_37 = k0_pay142 v271)
    (e_q_47 : q_47 = k0_pay158 v348)
    (e_v348 : v348 = cov arg12 HS2_3 1 256 768)
    (e_HS2_3 : HS2_3 = pc 0 256 768 (k0_pay153 q_38 q_40 q_41) :: HS2_2)
    (e_q_41 : q_41 = k0_pay147 k0_pay69 k0_pay133 q_33 q_34 q_35 q_36 q_39)
    (e_q_40 : q_40 = k0_pay146 k0_pay133 q_33 q_34 q_35 q_36 q_39)
    (e_q_44 : q_44 = k0_pay155 q_1 q_32)
    (h_cst_150 : ∀ i, cst_150 i = 0)
    (e_HS0_3 : HS0_3 = pc 0 256 768 (k0_pay149 k0_pay69 k0_pay133 q_32 q_33 q_34 q_35 q_36 q_38 q_39 v298) :: HS0_2)
    (e_v298 : v298 = cov arg10 HS0_2 0 256 768)
    (e_q_39 : q_39 = k0_pay144 q_10 v271)
    (e_v271 : v271 = cov arg11 HS1_2 0 256 768)
    (e_HS1_2 : HS1_2 = pc 1 0 1024 (k0_pay129 q_24 q_25) :: HS1_1_1)
    (e_q_25 : q_25 = k0_pay121 v168)
    (e_q_24 : q_24 = k0_pay120 k0_pay68 k0_pay96 q_23 k0_pay117)
    (e_q_38 : q_38 = k0_pay143 v273)
    (e_v273 : v273 = cov arg12 HS2_2 0 256 768)
    (e_HS2_2 : HS2_2 = pc 1 0 1024 (k0_pay130 q_26 q_28 q_29) :: HS2_1_1)
    (e_q_29 : q_29 = k0_pay125 k0_pay68 k0_pay69 q_3 q_11 k0_pay96 q_13 q_23 k0_pay117 v168)
    (e_q_28 : q_28 = k0_pay124 k0_pay68 q_3 q_11 k0_pay96 q_13 q_23 k0_pay117 v168)
    (e_q_26 : q_26 = k0_pay122 v170)
    (e_q_36 : q_36 = k0_pay141 k0_pay68 q_0 (kb arg3 X3 i 1))
    (e_q_35 : q_35 = k0_pay140 q_0 (kb arg3 X3 i 1))
    (e_q_34 : q_34 = k0_pay138 q_2)
    (e_q_33 : q_33 = k0_pay135 (kb arg4 X4 i 1))
    (e_q_32 : q_32 = k0_pay134 (kb arg3 X3 i 1))
    (e_HS0_2 : HS0_2 = pc 1 0 1024 (k0_pay128 q_12 q_30 q_31 cst_84) :: HS0_1_1)
    (e_q_31 : q_31 = k0_pay127 v194)
    (e_v194 : v194 = cov arg10 HS0_1_1 1 0 1024)
    (e_q_30 : q_30 = k0_pay126 k0_pay68 k0_pay69 q_3 q_11 k0_pay96 q_13 q_23 k0_pay117 v168 v170)
    (e_v170 : v170 = cov arg12 HS2_1_1 1 0 1024)
    (e_HS2_1_1 : HS2_1_1 = pc 0 0 1024 (k0_pay115 q_16 q_18 q_19) :: L2)
    (e_v168 : v168 = cov arg11 HS1_1_1 1 0 1024)
    (e_HS1_1_1 : HS1_1_1 = pc 0 0 1024 (k0_pay114 q_14 q_15) :: L1)
    (e_q_15 : q_15 = k0_pay104 v98)
    (e_q_14 : q_14 = k0_pay103 k0_pay68 q_0 k0_pay96 (kb arg3 X3 i 0))
    (e_q_23 : q_23 = k0_pay116 q_1 q_12)
    (e_q_13 : q_13 = k0_pay98 (kb arg4 X4 i 0))
    (e_q_11 : q_11 = k0_pay82 k0_pay67 q_8 q_9)
    (h_cst_84 : ∀ i, cst_84 i = 0)
    (e_HS0_1_1 : HS0_1_1 = pc 0 0 1024 (k0_pay111 k0_pay96 q_12 q_16 q_18 q_19 q_20 v124) :: L0)
    (e_v124 : v124 = cov arg10 L0 0 0 1024)
    (e_q_20 : q_20 = k0_pay109 q_0 (kb arg3 X3 i 0))
    (e_q_19 : q_19 = k0_pay108 k0_pay68 k0_pay69 q_0 q_2 q_10 k0_pay96 (kb arg3 X3 i 0) (kb arg4 X4 i 0) v98)
    (e_q_18 : q_18 = k0_pay107 k0_pay68 q_0 q_2 q_10 k0_pay96 (kb arg3 X3 i 0) (kb arg4 X4 i 0) v98)
    (e_v98 : v98 = cov arg11 L1 0 0 1024)
    (e_q_16 : q_16 = k0_pay105 v100)
    (e_v100 : v100 = cov arg12 L2 0 0 1024)
    (e_q_9 : q_9 = k0_pay80 (qb arg5 X5))
    (e_q_8 : q_8 = k0_pay79 (qb arg5 X5))
    (e_q_7 : q_7 = k0_pay78 (qb arg6 X6))
    (e_q_6 : q_6 = k0_pay77 (qb arg6 X6))
    (e_q_5 : q_5 = k0_pay76 (qb arg2 X2))
    (e_q_4 : q_4 = k0_pay75 (qb arg2 X2))
    (e_q_3 : q_3 = k0_pay74 (qb arg6 X6))
    (e_q_2 : q_2 = k0_pay73 (qb arg6 X6))
    (e_q_12 : q_12 = k0_pay97 (kb arg3 X3 i 0))
    (e_q_10 : q_10 = k0_pay81 (qb arg5 X5))
    (e_q_1 : q_1 = k0_pay72 (qb arg2 X2))
    (e_q_0 : q_0 = k0_pay71 (qb arg2 X2))
    (H : St D b b arg10 arg11 arg12 arg13 arg14 (arg10.view.writes (Elt Ideal) arg10.view.junk L0) (arg11.view.writes (Elt Ideal) arg11.view.junk L1)
      (arg12.view.writes (Elt Ideal) arg12.view.junk L2) (arg13.view.writes (Elt Ideal) f13 L3) (arg14.view.writes (Elt Ideal) f14 L4)) :
    (∀ (r : Fin 1024) (l : Fin 128), k0_pay2 (F := Ideal) k0_pay67 v779 v781 (ix2 r l) = ((D.dqa (↑l / 64) (b + ↑r) ↑l (b + 1024) * (1 / 8) : ℝ) : EReal))
    ∧ HoldT arg13 (arg13.view.writes (Elt Ideal) f13 HS3_4) (fun l s => -D.dk l s (if s < b + 1024 then b + 1024 else b))
    ∧ HoldT arg14 (arg14.view.writes (Elt Ideal) f14 HS4_4) (fun l s => D.dv l s (if s < b + 1024 then b + 1024 else b)) := by
  have o5_0 : k0_off5 i 0#32 = ![b, 0] := by rw [hb]; exact k0_off5_eq i 0
  have o6_0 : k0_off6 i 0#32 = ![0, b] := by rw [hb]; exact k0_off6_eq i 0
  have hK0 := kbAt 0 D.K o5_0 hX3
  have hV0 := kbAt 0 D.V o5_0 hX4
  have o5_1 : k0_off5 i 1#32 = ![(b + 256), 0] := by rw [hb]; exact k0_off5_eq i 1
  have o6_1 : k0_off6 i 1#32 = ![0, (b + 256)] := by rw [hb]; exact k0_off6_eq i 1
  have hK1 := kbAt 1 D.K o5_1 hX3
  have hV1 := kbAt 1 D.V o5_1 hX4
  have o5_2 : k0_off5 i 2#32 = ![(b + 512), 0] := by rw [hb]; exact k0_off5_eq i 2
  have o6_2 : k0_off6 i 2#32 = ![0, (b + 512)] := by rw [hb]; exact k0_off6_eq i 2
  have hK2 := kbAt 2 D.K o5_2 hX3
  have hV2 := kbAt 2 D.V o5_2 hX4
  have o5_3 : k0_off5 i 3#32 = ![(b + 768), 0] := by rw [hb]; exact k0_off5_eq i 3
  have o6_3 : k0_off6 i 3#32 = ![0, (b + 768)] := by rw [hb]; exact k0_off6_eq i 3
  have hK3 := kbAt 3 D.K o5_3 hX3
  have hV3 := kbAt 3 D.V o5_3 hX4
  have hQ := qbAt (fun r l => D.Q (b + r) l) hX2
  have hT := qbAt (fun r l => D.T (b + r) (l / 64)) hX5
  have hDY := qbAt (fun r l => D.DY (b + r) l) hX6
  have H_L3 := H.kt
  have hkt0 := colT 0 (fun l s n => -D.dk l s n) o6_0 H_L3
  have H_L4 := H.vt
  have hvt0 := colT 0 D.dv o6_0 H_L4
  have H_L0_0 := H.q0
  have H_L0_1 := H.q1
  have H_L1_0 := H.c0
  have H_L1_1 := H.c1
  have H_L2_0 := H.g0
  have H_L2_1 := H.g1
  have h_q_0 := at2 e_q_0 (p71 D hQ)
  have h_q_1 := at2 e_q_1 (p72 D hQ)
  have h_q_10 := at2 e_q_10 (p81 D hT)
  have h_q_12 := at2 e_q_12 (p97 D hK0)
  have h_q_2 := at2 e_q_2 (p73 D hDY)
  have h_q_3 := at2 e_q_3 (p74 D hDY)
  have h_q_4 := at2 e_q_4 (p75 D hQ)
  have h_q_5 := at2 e_q_5 (p76 D hQ)
  have h_q_6 := at2 e_q_6 (p77 D hDY)
  have h_q_7 := at2 e_q_7 (p78 D hDY)
  have h_q_8 := at2 e_q_8 (p79 D hT)
  have h_q_9 := at2 e_q_9 (p80 D hT)
  have h_v100 := cov0 e_v100 H_L2_0
  have h_q_16 := at2 e_q_16 (p105 D h_v100)
  have h_v98 := cov0 e_v98 H_L1_0
  have h_q_18 := at2 e_q_18 (p107 D p68 h_q_0 h_q_2 h_q_10 (p96 D) hK0 hV0 h_v98)
  have h_q_19 := at2 e_q_19 (p108 D p68 p69 h_q_0 h_q_2 h_q_10 (p96 D) hK0 hV0 h_v98)
  have h_q_20 := at2 e_q_20 (p109 D h_q_0 hK0)
  have h_v124 := cov0 e_v124 H_L0_0
  have H_HS0_1_1_0 := put0 arg10 (fun r l => D.dqa 0 (b + r) l (b + 256)) e_HS0_1_1 (p111 D (p96 D) h_q_12 h_q_16 h_q_18 h_q_19 h_q_20 h_v124)
  have H_HS0_1_1_1 := other e_HS0_1_1 H_L0_1
  have h_q_11 := at2 e_q_11 (p82 D p67 h_q_8 h_q_9)
  have h_q_13 := at2 e_q_13 (p98 D hV0)
  have h_q_23 := at2 e_q_23 (p116 D h_q_1 h_q_12)
  have h_q_14 := at2 e_q_14 (p103 D p68 h_q_0 (p96 D) hK0)
  have h_q_15 := at2 e_q_15 (p104 D h_v98)
  have H_HS1_1_1_0 := put0 arg11 (fun r _ => D.cp 0 (b + r) (b + 256)) e_HS1_1_1 (p114 D h_q_14 h_q_15)
  have H_HS1_1_1_1 := other e_HS1_1_1 H_L1_1
  have h_v168 := cov0 e_v168 H_HS1_1_1_1
  have H_HS2_1_1_0 := put0 arg12 (fun r _ => D.cg 0 (b + r) (b + 256)) e_HS2_1_1 (p115 D h_q_16 h_q_18 h_q_19)
  have H_HS2_1_1_1 := other e_HS2_1_1 H_L2_1
  have h_v170 := cov0 e_v170 H_HS2_1_1_1
  have h_q_30 := at2 e_q_30 (p126 D p68 p69 h_q_3 h_q_11 (p96 D) h_q_13 h_q_23 (p117 D) h_v168 h_v170)
  have h_v194 := cov0 e_v194 H_HS0_1_1_1
  have h_q_31 := at2 e_q_31 (p127 D h_v194)
  have H_HS0_2_1 := put0 arg10 (fun r l => D.dqa 1 (b + r) l (b + 256)) e_HS0_2 (p128 D h_q_12 h_q_30 h_q_31 h_cst_84)
  have H_HS0_2_0 := other e_HS0_2 H_HS0_1_1_0
  have h_q_32 := at2 e_q_32 (p134 D hK1)
  have h_q_33 := at2 e_q_33 (p135 D hV1)
  have h_q_34 := at2 e_q_34 (p138 D h_q_2)
  have h_q_35 := at2 e_q_35 (p140 D h_q_0 hK1)
  have h_q_36 := at2 e_q_36 (p141 D p68 h_q_0 hK1)
  have h_q_26 := at2 e_q_26 (p122 D h_v170)
  have h_q_28 := at2 e_q_28 (p124 D p68 h_q_3 h_q_11 (p96 D) h_q_13 h_q_23 (p117 D) h_v168)
  have h_q_29 := at2 e_q_29 (p125 D p68 p69 h_q_3 h_q_11 (p96 D) h_q_13 h_q_23 (p117 D) h_v168)
  have H_HS2_2_1 := put0 arg12 (fun r _ => D.cg 1 (b + r) (b + 256)) e_HS2_2 (p130 D h_q_26 h_q_28 h_q_29)
  have H_HS2_2_0 := other e_HS2_2 H_HS2_1_1_0
  have h_v273 := covAt e_v273 H_HS2_2_0
  have h_q_38 := at2 e_q_38 (p143 D h_v273)
  have h_q_24 := at2 e_q_24 (p120 D p68 (p96 D) h_q_23 (p117 D))
  have h_q_25 := at2 e_q_25 (p121 D h_v168)
  have H_HS1_2_1 := put0 arg11 (fun r _ => D.cp 1 (b + r) (b + 256)) e_HS1_2 (p129 D h_q_24 h_q_25)
  have H_HS1_2_0 := other e_HS1_2 H_HS1_1_1_0
  have h_v271 := covAt e_v271 H_HS1_2_0
  have h_q_39 := at2 e_q_39 (p144 D h_q_10 h_v271)
  have h_v298 := covAt e_v298 H_HS0_2_0
  have H_HS0_3_0 := put (fun r l => D.dqa 0 (b + r) l (b + 512)) e_HS0_3 H_HS0_2_0 (fun _ _ h => (D.dqa_skip (S := (b + 256)) (by omega)).symm) (p149 D p69 (p133 D) h_q_32 h_q_33 h_q_34 h_q_35 h_q_36 h_q_38 h_q_39 h_v298)
  have H_HS0_3_1 := other e_HS0_3 H_HS0_2_1
  have h_q_44 := at2 e_q_44 (p155 D h_q_1 h_q_32)
  have h_q_40 := at2 e_q_40 (p146 D (p133 D) h_q_33 h_q_34 h_q_35 h_q_36 h_q_39)
  have h_q_41 := at2 e_q_41 (p147 D p69 (p133 D) h_q_33 h_q_34 h_q_35 h_q_36 h_q_39)
  have H_HS2_3_0 := put (fun r _ => D.cg 0 (b + r) (b + 512)) e_HS2_3 H_HS2_2_0 (fun _ _ h => (D.cg_skip (S := (b + 256)) (by omega)).symm) (p153 D h_q_38 h_q_40 h_q_41)
  have H_HS2_3_1 := other e_HS2_3 H_HS2_2_1
  have h_v348 := covAt e_v348 H_HS2_3_1
  have h_q_47 := at2 e_q_47 (p158 D h_v348)
  have h_q_37 := at2 e_q_37 (p142 D h_v271)
  have H_HS1_3_0 := put (fun r _ => D.cp 0 (b + r) (b + 512)) e_HS1_3 H_HS1_2_0 (fun _ _ h => (D.cp_skip (S := (b + 256)) (by omega)).symm) (p152 D h_q_36 h_q_37)
  have H_HS1_3_1 := other e_HS1_3 H_HS1_2_1
  have h_v346 := covAt e_v346 H_HS1_3_1
  have h_q_49 := at2 e_q_49 (p160 D p68 h_q_1 h_q_3 h_q_11 (p133 D) h_q_32 h_q_33 h_v346)
  have h_q_50 := at2 e_q_50 (p161 D p68 h_q_1 h_q_3 h_q_11 (p133 D) h_q_32 h_q_33 h_v346)
  have h_v373 := covAt e_v373 H_HS0_3_1
  have H_HS0_4_1 := put (fun r l => D.dqa 1 (b + r) l (b + 512)) e_HS0_4 H_HS0_3_1 (fun _ _ h => (D.dqa_skip (S := (b + 256)) (by omega)).symm) (p164 D p69 (p133 D) h_q_32 h_q_44 h_q_47 h_q_49 h_q_50 h_cst_150 h_v373)
  have H_HS0_4_0 := other e_HS0_4 H_HS0_3_0
  have h_q_54 := at2 e_q_54 (p173 D hK2)
  have h_q_55 := at2 e_q_55 (p174 D hV2)
  have h_q_56 := at2 e_q_56 (p177 D h_q_2)
  have h_q_57 := at2 e_q_57 (p179 D h_q_0 hK2)
  have h_q_58 := at2 e_q_58 (p180 D h_q_0 hK2)
  have h_q_45 := at2 e_q_45 (p156 D p68 h_q_1 (p133 D) h_q_32)
  have h_q_46 := at2 e_q_46 (p157 D h_v346)
  have H_HS1_4_1 := put (fun r _ => D.cp 1 (b + r) (b + 512)) e_HS1_4 H_HS1_3_1 (fun _ _ h => (D.cp_skip (S := (b + 256)) (by omega)).symm) (p167 D h_q_45 h_q_46)
  have H_HS1_4_0 := other e_HS1_4 H_HS1_3_0
  have h_v452 := covAt e_v452 H_HS1_4_0
  have h_q_53 := at2 e_q_53 (p168 D p69 h_q_47 h_q_49 h_q_50 h_cst_150)
  have H_HS2_4_1 := put (fun r _ => D.cg 1 (b + r) (b + 512)) e_HS2_4 H_HS2_3_1 (fun _ _ h => (D.cg_skip (S := (b + 256)) (by omega)).symm) (p169 D h_q_53)
  have H_HS2_4_0 := other e_HS2_4 H_HS2_3_0
  have h_v454 := covAt e_v454 H_HS2_4_0
  have h_v479 := covAt e_v479 H_HS0_4_0
  have h_q_66 := at2 e_q_66 (p188 D p68 p69 h_q_10 (p172 D) h_q_54 h_q_55 h_q_56 h_q_57 h_q_58 h_cst_181 h_v452 h_v454 h_v479)
  have H_HS0_5_0 := put (fun r l => D.dqa 0 (b + r) l (b + 768)) e_HS0_5 H_HS0_4_0 (fun _ _ h => (D.dqa_skip (S := (b + 512)) (by omega)).symm) (p189 D h_q_66)
  have H_HS0_5_1 := other e_HS0_5 H_HS0_4_1
  have h_q_69 := at2 e_q_69 (p194 D h_q_3)
  have h_q_70 := at2 e_q_70 (p196 D h_q_1 h_q_54)
  have h_q_71 := at2 e_q_71 (p197 D p68 h_q_1 (p172 D) h_q_54)
  have h_q_59 := at2 e_q_59 (p181 D p68 (p172 D) h_q_58 h_cst_181)
  have h_q_60 := at2 e_q_60 (p182 D h_v452)
  have H_HS1_5_0 := put (fun r _ => D.cp 0 (b + r) (b + 768)) e_HS1_5 H_HS1_4_0 (fun _ _ h => (D.cp_skip (S := (b + 512)) (by omega)).symm) (p192 D h_q_59 h_q_60)
  have H_HS1_5_1 := other e_HS1_5 H_HS1_4_1
  have h_v527 := covAt e_v527 H_HS1_5_1
  have h_q_61 := at2 e_q_61 (p183 D h_v454)
  have h_q_63 := at2 e_q_63 (p185 D p68 h_q_10 (p172 D) h_q_55 h_q_56 h_q_57 h_q_58 h_cst_181 h_v452)
  have h_q_64 := at2 e_q_64 (p186 D p68 p69 h_q_10 (p172 D) h_q_55 h_q_56 h_q_57 h_q_58 h_cst_181 h_v452)
  have H_HS2_5_0 := put (fun r _ => D.cg 0 (b + r) (b + 768)) e_HS2_5 H_HS2_4_0 (fun _ _ h => (D.cg_skip (S := (b + 512)) (by omega)).symm) (p193 D h_q_61 h_q_63 h_q_64)
  have H_HS2_5_1 := other e_HS2_5 H_HS2_4_1
  have h_v529 := covAt e_v529 H_HS2_5_1
  have h_v554 := covAt e_v554 H_HS0_5_1
  have H_HS0_6_1 := put (fun r l => D.dqa 1 (b + r) l (b + 768)) e_HS0_6 H_HS0_5_1 (fun _ _ h => (D.dqa_skip (S := (b + 512)) (by omega)).symm) (p204 D p69 h_q_11 (p172 D) h_q_54 h_q_55 h_q_69 h_q_70 h_q_71 h_v527 h_v529 h_v554)
  have H_HS0_6_0 := other e_HS0_6 H_HS0_5_0
  have h_q_78 := at2 e_q_78 (p212 D hK3)
  have h_q_73 := at2 e_q_73 (p199 D h_v529)
  have h_q_74 := at2 e_q_74 (p201 D h_q_11 (p172 D) h_q_55 h_q_69 h_q_70 h_q_71 h_v527)
  have h_q_75 := at2 e_q_75 (p202 D p69 h_q_11 (p172 D) h_q_55 h_q_69 h_q_70 h_q_71 h_v527)
  have H_HS2_6_1 := put (fun r _ => D.cg 1 (b + r) (b + 768)) e_HS2_6 H_HS2_5_1 (fun _ _ h => (D.cg_skip (S := (b + 512)) (by omega)).symm) (p208 D h_q_73 h_q_74 h_q_75)
  have H_HS2_6_0 := other e_HS2_6 H_HS2_5_0
  have h_v635 := covAt e_v635 H_HS2_6_0
  have h_q_82 := at2 e_q_82 (p220 D h_v635)
  have h_q_72 := at2 e_q_72 (p198 D h_v527)
  have H_HS1_6_1 := put (fun r _ => D.cp 1 (b + r) (b + 768)) e_HS1_6 H_HS1_5_1 (fun _ _ h => (D.cp_skip (S := (b + 512)) (by omega)).symm) (p207 D h_q_71 h_q_72)
  have H_HS1_6_0 := other e_HS1_6 H_HS1_5_0
  have h_v633 := covAt e_v633 H_HS1_6_0
  have h_q_84 := at2 e_q_84 (p222 D p68 h_q_0 h_q_2 h_q_10 (p211 D) h_q_78 hV3 h_v633)
  have h_q_85 := at2 e_q_85 (p223 D p68 p69 h_q_0 h_q_2 h_q_10 (p211 D) h_q_78 hV3 h_v633)
  have h_q_86 := at2 e_q_86 (p224 D h_q_0 h_q_78)
  have h_v660 := covAt e_v660 H_HS0_6_0
  have H_HS0_7_0 := put (fun r l => D.dqa 0 (b + r) l (b + 1024)) e_HS0_7 H_HS0_6_0 (fun _ _ h => (D.dqa_skip (S := (b + 768)) (by omega)).symm) (p226 D (p211 D) h_q_78 h_q_82 h_q_84 h_q_85 h_q_86 h_v660)
  have H_HS0_7_1 := other e_HS0_7 H_HS0_6_1
  have h_q_79 := at2 e_q_79 (p213 D hV3)
  have h_q_89 := at2 e_q_89 (p231 D h_q_1)
  have h_q_90 := at2 e_q_90 (p232 D h_q_3)
  have h_q_80 := at2 e_q_80 (p218 D p68 h_q_0 (p211 D) h_q_78)
  have h_q_81 := at2 e_q_81 (p219 D h_v633)
  have H_HS1_7_0 := put (fun r _ => D.cp 0 (b + r) (b + 1024)) e_HS1_7 H_HS1_6_0 (fun _ _ h => (D.cp_skip (S := (b + 768)) (by omega)).symm) (p229 D h_q_80 h_q_81)
  have H_HS1_7_1 := other e_HS1_7 H_HS1_6_1
  have h_v708 := covAt e_v708 H_HS1_7_1
  have H_HS2_7_0 := put (fun r _ => D.cg 0 (b + r) (b + 1024)) e_HS2_7 H_HS2_6_0 (fun _ _ h => (D.cg_skip (S := (b + 768)) (by omega)).symm) (p230 D h_q_82 h_q_84 h_q_85)
  have H_HS2_7_1 := other e_HS2_7 H_HS2_6_1
  have h_v710 := covAt e_v710 H_HS2_7_1
  have h_q_97 := at2 e_q_97 (p241 D p68 p69 h_q_11 (p211 D) h_q_78 h_q_79 h_q_89 h_q_90 h_cst_279 h_v708 h_v710)
  have h_v735 := covAt e_v735 H_HS0_7_1
  have H_HS0_8_1 := put (fun r l => D.dqa 1 (b + r) l (b + 1024)) e_HS0_8 H_HS0_7_1 (fun _ _ h => (D.dqa_skip (S := (b + 768)) (by omega)).symm) (p242 D h_q_78 h_q_97 h_v735)
  have H_HS0_8_0 := other e_HS0_8 H_HS0_7_0
  have h_q_21 := at2 e_q_21 (p112 D h_q_4 (p96 D) (p99 D) h_q_16 h_q_18 h_q_19 h_q_20)
  have h_v223 := at2 (t := .f32) e_v223 hkt0
  have H_HS3_1 := putT 0 (fun l s n => -D.dk l s n) o6_0 e_HS3_1 H_L3 (p131 D h_q_5 h_q_21 h_q_30 h_v223)
  have hkt1 := colT 1 (fun l s n => -D.dk l s n) o6_1 H_HS3_1
  have h_q_42 := at2 e_q_42 (p150 D p69 h_q_4 (p133 D) h_q_33 (p136 D) h_q_34 h_q_35 h_q_36 h_q_38 h_q_39)
  have h_q_51 := at2 e_q_51 (p165 D p69 h_q_5 (p133 D) h_q_42 h_q_44 h_q_47 h_q_49 h_q_50 h_cst_150)
  have H_HS3_2 := putT 1 (fun l s n => -D.dk l s n) o6_1 e_HS3_2 H_HS3_1 (p170 D h_q_51 hkt1)
  have hkt2 := colT 2 (fun l s n => -D.dk l s n) o6_2 H_HS3_2
  have h_q_65 := at2 e_q_65 (p187 D p68 p69 h_q_10 (p172 D) h_q_55 h_q_56 h_q_57 h_q_58 h_cst_181 h_v452 h_v454)
  have h_q_67 := at2 e_q_67 (p190 D h_q_4 (p175 D) h_q_65)
  have h_q_76 := at2 e_q_76 (p205 D p69 h_q_5 h_q_11 (p172 D) h_q_55 h_q_67 h_q_69 h_q_70 h_q_71 h_v527 h_v529)
  have H_HS3_3 := putT 2 (fun l s n => -D.dk l s n) o6_2 e_HS3_3 H_HS3_2 (p209 D h_q_76 hkt2)
  have hkt3 := colT 3 (fun l s n => -D.dk l s n) o6_3 H_HS3_3
  have h_q_17 := at2 e_q_17 (p106 D p68 h_q_0 h_q_10 (p96 D) hK0 h_v98)
  have h_q_22 := at2 e_q_22 (p113 D h_q_6 (p100 D) h_q_17)
  have h_q_27 := at2 e_q_27 (p123 D p68 h_q_11 (p96 D) h_q_23 (p117 D) h_v168)
  have h_v230 := at2 (t := .f32) e_v230 hvt0
  have H_HS4_1 := putT 0 D.dv o6_0 e_HS4_1 H_L4 (p132 D h_q_7 h_q_22 h_q_27 h_v230)
  have hvt1 := colT 1 D.dv o6_1 H_HS4_1
  have h_q_43 := at2 e_q_43 (p151 D h_q_6 (p133 D) (p137 D) h_q_35 h_q_36 h_q_39)
  have h_q_48 := at2 e_q_48 (p159 D p68 h_q_1 h_q_11 (p133 D) h_q_32 h_v346)
  have h_q_52 := at2 e_q_52 (p166 D h_q_7 h_q_43 h_q_48)
  have H_HS4_2 := putT 1 D.dv o6_1 e_HS4_2 H_HS4_1 (p171 D h_q_52 hvt1)
  have hvt2 := colT 2 D.dv o6_2 H_HS4_2
  have h_q_62 := at2 e_q_62 (p184 D p68 h_q_10 (p172 D) h_q_57 h_q_58 h_cst_181 h_v452)
  have h_q_68 := at2 e_q_68 (p191 D h_q_6 (p176 D) h_q_62)
  have h_q_77 := at2 e_q_77 (p206 D h_q_7 h_q_11 (p172 D) h_q_68 h_q_70 h_q_71 h_v527)
  have H_HS4_3 := putT 2 D.dv o6_2 e_HS4_3 H_HS4_2 (p210 D h_q_77 hvt2)
  have hvt3 := colT 3 D.dv o6_3 H_HS4_3
  have h_q_83 := at2 e_q_83 (p221 D p68 h_q_0 h_q_10 (p211 D) h_q_78 h_v633)
  have h_q_87 := at2 e_q_87 (p227 D h_q_4 (p211 D) (p214 D) h_q_82 h_q_84 h_q_85 h_q_86)
  have h_q_88 := at2 e_q_88 (p228 D h_q_6 (p215 D) h_q_83)
  have h_q_94 := at2 e_q_94 (p238 D p68 h_q_11 (p211 D) h_q_78 h_q_89 h_cst_279 h_v708)
  have h_q_98 := at2 e_q_98 (p246 D h_q_7 h_q_88 h_q_94 hvt3)
  have h_v779 := cov0 e_v779 H_HS0_8_0
  have h_v781 := cov0 e_v781 H_HS0_8_1
  have H_HS3_4 := putT 3 (fun l s n => -D.dk l s n) o6_3 e_HS3_4 H_HS3_3 (p245 D h_q_5 h_q_87 h_q_97 hkt3)
  have H_HS4_4 := putT 3 D.dv o6_3 e_HS4_4 H_HS4_3 (fun l s => (p1 _ l s).trans (h_q_98 l s))
  exact ⟨p2 D p67 h_v779 h_v781, H_HS3_4, H_HS4_4⟩

end Cert.SbProof
end
-- ==== Proof.SbStart.lean ====
module

public import proofs.«01_k».proof.Proof.SbIns
public import proofs.«01_k».proof.Proof.SbPayS

/-! The attention's backward kernel before its first key block: what it computes of its blocks, and its buffers filled with zeros. -/

@[expose] public section
noncomputable section

namespace Cert.SbProof
open Idealize.ShloMosaic Idealize.ShloMosaic.TcCoe
open Cert.SbKernelIdeal Cert.SbKernelIdeal.Gen Cert.SbMath Cert.SbMath.Dat

variable {κ : Kind} {sp : Space}

/-- A store of both heads' rows, read back. -/
theorem fill3 (v : View sig κ sp S2x1024x128 .f32) (f : v.ty.Contents (Elt Ideal))
    (inb : ∀ a, (![0, 0, 0] : Fin 3 → ℕ) a + S2x1024x128.size a ≤ S2x1024x128.size a) (pay : Vec Ideal S2x1024x128 .f32)
    (w : Fin 2) (r : Fin 1024) (l : Fin 128) :
    v.read (Elt Ideal) (v.writes (Elt Ideal) f [(⟨Rect.unit (s := S2x1024x128) ![0, 0, 0] S2x1024x128.size inb, pay⟩ : View.Piece (Elt Ideal) S2x1024x128 .f32)]) (ix3 w r l)
      = pay (ix3 w r l) := by
  refine View.read_writes_cons_unit_of_mem v f inb pay [] (ix3 w r l) (ix3 w r l) rfl fun a => ?_
  fin_cases a
  · show w.val = 0 + w.val; omega
  · show r.val = 0 + r.val; omega
  · show l.val = 0 + l.val; omega

/-- A store of the whole transposed buffer, read back. -/
theorem fillT (v : View sig κ sp S128x4096 .f32) (f : v.ty.Contents (Elt Ideal))
    (inb : ∀ a, (![0, 0] : Fin 2 → ℕ) a + S128x4096.size a ≤ S128x4096.size a) (pay : Vec Ideal S128x4096 .f32)
    (l : Fin 128) (s : Fin 4096) :
    v.read (Elt Ideal) (v.writes (Elt Ideal) f [(⟨Rect.unit (s := S128x4096) ![0, 0] S128x4096.size inb, pay⟩ : View.Piece (Elt Ideal) S128x4096 .f32)]) (ix2 l s)
      = pay (ix2 l s) := by
  refine View.read_writes_cons_unit_of_mem v f inb pay [] (ix2 l s) (ix2 l s) rfl fun a => ?_
  fin_cases a
  · show l.val = 0 + l.val; omega
  · show s.val = 0 + s.val; omega

/-- The values computed of the query rows, their cotangents and their sums of logarithms. -/
theorem ins (D : Dat) {b : ℕ} {v71 v73 v79 : FVec Ideal S1024x128 .f32} {q_0 q_1 q_2 q_3 : FVec Ideal S1024x128 .bf16}
    {q_4 q_5 q_6 q_7 : FVec Ideal S128x1024 .bf16} {q_8 q_9 q_10 : FVec Ideal S1024x128 .f32}
    (hQ : ∀ (r : Fin 1024) (l : Fin 128), v71 (ix2 r l) = ((D.Q (b + ↑r) ↑l : ℝ) : EReal))
    (hDY : ∀ (r : Fin 1024) (l : Fin 128), v73 (ix2 r l) = ((D.DY (b + ↑r) ↑l : ℝ) : EReal))
    (hT : ∀ (r : Fin 1024) (l : Fin 128), v79 (ix2 r l) = ((D.T (b + ↑r) (↑l / 64) : ℝ) : EReal))
    (e_q_0 : q_0 = k0_pay71 v71) (e_q_1 : q_1 = k0_pay72 v71) (e_q_2 : q_2 = k0_pay73 v73) (e_q_3 : q_3 = k0_pay74 v73)
    (e_q_4 : q_4 = k0_pay75 v71) (e_q_5 : q_5 = k0_pay76 v71) (e_q_6 : q_6 = k0_pay77 v73) (e_q_7 : q_7 = k0_pay78 v73)
    (e_q_8 : q_8 = k0_pay79 v79) (e_q_9 : q_9 = k0_pay80 v79) (e_q_10 : q_10 = k0_pay81 v79) :
    Ins D b k0_pay67 k0_pay68 k0_pay69 q_0 q_1 q_2 q_3 q_4 q_5 q_6 q_7 q_8 q_9 q_10 := by
  subst e_q_0 e_q_1 e_q_2 e_q_3 e_q_4 e_q_5 e_q_6 e_q_7 e_q_8 e_q_9 e_q_10
  exact ⟨p67, p68, p69, p71 D hQ, p72 D hQ, p73 D hDY, p74 D hDY, p75 D hQ, p76 D hQ, p77 D hDY, p78 D hDY, p79 D hT, p80 D hT, p81 D hT⟩

/-- The buffers before the first key block. -/
theorem start (D : Dat) {b : ℕ} {arg10 arg11 arg12 : Memref sig .tc .vmem S2x1024x128 .f32} {arg13 arg14 : Memref sig .tc .vmem S128x4096 .f32}
    {f13 : BufTy.Contents (Elt Ideal) arg13.view.ty} {f14 : BufTy.Contents (Elt Ideal) arg14.view.ty}
    {L0 L1 L2 : List (View.Piece (Elt Ideal) S2x1024x128 .f32)}
    (e0 : L0 = [(⟨Rect.unit (s := S2x1024x128) ![0, 0, 0] S2x1024x128.size inb_S2x1024x128_S2x1024x128_0_0_0, k0_pay83 (F := Ideal)⟩ : View.Piece (Elt Ideal) S2x1024x128 .f32)])
    (e1 : L1 = [(⟨Rect.unit (s := S2x1024x128) ![0, 0, 0] S2x1024x128.size inb_S2x1024x128_S2x1024x128_0_0_0, k0_pay84 (F := Ideal)⟩ : View.Piece (Elt Ideal) S2x1024x128 .f32)])
    (e2 : L2 = [(⟨Rect.unit (s := S2x1024x128) ![0, 0, 0] S2x1024x128.size inb_S2x1024x128_S2x1024x128_0_0_0, k0_pay85 (F := Ideal)⟩ : View.Piece (Elt Ideal) S2x1024x128 .f32)])
    (h13 : HoldT arg13 f13 (fun l s => -D.dk l s b)) (h14 : HoldT arg14 f14 (fun l s => D.dv l s b)) :
    St D b 0 arg10 arg11 arg12 arg13 arg14 (arg10.view.writes (Elt Ideal) arg10.view.junk L0) (arg11.view.writes (Elt Ideal) arg11.view.junk L1)
      (arg12.view.writes (Elt Ideal) arg12.view.junk L2) f13 f14 := by
  subst e0 e1 e2
  have z {x : EReal} {y : ℝ} (h : x = 0) (hy : y = 0) : x = ((y : ℝ) : EReal) := by rw [h, hy, EReal.coe_zero]
  refine ⟨fun r l => ?_, fun r l => ?_, fun r l => ?_, fun r l => ?_, fun r l => ?_, fun r l => ?_, fun l s => ?_, fun l s => ?_⟩
  · exact (fill3 arg10.view _ _ _ 0 r l).trans (z (p83 _ r l) rfl)
  · exact (fill3 arg10.view _ _ _ 1 r l).trans (z (p83 _ r l) rfl)
  · exact (fill3 arg11.view _ _ _ 0 r l).trans (z (p84 _ r l) rfl)
  · exact (fill3 arg11.view _ _ _ 1 r l).trans (z (p84 _ r l) rfl)
  · exact (fill3 arg12.view _ _ _ 0 r l).trans (z (p85 _ r l) rfl)
  · exact (fill3 arg12.view _ _ _ 1 r l).trans (z (p85 _ r l) rfl)
  · rw [h13 l s]
    show ((-D.dk l s b : ℝ) : EReal) = ((-D.dk l s (if (s : ℕ) < 0 then b + 1024 else b) : ℝ) : EReal)
    rw [if_neg (Nat.not_lt_zero _)]
  · rw [h14 l s]
    show ((D.dv l s b : ℝ) : EReal) = ((D.dv l s (if (s : ℕ) < 0 then b + 1024 else b) : ℝ) : EReal)
    rw [if_neg (Nat.not_lt_zero _)]

/-- At the first query block the transposed buffers hold zeros. -/
theorem startK (D : Dat) {b : ℕ} (hb : b = 0) {arg13 : Memref sig .tc .vmem S128x4096 .f32} {f : BufTy.Contents (Elt Ideal) arg13.view.ty}
    {L : List (View.Piece (Elt Ideal) S128x4096 .f32)}
    (e : L = [(⟨Rect.unit (s := S128x4096) ![0, 0] S128x4096.size inb_S128x4096_S128x4096_0_0, k0_pay86 (F := Ideal)⟩ : View.Piece (Elt Ideal) S128x4096 .f32)]) :
    HoldT arg13 (arg13.view.writes (Elt Ideal) f L) (fun l s => -D.dk l s b) := by
  subst e
  intro l s
  rw [fillT arg13.view f _ _ l s, p86 l s]
  show (0 : EReal) = ((-D.dk l s b : ℝ) : EReal)
  rw [D.dk_zero (by omega), neg_zero, EReal.coe_zero]

/-- The same of the values' cotangents. -/
theorem startV (D : Dat) {b : ℕ} (hb : b = 0) {arg14 : Memref sig .tc .vmem S128x4096 .f32} {f : BufTy.Contents (Elt Ideal) arg14.view.ty}
    {L : List (View.Piece (Elt Ideal) S128x4096 .f32)}
    (e : L = [(⟨Rect.unit (s := S128x4096) ![0, 0] S128x4096.size inb_S128x4096_S128x4096_0_0, k0_pay87 (F := Ideal)⟩ : View.Piece (Elt Ideal) S128x4096 .f32)]) :
    HoldT arg14 (arg14.view.writes (Elt Ideal) f L) (fun l s => D.dv l s b) := by
  subst e
  intro l s
  rw [fillT arg14.view f _ _ l s, p87 l s]
  show (0 : EReal) = ((D.dv l s b : ℝ) : EReal)
  rw [D.dv_zero (by omega), EReal.coe_zero]

end Cert.SbProof
end
-- ==== Proof.SbCaseA.lean ====
module

public import proofs.«01_k».proof.Proof.SbDiag
public import proofs.«01_k».proof.Proof.SbStart
public import proofs.«01_k».proof.Proof.Gen.SbKernelIdeal.Value

/-! The attention's backward kernel at a first query block of a head pair: the three results it leaves. -/

@[expose] public section
set_option maxRecDepth 16384
noncomputable section

namespace Cert.SbProof
open Idealize.ShloMosaic Idealize.ShloMosaic.TcCoe
open Cert.SbKernelIdeal Cert.SbKernelIdeal.Gen Cert.SbKernelIdeal.Gen.kernelRun0_A Cert.SbMath Cert.SbMath.Dat

/-- What the kernel leaves at a first query block. -/
theorem caseA (D : Dat) (c : Dev nD) (i : grid0.Coords) (a2 : Memref sig .tc .vmem S1024x128 .f32) (j2 : a2.IsWhole) (a3 : Memref sig .tc .vmem S4096x128 .f32) (j3 : a3.IsWhole) (a4 : Memref sig .tc .vmem S4096x128 .f32) (j4 : a4.IsWhole) (a5 : Memref sig .tc .vmem S1024x128 .f32) (j5 : a5.IsWhole) (a6 : Memref sig .tc .vmem S1024x128 .f32) (j6 : a6.IsWhole) (a7 : Memref sig .tc .vmem S1024x128 .bf16) (j7 : a7.IsWhole) (a8 : Memref sig .tc .vmem S4096x128 .bf16) (j8 : a8.IsWhole) (a9 : Memref sig .tc .vmem S4096x128 .bf16) (j9 : a9.IsWhole) (a10 : Memref sig .tc .vmem S2x1024x128 .f32) (j10 : a10.IsWhole) (a11 : Memref sig .tc .vmem S2x1024x128 .f32) (j11 : a11.IsWhole) (a12 : Memref sig .tc .vmem S2x1024x128 .f32) (j12 : a12.IsWhole) (a13 : Memref sig .tc .vmem S128x4096 .f32) (j13 : a13.IsWhole) (a14 : Memref sig .tc .vmem S128x4096 .f32) (j14 : a14.IsWhole)
    (x0 : Vec Ideal S1024x128 .f32) (x1 x2 : Vec Ideal S4096x128 .f32) (x3 x4 : Vec Ideal S1024x128 .f32)
    {b : ℕ} (hb : b = 1024 * (i 1).val)
    (hx0 : ∀ (r : Fin 1024) (l : Fin 128), x0 (ix2 r l) = ((D.Q (b + ↑r) ↑l : ℝ) : EReal))
    (hx1 : ∀ (s : Fin 4096) (l : Fin 128), x1 (ix2 s l) = ((D.K ↑s ↑l : ℝ) : EReal))
    (hx2 : ∀ (s : Fin 4096) (l : Fin 128), x2 (ix2 s l) = ((D.V ↑s ↑l : ℝ) : EReal))
    (hx3 : ∀ (r : Fin 1024) (l : Fin 128), x3 (ix2 r l) = ((D.T (b + ↑r) (↑l / 64) : ℝ) : EReal))
    (hx4 : ∀ (r : Fin 1024) (l : Fin 128), x4 (ix2 r l) = ((D.DY (b + ↑r) ↑l : ℝ) : EReal))
    (h0 : b = 0) :
    (∀ (r : Fin 1024) (l : Fin 128), k0_pay2 k0_pay67 (sl.v779 c i a2 j2 a3 j3 a4 j4 a5 j5 a6 j6 a7 j7 a8 j8 a9 j9 a10 j10 a11 j11 a12 j12 a13 j13 a14 j14 x0 x1 x2 x3 x4) (sl.v781 c i a2 j2 a3 j3 a4 j4 a5 j5 a6 j6 a7 j7 a8 j8 a9 j9 a10 j10 a11 j11 a12 j12 a13 j13 a14 j14 x0 x1 x2 x3 x4) (ix2 r l) = ((D.dqa (↑l / 64) (b + ↑r) ↑l (b + 1024) * (1 / 8) : ℝ) : EReal))
    ∧ HoldT a13 (a13.view.writes (Elt Ideal) a13.view.junk ((⟨Rect.unit (s := S128x4096) (k0_off6 i 3#32) S128x256.size (k0_off6_inb i 3), k0_pay245 (sl.r_5 c a2 j2 x0) (sl.r_87 c i a2 j2 a3 j3 a4 j4 a5 j5 a6 j6 a7 j7 a8 j8 a9 j9 a10 j10 a11 j11 a12 j12 a13 j13 a14 j14 x0 x1 x2 x3 x4) (sl.r_97 c i a2 j2 a3 j3 a4 j4 a5 j5 a6 j6 a7 j7 a8 j8 a9 j9 a10 j10 a11 j11 a12 j12 a13 j13 a14 j14 x0 x1 x2 x3 x4) (View.readAt (Elt Ideal) a13.view (Rect.unit (s := S128x4096) (k0_off6 i 3#32) S128x256.size (k0_off6_inb i 3)).toLoadRect (a13.view.writes (Elt Ideal) a13.view.junk (sl.HS3_3 c i a2 j2 a3 j3 a4 j4 a5 j5 a6 j6 a7 j7 a8 j8 a9 j9 a10 j10 a11 j11 a12 j12 a13 j13 a14 j14 x0 x1 x2 x3 x4)))⟩ : View.Piece (Elt Ideal) S128x4096 .f32) :: (sl.HS3_3 c i a2 j2 a3 j3 a4 j4 a5 j5 a6 j6 a7 j7 a8 j8 a9 j9 a10 j10 a11 j11 a12 j12 a13 j13 a14 j14 x0 x1 x2 x3 x4))) (fun l s => -D.dk l s (if s < b + 1024 then b + 1024 else b))
    ∧ HoldT a14 (a14.view.writes (Elt Ideal) a14.view.junk ((⟨Rect.unit (s := S128x4096) (k0_off6 i 3#32) S128x256.size (k0_off6_inb i 3), k0_pay1 (sl.r_98 c i a2 j2 a3 j3 a4 j4 a5 j5 a6 j6 a7 j7 a8 j8 a9 j9 a10 j10 a11 j11 a12 j12 a13 j13 a14 j14 x0 x1 x2 x3 x4)⟩ : View.Piece (Elt Ideal) S128x4096 .f32) :: (sl.HS4_3 c i a2 j2 a3 j3 a4 j4 a5 j5 a6 j6 a7 j7 a8 j8 a9 j9 a10 j10 a11 j11 a12 j12 a13 j13 a14 j14 x0 x1 x2 x3 x4))) (fun l s => D.dv l s (if s < b + 1024 then b + 1024 else b)) := by
  have hX2 : ∀ (r : Fin 1024) (l : Fin 128), a2.view.read (Elt Ideal) (j2.unread x0) (ix2 r l) = ((D.Q (b + ↑r) ↑l : ℝ) : EReal) := by
    rw [j2.read_unread x0]; exact hx0
  have hX3 : ∀ (s : Fin 4096) (l : Fin 128), a3.view.read (Elt Ideal) (j3.unread x1) (ix2 s l) = ((D.K ↑s ↑l : ℝ) : EReal) := by
    rw [j3.read_unread x1]; exact hx1
  have hX4 : ∀ (s : Fin 4096) (l : Fin 128), a4.view.read (Elt Ideal) (j4.unread x2) (ix2 s l) = ((D.V ↑s ↑l : ℝ) : EReal) := by
    rw [j4.read_unread x2]; exact hx2
  have hX5 : ∀ (r : Fin 1024) (l : Fin 128), a5.view.read (Elt Ideal) (j5.unread x3) (ix2 r l) = ((D.T (b + ↑r) (↑l / 64) : ℝ) : EReal) := by
    rw [j5.read_unread x3]; exact hx3
  have hX6 : ∀ (r : Fin 1024) (l : Fin 128), a6.view.read (Elt Ideal) (j6.unread x4) (ix2 r l) = ((D.DY (b + ↑r) ↑l : ℝ) : EReal) := by
    rw [j6.read_unread x4]; exact hx4
  have I : Ins D b k0_pay67 k0_pay68 k0_pay69 (sl.r c a2 j2 x0) (sl.r_1 c a2 j2 x0) (sl.r_2 c a6 j6 x4) (sl.r_3 c a6 j6 x4) (sl.r_4 c a2 j2 x0) (sl.r_5 c a2 j2 x0) (sl.r_6 c a6 j6 x4) (sl.r_7 c a6 j6 x4) (sl.r_8 c a5 j5 x3) (sl.r_9 c a5 j5 x3) (sl.r_10 c a5 j5 x3) :=
    ins D (ldrz (n := 1024) a2.view (j2.unread x0) inb_S1024x128_S1024x128_0_0 (fun r l => D.Q (b + r) l) hX2)
      (ldrz (n := 1024) a6.view (j6.unread x4) inb_S1024x128_S1024x128_0_0 (fun r l => D.DY (b + r) l) hX6)
      (ldrz (n := 1024) a5.view (j5.unread x3) inb_S1024x128_S1024x128_0_0 (fun r l => D.T (b + r) (l / 64)) hX5)
      rfl rfl rfl rfl rfl rfl rfl rfl rfl rfl rfl
  have H0 : St D b 0 a10 a11 a12 a13 a14 (a10.view.writes (Elt Ideal) a10.view.junk (sl.HS0_1 )) (a11.view.writes (Elt Ideal) a11.view.junk (sl.HS1_1 ))
      (a12.view.writes (Elt Ideal) a12.view.junk (sl.HS2_1 )) (a13.view.writes (Elt Ideal) a13.view.junk (sl.HS3_1 )) (a14.view.writes (Elt Ideal) a14.view.junk (sl.HS4_1 )) :=
    start D rfl rfl rfl (startK D h0 rfl) (startV D h0 rfl)
  have H1 := loop_holds D Variants.none c none i a2 j2 a3 j3 a4 j4 a5 j5 a6 j6 a7 j7 a8 j8 a9 j9 a10 j10 a11 j11 a12 j12 a13 j13 a14 j14 (BitVec.ofNat 32 ↑(i 1)) k0_pay67 k0_pay68 k0_pay69 (sl.r c a2 j2 x0) (sl.r_1 c a2 j2 x0) (sl.r_2 c a6 j6 x4) (sl.r_3 c a6 j6 x4) (sl.r_4 c a2 j2 x0) (sl.r_5 c a2 j2 x0) (sl.r_6 c a6 j6 x4) (sl.r_7 c a6 j6 x4) (sl.r_8 c a5 j5 x3) (sl.r_9 c a5 j5 x3) (sl.r_10 c a5 j5 x3) (j3.unread x1) (j4.unread x2)
    _ _ _ _ _ hb I hX3 hX4 H0 (k0_t1_loop i).trips le_rfl
  rw [show 256 * (k0_t1_loop i).trips = b by rw [trips1, hb]; omega] at H1
  have e2 : Scf.trips (k0_t2_loop i).lb (k0_t2_loop i).ub (k0_t2_loop i).st = 0 := Nat.le_zero.1 (k0_t2_abs i).2.1
  refine diagonal D i hb a2 a3 a4 a5 a6 a10 a11 a12 a13 a14
    (j2.unread x0) (j3.unread x1) (j4.unread x2) (j5.unread x3) (j6.unread x4) a13.view.junk a14.view.junk
    (v779 := (sl.v779 c i a2 j2 a3 j3 a4 j4 a5 j5 a6 j6 a7 j7 a8 j8 a9 j9 a10 j10 a11 j11 a12 j12 a13 j13 a14 j14 x0 x1 x2 x3 x4))
    (v781 := (sl.v781 c i a2 j2 a3 j3 a4 j4 a5 j5 a6 j6 a7 j7 a8 j8 a9 j9 a10 j10 a11 j11 a12 j12 a13 j13 a14 j14 x0 x1 x2 x3 x4))
    (HS3_4 := ((⟨Rect.unit (s := S128x4096) (k0_off6 i 3#32) S128x256.size (k0_off6_inb i 3), k0_pay245 (sl.r_5 c a2 j2 x0) (sl.r_87 c i a2 j2 a3 j3 a4 j4 a5 j5 a6 j6 a7 j7 a8 j8 a9 j9 a10 j10 a11 j11 a12 j12 a13 j13 a14 j14 x0 x1 x2 x3 x4) (sl.r_97 c i a2 j2 a3 j3 a4 j4 a5 j5 a6 j6 a7 j7 a8 j8 a9 j9 a10 j10 a11 j11 a12 j12 a13 j13 a14 j14 x0 x1 x2 x3 x4) (View.readAt (Elt Ideal) a13.view (Rect.unit (s := S128x4096) (k0_off6 i 3#32) S128x256.size (k0_off6_inb i 3)).toLoadRect (a13.view.writes (Elt Ideal) a13.view.junk (sl.HS3_3 c i a2 j2 a3 j3 a4 j4 a5 j5 a6 j6 a7 j7 a8 j8 a9 j9 a10 j10 a11 j11 a12 j12 a13 j13 a14 j14 x0 x1 x2 x3 x4)))⟩ : View.Piece (Elt Ideal) S128x4096 .f32) :: (sl.HS3_3 c i a2 j2 a3 j3 a4 j4 a5 j5 a6 j6 a7 j7 a8 j8 a9 j9 a10 j10 a11 j11 a12 j12 a13 j13 a14 j14 x0 x1 x2 x3 x4)))
    (HS4_4 := ((⟨Rect.unit (s := S128x4096) (k0_off6 i 3#32) S128x256.size (k0_off6_inb i 3), k0_pay1 (sl.r_98 c i a2 j2 a3 j3 a4 j4 a5 j5 a6 j6 a7 j7 a8 j8 a9 j9 a10 j10 a11 j11 a12 j12 a13 j13 a14 j14 x0 x1 x2 x3 x4)⟩ : View.Piece (Elt Ideal) S128x4096 .f32) :: (sl.HS4_3 c i a2 j2 a3 j3 a4 j4 a5 j5 a6 j6 a7 j7 a8 j8 a9 j9 a10 j10 a11 j11 a12 j12 a13 j13 a14 j14 x0 x1 x2 x3 x4)))
    hX2 hX3 hX4 hX5 hX6 rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl (fun _ => Ideal.ofBits_zero .f32) rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl (Ideal.ofBits_zero .f32) rfl rfl rfl rfl rfl rfl rfl rfl rfl rfl rfl rfl rfl (fun _ => Ideal.ofBits_zero .f32) rfl rfl rfl rfl rfl rfl rfl rfl rfl rfl rfl rfl rfl rfl rfl rfl rfl rfl rfl rfl rfl rfl rfl rfl rfl rfl rfl rfl rfl rfl rfl (fun _ => Ideal.ofBits_zero .f32) rfl rfl rfl rfl rfl rfl rfl rfl rfl rfl rfl rfl rfl rfl rfl rfl rfl rfl rfl rfl ?_
  rw [e2, pb_k0_t2.eq_1]
  dsimp only [List.nil_append]
  simp only [View.writes_append]
  exact H1

end Cert.SbProof
end
-- ==== Proof.SbCaseB.lean ====
module

public import proofs.«01_k».proof.Proof.SbDiag
public import proofs.«01_k».proof.Proof.SbStart
public import proofs.«01_k».proof.Proof.Gen.SbKernelIdeal.Value

/-! The attention's backward kernel at a middle query block of a head pair: the three results it leaves. -/

@[expose] public section
set_option maxRecDepth 16384
noncomputable section

namespace Cert.SbProof
open Idealize.ShloMosaic Idealize.ShloMosaic.TcCoe
open Cert.SbKernelIdeal Cert.SbKernelIdeal.Gen Cert.SbKernelIdeal.Gen.kernelRun0_B Cert.SbMath Cert.SbMath.Dat

/-- What the kernel leaves at a middle query block. -/
theorem caseB (D : Dat) (c : Dev nD) (i : grid0.Coords) (a2 : Memref sig .tc .vmem S1024x128 .f32) (j2 : a2.IsWhole) (a3 : Memref sig .tc .vmem S4096x128 .f32) (j3 : a3.IsWhole) (a4 : Memref sig .tc .vmem S4096x128 .f32) (j4 : a4.IsWhole) (a5 : Memref sig .tc .vmem S1024x128 .f32) (j5 : a5.IsWhole) (a6 : Memref sig .tc .vmem S1024x128 .f32) (j6 : a6.IsWhole) (a7 : Memref sig .tc .vmem S1024x128 .bf16) (j7 : a7.IsWhole) (a8 : Memref sig .tc .vmem S4096x128 .bf16) (j8 : a8.IsWhole) (a9 : Memref sig .tc .vmem S4096x128 .bf16) (j9 : a9.IsWhole) (a10 : Memref sig .tc .vmem S2x1024x128 .f32) (j10 : a10.IsWhole) (a11 : Memref sig .tc .vmem S2x1024x128 .f32) (j11 : a11.IsWhole) (a12 : Memref sig .tc .vmem S2x1024x128 .f32) (j12 : a12.IsWhole) (a13 : Memref sig .tc .vmem S128x4096 .f32) (j13 : a13.IsWhole) (a14 : Memref sig .tc .vmem S128x4096 .f32) (j14 : a14.IsWhole)
    (x0 : Vec Ideal S1024x128 .f32) (x1 x2 : Vec Ideal S4096x128 .f32) (x3 x4 : Vec Ideal S1024x128 .f32) (xs3 xs4 : Vec Ideal S128x4096 .f32)
    {b : ℕ} (hb : b = 1024 * (i 1).val)
    (hx0 : ∀ (r : Fin 1024) (l : Fin 128), x0 (ix2 r l) = ((D.Q (b + ↑r) ↑l : ℝ) : EReal))
    (hx1 : ∀ (s : Fin 4096) (l : Fin 128), x1 (ix2 s l) = ((D.K ↑s ↑l : ℝ) : EReal))
    (hx2 : ∀ (s : Fin 4096) (l : Fin 128), x2 (ix2 s l) = ((D.V ↑s ↑l : ℝ) : EReal))
    (hx3 : ∀ (r : Fin 1024) (l : Fin 128), x3 (ix2 r l) = ((D.T (b + ↑r) (↑l / 64) : ℝ) : EReal))
    (hx4 : ∀ (r : Fin 1024) (l : Fin 128), x4 (ix2 r l) = ((D.DY (b + ↑r) ↑l : ℝ) : EReal))
    (hxs3 : ∀ (l : Fin 128) (s : Fin 4096), xs3 (ix2 l s) = ((-D.dk ↑l ↑s b : ℝ) : EReal))
    (hxs4 : ∀ (l : Fin 128) (s : Fin 4096), xs4 (ix2 l s) = ((D.dv ↑l ↑s b : ℝ) : EReal)) :
    (∀ (r : Fin 1024) (l : Fin 128), k0_pay2 k0_pay67 (sl.v779 c i a2 j2 a3 j3 a4 j4 a5 j5 a6 j6 a7 j7 a8 j8 a9 j9 a10 j10 a11 j11 a12 j12 a13 j13 a14 j14 x0 x1 x2 x3 x4 xs3 xs4) (sl.v781 c i a2 j2 a3 j3 a4 j4 a5 j5 a6 j6 a7 j7 a8 j8 a9 j9 a10 j10 a11 j11 a12 j12 a13 j13 a14 j14 x0 x1 x2 x3 x4 xs3 xs4) (ix2 r l) = ((D.dqa (↑l / 64) (b + ↑r) ↑l (b + 1024) * (1 / 8) : ℝ) : EReal))
    ∧ HoldT a13 (a13.view.writes (Elt Ideal) (j13.unread xs3) ((⟨Rect.unit (s := S128x4096) (k0_off6 i 3#32) S128x256.size (k0_off6_inb i 3), k0_pay245 (sl.r_5 c a2 j2 x0) (sl.r_87 c i a2 j2 a3 j3 a4 j4 a5 j5 a6 j6 a7 j7 a8 j8 a9 j9 a10 j10 a11 j11 a12 j12 a13 j13 a14 j14 x0 x1 x2 x3 x4 xs3 xs4) (sl.r_97 c i a2 j2 a3 j3 a4 j4 a5 j5 a6 j6 a7 j7 a8 j8 a9 j9 a10 j10 a11 j11 a12 j12 a13 j13 a14 j14 x0 x1 x2 x3 x4 xs3 xs4) (View.readAt (Elt Ideal) a13.view (Rect.unit (s := S128x4096) (k0_off6 i 3#32) S128x256.size (k0_off6_inb i 3)).toLoadRect (a13.view.writes (Elt Ideal) (j13.unread xs3) (sl.HS3_3 c i a2 j2 a3 j3 a4 j4 a5 j5 a6 j6 a7 j7 a8 j8 a9 j9 a10 j10 a11 j11 a12 j12 a13 j13 a14 j14 x0 x1 x2 x3 x4 xs3 xs4)))⟩ : View.Piece (Elt Ideal) S128x4096 .f32) :: (sl.HS3_3 c i a2 j2 a3 j3 a4 j4 a5 j5 a6 j6 a7 j7 a8 j8 a9 j9 a10 j10 a11 j11 a12 j12 a13 j13 a14 j14 x0 x1 x2 x3 x4 xs3 xs4))) (fun l s => -D.dk l s (if s < b + 1024 then b + 1024 else b))
    ∧ HoldT a14 (a14.view.writes (Elt Ideal) (j14.unread xs4) ((⟨Rect.unit (s := S128x4096) (k0_off6 i 3#32) S128x256.size (k0_off6_inb i 3), k0_pay1 (sl.r_98 c i a2 j2 a3 j3 a4 j4 a5 j5 a6 j6 a7 j7 a8 j8 a9 j9 a10 j10 a11 j11 a12 j12 a13 j13 a14 j14 x0 x1 x2 x3 x4 xs3 xs4)⟩ : View.Piece (Elt Ideal) S128x4096 .f32) :: (sl.HS4_3 c i a2 j2 a3 j3 a4 j4 a5 j5 a6 j6 a7 j7 a8 j8 a9 j9 a10 j10 a11 j11 a12 j12 a13 j13 a14 j14 x0 x1 x2 x3 x4 xs3 xs4))) (fun l s => D.dv l s (if s < b + 1024 then b + 1024 else b)) := by
  have hX2 : ∀ (r : Fin 1024) (l : Fin 128), a2.view.read (Elt Ideal) (j2.unread x0) (ix2 r l) = ((D.Q (b + ↑r) ↑l : ℝ) : EReal) := by
    rw [j2.read_unread x0]; exact hx0
  have hX3 : ∀ (s : Fin 4096) (l : Fin 128), a3.view.read (Elt Ideal) (j3.unread x1) (ix2 s l) = ((D.K ↑s ↑l : ℝ) : EReal) := by
    rw [j3.read_unread x1]; exact hx1
  have hX4 : ∀ (s : Fin 4096) (l : Fin 128), a4.view.read (Elt Ideal) (j4.unread x2) (ix2 s l) = ((D.V ↑s ↑l : ℝ) : EReal) := by
    rw [j4.read_unread x2]; exact hx2
  have hX5 : ∀ (r : Fin 1024) (l : Fin 128), a5.view.read (Elt Ideal) (j5.unread x3) (ix2 r l) = ((D.T (b + ↑r) (↑l / 64) : ℝ) : EReal) := by
    rw [j5.read_unread x3]; exact hx3
  have hX6 : ∀ (r : Fin 1024) (l : Fin 128), a6.view.read (Elt Ideal) (j6.unread x4) (ix2 r l) = ((D.DY (b + ↑r) ↑l : ℝ) : EReal) := by
    rw [j6.read_unread x4]; exact hx4
  have I : Ins D b k0_pay67 k0_pay68 k0_pay69 (sl.r c a2 j2 x0) (sl.r_1 c a2 j2 x0) (sl.r_2 c a6 j6 x4) (sl.r_3 c a6 j6 x4) (sl.r_4 c a2 j2 x0) (sl.r_5 c a2 j2 x0) (sl.r_6 c a6 j6 x4) (sl.r_7 c a6 j6 x4) (sl.r_8 c a5 j5 x3) (sl.r_9 c a5 j5 x3) (sl.r_10 c a5 j5 x3) :=
    ins D (ldrz (n := 1024) a2.view (j2.unread x0) inb_S1024x128_S1024x128_0_0 (fun r l => D.Q (b + r) l) hX2)
      (ldrz (n := 1024) a6.view (j6.unread x4) inb_S1024x128_S1024x128_0_0 (fun r l => D.DY (b + r) l) hX6)
      (ldrz (n := 1024) a5.view (j5.unread x3) inb_S1024x128_S1024x128_0_0 (fun r l => D.T (b + r) (l / 64)) hX5)
      rfl rfl rfl rfl rfl rfl rfl rfl rfl rfl rfl
  have H0 : St D b 0 a10 a11 a12 a13 a14 (a10.view.writes (Elt Ideal) a10.view.junk (sl.HS0_1 )) (a11.view.writes (Elt Ideal) a11.view.junk (sl.HS1_1 ))
      (a12.view.writes (Elt Ideal) a12.view.junk (sl.HS2_1 )) (j13.unread xs3) (j14.unread xs4) :=
    start D rfl rfl rfl (fun l s => by rw [j13.read_unread xs3]; exact hxs3 l s) (fun l s => by rw [j14.read_unread xs4]; exact hxs4 l s)
  have H1 := loop_holds D Variants.none c none i a2 j2 a3 j3 a4 j4 a5 j5 a6 j6 a7 j7 a8 j8 a9 j9 a10 j10 a11 j11 a12 j12 a13 j13 a14 j14 (BitVec.ofNat 32 ↑(i 1)) k0_pay67 k0_pay68 k0_pay69 (sl.r c a2 j2 x0) (sl.r_1 c a2 j2 x0) (sl.r_2 c a6 j6 x4) (sl.r_3 c a6 j6 x4) (sl.r_4 c a2 j2 x0) (sl.r_5 c a2 j2 x0) (sl.r_6 c a6 j6 x4) (sl.r_7 c a6 j6 x4) (sl.r_8 c a5 j5 x3) (sl.r_9 c a5 j5 x3) (sl.r_10 c a5 j5 x3) (j3.unread x1) (j4.unread x2)
    _ _ _ _ _ hb I hX3 hX4 H0 (k0_t1_loop i).trips le_rfl
  rw [show 256 * (k0_t1_loop i).trips = b by rw [trips1, hb]; omega] at H1
  have e2 : Scf.trips (k0_t2_loop i).lb (k0_t2_loop i).ub (k0_t2_loop i).st = 0 := Nat.le_zero.1 (k0_t2_abs i).2.1
  refine diagonal D i hb a2 a3 a4 a5 a6 a10 a11 a12 a13 a14
    (j2.unread x0) (j3.unread x1) (j4.unread x2) (j5.unread x3) (j6.unread x4) (j13.unread xs3) (j14.unread xs4)
    (v779 := (sl.v779 c i a2 j2 a3 j3 a4 j4 a5 j5 a6 j6 a7 j7 a8 j8 a9 j9 a10 j10 a11 j11 a12 j12 a13 j13 a14 j14 x0 x1 x2 x3 x4 xs3 xs4))
    (v781 := (sl.v781 c i a2 j2 a3 j3 a4 j4 a5 j5 a6 j6 a7 j7 a8 j8 a9 j9 a10 j10 a11 j11 a12 j12 a13 j13 a14 j14 x0 x1 x2 x3 x4 xs3 xs4))
    (HS3_4 := ((⟨Rect.unit (s := S128x4096) (k0_off6 i 3#32) S128x256.size (k0_off6_inb i 3), k0_pay245 (sl.r_5 c a2 j2 x0) (sl.r_87 c i a2 j2 a3 j3 a4 j4 a5 j5 a6 j6 a7 j7 a8 j8 a9 j9 a10 j10 a11 j11 a12 j12 a13 j13 a14 j14 x0 x1 x2 x3 x4 xs3 xs4) (sl.r_97 c i a2 j2 a3 j3 a4 j4 a5 j5 a6 j6 a7 j7 a8 j8 a9 j9 a10 j10 a11 j11 a12 j12 a13 j13 a14 j14 x0 x1 x2 x3 x4 xs3 xs4) (View.readAt (Elt Ideal) a13.view (Rect.unit (s := S128x4096) (k0_off6 i 3#32) S128x256.size (k0_off6_inb i 3)).toLoadRect (a13.view.writes (Elt Ideal) (j13.unread xs3) (sl.HS3_3 c i a2 j2 a3 j3 a4 j4 a5 j5 a6 j6 a7 j7 a8 j8 a9 j9 a10 j10 a11 j11 a12 j12 a13 j13 a14 j14 x0 x1 x2 x3 x4 xs3 xs4)))⟩ : View.Piece (Elt Ideal) S128x4096 .f32) :: (sl.HS3_3 c i a2 j2 a3 j3 a4 j4 a5 j5 a6 j6 a7 j7 a8 j8 a9 j9 a10 j10 a11 j11 a12 j12 a13 j13 a14 j14 x0 x1 x2 x3 x4 xs3 xs4)))
    (HS4_4 := ((⟨Rect.unit (s := S128x4096) (k0_off6 i 3#32) S128x256.size (k0_off6_inb i 3), k0_pay1 (sl.r_98 c i a2 j2 a3 j3 a4 j4 a5 j5 a6 j6 a7 j7 a8 j8 a9 j9 a10 j10 a11 j11 a12 j12 a13 j13 a14 j14 x0 x1 x2 x3 x4 xs3 xs4)⟩ : View.Piece (Elt Ideal) S128x4096 .f32) :: (sl.HS4_3 c i a2 j2 a3 j3 a4 j4 a5 j5 a6 j6 a7 j7 a8 j8 a9 j9 a10 j10 a11 j11 a12 j12 a13 j13 a14 j14 x0 x1 x2 x3 x4 xs3 xs4)))
    hX2 hX3 hX4 hX5 hX6 rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl (fun _ => Ideal.ofBits_zero .f32) rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl (Ideal.ofBits_zero .f32) rfl rfl rfl rfl rfl rfl rfl rfl rfl rfl rfl rfl rfl (fun _ => Ideal.ofBits_zero .f32) rfl rfl rfl rfl rfl rfl rfl rfl rfl rfl rfl rfl rfl rfl rfl rfl rfl rfl rfl rfl rfl rfl rfl rfl rfl rfl rfl rfl rfl rfl rfl (fun _ => Ideal.ofBits_zero .f32) rfl rfl rfl rfl rfl rfl rfl rfl rfl rfl rfl rfl rfl rfl rfl rfl rfl rfl rfl rfl ?_
  rw [e2, pb_k0_t2.eq_1]
  dsimp only [List.nil_append]
  simp only [View.writes_append]
  exact H1

end Cert.SbProof
end
-- ==== Proof.SbCaseC.lean ====
module

public import proofs.«01_k».proof.Proof.SbDiag
public import proofs.«01_k».proof.Proof.SbStart
public import proofs.«01_k».proof.Proof.Gen.SbKernelIdeal.Value

/-! The attention's backward kernel at a last query block of a head pair: the three results it leaves. -/

@[expose] public section
set_option maxRecDepth 16384
noncomputable section

namespace Cert.SbProof
open Idealize.ShloMosaic Idealize.ShloMosaic.TcCoe
open Cert.SbKernelIdeal Cert.SbKernelIdeal.Gen Cert.SbKernelIdeal.Gen.kernelRun0_C Cert.SbMath Cert.SbMath.Dat

/-- What the kernel leaves at a last query block. -/
theorem caseC (D : Dat) (c : Dev nD) (i : grid0.Coords) (a2 : Memref sig .tc .vmem S1024x128 .f32) (j2 : a2.IsWhole) (a3 : Memref sig .tc .vmem S4096x128 .f32) (j3 : a3.IsWhole) (a4 : Memref sig .tc .vmem S4096x128 .f32) (j4 : a4.IsWhole) (a5 : Memref sig .tc .vmem S1024x128 .f32) (j5 : a5.IsWhole) (a6 : Memref sig .tc .vmem S1024x128 .f32) (j6 : a6.IsWhole) (a7 : Memref sig .tc .vmem S1024x128 .bf16) (j7 : a7.IsWhole) (a8 : Memref sig .tc .vmem S4096x128 .bf16) (j8 : a8.IsWhole) (a9 : Memref sig .tc .vmem S4096x128 .bf16) (j9 : a9.IsWhole) (a10 : Memref sig .tc .vmem S2x1024x128 .f32) (j10 : a10.IsWhole) (a11 : Memref sig .tc .vmem S2x1024x128 .f32) (j11 : a11.IsWhole) (a12 : Memref sig .tc .vmem S2x1024x128 .f32) (j12 : a12.IsWhole) (a13 : Memref sig .tc .vmem S128x4096 .f32) (j13 : a13.IsWhole) (a14 : Memref sig .tc .vmem S128x4096 .f32) (j14 : a14.IsWhole)
    (x0 : Vec Ideal S1024x128 .f32) (x1 x2 : Vec Ideal S4096x128 .f32) (x3 x4 : Vec Ideal S1024x128 .f32) (xs3 xs4 : Vec Ideal S128x4096 .f32)
    {b : ℕ} (hb : b = 1024 * (i 1).val)
    (hx0 : ∀ (r : Fin 1024) (l : Fin 128), x0 (ix2 r l) = ((D.Q (b + ↑r) ↑l : ℝ) : EReal))
    (hx1 : ∀ (s : Fin 4096) (l : Fin 128), x1 (ix2 s l) = ((D.K ↑s ↑l : ℝ) : EReal))
    (hx2 : ∀ (s : Fin 4096) (l : Fin 128), x2 (ix2 s l) = ((D.V ↑s ↑l : ℝ) : EReal))
    (hx3 : ∀ (r : Fin 1024) (l : Fin 128), x3 (ix2 r l) = ((D.T (b + ↑r) (↑l / 64) : ℝ) : EReal))
    (hx4 : ∀ (r : Fin 1024) (l : Fin 128), x4 (ix2 r l) = ((D.DY (b + ↑r) ↑l : ℝ) : EReal))
    (hxs3 : ∀ (l : Fin 128) (s : Fin 4096), xs3 (ix2 l s) = ((-D.dk ↑l ↑s b : ℝ) : EReal))
    (hxs4 : ∀ (l : Fin 128) (s : Fin 4096), xs4 (ix2 l s) = ((D.dv ↑l ↑s b : ℝ) : EReal)) :
    (∀ (r : Fin 1024) (l : Fin 128), k0_pay2 k0_pay67 (sl.v779 c i a2 j2 a3 j3 a4 j4 a5 j5 a6 j6 a7 j7 a8 j8 a9 j9 a10 j10 a11 j11 a12 j12 a13 j13 a14 j14 x0 x1 x2 x3 x4 xs3 xs4) (sl.v781 c i a2 j2 a3 j3 a4 j4 a5 j5 a6 j6 a7 j7 a8 j8 a9 j9 a10 j10 a11 j11 a12 j12 a13 j13 a14 j14 x0 x1 x2 x3 x4 xs3 xs4) (ix2 r l) = ((D.dqa (↑l / 64) (b + ↑r) ↑l (b + 1024) * (1 / 8) : ℝ) : EReal))
    ∧ HoldT a13 (a13.view.writes (Elt Ideal) (j13.unread xs3) (sl.HS3_4 c i a2 j2 a3 j3 a4 j4 a5 j5 a6 j6 a7 j7 a8 j8 a9 j9 a10 j10 a11 j11 a12 j12 a13 j13 a14 j14 x0 x1 x2 x3 x4 xs3 xs4)) (fun l s => -D.dk l s (if s < b + 1024 then b + 1024 else b))
    ∧ HoldT a14 (a14.view.writes (Elt Ideal) (j14.unread xs4) (sl.HS4_4 c i a2 j2 a3 j3 a4 j4 a5 j5 a6 j6 a7 j7 a8 j8 a9 j9 a10 j10 a11 j11 a12 j12 a13 j13 a14 j14 x0 x1 x2 x3 x4 xs3 xs4)) (fun l s => D.dv l s (if s < b + 1024 then b + 1024 else b)) := by
  have hX2 : ∀ (r : Fin 1024) (l : Fin 128), a2.view.read (Elt Ideal) (j2.unread x0) (ix2 r l) = ((D.Q (b + ↑r) ↑l : ℝ) : EReal) := by
    rw [j2.read_unread x0]; exact hx0
  have hX3 : ∀ (s : Fin 4096) (l : Fin 128), a3.view.read (Elt Ideal) (j3.unread x1) (ix2 s l) = ((D.K ↑s ↑l : ℝ) : EReal) := by
    rw [j3.read_unread x1]; exact hx1
  have hX4 : ∀ (s : Fin 4096) (l : Fin 128), a4.view.read (Elt Ideal) (j4.unread x2) (ix2 s l) = ((D.V ↑s ↑l : ℝ) : EReal) := by
    rw [j4.read_unread x2]; exact hx2
  have hX5 : ∀ (r : Fin 1024) (l : Fin 128), a5.view.read (Elt Ideal) (j5.unread x3) (ix2 r l) = ((D.T (b + ↑r) (↑l / 64) : ℝ) : EReal) := by
    rw [j5.read_unread x3]; exact hx3
  have hX6 : ∀ (r : Fin 1024) (l : Fin 128), a6.view.read (Elt Ideal) (j6.unread x4) (ix2 r l) = ((D.DY (b + ↑r) ↑l : ℝ) : EReal) := by
    rw [j6.read_unread x4]; exact hx4
  have I : Ins D b k0_pay67 k0_pay68 k0_pay69 (sl.r c a2 j2 x0) (sl.r_1 c a2 j2 x0) (sl.r_2 c a6 j6 x4) (sl.r_3 c a6 j6 x4) (sl.r_4 c a2 j2 x0) (sl.r_5 c a2 j2 x0) (sl.r_6 c a6 j6 x4) (sl.r_7 c a6 j6 x4) (sl.r_8 c a5 j5 x3) (sl.r_9 c a5 j5 x3) (sl.r_10 c a5 j5 x3) :=
    ins D (ldrz (n := 1024) a2.view (j2.unread x0) inb_S1024x128_S1024x128_0_0 (fun r l => D.Q (b + r) l) hX2)
      (ldrz (n := 1024) a6.view (j6.unread x4) inb_S1024x128_S1024x128_0_0 (fun r l => D.DY (b + r) l) hX6)
      (ldrz (n := 1024) a5.view (j5.unread x3) inb_S1024x128_S1024x128_0_0 (fun r l => D.T (b + r) (l / 64)) hX5)
      rfl rfl rfl rfl rfl rfl rfl rfl rfl rfl rfl
  have H0 : St D b 0 a10 a11 a12 a13 a14 (a10.view.writes (Elt Ideal) a10.view.junk (sl.HS0_1 )) (a11.view.writes (Elt Ideal) a11.view.junk (sl.HS1_1 ))
      (a12.view.writes (Elt Ideal) a12.view.junk (sl.HS2_1 )) (j13.unread xs3) (j14.unread xs4) :=
    start D rfl rfl rfl (fun l s => by rw [j13.read_unread xs3]; exact hxs3 l s) (fun l s => by rw [j14.read_unread xs4]; exact hxs4 l s)
  have H1 := loop_holds D Variants.none c none i a2 j2 a3 j3 a4 j4 a5 j5 a6 j6 a7 j7 a8 j8 a9 j9 a10 j10 a11 j11 a12 j12 a13 j13 a14 j14 (BitVec.ofNat 32 ↑(i 1)) k0_pay67 k0_pay68 k0_pay69 (sl.r c a2 j2 x0) (sl.r_1 c a2 j2 x0) (sl.r_2 c a6 j6 x4) (sl.r_3 c a6 j6 x4) (sl.r_4 c a2 j2 x0) (sl.r_5 c a2 j2 x0) (sl.r_6 c a6 j6 x4) (sl.r_7 c a6 j6 x4) (sl.r_8 c a5 j5 x3) (sl.r_9 c a5 j5 x3) (sl.r_10 c a5 j5 x3) (j3.unread x1) (j4.unread x2)
    _ _ _ _ _ hb I hX3 hX4 H0 (k0_t1_loop i).trips le_rfl
  rw [show 256 * (k0_t1_loop i).trips = b by rw [trips1, hb]; omega] at H1
  have e2 : Scf.trips (k0_t2_loop i).lb (k0_t2_loop i).ub (k0_t2_loop i).st = 0 := Nat.le_zero.1 (k0_t2_abs i).2.1
  refine diagonal D i hb a2 a3 a4 a5 a6 a10 a11 a12 a13 a14
    (j2.unread x0) (j3.unread x1) (j4.unread x2) (j5.unread x3) (j6.unread x4) (j13.unread xs3) (j14.unread xs4)
    (v779 := (sl.v779 c i a2 j2 a3 j3 a4 j4 a5 j5 a6 j6 a7 j7 a8 j8 a9 j9 a10 j10 a11 j11 a12 j12 a13 j13 a14 j14 x0 x1 x2 x3 x4 xs3 xs4))
    (v781 := (sl.v781 c i a2 j2 a3 j3 a4 j4 a5 j5 a6 j6 a7 j7 a8 j8 a9 j9 a10 j10 a11 j11 a12 j12 a13 j13 a14 j14 x0 x1 x2 x3 x4 xs3 xs4))
    (HS3_4 := (sl.HS3_4 c i a2 j2 a3 j3 a4 j4 a5 j5 a6 j6 a7 j7 a8 j8 a9 j9 a10 j10 a11 j11 a12 j12 a13 j13 a14 j14 x0 x1 x2 x3 x4 xs3 xs4))
    (HS4_4 := (sl.HS4_4 c i a2 j2 a3 j3 a4 j4 a5 j5 a6 j6 a7 j7 a8 j8 a9 j9 a10 j10 a11 j11 a12 j12 a13 j13 a14 j14 x0 x1 x2 x3 x4 xs3 xs4))
    hX2 hX3 hX4 hX5 hX6 rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl (fun _ => Ideal.ofBits_zero .f32) rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl (Ideal.ofBits_zero .f32) rfl rfl rfl rfl rfl rfl rfl rfl rfl rfl rfl rfl rfl (fun _ => Ideal.ofBits_zero .f32) rfl rfl rfl rfl rfl rfl rfl rfl rfl rfl rfl rfl rfl rfl rfl rfl rfl rfl rfl rfl rfl rfl rfl rfl rfl rfl rfl rfl rfl rfl rfl (fun _ => Ideal.ofBits_zero .f32) rfl rfl rfl rfl rfl rfl rfl rfl rfl rfl rfl rfl rfl rfl rfl rfl rfl rfl rfl rfl ?_
  rw [e2, pb_k0_t2.eq_1]
  dsimp only [List.nil_append]
  simp only [View.writes_append]
  exact H1

end Cert.SbProof
end
-- ==== Proof.SbValue.lean ====
module

public import proofs.«01_k».proof.Proof.SbBlk
public import proofs.«01_k».proof.Proof.SbCaseA
public import proofs.«01_k».proof.Proof.SbCaseB
public import proofs.«01_k».proof.Proof.SbCaseC
public import Idealize.ShloMosaic.Lib.Pipeline.ReadBack

/-! What the stick-breaking backward kernel leaves in its three results: induction over the grid's points, the carried
columns of a pair of heads being the sums over the queries done so far. -/

@[expose] public section
set_option maxRecDepth 16384
noncomputable section

namespace Cert.SbProof
open Idealize.ShloMosaic Idealize.ShloMosaic.TcCoe Idealize.SL.Sem Cert.Reals Cert.SbMath
open Cert.SbKernelIdeal Cert.SbKernelIdeal.Gen

variable (m : (ℓ : Loc nD τ sig) → Buf (Elt Ideal) ℓ) {P Y : ℕ → ℕ → ℝ} (c : Dev nD)
  (hP : ∀ (t : Fin 4096) (j : Fin 4616), j.val < 1536 → argP m c (ix3 0 t j) = (P t j : EReal))
  (hY : ∀ (t : Fin 4096) (j : Fin 512), argY m c (ix2 t j) = (Y t j : EReal))

theorem lt16 (t : Fin cfg0.N) : t.val < 16 := lt_of_lt_of_eq t.isLt N_0

/-- A store of the whole block, read back. -/
theorem whole_piece {κ : Kind} {sp : Space} {e : EltTy} {n0 n1 : ℕ} (v : View sig κ sp ⟨2, ![n0, n1]⟩ e) (f : v.ty.Contents (Elt Ideal))
    (inb : ∀ a, (![0, 0] : Fin 2 → ℕ) a + (⟨2, ![n0, n1]⟩ : Shape).size a ≤ (⟨2, ![n0, n1]⟩ : Shape).size a)
    (pay : Vec Ideal ⟨2, ![n0, n1]⟩ e) (L : List (View.Piece (Elt Ideal) ⟨2, ![n0, n1]⟩ e)) (r : Fin n0) (l : Fin n1) :
    v.read (Elt Ideal) (v.writes (Elt Ideal) f ((⟨Rect.unit (s := ⟨2, ![n0, n1]⟩) ![0, 0] (⟨2, ![n0, n1]⟩ : Shape).size inb, pay⟩ : View.Piece (Elt Ideal) ⟨2, ![n0, n1]⟩ e) :: L)) (ix2 r l)
      = pay (ix2 r l) := by
  refine View.read_writes_cons_unit_of_mem v f inb pay L (ix2 r l) (ix2 r l) rfl ?_
  intro a
  fin_cases a
  · show r.val = 0 + r.val; omega
  · show l.val = 0 + l.val; omega

/-- A load of the whole buffer. -/
theorem whole_load {κ : Kind} {sp : Space} {e : EltTy} {n0 n1 : ℕ} (v : View sig κ sp ⟨2, ![n0, n1]⟩ e) (f : v.ty.Contents (Elt Ideal))
    (inb : ∀ a, (![0, 0] : Fin 2 → ℕ) a + (⟨2, ![n0, n1]⟩ : Shape).size a ≤ (⟨2, ![n0, n1]⟩ : Shape).size a) (r : Fin n0) (l : Fin n1) :
    v.readAt (Elt Ideal) (Rect.unit (s := ⟨2, ![n0, n1]⟩) ![0, 0] (⟨2, ![n0, n1]⟩ : Shape).size inb).toLoadRect f (ix2 r l) = v.read (Elt Ideal) f (ix2 r l) := by
  rw [View.readAt_apply]
  refine congrArg (v.read (Elt Ideal) f) ?_
  funext a
  fin_cases a
  · exact Fin.ext (by show 0 + 1 * r.val = r.val; omega)
  · exact Fin.ext (by show 0 + 1 * l.val = l.val; omega)

/-- A sum over the queries does not see those before or at the key. -/
theorem upto_k (D : Dat) (l s b : ℕ) {N : ℕ} (h : b + 1024 = N) : D.dk l s (if s < b + 1024 then b + 1024 else b) = D.dk l s N := by
  subst h
  split
  · rfl
  · rw [D.dk_zero (by omega), D.dk_zero (by omega)]
theorem upto_v (D : Dat) (l s b : ℕ) {N : ℕ} (h : b + 1024 = N) : D.dv l s (if s < b + 1024 then b + 1024 else b) = D.dv l s N := by
  subst h
  split
  · rfl
  · rw [D.dv_zero (by omega), D.dv_zero (by omega)]

/-- What the point `t` leaves: its rows of the queries' gradient, and the carried columns. -/
structure Pt (P Y : ℕ → ℕ → ℝ) (t b p : ℕ) (q : Vec Ideal S1024x128 .bf16) (k v : Vec Ideal S128x4096 .f32) : Prop where
  q : ∀ (r : Fin 1024) (l : Fin 128), q (ix2 r l) = (((dat P Y p).dqa (↑l / 64) (b + ↑r) ↑l (b + 1024) * (1 / 8) : ℝ) : EReal)
  k : ∀ (l : Fin 128) (s : Fin 4096), k (ix2 l s) = ((-(dat P Y p).dk ↑l ↑s (b + 1024) : ℝ) : EReal)
  v : ∀ (l : Fin 128) (s : Fin 4096), v (ix2 l s) = (((dat P Y p).dv ↑l ↑s (b + 1024) : ℝ) : EReal)

/-- The results' columns at a pair's last point. -/
structure PtKV (P Y : ℕ → ℕ → ℝ) (p : ℕ) (k v : Vec Ideal S4096x128 .bf16) : Prop where
  k : ∀ (s : Fin 4096) (l : Fin 128), k (ix2 s l) = ((-(dat P Y p).dk ↑l ↑s 4096 : ℝ) : EReal)
  v : ∀ (s : Fin 4096) (l : Fin 128), v (ix2 s l) = (((dat P Y p).dv ↑l ↑s 4096 : ℝ) : EReal)

/-- The keys' gradient that a pair's last point writes. -/
theorem outC6 (t : Fin cfg0.N) (h0 : ¬t.val % 4 = 0) (h1 : t.val % 4 = 3) :
    (outsAt0 m c t.val t.isLt).2.1 = VO0_6.read (Elt Ideal) (VO0_6.writes (Elt Ideal) VO0_6.junk [(⟨Rect.unit (s := S4096x128) ![0, 0] S4096x128.size inb_S4096x128_S4096x128_0_0, k0_pay3 (F := Ideal) (kernelRun0_C.sl.v791 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)⟩ : View.Piece (Elt Ideal) S4096x128 .bf16)]) := by
  rw [outsAt0_C m c t h0 h1]
  dsimp only
  unfold out0_C_6
  exact congrArg (fun L => VO0_6.read (Elt Ideal) (VO0_6.writes (Elt Ideal) VO0_6.junk L)) (by unfold kernelRun0_C; all_goals rfl)

/-- The values' gradient that a pair's last point writes. -/
theorem outC7 (t : Fin cfg0.N) (h0 : ¬t.val % 4 = 0) (h1 : t.val % 4 = 3) :
    (outsAt0 m c t.val t.isLt).2.2.1 = VO0_7.read (Elt Ideal) (VO0_7.writes (Elt Ideal) VO0_7.junk [(⟨Rect.unit (s := S4096x128) ![0, 0] S4096x128.size inb_S4096x128_S4096x128_0_0, k0_pay4 (F := Ideal) (kernelRun0_C.sl.v795 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)⟩ : View.Piece (Elt Ideal) S4096x128 .bf16)]) := by
  rw [outsAt0_C m c t h0 h1]
  dsimp only
  unfold out0_C_7
  exact congrArg (fun L => VO0_7.read (Elt Ideal) (VO0_7.writes (Elt Ideal) VO0_7.junk L)) (by unfold kernelRun0_C; all_goals rfl)

include hP hY

theorem ptA (t : Fin cfg0.N) (h0 : t.val % 4 = 0) (h1 : ¬t.val % 4 = 3) :
    Pt P Y t.val (1024 * (t.val % 4)) (t.val / 4) (outsAt0 m c t.val t.isLt).1 (outsAt0 m c t.val t.isLt).2.2.2.1 (outsAt0 m c t.val t.isLt).2.2.2.2 := by
  have hN := lt16 t
  obtain ⟨Hq, Hk, Hv⟩ := caseA (dat P Y (t.val / 4)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t)
    (b := 1024 * (t.val % 4)) (by rw [coord1]) (fun r l => blk0 m c hP t r l hN) (fun s l => blk1 m c hP t s l hN) (fun s l => blk2 m c hP t s l hN)
    (fun r l => blk3 m c hP t r l hN) (fun r l => blk4 m c hY t r l hN) (by rw [h0])
  rw [outsAt0_A m c t h0 h1]
  refine ⟨fun r l => Eq.trans ?_ (Hq r l), fun l s => Eq.trans ?_ ((Hk l s).trans (congrArg (fun z : ℝ => ((-z : ℝ) : EReal)) (upto_k _ l s _ rfl))), fun l s => Eq.trans ?_ ((Hv l s).trans (congrArg (fun z : ℝ => ((z : ℝ) : EReal)) (upto_v _ l s _ rfl)))⟩
  · refine congrFun ?_ (ix2 r l)
    frame_out
  · dsimp only
    unfold sout0_A_3 kernelRun0_A
    all_goals dsimp only
  · dsimp only
    unfold sout0_A_4 kernelRun0_A
    all_goals dsimp only

theorem ptB (t : Fin cfg0.N) (h0 : ¬t.val % 4 = 0) (h1 : ¬t.val % 4 = 3)
    (hk : ∀ (l : Fin 128) (s : Fin 4096), (outsAt0 m c (t.val - 1) (Nat.lt_of_le_of_lt (Nat.sub_le _ _) t.isLt)).2.2.2.1 (ix2 l s) = ((-(dat P Y (t.val / 4)).dk ↑l ↑s (1024 * (t.val % 4)) : ℝ) : EReal))
    (hv : ∀ (l : Fin 128) (s : Fin 4096), (outsAt0 m c (t.val - 1) (Nat.lt_of_le_of_lt (Nat.sub_le _ _) t.isLt)).2.2.2.2 (ix2 l s) = (((dat P Y (t.val / 4)).dv ↑l ↑s (1024 * (t.val % 4)) : ℝ) : EReal)) :
    Pt P Y t.val (1024 * (t.val % 4)) (t.val / 4) (outsAt0 m c t.val t.isLt).1 (outsAt0 m c t.val t.isLt).2.2.2.1 (outsAt0 m c t.val t.isLt).2.2.2.2 := by
  have hN := lt16 t
  obtain ⟨Hq, Hk, Hv⟩ := caseB (dat P Y (t.val / 4)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2
    (b := 1024 * (t.val % 4)) (by rw [coord1]) (fun r l => blk0 m c hP t r l hN) (fun s l => blk1 m c hP t s l hN) (fun s l => blk2 m c hP t s l hN)
    (fun r l => blk3 m c hP t r l hN) (fun r l => blk4 m c hY t r l hN) hk hv
  rw [outsAt0_B m c t h0 h1]
  refine ⟨fun r l => Eq.trans ?_ (Hq r l), fun l s => Eq.trans ?_ ((Hk l s).trans (congrArg (fun z : ℝ => ((-z : ℝ) : EReal)) (upto_k _ l s _ rfl))), fun l s => Eq.trans ?_ ((Hv l s).trans (congrArg (fun z : ℝ => ((z : ℝ) : EReal)) (upto_v _ l s _ rfl)))⟩
  · refine congrFun ?_ (ix2 r l)
    frame_out
  · dsimp only
    unfold sout0_B_3 kernelRun0_B
    all_goals dsimp only
  · dsimp only
    unfold sout0_B_4 kernelRun0_B
    all_goals dsimp only

theorem ptC (t : Fin cfg0.N) (h0 : ¬t.val % 4 = 0) (h1 : t.val % 4 = 3)
    (hk : ∀ (l : Fin 128) (s : Fin 4096), (outsAt0 m c (t.val - 1) (Nat.lt_of_le_of_lt (Nat.sub_le _ _) t.isLt)).2.2.2.1 (ix2 l s) = ((-(dat P Y (t.val / 4)).dk ↑l ↑s (1024 * (t.val % 4)) : ℝ) : EReal))
    (hv : ∀ (l : Fin 128) (s : Fin 4096), (outsAt0 m c (t.val - 1) (Nat.lt_of_le_of_lt (Nat.sub_le _ _) t.isLt)).2.2.2.2 (ix2 l s) = (((dat P Y (t.val / 4)).dv ↑l ↑s (1024 * (t.val % 4)) : ℝ) : EReal)) :
    Pt P Y t.val (1024 * (t.val % 4)) (t.val / 4) (outsAt0 m c t.val t.isLt).1 (outsAt0 m c t.val t.isLt).2.2.2.1 (outsAt0 m c t.val t.isLt).2.2.2.2 := by
  have hN := lt16 t
  obtain ⟨Hq, Hk, Hv⟩ := caseC (dat P Y (t.val / 4)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2
    (b := 1024 * (t.val % 4)) (by rw [coord1]) (fun r l => blk0 m c hP t r l hN) (fun s l => blk1 m c hP t s l hN) (fun s l => blk2 m c hP t s l hN)
    (fun r l => blk3 m c hP t r l hN) (fun r l => blk4 m c hY t r l hN) hk hv
  rw [outsAt0_C m c t h0 h1]
  refine ⟨fun r l => Eq.trans ?_ (Hq r l), fun l s => Eq.trans ?_ ((Hk l s).trans (congrArg (fun z : ℝ => ((-z : ℝ) : EReal)) (upto_k _ l s _ rfl))), fun l s => Eq.trans ?_ ((Hv l s).trans (congrArg (fun z : ℝ => ((z : ℝ) : EReal)) (upto_v _ l s _ rfl)))⟩
  · refine congrFun ?_ (ix2 r l)
    frame_out
  · rfl
  · rfl

theorem ptC_kv (t : Fin cfg0.N) (h0 : ¬t.val % 4 = 0) (h1 : t.val % 4 = 3)
    (hk : ∀ (l : Fin 128) (s : Fin 4096), (outsAt0 m c (t.val - 1) (Nat.lt_of_le_of_lt (Nat.sub_le _ _) t.isLt)).2.2.2.1 (ix2 l s) = ((-(dat P Y (t.val / 4)).dk ↑l ↑s (1024 * (t.val % 4)) : ℝ) : EReal))
    (hv : ∀ (l : Fin 128) (s : Fin 4096), (outsAt0 m c (t.val - 1) (Nat.lt_of_le_of_lt (Nat.sub_le _ _) t.isLt)).2.2.2.2 (ix2 l s) = (((dat P Y (t.val / 4)).dv ↑l ↑s (1024 * (t.val % 4)) : ℝ) : EReal)) :
    PtKV P Y (t.val / 4) (outsAt0 m c t.val t.isLt).2.1 (outsAt0 m c t.val t.isLt).2.2.1 := by
  have hN := lt16 t
  obtain ⟨-, Hk, Hv⟩ := caseC (dat P Y (t.val / 4)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2
    (b := 1024 * (t.val % 4)) (by rw [coord1]) (fun r l => blk0 m c hP t r l hN) (fun s l => blk1 m c hP t s l hN) (fun s l => blk2 m c hP t s l hN)
    (fun r l => blk3 m c hP t r l hN) (fun r l => blk4 m c hY t r l hN) hk hv
  constructor
  · intro s l
    have e := whole_piece VO0_6 VO0_6.junk inb_S4096x128_S4096x128_0_0 (k0_pay3 (F := Ideal) (kernelRun0_C.sl.v791 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)) [] s l
    have e2 := whole_load scM0_3.view (scM0_3.view.writes (Elt Ideal) ((Memref.isWhole_whole _).unread (outsAt0 m c (t.val - 1) (Nat.lt_of_le_of_lt (Nat.sub_le _ _) t.isLt)).2.2.2.1) (kernelRun0_C.sl.HS3_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)) inb_S128x4096_S128x4096_0_0 l s
    exact (congrFun (outC6 m c t h0 h1) (ix2 s l)).trans (e.trans ((p3 _ s l).trans (e2.trans ((Hk l s).trans (congrArg (fun z : ℝ => ((-z : ℝ) : EReal)) (upto_k _ l s _ (show 1024 * (t.val % 4) + 1024 = 4096 by omega)))))))
  · intro s l
    have e := whole_piece VO0_7 VO0_7.junk inb_S4096x128_S4096x128_0_0 (k0_pay4 (F := Ideal) (kernelRun0_C.sl.v795 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)) [] s l
    have e2 := whole_load scM0_4.view (scM0_4.view.writes (Elt Ideal) ((Memref.isWhole_whole _).unread (outsAt0 m c (t.val - 1) (Nat.lt_of_le_of_lt (Nat.sub_le _ _) t.isLt)).2.2.2.2) (kernelRun0_C.sl.HS4_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)) inb_S128x4096_S128x4096_0_0 l s
    exact (congrFun (outC7 m c t h0 h1) (ix2 s l)).trans (e.trans ((p4 _ s l).trans (e2.trans ((Hv l s).trans (congrArg (fun z : ℝ => ((z : ℝ) : EReal)) (upto_v _ l s _ (show 1024 * (t.val % 4) + 1024 = 4096 by omega)))))))

end Cert.SbProof
end
-- ==== Proof.SbEnd.lean ====
module

public import proofs.«01_k».proof.Proof.SbValue

/-! The stick-breaking backward kernel's three result arrays. -/

@[expose] public section
set_option maxRecDepth 16384
noncomputable section

namespace Cert.SbProof
open Idealize.ShloMosaic Idealize.ShloMosaic.TcCoe Idealize.SL.Sem Cert.Reals Cert.SbMath
open Cert.SbKernelIdeal Cert.SbKernelIdeal.Gen

variable (m : (ℓ : Loc nD τ sig) → Buf (Elt Ideal) ℓ) {P Y : ℕ → ℕ → ℝ} (c : Dev nD)
  (hP : ∀ (t : Fin 4096) (j : Fin 4616), j.val < 1536 → argP m c (ix3 0 t j) = (P t j : EReal))
  (hY : ∀ (t : Fin 4096) (j : Fin 512), argY m c (ix2 t j) = (Y t j : EReal))

include hP hY

/-- Every point, in turn. -/
theorem points : ∀ (n : ℕ) (hn : n < cfg0.N), Pt P Y n (1024 * (n % 4)) (n / 4) (outsAt0 m c n hn).1
    (outsAt0 m c n hn).2.2.2.1 (outsAt0 m c n hn).2.2.2.2
  | 0, hn => ptA m c hP hY ⟨0, hn⟩ rfl (show ¬(0 : ℕ) % 4 = 3 by decide)
  | n + 1, hn => by
    by_cases h0 : (n + 1) % 4 = 0
    · exact ptA m c hP hY ⟨n + 1, hn⟩ h0 (by dsimp only; omega)
    · have ih := points n (Nat.lt_of_succ_lt hn)
      have hb : 1024 * (n % 4) + 1024 = 1024 * ((n + 1) % 4) := by omega
      have hp : n / 4 = (n + 1) / 4 := by omega
      have hk := ih.k
      have hv := ih.v
      rw [hb, hp] at hk hv
      by_cases h1 : (n + 1) % 4 = 3
      · exact ptC m c hP hY ⟨n + 1, hn⟩ h0 h1 hk hv
      · exact ptB m c hP hY ⟨n + 1, hn⟩ h0 h1 hk hv

/-- The last point of the pair of heads `p`. -/
theorem lastKV (p : ℕ) (hn : 4 * p + 3 < cfg0.N) :
    PtKV P Y p (outsAt0 m c (4 * p + 3) hn).2.1 (outsAt0 m c (4 * p + 3) hn).2.2.1 := by
  have ih := points m c hP hY (4 * p + 2) (Nat.lt_of_succ_lt hn)
  have hb : 1024 * ((4 * p + 2) % 4) + 1024 = 1024 * ((4 * p + 3) % 4) := by omega
  have hp : (4 * p + 2) / 4 = (4 * p + 3) / 4 := by omega
  have hk := ih.k
  have hv := ih.v
  rw [hb, hp] at hk hv
  have h := ptC_kv m c hP hY ⟨4 * p + 3, hn⟩ (by dsimp only; omega) (by dsimp only; omega) hk hv
  have hq : (4 * p + 3) / 4 = p := by omega
  dsimp only at h
  rw [hq] at h
  exact h

variable (hz : Low P)
include hz

theorem G5_at (i : Fin 4096) (j : Fin 512) :
    (show FVec Ideal S4096x512 .bf16 from Value.G5 m c) (ix2 i j)
      = ((∑ s ∈ Finset.range 4096, dr P Y (j / 64) i s * (1 / 8) * P s (512 + j) : ℝ) : EReal) := by
  have hN : cfg0.N = 16 := N_0
  have hp : Value.pt5Of (ix2 i j) = 4 * (j.val / 128) + i.val / 1024 := by
    show 1 * (i.val / 1024 - 0) + 4 * (j.val / 128 - 0) = _
    omega
  have hl : Value.loc5Of (ix2 i j) = ix2 ⟨i.val % 1024, by omega⟩ ⟨j.val % 128, by omega⟩ := by
    funext a; apply Fin.ext
    match a with
    | ⟨0, _⟩ => rfl
    | ⟨1, _⟩ => rfl
  have hlt : 4 * (j.val / 128) + i.val / 1024 < cfg0.N := by omega
  show Value.G5 m c (ix2 i j) = _
  unfold Value.G5
  rw [dif_pos (by omega), Value.fold0_congr m c _ (by omega) (4 * (j.val / 128) + i.val / 1024) (by omega) hp, ← Value.outsAt0_sweep m c _ hlt, hl]
  refine ((points m c hP hY _ hlt).q _ _).trans ?_
  dsimp only
  rw [show (4 * (j.val / 128) + i.val / 1024) / 4 = j.val / 128 by omega,
    show 1024 * ((4 * (j.val / 128) + i.val / 1024) % 4) + i.val % 1024 = i by omega,
    dq_eq hz (by omega) (by omega) i.isLt (by omega), show 2 * (j.val / 128) + j.val % 128 / 64 = j.val / 64 by omega,
    show 128 * (j.val / 128) + j.val % 128 = j by omega]

theorem G6_at (i : Fin 4096) (j : Fin 512) :
    (show FVec Ideal S4096x512 .bf16 from Value.G6 m c) (ix2 i j)
      = ((∑ t ∈ Finset.range 4096, dr P Y (j / 64) t i * (1 / 8) * P t j : ℝ) : EReal) := by
  have hN : cfg0.N = 16 := N_0
  have hp : Value.pt6Of (ix2 i j) = 4 * (j.val / 128) + 3 := by
    show 4 * (4 * (i.val / 4096 - 0) + 1 * (j.val / 128 - 0)) + 3 = _
    omega
  have hl : Value.loc6Of (ix2 i j) = ix2 i ⟨j.val % 128, by omega⟩ := by
    funext a; apply Fin.ext
    match a with
    | ⟨0, _⟩ => exact Nat.mod_eq_of_lt i.isLt
    | ⟨1, _⟩ => rfl
  have hlt : 4 * (j.val / 128) + 3 < cfg0.N := by omega
  show Value.G6 m c (ix2 i j) = _
  unfold Value.G6
  rw [dif_pos (by omega), Value.fold0_congr m c _ (by omega) (4 * (j.val / 128) + 3) (by omega) hp, ← Value.outsAt0_sweep m c _ hlt, hl]
  refine ((lastKV m c hP hY _ hlt).k _ _).trans ?_
  dsimp only
  rw [dk_eq hz (by omega) (by omega), show 2 * (j.val / 128) + j.val % 128 / 64 = j.val / 64 by omega,
    show 128 * (j.val / 128) + j.val % 128 = j by omega]

theorem G7_at (i : Fin 4096) (j : Fin 512) :
    (show FVec Ideal S4096x512 .bf16 from Value.G7 m c) (ix2 i j)
      = ((∑ t ∈ Finset.range 4096, Y t j * ar P (j / 64) t i : ℝ) : EReal) := by
  have hN : cfg0.N = 16 := N_0
  have hp : Value.pt7Of (ix2 i j) = 4 * (j.val / 128) + 3 := by
    show 4 * (4 * (i.val / 4096 - 0) + 1 * (j.val / 128 - 0)) + 3 = _
    omega
  have hl : Value.loc7Of (ix2 i j) = ix2 i ⟨j.val % 128, by omega⟩ := by
    funext a; apply Fin.ext
    match a with
    | ⟨0, _⟩ => exact Nat.mod_eq_of_lt i.isLt
    | ⟨1, _⟩ => rfl
  have hlt : 4 * (j.val / 128) + 3 < cfg0.N := by omega
  show Value.G7 m c (ix2 i j) = _
  unfold Value.G7
  rw [dif_pos (by omega), Value.fold0_congr m c _ (by omega) (4 * (j.val / 128) + 3) (by omega) hp, ← Value.outsAt0_sweep m c _ hlt, hl]
  refine ((lastKV m c hP hY _ hlt).v _ _).trans ?_
  dsimp only
  rw [dv_eq hz (by omega) (by omega), show 2 * (j.val / 128) + j.val % 128 / 64 = j.val / 64 by omega,
    show 128 * (j.val / 128) + j.val % 128 = j by omega]

end Cert.SbProof
end
-- ==== Proof.SbCum.lean ====
module

public import proofs.«01_k».proof.Proof.Gen.SbReferenceIdeal.Read
public import proofs.«01_k».proof.Proof.Reals

/-! Running sums along the last axis, as the reference's program has them: a window of the whole length over the padded
operand. -/

@[expose] public section
set_option maxRecDepth 16384
noncomputable section

namespace Cert.SbProof
open Idealize.ShloMosaic Idealize.ShloMosaic.TcCoe Idealize.SL.Sem Cert.Reals

theorem foldl_sum {ι : Type} (f : ι → EReal) (l : List ι) (z : EReal) :
    l.foldl (fun r n => r + f n) z = z + (l.map f).sum := by
  induction l generalizing z with
  | nil => simp
  | cons a l ih => rw [List.foldl_cons, ih, List.map_cons, List.sum_cons, add_assoc]

/-- A position of a window of one row is its place on the last axis. -/
theorem win_pos {N : ℕ} (n : Fin (⟨4, ![1, 1, 1, N]⟩ : Shape).numel) :
    ((⟨4, ![1, 1, 1, N]⟩ : Shape).rowMajor.symm n 0).val = 0 ∧ ((⟨4, ![1, 1, 1, N]⟩ : Shape).rowMajor.symm n 1).val = 0
      ∧ ((⟨4, ![1, 1, 1, N]⟩ : Shape).rowMajor.symm n 2).val = 0 ∧ ((⟨4, ![1, 1, 1, N]⟩ : Shape).rowMajor.symm n 3).val = n.val := by
  have h0 : ((⟨4, ![1, 1, 1, N]⟩ : Shape).rowMajor.symm n 0).val < 1 := ((⟨4, ![1, 1, 1, N]⟩ : Shape).rowMajor.symm n 0).isLt
  have h1 : ((⟨4, ![1, 1, 1, N]⟩ : Shape).rowMajor.symm n 1).val < 1 := ((⟨4, ![1, 1, 1, N]⟩ : Shape).rowMajor.symm n 1).isLt
  have h2 : ((⟨4, ![1, 1, 1, N]⟩ : Shape).rowMajor.symm n 2).val < 1 := ((⟨4, ![1, 1, 1, N]⟩ : Shape).rowMajor.symm n 2).isLt
  have h := Shape.rowMajor_val_four ((⟨4, ![1, 1, 1, N]⟩ : Shape).rowMajor.symm n)
  rw [Equiv.apply_symm_apply] at h
  have e0 := Nat.lt_one_iff.1 h0
  have e1 := Nat.lt_one_iff.1 h1
  have e2 := Nat.lt_one_iff.1 h2
  refine ⟨e0, e1, e2, ?_⟩
  rw [h, e0, e1, e2]
  simp

theorem window_sum {A B N : ℕ} (lo hi : ℕ) (x : (⟨4, ![1, A, B, N]⟩ : Shape).Idx → EReal)
    (f : ℕ → ℝ) (a : Fin A) (b : Fin B) (hx : ∀ s : Fin N, x (ix4 0 a b s) = (f s : EReal))
    (init : EReal) (h0 : init = 0)
    (h : (⟨4, ![1, A, B, N]⟩ : Shape).ReduceWindows (![1, 1, 1, N] : Fin 4 → ℕ) ![1, 1, 1, 1] ![0, 0, 0, lo] ![0, 0, 0, hi] ⟨4, ![1, A, B, N]⟩)
    (j : Fin N) :
    Ideal.hostReduceWindowAdd (![1, 1, 1, N] : Fin 4 → ℕ) ![1, 1, 1, 1] ![0, 0, 0, lo] ![0, 0, 0, hi] h x init (ix4 0 a b j)
      = ((∑ w ∈ Finset.range N, (if lo ≤ j + w ∧ j + w - lo < N then f (j + w - lo) else 0) : ℝ) : EReal) := by
  subst h0
  unfold Ideal.hostReduceWindowAdd Host.reduceWindow
  refine (foldl_sum _ _ _).trans ?_
  rw [zero_add, ← Fin.sum_univ_def]
  rw [Finset.sum_congr rfl (g := fun n : Fin (⟨4, ![1, 1, 1, N]⟩ : Shape).numel =>
    (((fun w : ℕ => if lo ≤ j + w ∧ j + w - lo < N then f (j + w - lo) else 0) n.val : ℝ) : EReal)) ?_]
  · rw [← coe_sum, Fin.sum_univ_eq_sum_range (fun w : ℕ => if lo ≤ j + w ∧ j + w - lo < N then f (j + w - lo) else 0),
      show (⟨4, ![1, 1, 1, N]⟩ : Shape).numel = N from by unfold Shape.numel; rw [Fin.prod_univ_four]; show 1 * 1 * 1 * N = N; omega]
  · intro n _
    obtain ⟨p0, p1, p2, p3⟩ := win_pos n
    dsimp only
    split
    · next hin =>
      have h3 := hin 3
      change lo ≤ j.val * 1 + ((⟨4, ![1, 1, 1, N]⟩ : Shape).rowMajor.symm n 3).val
        ∧ j.val * 1 + ((⟨4, ![1, 1, 1, N]⟩ : Shape).rowMajor.symm n 3).val - lo < N at h3
      rw [p3, Nat.mul_one] at h3
      rw [if_pos h3]
      refine (congrArg x (funext fun c => Fin.ext ?_)).trans (hx ⟨j.val + n.val - lo, h3.2⟩)
      match c with
      | ⟨0, _⟩ =>
        show 0 * 1 + ((⟨4, ![1, 1, 1, N]⟩ : Shape).rowMajor.symm n 0).val - 0 = 0
        rw [p0]
      | ⟨1, _⟩ =>
        show a.val * 1 + ((⟨4, ![1, 1, 1, N]⟩ : Shape).rowMajor.symm n 1).val - 0 = a.val
        rw [p1]; omega
      | ⟨2, _⟩ =>
        show b.val * 1 + ((⟨4, ![1, 1, 1, N]⟩ : Shape).rowMajor.symm n 2).val - 0 = b.val
        rw [p2]; omega
      | ⟨3, _⟩ =>
        show j.val * 1 + ((⟨4, ![1, 1, 1, N]⟩ : Shape).rowMajor.symm n 3).val - lo = j.val + n.val - lo
        rw [p3, Nat.mul_one]
    · next hin =>
      rw [if_neg fun hle => hin fun c => by
        match c with
        | ⟨0, _⟩ =>
          show 0 ≤ 0 * 1 + ((⟨4, ![1, 1, 1, N]⟩ : Shape).rowMajor.symm n 0).val
            ∧ 0 * 1 + ((⟨4, ![1, 1, 1, N]⟩ : Shape).rowMajor.symm n 0).val - 0 < 1
          rw [p0]; omega
        | ⟨1, _⟩ =>
          show 0 ≤ a.val * 1 + ((⟨4, ![1, 1, 1, N]⟩ : Shape).rowMajor.symm n 1).val
            ∧ a.val * 1 + ((⟨4, ![1, 1, 1, N]⟩ : Shape).rowMajor.symm n 1).val - 0 < A
          rw [p1]; have := a.isLt; omega
        | ⟨2, _⟩ =>
          show 0 ≤ b.val * 1 + ((⟨4, ![1, 1, 1, N]⟩ : Shape).rowMajor.symm n 2).val
            ∧ b.val * 1 + ((⟨4, ![1, 1, 1, N]⟩ : Shape).rowMajor.symm n 2).val - 0 < B
          rw [p2]; have := b.isLt; omega
        | ⟨3, _⟩ =>
          show lo ≤ j.val * 1 + ((⟨4, ![1, 1, 1, N]⟩ : Shape).rowMajor.symm n 3).val
            ∧ j.val * 1 + ((⟨4, ![1, 1, 1, N]⟩ : Shape).rowMajor.symm n 3).val - lo < N
          rw [p3, Nat.mul_one]; exact hle]
      rfl

/-- The window that ends at a place sums what comes up to it. -/
theorem up_to (f : ℕ → ℝ) {N lo j : ℕ} (hj : j < N) (hN : lo + 1 = N) :
    ∑ w ∈ Finset.range N, (if lo ≤ j + w ∧ j + w - lo < N then f (j + w - lo) else 0)
      = ∑ w ∈ Finset.range (j + 1), f w := by
  obtain ⟨d, rfl⟩ : ∃ d, N = d + (j + 1) := ⟨N - (j + 1), by omega⟩
  rw [Finset.sum_range_add, Finset.sum_eq_zero, zero_add]
  · refine Finset.sum_congr rfl fun w hw => ?_
    have := Finset.mem_range.1 hw
    rw [if_pos (by omega), show j + (d + w) - lo = w by omega]
  · intro w hw
    have := Finset.mem_range.1 hw
    exact if_neg (by omega)

/-- The window that starts at a place sums what comes from it on. -/
theorem from_on (f : ℕ → ℝ) {N j : ℕ} (hj : j < N) :
    ∑ w ∈ Finset.range N, (if 0 ≤ j + w ∧ j + w - 0 < N then f (j + w - 0) else 0)
      = ∑ w ∈ Finset.range N, f w - ∑ w ∈ Finset.range j, f w := by
  obtain ⟨d, rfl⟩ : ∃ d, N = j + d := ⟨N - j, by omega⟩
  rw [Finset.sum_range_add f, add_sub_cancel_left, show j + d = d + j from add_comm _ _, Finset.sum_range_add, Finset.sum_eq_zero
    (s := Finset.range j), add_zero]
  · refine Finset.sum_congr rfl fun w hw => ?_
    have := Finset.mem_range.1 hw
    rw [if_pos (by omega), Nat.sub_zero]
  · intro w hw
    exact if_neg (by omega)

end Cert.SbProof
-- ==== Proof.SbRef.lean ====
module

public import proofs.«01_k».proof.Proof.Gen.SbReferenceIdeal.Read
public import proofs.«01_k».proof.Proof.SbSoft
public import proofs.«01_k».proof.Proof.SbCum

/-! The reference's program for stick-breaking attention's gradients, read a value at a time: on real arguments each of its
values is the real of the same meaning in `SbPlain`. -/

@[expose] public section
set_option maxRecDepth 16384
noncomputable section

namespace Cert.SbProof
open Idealize.ShloMosaic Idealize.ShloMosaic.TcCoe Idealize.SL.Sem Cert.Reals Cert.SbMath Cert.SbMath.Dat
open Cert.SbReferenceIdeal Cert.SbReferenceIdeal.Read

variable {P Y : ℕ → ℕ → ℝ} {x0 : FVec Ideal S1x4096x4616 .f32} {x1 : FVec Ideal S4096x512 .f32}

theorem r26 (t s : Fin 4096) : val_main_v26 (F := Ideal) (ix2 t s) = bit ((s : ℕ) < t) := by
  rw [← lt_bit s.isLt t.isLt]
  pointwise [val_main_v26, val_main_v24, val_main_v25, val_main_v21, val_main_v20, val_main_v22, val_main_v23]

section
variable (hP : ∀ (t : Fin 4096) (j : Fin 4616), j.val < 1536 → x0 (ix3 0 t j) = (P t j : EReal))
  (hY : ∀ (t : Fin 4096) (j : Fin 512), x1 (ix2 t j) = (Y t j : EReal))
include hP

theorem r12 (h : Fin 8) (t : Fin 4096) (d : Fin 64) :
    val_main_v12 (F := Ideal) x0 (ix4 0 h t d) = (P t (64 * h + d) : EReal) := by
  rw [mul_comm, ← hP t ⟨h.val * 64 + d.val, by omega⟩ (by show h.val * 64 + d.val < 1536; omega)]
  pointwise [val_main_v12, val_main_v11, val_main_v0]
theorem r14 (h : Fin 8) (t : Fin 4096) (d : Fin 64) :
    val_main_v14 (F := Ideal) x0 (ix4 0 h t d) = (P t (512 + (64 * h + d)) : EReal) := by
  rw [mul_comm, ← hP t ⟨512 + (h.val * 64 + d.val), by omega⟩ (by show 512 + (h.val * 64 + d.val) < 1536; omega)]
  pointwise [val_main_v14, val_main_v13, val_main_v1]
theorem r16 (h : Fin 8) (t : Fin 4096) (d : Fin 64) :
    val_main_v16 (F := Ideal) x0 (ix4 0 h t d) = (P t (1024 + (64 * h + d)) : EReal) := by
  rw [mul_comm, ← hP t ⟨1024 + (h.val * 64 + d.val), by omega⟩ (by show 1024 + (h.val * 64 + d.val) < 1536; omega)]
  pointwise [val_main_v16, val_main_v15, val_main_v2]
theorem r19 (h : Fin 8) (t s : Fin 4096) : val_main_v19 (F := Ideal) x0 (ix4 0 h t s) = (zr P h t s : EReal) := by
  have e : val_main_v19 (F := Ideal) x0 (ix4 0 h t s) = (∑ d : Fin 64, val_main_v12 (F := Ideal) x0 (ix4 0 h t d)
      * val_main_v14 (F := Ideal) x0 (ix4 0 h s d)) * Ideal.ofBits .f32 0x3E000000#32 := by
    pointwise [val_main_v19, val_main_v17, val_main_v18, val_main_cst]
  rw [e, bits_eighth, zr, EReal.coe_mul, coe_sum]
  refine congrArg (· * _) (Finset.sum_congr rfl fun d _ => ?_)
  rw [r12 hP, r14 hP, EReal.coe_mul]
theorem rsp (h : Fin 8) (t s : Fin 4096) : val_main_call0_v1_0 (F := Ideal) x0 (ix4 0 h t s) = (sg P h t s : EReal) := by
  rw [sg, ← softplus, EReal.coe_neg, ← r19 hP]
  pointwise [val_main_call0_v1_0, val_main_call0_call0_v4, val_main_call0_call0_v6, val_main_call0_call0_v11, val_main_call0_call0_v10,
    val_main_call0_call0_v9, val_main_call0_call0_v8, val_main_call0_call0_v7, val_main_call0_call0_v5, val_main_call0_call0_v3,
    val_main_call0_call0_v2, val_main_call0_call0_v1, val_main_call0_call0_v0, val_main_call0_call0_cst, val_main_call0_v0]
theorem rs1 (h : Fin 8) (t s : Fin 4096) :
    val_main_v27_1 (F := Ideal) x0 (ix4 0 h t s) = ((1 - (1 + Real.exp (-zr P h t s))⁻¹ : ℝ) : EReal) := by
  have e : val_main_v27_1 (F := Ideal) x0 (ix4 0 h t s)
      = Ideal.exp ((if -val_main_v19 (F := Ideal) x0 (ix4 0 h t s) = Ideal.ofBits .f32 0x7F800000#32 then 0
          else -val_main_v19 (F := Ideal) x0 (ix4 0 h t s))
        - if val_main_call0_v1_0 (F := Ideal) x0 (ix4 0 h t s) = Ideal.ofBits .f32 0x7F800000#32 then 0
          else val_main_call0_v1_0 (F := Ideal) x0 (ix4 0 h t s)) := by
    pointwise [val_main_v27_1, val_main_call0_call0_v21, val_main_call0_call0_v20, val_main_call0_call0_v19, val_main_call0_call0_v18,
      val_main_call0_call0_v17, val_main_call0_call0_v16, val_main_call0_call0_v15, val_main_call0_call0_v14, val_main_call0_call0_v13, val_main_call0_call0_cst_0, val_main_call0_call0_cst_1,
      val_main_call0_call0_cst_2, val_main_call0_call0_cst_3, val_main_call0_v0]
  rw [e, rsp hP, r19 hP, ← EReal.coe_neg, if_neg (coe_ne_inf _), if_neg (coe_ne_inf _), ← EReal.coe_sub, exp_e, sg]
  congr 1
  rw [Real.exp_sub, Real.exp_log (by positivity)]
  have : (1 : ℝ) + Real.exp (-zr P h t s) ≠ 0 := by positivity
  field_simp
  ring
theorem r290 (h : Fin 8) (t s : Fin 4096) : val_main_v29_0 (F := Ideal) x0 (ix4 0 h t s) = (lr P h t s : EReal) := by
  have e : val_main_v29_0 (F := Ideal) x0 (ix4 0 h t s) = Scalar.select (val_main_v26 (F := Ideal) (ix2 t s))
      (-val_main_call0_v1_0 (F := Ideal) x0 (ix4 0 h t s) - val_main_v19 (F := Ideal) x0 (ix4 0 h t s)) 0 := by
    pointwise [val_main_v29_0, val_main_v29_1, val_main_v28, val_main_v27_0, val_main_call1_v2, val_main_call1_v0, val_main_cst_0]
    rw [show (id (constant (F := Ideal) S_ .f32 0#32) ix0 : EReal) = 0 from Ideal.ofBits_zero .f32]
  rw [e, r26, rsp hP, r19 hP, ← EReal.coe_neg, ← EReal.coe_sub, masked, lr]
theorem r30 (h : Fin 8) (t s : Fin 4096) : val_main_v30 (F := Ideal) x0 (ix4 0 h t s)
    = ((∑ x ∈ Finset.range 4096, lr P h t x - ∑ x ∈ Finset.range s, lr P h t x : ℝ) : EReal) := by
  rw [← from_on (fun x => lr P h t x) s.isLt]
  unfold val_main_v30 Host.reduceWindowAdd
  show Ideal.hostReduceWindowAdd (![1, 1, 1, 4096] : Fin 4 → ℕ) ![1, 1, 1, 1] ![0, 0, 0, 0] ![0, 0, 0, 4095]
    Gen.reduceWindows_S1x8x4096x4096_S1x8x4096x4096_w1s1p0_0_w1s1p0_0_w1s1p0_0_w4096s1p0_4095 (val_main_v29_0 (F := Ideal) x0)
    (val_main_call2_v0 (F := Ideal) (Shape.Idx.first Gen.h_S_)) (ix4 0 h t s) = _
  exact window_sum (A := 8) (B := 4096) (N := 4096) 0 4095 (val_main_v29_0 (F := Ideal) x0) (fun x => lr P h t x) h t (r290 hP h t) (val_main_call2_v0 (F := Ideal) (Shape.Idx.first Gen.h_S_))
    (Ideal.ofBits_zero .f32) Gen.reduceWindows_S1x8x4096x4096_S1x8x4096x4096_w1s1p0_0_w1s1p0_0_w1s1p0_0_w4096s1p0_4095 s
theorem r32 (h : Fin 8) (t s : Fin 4096) : val_main_v32 (F := Ideal) x0 (ix4 0 h t s) = (er P h t s : EReal) := by
  have e : val_main_v32 (F := Ideal) x0 (ix4 0 h t s) = -val_main_call0_v1_0 (F := Ideal) x0 (ix4 0 h t s)
      + (val_main_v30 (F := Ideal) x0 (ix4 0 h t s) - val_main_v29_0 (F := Ideal) x0 (ix4 0 h t s)) := by
    pointwise [val_main_v32, val_main_v31, val_main_v27_0]
  rw [e, rsp hP, r30 hP, r290 hP, ← EReal.coe_neg, ← EReal.coe_sub, ← EReal.coe_add, er]
theorem r340 (h : Fin 8) (t s : Fin 4096) : val_main_v34_0 (F := Ideal) x0 (ix4 0 h t s) = (ar P h t s : EReal) := by
  have e : val_main_v34_0 (F := Ideal) x0 (ix4 0 h t s) = Scalar.select (val_main_v26 (F := Ideal) (ix2 t s))
      (Ideal.exp (val_main_v32 (F := Ideal) x0 (ix4 0 h t s))) 0 := by
    pointwise [val_main_v34_0, val_main_v34_1, val_main_v33, val_main_call3_v2, val_main_call3_v0, val_main_cst_1]
    rw [show (id (constant (F := Ideal) S_ .f32 0#32) ix0 : EReal) = 0 from Ideal.ofBits_zero .f32]
  rw [e, r26, r32 hP, exp_e, masked, ar]

include hY
omit hP in
theorem r40 (h : Fin 8) (t : Fin 4096) (d : Fin 64) :
    val_main_v40 (F := Ideal) x1 (ix4 0 h t d) = (Y t (64 * h + d) : EReal) := by
  rw [mul_comm, ← hY t ⟨h.val * 64 + d.val, by omega⟩]
  pointwise [val_main_v40, val_main_v39, val_main_v38]
theorem r45 (h : Fin 8) (t s : Fin 4096) : val_main_v45 (F := Ideal) x0 x1 (ix4 0 h t s) = (gr P Y h t s : EReal) := by
  have e : val_main_v45 (F := Ideal) x0 x1 (ix4 0 h t s) = Scalar.select (val_main_v26 (F := Ideal) (ix2 t s))
      ((∑ x, val_main_v40 (F := Ideal) x1 (ix4 0 h t x) * val_main_v16 (F := Ideal) x0 (ix4 0 h s x))
        * Ideal.exp (val_main_v32 (F := Ideal) x0 (ix4 0 h t s))) 0 := by
    pointwise [val_main_v45, val_main_v44, val_main_v43, val_main_v34_1, val_main_v33, val_main_call4_v0, val_main_call4_cst]
  rw [e, r26, r32 hP, exp_e, Finset.sum_congr rfl (g := fun d : Fin 64 =>
    ((Y t (64 * h + d) * P s (1024 + (64 * h + d)) : ℝ) : EReal)) fun d _ => by rw [r40 hY, r16 hP, EReal.coe_mul],
    ← coe_sum, ← EReal.coe_mul, masked, gr, ar, mul_ite, mul_zero]
theorem r49 (h : Fin 8) (t s : Fin 4096) : val_main_v49 (F := Ideal) x0 x1 (ix4 0 h t s)
    = ((if (s : ℕ) < t then ∑ x ∈ Finset.range s, gr P Y h t x else 0 : ℝ) : EReal) := by
  have e : val_main_v49 (F := Ideal) x0 x1 (ix4 0 h t s) = Scalar.select (val_main_v26 (F := Ideal) (ix2 t s))
      (-val_main_v45 (F := Ideal) x0 x1 (ix4 0 h t s) + val_main_v47 (F := Ideal) x0 x1 (ix4 0 h t s)) 0 := by
    pointwise [val_main_v49, val_main_v48, val_main_v46, val_main_v29_1, val_main_call6_v0, val_main_call6_cst]
  have e47 : val_main_v47 (F := Ideal) x0 x1 (ix4 0 h t s) = ((∑ x ∈ Finset.range (s + 1), gr P Y h t x : ℝ) : EReal) := by
    rw [← up_to (lo := 4095) (fun x => gr P Y h t x) s.isLt rfl]
    unfold val_main_v47 Host.reduceWindowAdd
    show Ideal.hostReduceWindowAdd (![1, 1, 1, 4096] : Fin 4 → ℕ) ![1, 1, 1, 1] ![0, 0, 0, 4095] ![0, 0, 0, 0]
      Gen.reduceWindows_S1x8x4096x4096_S1x8x4096x4096_w1s1p0_0_w1s1p0_0_w1s1p0_0_w4096s1p4095_0 (val_main_v45 (F := Ideal) x0 x1)
      (val_main_call5_v0 (F := Ideal) (Shape.Idx.first Gen.h_S_)) (ix4 0 h t s) = _
    exact window_sum (A := 8) (B := 4096) (N := 4096) 4095 0 (val_main_v45 (F := Ideal) x0 x1) (fun x => gr P Y h t x) h t (r45 hP hY h t) (val_main_call5_v0 (F := Ideal) (Shape.Idx.first Gen.h_S_))
      (Ideal.ofBits_zero .f32) Gen.reduceWindows_S1x8x4096x4096_S1x8x4096x4096_w1s1p0_0_w1s1p0_0_w1s1p0_0_w4096s1p4095_0 s
  rw [e, e47, r26, r45 hP hY, ← EReal.coe_neg, ← EReal.coe_add, masked, Finset.sum_range_succ,
    show ∀ a b : ℝ, -b + (a + b) = a from fun a b => by ring]
theorem r55 (h : Fin 8) (t s : Fin 4096) : val_main_v55 (F := Ideal) x0 x1 (ix4 0 h t s) = ((dr P Y h t s * (1 / 8) : ℝ) : EReal) := by
  have e : val_main_v55 (F := Ideal) x0 x1 (ix4 0 h t s) = (-val_main_v49 (F := Ideal) x0 x1 (ix4 0 h t s)
      + -(-(val_main_v45 (F := Ideal) x0 x1 (ix4 0 h t s) + val_main_v49 (F := Ideal) x0 x1 (ix4 0 h t s))
        * val_main_v27_1 (F := Ideal) x0 (ix4 0 h t s))) * Ideal.ofBits .f32 0x3E000000#32 := by
    pointwise [val_main_v55, val_main_v54, val_main_v53, val_main_v52, val_main_v51, val_main_v50, val_main_call7_v0, val_main_call7_v1, val_main_cst_2]
  rw [e, r49 hP hY, r45 hP hY, rs1 hP, bits_eighth]
  simp only [← EReal.coe_neg, ← EReal.coe_add, ← EReal.coe_mul]
  congr 2
  rw [dr]
  split
  · ring
  · next hs => rw [gr, ar, if_neg hs]; ring

/-- The query's cotangent. -/
theorem ref_dq (t : Fin 4096) (h : Fin 8) (d : Fin 64) :
    val_main_v65 (F := Ideal) x0 x1 (ix2 t ⟨h.val * 64 + d.val, by omega⟩)
      = ((∑ s ∈ Finset.range 4096, dr P Y h t s * (1 / 8) * P s (512 + (64 * h + d)) : ℝ) : EReal) := by
  have e : val_main_v65 (F := Ideal) x0 x1 (ix2 t ⟨h.val * 64 + d.val, by omega⟩)
      = ∑ s : Fin 4096, val_main_v55 (F := Ideal) x0 x1 (ix4 0 h t s) * val_main_v14 (F := Ideal) x0 (ix4 0 h s d) := by
    pointwise [val_main_v65, val_main_v64, val_main_v63, val_main_v62, val_main_v57]
  rw [e]
  exact sum_fin _ _ fun s => by rw [r55 hP hY, r14 hP, ← EReal.coe_mul]
/-- The key's. -/
theorem ref_dk (s : Fin 4096) (h : Fin 8) (d : Fin 64) :
    val_main_v67 (F := Ideal) x0 x1 (ix2 s ⟨h.val * 64 + d.val, by omega⟩)
      = ((∑ t ∈ Finset.range 4096, dr P Y h t s * (1 / 8) * P t (64 * h + d) : ℝ) : EReal) := by
  have e : val_main_v67 (F := Ideal) x0 x1 (ix2 s ⟨h.val * 64 + d.val, by omega⟩)
      = ∑ t : Fin 4096, val_main_v55 (F := Ideal) x0 x1 (ix4 0 h t s) * val_main_v12 (F := Ideal) x0 (ix4 0 h t d) := by
    pointwise [val_main_v67, val_main_v66, val_main_v61, val_main_v60, val_main_v56]
  rw [e]
  exact sum_fin _ _ fun t => by rw [r55 hP hY, r12 hP, ← EReal.coe_mul]
/-- The value's. -/
theorem ref_dv (s : Fin 4096) (h : Fin 8) (d : Fin 64) :
    val_main_v69 (F := Ideal) x0 x1 (ix2 s ⟨h.val * 64 + d.val, by omega⟩)
      = ((∑ t ∈ Finset.range 4096, Y t (64 * h + d) * ar P h t s : ℝ) : EReal) := by
  have e : val_main_v69 (F := Ideal) x0 x1 (ix2 s ⟨h.val * 64 + d.val, by omega⟩)
      = ∑ t : Fin 4096, val_main_v40 (F := Ideal) x1 (ix4 0 h t d) * val_main_v34_0 (F := Ideal) x0 (ix4 0 h t s) := by
    pointwise [val_main_v69, val_main_v68, val_main_v59, val_main_v58, val_main_v42, val_main_v41]
  rw [e]
  exact sum_fin _ _ fun t => by rw [r40 hY, r340 hP, ← EReal.coe_mul]
end

end Cert.SbProof
-- ==== Proof.SbClaim.lean ====
module

public import proofs.«01_k».proof.Defs
public import proofs.«01_k».proof.Proof.SbEnd
public import proofs.«01_k».proof.Proof.SbRef
public import proofs.«01_k».proof.Proof.Gen.SbKernel.Frame
public import proofs.«01_k».proof.Proof.Gen.SbReferenceIdeal.Run
public import proofs.«01_k».proof.Proof.Gen.SbReferenceIdeal.Read

/-! Stick-breaking attention's backward claims: the precondition read as real entries and scores of at least -80, and the
value claim. -/

@[expose] public section
set_option maxRecDepth 16384
noncomputable section

namespace Cert.SbProof
open Idealize.ShloMosaic Idealize.ShloMosaic.TcCoe Idealize.SL.Sem Cert.Reals Cert.SbMath

theorem preFacts : Cert.Pre_sb_in.Facts := by
  constructor <;> decide

attribute [local instance] preFacts Cert.SbKernelIdeal.Gen.facts Cert.SbReferenceIdeal.Gen.facts

/-- The entries of the projection as reals, and of the cotangent. -/
def realP (x : FVec Ideal (⟨3, ![1, 4096, 4616]⟩ : Shape) .f32) (t j : ℕ) : ℝ :=
  if h : t < 4096 ∧ j < 4616 then EReal.toReal (x (ix3 0 ⟨t, h.1⟩ ⟨j, h.2⟩)) else 0
def realY (x : FVec Ideal (⟨2, ![4096, 512]⟩ : Shape) .f32) (t j : ℕ) : ℝ :=
  if h : t < 4096 ∧ j < 512 then EReal.toReal (x (ix2 ⟨t, h.1⟩ ⟨j, h.2⟩)) else 0

theorem coe_of_real {a : EReal} (h : IsReal a) : a = ((EReal.toReal a : ℝ) : EReal) := by
  obtain ⟨r, rfl⟩ := h
  rfl

theorem bits_m80 : Ideal.ofBits .f32 0xC2A00000#32 = ((-80 : ℝ) : EReal) := by
  simp [Ideal.ofBits, Ideal.ieee, -EReal.coe_mul, -EReal.coe_neg]; norm_num

open Cert.SbKernelIdeal Cert.SbKernelIdeal.Gen in
theorem realsP (m : (ℓ : Loc nD τ sig) → Buf (Elt Ideal) ℓ) (h : Cert.Pre_SbKernelIdeal_sb_in m) (c : Dev nD)
    (t : Fin 4096) (j : Fin 4616) (hj : j.val < 1536) : argP m c (ix3 0 t j) = (realP (argP m c) t j : EReal) := by
  have k : (Cert.Pre_sb_in.fn (F := Ideal) (argP m c) (argY m c)).1 (ix3 0 t ⟨j, hj⟩)
      = Ideal.cmp .olt (max (argP m c (ix3 0 t j)) (-argP m c (ix3 0 t j))) (Ideal.ofBits .f32 0x7F800000#32) := by
    pointwise [Cert.Pre_sb_in.fn, Cert.Pre_sb_in.fn_part1]
    rfl
  have e : IsReal (argP m c (ix3 0 t j)) := isReal_of_abs_lt (k.symm.trans (congrFun (h c).1 (ix3 0 t ⟨j, hj⟩)))
  rw [realP, dif_pos ⟨t.isLt, j.isLt⟩]
  exact coe_of_real e

open Cert.SbKernelIdeal Cert.SbKernelIdeal.Gen in
theorem realsY (m : (ℓ : Loc nD τ sig) → Buf (Elt Ideal) ℓ) (h : Cert.Pre_SbKernelIdeal_sb_in m) (c : Dev nD)
    (t : Fin 4096) (j : Fin 512) : argY m c (ix2 t j) = (realY (argY m c) t j : EReal) := by
  have e : IsReal (argY m c (ix2 t j)) := isReal_of_abs_lt (congrFun (h c).2.1 (ix2 t j))
  rw [realY, dif_pos ⟨t.isLt, j.isLt⟩]
  exact coe_of_real e

open Cert.SbKernelIdeal Cert.SbKernelIdeal.Gen in
theorem low (m : (ℓ : Loc nD τ sig) → Buf (Elt Ideal) ℓ) (h : Cert.Pre_SbKernelIdeal_sb_in m) (c : Dev nD) :
    Low (realP (argP m c)) := by
  intro hd t s hh ht hs
  have e := congrFun (h c).2.2 (ix4 0 ⟨hd, hh⟩ ⟨t, ht⟩ ⟨s, by omega⟩)
  have e' : (Cert.Pre_sb_in.fn (F := Ideal) (argP m c) (argY m c)).2.2 (ix4 0 ⟨hd, hh⟩ ⟨t, ht⟩ ⟨s, by omega⟩)
      = BitVec.ofBool (decide (Ideal.ofBits .f32 0xC2A00000#32 ≤ Scalar.select (IntOp.cmpi .slt (BitVec.ofNat 32 s) (BitVec.ofNat 32 t))
          ((∑ x : Fin 64, argP m c (ix3 0 ⟨t, ht⟩ ⟨hd * 64 + x.val, by omega⟩) * argP m c (ix3 0 ⟨s, by omega⟩ ⟨512 + (hd * 64 + x.val), by omega⟩))
            * Ideal.ofBits .f32 0x3E000000#32) 0)) := by
    pointwise [Cert.Pre_sb_in.fn, Cert.Pre_sb_in.fn_part1, Cert.Pre_sb_in.fn_where]
    rw [show (id (constant (F := Ideal) Cert.Pre_sb_in.S_ .f32 0#32) ix0 : EReal) = 0 from Ideal.ofBits_zero .f32]
  have sc : _ = ((zr (realP (argP m c)) hd t s : ℝ) : EReal) := score m c (realsP m h c) ⟨hd, hh⟩ ⟨t, ht⟩ ⟨s, by omega⟩
  dsimp only at sc
  rw [sc, lt_bit (by omega) ht, Dat.sel_pos hs, bits_m80] at e'
  have e2 := e'.symm.trans e
  by_contra hn
  rw [decide_eq_false (fun hc => hn (EReal.coe_le_coe_iff.1 hc))] at e2
  exact absurd e2 (by decide)

open Cert.SbKernelIdeal Cert.SbKernelIdeal.Gen Cert.SbReferenceIdeal.Read in
theorem res0 (m : (ℓ : Loc nD τ sig) → Buf (Elt Ideal) ℓ) (h : Cert.Pre_SbKernelIdeal_sb_in m) (c : Dev nD) :
    val_main_v65 (F := Ideal) (argP m c) (argY m c) = Value.G5 m c := by
  funext i
  obtain ⟨r, l, rfl⟩ : ∃ (r : Fin 4096) (l : Fin 512), i = ix2 r l := ⟨i 0, i 1, eq_ix2 i⟩
  refine Eq.trans ?_ (G5_at m c (realsP m h c) (realsY m h c) (low m h c) r l).symm
  have e := ref_dq (realsP m h c) (realsY m h c) r ⟨l / 64, by omega⟩ ⟨l % 64, by omega⟩
  dsimp only at e
  simp only [show l.val / 64 * 64 + l.val % 64 = l.val by omega, show 64 * (l.val / 64) + l.val % 64 = l.val by omega] at e
  exact e

open Cert.SbKernelIdeal Cert.SbKernelIdeal.Gen Cert.SbReferenceIdeal.Read in
theorem res1 (m : (ℓ : Loc nD τ sig) → Buf (Elt Ideal) ℓ) (h : Cert.Pre_SbKernelIdeal_sb_in m) (c : Dev nD) :
    val_main_v67 (F := Ideal) (argP m c) (argY m c) = Value.G6 m c := by
  funext i
  obtain ⟨r, l, rfl⟩ : ∃ (r : Fin 4096) (l : Fin 512), i = ix2 r l := ⟨i 0, i 1, eq_ix2 i⟩
  refine Eq.trans ?_ (G6_at m c (realsP m h c) (realsY m h c) (low m h c) r l).symm
  have e := ref_dk (realsP m h c) (realsY m h c) r ⟨l / 64, by omega⟩ ⟨l % 64, by omega⟩
  dsimp only at e
  simp only [show l.val / 64 * 64 + l.val % 64 = l.val by omega, show 64 * (l.val / 64) + l.val % 64 = l.val by omega] at e
  exact e

open Cert.SbKernelIdeal Cert.SbKernelIdeal.Gen Cert.SbReferenceIdeal.Read in
theorem res2 (m : (ℓ : Loc nD τ sig) → Buf (Elt Ideal) ℓ) (h : Cert.Pre_SbKernelIdeal_sb_in m) (c : Dev nD) :
    val_main_v69 (F := Ideal) (argP m c) (argY m c) = Value.G7 m c := by
  funext i
  obtain ⟨r, l, rfl⟩ : ∃ (r : Fin 4096) (l : Fin 512), i = ix2 r l := ⟨i 0, i 1, eq_ix2 i⟩
  refine Eq.trans ?_ (G7_at m c (realsP m h c) (realsY m h c) (low m h c) r l).symm
  have e := ref_dv (realsP m h c) (realsY m h c) r ⟨l / 64, by omega⟩ ⟨l % 64, by omega⟩
  dsimp only at e
  simp only [show l.val / 64 * 64 + l.val % 64 = l.val by omega, show 64 * (l.val / 64) + l.val % 64 = l.val by omega] at e
  exact e

theorem algebraic : Cert.algebraic_SbKernelIdeal_SbReferenceIdeal_pre_sb_in := by
  intro m g m' g' hpre hag
  refine ⟨fun c => Cert.SbKernelIdeal.Value.G5 m c, fun c => Cert.SbKernelIdeal.Value.G6 m c, fun c => Cert.SbKernelIdeal.Value.G7 m c, ?_, ?_⟩
  · exact Cert.SbKernelIdeal.Value.run m g
  · refine (θ_run _ _ _).mono (fun r h c => ?_) (Cert.SbReferenceIdeal.Value.run m' g')
    obtain ⟨h0, h1, h2, hrest⟩ := h c
    obtain ⟨a0, a1⟩ := hag c
    refine ⟨h0.trans ?_, h1.trans ?_, h2.trans ?_, hrest⟩
    · rw [Cert.SbReferenceIdeal.Read.val_main_v65_eq, a0, a1]
      exact res0 m hpre c
    · rw [Cert.SbReferenceIdeal.Read.val_main_v67_eq, a0, a1]
      exact res1 m hpre c
    · rw [Cert.SbReferenceIdeal.Read.val_main_v69_eq, a0, a1]
      exact res2 m hpre c

theorem frameR : Cert.quiescent_SbReferenceIdeal := by
  intro m g _
  exact (θ_run _ _ _).mono (fun r h => ⟨fun c => (h c).2.2.2, sem_eq_zero_of_no_sems (by decide) r.2⟩)
    (Cert.SbReferenceIdeal.Value.run m g)

end Cert.SbProof
end
-- ==== Proof.ConvChunk.lean ====
module

public import Idealize.ShloMosaic.Lib.Pointwise
public import proofs.«01_k».proof.Proof.Gen.ConvKernelIdeal.Value

/-! The convolution's backward kernel at one grid point: its sixteen blocks of rows are the same functions of the block's number. -/

@[expose] public section
set_option maxRecDepth 16384
noncomputable section

namespace Cert.ConvProof
open Idealize.ShloMosaic Idealize.ShloMosaic.TcCoe
open Cert.ConvKernelIdeal Cert.ConvKernelIdeal.Gen

/-- Eight rows before a block, then the block. -/
def win (prev : FVec Ideal S8x128 .f32) (cur : FVec Ideal S256x128 .f32) : FVec Ideal S264x128 .f32 :=
  concatenate S264x128 0 [⟨S8x128, prev⟩, ⟨S256x128, cur⟩] concatenates_S8x128_S256x128_S264x128_d0

/-- The block moved down by `k` rows. -/
def back (k : BitVec 32) (prev : FVec Ideal S8x128 .f32) (cur : FVec Ideal S256x128 .f32) : FVec Ideal S256x128 .f32 :=
  extractStridedSlice S256x128 ![8, 0] (dynamicRotate 0 k none (win prev cur) rotates_S264x128_d0) slices_S264x128_o8_0_S256x128

/-- The convolution before its SiLU. -/
def pre (w : FVec Ideal S4x128 .f32) (b : FVec Ideal S1x128 .f32) (prev : FVec Ideal S8x128 .f32) (cur : FVec Ideal S256x128 .f32) : FVec Ideal S256x128 .f32 :=
  addf (broadcastTo S256x128 b broadcasts_S1x128_S256x128)
    (addf (addf (addf
      (mulf (broadcastTo S256x128 (extractStridedSlice S1x128 ![3, 0] w slices_S4x128_o3_0_S1x128) broadcasts_S1x128_S256x128) cur)
      (mulf (broadcastTo S256x128 (extractStridedSlice S1x128 ![0, 0] w slices_S4x128_o0_0_S1x128) broadcasts_S1x128_S256x128) (back 3#32 prev cur)))
      (mulf (broadcastTo S256x128 (extractStridedSlice S1x128 ![1, 0] w slices_S4x128_o1_0_S1x128) broadcasts_S1x128_S256x128) (back 2#32 prev cur)))
      (mulf (broadcastTo S256x128 (extractStridedSlice S1x128 ![2, 0] w slices_S4x128_o2_0_S1x128) broadcasts_S1x128_S256x128) (back 1#32 prev cur)))

/-- The gradient of the convolution before its SiLU. -/
def dpre (a : BitVec 32) (w : FVec Ideal S4x128 .f32) (b : FVec Ideal S1x128 .f32) (prev : FVec Ideal S8x128 .f32) (cur : FVec Ideal S256x128 .f32)
    (q k : FVec Ideal S256x128 .bf16) : FVec Ideal S256x128 .f32 :=
  mulf (Scalar.select (Scalar.cmpi .slt a 4#32) (extf .f32 q bitsLt_bf16_f32)
      (mulf (extf .f32 k bitsLt_bf16_f32) (broadcast S256x128 (Scalar.ofBits .f32 0x3DB504F3#32))))
    (mulf (logistic (pre w b prev cur))
      (addf (broadcast S256x128 (Scalar.ofBits .f32 0x3F800000#32))
        (mulf (pre w b prev cur) (subf (broadcast S256x128 (Scalar.ofBits .f32 0x3F800000#32)) (logistic (pre w b prev cur))))))

/-- A block's sum over its rows. -/
def red (x : FVec Ideal S256x128 .f32) : FVec Ideal S1x128 .f32 :=
  shapeCast S1x128 (multiReduction .add [0] S128 x 0x00000000#32 reduces_S256x128_S128 (.inl rfl) rfl) shapeCasts_S128_S1x128

/-- The input's gradient on a block, from the 264 rows of the gradient before the SiLU. -/
def dx (w : FVec Ideal S4x128 .f32) (g : FVec Ideal S264x128 .f32) : FVec Ideal S256x128 .bf16 :=
  truncf .bf16 (addf (addf (addf
      (mulf (broadcastTo S256x128 (extractStridedSlice S1x128 ![3, 0] w slices_S4x128_o3_0_S1x128) broadcasts_S1x128_S256x128) (extractStridedSlice S256x128 ![0, 0] g slices_S264x128_o0_0_S256x128))
      (mulf (broadcastTo S256x128 (extractStridedSlice S1x128 ![0, 0] w slices_S4x128_o0_0_S1x128) broadcasts_S1x128_S256x128) (extractStridedSlice S256x128 ![0, 0] (dynamicRotate 0 261#32 none g rotates_S264x128_d0) slices_S264x128_o0_0_S256x128)))
      (mulf (broadcastTo S256x128 (extractStridedSlice S1x128 ![1, 0] w slices_S4x128_o1_0_S1x128) broadcasts_S1x128_S256x128) (extractStridedSlice S256x128 ![0, 0] (dynamicRotate 0 262#32 none g rotates_S264x128_d0) slices_S264x128_o0_0_S256x128)))
      (mulf (broadcastTo S256x128 (extractStridedSlice S1x128 ![2, 0] w slices_S4x128_o2_0_S1x128) broadcasts_S1x128_S256x128) (extractStridedSlice S256x128 ![0, 0] (dynamicRotate 0 263#32 none g rotates_S264x128_d0) slices_S264x128_o0_0_S256x128))) bitsLt_bf16_f32

/-- The sum of sixteen blocks' rows, from zero, in the blocks' order. -/
def acc (f : (n : ℕ) → n < 16 → FVec Ideal S1x128 .f32) : (n : ℕ) → n ≤ 16 → FVec Ideal S1x128 .f32
  | 0, _ => broadcast S1x128 (Scalar.ofBits .f32 0x00000000#32)
  | n + 1, h => addf (acc f n (Nat.le_of_succ_le h)) (f n h)

theorem inb8 (n : ℕ) (hn : n < 16) : ∀ a, (![256 * n - 8, 0] : Fin 2 → ℕ) a + S8x128.size a ≤ S4096x128.size a := by
  intro a
  fin_cases a
  · show 256 * n - 8 + 8 ≤ 4096; omega
  · show 0 + 128 ≤ 128; omega

theorem inb256 (n : ℕ) (hn : n < 16) : ∀ a, (![256 * n, 0] : Fin 2 → ℕ) a + S256x128.size a ≤ S4096x128.size a := by
  intro a
  fin_cases a
  · show 256 * n + 256 ≤ 4096; omega
  · show 0 + 128 ≤ 128; omega

theorem inbW (n : ℕ) (hn : n < 16) : ∀ a, (![256 * n, 0] : Fin 2 → ℕ) a + S264x128.size a ≤ S4104x128.size a := by
  intro a
  fin_cases a
  · show 256 * n + 264 ≤ 4104; omega
  · show 0 + 128 ≤ 128; omega

section
variable {σ : RefSig} (arg1 : Memref σ .tc .vmem S4096x128 .f32) (harg1 : arg1.IsWhole) (arg2 : Memref σ .tc .vmem S4x128 .f32) (harg2 : arg2.IsWhole)
  (arg3 : Memref σ .tc .vmem S1x128 .f32) (harg3 : arg3.IsWhole) (x0 : Vec Ideal S4096x128 .f32) (x1 : Vec Ideal S4x128 .f32) (x2 : Vec Ideal S1x128 .f32)

/-- Block `n` of the input. -/
def cur (n : ℕ) (hn : n < 16) : FVec Ideal S256x128 .f32 :=
  shapeCast S256x128 (arg1.view.readAt (Elt Ideal) (Rect.unit (s := S4096x128) ![256 * n, 0] S256x128.size (inb256 n hn)).toLoadRect (harg1.unread x0)) shapeCasts_S256x128_S256x128

/-- The eight rows before block `n`, zero before the first. -/
def prev : (n : ℕ) → n < 16 → FVec Ideal S8x128 .f32
  | 0, _ => broadcast S8x128 (Scalar.ofBits .f32 0x00000000#32)
  | n + 1, hn => shapeCast S8x128 (arg1.view.readAt (Elt Ideal) (Rect.unit (s := S4096x128) ![256 * (n + 1) - 8, 0] S8x128.size (inb8 (n + 1) hn)).toLoadRect (harg1.unread x0)) shapeCasts_S8x128_S8x128

/-- The taps, the bias. -/
def wv : FVec Ideal S4x128 .f32 :=
  shapeCast S4x128 (arg2.view.readAt (Elt Ideal) (Rect.unit (s := S4x128) ![0, 0] S4x128.size inb_S4x128_S4x128_0_0).toLoadRect (harg2.unread x1)) shapeCasts_S4x128_S4x128

def bv : FVec Ideal S1x128 .f32 :=
  arg3.view.readAt (Elt Ideal) (Rect.unit (s := S1x128) ![0, 0] S1x128.size inb_S1x128_S1x128_0_0).toLoadRect (harg3.unread x2)

end

variable (c : Dev nD) (i : grid0.Coords) (arg1 : Memref sig .tc .vmem S4096x128 .f32) (harg1 : arg1.IsWhole) (arg2 : Memref sig .tc .vmem S4x128 .f32) (harg2 : arg2.IsWhole)
  (arg3 : Memref sig .tc .vmem S1x128 .f32) (harg3 : arg3.IsWhole) (arg4 : Memref sig .tc .vmem S4096x128 .bf16) (harg4 : arg4.IsWhole) (arg5 : Memref sig .tc .vmem S4096x128 .bf16) (harg5 : arg5.IsWhole)
  (arg6 : Memref sig .tc .vmem S4096x128 .bf16) (harg6 : arg6.IsWhole) (arg7 : Memref sig .tc .vmem S4x128 .f32) (harg7 : arg7.IsWhole) (arg8 : Memref sig .tc .vmem S1x128 .f32) (harg8 : arg8.IsWhole)
  (arg9 : Memref sig .tc .vmem S4104x128 .f32) (harg9 : arg9.IsWhole)
  (x0 : Vec Ideal S4096x128 .f32) (x1 : Vec Ideal S4x128 .f32) (x2 : Vec Ideal S1x128 .f32) (x3 x4 : Vec Ideal S4096x128 .bf16)

/-- Block `n` of a cotangent. -/
def ct {arg : Memref sig .tc .vmem S4096x128 .bf16} (harg : arg.IsWhole) (x : Vec Ideal S4096x128 .bf16) (n : ℕ) (hn : n < 16) : FVec Ideal S256x128 .bf16 :=
  arg.view.readAt (Elt Ideal) (Rect.unit (s := S4096x128) ![256 * n, 0] S256x128.size (inb256 n hn)).toLoadRect (harg.unread x)

/-- Block `n` of the gradient before the SiLU. -/
def dp (n : ℕ) (hn : n < 16) : FVec Ideal S256x128 .f32 :=
  dpre (BitVec.ofNat 32 (i 0).val) (wv arg2 harg2 x1) (bv arg3 harg3 x2) (prev arg1 harg1 x0 n hn) (cur arg1 harg1 x0 n hn) (ct harg4 x3 n hn) (ct harg5 x4 n hn)

theorem inbP (n : ℕ) (hn : n < 16) : ∀ a, (![256 * n, 0] : Fin 2 → ℕ) a + S256x128.size a ≤ S4104x128.size a := by
  intro a
  fin_cases a
  · show 256 * n + 256 ≤ 4104; omega
  · show 0 + 128 ≤ 128; omega

/-- The stores of the gradient before the SiLU, the last one first. -/
def stores : (n : ℕ) → n ≤ 16 → List (View.Piece (Elt Ideal) S4104x128 .f32)
  | 0, _ => []
  | n + 1, h => ⟨Rect.unit (s := S4104x128) ![256 * n, 0] S256x128.size (inbP n h), shapeCast S256x128 (dp i arg1 harg1 arg2 harg2 arg3 harg3 arg4 harg4 arg5 harg5 x0 x1 x2 x3 x4 n h) shapeCasts_S256x128_S256x128⟩ :: stores n (Nat.le_of_succ_le h)

/-- Eight rows of zeros. -/
def zero8 : FVec Ideal S8x128 .f32 := broadcast S8x128 (Scalar.ofBits .f32 0x00000000#32)

/-- What the scratch buffer holds when the second pass begins. -/
def held : List (View.Piece (Elt Ideal) S4104x128 .f32) :=
  ⟨Rect.unit (s := S4104x128) ![4096, 0] S8x128.size inb_S4104x128_S8x128_4096_0,
    shapeCast S8x128 zero8 shapeCasts_S8x128_S8x128⟩
  :: stores i arg1 harg1 arg2 harg2 arg3 harg3 arg4 harg4 arg5 harg5 x0 x1 x2 x3 x4 16 le_rfl

/-- The stores of the input's gradient. -/
def dxs : (n : ℕ) → n ≤ 16 → List (View.Piece (Elt Ideal) S4096x128 .bf16)
  | 0, _ => []
  | n + 1, h => ⟨Rect.unit (s := S4096x128) ![256 * n, 0] S256x128.size (inb256 n h),
      dx (wv arg2 harg2 x1) (arg9.view.readCov (held i arg1 harg1 arg2 harg2 arg3 harg3 arg4 harg4 arg5 harg5 x0 x1 x2 x3 x4) (Rect.unit (s := S4104x128) ![256 * n, 0] S264x128.size (inbW n h)).toLoadRect)⟩ :: dxs n (Nat.le_of_succ_le h)

/-- The stores of the bias' gradient. -/
theorem run_db : (kernelRun0_A (F := Ideal) c i arg1 harg1 arg2 harg2 arg3 harg3 arg4 harg4 arg5 harg5 arg6 harg6 arg7 harg7 arg8 harg8 arg9 harg9 x0 x1 x2 x3 x4).2.2.1 = [(⟨Rect.unit (s := S1x128) ![0, 0] S1x128.size inb_S1x128_S1x128_0_0, acc (fun n h => red (dp i arg1 harg1 arg2 harg2 arg3 harg3 arg4 harg4 arg5 harg5 x0 x1 x2 x3 x4 n h)) 16 le_rfl⟩ : View.Piece (Elt Ideal) S1x128 .f32)] := by
  unfold kernelRun0_A
  rfl

/-- The stores of the taps' gradient. -/
theorem run_dw : (kernelRun0_A (F := Ideal) c i arg1 harg1 arg2 harg2 arg3 harg3 arg4 harg4 arg5 harg5 arg6 harg6 arg7 harg7 arg8 harg8 arg9 harg9 x0 x1 x2 x3 x4).2.1 = [(⟨Rect.unit (s := S4x128) ![0, 0] S4x128.size inb_S4x128_S4x128_0_0,
    concatenate S4x128 0 [⟨S1x128, acc (fun n h => red (mulf (dp i arg1 harg1 arg2 harg2 arg3 harg3 arg4 harg4 arg5 harg5 x0 x1 x2 x3 x4 n h) (back 3#32 (prev arg1 harg1 x0 n h) (cur arg1 harg1 x0 n h)))) 16 le_rfl⟩,
      ⟨S1x128, acc (fun n h => red (mulf (dp i arg1 harg1 arg2 harg2 arg3 harg3 arg4 harg4 arg5 harg5 x0 x1 x2 x3 x4 n h) (back 2#32 (prev arg1 harg1 x0 n h) (cur arg1 harg1 x0 n h)))) 16 le_rfl⟩,
      ⟨S1x128, acc (fun n h => red (mulf (dp i arg1 harg1 arg2 harg2 arg3 harg3 arg4 harg4 arg5 harg5 x0 x1 x2 x3 x4 n h) (back 1#32 (prev arg1 harg1 x0 n h) (cur arg1 harg1 x0 n h)))) 16 le_rfl⟩,
      ⟨S1x128, acc (fun n h => red (mulf (dp i arg1 harg1 arg2 harg2 arg3 harg3 arg4 harg4 arg5 harg5 x0 x1 x2 x3 x4 n h) (cur arg1 harg1 x0 n h))) 16 le_rfl⟩] concatenates_S1x128_S1x128_S1x128_S1x128_S4x128_d0⟩ : View.Piece (Elt Ideal) S4x128 .f32)] := by
  unfold kernelRun0_A
  rfl

/-- The stores of the input's gradient, as the run left them. -/
theorem run_dx : (kernelRun0_A (F := Ideal) c i arg1 harg1 arg2 harg2 arg3 harg3 arg4 harg4 arg5 harg5 arg6 harg6 arg7 harg7 arg8 harg8 arg9 harg9 x0 x1 x2 x3 x4).1 = dxs i arg1 harg1 arg2 harg2 arg3 harg3 arg4 harg4 arg5 harg5 arg9 x0 x1 x2 x3 x4 16 le_rfl := by
  unfold kernelRun0_A
  rfl

end Cert.ConvProof
-- ==== Proof.ConvMath.lean ====
module

public import proofs.«01_k».proof.Proof.Reals

/-! The convolution with its SiLU, and its gradients, as real functions of row and column. -/

@[expose] public section
noncomputable section

namespace Cert.ConvMath
open Idealize.ShloMosaic

/-- The number that scales the keys. -/
def cs : ℝ := (Ideal.ofBits .f32 0x3DB504F3#32).toReal

theorem bits_cs : Ideal.ofBits .f32 0x3DB504F3#32 = ((cs : ℝ) : EReal) := by
  unfold cs
  rw [EReal.coe_toReal]
  · simp [Ideal.ofBits, Ideal.ieee, -EReal.coe_mul]
  · simp [Ideal.ofBits, Ideal.ieee, -EReal.coe_mul]

/-- The logistic function. -/
def sg (x : ℝ) : ℝ := (1 + Real.exp (-x))⁻¹

/-- The input with eight rows of zeros before it. -/
def xq (X : ℕ → ℕ → ℝ) (u l : ℕ) : ℝ := if u < 8 then 0 else X (u - 8) l

/-- The same of entries that need not be finite. -/
def xz (Y : ℕ → ℕ → EReal) (u l : ℕ) : EReal := if u < 8 then 0 else Y (u - 8) l

theorem xz_coe (X : ℕ → ℕ → ℝ) (u l : ℕ) : xz (fun r l => ((X r l : ℝ) : EReal)) u l = ((xq X u l : ℝ) : EReal) := by
  unfold xz xq
  split
  · exact EReal.coe_zero.symm
  · rfl

/-- The convolution with its bias, of entries that need not be finite. -/
def ce (Y V : ℕ → ℕ → EReal) (A : ℕ → EReal) (t l : ℕ) : EReal :=
  A l + (V 3 l * xz Y (t + 8) l + V 0 l * xz Y (t + 5) l + V 1 l * xz Y (t + 6) l + V 2 l * xz Y (t + 7) l)

/-- The same after its SiLU. -/
def act (Y V : ℕ → ℕ → EReal) (A : ℕ → EReal) (t l : ℕ) : EReal := ce Y V A t l * Ideal.logistic (ce Y V A t l)

variable (X W : ℕ → ℕ → ℝ) (B : ℕ → ℝ) (G : ℕ → ℕ → ℝ)

/-- The convolution with its bias. -/
def cv (t l : ℕ) : ℝ :=
  B l + (W 3 l * xq X (t + 8) l + W 0 l * xq X (t + 5) l + W 1 l * xq X (t + 6) l + W 2 l * xq X (t + 7) l)

/-- The gradient before the SiLU. -/
def dg (t l : ℕ) : ℝ := G t l * (sg (cv X W B t l) * (1 + cv X W B t l * (1 - sg (cv X W B t l))))

/-- The same, zero behind the last row. -/
def dz (t l : ℕ) : ℝ := if t < 4096 then dg X W B G t l else 0

/-- The gradient of the input. -/
def gx (t l : ℕ) : ℝ :=
  W 3 l * dz X W B G t l + W 0 l * dz X W B G (t + 3) l + W 1 l * dz X W B G (t + 2) l + W 2 l * dz X W B G (t + 1) l

/-- The gradient of tap `j`, over the first `n` rows. -/
def gw (n j l : ℕ) : ℝ := ∑ t ∈ Finset.range n, dg X W B G t l * xq X (t + 5 + j) l

/-- The gradient of the bias, over the first `n` rows. -/
def gb (n l : ℕ) : ℝ := ∑ t ∈ Finset.range n, dg X W B G t l

end Cert.ConvMath
-- ==== Proof.ConvAt.lean ====
module

public import proofs.«01_k».proof.Proof.ConvChunk
public import proofs.«01_k».proof.Proof.ConvMath

/-! The entries of one block's values, over the reals. -/

@[expose] public section
set_option maxRecDepth 16384
noncomputable section

namespace Cert.ConvProof
open Idealize.ShloMosaic Idealize.ShloMosaic.TcCoe
open Cert.ConvKernelIdeal Cert.ConvKernelIdeal.Gen Cert.ConvMath

theorem win_at {prev : FVec Ideal S8x128 .f32} {cur : FVec Ideal S256x128 .f32} {Z : ℕ → ℕ → EReal}
    (hp : ∀ (r : Fin 8) (l : Fin 128), prev (ix2 r l) = Z r l)
    (hc : ∀ (r : Fin 256) (l : Fin 128), cur (ix2 r l) = Z (r + 8) l) (r : Fin 264) (l : Fin 128) :
    win prev cur (ix2 r l) = Z r l := by
  pointwise [win]
  split
  · exact hp _ l
  · rename_i h
    refine (hc _ l).trans ?_
    show Z (r.val - 8 + 8) l = _
    rw [show r.val - 8 + 8 = r.val by omega]

theorem rot {g : FVec Ideal S264x128 .f32} {Z : ℕ → ℕ → EReal} (hg : ∀ (r : Fin 264) (l : Fin 128), g (ix2 r l) = Z r l)
    (a b : ℕ) (ha : a < 264) (h : a = b) (l : Fin 128) : g (ix2 ⟨a, ha⟩ l) = Z b l := by
  subst h; exact hg _ l

theorem red_at {x : FVec Ideal S256x128 .f32} {f : ℕ → ℝ} {l : Fin 128} (h : ∀ r : Fin 256, x (ix2 r l) = ((f r : ℝ) : EReal)) :
    red x (ix2 0 l) = ((∑ r ∈ Finset.range 256, f r : ℝ) : EReal) := by
  have : red x (ix2 0 l) = ∑ r : Fin 256, x (ix2 r l) := by pointwise [red]
  rw [this, Finset.sum_congr rfl fun r _ => h r, ← Cert.Reals.coe_sum, Finset.sum_range]

variable {X W : ℕ → ℕ → ℝ} {B : ℕ → ℝ} {G : ℕ → ℕ → ℝ} {n : ℕ}
variable {prev : FVec Ideal S8x128 .f32} {cur : FVec Ideal S256x128 .f32} {w : FVec Ideal S4x128 .f32} {b : FVec Ideal S1x128 .f32}

section
variable {Y V : ℕ → ℕ → EReal} {A : ℕ → EReal}
  (hp : ∀ (r : Fin 8) (l : Fin 128), prev (ix2 r l) = Y (256 * n + r) l)
  (hc : ∀ (r : Fin 256) (l : Fin 128), cur (ix2 r l) = Y (256 * n + r + 8) l)
  (hw : ∀ (j : Fin 4) (l : Fin 128), w (ix2 j l) = V j l)
  (hb : ∀ l : Fin 128, b (ix2 0 l) = A l)
include hp hc

theorem back_at (k : BitVec 32) (m : ℕ) (hk : k = BitVec.ofNat 32 m) (hm : 0 < m ∧ m < 4) (r : Fin 256) (l : Fin 128) :
    back k prev cur (ix2 r l) = Y (256 * n + r + (8 - m)) l := by
  subst hk
  have hz := win_at (Z := fun r l => Y (256 * n + r) l) hp hc
  obtain rfl | rfl | rfl : m = 1 ∨ m = 2 ∨ m = 3 := by omega
  all_goals pointwise [back]
  · exact rot (Z := fun r l => Y (256 * n + r) l) hz _ (r + 7) _ (by omega) l
  · exact rot (Z := fun r l => Y (256 * n + r) l) hz _ (r + 6) _ (by omega) l
  · exact rot (Z := fun r l => Y (256 * n + r) l) hz _ (r + 5) _ (by omega) l

include hw hb

/-- The convolution with its bias, on a block. -/
theorem conv_at (r : Fin 256) (l : Fin 128) : pre w b prev cur (ix2 r l)
    = A l + (V 3 l * Y (256 * n + r + 8) l + V 0 l * Y (256 * n + r + 5) l + V 1 l * Y (256 * n + r + 6) l + V 2 l * Y (256 * n + r + 7) l) := by
  pointwise [pre]
  rw [back_at hp hc 3#32 3 rfl (by decide), back_at hp hc 2#32 2 rfl (by decide), back_at hp hc 1#32 1 rfl (by decide), hc, hw, hw, hw, hw, hb]
  rfl
end

section
variable (hp : ∀ (r : Fin 8) (l : Fin 128), prev (ix2 r l) = ((xq X (256 * n + r) l : ℝ) : EReal))
  (hc : ∀ (r : Fin 256) (l : Fin 128), cur (ix2 r l) = ((xq X (256 * n + r + 8) l : ℝ) : EReal))
  (hw : ∀ (j : Fin 4) (l : Fin 128), w (ix2 j l) = ((W j l : ℝ) : EReal))
  (hb : ∀ l : Fin 128, b (ix2 0 l) = ((B l : ℝ) : EReal))
include hp hc hw hb

theorem pre_at (r : Fin 256) (l : Fin 128) : pre w b prev cur (ix2 r l) = ((cv X W B (256 * n + r) l : ℝ) : EReal) := by
  rw [conv_at (Y := fun u l => ((xq X u l : ℝ) : EReal)) (V := fun j l => ((W j l : ℝ) : EReal)) (A := fun l => ((B l : ℝ) : EReal)) hp hc hw hb]
  simp only [← EReal.coe_mul, ← EReal.coe_add]
  rfl

theorem dpre_at {a : BitVec 32} {q k : FVec Ideal S256x128 .bf16}
    (hG : ∀ (r : Fin 256) (l : Fin 128), (Scalar.select (Scalar.cmpi .slt a 4#32) (q (ix2 r l)) (k (ix2 r l) * Ideal.ofBits .f32 0x3DB504F3#32) : EReal) = ((G (256 * n + r) l : ℝ) : EReal))
    (r : Fin 256) (l : Fin 128) : dpre a w b prev cur q k (ix2 r l) = ((dg X W B G (256 * n + r) l : ℝ) : EReal) := by
  pointwise [dpre]
  rw [pre_at hp hc hw hb, hG, Ideal.logistic_coe, ← EReal.coe_one]
  simp only [← EReal.coe_mul, ← EReal.coe_add, ← EReal.coe_sub]
  rfl

end

/-- The running sum over the blocks. -/
theorem acc_at {f : (n : ℕ) → n < 16 → FVec Ideal S1x128 .f32} {g : ℕ → ℝ} {l : Fin 128}
    (h : ∀ (n : ℕ) (hn : n < 16), f n hn (ix2 0 l) = ((∑ r ∈ Finset.range 256, g (256 * n + r) : ℝ) : EReal)) :
    ∀ (n : ℕ) (hn : n ≤ 16), acc f n hn (ix2 0 l) = ((∑ t ∈ Finset.range (256 * n), g t : ℝ) : EReal)
  | 0, _ => by
    show (Ideal.ofBits .f32 0x00000000#32 : EReal) = _
    rw [Ideal.ofBits_zero]
    simp
  | n + 1, hn => by
    show acc f n _ (ix2 0 l) + f n hn (ix2 0 l) = _
    rw [acc_at h n _, h n hn, ← EReal.coe_add, mul_add, mul_one, Finset.sum_range_add]

/-- The input's gradient on a block. -/
theorem dx_at {D : ℕ → ℕ → ℝ} {g : FVec Ideal S264x128 .f32} (hw : ∀ (j : Fin 4) (l : Fin 128), w (ix2 j l) = ((W j l : ℝ) : EReal))
    (hg : ∀ (r : Fin 264) (l : Fin 128), g (ix2 r l) = ((D (256 * n + r) l : ℝ) : EReal)) (r : Fin 256) (l : Fin 128) :
    dx w g (ix2 r l) = ((W 3 l * D (256 * n + r) l + W 0 l * D (256 * n + r + 3) l + W 1 l * D (256 * n + r + 2) l + W 2 l * D (256 * n + r + 1) l : ℝ) : EReal) := by
  pointwise [dx]
  rw [rot (Z := fun r l => ((D (256 * n + r) l : ℝ) : EReal)) hg _ r _ (by omega) l, rot (Z := fun r l => ((D (256 * n + r) l : ℝ) : EReal)) hg _ (r + 3) _ (by omega) l,
    rot (Z := fun r l => ((D (256 * n + r) l : ℝ) : EReal)) hg _ (r + 2) _ (by omega) l, rot (Z := fun r l => ((D (256 * n + r) l : ℝ) : EReal)) hg _ (r + 1) _ (by omega) l, hw, hw, hw, hw]
  simp only [← EReal.coe_mul, ← EReal.coe_add]
  rfl
end Cert.ConvProof
-- ==== Proof.ConvPoint.lean ====
module

public import proofs.«01_k».proof.Proof.ConvAt
public import Idealize.ShloMosaic.Lib.WritesUnit
public import Idealize.ShloMosaic.Lib.Pipeline.FrameBody
public import Idealize.ShloMosaic.Lib.Pipeline.ReadBack
public import Idealize.ShloMosaic.Lib.Pipeline.ValueKit

/-! What the convolution's backward kernel leaves at one grid point, over the reals. -/

@[expose] public section
set_option maxRecDepth 16384
noncomputable section

namespace Cert.ConvProof
open Idealize.ShloMosaic Idealize.ShloMosaic.TcCoe
open Cert.ConvKernelIdeal Cert.ConvKernelIdeal.Gen Cert.ConvMath

/-- A load of whole rows from `r0` on. -/
theorem rows_at {sig : RefSig} {κ : Kind} {sp : Space} {e : EltTy} {n N : ℕ} (v : View sig κ sp ⟨2, ![N, 128]⟩ e) (f : v.ty.Contents (Elt Ideal)) (r0 : ℕ)
    (inb : ∀ a, (![r0, 0] : Fin 2 → ℕ) a + (⟨2, ![n, 128]⟩ : Shape).size a ≤ (⟨2, ![N, 128]⟩ : Shape).size a)
    (r : Fin n) (l : Fin 128) (hr : r0 + r < N) :
    v.readAt (Elt Ideal) (Rect.unit (s := ⟨2, ![N, 128]⟩) ![r0, 0] (⟨2, ![n, 128]⟩ : Shape).size inb).toLoadRect f (ix2 r l)
      = v.read (Elt Ideal) f (ix2 ⟨r0 + r, hr⟩ l) := by
  rw [View.readAt_apply]
  have key : (Rect.unit (s := ⟨2, ![N, 128]⟩) ![r0, 0] (⟨2, ![n, 128]⟩ : Shape).size inb).toLoadRect.idx (ix2 r l)
      = ix2 ⟨r0 + r, hr⟩ l := by
    funext a
    fin_cases a
    · exact Fin.ext (by show r0 + 1 * r.val = r0 + r.val; omega)
    · exact Fin.ext (by show 0 + 1 * l.val = l.val; omega)
  exact congrArg (v.read (Elt Ideal) f) key

/-- After a store of whole rows from `r0` on: a row of the store, and a row before it. -/
theorem store_in {sig : RefSig} {κ : Kind} {sp : Space} {e : EltTy} {n N : ℕ} (v : View sig κ sp ⟨2, ![N, 128]⟩ e) (f : v.ty.Contents (Elt Ideal)) (r0 : ℕ)
    (inb : ∀ a, (![r0, 0] : Fin 2 → ℕ) a + (⟨2, ![n, 128]⟩ : Shape).size a ≤ (⟨2, ![N, 128]⟩ : Shape).size a)
    (pay : (⟨2, ![n, 128]⟩ : Shape).Idx → Elt Ideal e) (L : List (View.Piece (Elt Ideal) ⟨2, ![N, 128]⟩ e)) (t : Fin N) (l : Fin 128) (r : Fin n) (h : t.val = r0 + r.val) :
    v.read (Elt Ideal) (v.writes (Elt Ideal) f ((⟨Rect.unit (s := ⟨2, ![N, 128]⟩) ![r0, 0] (⟨2, ![n, 128]⟩ : Shape).size inb, pay⟩ : View.Piece (Elt Ideal) ⟨2, ![N, 128]⟩ e) :: L)) (ix2 t l)
      = pay (ix2 r l) := by
  refine View.read_writes_cons_unit_of_mem v f inb pay L (ix2 t l) (ix2 r l) rfl ?_
  intro a
  fin_cases a
  · exact h
  · show l.val = 0 + l.val; omega

theorem store_out {sig : RefSig} {κ : Kind} {sp : Space} {e : EltTy} {n N : ℕ} (v : View sig κ sp ⟨2, ![N, 128]⟩ e) (f : v.ty.Contents (Elt Ideal)) (r0 : ℕ)
    (inb : ∀ a, (![r0, 0] : Fin 2 → ℕ) a + (⟨2, ![n, 128]⟩ : Shape).size a ≤ (⟨2, ![N, 128]⟩ : Shape).size a)
    (pay : (⟨2, ![n, 128]⟩ : Shape).Idx → Elt Ideal e) (L : List (View.Piece (Elt Ideal) ⟨2, ![N, 128]⟩ e)) (t : Fin N) (l : Fin 128) (h : t.val < r0) :
    v.read (Elt Ideal) (v.writes (Elt Ideal) f ((⟨Rect.unit (s := ⟨2, ![N, 128]⟩) ![r0, 0] (⟨2, ![n, 128]⟩ : Shape).size inb, pay⟩ : View.Piece (Elt Ideal) ⟨2, ![N, 128]⟩ e) :: L)) (ix2 t l)
      = v.read (Elt Ideal) (v.writes (Elt Ideal) f L) (ix2 t l) :=
  View.read_writes_cons_unit_of_not_mem v f inb pay L (ix2 t l) rfl 0 (Or.inl h)

section
variable {σ : RefSig} (arg1 : Memref σ .tc .vmem S4096x128 .f32) (harg1 : arg1.IsWhole) (arg2 : Memref σ .tc .vmem S4x128 .f32) (harg2 : arg2.IsWhole)
  (arg3 : Memref σ .tc .vmem S1x128 .f32) (harg3 : arg3.IsWhole) (x0 : Vec Ideal S4096x128 .f32) (x1 : Vec Ideal S4x128 .f32) (x2 : Vec Ideal S1x128 .f32)
  {Y V : ℕ → ℕ → EReal} {A : ℕ → EReal}
  (h0 : ∀ (r : Fin 4096) (l : Fin 128), x0 (ix2 r l) = Y r l) (h1 : ∀ (j : Fin 4) (l : Fin 128), x1 (ix2 j l) = V j l) (h2 : ∀ l : Fin 128, x2 (ix2 0 l) = A l)

include h0 in
theorem curOf (n : ℕ) (hn : n < 16) (r : Fin 256) (l : Fin 128) : cur arg1 harg1 x0 n hn (ix2 r l) = xz Y (256 * n + r + 8) l := by
  unfold cur
  refine (congrFun (shapeCast_self _ _) _).trans ?_
  refine (rows_at (n := 256) arg1.view (harg1.unread x0) (256 * n) (inb256 n hn) r l (by omega)).trans ?_
  rw [harg1.read_unread x0, h0]
  show _ = if 256 * n + r.val + 8 < 8 then 0 else Y (256 * n + r.val + 8 - 8) l
  rw [if_neg (by omega), Nat.add_sub_cancel]

include h0 in
theorem prevOf : ∀ (n : ℕ) (hn : n < 16) (r : Fin 8) (l : Fin 128), prev arg1 harg1 x0 n hn (ix2 r l) = xz Y (256 * n + r) l
  | 0, hn, r, l => by
    show (Ideal.ofBits .f32 0x00000000#32 : EReal) = if 256 * 0 + r.val < 8 then 0 else _
    rw [Ideal.ofBits_zero, if_pos (by omega)]
  | n + 1, hn, r, l => by
    unfold prev
    refine (congrFun (shapeCast_self _ _) _).trans ?_
    refine (rows_at (n := 8) arg1.view (harg1.unread x0) (256 * (n + 1) - 8) (inb8 (n + 1) hn) r l (by omega)).trans ?_
    rw [harg1.read_unread x0, h0]
    show _ = if 256 * (n + 1) + r.val < 8 then 0 else Y (256 * (n + 1) + r.val - 8) l
    rw [if_neg (by omega)]
    show Y (256 * (n + 1) - 8 + r.val) l = _
    rw [show 256 * (n + 1) - 8 + r.val = 256 * (n + 1) + r.val - 8 by omega]

include h1 in
theorem wvOf (j : Fin 4) (l : Fin 128) : wv arg2 harg2 x1 (ix2 j l) = V j l := by
  unfold wv
  refine (congrFun (shapeCast_self _ _) _).trans ?_
  refine (rows_at (n := 4) arg2.view (harg2.unread x1) 0 inb_S4x128_S4x128_0_0 j l (by omega)).trans ?_
  rw [harg2.read_unread x1, h1]
  show V (0 + j.val) l = _
  rw [zero_add]

include h2 in
theorem bvOf (l : Fin 128) : bv arg3 harg3 x2 (ix2 0 l) = A l := by
  unfold bv
  refine (rows_at (n := 1) arg3.view (harg3.unread x2) 0 inb_S1x128_S1x128_0_0 0 l (by decide)).trans ?_
  rw [harg3.read_unread x2]
  exact h2 l

end

variable (c : Dev nD) (i : grid0.Coords) (arg1 : Memref sig .tc .vmem S4096x128 .f32) (harg1 : arg1.IsWhole) (arg2 : Memref sig .tc .vmem S4x128 .f32) (harg2 : arg2.IsWhole)
  (arg3 : Memref sig .tc .vmem S1x128 .f32) (harg3 : arg3.IsWhole) (arg4 : Memref sig .tc .vmem S4096x128 .bf16) (harg4 : arg4.IsWhole) (arg5 : Memref sig .tc .vmem S4096x128 .bf16) (harg5 : arg5.IsWhole)
  (arg6 : Memref sig .tc .vmem S4096x128 .bf16) (harg6 : arg6.IsWhole) (arg7 : Memref sig .tc .vmem S4x128 .f32) (harg7 : arg7.IsWhole) (arg8 : Memref sig .tc .vmem S1x128 .f32) (harg8 : arg8.IsWhole)
  (arg9 : Memref sig .tc .vmem S4104x128 .f32) (harg9 : arg9.IsWhole)
  (x0 : Vec Ideal S4096x128 .f32) (x1 : Vec Ideal S4x128 .f32) (x2 : Vec Ideal S1x128 .f32) (x3 x4 : Vec Ideal S4096x128 .bf16)
variable {X W : ℕ → ℕ → ℝ} {B : ℕ → ℝ} {G : ℕ → ℕ → ℝ}
  (h0 : ∀ (r : Fin 4096) (l : Fin 128), x0 (ix2 r l) = ((X r l : ℝ) : EReal))
  (h1 : ∀ (j : Fin 4) (l : Fin 128), x1 (ix2 j l) = ((W j l : ℝ) : EReal))
  (h2 : ∀ l : Fin 128, x2 (ix2 0 l) = ((B l : ℝ) : EReal))
  (h3 : ∀ (r : Fin 4096) (l : Fin 128), (Scalar.select (Scalar.cmpi .slt (BitVec.ofNat 32 (i 0).val) 4#32) (x3 (ix2 r l)) (x4 (ix2 r l) * Ideal.ofBits .f32 0x3DB504F3#32) : EReal) = ((G r l : ℝ) : EReal))

include h0 in
theorem cur_at (n : ℕ) (hn : n < 16) (r : Fin 256) (l : Fin 128) : cur arg1 harg1 x0 n hn (ix2 r l) = ((xq X (256 * n + r + 8) l : ℝ) : EReal) :=
  (curOf (Y := fun r l => ((X r l : ℝ) : EReal)) arg1 harg1 x0 h0 n hn r l).trans (xz_coe X _ _)

include h0 in
theorem prev_at (n : ℕ) (hn : n < 16) (r : Fin 8) (l : Fin 128) : prev arg1 harg1 x0 n hn (ix2 r l) = ((xq X (256 * n + r) l : ℝ) : EReal) :=
  (prevOf (Y := fun r l => ((X r l : ℝ) : EReal)) arg1 harg1 x0 h0 n hn r l).trans (xz_coe X _ _)

include h1 in
theorem wv_at (j : Fin 4) (l : Fin 128) : wv arg2 harg2 x1 (ix2 j l) = ((W j l : ℝ) : EReal) :=
  wvOf (V := fun j l => ((W j l : ℝ) : EReal)) arg2 harg2 x1 h1 j l

include h2 in
theorem bv_at (l : Fin 128) : bv arg3 harg3 x2 (ix2 0 l) = ((B l : ℝ) : EReal) :=
  bvOf (A := fun l => ((B l : ℝ) : EReal)) arg3 harg3 x2 h2 l

theorem ct_at {arg : Memref sig .tc .vmem S4096x128 .bf16} (harg : arg.IsWhole) (x : Vec Ideal S4096x128 .bf16) (n : ℕ) (hn : n < 16) (r : Fin 256) (l : Fin 128) :
    ct harg x n hn (ix2 r l) = x (ix2 ⟨256 * n + r, by omega⟩ l) := by
  unfold ct
  refine (rows_at (n := 256) arg.view (harg.unread x) (256 * n) (inb256 n hn) r l (by omega)).trans ?_
  rw [harg.read_unread x]

include h0 h1 h2 h3

theorem dp_at (n : ℕ) (hn : n < 16) (r : Fin 256) (l : Fin 128) :
    dp i arg1 harg1 arg2 harg2 arg3 harg3 arg4 harg4 arg5 harg5 x0 x1 x2 x3 x4 n hn (ix2 r l) = ((dg X W B G (256 * n + r) l : ℝ) : EReal) := by
  refine dpre_at (prev_at arg1 harg1 x0 h0 n hn) (cur_at arg1 harg1 x0 h0 n hn) (wv_at arg2 harg2 x1 h1) (bv_at arg3 harg3 x2 h2) ?_ r l
  intro r l
  rw [ct_at, ct_at]
  exact h3 _ l

theorem stores_at {sig : RefSig} {κ : Kind} {sp : Space} (v : View sig κ sp S4104x128 .f32) (f : v.ty.Contents (Elt Ideal)) :
    ∀ (n : ℕ) (hn : n ≤ 16) (t : Fin 4104) (l : Fin 128), t.val < 256 * n →
      v.read (Elt Ideal) (v.writes (Elt Ideal) f (stores i arg1 harg1 arg2 harg2 arg3 harg3 arg4 harg4 arg5 harg5 x0 x1 x2 x3 x4 n hn)) (ix2 t l) = ((dg X W B G t l : ℝ) : EReal)
  | 0, _, t, l, ht => absurd ht (by omega)
  | n + 1, hn, t, l, ht => by
    unfold stores
    by_cases h : t.val < 256 * n
    · exact (store_out (n := 256) v f (256 * n) (inbP n hn) _ _ t l h).trans (stores_at v f n _ t l h)
    · refine (store_in (n := 256) v f (256 * n) (inbP n hn) _ _ t l ⟨t.val - 256 * n, by omega⟩ (by show t.val = 256 * n + (t.val - 256 * n); omega)).trans ?_
      refine (congrFun (shapeCast_self _ _) _).trans ?_
      rw [dp_at i arg1 harg1 arg2 harg2 arg3 harg3 arg4 harg4 arg5 harg5 x0 x1 x2 x3 x4 h0 h1 h2 h3]
      show ((dg X W B G (256 * n + (t.val - 256 * n)) l : ℝ) : EReal) = _
      rw [show 256 * n + (t.val - 256 * n) = t.val by omega]

theorem held_at {sig : RefSig} {κ : Kind} {sp : Space} (v : View sig κ sp S4104x128 .f32) (f : v.ty.Contents (Elt Ideal)) (t : Fin 4104) (l : Fin 128) :
    v.read (Elt Ideal) (v.writes (Elt Ideal) f (held i arg1 harg1 arg2 harg2 arg3 harg3 arg4 harg4 arg5 harg5 x0 x1 x2 x3 x4)) (ix2 t l) = ((dz X W B G t l : ℝ) : EReal) := by
  unfold held dz
  by_cases h : t.val < 4096
  · rw [if_pos h]
    exact (store_out (n := 8) v f 4096 inb_S4104x128_S8x128_4096_0 _ _ t l h).trans (stores_at i arg1 harg1 arg2 harg2 arg3 harg3 arg4 harg4 arg5 harg5 x0 x1 x2 x3 x4 h0 h1 h2 h3 v f 16 le_rfl t l h)
  · rw [if_neg h]
    refine (store_in (n := 8) v f 4096 inb_S4104x128_S8x128_4096_0 _ _ t l ⟨t.val - 4096, by omega⟩ (by show t.val = 4096 + (t.val - 4096); omega)).trans ?_
    refine (congrFun (shapeCast_self _ _) _).trans ?_
    show (Ideal.ofBits .f32 0x00000000#32 : EReal) = _
    rw [Ideal.ofBits_zero, EReal.coe_zero]

theorem window_at (n : ℕ) (hn : n < 16) (r : Fin 264) (l : Fin 128) :
    arg9.view.readCov (held i arg1 harg1 arg2 harg2 arg3 harg3 arg4 harg4 arg5 harg5 x0 x1 x2 x3 x4) (Rect.unit (s := S4104x128) ![256 * n, 0] S264x128.size (inbW n hn)).toLoadRect (ix2 r l) = ((dz X W B G (256 * n + r) l : ℝ) : EReal) := by
  rw [View.readCov_eq_canon', ← View.read_writes_junk_eq_canon arg9.view (held i arg1 harg1 arg2 harg2 arg3 harg3 arg4 harg4 arg5 harg5 x0 x1 x2 x3 x4)]
  refine (rows_at (n := 264) arg9.view _ (256 * n) (inbW n hn) r l (by omega)).trans ?_
  exact held_at i arg1 harg1 arg2 harg2 arg3 harg3 arg4 harg4 arg5 harg5 x0 x1 x2 x3 x4 h0 h1 h2 h3 arg9.view _ _ l

/-- The input's gradient. -/
theorem dxs_at {sig : RefSig} {κ : Kind} {sp : Space} (v : View sig κ sp S4096x128 .bf16) (f : v.ty.Contents (Elt Ideal)) :
    ∀ (n : ℕ) (hn : n ≤ 16) (t : Fin 4096) (l : Fin 128), t.val < 256 * n →
      v.read (Elt Ideal) (v.writes (Elt Ideal) f (dxs i arg1 harg1 arg2 harg2 arg3 harg3 arg4 harg4 arg5 harg5 arg9 x0 x1 x2 x3 x4 n hn)) (ix2 t l) = ((gx X W B G t l : ℝ) : EReal)
  | 0, _, t, l, ht => absurd ht (by omega)
  | n + 1, hn, t, l, ht => by
    unfold dxs
    by_cases h : t.val < 256 * n
    · exact (store_out (n := 256) v f (256 * n) (inb256 n hn) _ _ t l h).trans (dxs_at v f n _ t l h)
    · refine (store_in (n := 256) v f (256 * n) (inb256 n hn) _ _ t l ⟨t.val - 256 * n, by omega⟩ (by show t.val = 256 * n + (t.val - 256 * n); omega)).trans ?_
      rw [dx_at (D := dz X W B G) (n := n) (wv_at arg2 harg2 x1 h1) (window_at i arg1 harg1 arg2 harg2 arg3 harg3 arg4 harg4 arg5 harg5 arg9 x0 x1 x2 x3 x4 h0 h1 h2 h3 n hn)]
      show (((_ * dz X W B G (256 * n + (t.val - 256 * n)) _ + _ * dz X W B G (256 * n + (t.val - 256 * n) + 3) _ + _ * dz X W B G (256 * n + (t.val - 256 * n) + 2) _ + _ * dz X W B G (256 * n + (t.val - 256 * n) + 1) _) : ℝ) : EReal) = _
      rw [show 256 * n + (t.val - 256 * n) = t.val by omega]
      rfl

/-- The bias' gradient. -/
theorem db_at (l : Fin 128) : acc (fun n h => red (dp i arg1 harg1 arg2 harg2 arg3 harg3 arg4 harg4 arg5 harg5 x0 x1 x2 x3 x4 n h)) 16 le_rfl (ix2 0 l) = ((gb X W B G 4096 l : ℝ) : EReal) :=
  acc_at (g := fun t => dg X W B G t l) (fun n hn => red_at (f := fun r => dg X W B G (256 * n + r) l) (fun r => dp_at i arg1 harg1 arg2 harg2 arg3 harg3 arg4 harg4 arg5 harg5 x0 x1 x2 x3 x4 h0 h1 h2 h3 n hn r l)) 16 le_rfl

/-- A tap's gradient, from the entries of the input moved by the tap. -/
theorem tap_at (j : ℕ) {f : (n : ℕ) → n < 16 → FVec Ideal S256x128 .f32}
    (hf : ∀ (n : ℕ) (hn : n < 16) (r : Fin 256) (l : Fin 128), f n hn (ix2 r l) = ((xq X (256 * n + r + 5 + j) l : ℝ) : EReal)) (l : Fin 128) :
    acc (fun n h => red (mulf (dp i arg1 harg1 arg2 harg2 arg3 harg3 arg4 harg4 arg5 harg5 x0 x1 x2 x3 x4 n h) (f n h))) 16 le_rfl (ix2 0 l) = ((gw X W B G 4096 j l : ℝ) : EReal) :=
  acc_at (g := fun t => dg X W B G t l * xq X (t + 5 + j) l) (fun n hn => red_at (f := fun r => dg X W B G (256 * n + r) l * xq X (256 * n + r + 5 + j) l) (fun r => by
    show dp i arg1 harg1 arg2 harg2 arg3 harg3 arg4 harg4 arg5 harg5 x0 x1 x2 x3 x4 n hn (ix2 r l) * f n hn (ix2 r l) = _
    rw [dp_at i arg1 harg1 arg2 harg2 arg3 harg3 arg4 harg4 arg5 harg5 x0 x1 x2 x3 x4 h0 h1 h2 h3, hf, ← EReal.coe_mul])) 16 le_rfl

theorem tap0_at (l : Fin 128) : acc (fun n h => red (mulf (dp i arg1 harg1 arg2 harg2 arg3 harg3 arg4 harg4 arg5 harg5 x0 x1 x2 x3 x4 n h) (back 3#32 (prev arg1 harg1 x0 n h) (cur arg1 harg1 x0 n h)))) 16 le_rfl (ix2 0 l) = ((gw X W B G 4096 0 l : ℝ) : EReal) :=
  tap_at i arg1 harg1 arg2 harg2 arg3 harg3 arg4 harg4 arg5 harg5 x0 x1 x2 x3 x4 h0 h1 h2 h3 0 (fun n hn r l => back_at (Y := fun u l => ((xq X u l : ℝ) : EReal)) (prev_at arg1 harg1 x0 h0 n hn) (cur_at arg1 harg1 x0 h0 n hn) 3#32 3 rfl (by decide) r l) l

theorem tap1_at (l : Fin 128) : acc (fun n h => red (mulf (dp i arg1 harg1 arg2 harg2 arg3 harg3 arg4 harg4 arg5 harg5 x0 x1 x2 x3 x4 n h) (back 2#32 (prev arg1 harg1 x0 n h) (cur arg1 harg1 x0 n h)))) 16 le_rfl (ix2 0 l) = ((gw X W B G 4096 1 l : ℝ) : EReal) :=
  tap_at i arg1 harg1 arg2 harg2 arg3 harg3 arg4 harg4 arg5 harg5 x0 x1 x2 x3 x4 h0 h1 h2 h3 1 (fun n hn r l => back_at (Y := fun u l => ((xq X u l : ℝ) : EReal)) (prev_at arg1 harg1 x0 h0 n hn) (cur_at arg1 harg1 x0 h0 n hn) 2#32 2 rfl (by decide) r l) l

theorem tap2_at (l : Fin 128) : acc (fun n h => red (mulf (dp i arg1 harg1 arg2 harg2 arg3 harg3 arg4 harg4 arg5 harg5 x0 x1 x2 x3 x4 n h) (back 1#32 (prev arg1 harg1 x0 n h) (cur arg1 harg1 x0 n h)))) 16 le_rfl (ix2 0 l) = ((gw X W B G 4096 2 l : ℝ) : EReal) :=
  tap_at i arg1 harg1 arg2 harg2 arg3 harg3 arg4 harg4 arg5 harg5 x0 x1 x2 x3 x4 h0 h1 h2 h3 2 (fun n hn r l => back_at (Y := fun u l => ((xq X u l : ℝ) : EReal)) (prev_at arg1 harg1 x0 h0 n hn) (cur_at arg1 harg1 x0 h0 n hn) 1#32 1 rfl (by decide) r l) l

theorem tap3_at (l : Fin 128) : acc (fun n h => red (mulf (dp i arg1 harg1 arg2 harg2 arg3 harg3 arg4 harg4 arg5 harg5 x0 x1 x2 x3 x4 n h) (cur arg1 harg1 x0 n h))) 16 le_rfl (ix2 0 l) = ((gw X W B G 4096 3 l : ℝ) : EReal) :=
  tap_at i arg1 harg1 arg2 harg2 arg3 harg3 arg4 harg4 arg5 harg5 x0 x1 x2 x3 x4 h0 h1 h2 h3 3 (fun n hn r l => cur_at arg1 harg1 x0 h0 n hn r l) l

end Cert.ConvProof
-- ==== Proof.ConvBlk.lean ====
module

public import proofs.«01_k».proof.Proof.ConvPoint
public import Idealize.ShloMosaic.Lib.Claim
public import Idealize.ShloMosaic.Lib.StableHlo.ReadAt

/-! What the convolution's backward kernel leaves in its three results, as functions of the arguments. -/

@[expose] public section
set_option maxRecDepth 16384
noncomputable section

namespace Cert.ConvProof
open Idealize.ShloMosaic Idealize.ShloMosaic.TcCoe Idealize.SL.Sem
open Cert.ConvKernelIdeal Cert.ConvKernelIdeal.Gen Cert.ConvMath

theorem colLt (j : Fin 1024) : 2048 + j.val < 4616 := by omega

variable (m : (ℓ : Loc nD τ sig) → Buf (Elt Ideal) ℓ)

abbrev argP (c : Dev nD) : FVec Ideal S1x4096x4616 .f32 := m ((c : Thread nD τ).loc main_arg0)
abbrev argW (c : Dev nD) : FVec Ideal S1x4x1024 .f32 := m ((c : Thread nD τ).loc main_arg1)
abbrev argB (c : Dev nD) : FVec Ideal S1x1024 .f32 := m ((c : Thread nD τ).loc main_arg2)
abbrev argQ (c : Dev nD) : FVec Ideal S4096x512 .bf16 := m ((c : Thread nD τ).loc main_arg3)
abbrev argK (c : Dev nD) : FVec Ideal S4096x512 .bf16 := m ((c : Thread nD τ).loc main_arg4)

/-- The index maps of the windows, decided over the grid. -/
theorem idx : ∀ t : Fin cfg0.N, win0_0.index t = ![0, 16 + t.val] ∧ win0_1.index t = ![0, t.val] ∧ win0_2.index t = ![0, t.val]
    ∧ win0_3.index t = ![0, min t.val 3] ∧ win0_4.index t = ![0, t.val - 4] ∧ win0_5.index t = ![0, t.val] ∧ win0_6.index t = ![0, t.val] ∧ win0_7.index t = ![0, t.val] :=
  (by decide +kernel : ∀ t : Fin grid0.N, _)

theorem flush5 : ∀ t : Fin cfg0.N, (cfg0.win 5).flush t = true := (by decide +kernel : ∀ t : Fin grid0.N, _)
theorem flush6 : ∀ t : Fin cfg0.N, (cfg0.win 6).flush t = true := (by decide +kernel : ∀ t : Fin grid0.N, _)
theorem flush7 : ∀ t : Fin cfg0.N, (cfg0.win 7).flush t = true := (by decide +kernel : ∀ t : Fin grid0.N, _)

theorem e1 (c : Dev nD) (i : Fin 4096) (l : Fin 4608) :
    (show FVec Ideal S4096x4608 .f32 from V m c main_v1) (ix2 i l) = argP m c (ix3 0 i ⟨l, by omega⟩) := by
  unfold Gen.V
  simp only [List.flatten_cons, List.flatten_nil, List.append_nil, List.cons_append, List.nil_append]
  after_reads_at

theorem e2 (c : Dev nD) (j : Fin 4) (l : Fin 1024) :
    (show FVec Ideal S4x1024 .f32 from V m c main_v2) (ix2 j l) = argW m c (ix3 0 j l) := by
  unfold Gen.V
  simp only [List.flatten_cons, List.flatten_nil, List.append_nil, List.cons_append, List.nil_append]
  after_reads_at

theorem eB (c : Dev nD) (l : Fin 1024) :
    (show FVec Ideal S1x1024 .f32 from V m c main_arg2) (ix2 0 l) = argB m c (ix2 0 l) := by
  unfold Gen.V
  simp only [List.flatten_cons, List.flatten_nil, List.append_nil, List.cons_append, List.nil_append]
  after_reads_at

theorem eQ (c : Dev nD) (i : Fin 4096) (l : Fin 512) :
    (show FVec Ideal S4096x512 .bf16 from V m c main_arg3) (ix2 i l) = argQ m c (ix2 i l) := by
  unfold Gen.V
  simp only [List.flatten_cons, List.flatten_nil, List.append_nil, List.cons_append, List.nil_append]
  after_reads_at

theorem eK (c : Dev nD) (i : Fin 4096) (l : Fin 512) :
    (show FVec Ideal S4096x512 .bf16 from V m c main_arg4) (ix2 i l) = argK m c (ix2 i l) := by
  unfold Gen.V
  simp only [List.flatten_cons, List.flatten_nil, List.append_nil, List.cons_append, List.nil_append]
  after_reads_at

/-- The cotangent of the convolution's output: the queries' half, then the keys' half, scaled. -/
def cot (Q K : ℕ → ℕ → ℝ) (t j : ℕ) : ℝ := if j < 512 then Q t j else K t (j - 512) * cs

variable {X W : ℕ → ℕ → ℝ} {B : ℕ → ℝ} {Q K : ℕ → ℕ → ℝ} (c : Dev nD)
  (hX : ∀ (t : Fin 4096) (j : Fin 1024), argP m c (ix3 0 t ⟨2048 + j, colLt j⟩) = ((X t j : ℝ) : EReal))
  (hW : ∀ (j : Fin 4) (l : Fin 1024), argW m c (ix3 0 j l) = ((W j l : ℝ) : EReal))
  (hB : ∀ l : Fin 1024, argB m c (ix2 0 l) = ((B l : ℝ) : EReal))
  (hQ : ∀ (t : Fin 4096) (j : Fin 512), argQ m c (ix2 t j) = ((Q t j : ℝ) : EReal))
  (hK : ∀ (t : Fin 4096) (j : Fin 512), argK m c (ix2 t j) = ((K t j : ℝ) : EReal))

include hX in
theorem sx (t : Fin cfg0.N) (hN : t.val < 8) (r : Fin 4096) (l : Fin 128) :
    (show FVec Ideal S4096x128 .f32 from iblk m c 0 t) (ix2 r l) = (((fun r l => X r (128 * t.val + l)) r l : ℝ) : EReal) := by
  obtain ⟨x0, x1, x2, x3, x4, x5, x6, x7⟩ := idx t
  have he : (win0_0.blk t).view.emb (ix2 r l) = ix2 r (⟨2048 + (128 * t.val + l), by omega⟩ : Fin 4608) := by
    blk_ext [x0]
  blk_simp [iblk]
  rw [he]
  exact (e1 m c _ _).trans (hX r ⟨128 * t.val + l, by omega⟩)

include hW in
theorem sw (t : Fin cfg0.N) (hN : t.val < 8) (j : Fin 4) (l : Fin 128) :
    (show FVec Ideal S4x128 .f32 from iblk m c 1 t) (ix2 j l) = (((fun r l => W r (128 * t.val + l)) j l : ℝ) : EReal) := by
  obtain ⟨x0, x1, x2, x3, x4, x5, x6, x7⟩ := idx t
  have he : (win0_1.blk t).view.emb (ix2 j l) = ix2 j (⟨128 * t.val + l, by omega⟩ : Fin 1024) := by
    blk_ext [x1]
  blk_simp [iblk]
  rw [he]
  exact (e2 m c _ _).trans (hW j ⟨128 * t.val + l, by omega⟩)

include hB in
theorem sb (t : Fin cfg0.N) (hN : t.val < 8) (l : Fin 128) :
    (show FVec Ideal S1x128 .f32 from iblk m c 2 t) (ix2 0 l) = (((fun l => B (128 * t.val + l)) l : ℝ) : EReal) := by
  obtain ⟨x0, x1, x2, x3, x4, x5, x6, x7⟩ := idx t
  have he : (win0_2.blk t).view.emb (ix2 0 l) = ix2 0 (⟨128 * t.val + l, by omega⟩ : Fin 1024) := by
    blk_ext [x2]
  blk_simp [iblk]
  rw [he]
  exact (eB m c _).trans (hB ⟨128 * t.val + l, by omega⟩)

theorem lt4 : ∀ t : Fin cfg0.N, (Scalar.cmpi .slt (BitVec.ofNat 32 (grid0.coords t 0).val) 4#32) = BitVec.ofBool (decide (t.val < 4)) :=
  (by decide +kernel : ∀ t : Fin grid0.N, _)

include hQ hK in
theorem sgt (t : Fin cfg0.N) (hN : t.val < 8) (x3 x4 : FVec Ideal S4096x128 .bf16) (h3 : x3 = iblk m c 3 t) (h4 : x4 = iblk m c 4 t) (r : Fin 4096) (l : Fin 128) :
    (Scalar.select (Scalar.cmpi .slt (BitVec.ofNat 32 (grid0.coords t 0).val) 4#32) (x3 (ix2 r l)) (x4 (ix2 r l) * Ideal.ofBits .f32 0x3DB504F3#32) : EReal)
      = (((fun r l => cot Q K r (128 * t.val + l)) r l : ℝ) : EReal) := by
  subst h3 h4
  obtain ⟨x0, x1, x2, x3, x4, x5, x6, x7⟩ := idx t
  rw [lt4]
  show _ = ((cot Q K r (128 * t.val + l.val) : ℝ) : EReal)
  unfold cot
  by_cases h : t.val < 4
  · rw [decide_eq_true h, if_pos (by omega)]
    have he : (win0_3.blk t).view.emb (ix2 r l) = ix2 r (⟨128 * t.val + l, by omega⟩ : Fin 512) := by
      blk_ext [x3]
    have : (show FVec Ideal S4096x128 .bf16 from iblk m c 3 t) (ix2 r l) = ((Q r (128 * t.val + l.val) : ℝ) : EReal) := by
      blk_simp [iblk]
      rw [he]
      exact (eQ m c _ _).trans (hQ r _)
    exact this
  · rw [decide_eq_false h, if_neg (by omega)]
    have he : (win0_4.blk t).view.emb (ix2 r l) = ix2 r (⟨128 * t.val + l - 512, by omega⟩ : Fin 512) := by
      blk_ext [x4]
    have : (show FVec Ideal S4096x128 .bf16 from iblk m c 4 t) (ix2 r l) = ((K r (128 * t.val + l.val - 512) : ℝ) : EReal) := by
      blk_simp [iblk]
      rw [he]
      exact (eK m c _ _).trans (hK r _)
    show ((show FVec Ideal S4096x128 .bf16 from iblk m c 4 t) (ix2 r l) * Ideal.ofBits .f32 0x3DB504F3#32 : EReal) = _
    rw [this, bits_cs, ← EReal.coe_mul]

theorem out5 (t : Fin cfg0.N) : (outsAt0 m c t).1 = VO0_5.read (Elt Ideal) (VO0_5.writes (Elt Ideal) VO0_5.junk
    (dxs (grid0.coords t) (ms0_0 t) (hs0_0 t) (ms0_1 t) (hs0_1 t) (ms0_2 t) (hs0_2 t) (ms0_3 t) (hs0_3 t) (ms0_4 t) (hs0_4 t) scM0_0 (iblk m c 0 t) (iblk m c 1 t) (iblk m c 2 t) (iblk m c 3 t) (iblk m c 4 t) 16 le_rfl)) :=
  congrArg (fun L => VO0_5.read (Elt Ideal) (VO0_5.writes (Elt Ideal) VO0_5.junk L)) (run_dx c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t))

theorem out6 (t : Fin cfg0.N) : (outsAt0 m c t).2.1 = VO0_6.read (Elt Ideal) (VO0_6.writes (Elt Ideal) VO0_6.junk
    [(⟨Rect.unit (s := S4x128) ![0, 0] S4x128.size inb_S4x128_S4x128_0_0,
    concatenate S4x128 0 [⟨S1x128, acc (fun n h => red (mulf (dp (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) n h) (back 3#32 (prev (ms0_0 t) (hs0_0 t) (iblk m c 0 t) n h) (cur (ms0_0 t) (hs0_0 t) (iblk m c 0 t) n h)))) 16 le_rfl⟩,
      ⟨S1x128, acc (fun n h => red (mulf (dp (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) n h) (back 2#32 (prev (ms0_0 t) (hs0_0 t) (iblk m c 0 t) n h) (cur (ms0_0 t) (hs0_0 t) (iblk m c 0 t) n h)))) 16 le_rfl⟩,
      ⟨S1x128, acc (fun n h => red (mulf (dp (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) n h) (back 1#32 (prev (ms0_0 t) (hs0_0 t) (iblk m c 0 t) n h) (cur (ms0_0 t) (hs0_0 t) (iblk m c 0 t) n h)))) 16 le_rfl⟩,
      ⟨S1x128, acc (fun n h => red (mulf (dp (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) n h) (cur (ms0_0 t) (hs0_0 t) (iblk m c 0 t) n h))) 16 le_rfl⟩] concatenates_S1x128_S1x128_S1x128_S1x128_S4x128_d0⟩ : View.Piece (Elt Ideal) S4x128 .f32)]) :=
  congrArg (fun L => VO0_6.read (Elt Ideal) (VO0_6.writes (Elt Ideal) VO0_6.junk L)) (run_dw c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t))

theorem out7 (t : Fin cfg0.N) : (outsAt0 m c t).2.2 = VO0_7.read (Elt Ideal) (VO0_7.writes (Elt Ideal) VO0_7.junk
    [(⟨Rect.unit (s := S1x128) ![0, 0] S1x128.size inb_S1x128_S1x128_0_0, acc (fun n h => red (dp (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) n h)) 16 le_rfl⟩ : View.Piece (Elt Ideal) S1x128 .f32)]) :=
  congrArg (fun L => VO0_7.read (Elt Ideal) (VO0_7.writes (Elt Ideal) VO0_7.junk L)) (run_db c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t))

/-- Four rows, one under the other. -/
theorem four {a b d e : FVec Ideal S1x128 .f32} {f : ℕ → ℝ} {l : Fin 128} (ha : a (ix2 0 l) = ((f 0 : ℝ) : EReal)) (hb : b (ix2 0 l) = ((f 1 : ℝ) : EReal))
    (hd : d (ix2 0 l) = ((f 2 : ℝ) : EReal)) (he : e (ix2 0 l) = ((f 3 : ℝ) : EReal)) (j : Fin 4) :
    concatenate S4x128 0 [⟨S1x128, a⟩, ⟨S1x128, b⟩, ⟨S1x128, d⟩, ⟨S1x128, e⟩] concatenates_S1x128_S1x128_S1x128_S1x128_S4x128_d0 (ix2 j l) = ((f j : ℝ) : EReal) := by
  fin_cases j
  · refine Eq.trans ?_ ha
    pointwise
  · refine Eq.trans ?_ hb
    pointwise
  · refine Eq.trans ?_ hd
    pointwise
  · refine Eq.trans ?_ he
    pointwise

include hX hW hB hQ hK

theorem gx_at (i : Fin 4096) (j : Fin 1024) :
    (show FVec Ideal S4096x1024 .bf16 from (dats m 0 c).arrAt 5 cfg0.N) (ix2 i j) = ((gx X W B (cot Q K) i j : ℝ) : EReal) := by
  have h8 : cfg0.N = 8 := N_0
  let t : Fin cfg0.N := ⟨j.val / 128, by omega⟩
  have hN : t.val < 8 := by show j.val / 128 < 8; omega
  obtain ⟨x0, x1, x2, x3, x4, x5, x6, x7⟩ := idx t
  have he : (win0_5.blk t).view.emb (ix2 i (⟨j.val % 128, by omega⟩ : Fin 128)) = ix2 i j := by
    have hj : 128 * t.val + j.val % 128 = j.val := by show 128 * (j.val / 128) + j.val % 128 = j.val; omega
    blk_ext [x5]
  have hb := congrFun (Value.blocks5 m c t (flush5 t)) (ix2 i (⟨j.val % 128, by omega⟩ : Fin 128))
  rw [Value.flushed5] at hb
  refine (congrArg ((dats m 0 c).arrAt 5 cfg0.N) he).symm.trans (hb.trans ?_)
  refine Eq.trans (b := (outsAt0 m c t).1 (ix2 i (⟨j.val % 128, by omega⟩ : Fin 128))) rfl ?_
  rw [out5]
  refine (dxs_at (X := fun r l => X r (128 * t.val + l)) (W := fun r l => W r (128 * t.val + l)) (B := fun l => B (128 * t.val + l)) (G := fun r l => cot Q K r (128 * t.val + l)) (grid0.coords t) (ms0_0 t) (hs0_0 t) (ms0_1 t) (hs0_1 t) (ms0_2 t) (hs0_2 t) (ms0_3 t) (hs0_3 t) (ms0_4 t) (hs0_4 t) scM0_0 (iblk m c 0 t) (iblk m c 1 t) (iblk m c 2 t) (iblk m c 3 t) (iblk m c 4 t) (sx m c hX t hN) (sw m c hW t hN) (sb m c hB t hN) (sgt m c hQ hK t hN _ _ rfl rfl) VO0_5 VO0_5.junk 16 le_rfl i ⟨j.val % 128, by omega⟩ i.isLt).trans ?_
  show ((gx X W B (cot Q K) i (128 * (j.val / 128) + j.val % 128) : ℝ) : EReal) = _
  rw [show 128 * (j.val / 128) + j.val % 128 = j.val by omega]

theorem gw_at (k : Fin 4) (j : Fin 1024) :
    (show FVec Ideal S4x1024 .f32 from (dats m 0 c).arrAt 6 cfg0.N) (ix2 k j) = ((gw X W B (cot Q K) 4096 k j : ℝ) : EReal) := by
  have h8 : cfg0.N = 8 := N_0
  let t : Fin cfg0.N := ⟨j.val / 128, by omega⟩
  have hN : t.val < 8 := by show j.val / 128 < 8; omega
  obtain ⟨x0, x1, x2, x3, x4, x5, x6, x7⟩ := idx t
  have he : (win0_6.blk t).view.emb (ix2 k (⟨j.val % 128, by omega⟩ : Fin 128)) = ix2 k j := by
    have hj : 128 * t.val + j.val % 128 = j.val := by show 128 * (j.val / 128) + j.val % 128 = j.val; omega
    blk_ext [x6]
  have hb := congrFun (Value.blocks6 m c t (flush6 t)) (ix2 k (⟨j.val % 128, by omega⟩ : Fin 128))
  rw [Value.flushed6] at hb
  refine (congrArg ((dats m 0 c).arrAt 6 cfg0.N) he).symm.trans (hb.trans ?_)
  refine Eq.trans (b := (outsAt0 m c t).2.1 (ix2 k (⟨j.val % 128, by omega⟩ : Fin 128))) rfl ?_
  rw [out6]
  refine (store_in (n := 4) VO0_6 VO0_6.junk 0 inb_S4x128_S4x128_0_0 _ [] k ⟨j.val % 128, by omega⟩ k (by omega)).trans ?_
  refine (four (f := fun k => gw (fun r l => X r (128 * t.val + l)) (fun r l => W r (128 * t.val + l)) (fun l => B (128 * t.val + l)) (fun r l => cot Q K r (128 * t.val + l)) 4096 k (j.val % 128))
    (tap0_at (X := fun r l => X r (128 * t.val + l)) (W := fun r l => W r (128 * t.val + l)) (B := fun l => B (128 * t.val + l)) (G := fun r l => cot Q K r (128 * t.val + l)) (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (sx m c hX t hN) (sw m c hW t hN) (sb m c hB t hN) (sgt m c hQ hK t hN _ _ rfl rfl) ⟨j.val % 128, by omega⟩) (tap1_at (X := fun r l => X r (128 * t.val + l)) (W := fun r l => W r (128 * t.val + l)) (B := fun l => B (128 * t.val + l)) (G := fun r l => cot Q K r (128 * t.val + l)) (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (sx m c hX t hN) (sw m c hW t hN) (sb m c hB t hN) (sgt m c hQ hK t hN _ _ rfl rfl) ⟨j.val % 128, by omega⟩)
    (tap2_at (X := fun r l => X r (128 * t.val + l)) (W := fun r l => W r (128 * t.val + l)) (B := fun l => B (128 * t.val + l)) (G := fun r l => cot Q K r (128 * t.val + l)) (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (sx m c hX t hN) (sw m c hW t hN) (sb m c hB t hN) (sgt m c hQ hK t hN _ _ rfl rfl) ⟨j.val % 128, by omega⟩) (tap3_at (X := fun r l => X r (128 * t.val + l)) (W := fun r l => W r (128 * t.val + l)) (B := fun l => B (128 * t.val + l)) (G := fun r l => cot Q K r (128 * t.val + l)) (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (sx m c hX t hN) (sw m c hW t hN) (sb m c hB t hN) (sgt m c hQ hK t hN _ _ rfl rfl) ⟨j.val % 128, by omega⟩) k).trans ?_
  show ((gw X W B (cot Q K) 4096 k (128 * (j.val / 128) + j.val % 128) : ℝ) : EReal) = _
  rw [show 128 * (j.val / 128) + j.val % 128 = j.val by omega]

theorem gb_at (j : Fin 1024) :
    (show FVec Ideal S1x1024 .f32 from (dats m 0 c).arrAt 7 cfg0.N) (ix2 0 j) = ((gb X W B (cot Q K) 4096 j : ℝ) : EReal) := by
  have h8 : cfg0.N = 8 := N_0
  let t : Fin cfg0.N := ⟨j.val / 128, by omega⟩
  have hN : t.val < 8 := by show j.val / 128 < 8; omega
  obtain ⟨x0, x1, x2, x3, x4, x5, x6, x7⟩ := idx t
  have he : (win0_7.blk t).view.emb (ix2 0 (⟨j.val % 128, by omega⟩ : Fin 128)) = ix2 0 j := by
    have hj : 128 * t.val + j.val % 128 = j.val := by show 128 * (j.val / 128) + j.val % 128 = j.val; omega
    blk_ext [x7]
  have hb := congrFun (Value.blocks7 m c t (flush7 t)) (ix2 0 (⟨j.val % 128, by omega⟩ : Fin 128))
  rw [Value.flushed7] at hb
  refine (congrArg ((dats m 0 c).arrAt 7 cfg0.N) he).symm.trans (hb.trans ?_)
  refine Eq.trans (b := (outsAt0 m c t).2.2 (ix2 0 (⟨j.val % 128, by omega⟩ : Fin 128))) rfl ?_
  rw [out7]
  refine (store_in (n := 1) VO0_7 VO0_7.junk 0 inb_S1x128_S1x128_0_0 _ [] 0 ⟨j.val % 128, by omega⟩ 0 rfl).trans ?_
  refine (db_at (X := fun r l => X r (128 * t.val + l)) (W := fun r l => W r (128 * t.val + l)) (B := fun l => B (128 * t.val + l)) (G := fun r l => cot Q K r (128 * t.val + l)) (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (sx m c hX t hN) (sw m c hW t hN) (sb m c hB t hN) (sgt m c hQ hK t hN _ _ rfl rfl) ⟨j.val % 128, by omega⟩).trans ?_
  show ((gb X W B (cot Q K) 4096 (128 * (j.val / 128) + j.val % 128) : ℝ) : EReal) = _
  rw [show 128 * (j.val / 128) + j.val % 128 = j.val by omega]

end Cert.ConvProof
-- ==== Proof.ConvRef.lean ====
module

public import proofs.«01_k».proof.Proof.ConvBlk
public import proofs.«01_k».proof.Proof.Gen.ConvReferenceIdeal.Run
public import proofs.«01_k».proof.Proof.Gen.ConvReferenceIdeal.Read

/-! The reference's gradients of the convolution, read entry by entry as real numbers. -/

@[expose] public section
set_option maxRecDepth 16384
noncomputable section

namespace Cert.ConvRef
open Idealize.ShloMosaic Cert.ConvReferenceIdeal Cert.ConvReferenceIdeal.Read Cert.ConvMath
open Cert.ConvProof (cot colLt)

attribute [local instance] Cert.ConvReferenceIdeal.Gen.facts

variable {X W : ℕ → ℕ → ℝ} {B : ℕ → ℝ} {Q K : ℕ → ℕ → ℝ}
  {x0 : FVec Ideal S1x4096x4616 .f32} {x1 : FVec Ideal S1x4x1024 .f32} {x2 : FVec Ideal S1x1024 .f32} {x3 x4 : FVec Ideal S4096x512 .bf16}
  (hX : ∀ (t : Fin 4096) (j : Fin 1024), x0 (ix3 0 t ⟨2048 + j, colLt j⟩) = ((X t j : ℝ) : EReal))
  (hW : ∀ (j : Fin 4) (l : Fin 1024), x1 (ix3 0 j l) = ((W j l : ℝ) : EReal))
  (hB : ∀ l : Fin 1024, x2 (ix2 0 l) = ((B l : ℝ) : EReal))
  (hQ : ∀ (t : Fin 4096) (j : Fin 512), x3 (ix2 t j) = ((Q t j : ℝ) : EReal))
  (hK : ∀ (t : Fin 4096) (j : Fin 512), x4 (ix2 t j) = ((K t j : ℝ) : EReal))

/-- A sum over two axes of one entry each. -/
theorem units (h : S1x1x1024.ReducesTo [0, 1] S1024) (x : S1x1x1024.Idx → EReal) (l : Fin 1024) :
    Ideal.hostReduceAdd h x 0 (ix1 l) = x (ix3 0 0 l) := by
  unfold Ideal.hostReduceAdd
  rw [zero_add, Finset.sum_eq_single (ix3 0 0 l)]
  · intro i hi hne
    refine absurd ?_ hne
    have e := (Finset.mem_filter.1 hi).2
    funext a; apply Fin.ext
    match a with
    | ⟨0, _⟩ => exact Nat.lt_one_iff.1 (i 0).isLt
    | ⟨1, _⟩ => exact Nat.lt_one_iff.1 (i 1).isLt
    | ⟨2, _⟩ => exact congrArg Fin.val (congrFun e ⟨0, Nat.one_pos⟩)
  · intro hn
    refine absurd (Finset.mem_filter.2 ⟨Finset.mem_univ _, ?_⟩) hn
    funext b; apply Fin.ext
    match b with
    | ⟨0, _⟩ => rfl

/-- The rows summed, then the unit axes. -/
theorem rows (y : FVec Ideal S1x4096x1024 .f32) (l : Fin 1024) :
    Host.reduceAdd (shapeCast _ (Host.reduceAdd y (constant S_ FTy.f32 0#32) Gen.reducesTo_S1x4096x1024_S1x1024_d1 Gen.h_S_) Gen.shapeCasts_S1x1024_S1x1x1024)
      (constant S_ FTy.f32 0#32) Gen.reducesTo_S1x1x1024_S1024_d0_1 Gen.h_S_ (ix1 l) = ∑ t : Fin 4096, y (ix3 0 t l) := by
  have hz : (constant (F := Ideal) S_ FTy.f32 0#32) (Shape.Idx.first Gen.h_S_) = (0 : EReal) := Ideal.ofBits_zero .f32
  refine Eq.trans (b := Ideal.hostReduceAdd Gen.reducesTo_S1x1x1024_S1024_d0_1 (shapeCast _ (Host.reduceAdd y (constant S_ FTy.f32 0#32) Gen.reducesTo_S1x4096x1024_S1x1024_d1 Gen.h_S_) Gen.shapeCasts_S1x1024_S1x1x1024)
    ((constant (F := Ideal) S_ FTy.f32 0#32) (Shape.Idx.first Gen.h_S_)) (ix1 l)) rfl ?_
  rw [hz, units]
  pointwise

include hX in
/-- The input with its rows of zeros. -/
theorem up (u : Fin 4099) (l : Fin 1024) : val_main_v8 (F := Ideal) x0 (ix3 0 u l) = ((xq X (u + 5) l : ℝ) : EReal) := by
  unfold xq
  by_cases h : u.val < 3
  · rw [if_pos (by omega)]
    refine Eq.trans (b := Ideal.ofBits .f32 0x00000000#32) ?_ (by rw [Ideal.ofBits_zero, EReal.coe_zero])
    unfold val_main_v8
    pointwise [val_main_v7, val_main_cst]
    rw [dif_pos h]
  · rw [if_neg (by omega)]
    refine Eq.trans ?_ (hX ⟨u.val + 5 - 8, by omega⟩ l)
    unfold val_main_v8
    pointwise [val_main_v0]
    rw [dif_neg h]
    exact congrArg (fun k => x0 (ix3 0 k _)) (Fin.ext (by show u.val - 3 = u.val + 5 - 8; omega))

include hX in
theorem up0 (t : Fin 4096) (l : Fin 1024) : val_main_v12 (F := Ideal) x0 (ix3 0 t l) = ((xq X (t + 5 + 0) l : ℝ) : EReal) := by
  refine Eq.trans ?_ ((up hX ⟨0 + t.val, by omega⟩ l).trans ?_)
  · unfold val_main_v12
    pointwise
  · show ((xq X (0 + t.val + 5) l : ℝ) : EReal) = _
    rw [show 0 + t.val + 5 = t.val + 5 + 0 by omega]

include hX in
theorem up1 (t : Fin 4096) (l : Fin 1024) : val_main_v21 (F := Ideal) x0 (ix3 0 t l) = ((xq X (t + 5 + 1) l : ℝ) : EReal) := by
  refine Eq.trans ?_ ((up hX ⟨1 + t.val, by omega⟩ l).trans ?_)
  · unfold val_main_v21
    pointwise
  · show ((xq X (1 + t.val + 5) l : ℝ) : EReal) = _
    rw [show 1 + t.val + 5 = t.val + 5 + 1 by omega]

include hX in
theorem up2 (t : Fin 4096) (l : Fin 1024) : val_main_v28 (F := Ideal) x0 (ix3 0 t l) = ((xq X (t + 5 + 2) l : ℝ) : EReal) := by
  refine Eq.trans ?_ ((up hX ⟨2 + t.val, by omega⟩ l).trans ?_)
  · unfold val_main_v28
    pointwise
  · show ((xq X (2 + t.val + 5) l : ℝ) : EReal) = _
    rw [show 2 + t.val + 5 = t.val + 5 + 2 by omega]

include hX in
theorem up3 (t : Fin 4096) (l : Fin 1024) : val_main_v35 (F := Ideal) x0 (ix3 0 t l) = ((xq X (t + 5 + 3) l : ℝ) : EReal) := by
  refine Eq.trans ?_ ((up hX ⟨3 + t.val, by omega⟩ l).trans ?_)
  · unfold val_main_v35
    pointwise
  · show ((xq X (3 + t.val + 5) l : ℝ) : EReal) = _
    rw [show 3 + t.val + 5 = t.val + 5 + 3 by omega]

include hW in
theorem wt0 (t : Fin 4096) (l : Fin 1024) : val_main_v14 (F := Ideal) x1 (ix3 0 t l) = ((W 0 l : ℝ) : EReal) := by
  refine Eq.trans ?_ (hW 0 l)
  pointwise [val_main_v14, val_main_v13, val_main_v11, val_main_v10, val_main_v5]

include hW in
theorem wb0 (t : Fin 4096) (l : Fin 1024) : val_main_v83 (F := Ideal) x1 (ix3 0 t l) = ((W 0 l : ℝ) : EReal) := by
  refine Eq.trans ?_ (hW 0 l)
  pointwise [val_main_v83, val_main_v13, val_main_v11, val_main_v10, val_main_v5]

include hW in
theorem wt1 (t : Fin 4096) (l : Fin 1024) : val_main_v23 (F := Ideal) x1 (ix3 0 t l) = ((W 1 l : ℝ) : EReal) := by
  refine Eq.trans ?_ (hW 1 l)
  pointwise [val_main_v23, val_main_v22, val_main_v20, val_main_v19, val_main_v5]

include hW in
theorem wb1 (t : Fin 4096) (l : Fin 1024) : val_main_v69 (F := Ideal) x1 (ix3 0 t l) = ((W 1 l : ℝ) : EReal) := by
  refine Eq.trans ?_ (hW 1 l)
  pointwise [val_main_v69, val_main_v22, val_main_v20, val_main_v19, val_main_v5]

include hW in
theorem wt2 (t : Fin 4096) (l : Fin 1024) : val_main_v30 (F := Ideal) x1 (ix3 0 t l) = ((W 2 l : ℝ) : EReal) := by
  refine Eq.trans ?_ (hW 2 l)
  pointwise [val_main_v30, val_main_v29, val_main_v27, val_main_v26, val_main_v5]

include hW in
theorem wb2 (t : Fin 4096) (l : Fin 1024) : val_main_v58 (F := Ideal) x1 (ix3 0 t l) = ((W 2 l : ℝ) : EReal) := by
  refine Eq.trans ?_ (hW 2 l)
  pointwise [val_main_v58, val_main_v29, val_main_v27, val_main_v26, val_main_v5]

include hW in
theorem wt3 (t : Fin 4096) (l : Fin 1024) : val_main_v37 (F := Ideal) x1 (ix3 0 t l) = ((W 3 l : ℝ) : EReal) := by
  refine Eq.trans ?_ (hW 3 l)
  pointwise [val_main_v37, val_main_v36, val_main_v34, val_main_v33, val_main_v5]

include hW in
theorem wb3 (t : Fin 4096) (l : Fin 1024) : val_main_v49 (F := Ideal) x1 (ix3 0 t l) = ((W 3 l : ℝ) : EReal) := by
  refine Eq.trans ?_ (hW 3 l)
  pointwise [val_main_v49, val_main_v36, val_main_v34, val_main_v33, val_main_v5]

include hB in
theorem bias (t : Fin 4096) (l : Fin 1024) : val_main_v17 (F := Ideal) x2 (ix3 0 t l) = ((B l : ℝ) : EReal) := by
  refine Eq.trans ?_ (hB l)
  pointwise [val_main_v17, val_main_v16, val_main_v6]

include hX hW hB in
theorem conv (t : Fin 4096) (l : Fin 1024) : val_main_v39 (F := Ideal) x0 x1 x2 (ix3 0 t l) = ((cv X W B t l : ℝ) : EReal) := by
  show ((((val_main_v17 (F := Ideal) x2 (ix3 0 t l) + val_main_v14 (F := Ideal) x1 (ix3 0 t l) * val_main_v12 (F := Ideal) x0 (ix3 0 t l))
    + val_main_v23 (F := Ideal) x1 (ix3 0 t l) * val_main_v21 (F := Ideal) x0 (ix3 0 t l))
    + val_main_v30 (F := Ideal) x1 (ix3 0 t l) * val_main_v28 (F := Ideal) x0 (ix3 0 t l))
    + val_main_v37 (F := Ideal) x1 (ix3 0 t l) * val_main_v35 (F := Ideal) x0 (ix3 0 t l) : EReal) = _
  rw [bias hB, wt0 hW, wt1 hW, wt2 hW, wt3 hW, up0 hX, up1 hX, up2 hX, up3 hX]
  simp only [← EReal.coe_mul, ← EReal.coe_add]
  unfold cv
  simp only [Nat.add_assoc]
  congr 1
  ring

include hX hW hB in
theorem gate (t : Fin 4096) (l : Fin 1024) : val_main_v40_2 (F := Ideal) x0 x1 x2 (ix3 0 t l) = ((sg (cv X W B t l) : ℝ) : EReal) := by
  refine Eq.trans ?_ (Ideal.logistic_coe (cv X W B t l))
  rw [← conv hX hW hB t l]
  unfold val_main_v40_2 val_main_call0_v3 val_main_call0_v1 val_main_call0_v0
  generalize val_main_v39 (F := Ideal) x0 x1 x2 = y
  pointwise [val_main_call0_v4, val_main_call0_cst_0, val_main_call0_v2, val_main_call0_cst]
  rfl

include hQ hK in
theorem ct (t : Fin 4096) (l : Fin 1024) : val_main_v47 (F := Ideal) x3 x4 (ix3 0 t l) = ((cot Q K t l : ℝ) : EReal) := by
  unfold cot
  by_cases h : l.val < 512
  · rw [if_pos h]
    refine Eq.trans ?_ (hQ t ⟨l, h⟩)
    unfold val_main_v47
    pointwise [val_main_v2, val_main_v1]
    exact dif_pos h
  · rw [if_neg h]
    refine Eq.trans (b := x4 (ix2 t ⟨l.val - 512, by omega⟩) * Ideal.ofBits .f32 0x3DB504F3#32) ?_ ?_
    · unfold val_main_v47
      pointwise [val_main_v46, val_main_v45, val_main_cst_2, val_main_v4, val_main_v3]
      exact dif_neg h
    · rw [hK, bits_cs, ← EReal.coe_mul]

include hX hW hB hQ hK

theorem dgr (t : Fin 4096) (l : Fin 1024) : val_main_v48 (F := Ideal) x0 x1 x2 x3 x4 (ix3 0 t l) = ((dg X W B (cot Q K) t l : ℝ) : EReal) := by
  have h1 : val_main_call0_v6 (F := Ideal) (ix3 0 t l) = ((1 : ℝ) : EReal) := by
    refine Eq.trans (b := Ideal.ofBits .f32 0x3F800000#32) ?_ (by simp [Ideal.ofBits, Ideal.ieee, -EReal.coe_mul]; norm_num)
    pointwise [val_main_call0_v6, val_main_call0_cst_1]
  show (val_main_v47 (F := Ideal) x3 x4 (ix3 0 t l) * val_main_v40_2 (F := Ideal) x0 x1 x2 (ix3 0 t l)
    + (val_main_v39 (F := Ideal) x0 x1 x2 (ix3 0 t l) * val_main_v47 (F := Ideal) x3 x4 (ix3 0 t l))
      * (val_main_v40_2 (F := Ideal) x0 x1 x2 (ix3 0 t l) * (val_main_call0_v6 (F := Ideal) (ix3 0 t l) - val_main_v40_2 (F := Ideal) x0 x1 x2 (ix3 0 t l))) : EReal) = _
  rw [ct hQ hK, gate hX hW hB, conv hX hW hB, h1]
  simp only [← EReal.coe_mul, ← EReal.coe_add, ← EReal.coe_sub]
  unfold dg
  congr 1
  ring

theorem tap0 (l : Fin 1024) : val_main_v88 (F := Ideal) x0 x1 x2 x3 x4 (ix1 l) = ((gw X W B (cot Q K) 4096 0 l : ℝ) : EReal) := by
  refine Eq.trans (b := ∑ t : Fin 4096, val_main_v85 (F := Ideal) x0 x1 x2 x3 x4 (ix3 0 t l)) ?_ ?_
  · unfold val_main_v88 val_main_v87 val_main_v86
    generalize val_main_v85 (F := Ideal) x0 x1 x2 x3 x4 = y
    unfold val_main_cst_17 val_main_cst_18
    exact rows y l
  · unfold gw
    rw [Cert.Reals.coe_sum, Finset.sum_range]
    refine Finset.sum_congr rfl fun t _ => ?_
    show (val_main_v48 (F := Ideal) x0 x1 x2 x3 x4 (ix3 0 t l) * val_main_v12 (F := Ideal) x0 (ix3 0 t l) : EReal) = _
    rw [dgr hX hW hB hQ hK, up0 hX, ← EReal.coe_mul]

theorem tap1 (l : Fin 1024) : val_main_v74 (F := Ideal) x0 x1 x2 x3 x4 (ix1 l) = ((gw X W B (cot Q K) 4096 1 l : ℝ) : EReal) := by
  refine Eq.trans (b := ∑ t : Fin 4096, val_main_v71 (F := Ideal) x0 x1 x2 x3 x4 (ix3 0 t l)) ?_ ?_
  · unfold val_main_v74 val_main_v73 val_main_v72
    generalize val_main_v71 (F := Ideal) x0 x1 x2 x3 x4 = y
    unfold val_main_cst_11 val_main_cst_12
    exact rows y l
  · unfold gw
    rw [Cert.Reals.coe_sum, Finset.sum_range]
    refine Finset.sum_congr rfl fun t _ => ?_
    show (val_main_v48 (F := Ideal) x0 x1 x2 x3 x4 (ix3 0 t l) * val_main_v21 (F := Ideal) x0 (ix3 0 t l) : EReal) = _
    rw [dgr hX hW hB hQ hK, up1 hX, ← EReal.coe_mul]

theorem tap2 (l : Fin 1024) : val_main_v63 (F := Ideal) x0 x1 x2 x3 x4 (ix1 l) = ((gw X W B (cot Q K) 4096 2 l : ℝ) : EReal) := by
  refine Eq.trans (b := ∑ t : Fin 4096, val_main_v60 (F := Ideal) x0 x1 x2 x3 x4 (ix3 0 t l)) ?_ ?_
  · unfold val_main_v63 val_main_v62 val_main_v61
    generalize val_main_v60 (F := Ideal) x0 x1 x2 x3 x4 = y
    unfold val_main_cst_7 val_main_cst_8
    exact rows y l
  · unfold gw
    rw [Cert.Reals.coe_sum, Finset.sum_range]
    refine Finset.sum_congr rfl fun t _ => ?_
    show (val_main_v48 (F := Ideal) x0 x1 x2 x3 x4 (ix3 0 t l) * val_main_v28 (F := Ideal) x0 (ix3 0 t l) : EReal) = _
    rw [dgr hX hW hB hQ hK, up2 hX, ← EReal.coe_mul]

theorem tap3 (l : Fin 1024) : val_main_v54 (F := Ideal) x0 x1 x2 x3 x4 (ix1 l) = ((gw X W B (cot Q K) 4096 3 l : ℝ) : EReal) := by
  refine Eq.trans (b := ∑ t : Fin 4096, val_main_v51 (F := Ideal) x0 x1 x2 x3 x4 (ix3 0 t l)) ?_ ?_
  · unfold val_main_v54 val_main_v53 val_main_v52
    generalize val_main_v51 (F := Ideal) x0 x1 x2 x3 x4 = y
    unfold val_main_cst_3 val_main_cst_4
    exact rows y l
  · unfold gw
    rw [Cert.Reals.coe_sum, Finset.sum_range]
    refine Finset.sum_congr rfl fun t _ => ?_
    show (val_main_v48 (F := Ideal) x0 x1 x2 x3 x4 (ix3 0 t l) * val_main_v35 (F := Ideal) x0 (ix3 0 t l) : EReal) = _
    rw [dgr hX hW hB hQ hK, up3 hX, ← EReal.coe_mul]

theorem tot (l : Fin 1024) : val_main_v82 (F := Ideal) x0 x1 x2 x3 x4 (ix1 l) = ((gb X W B (cot Q K) 4096 l : ℝ) : EReal) := by
  refine Eq.trans (b := ∑ t : Fin 4096, val_main_v48 (F := Ideal) x0 x1 x2 x3 x4 (ix3 0 t l)) ?_ ?_
  · unfold val_main_v82 val_main_v81 val_main_v80
    generalize val_main_v48 (F := Ideal) x0 x1 x2 x3 x4 = y
    unfold val_main_cst_15 val_main_cst_16
    exact rows y l
  · unfold gb
    rw [Cert.Reals.coe_sum, Finset.sum_range]
    exact Finset.sum_congr rfl fun t _ => dgr hX hW hB hQ hK t l

theorem ref_gb (l : Fin 1024) : val_main_v96 (F := Ideal) x0 x1 x2 x3 x4 (ix2 0 l) = ((gb X W B (cot Q K) 4096 l : ℝ) : EReal) := by
  refine Eq.trans ?_ (tot hX hW hB hQ hK l)
  unfold val_main_v96
  generalize val_main_v82 (F := Ideal) x0 x1 x2 x3 x4 = y
  pointwise

theorem pw3 (j : Fin 4) (l : Fin 1024) : val_main_v57 (F := Ideal) x0 x1 x2 x3 x4 (ix2 j l) = (((if j.val = 3 then gw X W B (cot Q K) 4096 3 l else 0 : ℝ)) : EReal) := by
  by_cases h : j.val = 3
  · rw [if_pos h, ← tap3 hX hW hB hQ hK l]
    obtain rfl : j = 3 := Fin.ext h
    unfold val_main_v57 val_main_v56
    generalize val_main_v54 (F := Ideal) x0 x1 x2 x3 x4 = y
    pointwise
  · rw [if_neg h]
    refine Eq.trans (b := Ideal.ofBits .f32 0x00000000#32) ?_ (by rw [Ideal.ofBits_zero, EReal.coe_zero])
    unfold val_main_v57 val_main_v56
    generalize val_main_v54 (F := Ideal) x0 x1 x2 x3 x4 = y
    pointwise [val_main_cst_6]
    rw [dif_neg (by omega)]

theorem pw2 (j : Fin 4) (l : Fin 1024) : val_main_v67 (F := Ideal) x0 x1 x2 x3 x4 (ix2 j l) = (((if j.val = 2 then gw X W B (cot Q K) 4096 2 l else 0 : ℝ)) : EReal) := by
  by_cases h : j.val = 2
  · rw [if_pos h, ← tap2 hX hW hB hQ hK l]
    obtain rfl : j = 2 := Fin.ext h
    unfold val_main_v67 val_main_v66
    generalize val_main_v63 (F := Ideal) x0 x1 x2 x3 x4 = y
    pointwise
  · rw [if_neg h]
    refine Eq.trans (b := Ideal.ofBits .f32 0x00000000#32) ?_ (by rw [Ideal.ofBits_zero, EReal.coe_zero])
    unfold val_main_v67 val_main_v66
    generalize val_main_v63 (F := Ideal) x0 x1 x2 x3 x4 = y
    pointwise [val_main_cst_10]
    rw [dif_neg (by omega)]

theorem pw1 (j : Fin 4) (l : Fin 1024) : val_main_v78 (F := Ideal) x0 x1 x2 x3 x4 (ix2 j l) = (((if j.val = 1 then gw X W B (cot Q K) 4096 1 l else 0 : ℝ)) : EReal) := by
  by_cases h : j.val = 1
  · rw [if_pos h, ← tap1 hX hW hB hQ hK l]
    obtain rfl : j = 1 := Fin.ext h
    unfold val_main_v78 val_main_v77
    generalize val_main_v74 (F := Ideal) x0 x1 x2 x3 x4 = y
    pointwise
  · rw [if_neg h]
    refine Eq.trans (b := Ideal.ofBits .f32 0x00000000#32) ?_ (by rw [Ideal.ofBits_zero, EReal.coe_zero])
    unfold val_main_v78 val_main_v77
    generalize val_main_v74 (F := Ideal) x0 x1 x2 x3 x4 = y
    pointwise [val_main_cst_14]
    rw [dif_neg (by omega)]

theorem pw0 (j : Fin 4) (l : Fin 1024) : val_main_v92 (F := Ideal) x0 x1 x2 x3 x4 (ix2 j l) = (((if j.val = 0 then gw X W B (cot Q K) 4096 0 l else 0 : ℝ)) : EReal) := by
  by_cases h : j.val = 0
  · rw [if_pos h, ← tap0 hX hW hB hQ hK l]
    obtain rfl : j = 0 := Fin.ext h
    unfold val_main_v92 val_main_v91
    generalize val_main_v88 (F := Ideal) x0 x1 x2 x3 x4 = y
    pointwise
  · rw [if_neg h]
    refine Eq.trans (b := Ideal.ofBits .f32 0x00000000#32) ?_ (by rw [Ideal.ofBits_zero, EReal.coe_zero])
    unfold val_main_v92 val_main_v91
    generalize val_main_v88 (F := Ideal) x0 x1 x2 x3 x4 = y
    pointwise [val_main_cst_20]
    rw [dif_neg (by omega)]

theorem ref_gw (j : Fin 4) (l : Fin 1024) : val_main_v100 (F := Ideal) x0 x1 x2 x3 x4 (ix2 j l) = ((gw X W B (cot Q K) 4096 j l : ℝ) : EReal) := by
  refine Eq.trans (b := ((val_main_v57 (F := Ideal) x0 x1 x2 x3 x4 (ix2 j l) + val_main_v67 (F := Ideal) x0 x1 x2 x3 x4 (ix2 j l)) + val_main_v78 (F := Ideal) x0 x1 x2 x3 x4 (ix2 j l)
    + val_main_v92 (F := Ideal) x0 x1 x2 x3 x4 (ix2 j l) : EReal)) ?_ ?_
  · unfold val_main_v100 val_main_v97 val_main_v93 val_main_v79 val_main_v68
    generalize val_main_v57 (F := Ideal) x0 x1 x2 x3 x4 = a
    generalize val_main_v67 (F := Ideal) x0 x1 x2 x3 x4 = b
    generalize val_main_v78 (F := Ideal) x0 x1 x2 x3 x4 = d
    generalize val_main_v92 (F := Ideal) x0 x1 x2 x3 x4 = e
    pointwise
  · rw [pw0 hX hW hB hQ hK, pw1 hX hW hB hQ hK, pw2 hX hW hB hQ hK, pw3 hX hW hB hQ hK]
    simp only [← EReal.coe_add]
    congr 1
    fin_cases j <;> simp

theorem px3 (t : Fin 4096) (l : Fin 1024) : val_main_v55 (F := Ideal) x0 x1 x2 x3 x4 (ix3 0 ⟨3 + t.val, by omega⟩ l) = ((W 3 l * dz X W B (cot Q K) (t + 0) l : ℝ) : EReal) := by
  unfold dz
  by_cases h : t.val + 0 < 4096
  · rw [if_pos h]
    refine Eq.trans (b := (val_main_v49 (F := Ideal) x1 (ix3 0 ⟨t.val + 0, h⟩ l) * val_main_v48 (F := Ideal) x0 x1 x2 x3 x4 (ix3 0 ⟨t.val + 0, h⟩ l) : EReal)) ?_ ?_
    · show _ = val_main_v50 (F := Ideal) x0 x1 x2 x3 x4 (ix3 0 ⟨t.val + 0, h⟩ l)
      unfold val_main_v55
      generalize val_main_v50 (F := Ideal) x0 x1 x2 x3 x4 = y
      pointwise
    · rw [wb3 hW, dgr hX hW hB hQ hK, ← EReal.coe_mul]
  · exact absurd t.isLt h

theorem px2 (t : Fin 4096) (l : Fin 1024) : val_main_v64 (F := Ideal) x0 x1 x2 x3 x4 (ix3 0 ⟨3 + t.val, by omega⟩ l) = ((W 2 l * dz X W B (cot Q K) (t + 1) l : ℝ) : EReal) := by
  unfold dz
  by_cases h : t.val + 1 < 4096
  · rw [if_pos h]
    refine Eq.trans (b := (val_main_v58 (F := Ideal) x1 (ix3 0 ⟨t.val + 1, h⟩ l) * val_main_v48 (F := Ideal) x0 x1 x2 x3 x4 (ix3 0 ⟨t.val + 1, h⟩ l) : EReal)) ?_ ?_
    · show _ = val_main_v59 (F := Ideal) x0 x1 x2 x3 x4 (ix3 0 ⟨t.val + 1, h⟩ l)
      unfold val_main_v64
      generalize val_main_v59 (F := Ideal) x0 x1 x2 x3 x4 = y
      pointwise
      rw [dif_pos (by omega)]
      exact congrArg (fun k => y (ix3 0 k l)) (Fin.ext (by show 3 + t.val - 2 = t.val + 1; omega))
    · rw [wb2 hW, dgr hX hW hB hQ hK, ← EReal.coe_mul]
  · rw [if_neg h, mul_zero]
    refine Eq.trans (b := Ideal.ofBits .f32 0x00000000#32) ?_ (by rw [Ideal.ofBits_zero, EReal.coe_zero])
    unfold val_main_v64
    generalize val_main_v59 (F := Ideal) x0 x1 x2 x3 x4 = y
    pointwise [val_main_cst_9]
    rw [dif_neg (by omega)]

theorem px1 (t : Fin 4096) (l : Fin 1024) : val_main_v75 (F := Ideal) x0 x1 x2 x3 x4 (ix3 0 ⟨3 + t.val, by omega⟩ l) = ((W 1 l * dz X W B (cot Q K) (t + 2) l : ℝ) : EReal) := by
  unfold dz
  by_cases h : t.val + 2 < 4096
  · rw [if_pos h]
    refine Eq.trans (b := (val_main_v69 (F := Ideal) x1 (ix3 0 ⟨t.val + 2, h⟩ l) * val_main_v48 (F := Ideal) x0 x1 x2 x3 x4 (ix3 0 ⟨t.val + 2, h⟩ l) : EReal)) ?_ ?_
    · show _ = val_main_v70 (F := Ideal) x0 x1 x2 x3 x4 (ix3 0 ⟨t.val + 2, h⟩ l)
      unfold val_main_v75
      generalize val_main_v70 (F := Ideal) x0 x1 x2 x3 x4 = y
      pointwise
      rw [dif_pos (by omega)]
      exact congrArg (fun k => y (ix3 0 k l)) (Fin.ext (by show 3 + t.val - 1 = t.val + 2; omega))
    · rw [wb1 hW, dgr hX hW hB hQ hK, ← EReal.coe_mul]
  · rw [if_neg h, mul_zero]
    refine Eq.trans (b := Ideal.ofBits .f32 0x00000000#32) ?_ (by rw [Ideal.ofBits_zero, EReal.coe_zero])
    unfold val_main_v75
    generalize val_main_v70 (F := Ideal) x0 x1 x2 x3 x4 = y
    pointwise [val_main_cst_13]
    rw [dif_neg (by omega)]

theorem px0 (t : Fin 4096) (l : Fin 1024) : val_main_v89 (F := Ideal) x0 x1 x2 x3 x4 (ix3 0 ⟨3 + t.val, by omega⟩ l) = ((W 0 l * dz X W B (cot Q K) (t + 3) l : ℝ) : EReal) := by
  unfold dz
  by_cases h : t.val + 3 < 4096
  · rw [if_pos h]
    refine Eq.trans (b := (val_main_v83 (F := Ideal) x1 (ix3 0 ⟨t.val + 3, h⟩ l) * val_main_v48 (F := Ideal) x0 x1 x2 x3 x4 (ix3 0 ⟨t.val + 3, h⟩ l) : EReal)) ?_ ?_
    · show _ = val_main_v84 (F := Ideal) x0 x1 x2 x3 x4 (ix3 0 ⟨t.val + 3, h⟩ l)
      unfold val_main_v89
      generalize val_main_v84 (F := Ideal) x0 x1 x2 x3 x4 = y
      pointwise
      rw [dif_pos (by omega)]
      exact congrArg (fun k => y (ix3 0 k l)) (Fin.ext (by show 3 + t.val - 0 = t.val + 3; omega))
    · rw [wb0 hW, dgr hX hW hB hQ hK, ← EReal.coe_mul]
  · rw [if_neg h, mul_zero]
    refine Eq.trans (b := Ideal.ofBits .f32 0x00000000#32) ?_ (by rw [Ideal.ofBits_zero, EReal.coe_zero])
    unfold val_main_v89
    generalize val_main_v84 (F := Ideal) x0 x1 x2 x3 x4 = y
    pointwise [val_main_cst_19]
    rw [dif_neg (by omega)]

theorem ref_gx (t : Fin 4096) (l : Fin 1024) : val_main_v99 (F := Ideal) x0 x1 x2 x3 x4 (ix2 t l) = ((gx X W B (cot Q K) t l : ℝ) : EReal) := by
  refine Eq.trans (b := ((val_main_v55 (F := Ideal) x0 x1 x2 x3 x4 (ix3 0 ⟨3 + t.val, by omega⟩ l) + val_main_v64 (F := Ideal) x0 x1 x2 x3 x4 (ix3 0 ⟨3 + t.val, by omega⟩ l))
    + val_main_v75 (F := Ideal) x0 x1 x2 x3 x4 (ix3 0 ⟨3 + t.val, by omega⟩ l) + val_main_v89 (F := Ideal) x0 x1 x2 x3 x4 (ix3 0 ⟨3 + t.val, by omega⟩ l) : EReal)) ?_ ?_
  · unfold val_main_v99 val_main_v98 val_main_v95 val_main_v90 val_main_v76 val_main_v65
    generalize val_main_v55 (F := Ideal) x0 x1 x2 x3 x4 = a
    generalize val_main_v64 (F := Ideal) x0 x1 x2 x3 x4 = b
    generalize val_main_v75 (F := Ideal) x0 x1 x2 x3 x4 = d
    generalize val_main_v89 (F := Ideal) x0 x1 x2 x3 x4 = e
    pointwise
  · rw [px0 hX hW hB hQ hK, px1 hX hW hB hQ hK, px2 hX hW hB hQ hK, px3 hX hW hB hQ hK]
    simp only [← EReal.coe_add]
    congr 1
    unfold gx
    simp only [Nat.add_zero]
    ring

end Cert.ConvRef
end
-- ==== Proof.ConvClaim.lean ====
module

public import proofs.«01_k».proof.Defs
public import proofs.«01_k».proof.Proof.ConvRef
public import proofs.«01_k».proof.Proof.Gen.ConvKernel.Frame
public import proofs.«01_k».proof.Proof.Gen.Pre_conv_in

/-! The convolution backward's claims: the precondition read as real entries, and the value claim. -/

@[expose] public section
set_option maxRecDepth 16384
noncomputable section

namespace Cert.ConvProof
open Idealize.ShloMosaic Idealize.ShloMosaic.TcCoe Idealize.SL.Sem Cert.Reals Cert.ConvMath

theorem preFacts : Cert.Pre_conv_in.Facts := ⟨by decide, by decide, by decide, by decide, by decide, by decide⟩

attribute [local instance] preFacts Cert.ConvKernelIdeal.Gen.facts Cert.ConvReferenceIdeal.Gen.facts

open Cert.ConvKernelIdeal Cert.ConvKernelIdeal.Gen in
/-- The finite arguments as real functions of row and column. -/
theorem reals (m : (ℓ : Loc nD τ sig) → Buf (Elt Ideal) ℓ) (h : Cert.Pre_ConvKernelIdeal_conv_in m) (c : Dev nD) :
    ∃ (X W : ℕ → ℕ → ℝ) (B : ℕ → ℝ) (Q K : ℕ → ℕ → ℝ),
      (∀ (t : Fin 4096) (j : Fin 1024), argP m c (ix3 0 t ⟨2048 + j, colLt j⟩) = ((X t j : ℝ) : EReal))
      ∧ (∀ (j : Fin 4) (l : Fin 1024), argW m c (ix3 0 j l) = ((W j l : ℝ) : EReal))
      ∧ (∀ l : Fin 1024, argB m c (ix2 0 l) = ((B l : ℝ) : EReal))
      ∧ (∀ (t : Fin 4096) (j : Fin 512), argQ m c (ix2 t j) = ((Q t j : ℝ) : EReal))
      ∧ ∀ (t : Fin 4096) (j : Fin 512), argK m c (ix2 t j) = ((K t j : ℝ) : EReal) := by
  have r0 : ∀ (t : Fin 4096) (j : Fin 1024), IsReal (argP m c (ix3 0 t ⟨2048 + j, colLt j⟩)) := fun t j => by
    have hr : IsReal (Cert.ConvReferenceIdeal.Read.val_main_v0 (F := Ideal) (argP m c) (ix3 0 t j)) := isReal_of_abs_lt (congrFun (h c).1 (ix3 0 t j))
    have he : Cert.ConvReferenceIdeal.Read.val_main_v0 (F := Ideal) (argP m c) (ix3 0 t j) = argP m c (ix3 0 t ⟨2048 + j, colLt j⟩) := by
      pointwise [Cert.ConvReferenceIdeal.Read.val_main_v0]
    rwa [he] at hr
  have r1 : ∀ (j : Fin 4) (l : Fin 1024), IsReal (argW m c (ix3 0 j l)) := fun j l => isReal_of_abs_lt (congrFun (h c).2.1 _)
  have r2 : ∀ l : Fin 1024, IsReal (argB m c (ix2 0 l)) := fun l => isReal_of_abs_lt (congrFun (h c).2.2.1 _)
  have r3 : ∀ (t : Fin 4096) (j : Fin 512), IsReal (argQ m c (ix2 t j)) := fun t j => isReal_of_abs_lt (congrFun (h c).2.2.2.1 _)
  have r4 : ∀ (t : Fin 4096) (j : Fin 512), IsReal (argK m c (ix2 t j)) := fun t j => isReal_of_abs_lt (congrFun (h c).2.2.2.2 _)
  choose X hX using r0
  choose W hW using r1
  choose B hB using r2
  choose Q hQ using r3
  choose K hK using r4
  refine ⟨fun t j => if ht : t < 4096 then if hj : j < 1024 then X ⟨t, ht⟩ ⟨j, hj⟩ else 0 else 0,
    fun t j => if ht : t < 4 then if hj : j < 1024 then W ⟨t, ht⟩ ⟨j, hj⟩ else 0 else 0,
    fun j => if hj : j < 1024 then B ⟨j, hj⟩ else 0,
    fun t j => if ht : t < 4096 then if hj : j < 512 then Q ⟨t, ht⟩ ⟨j, hj⟩ else 0 else 0,
    fun t j => if ht : t < 4096 then if hj : j < 512 then K ⟨t, ht⟩ ⟨j, hj⟩ else 0 else 0, ?_, ?_, ?_, ?_, ?_⟩
  · intro t j
    beta_reduce
    rw [hX, dif_pos t.isLt, dif_pos j.isLt]
  · intro t j
    beta_reduce
    rw [hW, dif_pos t.isLt, dif_pos j.isLt]
  · intro j
    beta_reduce
    rw [hB, dif_pos j.isLt]
  · intro t j
    beta_reduce
    rw [hQ, dif_pos t.isLt, dif_pos j.isLt]
  · intro t j
    beta_reduce
    rw [hK, dif_pos t.isLt, dif_pos j.isLt]

open Cert.ConvKernelIdeal Cert.ConvKernelIdeal.Gen Cert.ConvReferenceIdeal.Read in
theorem res (m : (ℓ : Loc nD τ sig) → Buf (Elt Ideal) ℓ) (h : Cert.Pre_ConvKernelIdeal_conv_in m) (c : Dev nD) :
    val_main_v99 (F := Ideal) (argP m c) (argW m c) (argB m c) (argQ m c) (argK m c) = (dats m 0 c).arrAt 5 cfg0.N
    ∧ val_main_v100 (F := Ideal) (argP m c) (argW m c) (argB m c) (argQ m c) (argK m c) = (dats m 0 c).arrAt 6 cfg0.N
    ∧ val_main_v96 (F := Ideal) (argP m c) (argW m c) (argB m c) (argQ m c) (argK m c) = (dats m 0 c).arrAt 7 cfg0.N := by
  obtain ⟨X, W, B, Q, K, hX, hW, hB, hQ, hK⟩ := reals m h c
  refine ⟨?_, ?_, ?_⟩
  · funext i
    obtain ⟨r, l, rfl⟩ : ∃ (r : Fin 4096) (l : Fin 1024), i = ix2 r l := ⟨i 0, i 1, eq_ix2 i⟩
    exact (Cert.ConvRef.ref_gx hX hW hB hQ hK r l).trans (gx_at m c hX hW hB hQ hK r l).symm
  · funext i
    obtain ⟨r, l, rfl⟩ : ∃ (r : Fin 4) (l : Fin 1024), i = ix2 r l := ⟨i 0, i 1, eq_ix2 i⟩
    exact (Cert.ConvRef.ref_gw hX hW hB hQ hK r l).trans (gw_at m c hX hW hB hQ hK r l).symm
  · funext i
    obtain ⟨r, l, rfl⟩ : ∃ (r : Fin 1) (l : Fin 1024), i = ix2 r l := ⟨i 0, i 1, eq_ix2 i⟩
    obtain rfl : r = 0 := Subsingleton.elim _ _
    exact (Cert.ConvRef.ref_gb hX hW hB hQ hK l).trans (gb_at m c hX hW hB hQ hK l).symm

theorem algebraic : Cert.algebraic_ConvKernelIdeal_ConvReferenceIdeal_pre_conv_in := by
  intro m g m' g' hpre hag
  refine ⟨fun c => (Cert.ConvKernelIdeal.Gen.dats m 0 c).arrAt 5 Cert.ConvKernelIdeal.cfg0.N, fun c => (Cert.ConvKernelIdeal.Gen.dats m 0 c).arrAt 6 Cert.ConvKernelIdeal.cfg0.N,
    fun c => (Cert.ConvKernelIdeal.Gen.dats m 0 c).arrAt 7 Cert.ConvKernelIdeal.cfg0.N, ?_, ?_⟩
  · exact Cert.ConvKernelIdeal.Value.run_blocks m g
  · refine (θ_run _ _ _).mono (fun r h c => ?_) (Cert.ConvReferenceIdeal.Value.run m' g')
    obtain ⟨h0, h1, h2, hrest⟩ := h c
    obtain ⟨a0, a1, a2, a3, a4⟩ := hag c
    obtain ⟨r0, r1, r2⟩ := res m hpre c
    refine ⟨h0.trans ?_, h1.trans ?_, h2.trans ?_, hrest⟩
    · rw [Cert.ConvReferenceIdeal.Read.val_main_v99_eq, a0, a1, a2, a3, a4]
      exact r0
    · rw [Cert.ConvReferenceIdeal.Read.val_main_v100_eq, a0, a1, a2, a3, a4]
      exact r1
    · rw [Cert.ConvReferenceIdeal.Read.val_main_v96_eq, a0, a1, a2, a3, a4]
      exact r2

theorem frameR : Cert.quiescent_ConvReferenceIdeal := by
  intro m g _
  exact (θ_run _ _ _).mono (fun r h => ⟨fun c => (h c).2.2.2, sem_eq_zero_of_no_sems (by decide) r.2⟩)
    (Cert.ConvReferenceIdeal.Value.run m g)

end Cert.ConvProof
end
-- ==== Proof.FwdRunB.lean ====
module

public import proofs.«01_k».proof.Proof.Gen.FwdKernelIdeal.Frame
public import proofs.«01_k».proof.Proof.Gen.FwdKernelIdeal.Skeleton
public import proofs.«01_k».proof.Proof.Gen.FwdKernelIdeal.Loops

/-! The body of the forward attention kernel, run from start to end, once at the first block of rows
    (`runA`: no rescued logits, no trip of either loop) and once at the later ones (`runB`). -/

@[expose] public section

set_option maxRecDepth 16384

noncomputable section

namespace Cert.FwdProof

open Cert.FwdKernelIdeal Cert.FwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- A later block of rows: the loop over the columns to the left runs, from the logits put aside before it. -/
noncomputable def runB (c : Dev nD) (i : grid0.Coords) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S2x1024x128 .f32) (harg7 : arg7.IsWhole) (arg8 : Memref sig .tc .vmem S2x1024x128 .f32) (harg8 : arg8.IsWhole) (arg9 : Memref sig .tc .vmem S2x1024x256 .f32) (harg9 : arg9.IsWhole)
    (hc : k0_cond1 i = 1#1) (ht2 : (k0_t2_loop i).trips = 0)
    (x0 : Vec F S1024x128 .f32) (x1 x2 : Vec F S4096x128 .f32) :
    Σ' (L3 : List (View.Piece (Elt F) S1024x128 .f32)), { L4 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_sb_fwd i arg2 harg2 arg3 harg3 arg4 harg4 arg5 harg5 arg6 harg6 arg7 harg7 arg8 harg8 arg9 harg9) K } := by
  refine ⟨?_, ?_, fun E K => ?run⟩
  case run =>
    simp only [cc0_sb_fwd_eq_skeleton]; unfold cc0_sb_fwd_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.FwdProof

end
-- ==== Proof.FwdFrame.lean ====
module

public import proofs.«01_k».proof.Proof.FwdRunA
public import proofs.«01_k».proof.Proof.FwdRunB
public import Idealize.ShloMosaic.Lib.Claim

/-! The forward attention kernel runs to an end on every input and leaves its argument as it was; after each
    point of its grid the two outputs' buffers hold what `outsAt` says. -/

@[expose] public section

set_option maxRecDepth 16384

noncomputable section

namespace Cert.FwdProof

open Cert.FwdKernelIdeal Cert.FwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first loop makes two trips for each block of rows above; the second none. -/
theorem trips1 : ∀ i : grid0.Coords, (k0_t1_loop i).trips = 2 * (i 1).val := by decide +kernel
theorem trips2 : ∀ i : grid0.Coords, (k0_t2_loop i).trips = 0 := by decide +kernel
theorem cond_iff : ∀ i : grid0.Coords, k0_cond1 i = 1#1 ↔ 0 < (i 1).val := by decide +kernel

theorem trips1_zero {i : grid0.Coords} (h : ¬ k0_cond1 i = 1#1) : (k0_t1_loop i).trips = 0 := by
  rw [cond_iff] at h; rw [trips1]; omega

abbrev m0 (t : Fin cfg0.N) : Memref sig .tc .vmem S1024x128 .f32 := win0_0.stage (cfg0.slots t 0)
abbrev m1 (t : Fin cfg0.N) : Memref sig .tc .vmem S4096x128 .f32 := win0_1.stage (cfg0.slots t 1)
abbrev m2 (t : Fin cfg0.N) : Memref sig .tc .vmem S4096x128 .f32 := win0_2.stage (cfg0.slots t 2)
abbrev m3 (t : Fin cfg0.N) : Memref sig .tc .vmem S1024x128 .f32 := win0_3.stage (cfg0.slots t 3)
abbrev m4 (t : Fin cfg0.N) : Memref sig .tc .vmem S1024x128 .f32 := win0_4.stage (cfg0.slots t 4)
abbrev w0 (t : Fin cfg0.N) : (m0 t).IsWhole := hstage0_0 ((cfg0.slots t 0).cast nbuf0_0)
abbrev w1 (t : Fin cfg0.N) : (m1 t).IsWhole := hstage0_1 ((cfg0.slots t 1).cast nbuf0_1)
abbrev w2 (t : Fin cfg0.N) : (m2 t).IsWhole := hstage0_2 ((cfg0.slots t 2).cast nbuf0_2)
abbrev w3 (t : Fin cfg0.N) : (m3 t).IsWhole := hstage0_3 ((cfg0.slots t 3).cast nbuf0_3)
abbrev w4 (t : Fin cfg0.N) : (m4 t).IsWhole := hstage0_4 ((cfg0.slots t 4).cast nbuf0_4)
abbrev sA : Memref sig .tc .vmem S2x1024x128 .f32 := Memref.whole cc0_scratch0
abbrev sC : Memref sig .tc .vmem S2x1024x128 .f32 := Memref.whole cc0_scratch1
abbrev sZ : Memref sig .tc .vmem S2x1024x256 .f32 := Memref.whole cc0_scratch2
abbrev O3 : View sig .tc .vmem S1024x128 .f32 := (Memref.whole cc0_stg3_0 : Memref sig .tc .vmem S1024x128 .f32).view
abbrev O4 : View sig .tc .vmem S1024x128 .f32 := (Memref.whole cc0_stg4_0 : Memref sig .tc .vmem S1024x128 .f32).view

/-- What a list of stores leaves in each of the two output buffers. -/
abbrev rd3 (L : List (View.Piece (Elt F) S1024x128 .f32)) : Vec F S1024x128 .f32 := O3.read (Elt F) (O3.writes (Elt F) O3.junk L)
abbrev rd4 (L : List (View.Piece (Elt F) S1024x128 .f32)) : Vec F S1024x128 .f32 := O4.read (Elt F) (O4.writes (Elt F) O4.junk L)

/-- The run at point `t`, on the buffers the pipeline hands it there. -/
abbrev rA (c : Dev nD) (t : Fin cfg0.N) (h : ¬ k0_cond1 (grid0.coords t) = 1#1) :=
  runA (F := F) c (grid0.coords t) (m0 t) (w0 t) (m1 t) (w1 t) (m2 t) (w2 t) (m3 t) (w3 t) (m4 t) (w4 t) sA (Memref.isWhole_whole _) sC (Memref.isWhole_whole _) sZ (Memref.isWhole_whole _)
    h (trips1_zero h) (trips2 _) (iblk m c 0 t) (iblk m c 1 t) (iblk m c 2 t)
abbrev rB (c : Dev nD) (t : Fin cfg0.N) (h : k0_cond1 (grid0.coords t) = 1#1) :=
  runB (F := F) c (grid0.coords t) (m0 t) (w0 t) (m1 t) (w1 t) (m2 t) (w2 t) (m3 t) (w3 t) (m4 t) (w4 t) sA (Memref.isWhole_whole _) sC (Memref.isWhole_whole _) sZ (Memref.isWhole_whole _)
    h (trips2 _) (iblk m c 0 t) (iblk m c 1 t) (iblk m c 2 t)

theorem coverA3 (c : Dev nD) (t) (h) (y : S1024x128.Idx) : ∃ p ∈ (rA m c t h).1, y ∈ p.1.set :=
  View.cover_of_tiledL _ S1024x128.size (by sl_kernel_rfl) y
theorem coverA4 (c : Dev nD) (t) (h) (y : S1024x128.Idx) : ∃ p ∈ (rA m c t h).2.1, y ∈ p.1.set :=
  View.cover_of_tiledL _ S1024x128.size (by sl_kernel_rfl) y
theorem coverB3 (c : Dev nD) (t) (h) (y : S1024x128.Idx) : ∃ p ∈ (rB m c t h).1, y ∈ p.1.set :=
  View.cover_of_tiledL _ S1024x128.size (by sl_kernel_rfl) y
theorem coverB4 (c : Dev nD) (t) (h) (y : S1024x128.Idx) : ∃ p ∈ (rB m c t h).2.1, y ∈ p.1.set :=
  View.cover_of_tiledL _ S1024x128.size (by sl_kernel_rfl) y

/-- The two outputs' buffers after the body at point `t`. -/
def outsAt (c : Dev nD) (t : Fin cfg0.N) : Vec F S1024x128 .f32 × Vec F S1024x128 .f32 :=
  if h : k0_cond1 (grid0.coords t) = 1#1 then (rd3 (rB m c t h).1, rd4 (rB m c t h).2.1)
  else (rd3 (rA m c t h).1, rd4 (rA m c t h).2.1)

/-- The proof data: the arrays as the region finds them, each input's block left in place, the outputs' as computed. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t).1
    | ⟨4, _⟩ => (outsAt m c t).2
  Φ _ := Pipeline.ΦA spec0 c
  q w := Pipeline.shareOf spec0 w
  owed _ := 0

theorem dat_A (c : Dev nD) (w : Fin cfg0.W) : (dat m 0 c).A w = V m c (Pipeline.arrRef spec0 w) := by dsimp only [dat]
theorem aft0 (c : Dev nD) (t : Fin cfg0.N) : (dat m 0 c).after 0 t = iblk m c 0 t := by dsimp only [dat]
theorem aft1 (c : Dev nD) (t : Fin cfg0.N) : (dat m 0 c).after 1 t = iblk m c 1 t := by dsimp only [dat]
theorem aft2 (c : Dev nD) (t : Fin cfg0.N) : (dat m 0 c).after 2 t = iblk m c 2 t := by dsimp only [dat]
theorem aft3 (c : Dev nD) (t : Fin cfg0.N) : (dat m 0 c).after 3 t = (outsAt m c t).1 := by dsimp only [dat]
theorem aft4 (c : Dev nD) (t : Fin cfg0.N) : (dat m 0 c).after 4 t = (outsAt m c t).2 := by dsimp only [dat]
theorem bef0 (c : Dev nD) (t : Fin cfg0.N) (d) : (dat m 0 c).before 0 t d = iblk m c 0 t := before0_0_of m (dat m 0 c) (dat_A m c 0) (aft0 m c) t d
theorem bef1 (c : Dev nD) (t : Fin cfg0.N) (d) : (dat m 0 c).before 1 t d = iblk m c 1 t := before0_1_of m (dat m 0 c) (dat_A m c 1) (aft1 m c) t d
theorem bef2 (c : Dev nD) (t : Fin cfg0.N) (d) : (dat m 0 c).before 2 t d = iblk m c 2 t := before0_2_of m (dat m 0 c) (dat_A m c 2) (aft2 m c) t d

/-- Before and after the body at point `t`, buffer by buffer. -/
def pre (c : Dev nD) (t : Fin cfg0.N) : sProp 𝕄 :=
  iprop((dat m 0 c).Φ t.castSucc ∗ (dat m 0 c).owesAt () t.castSucc
    ∗ (∃ d, owns (c : Thread nD τ) (m0 t) fullShare ((dat m 0 c).before 0 t d))
    ∗ (∃ d, owns (c : Thread nD τ) (m1 t) fullShare ((dat m 0 c).before 1 t d))
    ∗ (∃ d, owns (c : Thread nD τ) (m2 t) fullShare ((dat m 0 c).before 2 t d))
    ∗ (∃ d, owns (c : Thread nD τ) (m3 t) fullShare ((dat m 0 c).before 3 t d))
    ∗ (∃ d, owns (c : Thread nD τ) (m4 t) fullShare ((dat m 0 c).before 4 t d)))
def post (c : Dev nD) (t : Fin cfg0.N) : sProp 𝕄 :=
  iprop((dat m 0 c).Φ t.succ ∗ (dat m 0 c).owesAt () t.succ
    ∗ owns (c : Thread nD τ) (m0 t) fullShare ((dat m 0 c).after 0 t)
    ∗ owns (c : Thread nD τ) (m1 t) fullShare ((dat m 0 c).after 1 t)
    ∗ owns (c : Thread nD τ) (m2 t) fullShare ((dat m 0 c).after 2 t)
    ∗ owns (c : Thread nD τ) (m3 t) fullShare ((dat m 0 c).after 3 t)
    ∗ owns (c : Thread nD τ) (m4 t) fullShare ((dat m 0 c).after 4 t))

/-- The three scratch buffers at any contents, and the generator register. -/
theorem inv_eq (c : Dev nD) : (Pipeline.ΦA spec0 c : sProp 𝕄)
    = iprop(((∃ d, owns (c : Thread nD τ) sA fullShare d) ∗ (∃ d, owns (c : Thread nD τ) sC fullShare d) ∗ (∃ d, owns (c : Thread nD τ) sZ fullShare d)) ∗ (∃ r, prngReg c r)) := by
  unfold Pipeline.ΦA; rw [scopedRest0_eq]; simp only [sA, sC, sZ, owns_whole]; try rfl

theorem body_ok (c : Dev nD) (t : Fin cfg0.N) :
    pre m c t ⊢ wp frame (wpE (defs₀ (F := F)) Variants.none c none) Set.univ (bodyAt0 t) (fun _ => post m c t) := by
  unfold pre post bodyAt0
  simp only [bef0, bef1, bef2]
  rw [show (dat m 0 c).Φ t.succ = (dat m 0 c).Φ t.castSucc from rfl,
    show (dat m 0 c).owesAt () t.succ = (dat m 0 c).owesAt () t.castSucc from rfl, aft0, aft1, aft2, aft3, aft4]
  rw [show (dat m 0 c).Φ t.castSucc = Pipeline.ΦA spec0 c from rfl, inv_eq]
  by_cases h : k0_cond1 (grid0.coords t) = 1#1
  · rw [outsAt, dif_pos h]; dsimp only
    iintro ⟨⟨⟨HS0, HS1, HS2⟩, Hg⟩, Ho, ⟨%d0, H0⟩, ⟨%d1, H1⟩, ⟨%d2, H2⟩, ⟨%d3, H3⟩, ⟨%d4, H4⟩⟩
    iapply ((rB m c t h).2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    isplitl [HS2]; · iexact HS2
    iintro ⟨H0, H1, H2, ⟨%e3, H3⟩, ⟨%e4, H4⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB3 m c t h)
    unfold owns; iexists _; isplitr
    swap; · iexact H4
    ipureintro; exact View.read_writes_of_cover _ _ _ _ _ (coverB4 m c t h)
  · rw [outsAt, dif_neg h]; dsimp only
    iintro ⟨⟨⟨HS0, HS1, HS2⟩, Hg⟩, Ho, ⟨%d0, H0⟩, ⟨%d1, H1⟩, ⟨%d2, H2⟩, ⟨%d3, H3⟩, ⟨%d4, H4⟩⟩
    iapply ((rA m c t h).2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    isplitl [HS2]; · iexact HS2
    iintro ⟨H0, H1, H2, ⟨%e3, H3⟩, ⟨%e4, H4⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverA3 m c t h)
    unfold owns; iexists _; isplitr
    swap; · iexact H4
    ipureintro; exact View.read_writes_of_cover _ _ _ _ _ (coverA4 m c t h)

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ := fun t => by
  rw [bigSep_W0, bigSep_W0, defs_row]
  exact triple_restated (body_ok m c t) rfl .rfl fun _ => .rfl

set_option backward.isDefEq.respectTransparency.types false in
/-- The launch: every execution ends, with each array at what the proof data say and every counter at zero. -/
theorem launch_ends : θ_run defs (onTc (τ := τ) (main (F := F))) (s₀ m ρ) (fun r => (Pipeline.FramePost cfgs (dat m) 0 (V m)) r ∧ r.2.sem = fun _ => 0) :=
  Pipeline.θ_run_frame_shared (Q' := _) cfgs (dat m) (0 : Fin 1) launch₀0 defs₀ Variants.none m ρ main
    (hbody := fun c => (obligation m c).loose) (hq := fun _ _ _ => rfl)
    (howed := fun _ _ => rfl) (V := V m) (hmain := hmain m Variants.none) (hA := dat_A m) (hΦ := fun _ _ => rfl)

theorem run_main : θ_run defs (onTc (τ := τ) (main (F := F))) (s₀ m ρ) (Pipeline.FramePost cfgs (dat m) 0 (V m)) :=
  (θ_run defs _ _).mono (fun _ h => h.1) (launch_ends m ρ)

/-- The argument ends as it was and the counters at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dat m) (dat_A m) (run_main m ρ)) ((θ_run defs _ _).mono (fun _ h => h.2) (launch_ends m ρ))

end Cert.FwdProof

end
-- ==== Proof.FwdSame.lean ====
module

public import proofs.«01_k».proof.Defs
public import proofs.«01_k».proof.Proof.Gen.FwdKernel
public import proofs.«01_k».proof.Proof.Gen.FwdKernelIdeal
public import proofs.«01_k».proof.Proof.FwdFrame
public import Idealize.ShloMosaic.Lib.Tactic

/-! The printed kernel and its idealization are one text: the frame of the one is the frame of the other. -/

@[expose] public section

set_option maxRecDepth 16384

noncomputable section

namespace Cert.FwdProof

open Idealize.ShloMosaic Idealize.ShloMosaic.Tactic Idealize.SL.Sem

local instance : Cert.FwdKernel.Facts := Cert.FwdKernel.Gen.facts

/-- The frame of the idealization read over machine words. -/
def Framed : Prop := ∀ (m : (ℓ : Loc Cert.FwdKernelIdeal.nD Cert.FwdKernelIdeal.τ Cert.FwdKernelIdeal.sig) → Buf (Elt Bits) ℓ) (ρ : Dev Cert.FwdKernelIdeal.nD → PrngReg), True →
  θ_run (Cert.FwdKernelIdeal.defs (F := Bits)) (onTc (τ := Cert.FwdKernelIdeal.τ) (Cert.FwdKernelIdeal.main (F := Bits))) ⟨m, fun _ => 0, ρ⟩ (fun r => (∀ c : Dev Cert.FwdKernelIdeal.nD,
    r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)) ∧ r.2.sem = fun _ => 0)

theorem same : Framed = Cert.quiescent_FwdKernel := by sl_kernel_rfl

theorem frameK : Cert.quiescent_FwdKernel := same ▸ fun m ρ _ => frame (F := Bits) m ρ

end Cert.FwdProof

end
-- ==== Proof.FwdOps.lean ====
module

public import proofs.«01_k».proof.Proof.SbOps

/-! The running values of the attention's forward kernel, which goes over the columns from the last to the first: what
they are after the columns from `S` on, and one step of 256 columns over the extended reals. -/

@[expose] public section
noncomputable section

namespace Cert.SbMath.Dat
open Idealize.ShloMosaic Cert.Reals Finset
variable (D : Dat)

/-- The negated score. -/
def sc (w t s : ℕ) : ℝ := ∑ x : Fin 128, D.qm w t x * D.K s x
/-- The log keep weights of the columns from `S` on, added. -/
def cr (w t S : ℕ) : ℝ := D.T t w - D.cp w t S
/-- Those of a block's columns behind `c`. -/
def qq (w t S c : ℕ) : ℝ := D.cp w t (S + 256) - D.cp w t (S + c + 1)
/-- The weighted values of the first `n` columns, added. -/
def av (w t l n : ℕ) : ℝ := ∑ s ∈ range n, D.a w t s * D.V s l
/-- Those of the columns from `S` on. -/
def ac (w t l S : ℕ) : ℝ := D.av w t l t - D.av w t l S

theorem cr_zero (hT : ∀ t w, D.T t w = D.cp w t t) {w t S : ℕ} (h : t ≤ S) : D.cr w t S = 0 := by
  rw [cr, hT, D.cp_all h, sub_self]
theorem av_all {w t l n : ℕ} (h : t ≤ n) : D.av w t l n = D.av w t l t := by
  obtain ⟨k, rfl⟩ := Nat.exists_eq_add_of_le h
  exact tail_zero _ t k fun x => by rw [D.a_zero (show t ≤ t + x by omega), zero_mul]
theorem ac_zero {w t l S : ℕ} (h : t ≤ S) : D.ac w t l S = 0 := by rw [ac, D.av_all h, sub_self]
theorem cr_keep (hT : ∀ t w, D.T t w = D.cp w t t) {w t S S' : ℕ} (h : t ≤ S) (h' : t ≤ S') : ((D.cr w t S : ℝ) : EReal) = ((D.cr w t S' : ℝ) : EReal) := by
  rw [D.cr_zero hT h, D.cr_zero hT h']
theorem ac_keep {w t l S S' : ℕ} (h : t ≤ S) (h' : t ≤ S') : ((D.ac w t l S : ℝ) : EReal) = ((D.ac w t l S' : ℝ) : EReal) := by
  rw [D.ac_zero h, D.ac_zero h']

theorem sc_e (w t s : ℕ) :
    ∑ x : Fin 128, ((D.qm w t x : ℝ) : EReal) * ((D.K s x : ℝ) : EReal) = ((D.sc w t s : ℝ) : EReal) := by
  rw [sc, coe_sum]
  simp only [EReal.coe_mul]
theorem nz_sc (w t s : ℕ) : min ((D.sc w t s : ℝ) : EReal) (Ideal.ofBits .f32 0x42A00000#32) = ((D.nz w t s : ℝ) : EReal) := by
  rw [bits_80, coe_min, nz, sc]

theorem sgt_bit {x y : ℕ} (hx : x < 1024) (hy : y < 1024) :
    IntOp.cmpi .sgt (BitVec.ofNat 32 x) (BitVec.ofNat 32 y) = bit (y < x) := slt_bit hy hx

theorem tri_gt (f : ℕ → ℝ) (c : Fin 256) :
    ∑ x : Fin 256, f x * one ((c : ℕ) < x) = ∑ x ∈ range 256, f x - ∑ x ∈ range (c + 1), f x := by
  rw [← tri_le, Finset.sum_range f, ← sum_sub_distrib]
  refine sum_congr rfl fun x _ => ?_
  by_cases h : (c : ℕ) < x
  · rw [one, one, if_pos h, if_neg (by omega)]; ring
  · rw [one, one, if_neg h, if_pos (by omega)]; ring

theorem qq_e (w t S : ℕ) {c : ℕ} (hc : c < 256) :
    ∑ x : Fin 256, ((D.lk w t (S + x) : ℝ) : EReal) * ((one (c < (x : ℕ) % 256) : ℝ) : EReal)
      + ∑ x : Fin 256, (((D.lk w t (S + x) : ℝ) : EReal) - ((D.lk w t (S + x) : ℝ) : EReal)) * ((one (c < (256 + (x : ℕ)) % 256) : ℝ) : EReal)
      = ((D.qq w t S c : ℝ) : EReal) := by
  rw [sum_eq_zero (s := univ)
    (f := fun x : Fin 256 => (((D.lk w t (S + x) : ℝ) : EReal) - ((D.lk w t (S + x) : ℝ) : EReal)) * ((one (c < (256 + (x : ℕ)) % 256) : ℝ) : EReal))
    (fun x _ => by rw [← EReal.coe_sub, sub_self, EReal.coe_zero, zero_mul]), add_zero, qq, D.cp_next, D.cp_add, pp, pp,
    show D.cp w t S + ∑ x ∈ range (255 + 1), D.lk w t (S + x) - (D.cp w t S + ∑ x ∈ range (c + 1), D.lk w t (S + x))
      = ∑ x ∈ range 256, D.lk w t (S + x) - ∑ x ∈ range (c + 1), D.lk w t (S + x) from add_sub_add_left_eq_sub _ _ _,
    ← tri_gt (fun x => D.lk w t (S + x)) ⟨c, hc⟩, coe_sum]
  refine sum_congr rfl fun x _ => ?_
  rw [EReal.coe_mul, Nat.mod_eq_of_lt x.isLt]

theorem ar_e {w t S c : ℕ} (h : S + c < t) :
    Ideal.exp (((D.cr w t (S + 256) : ℝ) : EReal) + ((D.qq w t S c : ℝ) : EReal) - ((D.sp w t (S + c) : ℝ) : EReal))
      = ((D.a w t (S + c) : ℝ) : EReal) := by
  rw [← EReal.coe_add, ← EReal.coe_sub, exp_e, a, if_pos h, cr, qq]
  congr 2; ring
theorem arm_mul {w t S c r : ℕ} (h : c < r ↔ S + c < t) (y : EReal) :
    Scalar.select (bit (c < r))
      (Ideal.exp (((D.cr w t (S + 256) : ℝ) : EReal) + ((D.qq w t S c : ℝ) : EReal) - ((D.sp w t (S + c) : ℝ) : EReal)) * y) 0
      = ((D.a w t (S + c) : ℝ) : EReal) * y := by
  by_cases hc : c < r
  · rw [sel_pos hc, D.ar_e (h.1 hc)]
  · rw [sel_neg hc, D.a_zero (not_lt.1 fun hh => hc (h.2 hh)), EReal.coe_zero, zero_mul]
theorem ac_e (w t l S : ℕ) :
    ((D.ac w t l (S + 256) : ℝ) : EReal) + ∑ x : Fin 256, ((D.a w t (S + x) : ℝ) : EReal) * ((D.V (S + x) l : ℝ) : EReal)
      = ((D.ac w t l S : ℝ) : EReal) := by
  rw [show D.ac w t l S = D.ac w t l (S + 256) + ∑ x : Fin 256, D.a w t (S + x) * D.V (S + x) l by
    rw [ac, ac, av, av, av, sum_range_add, Finset.sum_range (fun x => D.a w t (S + x) * D.V (S + x) l)]; ring,
    EReal.coe_add, coe_sum]
  simp only [EReal.coe_mul]
/-- The same, the block's columns in two halves. -/
theorem ac_e2 (w t l S : ℕ) :
    ((D.ac w t l (S + 256) : ℝ) : EReal) + (∑ x : Fin 128, ((D.a w t (S + x) : ℝ) : EReal) * ((D.V (S + x) l : ℝ) : EReal)
        + ∑ x : Fin 128, ((D.a w t (S + (128 + x)) : ℝ) : EReal) * ((D.V (S + (128 + x)) l : ℝ) : EReal))
      = ((D.ac w t l S : ℝ) : EReal) := by
  rw [← D.ac_e w t l S]
  congr 1
  exact (Fin.sum_univ_add (a := 128) (b := 128) fun x : Fin 256 => ((D.a w t (S + x) : ℝ) : EReal) * ((D.V (S + x) l : ℝ) : EReal)).symm
theorem cr_e (w t S : ℕ) :
    ((D.cr w t (S + 256) : ℝ) : EReal) + (((D.qq w t S ((0 : Fin 256) : ℕ) : ℝ) : EReal) + ((D.lk w t (S + ((0 : Fin 256) : ℕ)) : ℝ) : EReal)) = ((D.cr w t S : ℝ) : EReal) := by
  show ((D.cr w t (S + 256) : ℝ) : EReal) + (((D.qq w t S 0 : ℝ) : EReal) + ((D.lk w t S : ℝ) : EReal)) = _
  rw [← EReal.coe_add, ← EReal.coe_add, cr, cr, qq, Nat.add_zero, show D.cp w t (S + 1) = D.cp w t S + D.lk w t S from sum_range_succ _ S]
  congr 1; ring

end Cert.SbMath.Dat
end
-- ==== Proof.FwdIn.lean ====
module

public import proofs.«01_k».proof.Proof.Gen.FwdKernelIdeal.Skeleton
public import proofs.«01_k».proof.Proof.FwdOps
public import proofs.«01_k».proof.Proof.SbMem
public import proofs.«01_k».proof.Proof.FwdRunB

/-! What the attention's forward kernel computes of one block of 1024 query rows before it comes to the keys. -/

@[expose] public section
set_option maxRecDepth 16384
noncomputable section

namespace Cert.FwdProof
open Idealize.ShloMosaic Idealize.ShloMosaic.TcCoe
open Cert.FwdKernelIdeal Cert.FwdKernelIdeal.Gen Cert.SbMath Cert.SbMath.Dat Cert.SbProof

/-- Where the blocks of 256 keys lie: on the diagonal, behind the loop's start, and within a trip of the loop. -/
theorem off1 : (∀ i : grid0.Coords, k0_off1 i 0#32 = ![1024 * (i 1).val + 0, 0]) ∧ (∀ i : grid0.Coords, k0_off1 i 1#32 = ![1024 * (i 1).val + 256, 0])
    ∧ (∀ i : grid0.Coords, k0_off1 i 2#32 = ![1024 * (i 1).val + 512, 0]) ∧ (∀ i : grid0.Coords, k0_off1 i 3#32 = ![1024 * (i 1).val + 768, 0]) := by decide +kernel
theorem off2 : ∀ i : grid0.Coords, k0_cond1 i = 1#1 → k0_off2 i = ![1024 * (i 1).val - 256, 0] := by decide +kernel
theorem off3 : ∀ (i : grid0.Coords) (k : Fin (k0_t1_loop i).trips), k0_off3 i k 1#32 = ![1024 * (i 1).val - 512 * k.val - 256, 0]
    ∧ k0_off3 i k 2#32 = ![1024 * (i 1).val - 512 * k.val - 512, 0] := by decide +kernel
theorem off4 : ∀ (i : grid0.Coords) (k : Fin (k0_t1_loop i).trips), k0_off4 i k 1#32 = ![1024 * (i 1).val - 512 * k.val - 512, 0]
    ∧ k0_off4 i k 2#32 = ![1024 * (i 1).val - 512 * k.val - 768, 0] := by decide +kernel

theorem u81 (r : Fin 1024) (l : Fin 128) : k0_pay81 (ix2 r l) = bit ((l : ℕ) < 64) := by
  pointwise [k0_pay81]
  exact slt_bit (by omega) (by omega)

theorem u82 (x : Fin 512) (c : Fin 256) : k0_pay82 (F := Ideal) (ix2 x c) = ((one ((c : ℕ) < (x : ℕ) % 256) : ℝ) : EReal) := by
  pointwise [k0_pay82]
  split
  · rename_i h
    rw [sgt_bit (by omega) (by omega)]
    refine (bit_cvt _).trans ?_
    rw [Nat.mod_eq_of_lt h]
  · rename_i h
    rw [sgt_bit (by omega) (by omega)]
    refine (bit_cvt _).trans ?_
    rw [show (x : ℕ) % 256 = x - 256 by omega]

theorem u88 (r c : Fin 256) : k0_pay88 (ix2 r c) = bit ((c : ℕ) < r) := by
  pointwise [k0_pay88]
  exact slt_bit (by omega) (by omega)
theorem u108 (r : Fin 512) (c : Fin 256) : k0_pay108 (ix2 r c) = bit ((c : ℕ) < r) := by
  pointwise [k0_pay108]
  exact slt_bit (by omega) (by omega)
theorem u129 (r : Fin 768) (c : Fin 256) : k0_pay129 (ix2 r c) = bit ((c : ℕ) < r) := by
  pointwise [k0_pay129]
  exact slt_bit (by omega) (by omega)
theorem u150 (r : Fin 1024) (c : Fin 256) : k0_pay150 (ix2 r c) = bit ((c : ℕ) < r) := by
  pointwise [k0_pay150]
  exact slt_bit (by omega) (by omega)

/-- Query rows from `b` on, and all keys and values; each row's sum is of its own columns. -/
structure In (D : Dat) (b : ℕ) (i : grid0.Coords) (x0 : Vec Ideal S1024x128 .f32) (x1 x2 : Vec Ideal S4096x128 .f32) : Prop where
  hb : b = 1024 * (i 1).val
  hT : ∀ t w, D.T t w = D.cp w t t
  hQ : ∀ (r : Fin 1024) (l : Fin 128), x0 (ix2 r l) = ((D.Q (b + r) l : ℝ) : EReal)
  hK : ∀ (s : Fin 4096) (l : Fin 128), x1 (ix2 s l) = ((D.K s l : ℝ) : EReal)
  hV : ∀ (s : Fin 4096) (l : Fin 128), x2 (ix2 s l) = ((D.V s l : ℝ) : EReal)

section
variable {D : Dat} {b : ℕ} {i : grid0.Coords} {x0 : Vec Ideal S1024x128 .f32} {x1 x2 : Vec Ideal S4096x128 .f32} (I : In D b i x0 x1 x2)
  (c : Dev nD) {arg2 : Memref sig .tc .vmem S1024x128 .f32} (harg2 : arg2.IsWhole) {arg3 arg4 : Memref sig .tc .vmem S4096x128 .f32} (harg3 : arg3.IsWhole) (harg4 : arg4.IsWhole)
include I

theorem q_in (r : Fin 1024) (l : Fin 128) :
    k0_pay83 (View.readAt (Elt Ideal) arg2.view (Rect.unit ![0, 0] S1024x128.size inb_S1024x128_S1024x128_0_0).toLoadRect (harg2.unread x0)) (ix2 r l)
      = ((D.Q (b + r) l * (1 / 8) : ℝ) : EReal) := by
  pointwise [k0_pay83]
  rw [ldrz arg2.view _ _ (fun r l => D.Q (b + r) l) (fun r l => by rw [harg2.read_unread]; exact I.hQ r l), bits_eighth, EReal.coe_mul]

theorem r0 (r : Fin 1024) (l : Fin 128) : runB.sl.r (F := Ideal) c arg2 harg2 x0 (ix2 r l) = ((D.qm 0 (b + r) l : ℝ) : EReal) := by
  unfold runB.sl.r
  pointwise [k0_pay84]
  rw [q_in I, u81, qm]
  by_cases hl : (l : ℕ) < 64
  · rw [sel_pos hl, if_pos (by omega), zero_sub, EReal.coe_neg]
  · rw [sel_neg hl, if_neg (by omega), EReal.coe_zero]

theorem r1 (r : Fin 1024) (l : Fin 128) : runB.sl.r_1 (F := Ideal) c arg2 harg2 x0 (ix2 r l) = ((D.qm 1 (b + r) l : ℝ) : EReal) := by
  unfold runB.sl.r_1
  pointwise [k0_pay85]
  rw [q_in I, u81, qm]
  by_cases hl : (l : ℕ) < 64
  · rw [sel_pos hl, if_neg (by omega), EReal.coe_zero]
  · rw [sel_neg hl, if_pos (by omega), zero_sub, EReal.coe_neg]

theorem kd {v : BitVec 32} {o : ℕ} (h : ∀ i, k0_off1 i v = ![1024 * (i 1).val + o, 0])
    (inb : ∀ a, k0_off1 i v a + (![256, 128] : Fin 2 → ℕ) a ≤ S4096x128.size a) (s : Fin 256) (l : Fin 128) :
    View.readAt (Elt Ideal) arg3.view (Rect.unit (s := S4096x128) (k0_off1 i v) ![256, 128] inb).toLoadRect (harg3.unread x1) (ix2 s l)
      = ((D.K (b + o + s) l : ℝ) : EReal) :=
  ldr arg3.view _ _ (by rw [h, I.hb]) _ (fun s l => D.K s l) (fun s l => by rw [harg3.read_unread]; exact I.hK s l) s l
theorem vd {v : BitVec 32} {o : ℕ} (h : ∀ i, k0_off1 i v = ![1024 * (i 1).val + o, 0])
    (inb : ∀ a, k0_off1 i v a + (![256, 128] : Fin 2 → ℕ) a ≤ S4096x128.size a) (s : Fin 256) (l : Fin 128) :
    View.readAt (Elt Ideal) arg4.view (Rect.unit (s := S4096x128) (k0_off1 i v) ![256, 128] inb).toLoadRect (harg4.unread x2) (ix2 s l)
      = ((D.V (b + o + s) l : ℝ) : EReal) :=
  ldr arg4.view _ _ (by rw [h, I.hb]) _ (fun s l => D.V s l) (fun s l => by rw [harg4.read_unread]; exact I.hV s l) s l
end

end Cert.FwdProof
end
-- ==== Proof.FwdTrip.lean ====
module

public import proofs.«01_k».proof.Proof.Gen.FwdKernelIdeal.Loops
public import proofs.«01_k».proof.Proof.FwdIn

/-! One trip of the attention's forward loop: two blocks of 256 keys wholly before the query rows, the later one first. -/

@[expose] public section
set_option maxRecDepth 16384
noncomputable section

namespace Cert.FwdProof
open Idealize.ShloMosaic Idealize.ShloMosaic.TcCoe
open Cert.FwdKernelIdeal Cert.FwdKernelIdeal.Gen Cert.SbMath Cert.SbMath.Dat Cert.SbProof

/-- One head's rows of a buffer. -/
abbrev At {m : ℕ} (a : Memref sig .tc .vmem ⟨3, ![2, 1024, m]⟩ .f32) (f : BufTy.Contents (Elt Ideal) a.view.ty) (w : Fin 2) (spec : ℕ → ℕ → ℝ) : Prop :=
  ∀ (r : Fin 1024) (l : Fin m), a.view.read (Elt Ideal) f (ix3 w r l) = ((spec r l : ℝ) : EReal)

/-- The running sums after the columns from `S` on, and the scores of the 256 columns from `Z` on. -/
structure St (D : Dat) (b S Z : ℕ) (arg7 arg8 : Memref sig .tc .vmem S2x1024x128 .f32) (arg9 : Memref sig .tc .vmem S2x1024x256 .f32)
    (f7 : BufTy.Contents (Elt Ideal) arg7.view.ty) (f8 : BufTy.Contents (Elt Ideal) arg8.view.ty) (f9 : BufTy.Contents (Elt Ideal) arg9.view.ty) : Prop where
  a0 : At arg7 f7 0 fun r l => D.ac 0 (b + r) l S
  a1 : At arg7 f7 1 fun r l => D.ac 1 (b + r) l S
  c0 : At arg8 f8 0 fun r _ => D.cr 0 (b + r) S
  c1 : At arg8 f8 1 fun r _ => D.cr 1 (b + r) S
  z0 : At arg9 f9 0 fun r c => D.sc 0 (b + r) (Z + c)
  z1 : At arg9 f9 1 fun r c => D.sc 1 (b + r) (Z + c)

/-- What a trip is given. -/
structure Tr (D : Dat) (b S : ℕ) (i : grid0.Coords) (k : Fin (k0_t1_loop i).trips) (arg3 arg4 : Memref sig .tc .vmem S4096x128 .f32)
    (v9 : FVec Ideal S512x256 .bf16) (v18 v23 : FVec Ideal S1024x128 .bf16) (X3 : BufTy.Contents (Elt Ideal) arg3.view.ty) (X4 : BufTy.Contents (Elt Ideal) arg4.view.ty) : Prop where
  hk : b = S + 512 + 512 * k.val
  hb : b = 1024 * (i 1).val
  h9 : ∀ (x : Fin 512) (c : Fin 256), v9 (ix2 x c) = ((one ((c : ℕ) < (x : ℕ) % 256) : ℝ) : EReal)
  h18 : ∀ (r : Fin 1024) (l : Fin 128), v18 (ix2 r l) = ((D.qm 0 (b + r) l : ℝ) : EReal)
  h23 : ∀ (r : Fin 1024) (l : Fin 128), v23 (ix2 r l) = ((D.qm 1 (b + r) l : ℝ) : EReal)
  hX3 : ∀ (s : Fin 4096) (l : Fin 128), arg3.view.read (Elt Ideal) X3 (ix2 s l) = ((D.K s l : ℝ) : EReal)
  hX4 : ∀ (s : Fin 4096) (l : Fin 128), arg4.view.read (Elt Ideal) X4 (ix2 s l) = ((D.V s l : ℝ) : EReal)

variable {D : Dat} {b S : ℕ} {i : grid0.Coords} {k : Fin (k0_t1_loop i).trips} {arg3 arg4 : Memref sig .tc .vmem S4096x128 .f32}
  {v9 : FVec Ideal S512x256 .bf16} {v18 v23 : FVec Ideal S1024x128 .bf16} {X3 : BufTy.Contents (Elt Ideal) arg3.view.ty} {X4 : BufTy.Contents (Elt Ideal) arg4.view.ty}

namespace Tr
variable (T : Tr D b S i k arg3 arg4 v9 v18 v23 X3 X4)
include T

theorem kk1 {inb : ∀ a, k0_off4 i k 1#32 a + (![256, 128] : Fin 2 → ℕ) a ≤ S4096x128.size a} (s : Fin 256) (l : Fin 128) :
    View.readAt (Elt Ideal) arg3.view (Rect.unit (s := S4096x128) (k0_off4 i k 1#32) ![256, 128] inb).toLoadRect X3 (ix2 s l) = ((D.K (S + s) l : ℝ) : EReal) :=
  ldr arg3.view _ _ (by rw [(off4 i k).1, ← T.hb, show b - 512 * k.val - 512 = S by have := T.hk; omega]) _ (fun s l => D.K s l) T.hX3 s l
theorem vv1 {inb : ∀ a, k0_off3 i k 1#32 a + (![256, 128] : Fin 2 → ℕ) a ≤ S4096x128.size a} (s : Fin 256) (l : Fin 128) :
    View.readAt (Elt Ideal) arg4.view (Rect.unit (s := S4096x128) (k0_off3 i k 1#32) ![256, 128] inb).toLoadRect X4 (ix2 s l) = ((D.V (S + 256 + s) l : ℝ) : EReal) :=
  ldr arg4.view _ _ (by rw [(off3 i k).1, ← T.hb, show b - 512 * k.val - 256 = S + 256 by have := T.hk; omega]) _ (fun s l => D.V s l) T.hX4 s l
theorem lk1 (w r x : ℕ) (hx : x < 256) : ((D.nz w (b + r) (S + 256 + x) : ℝ) : EReal) - ((D.sp w (b + r) (S + 256 + x) : ℝ) : EReal) = ((D.lk w (b + r) (S + 256 + x) : ℝ) : EReal) :=
  D.lk_e (by have := T.hk; omega)
theorem kk2 {inb : ∀ a, k0_off4 i k 2#32 a + (![256, 128] : Fin 2 → ℕ) a ≤ S4096x128.size a} (s : Fin 256) (l : Fin 128) :
    View.readAt (Elt Ideal) arg3.view (Rect.unit (s := S4096x128) (k0_off4 i k 2#32) ![256, 128] inb).toLoadRect X3 (ix2 s l) = ((D.K (S - 256 + s) l : ℝ) : EReal) :=
  ldr arg3.view _ _ (by rw [(off4 i k).2, ← T.hb, show b - 512 * k.val - 768 = S - 256 by have := T.hk; omega]) _ (fun s l => D.K s l) T.hX3 s l
theorem vv2 {inb : ∀ a, k0_off3 i k 2#32 a + (![256, 128] : Fin 2 → ℕ) a ≤ S4096x128.size a} (s : Fin 256) (l : Fin 128) :
    View.readAt (Elt Ideal) arg4.view (Rect.unit (s := S4096x128) (k0_off3 i k 2#32) ![256, 128] inb).toLoadRect X4 (ix2 s l) = ((D.V (S + s) l : ℝ) : EReal) :=
  ldr arg4.view _ _ (by rw [(off3 i k).2, ← T.hb, show b - 512 * k.val - 512 = S by have := T.hk; omega]) _ (fun s l => D.V s l) T.hX4 s l
theorem lk2 (w r x : ℕ) (hx : x < 256) : ((D.nz w (b + r) (S + x) : ℝ) : EReal) - ((D.sp w (b + r) (S + x) : ℝ) : EReal) = ((D.lk w (b + r) (S + x) : ℝ) : EReal) :=
  D.lk_e (by have := T.hk; omega)

end Tr

namespace Lp

variable (T : Tr D b S i k arg3 arg4 v9 v18 v23 X3 X4) {arg7 arg8 : Memref sig .tc .vmem S2x1024x128 .f32} {arg9 : Memref sig .tc .vmem S2x1024x256 .f32}
  {f7 : BufTy.Contents (Elt Ideal) arg7.view.ty} {f8 : BufTy.Contents (Elt Ideal) arg8.view.ty} {f9 : BufTy.Contents (Elt Ideal) arg9.view.ty}
  (H : St D b (S + 256 + 256) (S + 256) arg7 arg8 arg9 f7 f8 f9)

section
include H
theorem ra0 (r : Fin 1024) (l : Fin 128) : View.readAt (Elt Ideal) arg7.view (Rect.unit (s := S2x1024x128) ![0, 0, 0] ![1, 1024, 128] inb_S2x1024x128_S1x1024x128_0_0_0).toLoadRect f7 (ix3 0 r l) = ((D.ac 0 (b + r) l (S + 256 + 256) : ℝ) : EReal) :=
  ld3z arg7.view f7 0 _ (fun r l => D.ac 0 (b + r) l (S + 256 + 256)) H.a0 r l
theorem v537 (r : Fin 1024) (l : Fin 128) : trip_k0_t1.sl.v537 (F := Ideal) arg7 f7 (ix3 0 r l) = ((D.ac 1 (b + r) l (S + 256 + 256) : ℝ) : EReal) := by
  unfold trip_k0_t1.sl.v537
  exact ld3z arg7.view f7 1 _ (fun r l => D.ac 1 (b + r) l (S + 256 + 256)) H.a1 r l
theorem rc0 (r : Fin 1024) (l : Fin 128) : View.readAt (Elt Ideal) arg8.view (Rect.unit (s := S2x1024x128) ![0, 0, 0] ![1, 1024, 128] inb_S2x1024x128_S1x1024x128_0_0_0).toLoadRect f8 (ix3 0 r l) = ((D.cr 0 (b + r) (S + 256 + 256) : ℝ) : EReal) :=
  ld3z arg8.view f8 0 _ (fun r _ => D.cr 0 (b + r) (S + 256 + 256)) H.c0 r l
theorem v531 (r : Fin 1024) (l : Fin 128) : trip_k0_t1.sl.v531 (F := Ideal) arg8 f8 (ix3 0 r l) = ((D.cr 1 (b + r) (S + 256 + 256) : ℝ) : EReal) := by
  unfold trip_k0_t1.sl.v531
  exact ld3z arg8.view f8 1 _ (fun r _ => D.cr 1 (b + r) (S + 256 + 256)) H.c1 r l
theorem rz0 (r : Fin 1024) (l : Fin 256) : View.readAt (Elt Ideal) arg9.view (Rect.unit (s := S2x1024x256) ![0, 0, 0] ![1, 1024, 256] inb_S2x1024x256_S1x1024x256_0_0_0).toLoadRect f9 (ix3 0 r l) = ((D.sc 0 (b + r) (S + 256 + l) : ℝ) : EReal) :=
  ld3z arg9.view f9 0 _ (fun r c => D.sc 0 (b + r) (S + 256 + c)) H.z0 r l
theorem v511 (r : Fin 1024) (l : Fin 256) : trip_k0_t1.sl.v511 (F := Ideal) arg9 f9 (ix3 0 r l) = ((D.sc 1 (b + r) (S + 256 + l) : ℝ) : EReal) := by
  unfold trip_k0_t1.sl.v511
  exact ld3z arg9.view f9 1 _ (fun r c => D.sc 1 (b + r) (S + 256 + c)) H.z1 r l
end

include T

theorem z2_0 (g : BufTy.Contents (Elt Ideal) arg9.view.ty) : At arg9 (arg9.view.writes (Elt Ideal) g (trip_k0_t1.sl.HW_arg9_2 (F := Ideal) i arg3 v18 v23 X3 k)) 0 (fun r c => D.sc 0 (b + r) (S + c)) := by
  unfold trip_k0_t1.sl.HW_arg9_2
  refine so3 arg9.view g 1 0 (by decide) 0 _ _ _ (fun r c => D.sc 0 (b + r) (S + c)) ?_
  refine st3 arg9.view _ 0 0 _ _ _ (fun r c => D.sc 0 (b + r) (S + c)) rfl (fun r l => ?_) (fun r l hr => absurd hr (Nat.not_lt_zero _))
  rw [Nat.zero_add]
  pointwise [k0_pay4, k0_pay5]
  simp only [T.h18, T.kk1, zero_add, D.sc_e]
theorem z2_1 (g : BufTy.Contents (Elt Ideal) arg9.view.ty) : At arg9 (arg9.view.writes (Elt Ideal) g (trip_k0_t1.sl.HW_arg9_2 (F := Ideal) i arg3 v18 v23 X3 k)) 1 (fun r c => D.sc 1 (b + r) (S + c)) := by
  unfold trip_k0_t1.sl.HW_arg9_2
  refine st3 arg9.view _ 1 0 _ _ _ (fun r c => D.sc 1 (b + r) (S + c)) rfl (fun r l => ?_) (fun r l hr => absurd hr (Nat.not_lt_zero _))
  rw [Nat.zero_add]
  pointwise [k0_pay4, k0_pay15, trip_k0_t1.sl.r_1]
  simp only [T.h23, T.kk1, zero_add, D.sc_e]
theorem v575 (r : Fin 1024) (l : Fin 256) : trip_k0_t1.sl.v575 (F := Ideal) i arg3 arg9 v18 v23 X3 k (ix3 0 r l) = ((D.sc 0 (b + r) (S + l) : ℝ) : EReal) := by
  unfold trip_k0_t1.sl.v575
  exact ldc3z arg9.view _ 0 _ (fun r c => D.sc 0 (b + r) (S + c)) (z2_0 T _) r l

theorem z3_0 (g : BufTy.Contents (Elt Ideal) arg9.view.ty) : At arg9 (arg9.view.writes (Elt Ideal) g (trip_k0_t1.sl.HW_arg9_3 (F := Ideal) i arg3 v18 v23 X3 k)) 0 (fun r c => D.sc 0 (b + r) (S - 256 + c)) := by
  unfold trip_k0_t1.sl.HW_arg9_3
  refine st3 arg9.view _ 0 0 _ _ _ (fun r c => D.sc 0 (b + r) (S - 256 + c)) rfl (fun r l => ?_) (fun r l hr => absurd hr (Nat.not_lt_zero _))
  rw [Nat.zero_add]
  pointwise [k0_pay25, k0_pay26]
  simp only [T.h18, T.kk2, zero_add, D.sc_e]
theorem z3_1 (g : BufTy.Contents (Elt Ideal) arg9.view.ty) : At arg9 (arg9.view.writes (Elt Ideal) g (trip_k0_t1.sl.HW_arg9_3 (F := Ideal) i arg3 v18 v23 X3 k)) 1 (fun r c => D.sc 1 (b + r) (S + c)) := by
  unfold trip_k0_t1.sl.HW_arg9_3
  exact so3 arg9.view g 0 1 (by decide) 0 _ _ _ (fun r c => D.sc 1 (b + r) (S + c)) (z2_1 T g)

theorem v617 (r : Fin 1024) (l : Fin 256) : trip_k0_t1.sl.v617 (F := Ideal) i arg3 arg9 v18 v23 X3 k (ix3 0 r l) = ((D.sc 1 (b + r) (S + l) : ℝ) : EReal) := by
  unfold trip_k0_t1.sl.v617
  exact ldc3z arg9.view _ 1 _ (fun r c => D.sc 1 (b + r) (S + c)) (z3_1 T _) r l

theorem z4_1 (g : BufTy.Contents (Elt Ideal) arg9.view.ty) : At arg9 (arg9.view.writes (Elt Ideal) g ((⟨Rect.unit ![1, 0, 0] S1x1024x256.size inb_S2x1024x256_S1x1024x256_1_0_0, k0_pay36 v23 (trip_k0_t1.sl.r_9 i arg3 X3 k)⟩ :: trip_k0_t1.sl.HW_arg9_3 (F := Ideal) i arg3 v18 v23 X3 k))) 1 (fun r c => D.sc 1 (b + r) (S - 256 + c)) := by
  refine st3 arg9.view _ 1 0 _ _ _ (fun r c => D.sc 1 (b + r) (S - 256 + c)) rfl (fun r l => ?_) (fun r l hr => absurd hr (Nat.not_lt_zero _))
  rw [Nat.zero_add]
  pointwise [k0_pay25, k0_pay36, trip_k0_t1.sl.r_9]
  simp only [T.h23, T.kk2, zero_add, D.sc_e]
theorem z4_0 (g : BufTy.Contents (Elt Ideal) arg9.view.ty) : At arg9 (arg9.view.writes (Elt Ideal) g ((⟨Rect.unit ![1, 0, 0] S1x1024x256.size inb_S2x1024x256_S1x1024x256_1_0_0, k0_pay36 v23 (trip_k0_t1.sl.r_9 i arg3 X3 k)⟩ :: trip_k0_t1.sl.HW_arg9_3 (F := Ideal) i arg3 v18 v23 X3 k))) 0 (fun r c => D.sc 0 (b + r) (S - 256 + c)) := by
  exact so3 arg9.view g 1 0 (by decide) 0 _ _ _ (fun r c => D.sc 0 (b + r) (S - 256 + c)) (z3_0 T g)

include H

theorem c2_0 (g : BufTy.Contents (Elt Ideal) arg8.view.ty) : At arg8 (arg8.view.writes (Elt Ideal) g (trip_k0_t1.sl.HW_arg8_2 (F := Ideal) arg8 arg9 v9 f8 f9)) 0 (fun r _ => D.cr 0 (b + r) (S + 256)) := by
  unfold trip_k0_t1.sl.HW_arg8_2
  refine so3 arg8.view g 1 0 (by decide) 0 _ _ _ (fun r _ => D.cr 0 (b + r) (S + 256)) ?_
  refine st3 arg8.view _ 0 0 _ _ _ (fun r _ => D.cr 0 (b + r) (S + 256)) rfl (fun r l => ?_) (fun r l hr => absurd hr (Nat.not_lt_zero _))
  rw [Nat.zero_add]
  pointwise [k0_pay6, k0_pay7, k0_pay8, k0_pay9, k0_pay10, k0_pay11, k0_pay12, k0_pay14, trip_k0_t1.sl.r_3, trip_k0_t1.sl.r_4, trip_k0_t1.sl.r_5]
  simp only [rz0 H, rc0 H, T.h9, D.nz_sc, D.sp_e, T.lk1 0 _ _ (Fin.isLt _), D.qq_e 0 (b + r) (S + 256) (Fin.isLt _), zero_add, add_zero]
  with_reducible_and_instances exact D.cr_e 0 (b + r) (S + 256)
theorem c2_1 (g : BufTy.Contents (Elt Ideal) arg8.view.ty) : At arg8 (arg8.view.writes (Elt Ideal) g (trip_k0_t1.sl.HW_arg8_2 (F := Ideal) arg8 arg9 v9 f8 f9)) 1 (fun r _ => D.cr 1 (b + r) (S + 256)) := by
  unfold trip_k0_t1.sl.HW_arg8_2
  refine st3 arg8.view _ 1 0 _ _ _ (fun r _ => D.cr 1 (b + r) (S + 256)) rfl (fun r l => ?_) (fun r l hr => absurd hr (Nat.not_lt_zero _))
  rw [Nat.zero_add]
  pointwise [k0_pay16, k0_pay17, k0_pay18, k0_pay19, k0_pay20, k0_pay21, k0_pay23, trip_k0_t1.sl.cst_240, trip_k0_t1.sl.r_6, trip_k0_t1.sl.r_7]
  simp only [v511 H, v531 H, T.h9, D.nz_sc, D.sp_e, T.lk1 1 _ _ (Fin.isLt _), D.qq_e 1 (b + r) (S + 256) (Fin.isLt _), zero_add, add_zero]
  with_reducible_and_instances exact D.cr_e 1 (b + r) (S + 256)
theorem v595 (r : Fin 1024) (l : Fin 128) : trip_k0_t1.sl.v595 (F := Ideal) arg8 arg9 v9 f8 f9 (ix3 0 r l) = ((D.cr 0 (b + r) (S + 256) : ℝ) : EReal) := by
  unfold trip_k0_t1.sl.v595
  exact ldc3z arg8.view _ 0 _ (fun r _ => D.cr 0 (b + r) (S + 256)) (c2_0 T H _) r l

theorem c3_0 (g : BufTy.Contents (Elt Ideal) arg8.view.ty) : At arg8 (arg8.view.writes (Elt Ideal) g (trip_k0_t1.sl.HW_arg8_3 (F := Ideal) i arg3 arg8 arg9 v9 v18 v23 X3 k f8 f9)) 0 (fun r _ => D.cr 0 (b + r) (S)) := by
  unfold trip_k0_t1.sl.HW_arg8_3
  refine st3 arg8.view _ 0 0 _ _ _ (fun r _ => D.cr 0 (b + r) (S)) rfl (fun r l => ?_) (fun r l hr => absurd hr (Nat.not_lt_zero _))
  rw [Nat.zero_add]
  pointwise [k0_pay27, k0_pay28, k0_pay29, k0_pay30, k0_pay31, k0_pay32, k0_pay35, trip_k0_t1.sl.r_10, trip_k0_t1.sl.r_11, trip_k0_t1.sl.r_12]
  simp only [v575 T, v595 T H, T.h9, D.nz_sc, D.sp_e, T.lk2 0 _ _ (Fin.isLt _), D.qq_e 0 (b + r) (S) (Fin.isLt _), zero_add, add_zero]
  with_reducible_and_instances exact D.cr_e 0 (b + r) (S)
theorem c3_1 (g : BufTy.Contents (Elt Ideal) arg8.view.ty) : At arg8 (arg8.view.writes (Elt Ideal) g (trip_k0_t1.sl.HW_arg8_3 (F := Ideal) i arg3 arg8 arg9 v9 v18 v23 X3 k f8 f9)) 1 (fun r _ => D.cr 1 (b + r) (S + 256)) := by
  unfold trip_k0_t1.sl.HW_arg8_3
  exact so3 arg8.view g 0 1 (by decide) 0 _ _ _ (fun r _ => D.cr 1 (b + r) (S + 256)) (c2_1 T H g)

theorem v637 (r : Fin 1024) (l : Fin 128) : trip_k0_t1.sl.v637 (F := Ideal) i arg3 arg8 arg9 v9 v18 v23 X3 k f8 f9 (ix3 0 r l) = ((D.cr 1 (b + r) (S + 256) : ℝ) : EReal) := by
  unfold trip_k0_t1.sl.v637
  exact ldc3z arg8.view _ 1 _ (fun r _ => D.cr 1 (b + r) (S + 256)) (c3_1 T H _) r l

theorem c4_1 (g : BufTy.Contents (Elt Ideal) arg8.view.ty) : At arg8 (arg8.view.writes (Elt Ideal) g ((⟨Rect.unit ![1, 0, 0] S1x1024x128.size inb_S2x1024x128_S1x1024x128_1_0_0, k0_pay177 (trip_k0_t1.sl.r_15 i arg3 arg9 v18 v23 X3 k) (trip_k0_t1.sl.r_16 i arg3 arg9 v9 v18 v23 X3 k) (trip_k0_t1.sl.v637 i arg3 arg8 arg9 v9 v18 v23 X3 k f8 f9)⟩ :: trip_k0_t1.sl.HW_arg8_3 (F := Ideal) i arg3 arg8 arg9 v9 v18 v23 X3 k f8 f9))) 1 (fun r _ => D.cr 1 (b + r) (S)) := by
  refine st3 arg8.view _ 1 0 _ _ _ (fun r _ => D.cr 1 (b + r) (S)) rfl (fun r l => ?_) (fun r l hr => absurd hr (Nat.not_lt_zero _))
  rw [Nat.zero_add]
  pointwise [k0_pay37, k0_pay38, k0_pay39, k0_pay40, k0_pay41, k0_pay175, k0_pay177, trip_k0_t1.sl.r_15, trip_k0_t1.sl.r_16]
  simp only [v617 T, v637 T H, T.h9, D.nz_sc, D.sp_e, T.lk2 1 _ _ (Fin.isLt _), D.qq_e 1 (b + r) (S) (Fin.isLt _), zero_add, add_zero]
  with_reducible_and_instances exact D.cr_e 1 (b + r) (S)
theorem c4_0 (g : BufTy.Contents (Elt Ideal) arg8.view.ty) : At arg8 (arg8.view.writes (Elt Ideal) g ((⟨Rect.unit ![1, 0, 0] S1x1024x128.size inb_S2x1024x128_S1x1024x128_1_0_0, k0_pay177 (trip_k0_t1.sl.r_15 i arg3 arg9 v18 v23 X3 k) (trip_k0_t1.sl.r_16 i arg3 arg9 v9 v18 v23 X3 k) (trip_k0_t1.sl.v637 i arg3 arg8 arg9 v9 v18 v23 X3 k f8 f9)⟩ :: trip_k0_t1.sl.HW_arg8_3 (F := Ideal) i arg3 arg8 arg9 v9 v18 v23 X3 k f8 f9))) 0 (fun r _ => D.cr 0 (b + r) (S)) := by
  exact so3 arg8.view g 1 0 (by decide) 0 _ _ _ (fun r _ => D.cr 0 (b + r) (S)) (c3_0 T H g)

theorem a2_0 (g : BufTy.Contents (Elt Ideal) arg7.view.ty) : At arg7 (arg7.view.writes (Elt Ideal) g (trip_k0_t1.sl.HW_arg7_2 (F := Ideal) i arg4 arg7 arg8 arg9 v9 X4 k f7 f8 f9)) 0 (fun r l => D.ac 0 (b + r) l (S + 256)) := by
  unfold trip_k0_t1.sl.HW_arg7_2
  refine so3 arg7.view g 1 0 (by decide) 0 _ _ _ (fun r l => D.ac 0 (b + r) l (S + 256)) ?_
  refine st3 arg7.view _ 0 0 _ _ _ (fun r l => D.ac 0 (b + r) l (S + 256)) rfl (fun r l => ?_) (fun r l hr => absurd hr (Nat.not_lt_zero _))
  rw [Nat.zero_add]
  have Q := fun (r : Fin 1024) (c : Fin 128) => D.qq_e 0 (b + r) (S + 256) (c := c) (by omega)
  have Q2 := fun (r : Fin 1024) (c : Fin 128) => D.qq_e 0 (b + r) (S + 256) (c := 128 + c) (by omega)
  have E := fun (r : Fin 1024) (c : Fin 128) => D.ar_e (w := 0) (t := b + r) (S := S + 256) (c := c) (by have := T.hk; omega)
  have E2 := fun (r : Fin 1024) (c : Fin 128) => D.ar_e (w := 0) (t := b + r) (S := S + 256) (c := 128 + c) (by have := T.hk; omega)
  pointwise [k0_pay3, k0_pay6, k0_pay7, k0_pay8, k0_pay9, k0_pay10, k0_pay11, k0_pay12, k0_pay13, trip_k0_t1.sl.r, trip_k0_t1.sl.r_2, trip_k0_t1.sl.r_4, trip_k0_t1.sl.r_5]
  simp only [rz0 H, rc0 H, ra0 H, T.h9, T.vv1, D.nz_sc, D.sp_e, T.lk1 0 _ _ (Fin.isLt _), Q, Q2, E, E2, zero_add, add_zero]
  with_reducible_and_instances exact D.ac_e2 0 (b + r) l (S + 256)
theorem a2_1 (g : BufTy.Contents (Elt Ideal) arg7.view.ty) : At arg7 (arg7.view.writes (Elt Ideal) g (trip_k0_t1.sl.HW_arg7_2 (F := Ideal) i arg4 arg7 arg8 arg9 v9 X4 k f7 f8 f9)) 1 (fun r l => D.ac 1 (b + r) l (S + 256)) := by
  unfold trip_k0_t1.sl.HW_arg7_2
  refine st3 arg7.view _ 1 0 _ _ _ (fun r l => D.ac 1 (b + r) l (S + 256)) rfl (fun r l => ?_) (fun r l hr => absurd hr (Nat.not_lt_zero _))
  rw [Nat.zero_add]
  have Q := fun (r : Fin 1024) (c : Fin 128) => D.qq_e 1 (b + r) (S + 256) (c := c) (by omega)
  have Q2 := fun (r : Fin 1024) (c : Fin 128) => D.qq_e 1 (b + r) (S + 256) (c := 128 + c) (by omega)
  have E := fun (r : Fin 1024) (c : Fin 128) => D.ar_e (w := 1) (t := b + r) (S := S + 256) (c := c) (by have := T.hk; omega)
  have E2 := fun (r : Fin 1024) (c : Fin 128) => D.ar_e (w := 1) (t := b + r) (S := S + 256) (c := 128 + c) (by have := T.hk; omega)
  pointwise [k0_pay3, k0_pay16, k0_pay17, k0_pay18, k0_pay19, k0_pay20, k0_pay21, k0_pay22, trip_k0_t1.sl.cst_240, trip_k0_t1.sl.r, trip_k0_t1.sl.r_6, trip_k0_t1.sl.r_7]
  simp only [v511 H, v531 H, v537 H, T.h9, T.vv1, D.nz_sc, D.sp_e, T.lk1 1 _ _ (Fin.isLt _), Q, Q2, E, E2, zero_add, add_zero]
  with_reducible_and_instances exact D.ac_e2 1 (b + r) l (S + 256)
theorem v601 (r : Fin 1024) (l : Fin 128) : trip_k0_t1.sl.v601 (F := Ideal) i arg4 arg7 arg8 arg9 v9 X4 k f7 f8 f9 (ix3 0 r l) = ((D.ac 0 (b + r) l (S + 256) : ℝ) : EReal) := by
  unfold trip_k0_t1.sl.v601
  exact ldc3z arg7.view _ 0 _ (fun r l => D.ac 0 (b + r) l (S + 256)) (a2_0 T H _) r l

theorem a3_0 (g : BufTy.Contents (Elt Ideal) arg7.view.ty) : At arg7 (arg7.view.writes (Elt Ideal) g (trip_k0_t1.sl.HW_arg7_3 (F := Ideal) i arg3 arg4 arg7 arg8 arg9 v9 v18 v23 X3 X4 k f7 f8 f9)) 0 (fun r l => D.ac 0 (b + r) l (S)) := by
  unfold trip_k0_t1.sl.HW_arg7_3
  refine st3 arg7.view _ 0 0 _ _ _ (fun r l => D.ac 0 (b + r) l (S)) rfl (fun r l => ?_) (fun r l hr => absurd hr (Nat.not_lt_zero _))
  rw [Nat.zero_add]
  have Q := fun (r : Fin 1024) (c : Fin 128) => D.qq_e 0 (b + r) (S) (c := c) (by omega)
  have Q2 := fun (r : Fin 1024) (c : Fin 128) => D.qq_e 0 (b + r) (S) (c := 128 + c) (by omega)
  have E := fun (r : Fin 1024) (c : Fin 128) => D.ar_e (w := 0) (t := b + r) (S := S) (c := c) (by have := T.hk; omega)
  have E2 := fun (r : Fin 1024) (c : Fin 128) => D.ar_e (w := 0) (t := b + r) (S := S) (c := 128 + c) (by have := T.hk; omega)
  pointwise [k0_pay24, k0_pay27, k0_pay28, k0_pay29, k0_pay31, k0_pay32, k0_pay33, k0_pay34, trip_k0_t1.sl.r_13, trip_k0_t1.sl.r_8]
  simp only [v575 T, v595 T H, v601 T H, T.h9, T.vv2, D.nz_sc, D.sp_e, T.lk2 0 _ _ (Fin.isLt _), Q, Q2, E, E2, zero_add, add_zero]
  with_reducible_and_instances exact D.ac_e2 0 (b + r) l (S)
theorem a3_1 (g : BufTy.Contents (Elt Ideal) arg7.view.ty) : At arg7 (arg7.view.writes (Elt Ideal) g (trip_k0_t1.sl.HW_arg7_3 (F := Ideal) i arg3 arg4 arg7 arg8 arg9 v9 v18 v23 X3 X4 k f7 f8 f9)) 1 (fun r l => D.ac 1 (b + r) l (S + 256)) := by
  unfold trip_k0_t1.sl.HW_arg7_3
  exact so3 arg7.view g 0 1 (by decide) 0 _ _ _ (fun r l => D.ac 1 (b + r) l (S + 256)) (a2_1 T H g)

theorem v643 (r : Fin 1024) (l : Fin 128) : trip_k0_t1.sl.v643 (F := Ideal) i arg3 arg4 arg7 arg8 arg9 v9 v18 v23 X3 X4 k f7 f8 f9 (ix3 0 r l) = ((D.ac 1 (b + r) l (S + 256) : ℝ) : EReal) := by
  unfold trip_k0_t1.sl.v643
  exact ldc3z arg7.view _ 1 _ (fun r l => D.ac 1 (b + r) l (S + 256)) (a3_1 T H _) r l

theorem a4_1 (g : BufTy.Contents (Elt Ideal) arg7.view.ty) : At arg7 (arg7.view.writes (Elt Ideal) g ((⟨Rect.unit ![1, 0, 0] S1x1024x128.size inb_S2x1024x128_S1x1024x128_1_0_0, k0_pay176 (trip_k0_t1.sl.r_8 i arg4 X4 k) (trip_k0_t1.sl.r_14 i arg3 arg9 v18 v23 X3 k) (trip_k0_t1.sl.r_16 i arg3 arg9 v9 v18 v23 X3 k) (trip_k0_t1.sl.v637 i arg3 arg8 arg9 v9 v18 v23 X3 k f8 f9) (trip_k0_t1.sl.v643 i arg3 arg4 arg7 arg8 arg9 v9 v18 v23 X3 X4 k f7 f8 f9)⟩ :: trip_k0_t1.sl.HW_arg7_3 (F := Ideal) i arg3 arg4 arg7 arg8 arg9 v9 v18 v23 X3 X4 k f7 f8 f9))) 1 (fun r l => D.ac 1 (b + r) l (S)) := by
  refine st3 arg7.view _ 1 0 _ _ _ (fun r l => D.ac 1 (b + r) l (S)) rfl (fun r l => ?_) (fun r l hr => absurd hr (Nat.not_lt_zero _))
  rw [Nat.zero_add]
  have Q := fun (r : Fin 1024) (c : Fin 128) => D.qq_e 1 (b + r) (S) (c := c) (by omega)
  have Q2 := fun (r : Fin 1024) (c : Fin 128) => D.qq_e 1 (b + r) (S) (c := 128 + c) (by omega)
  have E := fun (r : Fin 1024) (c : Fin 128) => D.ar_e (w := 1) (t := b + r) (S := S) (c := c) (by have := T.hk; omega)
  have E2 := fun (r : Fin 1024) (c : Fin 128) => D.ar_e (w := 1) (t := b + r) (S := S) (c := 128 + c) (by have := T.hk; omega)
  pointwise [k0_pay24, k0_pay37, k0_pay38, k0_pay39, k0_pay41, k0_pay175, k0_pay176, trip_k0_t1.sl.r_14, trip_k0_t1.sl.r_16, trip_k0_t1.sl.r_8]
  simp only [v617 T, v637 T H, v643 T H, T.h9, T.vv2, D.nz_sc, D.sp_e, T.lk2 1 _ _ (Fin.isLt _), Q, Q2, E, E2, zero_add, add_zero]
  with_reducible_and_instances exact D.ac_e2 1 (b + r) l (S)
theorem a4_0 (g : BufTy.Contents (Elt Ideal) arg7.view.ty) : At arg7 (arg7.view.writes (Elt Ideal) g ((⟨Rect.unit ![1, 0, 0] S1x1024x128.size inb_S2x1024x128_S1x1024x128_1_0_0, k0_pay176 (trip_k0_t1.sl.r_8 i arg4 X4 k) (trip_k0_t1.sl.r_14 i arg3 arg9 v18 v23 X3 k) (trip_k0_t1.sl.r_16 i arg3 arg9 v9 v18 v23 X3 k) (trip_k0_t1.sl.v637 i arg3 arg8 arg9 v9 v18 v23 X3 k f8 f9) (trip_k0_t1.sl.v643 i arg3 arg4 arg7 arg8 arg9 v9 v18 v23 X3 X4 k f7 f8 f9)⟩ :: trip_k0_t1.sl.HW_arg7_3 (F := Ideal) i arg3 arg4 arg7 arg8 arg9 v9 v18 v23 X3 X4 k f7 f8 f9))) 0 (fun r l => D.ac 0 (b + r) l (S)) := by
  exact so3 arg7.view g 1 0 (by decide) 0 _ _ _ (fun r l => D.ac 0 (b + r) l (S)) (a3_0 T H g)

end Lp

end Cert.FwdProof
end
-- ==== Proof.FwdDiag.lean ====
module

public import proofs.«01_k».proof.Proof.FwdIn

/-! The attention's forward kernel on the keys of its own query block, in four blocks of 256 keys from the last to the first. -/

@[expose] public section
set_option maxRecDepth 16384
noncomputable section

namespace Cert.FwdProof
open Idealize.ShloMosaic Idealize.ShloMosaic.TcCoe
open Cert.FwdKernelIdeal Cert.FwdKernelIdeal.Gen Cert.SbMath Cert.SbMath.Dat Cert.SbProof

/-- One head's rows, of a buffer whose stores are `L`. -/
abbrev Hold (a : Memref sig .tc .vmem S2x1024x128 .f32) (L : List (View.Piece (Elt Ideal) S2x1024x128 .f32)) (w : Fin 2) (spec : ℕ → ℕ → ℝ) : Prop :=
  ∀ (r : Fin 1024) (l : Fin 128), a.view.read (Elt Ideal) (a.view.writes (Elt Ideal) a.view.junk L) (ix3 w r l) = ((spec r l : ℝ) : EReal)

/-- A store of both heads' rows, read back. -/
theorem fill3 {κ : Kind} {sp : Space} (v : View sig κ sp S2x1024x128 .f32) (f : v.ty.Contents (Elt Ideal))
    (inb : ∀ a, (![0, 0, 0] : Fin 3 → ℕ) a + S2x1024x128.size a ≤ S2x1024x128.size a) (pay : Vec Ideal S2x1024x128 .f32)
    (w : Fin 2) (r : Fin 1024) (l : Fin 128) :
    v.read (Elt Ideal) (v.writes (Elt Ideal) f [(⟨Rect.unit (s := S2x1024x128) ![0, 0, 0] S2x1024x128.size inb, pay⟩ : View.Piece (Elt Ideal) S2x1024x128 .f32)]) (ix3 w r l)
      = pay (ix3 w r l) := by
  refine View.read_writes_cons_unit_of_mem v f inb pay [] (ix3 w r l) (ix3 w r l) rfl fun a => ?_
  fin_cases a
  · show w.val = 0 + w.val; omega
  · show r.val = 0 + r.val; omega
  · show l.val = 0 + l.val; omega

theorem u86 (w : Fin 2) (r : Fin 1024) (l : Fin 128) : k0_pay86 (F := Ideal) (ix3 w r l) = 0 := by
  pointwise [k0_pay86]
theorem u87 (w : Fin 2) (r : Fin 1024) (l : Fin 128) : k0_pay87 (F := Ideal) (ix3 w r l) = 0 := by
  pointwise [k0_pay87]

variable {D : Dat} {b : ℕ} {i : grid0.Coords} {x0 : Vec Ideal S1024x128 .f32} {x1 x2 : Vec Ideal S4096x128 .f32} (I : In D b i x0 x1 x2)
  (c : Dev nD) {arg2 : Memref sig .tc .vmem S1024x128 .f32} (harg2 : arg2.IsWhole) {arg3 arg4 : Memref sig .tc .vmem S4096x128 .f32} (harg3 : arg3.IsWhole) (harg4 : arg4.IsWhole)
  (arg7 arg8 : Memref sig .tc .vmem S2x1024x128 .f32)
include I

theorem c1_0 : Hold arg8 (runB.sl.HS1_1 (F := Ideal)) 0 (fun r _ => D.cr 0 (b + r) (b + 768 + 256)) := fun r l => by
  unfold runB.sl.HS1_1
  rw [fill3, u87]
  show (0 : EReal) = ((D.cr 0 (b + r) (b + 768 + 256) : ℝ) : EReal)
  rw [D.cr_zero I.hT (by omega), EReal.coe_zero]

theorem a1_0 : Hold arg7 (runB.sl.HS0_1 (F := Ideal)) 0 (fun r l => D.ac 0 (b + r) l (b + 768 + 256)) := fun r l => by
  unfold runB.sl.HS0_1
  rw [fill3, u86]
  show (0 : EReal) = ((D.ac 0 (b + r) l (b + 768 + 256) : ℝ) : EReal)
  rw [D.ac_zero (by omega), EReal.coe_zero]

theorem c1_1 : Hold arg8 (runB.sl.HS1_1 (F := Ideal)) 1 (fun r _ => D.cr 1 (b + r) (b + 768 + 256)) := fun r l => by
  unfold runB.sl.HS1_1
  rw [fill3, u87]
  show (0 : EReal) = ((D.cr 1 (b + r) (b + 768 + 256) : ℝ) : EReal)
  rw [D.cr_zero I.hT (by omega), EReal.coe_zero]

theorem a1_1 : Hold arg7 (runB.sl.HS0_1 (F := Ideal)) 1 (fun r l => D.ac 1 (b + r) l (b + 768 + 256)) := fun r l => by
  unfold runB.sl.HS0_1
  rw [fill3, u86]
  show (0 : EReal) = ((D.ac 1 (b + r) l (b + 768 + 256) : ℝ) : EReal)
  rw [D.ac_zero (by omega), EReal.coe_zero]

theorem v83 (r : Fin 256) (l : Fin 128) : runB.sl.v83 (F := Ideal) c arg8 (ix3 0 r l) = ((D.cr 0 (b + (768 + r)) (b + 768 + 256) : ℝ) : EReal) := by
  unfold runB.sl.v83
  exact ldc3 arg8.view _ 0 768 _ (fun r _ => D.cr 0 (b + r) (b + 768 + 256)) (c1_0 I arg8) r l

theorem v91 (r : Fin 256) (l : Fin 128) : runB.sl.v91 (F := Ideal) c arg7 (ix3 0 r l) = ((D.ac 0 (b + (768 + r)) l (b + 768 + 256) : ℝ) : EReal) := by
  unfold runB.sl.v91
  exact ldc3 arg7.view _ 0 768 _ (fun r l => D.ac 0 (b + r) l (b + 768 + 256)) (a1_0 I arg7) r l

theorem c2_0 : Hold arg8 (runB.sl.HS1_2 (F := Ideal) c i arg2 harg2 arg3 harg3 arg8 x0 x1) 0 (fun r _ => D.cr 0 (b + r) (b + 768)) := by
  unfold runB.sl.HS1_2
  refine st3 arg8.view _ 0 768 _ _ _ (fun r _ => D.cr 0 (b + r) (b + 768)) rfl (fun r l => ?_) (fun r l hr => ?_)
  · pointwise [k0_pay89, k0_pay91, k0_pay92, k0_pay93, k0_pay94, k0_pay95, k0_pay101, k0_pay103, runB.sl.r_4, runB.sl.r_5]
    simp (disch := omega) only [r0 I c harg2, kd (v := 3#32) (o := 768) I harg3 off1.2.2.2, u88, u82, D.nz_e, D.sp_e, D.lkm_e, D.lkm_mul, D.qq_e, v83 I c arg8, zero_add, add_zero]
    with_reducible_and_instances exact D.cr_e 0 (b + (768 + r)) (b + 768)
  · exact (c1_0 I arg8 r l).trans (D.cr_keep I.hT (by omega) (by omega))

theorem c2_1 : Hold arg8 (runB.sl.HS1_2 (F := Ideal) c i arg2 harg2 arg3 harg3 arg8 x0 x1) 1 (fun r _ => D.cr 1 (b + r) (b + 768 + 256)) := by
  unfold runB.sl.HS1_2
  exact so3 arg8.view _ 0 1 (by decide) 768 _ _ _ (fun r _ => D.cr 1 (b + r) (b + 768 + 256)) (c1_1 I arg8)

theorem a2_0 : Hold arg7 (runB.sl.HS0_2 (F := Ideal) c i arg2 harg2 arg3 harg3 arg4 harg4 arg7 arg8 x0 x1 x2) 0 (fun r l => D.ac 0 (b + r) l (b + 768)) := by
  unfold runB.sl.HS0_2
  refine st3 arg7.view _ 0 768 _ _ _ (fun r l => D.ac 0 (b + r) l (b + 768)) rfl (fun r l => ?_) (fun r l hr => ?_)
  · pointwise [k0_pay89, k0_pay90, k0_pay91, k0_pay92, k0_pay93, k0_pay95, k0_pay101, k0_pay102, runB.sl.r_2, runB.sl.r_3, runB.sl.r_5]
    simp (disch := omega) only [r0 I c harg2, kd (v := 3#32) (o := 768) I harg3 off1.2.2.2, u88, u82, D.nz_e, D.sp_e, D.lkm_e, D.lkm_mul, D.qq_e, vd (v := 3#32) (o := 768) I harg4 off1.2.2.2, D.arm_mul, v83 I c arg8, v91 I c arg7, zero_add, add_zero]
    with_reducible_and_instances exact D.ac_e2 0 (b + (768 + r)) l (b + 768)
  · exact (a1_0 I arg7 r l).trans (D.ac_keep (by omega) (by omega))

theorem a2_1 : Hold arg7 (runB.sl.HS0_2 (F := Ideal) c i arg2 harg2 arg3 harg3 arg4 harg4 arg7 arg8 x0 x1 x2) 1 (fun r l => D.ac 1 (b + r) l (b + 768 + 256)) := by
  unfold runB.sl.HS0_2
  exact so3 arg7.view _ 0 1 (by decide) 768 _ _ _ (fun r l => D.ac 1 (b + r) l (b + 768 + 256)) (a1_1 I arg7)

theorem v107 (r : Fin 256) (l : Fin 128) : runB.sl.v107 (F := Ideal) c i arg2 harg2 arg3 harg3 arg8 x0 x1 (ix3 0 r l) = ((D.cr 1 (b + (768 + r)) (b + 768 + 256) : ℝ) : EReal) := by
  unfold runB.sl.v107
  exact ldc3 arg8.view _ 1 768 _ (fun r _ => D.cr 1 (b + r) (b + 768 + 256)) (c2_1 I c harg2 harg3 arg8) r l

theorem v115 (r : Fin 256) (l : Fin 128) : runB.sl.v115 (F := Ideal) c i arg2 harg2 arg3 harg3 arg4 harg4 arg7 arg8 x0 x1 x2 (ix3 0 r l) = ((D.ac 1 (b + (768 + r)) l (b + 768 + 256) : ℝ) : EReal) := by
  unfold runB.sl.v115
  exact ldc3 arg7.view _ 1 768 _ (fun r l => D.ac 1 (b + r) l (b + 768 + 256)) (a2_1 I c harg2 harg3 harg4 arg7 arg8) r l

theorem c3_1 : Hold arg8 (runB.sl.HS1_3 (F := Ideal) c i arg2 harg2 arg3 harg3 arg8 x0 x1) 1 (fun r _ => D.cr 1 (b + r) (b + 768)) := by
  unfold runB.sl.HS1_3
  refine st3 arg8.view _ 1 768 _ _ _ (fun r _ => D.cr 1 (b + r) (b + 768)) rfl (fun r l => ?_) (fun r l hr => ?_)
  · pointwise [k0_pay89, k0_pay96, k0_pay97, k0_pay98, k0_pay99, k0_pay100, k0_pay104, k0_pay107, runB.sl.r_7, runB.sl.r_8, runB.sl.r_9]
    simp (disch := omega) only [r1 I c harg2, kd (v := 3#32) (o := 768) I harg3 off1.2.2.2, u88, u82, D.nz_e, D.sp_e, D.lkm_e, D.lkm_mul, D.qq_e, v107 I c harg2 harg3 arg8, zero_add, add_zero]
    with_reducible_and_instances exact D.cr_e 1 (b + (768 + r)) (b + 768)
  · exact (c2_1 I c harg2 harg3 arg8 r l).trans (D.cr_keep I.hT (by omega) (by omega))

theorem c3_0 : Hold arg8 (runB.sl.HS1_3 (F := Ideal) c i arg2 harg2 arg3 harg3 arg8 x0 x1) 0 (fun r _ => D.cr 0 (b + r) (b + 768)) := by
  unfold runB.sl.HS1_3
  exact so3 arg8.view _ 1 0 (by decide) 768 _ _ _ (fun r _ => D.cr 0 (b + r) (b + 768)) (c2_0 I c harg2 harg3 arg8)

theorem a3_1 : Hold arg7 (runB.sl.HS0_3 (F := Ideal) c i arg2 harg2 arg3 harg3 arg4 harg4 arg7 arg8 x0 x1 x2) 1 (fun r l => D.ac 1 (b + r) l (b + 768)) := by
  unfold runB.sl.HS0_3
  refine st3 arg7.view _ 1 768 _ _ _ (fun r l => D.ac 1 (b + r) l (b + 768)) rfl (fun r l => ?_) (fun r l hr => ?_)
  · pointwise [k0_pay89, k0_pay90, k0_pay96, k0_pay97, k0_pay98, k0_pay100, k0_pay104, k0_pay105, k0_pay106, runB.sl.r_2, runB.sl.r_6, runB.sl.r_8, runB.sl.r_10]
    simp (disch := omega) only [r1 I c harg2, kd (v := 3#32) (o := 768) I harg3 off1.2.2.2, u88, u82, D.nz_e, D.sp_e, D.lkm_e, D.lkm_mul, D.qq_e, vd (v := 3#32) (o := 768) I harg4 off1.2.2.2, D.arm_mul, v107 I c harg2 harg3 arg8, v115 I c harg2 harg3 harg4 arg7 arg8, zero_add, add_zero]
    with_reducible_and_instances exact D.ac_e2 1 (b + (768 + r)) l (b + 768)
  · exact (a2_1 I c harg2 harg3 harg4 arg7 arg8 r l).trans (D.ac_keep (by omega) (by omega))

theorem a3_0 : Hold arg7 (runB.sl.HS0_3 (F := Ideal) c i arg2 harg2 arg3 harg3 arg4 harg4 arg7 arg8 x0 x1 x2) 0 (fun r l => D.ac 0 (b + r) l (b + 768)) := by
  unfold runB.sl.HS0_3
  exact so3 arg7.view _ 1 0 (by decide) 768 _ _ _ (fun r l => D.ac 0 (b + r) l (b + 768)) (a2_0 I c harg2 harg3 harg4 arg7 arg8)

theorem v182 (r : Fin 512) (l : Fin 128) : runB.sl.v182 (F := Ideal) c i arg2 harg2 arg3 harg3 arg8 x0 x1 (ix3 0 r l) = ((D.cr 0 (b + (512 + r)) (b + 512 + 256) : ℝ) : EReal) := by
  unfold runB.sl.v182
  exact ldc3 arg8.view _ 0 512 _ (fun r _ => D.cr 0 (b + r) (b + 512 + 256)) (c3_0 I c harg2 harg3 arg8) r l

theorem v190 (r : Fin 512) (l : Fin 128) : runB.sl.v190 (F := Ideal) c i arg2 harg2 arg3 harg3 arg4 harg4 arg7 arg8 x0 x1 x2 (ix3 0 r l) = ((D.ac 0 (b + (512 + r)) l (b + 512 + 256) : ℝ) : EReal) := by
  unfold runB.sl.v190
  exact ldc3 arg7.view _ 0 512 _ (fun r l => D.ac 0 (b + r) l (b + 512 + 256)) (a3_0 I c harg2 harg3 harg4 arg7 arg8) r l

theorem c4_0 : Hold arg8 (runB.sl.HS1_4 (F := Ideal) c i arg2 harg2 arg3 harg3 arg8 x0 x1) 0 (fun r _ => D.cr 0 (b + r) (b + 512)) := by
  unfold runB.sl.HS1_4
  refine st3 arg8.view _ 0 512 _ _ _ (fun r _ => D.cr 0 (b + r) (b + 512)) rfl (fun r l => ?_) (fun r l hr => ?_)
  · pointwise [runB.sl.cst_59, k0_pay109, k0_pay111, k0_pay112, k0_pay113, k0_pay114, k0_pay115, k0_pay116, k0_pay122, k0_pay124, k0_pay125, runB.sl.r_14, runB.sl.r_15, runB.sl.r_19]
    simp (disch := omega) only [r0 I c harg2, kd (v := 2#32) (o := 512) I harg3 off1.2.2.1, u108, u82, D.nz_e, D.sp_e, D.lkm_e, D.lkm_mul, D.qq_e, v182 I c harg2 harg3 arg8, zero_add, add_zero]
    with_reducible_and_instances exact D.cr_e 0 (b + (512 + r)) (b + 512)
  · exact (c3_0 I c harg2 harg3 arg8 r l).trans (D.cr_keep I.hT (by omega) (by omega))

theorem c4_1 : Hold arg8 (runB.sl.HS1_4 (F := Ideal) c i arg2 harg2 arg3 harg3 arg8 x0 x1) 1 (fun r _ => D.cr 1 (b + r) (b + 512 + 256)) := by
  unfold runB.sl.HS1_4
  exact so3 arg8.view _ 0 1 (by decide) 512 _ _ _ (fun r _ => D.cr 1 (b + r) (b + 512 + 256)) (c3_1 I c harg2 harg3 arg8)

theorem a4_0 : Hold arg7 (runB.sl.HS0_4 (F := Ideal) c i arg2 harg2 arg3 harg3 arg4 harg4 arg7 arg8 x0 x1 x2) 0 (fun r l => D.ac 0 (b + r) l (b + 512)) := by
  unfold runB.sl.HS0_4
  refine st3 arg7.view _ 0 512 _ _ _ (fun r l => D.ac 0 (b + r) l (b + 512)) rfl (fun r l => ?_) (fun r l hr => ?_)
  · pointwise [runB.sl.cst_59, k0_pay109, k0_pay110, k0_pay111, k0_pay112, k0_pay113, k0_pay115, k0_pay116, k0_pay122, k0_pay123, runB.sl.r_12, runB.sl.r_13, runB.sl.r_15]
    simp (disch := omega) only [r0 I c harg2, kd (v := 2#32) (o := 512) I harg3 off1.2.2.1, u108, u82, D.nz_e, D.sp_e, D.lkm_e, D.lkm_mul, D.qq_e, vd (v := 2#32) (o := 512) I harg4 off1.2.2.1, D.arm_mul, v182 I c harg2 harg3 arg8, v190 I c harg2 harg3 harg4 arg7 arg8, zero_add, add_zero]
    with_reducible_and_instances exact D.ac_e2 0 (b + (512 + r)) l (b + 512)
  · exact (a3_0 I c harg2 harg3 harg4 arg7 arg8 r l).trans (D.ac_keep (by omega) (by omega))

theorem a4_1 : Hold arg7 (runB.sl.HS0_4 (F := Ideal) c i arg2 harg2 arg3 harg3 arg4 harg4 arg7 arg8 x0 x1 x2) 1 (fun r l => D.ac 1 (b + r) l (b + 512 + 256)) := by
  unfold runB.sl.HS0_4
  exact so3 arg7.view _ 0 1 (by decide) 512 _ _ _ (fun r l => D.ac 1 (b + r) l (b + 512 + 256)) (a3_1 I c harg2 harg3 harg4 arg7 arg8)

theorem v206 (r : Fin 512) (l : Fin 128) : runB.sl.v206 (F := Ideal) c i arg2 harg2 arg3 harg3 arg8 x0 x1 (ix3 0 r l) = ((D.cr 1 (b + (512 + r)) (b + 512 + 256) : ℝ) : EReal) := by
  unfold runB.sl.v206
  exact ldc3 arg8.view _ 1 512 _ (fun r _ => D.cr 1 (b + r) (b + 512 + 256)) (c4_1 I c harg2 harg3 arg8) r l

theorem v214 (r : Fin 512) (l : Fin 128) : runB.sl.v214 (F := Ideal) c i arg2 harg2 arg3 harg3 arg4 harg4 arg7 arg8 x0 x1 x2 (ix3 0 r l) = ((D.ac 1 (b + (512 + r)) l (b + 512 + 256) : ℝ) : EReal) := by
  unfold runB.sl.v214
  exact ldc3 arg7.view _ 1 512 _ (fun r l => D.ac 1 (b + r) l (b + 512 + 256)) (a4_1 I c harg2 harg3 harg4 arg7 arg8) r l

theorem c5_1 : Hold arg8 (runB.sl.HS1_5 (F := Ideal) c i arg2 harg2 arg3 harg3 arg8 x0 x1) 1 (fun r _ => D.cr 1 (b + r) (b + 512)) := by
  unfold runB.sl.HS1_5
  refine st3 arg8.view _ 1 512 _ _ _ (fun r _ => D.cr 1 (b + r) (b + 512)) rfl (fun r l => ?_) (fun r l hr => ?_)
  · pointwise [k0_pay109, k0_pay117, k0_pay118, k0_pay119, k0_pay120, k0_pay121, k0_pay126, k0_pay128, runB.sl.r_11, runB.sl.r_17, runB.sl.r_18]
    simp (disch := omega) only [r1 I c harg2, kd (v := 2#32) (o := 512) I harg3 off1.2.2.1, u108, u82, D.nz_e, D.sp_e, D.lkm_e, D.lkm_mul, D.qq_e, v206 I c harg2 harg3 arg8, zero_add, add_zero]
    with_reducible_and_instances exact D.cr_e 1 (b + (512 + r)) (b + 512)
  · exact (c4_1 I c harg2 harg3 arg8 r l).trans (D.cr_keep I.hT (by omega) (by omega))

theorem c5_0 : Hold arg8 (runB.sl.HS1_5 (F := Ideal) c i arg2 harg2 arg3 harg3 arg8 x0 x1) 0 (fun r _ => D.cr 0 (b + r) (b + 512)) := by
  unfold runB.sl.HS1_5
  exact so3 arg8.view _ 1 0 (by decide) 512 _ _ _ (fun r _ => D.cr 0 (b + r) (b + 512)) (c4_0 I c harg2 harg3 arg8)

theorem a5_1 : Hold arg7 (runB.sl.HS0_5 (F := Ideal) c i arg2 harg2 arg3 harg3 arg4 harg4 arg7 arg8 x0 x1 x2) 1 (fun r l => D.ac 1 (b + r) l (b + 512)) := by
  unfold runB.sl.HS0_5
  refine st3 arg7.view _ 1 512 _ _ _ (fun r l => D.ac 1 (b + r) l (b + 512)) rfl (fun r l => ?_) (fun r l hr => ?_)
  · pointwise [k0_pay109, k0_pay110, k0_pay117, k0_pay118, k0_pay119, k0_pay121, k0_pay126, k0_pay127, runB.sl.r_11, runB.sl.r_12, runB.sl.r_16, runB.sl.r_18]
    simp (disch := omega) only [r1 I c harg2, kd (v := 2#32) (o := 512) I harg3 off1.2.2.1, u108, u82, D.nz_e, D.sp_e, D.lkm_e, D.lkm_mul, D.qq_e, vd (v := 2#32) (o := 512) I harg4 off1.2.2.1, D.arm_mul, v206 I c harg2 harg3 arg8, v214 I c harg2 harg3 harg4 arg7 arg8, zero_add, add_zero]
    with_reducible_and_instances exact D.ac_e2 1 (b + (512 + r)) l (b + 512)
  · exact (a4_1 I c harg2 harg3 harg4 arg7 arg8 r l).trans (D.ac_keep (by omega) (by omega))

theorem a5_0 : Hold arg7 (runB.sl.HS0_5 (F := Ideal) c i arg2 harg2 arg3 harg3 arg4 harg4 arg7 arg8 x0 x1 x2) 0 (fun r l => D.ac 0 (b + r) l (b + 512)) := by
  unfold runB.sl.HS0_5
  exact so3 arg7.view _ 1 0 (by decide) 512 _ _ _ (fun r l => D.ac 0 (b + r) l (b + 512)) (a4_0 I c harg2 harg3 harg4 arg7 arg8)

theorem v281 (r : Fin 768) (l : Fin 128) : runB.sl.v281 (F := Ideal) c i arg2 harg2 arg3 harg3 arg8 x0 x1 (ix3 0 r l) = ((D.cr 0 (b + (256 + r)) (b + 256 + 256) : ℝ) : EReal) := by
  unfold runB.sl.v281
  exact ldc3 arg8.view _ 0 256 _ (fun r _ => D.cr 0 (b + r) (b + 256 + 256)) (c5_0 I c harg2 harg3 arg8) r l

theorem v289 (r : Fin 768) (l : Fin 128) : runB.sl.v289 (F := Ideal) c i arg2 harg2 arg3 harg3 arg4 harg4 arg7 arg8 x0 x1 x2 (ix3 0 r l) = ((D.ac 0 (b + (256 + r)) l (b + 256 + 256) : ℝ) : EReal) := by
  unfold runB.sl.v289
  exact ldc3 arg7.view _ 0 256 _ (fun r l => D.ac 0 (b + r) l (b + 256 + 256)) (a5_0 I c harg2 harg3 harg4 arg7 arg8) r l

theorem c6_0 : Hold arg8 (runB.sl.HS1_6 (F := Ideal) c i arg2 harg2 arg3 harg3 arg8 x0 x1) 0 (fun r _ => D.cr 0 (b + r) (b + 256)) := by
  unfold runB.sl.HS1_6
  refine st3 arg8.view _ 0 256 _ _ _ (fun r _ => D.cr 0 (b + r) (b + 256)) rfl (fun r l => ?_) (fun r l hr => ?_)
  · pointwise [k0_pay130, k0_pay132, k0_pay133, k0_pay134, k0_pay135, k0_pay136, k0_pay142, k0_pay145, runB.sl.r_20, runB.sl.r_22, runB.sl.r_23, runB.sl.r_27]
    simp (disch := omega) only [r0 I c harg2, kd (v := 1#32) (o := 256) I harg3 off1.2.1, u129, u82, D.nz_e, D.sp_e, D.lkm_e, D.lkm_mul, D.qq_e, v281 I c harg2 harg3 arg8, zero_add, add_zero]
    with_reducible_and_instances exact D.cr_e 0 (b + (256 + r)) (b + 256)
  · exact (c5_0 I c harg2 harg3 arg8 r l).trans (D.cr_keep I.hT (by omega) (by omega))

theorem c6_1 : Hold arg8 (runB.sl.HS1_6 (F := Ideal) c i arg2 harg2 arg3 harg3 arg8 x0 x1) 1 (fun r _ => D.cr 1 (b + r) (b + 256 + 256)) := by
  unfold runB.sl.HS1_6
  exact so3 arg8.view _ 0 1 (by decide) 256 _ _ _ (fun r _ => D.cr 1 (b + r) (b + 256 + 256)) (c5_1 I c harg2 harg3 arg8)

theorem a6_0 : Hold arg7 (runB.sl.HS0_6 (F := Ideal) c i arg2 harg2 arg3 harg3 arg4 harg4 arg7 arg8 x0 x1 x2) 0 (fun r l => D.ac 0 (b + r) l (b + 256)) := by
  unfold runB.sl.HS0_6
  refine st3 arg7.view _ 0 256 _ _ _ (fun r l => D.ac 0 (b + r) l (b + 256)) rfl (fun r l => ?_) (fun r l hr => ?_)
  · pointwise [runB.sl.cst_108, k0_pay130, k0_pay131, k0_pay132, k0_pay133, k0_pay134, k0_pay136, k0_pay142, k0_pay143, k0_pay144, runB.sl.r_20, runB.sl.r_21, runB.sl.r_28]
    simp (disch := omega) only [r0 I c harg2, kd (v := 1#32) (o := 256) I harg3 off1.2.1, u129, u82, D.nz_e, D.sp_e, D.lkm_e, D.lkm_mul, D.qq_e, vd (v := 1#32) (o := 256) I harg4 off1.2.1, D.arm_mul, v281 I c harg2 harg3 arg8, v289 I c harg2 harg3 harg4 arg7 arg8, zero_add, add_zero]
    with_reducible_and_instances exact D.ac_e2 0 (b + (256 + r)) l (b + 256)
  · exact (a5_0 I c harg2 harg3 harg4 arg7 arg8 r l).trans (D.ac_keep (by omega) (by omega))

theorem a6_1 : Hold arg7 (runB.sl.HS0_6 (F := Ideal) c i arg2 harg2 arg3 harg3 arg4 harg4 arg7 arg8 x0 x1 x2) 1 (fun r l => D.ac 1 (b + r) l (b + 256 + 256)) := by
  unfold runB.sl.HS0_6
  exact so3 arg7.view _ 0 1 (by decide) 256 _ _ _ (fun r l => D.ac 1 (b + r) l (b + 256 + 256)) (a5_1 I c harg2 harg3 harg4 arg7 arg8)

theorem v305 (r : Fin 768) (l : Fin 128) : runB.sl.v305 (F := Ideal) c i arg2 harg2 arg3 harg3 arg8 x0 x1 (ix3 0 r l) = ((D.cr 1 (b + (256 + r)) (b + 256 + 256) : ℝ) : EReal) := by
  unfold runB.sl.v305
  exact ldc3 arg8.view _ 1 256 _ (fun r _ => D.cr 1 (b + r) (b + 256 + 256)) (c6_1 I c harg2 harg3 arg8) r l

theorem v313 (r : Fin 768) (l : Fin 128) : runB.sl.v313 (F := Ideal) c i arg2 harg2 arg3 harg3 arg4 harg4 arg7 arg8 x0 x1 x2 (ix3 0 r l) = ((D.ac 1 (b + (256 + r)) l (b + 256 + 256) : ℝ) : EReal) := by
  unfold runB.sl.v313
  exact ldc3 arg7.view _ 1 256 _ (fun r l => D.ac 1 (b + r) l (b + 256 + 256)) (a6_1 I c harg2 harg3 harg4 arg7 arg8) r l

theorem c7_1 : Hold arg8 (runB.sl.HS1_7 (F := Ideal) c i arg2 harg2 arg3 harg3 arg8 x0 x1) 1 (fun r _ => D.cr 1 (b + r) (b + 256)) := by
  unfold runB.sl.HS1_7
  refine st3 arg8.view _ 1 256 _ _ _ (fun r _ => D.cr 1 (b + r) (b + 256)) rfl (fun r l => ?_) (fun r l hr => ?_)
  · pointwise [k0_pay130, k0_pay137, k0_pay138, k0_pay139, k0_pay140, k0_pay141, k0_pay146, k0_pay148, k0_pay149, runB.sl.r_20, runB.sl.r_25, runB.sl.r_26, runB.sl.r_29, runB.sl.r_30]
    simp (disch := omega) only [r1 I c harg2, kd (v := 1#32) (o := 256) I harg3 off1.2.1, u129, u82, D.nz_e, D.sp_e, D.lkm_e, D.lkm_mul, D.qq_e, v305 I c harg2 harg3 arg8, zero_add, add_zero]
    with_reducible_and_instances exact D.cr_e 1 (b + (256 + r)) (b + 256)
  · exact (c6_1 I c harg2 harg3 arg8 r l).trans (D.cr_keep I.hT (by omega) (by omega))

theorem c7_0 : Hold arg8 (runB.sl.HS1_7 (F := Ideal) c i arg2 harg2 arg3 harg3 arg8 x0 x1) 0 (fun r _ => D.cr 0 (b + r) (b + 256)) := by
  unfold runB.sl.HS1_7
  exact so3 arg8.view _ 1 0 (by decide) 256 _ _ _ (fun r _ => D.cr 0 (b + r) (b + 256)) (c6_0 I c harg2 harg3 arg8)

theorem a7_1 : Hold arg7 (runB.sl.HS0_7 (F := Ideal) c i arg2 harg2 arg3 harg3 arg4 harg4 arg7 arg8 x0 x1 x2) 1 (fun r l => D.ac 1 (b + r) l (b + 256)) := by
  unfold runB.sl.HS0_7
  refine st3 arg7.view _ 1 256 _ _ _ (fun r l => D.ac 1 (b + r) l (b + 256)) rfl (fun r l => ?_) (fun r l hr => ?_)
  · pointwise [k0_pay130, k0_pay131, k0_pay137, k0_pay138, k0_pay139, k0_pay141, k0_pay146, k0_pay147, runB.sl.r_20, runB.sl.r_21, runB.sl.r_24, runB.sl.r_26]
    simp (disch := omega) only [r1 I c harg2, kd (v := 1#32) (o := 256) I harg3 off1.2.1, u129, u82, D.nz_e, D.sp_e, D.lkm_e, D.lkm_mul, D.qq_e, vd (v := 1#32) (o := 256) I harg4 off1.2.1, D.arm_mul, v305 I c harg2 harg3 arg8, v313 I c harg2 harg3 harg4 arg7 arg8, zero_add, add_zero]
    with_reducible_and_instances exact D.ac_e2 1 (b + (256 + r)) l (b + 256)
  · exact (a6_1 I c harg2 harg3 harg4 arg7 arg8 r l).trans (D.ac_keep (by omega) (by omega))

theorem a7_0 : Hold arg7 (runB.sl.HS0_7 (F := Ideal) c i arg2 harg2 arg3 harg3 arg4 harg4 arg7 arg8 x0 x1 x2) 0 (fun r l => D.ac 0 (b + r) l (b + 256)) := by
  unfold runB.sl.HS0_7
  exact so3 arg7.view _ 1 0 (by decide) 256 _ _ _ (fun r l => D.ac 0 (b + r) l (b + 256)) (a6_0 I c harg2 harg3 harg4 arg7 arg8)

theorem v378 (r : Fin 1024) (l : Fin 128) : runB.sl.v378 (F := Ideal) c i arg2 harg2 arg3 harg3 arg8 x0 x1 (ix3 0 r l) = ((D.cr 0 (b + (0 + r)) (b + 256) : ℝ) : EReal) := by
  unfold runB.sl.v378
  exact ldc3 arg8.view _ 0 0 _ (fun r _ => D.cr 0 (b + r) (b + 256)) (c7_0 I c harg2 harg3 arg8) r l

theorem v386 (r : Fin 1024) (l : Fin 128) : runB.sl.v386 (F := Ideal) c i arg2 harg2 arg3 harg3 arg4 harg4 arg7 arg8 x0 x1 x2 (ix3 0 r l) = ((D.ac 0 (b + (0 + r)) l (b + 256) : ℝ) : EReal) := by
  unfold runB.sl.v386
  exact ldc3 arg7.view _ 0 0 _ (fun r l => D.ac 0 (b + r) l (b + 256)) (a7_0 I c harg2 harg3 harg4 arg7 arg8) r l

theorem c8_0 : Hold arg8 (runB.sl.HS1_8 (F := Ideal) c i arg2 harg2 arg3 harg3 arg8 x0 x1) 0 (fun r _ => D.cr 0 (b + r) (b)) := by
  unfold runB.sl.HS1_8
  refine st3 arg8.view _ 0 0 _ _ _ (fun r _ => D.cr 0 (b + r) (b)) rfl (fun r l => ?_) (fun r l hr => ?_)
  · pointwise [k0_pay151, k0_pay153, k0_pay154, k0_pay155, k0_pay156, k0_pay157, k0_pay165, k0_pay167, runB.sl.r_33, runB.sl.r_34]
    simp (disch := omega) only [r0 I c harg2, kd (v := 0#32) (o := 0) I harg3 off1.1, u150, u82, D.nz_e, D.sp_e, D.lkm_e, D.lkm_mul, D.qq_e, v378 I c harg2 harg3 arg8, zero_add, add_zero]
    with_reducible_and_instances exact D.cr_e 0 (b + r) (b)
  · exact absurd hr (Nat.not_lt_zero _)

theorem c8_1 : Hold arg8 (runB.sl.HS1_8 (F := Ideal) c i arg2 harg2 arg3 harg3 arg8 x0 x1) 1 (fun r _ => D.cr 1 (b + r) (b + 256)) := by
  unfold runB.sl.HS1_8
  exact so3 arg8.view _ 0 1 (by decide) 0 _ _ _ (fun r _ => D.cr 1 (b + r) (b + 256)) (c7_1 I c harg2 harg3 arg8)

theorem a8_0 : Hold arg7 (runB.sl.HS0_8 (F := Ideal) c i arg2 harg2 arg3 harg3 arg4 harg4 arg7 arg8 x0 x1 x2) 0 (fun r l => D.ac 0 (b + r) l (b)) := by
  unfold runB.sl.HS0_8
  refine st3 arg7.view _ 0 0 _ _ _ (fun r l => D.ac 0 (b + r) l (b)) rfl (fun r l => ?_) (fun r l hr => ?_)
  · pointwise [k0_pay151, k0_pay152, k0_pay153, k0_pay154, k0_pay155, k0_pay157, k0_pay165, k0_pay166, runB.sl.r_31, runB.sl.r_32, runB.sl.r_34]
    simp (disch := omega) only [r0 I c harg2, kd (v := 0#32) (o := 0) I harg3 off1.1, u150, u82, D.nz_e, D.sp_e, D.lkm_e, D.lkm_mul, D.qq_e, vd (v := 0#32) (o := 0) I harg4 off1.1, D.arm_mul, v378 I c harg2 harg3 arg8, v386 I c harg2 harg3 harg4 arg7 arg8, zero_add, add_zero]
    with_reducible_and_instances exact D.ac_e2 0 (b + r) l (b)
  · exact absurd hr (Nat.not_lt_zero _)

theorem a8_1 : Hold arg7 (runB.sl.HS0_8 (F := Ideal) c i arg2 harg2 arg3 harg3 arg4 harg4 arg7 arg8 x0 x1 x2) 1 (fun r l => D.ac 1 (b + r) l (b + 256)) := by
  unfold runB.sl.HS0_8
  exact so3 arg7.view _ 0 1 (by decide) 0 _ _ _ (fun r l => D.ac 1 (b + r) l (b + 256)) (a7_1 I c harg2 harg3 harg4 arg7 arg8)

theorem v402 (r : Fin 1024) (l : Fin 128) : runB.sl.v402 (F := Ideal) c i arg2 harg2 arg3 harg3 arg8 x0 x1 (ix3 0 r l) = ((D.cr 1 (b + (0 + r)) (b + 256) : ℝ) : EReal) := by
  unfold runB.sl.v402
  exact ldc3 arg8.view _ 1 0 _ (fun r _ => D.cr 1 (b + r) (b + 256)) (c8_1 I c harg2 harg3 arg8) r l

theorem v410 (r : Fin 1024) (l : Fin 128) : runB.sl.v410 (F := Ideal) c i arg2 harg2 arg3 harg3 arg4 harg4 arg7 arg8 x0 x1 x2 (ix3 0 r l) = ((D.ac 1 (b + (0 + r)) l (b + 256) : ℝ) : EReal) := by
  unfold runB.sl.v410
  exact ldc3 arg7.view _ 1 0 _ (fun r l => D.ac 1 (b + r) l (b + 256)) (a8_1 I c harg2 harg3 harg4 arg7 arg8) r l

theorem c9_1 : Hold arg8 (runB.sl.HS1_9 (F := Ideal) c i arg2 harg2 arg3 harg3 arg8 x0 x1) 1 (fun r _ => D.cr 1 (b + r) (b)) := by
  unfold runB.sl.HS1_9
  refine st3 arg8.view _ 1 0 _ _ _ (fun r _ => D.cr 1 (b + r) (b)) rfl (fun r l => ?_) (fun r l hr => ?_)
  · pointwise [k0_pay151, k0_pay158, k0_pay159, k0_pay160, k0_pay161, k0_pay162, k0_pay163, k0_pay164, k0_pay168, k0_pay171, runB.sl.r_35, runB.sl.r_36, runB.sl.r_38, runB.sl.r_39, runB.sl.r_40]
    simp (disch := omega) only [r1 I c harg2, kd (v := 0#32) (o := 0) I harg3 off1.1, u150, u82, D.nz_e, D.sp_e, D.lkm_e, D.lkm_mul, D.qq_e, v402 I c harg2 harg3 arg8, zero_add, add_zero]
    with_reducible_and_instances exact D.cr_e 1 (b + r) (b)
  · exact absurd hr (Nat.not_lt_zero _)

theorem c9_0 : Hold arg8 (runB.sl.HS1_9 (F := Ideal) c i arg2 harg2 arg3 harg3 arg8 x0 x1) 0 (fun r _ => D.cr 0 (b + r) (b)) := by
  unfold runB.sl.HS1_9
  exact so3 arg8.view _ 1 0 (by decide) 0 _ _ _ (fun r _ => D.cr 0 (b + r) (b)) (c8_0 I c harg2 harg3 arg8)

theorem a9_1 : Hold arg7 (runB.sl.HS0_9 (F := Ideal) c i arg2 harg2 arg3 harg3 arg4 harg4 arg7 arg8 x0 x1 x2) 1 (fun r l => D.ac 1 (b + r) l (b)) := by
  unfold runB.sl.HS0_9
  refine st3 arg7.view _ 1 0 _ _ _ (fun r l => D.ac 1 (b + r) l (b)) rfl (fun r l => ?_) (fun r l hr => ?_)
  · pointwise [k0_pay151, k0_pay152, k0_pay158, k0_pay159, k0_pay160, k0_pay161, k0_pay162, k0_pay164, k0_pay168, k0_pay169, k0_pay170, runB.sl.r_31, runB.sl.r_35, runB.sl.r_36, runB.sl.r_37, runB.sl.r_39, runB.sl.r_41]
    simp (disch := omega) only [r1 I c harg2, kd (v := 0#32) (o := 0) I harg3 off1.1, u150, u82, D.nz_e, D.sp_e, D.lkm_e, D.lkm_mul, D.qq_e, vd (v := 0#32) (o := 0) I harg4 off1.1, D.arm_mul, v402 I c harg2 harg3 arg8, v410 I c harg2 harg3 harg4 arg7 arg8, zero_add, add_zero]
    with_reducible_and_instances exact D.ac_e2 1 (b + r) l (b)
  · exact absurd hr (Nat.not_lt_zero _)

theorem a9_0 : Hold arg7 (runB.sl.HS0_9 (F := Ideal) c i arg2 harg2 arg3 harg3 arg4 harg4 arg7 arg8 x0 x1 x2) 0 (fun r l => D.ac 0 (b + r) l (b)) := by
  unfold runB.sl.HS0_9
  exact so3 arg7.view _ 1 0 (by decide) 0 _ _ _ (fun r l => D.ac 0 (b + r) l (b)) (a8_0 I c harg2 harg3 harg4 arg7 arg8)

end Cert.FwdProof
end
-- ==== Proof.FwdLoop.lean ====
module

public import proofs.«01_k».proof.Proof.FwdTrip
public import proofs.«01_k».proof.Proof.FwdDiag
public import proofs.«01_k».proof.Proof.FwdFrame

/-! The attention's forward loop, all of it, and what the kernel's two outputs hold for one block of query rows. -/

@[expose] public section
set_option maxRecDepth 16384
noncomputable section

namespace Cert.FwdProof
open Idealize.ShloMosaic Idealize.ShloMosaic.TcCoe
open Cert.FwdKernelIdeal Cert.FwdKernelIdeal.Gen Cert.SbMath Cert.SbMath.Dat Cert.SbProof

section
variable {D : Dat} {b : ℕ} (𝒱 : Variants) (c : Dev nD) (bd : Option 𝒱.V) (i : grid0.Coords) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S2x1024x128 .f32) (harg7 : arg7.IsWhole) (arg8 : Memref sig .tc .vmem S2x1024x128 .f32) (harg8 : arg8.IsWhole) (arg9 : Memref sig .tc .vmem S2x1024x256 .f32) (harg9 : arg9.IsWhole)
  (arg1 : BitVec 32) (v9 : FVec Ideal S512x256 .bf16) (v18 v23 : FVec Ideal S1024x128 .bf16) (v333 : IVec S1024x256 1) (v343 : FVec Ideal S256x128 .bf16) (v367 : FVec Ideal S1024x256 .f32) (v375 : FVec Ideal S1024x1 .f32) (v377 : FVec Ideal S1024x256 .f32) (v403 : FVec Ideal S1024x128 .f32) (v404 : FVec Ideal S1024x256 .f32)
  (X3 : BufTy.Contents (Elt Ideal) arg3.view.ty) (X4 : BufTy.Contents (Elt Ideal) arg4.view.ty)

theorem trip_holds {S : ℕ} (k : Fin (k0_t1_loop i).trips) (T : Tr D b S i k arg3 arg4 v9 v18 v23 X3 X4)
    (f7 : BufTy.Contents (Elt Ideal) arg7.view.ty) (f8 : BufTy.Contents (Elt Ideal) arg8.view.ty) (f9 : BufTy.Contents (Elt Ideal) arg9.view.ty)
    (H : St D b (S + 256 + 256) (S + 256) arg7 arg8 arg9 f7 f8 f9) :
    St D b S (S - 256) arg7 arg8 arg9
      (arg7.view.writes (Elt Ideal) f7 (tripL_k0_t1 (F := Ideal) 𝒱 c bd i arg2 harg2 arg3 harg3 arg4 harg4 arg5 harg5 arg6 harg6 arg7 harg7 arg8 harg8 arg9 harg9 arg1 v9 v18 v23 v333 v343 v367 v375 v377 v403 v404 X3 X4 k f7 f8 f9).1)
      (arg8.view.writes (Elt Ideal) f8 (tripL_k0_t1 (F := Ideal) 𝒱 c bd i arg2 harg2 arg3 harg3 arg4 harg4 arg5 harg5 arg6 harg6 arg7 harg7 arg8 harg8 arg9 harg9 arg1 v9 v18 v23 v333 v343 v367 v375 v377 v403 v404 X3 X4 k f7 f8 f9).2.1)
      (arg9.view.writes (Elt Ideal) f9 (tripL_k0_t1 (F := Ideal) 𝒱 c bd i arg2 harg2 arg3 harg3 arg4 harg4 arg5 harg5 arg6 harg6 arg7 harg7 arg8 harg8 arg9 harg9 arg1 v9 v18 v23 v333 v343 v367 v375 v377 v403 v404 X3 X4 k f7 f8 f9).2.2) := by
  unfold tripL_k0_t1 trip_k0_t1
  dsimp only
  exact ⟨Lp.a4_0 T H _, Lp.a4_1 T H _, Lp.c4_0 T H _, Lp.c4_1 T H _, Lp.z4_0 T _, Lp.z4_1 T _⟩

theorem loop_holds (hb : b = 1024 * (i 1).val)
    (h9 : ∀ (x : Fin 512) (c : Fin 256), v9 (ix2 x c) = ((one ((c : ℕ) < (x : ℕ) % 256) : ℝ) : EReal))
    (h18 : ∀ (r : Fin 1024) (l : Fin 128), v18 (ix2 r l) = ((D.qm 0 (b + r) l : ℝ) : EReal))
    (h23 : ∀ (r : Fin 1024) (l : Fin 128), v23 (ix2 r l) = ((D.qm 1 (b + r) l : ℝ) : EReal))
    (hX3 : ∀ (s : Fin 4096) (l : Fin 128), arg3.view.read (Elt Ideal) X3 (ix2 s l) = ((D.K s l : ℝ) : EReal))
    (hX4 : ∀ (s : Fin 4096) (l : Fin 128), arg4.view.read (Elt Ideal) X4 (ix2 s l) = ((D.V s l : ℝ) : EReal))
    (G7 : BufTy.Contents (Elt Ideal) arg7.view.ty) (G8 : BufTy.Contents (Elt Ideal) arg8.view.ty) (G9 : BufTy.Contents (Elt Ideal) arg9.view.ty)
    (H : St D b b (b - 256) arg7 arg8 arg9 G7 G8 G9) (n : ℕ) (hn : n ≤ (k0_t1_loop i).trips) :
    St D b (b - 512 * n) (b - 512 * n - 256) arg7 arg8 arg9
      (arg7.view.writes (Elt Ideal) G7 (pb_k0_t1 (F := Ideal) 𝒱 c bd i arg2 harg2 arg3 harg3 arg4 harg4 arg5 harg5 arg6 harg6 arg7 harg7 arg8 harg8 arg9 harg9 arg1 v9 v18 v23 v333 v343 v367 v375 v377 v403 v404 X3 X4 G7 G8 G9 n).1)
      (arg8.view.writes (Elt Ideal) G8 (pb_k0_t1 (F := Ideal) 𝒱 c bd i arg2 harg2 arg3 harg3 arg4 harg4 arg5 harg5 arg6 harg6 arg7 harg7 arg8 harg8 arg9 harg9 arg1 v9 v18 v23 v333 v343 v367 v375 v377 v403 v404 X3 X4 G7 G8 G9 n).2.1)
      (arg9.view.writes (Elt Ideal) G9 (pb_k0_t1 (F := Ideal) 𝒱 c bd i arg2 harg2 arg3 harg3 arg4 harg4 arg5 harg5 arg6 harg6 arg7 harg7 arg8 harg8 arg9 harg9 arg1 v9 v18 v23 v333 v343 v367 v375 v377 v403 v404 X3 X4 G7 G8 G9 n).2.2) := by
  induction n with
  | zero =>
    rw [pb_k0_t1.eq_1]
    exact H
  | succ n ih =>
    have e := pb_k0_t1_succ (F := Ideal) 𝒱 c bd i arg2 harg2 arg3 harg3 arg4 harg4 arg5 harg5 arg6 harg6 arg7 harg7 arg8 harg8 arg9 harg9 arg1 v9 v18 v23 v333 v343 v367 v375 v377 v403 v404 X3 X4 G7 G8 G9 ⟨n, hn⟩
    dsimp only at e
    rw [e]
    dsimp only
    rw [View.writes_append, View.writes_append, View.writes_append]
    have ht := trips1 i
    obtain ⟨S, hS⟩ := Nat.exists_eq_add_of_le (show 512 * n + 512 ≤ b by omega)
    have h := ih (Nat.le_of_succ_le hn)
    rw [show b - 512 * n - 256 = S + 256 by omega, show b - 512 * n = S + 256 + 256 by omega] at h
    rw [show b - 512 * (n + 1) = S by omega]
    exact trip_holds 𝒱 c bd i arg2 harg2 arg3 harg3 arg4 harg4 arg5 harg5 arg6 harg6 arg7 harg7 arg8 harg8 arg9 harg9 arg1 v9 v18 v23 v333 v343 v367 v375 v377 v403 v404 X3 X4 ⟨n, hn⟩ ⟨by show b = S + 512 + 512 * n; omega, hb, h9, h18, h23, hX3, hX4⟩ _ _ _ h
end

variable {D : Dat} {b : ℕ} {i : grid0.Coords} {x0 : Vec Ideal S1024x128 .f32} {x1 x2 : Vec Ideal S4096x128 .f32} (I : In D b i x0 x1 x2)
  (c : Dev nD) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S2x1024x128 .f32) (harg7 : arg7.IsWhole) (arg8 : Memref sig .tc .vmem S2x1024x128 .f32) (harg8 : arg8.IsWhole) (arg9 : Memref sig .tc .vmem S2x1024x256 .f32) (harg9 : arg9.IsWhole)
include I

theorem z2 (hc : k0_cond1 i = 1#1) :
    (At arg9 (arg9.view.writes (Elt Ideal) arg9.view.junk (runB.sl.HS2_2 (F := Ideal) c i arg2 harg2 arg3 harg3 hc x0 x1)) 0 fun r c => D.sc 0 (b + r) (b - 256 + c))
    ∧ At arg9 (arg9.view.writes (Elt Ideal) arg9.view.junk (runB.sl.HS2_2 (F := Ideal) c i arg2 harg2 arg3 harg3 hc x0 x1)) 1 fun r c => D.sc 1 (b + r) (b - 256 + c) := by
  have K (inb : ∀ a, k0_off2 i a + (![256, 128] : Fin 2 → ℕ) a ≤ S4096x128.size a) (s : Fin 256) (l : Fin 128) :
      View.readAt (Elt Ideal) arg3.view (Rect.unit (s := S4096x128) (k0_off2 i) ![256, 128] inb).toLoadRect (harg3.unread x1) (ix2 s l) = ((D.K (b - 256 + s) l : ℝ) : EReal) :=
    ldr arg3.view _ _ (by rw [off2 i hc, I.hb]) _ (fun s l => D.K s l) (fun s l => by rw [harg3.read_unread]; exact I.hK s l) s l
  unfold runB.sl.HS2_2
  refine ⟨so3 arg9.view _ 1 0 (by decide) 0 _ _ _ (fun r c => D.sc 0 (b + r) (b - 256 + c)) ?_,
    st3 arg9.view _ 1 0 _ _ _ (fun r c => D.sc 1 (b + r) (b - 256 + c)) rfl (fun r l => ?_) (fun r l hr => absurd hr (Nat.not_lt_zero _))⟩
  · refine st3 arg9.view _ 0 0 _ _ _ (fun r c => D.sc 0 (b + r) (b - 256 + c)) rfl (fun r l => ?_) (fun r l hr => absurd hr (Nat.not_lt_zero _))
    rw [Nat.zero_add]
    pointwise [k0_pay172, k0_pay173]
    simp only [r0 I c harg2, K, zero_add, D.sc_e]
  · rw [Nat.zero_add]
    pointwise [k0_pay172, k0_pay174]
    simp only [r1 I c harg2, K, zero_add, D.sc_e]

/-- A row of the first output: each column's own head. -/
theorem sel_y {r : Fin 1024} {l : Fin 128} {u v : Vec Ideal S1x1024x128 .f32} {f : ℕ → ℝ} (h0 : u (ix3 0 r l) = ((f 0 : ℝ) : EReal)) (h1 : v (ix3 0 r l) = ((f 1 : ℝ) : EReal)) :
    k0_pay1 (F := Ideal) k0_pay81 (k0_pay181 u) v (ix2 r l) = ((f ((l : ℕ) / 64) : ℝ) : EReal) ∧ k0_pay2 (F := Ideal) k0_pay81 u v (ix2 r l) = ((f ((l : ℕ) / 64) : ℝ) : EReal) := by
  have hl := l.isLt
  constructor
  · pointwise [k0_pay1, k0_pay181]
    by_cases h : (l : ℕ) < 64
    · rw [u81, sel_pos h, h0, show (l : ℕ) / 64 = 0 by omega]
    · rw [u81, sel_neg h, h1, show (l : ℕ) / 64 = 1 by omega]
  · pointwise [k0_pay2]
    by_cases h : (l : ℕ) < 64
    · rw [u81, sel_pos h, h0, show (l : ℕ) / 64 = 0 by omega]
    · rw [u81, sel_neg h, h1, show (l : ℕ) / 64 = 1 by omega]

theorem ac_fin (w t l : ℕ) : D.ac w t l 0 = D.av w t l t := by
  show D.av w t l t - ∑ s ∈ Finset.range 0, _ = _
  rw [Finset.sum_range_zero, sub_zero]
theorem cr_fin (w t : ℕ) : D.cr w t 0 = D.T t w := by
  show D.T t w - ∑ s ∈ Finset.range 0, _ = _
  rw [Finset.sum_range_zero, sub_zero]

/-- What the first output's block holds, and the second's. -/
abbrev Good (D : Dat) (b : ℕ) (L3 L4 : List (View.Piece (Elt Ideal) S1024x128 .f32)) : Prop :=
  ∀ (r : Fin 1024) (l : Fin 128), rd3 L3 (ix2 r l) = ((D.av ((l : ℕ) / 64) (b + r) l (b + r) : ℝ) : EReal) ∧ rd4 L4 (ix2 r l) = ((D.T (b + r) ((l : ℕ) / 64) : ℝ) : EReal)

theorem good_of {u0 u1 v0 v1 : Vec Ideal S1x1024x128 .f32}
    (a0 : ∀ (r : Fin 1024) (l : Fin 128), u0 (ix3 0 r l) = ((D.ac 0 (b + r) l 0 : ℝ) : EReal)) (a1 : ∀ (r : Fin 1024) (l : Fin 128), u1 (ix3 0 r l) = ((D.ac 1 (b + r) l 0 : ℝ) : EReal))
    (c0 : ∀ (r : Fin 1024) (l : Fin 128), v0 (ix3 0 r l) = ((D.cr 0 (b + r) 0 : ℝ) : EReal)) (c1 : ∀ (r : Fin 1024) (l : Fin 128), v1 (ix3 0 r l) = ((D.cr 1 (b + r) 0 : ℝ) : EReal)) :
    Good D b [⟨Rect.unit ![0, 0] ![1024, 128] inb_S1024x128_S1024x128_0_0, k0_pay1 (F := Ideal) k0_pay81 (k0_pay181 u0) u1⟩]
      [⟨Rect.unit ![0, 0] ![1024, 128] inb_S1024x128_S1024x128_0_0, k0_pay2 (F := Ideal) k0_pay81 v0 v1⟩] := by
  intro r l
  have hx : ∀ a, ((ix2 r l : S1024x128.Idx) a).val = (![0, 0] : Fin 2 → ℕ) a + ((ix2 r l : S1024x128.Idx) a).val := fun a => by
    fin_cases a
    · show r.val = 0 + r.val; omega
    · show l.val = 0 + l.val; omega
  constructor
  · refine (View.read_writes_cons_unit_of_mem O3 _ inb_S1024x128_S1024x128_0_0 _ [] (ix2 r l) (ix2 r l) rfl hx).trans ?_
    rw [← ac_fin I]
    exact (sel_y I (f := fun w => D.ac w (b + r) l 0) (a0 r l) (a1 r l)).1
  · refine (View.read_writes_cons_unit_of_mem O4 _ inb_S1024x128_S1024x128_0_0 _ [] (ix2 r l) (ix2 r l) rfl hx).trans ?_
    rw [← cr_fin I]
    exact (sel_y I (f := fun w => D.cr w (b + r) 0) (c0 r l) (c1 r l)).2

theorem goodB (hc : k0_cond1 i = 1#1) (ht2 : (k0_t2_loop i).trips = 0) :
    Good D b (runB (F := Ideal) c i arg2 harg2 arg3 harg3 arg4 harg4 arg5 harg5 arg6 harg6 arg7 harg7 arg8 harg8 arg9 harg9 hc ht2 x0 x1 x2).1 (runB (F := Ideal) c i arg2 harg2 arg3 harg3 arg4 harg4 arg5 harg5 arg6 harg6 arg7 harg7 arg8 harg8 arg9 harg9 hc ht2 x0 x1 x2).2.1 := by
  have z := z2 I c arg2 harg2 arg3 harg3 arg9 hc
  have H := loop_holds Variants.none c none i arg2 harg2 arg3 harg3 arg4 harg4 arg5 harg5 arg6 harg6 arg7 harg7 arg8 harg8 arg9 harg9 (BitVec.ofNat 32 ↑(i 1)) k0_pay82 (runB.sl.r (F := Ideal) c arg2 harg2 x0) (runB.sl.r_1 (F := Ideal) c arg2 harg2 x0) k0_pay150 (runB.sl.r_31 c i arg4 harg4 x2) (runB.sl.r_37 c i arg2 harg2 arg3 harg3 x0 x1) (runB.sl.r_38 c i arg2 harg2 arg3 harg3 x0 x1) (runB.sl.r_39 c i arg2 harg2 arg3 harg3 x0 x1) (runB.sl.r_40 c i arg2 harg2 arg3 harg3 arg8 x0 x1) (runB.sl.r_41 c i arg2 harg2 arg3 harg3 arg8 x0 x1)
    (harg3.unread x1) (harg4.unread x2) I.hb u82 (r0 I c harg2) (r1 I c harg2) (fun s l => by rw [harg3.read_unread]; exact I.hK s l) (fun s l => by rw [harg4.read_unread]; exact I.hV s l)
    _ _ _ ⟨a9_0 I c harg2 harg3 harg4 arg7 arg8, a9_1 I c harg2 harg3 harg4 arg7 arg8, c9_0 I c harg2 harg3 arg8, c9_1 I c harg2 harg3 arg8, z.1, z.2⟩ (k0_t1_loop i).trips le_rfl
  rw [show b - 512 * (k0_t1_loop i).trips = 0 by rw [trips1, I.hb]; omega] at H
  have e : Scf.trips (k0_t2_loop i).lb (k0_t2_loop i).ub (k0_t2_loop i).st = 0 := ht2
  unfold runB
  refine good_of I (fun r l => ?_) (fun r l => ?_) (fun r l => ?_) (fun r l => ?_)
  · unfold runB.sl.v435
    refine ldc3z arg7.view _ 0 _ (fun r l => D.ac 0 (b + r) l 0) ?_ r l
    rw [e, pb_k0_t2.eq_1, List.nil_append, View.writes_append]
    exact H.a0
  · unfold runB.sl.v437
    refine ldc3z arg7.view _ 1 _ (fun r l => D.ac 1 (b + r) l 0) ?_ r l
    rw [e, pb_k0_t2.eq_1, List.nil_append, View.writes_append]
    exact H.a1
  · unfold runB.sl.v441
    refine ldc3z arg8.view _ 0 _ (fun r _ => D.cr 0 (b + r) 0) ?_ r l
    rw [e, pb_k0_t2.eq_1, List.nil_append, View.writes_append]
    exact H.c0
  · unfold runB.sl.v443
    refine ldc3z arg8.view _ 1 _ (fun r _ => D.cr 1 (b + r) 0) ?_ r l
    rw [e, pb_k0_t2.eq_1, List.nil_append, View.writes_append]
    exact H.c1

theorem goodA (hc : ¬ k0_cond1 i = 1#1) (ht1 : (k0_t1_loop i).trips = 0) (ht2 : (k0_t2_loop i).trips = 0) :
    Good D b (runA (F := Ideal) c i arg2 harg2 arg3 harg3 arg4 harg4 arg5 harg5 arg6 harg6 arg7 harg7 arg8 harg8 arg9 harg9 hc ht1 ht2 x0 x1 x2).1 (runA (F := Ideal) c i arg2 harg2 arg3 harg3 arg4 harg4 arg5 harg5 arg6 harg6 arg7 harg7 arg8 harg8 arg9 harg9 hc ht1 ht2 x0 x1 x2).2.1 := by
  have hb0 : b = 0 := by
    rw [cond_iff] at hc
    have := I.hb
    omega
  subst hb0
  have eA : runA.sl.HS0_9 (F := Ideal) c i arg2 harg2 arg3 harg3 arg4 harg4 arg7 arg8 x0 x1 x2 = runB.sl.HS0_9 (F := Ideal) c i arg2 harg2 arg3 harg3 arg4 harg4 arg7 arg8 x0 x1 x2 := rfl
  have eC : runA.sl.HS1_9 (F := Ideal) c i arg2 harg2 arg3 harg3 arg8 x0 x1 = runB.sl.HS1_9 (F := Ideal) c i arg2 harg2 arg3 harg3 arg8 x0 x1 := rfl
  unfold runA
  refine good_of I (fun r l => ?_) (fun r l => ?_) (fun r l => ?_) (fun r l => ?_)
  · unfold runA.sl.v435
    rw [eA]
    exact ldc3z arg7.view _ 0 _ (fun r l => D.ac 0 (0 + r) l 0) (a9_0 I c harg2 harg3 harg4 arg7 arg8) r l
  · unfold runA.sl.v437
    rw [eA]
    exact ldc3z arg7.view _ 1 _ (fun r l => D.ac 1 (0 + r) l 0) (a9_1 I c harg2 harg3 harg4 arg7 arg8) r l
  · unfold runA.sl.v441
    rw [eC]
    exact ldc3z arg8.view _ 0 _ (fun r _ => D.cr 0 (0 + r) 0) (c9_0 I c harg2 harg3 arg8) r l
  · unfold runA.sl.v443
    rw [eC]
    exact ldc3z arg8.view _ 1 _ (fun r _ => D.cr 1 (0 + r) 0) (c9_1 I c harg2 harg3 arg8) r l

end Cert.FwdProof
end
-- ==== Proof.FwdEnd.lean ====
module

public import proofs.«01_k».proof.Proof.FwdLoop
public import proofs.«01_k».proof.Proof.SbPlain
public import Idealize.ShloMosaic.Lib.Pipeline.Value
public import Idealize.ShloMosaic.Lib.Pipeline.ValueKit
public import Idealize.ShloMosaic.Lib.Claim
public import Idealize.ShloMosaic.Lib.StableHlo.ReadAt

/-! The forward attention kernel's two result arrays, from what its blocks hold at each point of the grid. -/

@[expose] public section
set_option maxRecDepth 16384
noncomputable section

namespace Cert.FwdProof
open Idealize.ShloMosaic Idealize.ShloMosaic.TcCoe Idealize.SL.Sem Cert.SbMath Cert.SbMath.Dat Finset
open Cert.FwdKernelIdeal Cert.FwdKernelIdeal.Gen
open Cert.SbProof (lr ar Low cp_eq a_eq)

/-- A pair of heads, each row's sum being that of its own columns. -/
def fd (P : ℕ → ℕ → ℝ) (p : ℕ) : Dat :=
  { Cert.SbProof.dat P (fun _ _ => 0) p with T := fun t w => (Cert.SbProof.dat P (fun _ _ => 0) p).cp w t t }

section
variable {P : ℕ → ℕ → ℝ} {p : ℕ} (hz : Low P) (hp : p < 4) {t : ℕ} (ht : t < 4096)
include hz hp ht

theorem T_eq {w : ℕ} (hw : w < 2) : (fd P p).T t w = ∑ x ∈ range 4096, lr P (2 * p + w) t x := by
  refine (cp_eq hz hp hw ht t).trans ?_
  obtain ⟨d, hd⟩ := Nat.exists_eq_add_of_le (Nat.le_of_lt ht)
  rw [hd, sum_range_add, sum_eq_zero (s := range d) (fun x _ => by rw [lr, if_neg (by omega)]), add_zero]

theorem av_eq {l : ℕ} (hl : l < 128) : (fd P p).av (l / 64) t l t = ∑ s ∈ range 4096, ar P (2 * p + l / 64) t s * P s (1024 + (128 * p + l)) := by
  have hw : l / 64 < 2 := by omega
  rw [← Dat.av_all (fd P p) (Nat.le_of_lt ht), Dat.av]
  refine sum_congr rfl fun s _ => congrArg (· * P s (1024 + (128 * p + l))) (Eq.trans ?_ (a_eq (Y := fun _ _ => 0) hz hp hw ht s))
  rw [Dat.a, Dat.a, T_eq hz hp ht hw]
  rfl
end

variable (m : (ℓ : Loc nD τ sig) → Buf (Elt Ideal) ℓ) (c : Dev nD)

abbrev argP : FVec Ideal S1x4096x4616 .f32 := m ((c : Thread nD τ).loc main_arg0)

theorem idx : ∀ t : Fin cfg0.N, win0_0.index t = ![t.val % 4, t.val / 4] ∧ win0_1.index t = ![0, 4 + t.val / 4]
    ∧ win0_2.index t = ![0, 8 + t.val / 4] ∧ win0_3.index t = ![t.val % 4, t.val / 4] ∧ win0_4.index t = ![t.val % 4, t.val / 4] :=
  (by decide +kernel : ∀ t : Fin grid0.N, _)
theorem coord1 : ∀ t : Fin cfg0.N, (grid0.coords t 1).val = t.val % 4 := (by decide +kernel : ∀ t : Fin grid0.N, _)
theorem flush3 : ∀ t : Fin cfg0.N, (cfg0.win 3).flush t = true := (by decide +kernel : ∀ t : Fin grid0.N, _)
theorem flush4 : ∀ t : Fin cfg0.N, (cfg0.win 4).flush t = true := (by decide +kernel : ∀ t : Fin grid0.N, _)
theorem inj3 : ∀ t t' : Fin cfg0.N, win0_3.index t = win0_3.index t' → t = t' := (by decide +kernel : ∀ t t' : Fin grid0.N, _)
theorem inj4 : ∀ t t' : Fin cfg0.N, win0_4.index t = win0_4.index t' → t = t' := (by decide +kernel : ∀ t t' : Fin grid0.N, _)

theorem entry (i : Fin 4096) (l : Fin 4608) :
    (show FVec Ideal S4096x4608 .f32 from V m c main_v1) (ix2 i l) = argP m c (ix3 0 i ⟨l, by omega⟩) := by
  unfold Gen.V
  simp only [List.flatten_cons, List.flatten_nil, List.append_nil, List.cons_append, List.nil_append]
  after_reads_at

variable {P : ℕ → ℕ → ℝ} (hP : ∀ (t : Fin 4096) (j : Fin 4616), j.val < 1536 → argP m c (ix3 0 t j) = (P t j : EReal))
include hP

/-- The blocks at a point. -/
theorem in_at (t : Fin cfg0.N) (hN : t.val < 16) : In (fd P (t.val / 4)) (1024 * (t.val % 4)) (grid0.coords t) (iblk m c 0 t) (iblk m c 1 t) (iblk m c 2 t) := by
  obtain ⟨x0, x1, x2, x3, x4⟩ := idx t
  refine ⟨by rw [coord1], fun _ _ => rfl, fun r l => ?_, fun s l => ?_, fun s l => ?_⟩
  · have he : (win0_0.blk t).view.emb (ix2 r l) = ix2 (⟨t.val % 4 * 1024 + r, by omega⟩ : Fin 4096) (⟨t.val / 4 * 128 + l, by omega⟩ : Fin 4608) := by
      blk_ext [x0]
    show (show FVec Ideal S1024x128 .f32 from iblk m c 0 t) (ix2 r l) = _
    blk_simp [iblk]
    rw [he]
    refine (entry m c _ _).trans ((hP _ _ (by show t.val / 4 * 128 + l.val < 1536; omega)).trans ?_)
    show ((P (t.val % 4 * 1024 + r) (t.val / 4 * 128 + l) : ℝ) : EReal) = _
    rw [mul_comm (t.val % 4), mul_comm (t.val / 4)]
    rfl
  · have he : (win0_1.blk t).view.emb (ix2 s l) = ix2 s (⟨512 + (128 * (t.val / 4) + l), by omega⟩ : Fin 4608) := by
      blk_ext [x1]
    show (show FVec Ideal S4096x128 .f32 from iblk m c 1 t) (ix2 s l) = _
    blk_simp [iblk]
    rw [he]
    exact (entry m c _ _).trans (hP _ _ (by show 512 + (128 * (t.val / 4) + l.val) < 1536; omega))
  · have he : (win0_2.blk t).view.emb (ix2 s l) = ix2 s (⟨1024 + (128 * (t.val / 4) + l), by omega⟩ : Fin 4608) := by
      blk_ext [x2]
    show (show FVec Ideal S4096x128 .f32 from iblk m c 2 t) (ix2 s l) = _
    blk_simp [iblk]
    rw [he]
    exact (entry m c _ _).trans (hP _ _ (by show 1024 + (128 * (t.val / 4) + l.val) < 1536; omega))

omit hP in
theorem good_out {D : Dat} {b : ℕ} {o : Vec Ideal S1024x128 .f32 × Vec Ideal S1024x128 .f32} {L3 L4 : List (View.Piece (Elt Ideal) S1024x128 .f32)}
    (g : Good D b L3 L4) (e : o = (rd3 L3, rd4 L4)) (r : Fin 1024) (l : Fin 128) :
    o.1 (ix2 r l) = ((D.av ((l : ℕ) / 64) (b + r) l (b + r) : ℝ) : EReal) ∧ o.2 (ix2 r l) = ((D.T (b + r) ((l : ℕ) / 64) : ℝ) : EReal) := by
  subst e
  exact g r l

/-- What a point leaves in the outputs' buffers. -/
theorem outs (t : Fin cfg0.N) (hN : t.val < 16) (r : Fin 1024) (l : Fin 128) :
    (outsAt m c t).1 (ix2 r l) = (((fd P (t.val / 4)).av ((l : ℕ) / 64) (1024 * (t.val % 4) + r) l (1024 * (t.val % 4) + r) : ℝ) : EReal)
    ∧ (outsAt m c t).2 (ix2 r l) = (((fd P (t.val / 4)).T (1024 * (t.val % 4) + r) ((l : ℕ) / 64) : ℝ) : EReal) := by
  have I := in_at m c hP t hN
  by_cases h : k0_cond1 (grid0.coords t) = 1#1
  · have g : Good (fd P (t.val / 4)) (1024 * (t.val % 4)) (rB m c t h).1 (rB m c t h).2.1 :=
      goodB I c (m0 t) (w0 t) (m1 t) (w1 t) (m2 t) (w2 t) (m3 t) (w3 t) (m4 t) (w4 t) sA (Memref.isWhole_whole _) sC (Memref.isWhole_whole _) sZ (Memref.isWhole_whole _) h (trips2 _)
    have e : outsAt m c t = (rd3 (rB m c t h).1, rd4 (rB m c t h).2.1) := by rw [outsAt, dif_pos h]
    exact good_out g e r l
  · have g : Good (fd P (t.val / 4)) (1024 * (t.val % 4)) (rA m c t h).1 (rA m c t h).2.1 :=
      goodA I c (m0 t) (w0 t) (m1 t) (w1 t) (m2 t) (w2 t) (m3 t) (w3 t) (m4 t) (w4 t) sA (Memref.isWhole_whole _) sC (Memref.isWhole_whole _) sZ (Memref.isWhole_whole _) h (trips1_zero h) (trips2 _)
    have e : outsAt m c t = (rd3 (rA m c t h).1, rd4 (rA m c t h).2.1) := by rw [outsAt, dif_neg h]
    exact good_out g e r l

variable (hz : Low P) (i : Fin 4096) (j : Fin 512)
include hz

theorem y_at : (show FVec Ideal S4096x512 .f32 from (dat m 0 c).arrAt 3 cfg0.N) (ix2 i j)
    = ((∑ s ∈ range 4096, ar P (j / 64) i s * P s (1024 + j) : ℝ) : EReal) := by
  have h16 : cfg0.N = 16 := N_0
  let t : Fin cfg0.N := ⟨4 * (j.val / 128) + i.val / 1024, by omega⟩
  have hq : t.val / 4 = j.val / 128 := by show (4 * (j.val / 128) + i.val / 1024) / 4 = _; omega
  have hr : t.val % 4 = i.val / 1024 := by show (4 * (j.val / 128) + i.val / 1024) % 4 = _; omega
  obtain ⟨x0, x1, x2, x3, x4⟩ := idx t
  rw [hq, hr] at x3
  have he : (win0_3.blk t).view.emb (ix2 (⟨i.val % 1024, by omega⟩ : Fin 1024) (⟨j.val % 128, by omega⟩ : Fin 128)) = ix2 i j := by
    blk_ext [x3]
  have hb := congrFun ((dat m 0 c).read_blk_arrAt_eq_flushed 3 (fun t t' _ _ hne => (cfg0.win 3).disjoint_blk fun h => hne (inj3 t t' h)) cfg0.N t t.isLt (flush3 t))
    (ix2 (⟨i.val % 1024, by omega⟩ : Fin 1024) (⟨j.val % 128, by omega⟩ : Fin 128))
  rw [show (dat m 0 c).flushed 3 t = (cfg0.win 3).cut (grid0.coords t) (outsAt m c t).1 from congrArg ((cfg0.win 3).cut (grid0.coords t)) (aft3 m c t)] at hb
  refine (congrArg ((dat m 0 c).arrAt 3 cfg0.N) he).symm.trans (hb.trans ?_)
  refine Eq.trans (b := (outsAt m c t).1 (ix2 (⟨i.val % 1024, by omega⟩ : Fin 1024) (⟨j.val % 128, by omega⟩ : Fin 128))) rfl ?_
  rw [(outs m c hP t (by omega) _ _).1, hq, hr]
  dsimp only
  rw [show 1024 * (i.val / 1024) + i.val % 1024 = i by omega, av_eq hz (by omega) i.isLt (by omega), show 2 * (j.val / 128) + j.val % 128 / 64 = j.val / 64 by omega,
    show 128 * (j.val / 128) + j.val % 128 = j by omega]

theorem t_at : (show FVec Ideal S4096x512 .f32 from (dat m 0 c).arrAt 4 cfg0.N) (ix2 i j)
    = ((∑ s ∈ range 4096, lr P (j / 64) i s : ℝ) : EReal) := by
  have h16 : cfg0.N = 16 := N_0
  let t : Fin cfg0.N := ⟨4 * (j.val / 128) + i.val / 1024, by omega⟩
  have hq : t.val / 4 = j.val / 128 := by show (4 * (j.val / 128) + i.val / 1024) / 4 = _; omega
  have hr : t.val % 4 = i.val / 1024 := by show (4 * (j.val / 128) + i.val / 1024) % 4 = _; omega
  obtain ⟨x0, x1, x2, x3, x4⟩ := idx t
  rw [hq, hr] at x4
  have he : (win0_4.blk t).view.emb (ix2 (⟨i.val % 1024, by omega⟩ : Fin 1024) (⟨j.val % 128, by omega⟩ : Fin 128)) = ix2 i j := by
    blk_ext [x4]
  have hb := congrFun ((dat m 0 c).read_blk_arrAt_eq_flushed 4 (fun t t' _ _ hne => (cfg0.win 4).disjoint_blk fun h => hne (inj4 t t' h)) cfg0.N t t.isLt (flush4 t))
    (ix2 (⟨i.val % 1024, by omega⟩ : Fin 1024) (⟨j.val % 128, by omega⟩ : Fin 128))
  rw [show (dat m 0 c).flushed 4 t = (cfg0.win 4).cut (grid0.coords t) (outsAt m c t).2 from congrArg ((cfg0.win 4).cut (grid0.coords t)) (aft4 m c t)] at hb
  refine (congrArg ((dat m 0 c).arrAt 4 cfg0.N) he).symm.trans (hb.trans ?_)
  refine Eq.trans (b := (outsAt m c t).2 (ix2 (⟨i.val % 1024, by omega⟩ : Fin 1024) (⟨j.val % 128, by omega⟩ : Fin 128))) rfl ?_
  rw [(outs m c hP t (by omega) _ _).2, hq, hr]
  dsimp only
  rw [show 1024 * (i.val / 1024) + i.val % 1024 = i by omega, T_eq hz (by omega) i.isLt (by omega), show 2 * (j.val / 128) + j.val % 128 / 64 = j.val / 64 by omega]

end Cert.FwdProof
end
-- ==== Proof.FwdRef.lean ====
module

public import proofs.«01_k».proof.Proof.Gen.FwdReferenceIdeal.Read
public import proofs.«01_k».proof.Proof.SbSoft
public import proofs.«01_k».proof.Proof.SbCum

/-! The reference's program for stick-breaking attention, read a value at a time: on a real projection each of its values is
the real of the same meaning in `SbPlain`. -/

@[expose] public section
set_option maxRecDepth 16384
noncomputable section

namespace Cert.FwdRef
open Idealize.ShloMosaic Idealize.ShloMosaic.TcCoe Idealize.SL.Sem Cert.Reals Cert.SbMath Cert.SbMath.Dat
open Cert.FwdReferenceIdeal Cert.FwdReferenceIdeal.Read
open Cert.SbProof (zr sg lr er ar lt_bit softplus masked sum_fin from_on window_sum)

variable {P : ℕ → ℕ → ℝ} {x0 : FVec Ideal S1x4096x4616 .f32}

theorem r26 (t s : Fin 4096) : val_main_v26 (F := Ideal) (ix2 t s) = bit ((s : ℕ) < t) := by
  rw [← lt_bit s.isLt t.isLt]
  pointwise [val_main_v26, val_main_v24, val_main_v25, val_main_v21, val_main_v20, val_main_v22, val_main_v23]

section
variable (hP : ∀ (t : Fin 4096) (j : Fin 4616), j.val < 1536 → x0 (ix3 0 t j) = (P t j : EReal)) (h : Fin 8) (t s : Fin 4096) (d : Fin 64)
include hP

theorem r12 : val_main_v12 (F := Ideal) x0 (ix4 0 h t d) = (P t (64 * h + d) : EReal) := by
  rw [mul_comm, ← hP t ⟨h.val * 64 + d.val, by omega⟩ (by show h.val * 64 + d.val < 1536; omega)]
  pointwise [val_main_v12, val_main_v11, val_main_v0]
theorem r14 : val_main_v14 (F := Ideal) x0 (ix4 0 h t d) = (P t (512 + (64 * h + d)) : EReal) := by
  rw [mul_comm, ← hP t ⟨512 + (h.val * 64 + d.val), by omega⟩ (by show 512 + (h.val * 64 + d.val) < 1536; omega)]
  pointwise [val_main_v14, val_main_v13, val_main_v1]
theorem r16 : val_main_v16 (F := Ideal) x0 (ix4 0 h t d) = (P t (1024 + (64 * h + d)) : EReal) := by
  rw [mul_comm, ← hP t ⟨1024 + (h.val * 64 + d.val), by omega⟩ (by show 1024 + (h.val * 64 + d.val) < 1536; omega)]
  pointwise [val_main_v16, val_main_v15, val_main_v2]
theorem r19 : val_main_v19 (F := Ideal) x0 (ix4 0 h t s) = (zr P h t s : EReal) := by
  have e : val_main_v19 (F := Ideal) x0 (ix4 0 h t s) = (∑ d : Fin 64, val_main_v12 (F := Ideal) x0 (ix4 0 h t d)
      * val_main_v14 (F := Ideal) x0 (ix4 0 h s d)) * Ideal.ofBits .f32 0x3E000000#32 := by
    pointwise [val_main_v19, val_main_v17, val_main_v18, val_main_cst]
  rw [e, bits_eighth, zr, EReal.coe_mul, coe_sum]
  refine congrArg (· * _) (Finset.sum_congr rfl fun d _ => ?_)
  rw [r12 hP, r14 hP, EReal.coe_mul]
theorem rsp : val_main_call0_v1 (F := Ideal) x0 (ix4 0 h t s) = (sg P h t s : EReal) := by
  rw [sg, ← softplus, EReal.coe_neg, ← r19 hP]
  pointwise [val_main_call0_v1, val_main_call0_call0_v4, val_main_call0_call0_v6, val_main_call0_call0_v11, val_main_call0_call0_v10,
    val_main_call0_call0_v9, val_main_call0_call0_v8, val_main_call0_call0_v7, val_main_call0_call0_v5, val_main_call0_call0_v3,
    val_main_call0_call0_v2, val_main_call0_call0_v1, val_main_call0_call0_v0, val_main_call0_call0_cst, val_main_call0_v0]
theorem r29 : val_main_v29 (F := Ideal) x0 (ix4 0 h t s) = (lr P h t s : EReal) := by
  have e : val_main_v29 (F := Ideal) x0 (ix4 0 h t s) = Scalar.select (val_main_v26 (F := Ideal) (ix2 t s))
      (-val_main_call0_v1 (F := Ideal) x0 (ix4 0 h t s) - val_main_v19 (F := Ideal) x0 (ix4 0 h t s)) 0 := by
    pointwise [val_main_v29, val_main_v28, val_main_v27, val_main_call1_v2, val_main_call1_v1, val_main_call1_v0, val_main_cst_0]
    rw [show (id (constant (F := Ideal) S_ .f32 0#32) ix0 : EReal) = 0 from Ideal.ofBits_zero .f32]
  rw [e, r26, rsp hP, r19 hP, ← EReal.coe_neg, ← EReal.coe_sub, masked, lr]
theorem r30 : val_main_v30 (F := Ideal) x0 (ix4 0 h t s)
    = ((∑ x ∈ Finset.range 4096, lr P h t x - ∑ x ∈ Finset.range s, lr P h t x : ℝ) : EReal) := by
  rw [← from_on (fun x => lr P h t x) s.isLt]
  unfold val_main_v30 Host.reduceWindowAdd
  show Ideal.hostReduceWindowAdd (![1, 1, 1, 4096] : Fin 4 → ℕ) ![1, 1, 1, 1] ![0, 0, 0, 0] ![0, 0, 0, 4095]
    Gen.reduceWindows_S1x8x4096x4096_S1x8x4096x4096_w1s1p0_0_w1s1p0_0_w1s1p0_0_w4096s1p0_4095 (val_main_v29 (F := Ideal) x0)
    (val_main_call2_v0 (F := Ideal) (Shape.Idx.first Gen.h_S_)) (ix4 0 h t s) = _
  exact window_sum (A := 8) (B := 4096) (N := 4096) 0 4095 (val_main_v29 (F := Ideal) x0) (fun x => lr P h t x) h t (r29 hP h t) (val_main_call2_v0 (F := Ideal) (Shape.Idx.first Gen.h_S_))
    (Ideal.ofBits_zero .f32) Gen.reduceWindows_S1x8x4096x4096_S1x8x4096x4096_w1s1p0_0_w1s1p0_0_w1s1p0_0_w4096s1p0_4095 s
theorem r34 : val_main_v34 (F := Ideal) x0 (ix4 0 h t s) = (ar P h t s : EReal) := by
  have e : val_main_v34 (F := Ideal) x0 (ix4 0 h t s) = Scalar.select (val_main_v26 (F := Ideal) (ix2 t s))
      (Ideal.exp (-val_main_call0_v1 (F := Ideal) x0 (ix4 0 h t s)
        + (val_main_v30 (F := Ideal) x0 (ix4 0 h t s) - val_main_v29 (F := Ideal) x0 (ix4 0 h t s)))) 0 := by
    pointwise [val_main_v34, val_main_v33, val_main_v32, val_main_v31, val_main_v27, val_main_call3_v2, val_main_call3_v1, val_main_call3_v0, val_main_cst_1]
    rw [show (id (constant (F := Ideal) S_ .f32 0#32) ix0 : EReal) = 0 from Ideal.ofBits_zero .f32]
  rw [e, r26, rsp hP, r30 hP, r29 hP, ← EReal.coe_neg, ← EReal.coe_sub, ← EReal.coe_add, exp_e, masked, ar, er]

/-- The attention's output. -/
theorem ref_y : val_main_v52 (F := Ideal) x0 (ix2 t ⟨h.val * 64 + d.val, by omega⟩)
      = ((∑ s ∈ Finset.range 4096, ar P h t s * P s (1024 + (64 * h + d)) : ℝ) : EReal) := by
  have e : val_main_v52 (F := Ideal) x0 (ix2 t ⟨h.val * 64 + d.val, by omega⟩)
      = ∑ s : Fin 4096, val_main_v34 (F := Ideal) x0 (ix4 0 h t s) * val_main_v16 (F := Ideal) x0 (ix4 0 h s d) := by
    pointwise [val_main_v52, val_main_v37, val_main_v36, val_main_v35]
  rw [e]
  exact sum_fin _ _ fun s => by rw [r34 hP, r16 hP, ← EReal.coe_mul]
/-- The log of what each query leaves. -/
theorem ref_t : val_main_v56 (F := Ideal) x0 (ix2 t ⟨h.val * 64 + d.val, by omega⟩)
      = ((∑ s ∈ Finset.range 4096, lr P h t s : ℝ) : EReal) := by
  have e : val_main_v56 (F := Ideal) x0 (ix2 t ⟨h.val * 64 + d.val, by omega⟩)
      = val_main_cst_4 (F := Ideal) (Shape.Idx.first Gen.h_S_) + ∑ s : Fin 4096, val_main_v50 (F := Ideal) x0 (ix4 0 h t s) := by
    pointwise [val_main_v56, val_main_v55, val_main_v54, val_main_v53, val_main_v51]
  rw [e, show val_main_cst_4 (F := Ideal) (Shape.Idx.first Gen.h_S_) = (0 : EReal) from Ideal.ofBits_zero .f32, zero_add]
  exact sum_fin _ _ fun s => r29 hP h t s
end

end Cert.FwdRef
end
-- ==== Proof.FwdClaim.lean ====
module

public import proofs.«01_k».proof.Defs
public import proofs.«01_k».proof.Proof.SbClaim
public import proofs.«01_k».proof.Proof.FwdEnd
public import proofs.«01_k».proof.Proof.FwdRef
public import proofs.«01_k».proof.Proof.Gen.FwdReferenceIdeal.Run
public import proofs.«01_k».proof.Proof.Gen.FwdReferenceIdeal.Read

/-! Stick-breaking attention's forward claims: the precondition read as real entries and scores of at least -80, and the
value claim. -/

@[expose] public section
set_option maxRecDepth 16384
noncomputable section

namespace Cert.FwdProof
open Idealize.ShloMosaic Idealize.ShloMosaic.TcCoe Idealize.SL.Sem Cert.Reals Cert.SbMath
open Cert.SbProof (zr Low lt_bit realP coe_of_real bits_m80)

theorem preFacts : Cert.Pre_fwd_in.Facts := by
  constructor <;> decide

attribute [local instance] preFacts Cert.FwdKernelIdeal.Gen.facts Cert.FwdReferenceIdeal.Gen.facts

section
open Cert.FwdKernelIdeal Cert.FwdKernelIdeal.Gen
variable (m : (ℓ : Loc nD τ sig) → Buf (Elt Ideal) ℓ) (h : Cert.Pre_FwdKernelIdeal_fwd_in m) (c : Dev nD)
include h

theorem realsP (t : Fin 4096) (j : Fin 4616) (hj : j.val < 1536) : argP m c (ix3 0 t j) = (realP (argP m c) t j : EReal) := by
  have k : (Cert.Pre_fwd_in.fn (F := Ideal) (argP m c)).1 (ix3 0 t ⟨j, hj⟩)
      = Ideal.cmp .olt (max (argP m c (ix3 0 t j)) (-argP m c (ix3 0 t j))) (Ideal.ofBits .f32 0x7F800000#32) := by
    pointwise [Cert.Pre_fwd_in.fn, Cert.Pre_fwd_in.fn_part1]
    rfl
  have e : IsReal (argP m c (ix3 0 t j)) := isReal_of_abs_lt (k.symm.trans (congrFun (h c).1 (ix3 0 t ⟨j, hj⟩)))
  rw [realP, dif_pos ⟨t.isLt, j.isLt⟩]
  exact coe_of_real e

theorem score (hd : Fin 8) (t s : Fin 4096) :
    (∑ x : Fin 64, argP m c (ix3 0 t ⟨hd.val * 64 + x.val, by omega⟩) * argP m c (ix3 0 s ⟨512 + (hd.val * 64 + x.val), by omega⟩))
      * Ideal.ofBits .f32 0x3E000000#32 = (zr (realP (argP m c)) hd t s : EReal) := by
  rw [Dat.bits_eighth, zr, EReal.coe_mul, coe_sum]
  refine congrArg (· * _) (Finset.sum_congr rfl fun d _ => ?_)
  rw [realsP m h c _ _ (show hd.val * 64 + d.val < 1536 by omega), realsP m h c _ _ (show 512 + (hd.val * 64 + d.val) < 1536 by omega), EReal.coe_mul]
  show ((realP (argP m c) t (hd.val * 64 + d.val) : ℝ) : EReal) * ((realP (argP m c) s (512 + (hd.val * 64 + d.val)) : ℝ) : EReal) = _
  rw [mul_comm hd.val 64]

theorem low : Low (realP (argP m c)) := by
  intro hd t s hh ht hs
  have e := congrFun (h c).2 (ix4 0 ⟨hd, hh⟩ ⟨t, ht⟩ ⟨s, by omega⟩)
  have e' : (Cert.Pre_fwd_in.fn (F := Ideal) (argP m c)).2 (ix4 0 ⟨hd, hh⟩ ⟨t, ht⟩ ⟨s, by omega⟩)
      = BitVec.ofBool (decide (Ideal.ofBits .f32 0xC2A00000#32 ≤ Scalar.select (IntOp.cmpi .slt (BitVec.ofNat 32 s) (BitVec.ofNat 32 t))
          ((∑ x : Fin 64, argP m c (ix3 0 ⟨t, ht⟩ ⟨hd * 64 + x.val, by omega⟩) * argP m c (ix3 0 ⟨s, by omega⟩ ⟨512 + (hd * 64 + x.val), by omega⟩))
            * Ideal.ofBits .f32 0x3E000000#32) 0)) := by
    pointwise [Cert.Pre_fwd_in.fn, Cert.Pre_fwd_in.fn_part1, Cert.Pre_fwd_in.fn_where]
    rw [show (id (constant (F := Ideal) Cert.Pre_fwd_in.S_ .f32 0#32) ix0 : EReal) = 0 from Ideal.ofBits_zero .f32]
  have sc : _ = ((zr (realP (argP m c)) hd t s : ℝ) : EReal) := score m h c ⟨hd, hh⟩ ⟨t, ht⟩ ⟨s, by omega⟩
  dsimp only at sc
  rw [sc, lt_bit (by omega) ht, Dat.sel_pos hs, bits_m80] at e'
  have e2 := e'.symm.trans e
  by_contra hn
  rw [decide_eq_false (fun hc => hn (EReal.coe_le_coe_iff.1 hc))] at e2
  exact absurd e2 (by decide)

open Cert.FwdReferenceIdeal.Read

theorem res0 : val_main_v52 (F := Ideal) (argP m c) = (show FVec Ideal S4096x512 .f32 from (dat m 0 c).arrAt 3 cfg0.N) := by
  funext i
  obtain ⟨r, l, rfl⟩ : ∃ (r : Fin 4096) (l : Fin 512), i = ix2 r l := ⟨i 0, i 1, eq_ix2 i⟩
  refine Eq.trans ?_ (y_at m c (realsP m h c) (low m h c) r l).symm
  have e := FwdRef.ref_y (realsP m h c) ⟨l / 64, by omega⟩ r ⟨l % 64, by omega⟩
  dsimp only at e
  simp only [show l.val / 64 * 64 + l.val % 64 = l.val by omega, show 64 * (l.val / 64) + l.val % 64 = l.val by omega] at e
  exact e

theorem res1 : val_main_v56 (F := Ideal) (argP m c) = (show FVec Ideal S4096x512 .f32 from (dat m 0 c).arrAt 4 cfg0.N) := by
  funext i
  obtain ⟨r, l, rfl⟩ : ∃ (r : Fin 4096) (l : Fin 512), i = ix2 r l := ⟨i 0, i 1, eq_ix2 i⟩
  refine Eq.trans ?_ (t_at m c (realsP m h c) (low m h c) r l).symm
  have e := FwdRef.ref_t (realsP m h c) ⟨l / 64, by omega⟩ r ⟨l % 64, by omega⟩
  dsimp only at e
  simp only [show l.val / 64 * 64 + l.val % 64 = l.val by omega] at e
  exact e
end

section
open Cert.FwdKernelIdeal Cert.FwdKernelIdeal.Gen

theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v2_0) = (dat m 0 c).arrAt 3 cfg0.N
      ∧ r.2.mem ((c.tc : Thread nD τ).loc main_v2_1) = (dat m 0 c).arrAt 4 cfg0.N
      ∧ r.2.mem ((c.tc : Thread nD τ).loc main_arg0) = m ((c.tc : Thread nD τ).loc main_arg0)) :=
  (θ_run _ _ _).mono (fun r h c => ⟨(h c).1 3, (h c).1 4,
    ((h c).2 main_arg0 (Pipeline.mem_restRefs_of main_arg0 (by decide) (by decide))).trans (V_main_arg0 m c)⟩) (run_main m g)
end

theorem algebraic : Cert.algebraic_FwdKernelIdeal_FwdReferenceIdeal_pre_fwd_in := by
  intro m g m' g' hpre hag
  refine ⟨fun c => (dat m 0 c).arrAt 3 Cert.FwdKernelIdeal.cfg0.N, fun c => (dat m 0 c).arrAt 4 Cert.FwdKernelIdeal.cfg0.N, kernel_run m g, ?_⟩
  refine (θ_run _ _ _).mono (fun r h c => ?_) (Cert.FwdReferenceIdeal.Value.run m' g')
  obtain ⟨h0, h1, hrest⟩ := h c
  refine ⟨h0.trans ?_, h1.trans ?_, hrest⟩
  · rw [Cert.FwdReferenceIdeal.Read.val_main_v52_eq, hag c]
    exact res0 m hpre c
  · rw [Cert.FwdReferenceIdeal.Read.val_main_v56_eq, hag c]
    exact res1 m hpre c

theorem frameR : Cert.quiescent_FwdReferenceIdeal := by
  intro m g _
  exact (θ_run _ _ _).mono (fun r h => ⟨fun c => (h c).2.2, sem_eq_zero_of_no_sems (by decide) r.2⟩)
    (Cert.FwdReferenceIdeal.Value.run m g)

end Cert.FwdProof
end
-- ==== Proof.PrepPoint.lean ====
module

public import proofs.«01_k».proof.Proof.ConvPoint
public import proofs.«01_k».proof.Proof.Gen.PrepKernelIdeal.Value

/-! What the convolution's forward kernel leaves at one grid point: a block of columns of the convolution after its SiLU, or a block of the values' columns as they are. -/

@[expose] public section
set_option maxRecDepth 16384
noncomputable section

namespace Cert.PrepProof
open Idealize.ShloMosaic Idealize.ShloMosaic.TcCoe
open Cert.PrepKernelIdeal Cert.PrepKernelIdeal.Gen Cert.ConvMath
open Cert.ConvProof (pre cur prev wv bv inb256 conv_at curOf prevOf wvOf bvOf store_in store_out rows_at)

/-- The SiLU of a block, scaled by the point's number. -/
def post (i : grid0.Coords) (z : FVec Ideal S256x128 .f32) : FVec Ideal S256x128 .bf16 :=
  truncf .bf16 (mulf (mulf z (logistic z)) (broadcast S256x128 (k0_pay1 (F := Ideal) i))) bitsLt_bf16_f32

variable (c : Dev nD) (i : grid0.Coords) (arg1 : Memref sig .tc .vmem S4096x128 .f32) (harg1 : arg1.IsWhole) (arg2 : Memref sig .tc .vmem S4x128 .f32) (harg2 : arg2.IsWhole)
  (arg3 : Memref sig .tc .vmem S1x128 .f32) (harg3 : arg3.IsWhole) (arg4 : Memref sig .tc .vmem S4096x128 .bf16) (harg4 : arg4.IsWhole)
  (x0 : Vec Ideal S4096x128 .f32) (x1 : Vec Ideal S4x128 .f32) (x2 : Vec Ideal S1x128 .f32)

/-- The stores of a point of the convolution, the last one first. -/
def stores : (n : ℕ) → n ≤ 16 → List (View.Piece (Elt Ideal) S4096x128 .bf16)
  | 0, _ => []
  | n + 1, h => ⟨Rect.unit (s := S4096x128) ![256 * n, 0] S256x128.size (inb256 n h),
      post i (pre (wv arg2 harg2 x1) (bv arg3 harg3 x2) (prev arg1 harg1 x0 n h) (cur arg1 harg1 x0 n h))⟩ :: stores n (Nat.le_of_succ_le h)

theorem run_A (hc0 : cond0_0 i) (hc1 : ¬cond0_1 i) :
    (kernelRun0_A (F := Ideal) c i arg1 harg1 arg2 harg2 arg3 harg3 arg4 harg4 hc0 hc1 x0 x1 x2).1 = stores i arg1 harg1 arg2 harg2 arg3 harg3 x0 x1 x2 16 le_rfl := by
  unfold kernelRun0_A
  rfl

/-- The block as it is. -/
def whole : FVec Ideal S4096x128 .bf16 :=
  truncf .bf16 (shapeCast S4096x128 (arg1.view.readAt (Elt Ideal) (Rect.unit (s := S4096x128) ![0, 0] S4096x128.size inb_S4096x128_S4096x128_0_0).toLoadRect (harg1.unread x0)) shapeCasts_S4096x128_S4096x128) bitsLt_bf16_f32

theorem run_B (hc0 : ¬cond0_0 i) (hc1 : cond0_1 i) :
    (kernelRun0_B (F := Ideal) c i arg1 harg1 arg2 harg2 arg3 harg3 arg4 harg4 hc0 hc1 x0 x1 x2).1
      = [(⟨Rect.unit (s := S4096x128) ![0, 0] S4096x128.size inb_S4096x128_S4096x128_0_0, whole arg1 harg1 x0⟩ : View.Piece (Elt Ideal) S4096x128 .bf16)] := by
  unfold kernelRun0_B
  rfl

theorem whole_at (t : Fin 4096) (l : Fin 128) : whole arg1 harg1 x0 (ix2 t l) = x0 (ix2 t l) := by
  refine Eq.trans (b := (shapeCast S4096x128 (arg1.view.readAt (Elt Ideal) (Rect.unit (s := S4096x128) ![0, 0] S4096x128.size inb_S4096x128_S4096x128_0_0).toLoadRect (harg1.unread x0)) shapeCasts_S4096x128_S4096x128) (ix2 t l)) rfl ?_
  refine (congrFun (shapeCast_self _ _) _).trans ?_
  refine (rows_at (n := 4096) arg1.view (harg1.unread x0) 0 inb_S4096x128_S4096x128_0_0 t l (by omega)).trans ?_
  rw [harg1.read_unread x0]
  exact congrArg (fun k => x0 (ix2 k l)) (Fin.ext (Nat.zero_add _))

variable {Y V : ℕ → ℕ → EReal} {A : ℕ → EReal}
  (h0 : ∀ (r : Fin 4096) (l : Fin 128), x0 (ix2 r l) = Y r l) (h1 : ∀ (j : Fin 4) (l : Fin 128), x1 (ix2 j l) = V j l) (h2 : ∀ l : Fin 128, x2 (ix2 0 l) = A l)
include h0 h1 h2

theorem stores_at {sig : RefSig} {κ : Kind} {sp : Space} (v : View sig κ sp S4096x128 .bf16) (f : v.ty.Contents (Elt Ideal)) :
    ∀ (n : ℕ) (hn : n ≤ 16) (t : Fin 4096) (l : Fin 128), t.val < 256 * n →
      v.read (Elt Ideal) (v.writes (Elt Ideal) f (stores i arg1 harg1 arg2 harg2 arg3 harg3 x0 x1 x2 n hn)) (ix2 t l) = act Y V A t l * (k0_pay1 (F := Ideal) i : EReal)
  | 0, _, t, l, ht => absurd ht (by omega)
  | n + 1, hn, t, l, ht => by
    unfold stores
    by_cases h : t.val < 256 * n
    · exact (store_out (n := 256) v f (256 * n) (inb256 n hn) _ _ t l h).trans (stores_at v f n _ t l h)
    · refine (store_in (n := 256) v f (256 * n) (inb256 n hn) _ _ t l ⟨t.val - 256 * n, by omega⟩ (by show t.val = 256 * n + (t.val - 256 * n); omega)).trans ?_
      have e : pre (wv arg2 harg2 x1) (bv arg3 harg3 x2) (prev arg1 harg1 x0 n hn) (cur arg1 harg1 x0 n hn) (ix2 (⟨t.val - 256 * n, by omega⟩ : Fin 256) l) = ce Y V A t l := by
        rw [conv_at (prevOf arg1 harg1 x0 h0 n hn) (curOf arg1 harg1 x0 h0 n hn) (wvOf arg2 harg2 x1 h1) (bvOf arg3 harg3 x2 h2)]
        show ce Y V A (256 * n + (t.val - 256 * n)) l = _
        rw [show 256 * n + (t.val - 256 * n) = t.val by omega]
      generalize pre (wv arg2 harg2 x1) (bv arg3 harg3 x2) (prev arg1 harg1 x0 n hn) (cur arg1 harg1 x0 n hn) = z at e ⊢
      show z (ix2 _ l) * Ideal.logistic (z (ix2 _ l)) * (k0_pay1 (F := Ideal) i : EReal) = _
      rw [e]
      rfl

end Cert.PrepProof
-- ==== Proof.PrepBlk.lean ====
module

public import proofs.«01_k».proof.Proof.PrepPoint
public import Idealize.ShloMosaic.Lib.Claim
public import Idealize.ShloMosaic.Lib.StableHlo.ReadAt

/-! What the convolution's forward kernel leaves in its result, as a function of the arguments. -/

@[expose] public section
set_option maxRecDepth 16384
noncomputable section

namespace Cert.PrepProof
open Idealize.ShloMosaic Idealize.ShloMosaic.TcCoe Idealize.SL.Sem
open Cert.PrepKernelIdeal Cert.PrepKernelIdeal.Gen Cert.ConvMath
open Cert.ConvProof (store_in)

theorem colLt (j : Fin 1536) : 2048 + j.val < 4616 := by omega

variable (m : (ℓ : Loc nD τ sig) → Buf (Elt Ideal) ℓ)

abbrev argP (c : Dev nD) : FVec Ideal S1x4096x4616 .f32 := m ((c : Thread nD τ).loc main_arg0)
abbrev argW (c : Dev nD) : FVec Ideal S1x4x1024 .f32 := m ((c : Thread nD τ).loc main_arg1)
abbrev argB (c : Dev nD) : FVec Ideal S1x1024 .f32 := m ((c : Thread nD τ).loc main_arg2)

/-- The index maps of the windows, decided over the grid. -/
theorem idx : ∀ t : Fin cfg0.N, win0_0.index t = ![0, 16 + t.val] ∧ win0_1.index t = ![0, min t.val 7] ∧ win0_2.index t = ![0, min t.val 7] ∧ win0_3.index t = ![0, t.val] :=
  (by decide +kernel : ∀ t : Fin grid0.N, _)

theorem lt4 : ∀ t : Fin cfg0.N, (Scalar.cmpi .slt (BitVec.ofNat 32 (grid0.coords t 0).val) 4#32) = BitVec.ofBool (decide (t.val < 4)) :=
  (by decide +kernel : ∀ t : Fin grid0.N, _)

theorem flush3 : ∀ t : Fin cfg0.N, (cfg0.win 3).flush t = true := (by decide +kernel : ∀ t : Fin grid0.N, _)

theorem e1 (c : Dev nD) (i : Fin 4096) (l : Fin 4608) :
    (show FVec Ideal S4096x4608 .f32 from V m c main_v1) (ix2 i l) = argP m c (ix3 0 i ⟨l, by omega⟩) := by
  unfold Gen.V
  simp only [List.flatten_cons, List.flatten_nil, List.append_nil, List.cons_append, List.nil_append]
  after_reads_at

theorem e2 (c : Dev nD) (j : Fin 4) (l : Fin 1024) :
    (show FVec Ideal S4x1024 .f32 from V m c main_v2) (ix2 j l) = argW m c (ix3 0 j l) := by
  unfold Gen.V
  simp only [List.flatten_cons, List.flatten_nil, List.append_nil, List.cons_append, List.nil_append]
  after_reads_at

theorem eB (c : Dev nD) (l : Fin 1024) :
    (show FVec Ideal S1x1024 .f32 from V m c main_arg2) (ix2 0 l) = argB m c (ix2 0 l) := by
  unfold Gen.V
  simp only [List.flatten_cons, List.flatten_nil, List.append_nil, List.cons_append, List.nil_append]
  after_reads_at

variable {Y V : ℕ → ℕ → EReal} {A : ℕ → EReal} (c : Dev nD)
  (hY : ∀ (t : Fin 4096) (j : Fin 1536), argP m c (ix3 0 t ⟨2048 + j, colLt j⟩) = Y t j)
  (hV : ∀ (j : Fin 4) (l : Fin 1024), argW m c (ix3 0 j l) = V j l)
  (hA : ∀ l : Fin 1024, argB m c (ix2 0 l) = A l)

include hY in
theorem sx (t : Fin cfg0.N) (hN : t.val < 12) (r : Fin 4096) (l : Fin 128) :
    (show FVec Ideal S4096x128 .f32 from iblk m c 0 t) (ix2 r l) = (fun r l => Y r (128 * t.val + l)) r l := by
  obtain ⟨x0, x1, x2, x3⟩ := idx t
  have he : (win0_0.blk t).view.emb (ix2 r l) = ix2 r (⟨2048 + (128 * t.val + l), by omega⟩ : Fin 4608) := by
    blk_ext [x0]
  blk_simp [iblk]
  rw [he]
  exact (e1 m c _ _).trans (hY r ⟨128 * t.val + l, by omega⟩)

include hV in
theorem sw (t : Fin cfg0.N) (hN : t.val < 8) (j : Fin 4) (l : Fin 128) :
    (show FVec Ideal S4x128 .f32 from iblk m c 1 t) (ix2 j l) = (fun r l => V r (128 * t.val + l)) j l := by
  obtain ⟨x0, x1, x2, x3⟩ := idx t
  have he : (win0_1.blk t).view.emb (ix2 j l) = ix2 j (⟨128 * t.val + l, by omega⟩ : Fin 1024) := by
    blk_ext [x1]
  blk_simp [iblk]
  rw [he]
  exact (e2 m c _ _).trans (hV j ⟨128 * t.val + l, by omega⟩)

include hA in
theorem sb (t : Fin cfg0.N) (hN : t.val < 8) (l : Fin 128) :
    (show FVec Ideal S1x128 .f32 from iblk m c 2 t) (ix2 0 l) = (fun l => A (128 * t.val + l)) l := by
  obtain ⟨x0, x1, x2, x3⟩ := idx t
  have he : (win0_2.blk t).view.emb (ix2 0 l) = ix2 0 (⟨128 * t.val + l, by omega⟩ : Fin 1024) := by
    blk_ext [x2]
  blk_simp [iblk]
  rw [he]
  exact (eB m c _).trans (hA ⟨128 * t.val + l, by omega⟩)

/-- The result: the queries' and the keys' halves after the SiLU, the keys scaled, then the values as they are. -/
def out (Y V : ℕ → ℕ → EReal) (A : ℕ → EReal) (t j : ℕ) : EReal :=
  if j < 512 then act Y V A t j else if j < 1024 then act Y V A t j * Ideal.ofBits .f32 0x3DB504F3#32 else Y t j

include hY hV hA

/-- One grid point's block of the result. -/
theorem block (t : Fin cfg0.N) (hN : t.val < 12) (r : Fin 4096) (l : Fin 128) :
    (show FVec Ideal S4096x128 .bf16 from outsAt0 m c t.val t.isLt) (ix2 r l) = out Y V A r (128 * t.val + l) := by
  unfold out
  by_cases h : t.val < 8
  · rw [outsAt0_A m c t h (by omega)]
    unfold out0_A_3
    rw [run_A]
    refine (stores_at (Y := fun r l => Y r (128 * t.val + l)) (V := fun r l => V r (128 * t.val + l)) (A := fun l => A (128 * t.val + l)) (grid0.coords t) (ms0_0 t) (hs0_0 t) (ms0_1 t) (hs0_1 t) (ms0_2 t) (hs0_2 t)
      (iblk m c 0 t) (iblk m c 1 t) (iblk m c 2 t) (sx m c hY t hN) (sw m c hV t h) (sb m c hA t h) VO0_3 VO0_3.junk 16 le_rfl r l (by omega)).trans ?_
    show act Y V A r (128 * t.val + l.val) * (Scalar.select (Scalar.cmpi .slt (BitVec.ofNat 32 (grid0.coords t 0).val) 4#32) (Ideal.ofBits .f32 0x3F800000#32) (Ideal.ofBits .f32 0x3DB504F3#32) : EReal) = _
    rw [lt4]
    by_cases h4 : t.val < 4
    · rw [decide_eq_true h4, if_pos (by omega)]
      show _ * Ideal.ofBits .f32 0x3F800000#32 = _
      rw [show Ideal.ofBits .f32 0x3F800000#32 = 1 by simp [Ideal.ofBits, Ideal.ieee, -EReal.coe_mul]; norm_num, mul_one]
    · rw [decide_eq_false h4, if_neg (by omega), if_pos (by omega)]
      rfl
  · rw [outsAt0_B m c t h (by omega), if_neg (by omega), if_neg (by omega)]
    unfold out0_B_3
    rw [run_B]
    refine (store_in (n := 4096) VO0_3 VO0_3.junk 0 inb_S4096x128_S4096x128_0_0 _ [] r l r (Nat.zero_add _).symm).trans ?_
    exact (whole_at (ms0_0 t) (hs0_0 t) (iblk m c 0 t) r l).trans (sx m c hY t hN r l)

theorem out_at (i : Fin 4096) (j : Fin 1536) :
    (show FVec Ideal S4096x1536 .bf16 from (dats m 0 c).arrAt 3 cfg0.N) (ix2 i j) = out Y V A i j := by
  have h12 : cfg0.N = 12 := N_0
  let t : Fin cfg0.N := ⟨j.val / 128, by omega⟩
  have hN : t.val < 12 := by show j.val / 128 < 12; omega
  obtain ⟨x0, x1, x2, x3⟩ := idx t
  have he : (win0_3.blk t).view.emb (ix2 i (⟨j.val % 128, by omega⟩ : Fin 128)) = ix2 i j := by
    have hj : 128 * t.val + j.val % 128 = j.val := by show 128 * (j.val / 128) + j.val % 128 = j.val; omega
    blk_ext [x3]
  have hb := congrFun (Value.blocks3 m c t (flush3 t)) (ix2 i (⟨j.val % 128, by omega⟩ : Fin 128))
  rw [Value.flushed3] at hb
  refine (congrArg ((dats m 0 c).arrAt 3 cfg0.N) he).symm.trans (hb.trans ?_)
  refine Eq.trans (b := (outsAt0 m c t.val t.isLt) (ix2 i (⟨j.val % 128, by omega⟩ : Fin 128))) rfl ?_
  refine (block m c hY hV hA t hN i ⟨j.val % 128, by omega⟩).trans ?_
  show out Y V A i (128 * (j.val / 128) + j.val % 128) = _
  rw [show 128 * (j.val / 128) + j.val % 128 = j.val by omega]

end Cert.PrepProof
-- ==== Proof.PrepRef.lean ====
module

public import proofs.«01_k».proof.Proof.PrepBlk
public import proofs.«01_k».proof.Proof.Gen.PrepReferenceIdeal.Run
public import proofs.«01_k».proof.Proof.Gen.PrepReferenceIdeal.Read

/-! The reference's convolution after its SiLU, read entry by entry. -/

@[expose] public section
set_option maxRecDepth 16384
noncomputable section

namespace Cert.PrepRef
open Idealize.ShloMosaic Cert.PrepReferenceIdeal Cert.PrepReferenceIdeal.Read Cert.ConvMath
open Cert.PrepProof (out colLt)

attribute [local instance] Cert.PrepReferenceIdeal.Gen.facts

variable {Y V : ℕ → ℕ → EReal} {A : ℕ → EReal} {x0 : FVec Ideal S1x4096x4616 .f32} {x1 : FVec Ideal S1x4x1024 .f32} {x2 : FVec Ideal S1x1024 .f32}
  (hY : ∀ (t : Fin 4096) (j : Fin 1536), x0 (ix3 0 t ⟨2048 + j, colLt j⟩) = Y t j)
  (hV : ∀ (j : Fin 4) (l : Fin 1024), x1 (ix3 0 j l) = V j l)
  (hA : ∀ l : Fin 1024, x2 (ix2 0 l) = A l)

include hY

/-- The convolution's input. -/
theorem input (t : Fin 4096) (l : Fin 1024) : val_main_v11 (F := Ideal) x0 (ix3 0 t l) = Y t l := by
  refine Eq.trans ?_ (hY t ⟨l, by omega⟩)
  unfold val_main_v11
  pointwise [val_main_v4, val_main_v5]
  split
  · rfl
  · exact congrArg (fun k => x0 (ix3 0 t k)) (Fin.ext (by show 2560 + (l.val - 512) = 2048 + l.val; omega))

/-- The input with its rows of zeros. -/
theorem up (u : Fin 4099) (l : Fin 1024) : val_main_v14 (F := Ideal) x0 (ix3 0 u l) = xz Y (u + 5) l := by
  unfold xz
  have hi := input hY
  unfold val_main_v14
  generalize val_main_v11 (F := Ideal) x0 = y at hi ⊢
  by_cases h : u.val < 3
  · rw [if_pos (by omega)]
    refine Eq.trans (b := (((0#32 : BitVec 32).toInt : ℝ) : EReal)) ?_ (by simp)
    pointwise [val_main_call0_v0, val_main_c]
    exact dif_neg (by omega)
  · rw [if_neg (by omega)]
    refine Eq.trans ?_ (hi ⟨u.val + 5 - 8, by omega⟩ l)
    pointwise
    refine (dif_pos ⟨by omega, by omega⟩).trans ?_
    exact congrArg (fun k => y (ix3 0 k l)) (Fin.ext (by show u.val - 3 = u.val + 5 - 8; omega))

include hV hA

theorem conv (t : Fin 4096) (l : Fin 1024) : val_main_v44 (F := Ideal) x0 x1 x2 (ix3 0 t l) = ce Y V A t l := by
  have hu := up hY
  refine Eq.trans (b := (((x2 (ix2 0 l) + x1 (ix3 0 0 l) * val_main_v14 (F := Ideal) x0 (ix3 0 ⟨t, by omega⟩ l)) + x1 (ix3 0 1 l) * val_main_v14 (F := Ideal) x0 (ix3 0 ⟨1 + t, by omega⟩ l))
    + x1 (ix3 0 2 l) * val_main_v14 (F := Ideal) x0 (ix3 0 ⟨2 + t, by omega⟩ l)) + x1 (ix3 0 3 l) * val_main_v14 (F := Ideal) x0 (ix3 0 ⟨3 + t, by omega⟩ l)) ?_ ?_
  · unfold val_main_v44 val_main_v43 val_main_v40 val_main_v37 val_main_v36 val_main_v33 val_main_v30 val_main_v29 val_main_v26 val_main_v23 val_main_v20 val_main_v17
    generalize val_main_v14 (F := Ideal) x0 = y
    pointwise [val_main_v42, val_main_v41, val_main_v39, val_main_v38, val_main_v35, val_main_v34, val_main_v32, val_main_v31, val_main_v28, val_main_v27, val_main_v25, val_main_v24,
      val_main_v22, val_main_v21, val_main_v19, val_main_v18, val_main_v16, val_main_v15, val_main_v13, val_main_v12]
  · rw [hu, hu, hu, hu, hV, hV, hV, hV, hA]
    show A l + V 0 l * xz Y (t.val + 5) l + V 1 l * xz Y (1 + t.val + 5) l + V 2 l * xz Y (2 + t.val + 5) l + V 3 l * xz Y (3 + t.val + 5) l = _
    unfold ce
    rw [show 1 + t.val + 5 = t.val + 6 by omega, show 2 + t.val + 5 = t.val + 7 by omega, show 3 + t.val + 5 = t.val + 8 by omega]
    ac_rfl

theorem silu (t : Fin 4096) (l : Fin 1024) : val_main_v45 (F := Ideal) x0 x1 x2 (ix3 0 t l) = act Y V A t l := by
  unfold act
  rw [← conv hY hV hA t l]
  unfold val_main_v45 val_main_call1_v5 val_main_call1_v3 val_main_call1_v1 val_main_call1_v0
  generalize val_main_v44 (F := Ideal) x0 x1 x2 = y
  have h1 : Ideal.ofBits .f32 0x3F800000#32 = 1 := by simp [Ideal.ofBits, Ideal.ieee, -EReal.coe_mul]; norm_num
  pointwise [val_main_call1_v4, val_main_call1_cst_0, val_main_call1_v2, val_main_call1_cst]
  rfl

theorem ref_out (t : Fin 4096) (j : Fin 1536) : val_main_v52 (F := Ideal) x0 x1 x2 (ix2 t j) = out Y V A t j := by
  have hs := silu hY hV hA
  refine Eq.trans (b := val_main_v50 (F := Ideal) x0 x1 x2 (ix3 0 t j)) ?_ ?_
  · unfold val_main_v52 val_main_v51
    generalize val_main_v50 (F := Ideal) x0 x1 x2 = y
    pointwise
  · unfold val_main_v50 val_main_v49 val_main_v47 val_main_v46 out
    generalize val_main_v45 (F := Ideal) x0 x1 x2 = y at hs ⊢
    by_cases h : j.val < 512
    · rw [if_pos h]
      refine Eq.trans ?_ (hs t ⟨j, by omega⟩)
      pointwise
      rw [dif_pos h]
    · rw [if_neg h]
      by_cases h' : j.val < 1024
      · rw [if_pos h']
        refine Eq.trans ?_ (congrArg (fun z : EReal => z * Ideal.ofBits .f32 0x3DB504F3#32) (hs t ⟨j, h'⟩))
        pointwise [val_main_v48, val_main_cst]
        rw [dif_neg h, dif_pos (by omega)]
        exact congrArg (fun k => y (ix3 0 t k) * Ideal.ofBits .f32 0x3DB504F3#32) (Fin.ext (by show 512 + (j.val - 512) = j.val; omega))
      · rw [if_neg h']
        refine Eq.trans ?_ (hY t j)
        pointwise [val_main_v6]
        rw [dif_neg h, dif_neg (by omega)]
        exact congrArg (fun k => x0 (ix3 0 t k)) (Fin.ext (by show 3072 + (j.val - 512 - 512) = 2048 + j.val; omega))

end Cert.PrepRef
end
-- ==== Proof.PrepClaim.lean ====
module

public import proofs.«01_k».proof.Defs
public import proofs.«01_k».proof.Proof.PrepRef
public import proofs.«01_k».proof.Proof.Gen.PrepKernel.Frame

/-! The convolution's forward claims: the value claim, of all arguments, and the reference's frame. -/

@[expose] public section
set_option maxRecDepth 16384
noncomputable section

namespace Cert.PrepProof
open Idealize.ShloMosaic Idealize.ShloMosaic.TcCoe Idealize.SL.Sem Cert.ConvMath

attribute [local instance] Cert.PrepKernelIdeal.Gen.facts Cert.PrepReferenceIdeal.Gen.facts

open Cert.PrepKernelIdeal Cert.PrepKernelIdeal.Gen Cert.PrepReferenceIdeal.Read in
theorem res (m : (ℓ : Loc nD τ sig) → Buf (Elt Ideal) ℓ) (c : Dev nD) : val_main_v52 (F := Ideal) (argP m c) (argW m c) (argB m c) = (dats m 0 c).arrAt 3 cfg0.N := by
  let Y : ℕ → ℕ → EReal := fun t j => if ht : t < 4096 then if hj : j < 1536 then argP m c (ix3 0 ⟨t, ht⟩ ⟨2048 + j, colLt ⟨j, hj⟩⟩) else 0 else 0
  let V : ℕ → ℕ → EReal := fun t j => if ht : t < 4 then if hj : j < 1024 then argW m c (ix3 0 ⟨t, ht⟩ ⟨j, hj⟩) else 0 else 0
  let A : ℕ → EReal := fun j => if hj : j < 1024 then argB m c (ix2 0 ⟨j, hj⟩) else 0
  have hY : ∀ (t : Fin 4096) (j : Fin 1536), argP m c (ix3 0 t ⟨2048 + j, colLt j⟩) = Y t j := fun t j => ((dif_pos t.isLt).trans (dif_pos j.isLt)).symm
  have hV : ∀ (t : Fin 4) (j : Fin 1024), argW m c (ix3 0 t j) = V t j := fun t j => ((dif_pos t.isLt).trans (dif_pos j.isLt)).symm
  have hA : ∀ j : Fin 1024, argB m c (ix2 0 j) = A j := fun j => Eq.symm (a := A j) (dif_pos (c := j.val < 1024) j.isLt)
  funext i
  obtain ⟨r, l, rfl⟩ : ∃ (r : Fin 4096) (l : Fin 1536), i = ix2 r l := ⟨i 0, i 1, eq_ix2 i⟩
  exact (Cert.PrepRef.ref_out hY hV hA r l).trans (out_at m c hY hV hA r l).symm

theorem algebraic : Cert.algebraic_PrepKernelIdeal_PrepReferenceIdeal := by
  intro m g m' g' _ hag
  refine ⟨fun c => (Cert.PrepKernelIdeal.Gen.dats m 0 c).arrAt 3 Cert.PrepKernelIdeal.cfg0.N, ?_, ?_⟩
  · exact Cert.PrepKernelIdeal.Value.run_blocks m g
  · refine (θ_run _ _ _).mono (fun r h c => ?_) (Cert.PrepReferenceIdeal.Value.run m' g')
    obtain ⟨h0, hrest⟩ := h c
    obtain ⟨a0, a1, a2⟩ := hag c
    refine ⟨h0.trans ?_, hrest⟩
    rw [Cert.PrepReferenceIdeal.Read.val_main_v52_eq, a0, a1, a2]
    exact res m c

theorem frameR : Cert.quiescent_PrepReferenceIdeal := by
  intro m g _
  exact (θ_run _ _ _).mono (fun r h => ⟨fun c => (h c).2, sem_eq_zero_of_no_sems (by decide) r.2⟩)
    (Cert.PrepReferenceIdeal.Value.run m g)

end Cert.PrepProof
end
-- ==== Proof.ProjRun.lean ====
module

public import proofs.«01_k».proof.Proof.Gen.ProjKernelIdeal.Frame
public import proofs.«01_k».proof.Proof.Gen.ProjKernelIdeal.Skeleton
public import Idealize.ShloMosaic.Lib.Pipeline.ValueKit

/-! The body of the in-projection's kernel, run from start to end: at the first column tile of a block of rows, where it
writes the normalized rows and the gates, and at a later tile, where it finds the normalized rows in place. -/

@[expose] public section

set_option maxRecDepth 16384

noncomputable section

namespace Cert.ProjProof

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A core's whole buffer at a value. -/
abbrev own (c : Dev nD) {S : Shape} {e : EltTy} (M : Memref sig .tc .vmem S e) (v : Vec F S e) : sProp 𝕄 := owns (c : Thread nD τ) M fullShare v

/-- A whole block stored over anything reads back as stored. -/
theorem read_stored {κ : Kind} {sp : Space} {S : Shape} {e : EltTy} (v : View sig κ sp S e) (f : v.ty.Contents (Elt F))
    {off : Fin S.rank → Nat} (inb : ∀ a, off a + S.size a ≤ S.size a) (h : ∀ a, off a = 0) (w : S.Idx → Elt F e) :
    v.read (Elt F) (v.writes (Elt F) f [⟨Rect.unit off S.size inb, w⟩]) = w := by
  obtain rfl : off = fun _ => 0 := funext h
  funext y
  have e := View.read_writes_cons_emb v f (Rect.whole S) w [] y
  rw [Rect.emb_whole_apply] at e
  exact e

/-- Reading the whole of a block reads the block. -/
theorem readAt_whole {κ : Kind} {sp : Space} {S : Shape} {e : EltTy} {v : View sig κ sp S e} {f : v.ty.Contents (Elt F)} {X : S.Idx → Elt F e}
    {off : Fin S.rank → Nat} (inb : ∀ a, off a + S.size a ≤ S.size a) (h : ∀ a, off a = 0) (hf : v.read (Elt F) f = X) :
    v.readAt (Elt F) (Rect.unit off S.size inb).toLoadRect f = X :=
  (View.ld_unit_lit inb (v.read (Elt F) f) h).trans hf

theorem zero2 : ∀ a : Fin 2, (![0, 0] : Fin 2 → ℕ) a = 0 := by decide

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1152x1024 .bf16) (harg4 : arg4.IsWhole) (arg5 : Memref sig .tc .vmem S128x1024 .bf16) (harg5 : arg5.IsWhole) (arg6 : Memref sig .tc .vmem S1024x1152 .f32) (harg6 : arg6.IsWhole) (arg7 : Memref sig .tc .vmem S1024x128 .f32) (harg7 : arg7.IsWhole) (arg8 : Memref sig .tc .vmem S1024x1024 .bf16) (harg8 : arg8.IsWhole)
  (x0 : Vec F S1024x1024 .f32) (x1 : Vec F S1x1024 .f32) (x2 : Vec F S1152x1024 .bf16) (x3 : Vec F S128x1024 .bf16)

set_option maxHeartbeats 2000000 in
/-- The first column tile of a block of rows. -/
theorem run_first (hc : k0_cond1 i = 1#1) (E : Set ℕ) (K : PUnit → sProp 𝕄) :
    iprop(own c arg2 x0 ∗ own c arg3 x1 ∗ own c arg4 x2 ∗ own c arg5 x3 ∗ (∃ d, own c arg6 d) ∗ (∃ d, own c arg7 d) ∗ (∃ d, own c arg8 d)
        ∗ (iprop(own c arg2 x0 ∗ own c arg3 x1 ∗ own c arg4 x2 ∗ own c arg5 x3 ∗ own c arg6 (k0_pay3 (k0_pay1 x0 x1) x2) ∗ own c arg7 (k0_pay2 x0 x1 x3) ∗ own c arg8 (k0_pay1 x0 x1)) -∗ K ⟨⟩))
      ⊢ wp frame (wpE (defs₀ (F := F)) Variants.none c none) E (cc0_inproj_fwd i arg2 harg2 arg3 harg3 arg4 harg4 arg5 harg5 arg6 harg6 arg7 harg7 arg8 harg8) K := by
  simp only [cc0_inproj_fwd_eq_skeleton]; unfold cc0_inproj_fwd_skel
  unfold own owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (read_stored _ _ _ zero2 _).trans ?_
    unfold run_first.sl.v3 run_first.sl.H6_1
    rw [View.readCov_unit_lit _ _ _ zero2]
    exact congrArg₂ k0_pay3 (congrArg₂ k0_pay1 (readAt_whole _ zero2 hf0) (readAt_whole _ zero2 hf1)) (readAt_whole _ zero2 hf2)
  isplitl [H5]
  · iexists _; isplitr; swap; · iexact H5
    ipureintro
    refine (read_stored _ _ _ zero2 _).trans ?_
    exact congr (congrArg₂ k0_pay2 (readAt_whole _ zero2 hf0) (readAt_whole _ zero2 hf1)) (readAt_whole _ zero2 hf3)
  iexists _; isplitr; swap; · iexact H6
  ipureintro
  unfold run_first.sl.H6_1
  refine (read_stored _ _ _ zero2 _).trans ?_
  exact congrArg₂ k0_pay1 (readAt_whole _ zero2 hf0) (readAt_whole _ zero2 hf1)

set_option maxHeartbeats 2000000 in
/-- A later column tile: the normalized rows are in place, the gates' buffer is left alone. -/
theorem run_later (u : Vec F S1024x1024 .bf16) (hc : ¬ k0_cond1 i = 1#1) (E : Set ℕ) (K : PUnit → sProp 𝕄) :
    iprop(own c arg4 x2 ∗ (∃ d, own c arg6 d) ∗ own c arg8 u
        ∗ (iprop(own c arg4 x2 ∗ own c arg6 (k0_pay3 u x2) ∗ own c arg8 u) -∗ K ⟨⟩))
      ⊢ wp frame (wpE (defs₀ (F := F)) Variants.none c none) E (cc0_inproj_fwd i arg2 harg2 arg3 harg3 arg4 harg4 arg5 harg5 arg6 harg6 arg7 harg7 arg8 harg8) K := by
  simp only [cc0_inproj_fwd_eq_skeleton]; unfold cc0_inproj_fwd_skel
  unfold own owns
  iintro ⟨⟨%f2, %hf2, H2⟩, ⟨%d4, %f4, -, H4⟩, ⟨%f6, %hf6, H6⟩, Hk⟩
  obtain rfl := harg4.eq_unread hf2; obtain rfl := harg8.eq_unread hf6
  sl_exec (disch := sl_exact hc)
  sl_step
  iapply Hk
  isplitl [H2]
  · iexists _; isplitr; · ipureintro; exact harg4.read_unread _
    iexact H2
  isplitl [H4]
  · iexists _; isplitr; swap; · iexact H4
    ipureintro
    refine (read_stored _ _ _ zero2 _).trans ?_
    exact congrArg₂ k0_pay3 (readAt_whole _ zero2 hf6) (readAt_whole _ zero2 hf2)
  iexists _; isplitr; · ipureintro; exact harg8.read_unread _
  iexact H6

end Cert.ProjProof

end
-- ==== Proof.ProjFrame.lean ====
module

public import proofs.«01_k».proof.Proof.ProjRun
public import Idealize.ShloMosaic.Lib.Pipeline.TableIdle
public import Idealize.ShloMosaic.Lib.Claim

/-! The in-projection's kernel runs to an end on every input and leaves its arguments as they were; the normalized rows
and the gates, written at a row block's first column tile, stay in their buffers until its last. -/

@[expose] public section

set_option maxRecDepth 16384

noncomputable section

namespace Cert.ProjProof

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond_iff : ∀ t : Fin cfg0.N, k0_cond1 (grid0.coords t) = 1#1 ↔ t.val % 4 = 0 :=
  (by decide +kernel : ∀ t : Fin grid0.N, _)
/-- The gates' and the normalized rows' buffers are left alone past a block's first tile, and hold what was stored there. -/
theorem idle5 : ∀ t : Fin cfg0.N, cfg0.idle 5 (cfg0.grid.coords t) = true → t.val % 4 ≠ 0 := by decide +kernel
theorem idle6 : ∀ t : Fin cfg0.N, cfg0.idle 6 (cfg0.grid.coords t) = true → t.val % 4 ≠ 0 := by decide +kernel
theorem kept5 : ∀ t : Fin cfg0.N, t.val % 4 ≠ 0 → cfg0.fresh 5 t.val = false := by decide +kernel
theorem kept6 : ∀ t : Fin cfg0.N, t.val % 4 ≠ 0 → cfg0.fresh 6 t.val = false := by decide +kernel

abbrev m0 (t : Fin cfg0.N) : Memref sig .tc .vmem S1024x1024 .f32 := win0_0.stage (cfg0.slots t 0)
abbrev m1 (t : Fin cfg0.N) : Memref sig .tc .vmem S1x1024 .f32 := win0_1.stage (cfg0.slots t 1)
abbrev m2 (t : Fin cfg0.N) : Memref sig .tc .vmem S1152x1024 .bf16 := win0_2.stage (cfg0.slots t 2)
abbrev m3 (t : Fin cfg0.N) : Memref sig .tc .vmem S128x1024 .bf16 := win0_3.stage (cfg0.slots t 3)
abbrev m4 (t : Fin cfg0.N) : Memref sig .tc .vmem S1024x1152 .f32 := win0_4.stage (cfg0.slots t 4)
abbrev m5 (t : Fin cfg0.N) : Memref sig .tc .vmem S1024x128 .f32 := win0_5.stage (cfg0.slots t 5)
abbrev m6 (t : Fin cfg0.N) : Memref sig .tc .vmem S1024x1024 .bf16 := win0_6.stage (cfg0.slots t 6)

/-- The first point of `t`'s block of rows. -/
def head (t : Fin cfg0.N) : Fin cfg0.N := ⟨4 * (t.val / 4), by omega⟩

theorem head_self {t : Fin cfg0.N} (h : t.val % 4 = 0) : head t = t := Fin.ext (by unfold head; dsimp only; omega)
theorem head_prev {t : Fin cfg0.N} (h : t.val % 4 ≠ 0) : head t = head ⟨t.val - 1, by omega⟩ := Fin.ext (by unfold head; dsimp only; omega)

/-- The normalized rows, the gates and the projected tile that a point's buffers hold. -/
def rowsAt (c : Dev nD) (t : Fin cfg0.N) : Vec F S1024x1024 .bf16 := k0_pay1 (iblk m c 0 (head t)) (iblk m c 1 (head t))
def gatesAt (c : Dev nD) (t : Fin cfg0.N) : Vec F S1024x128 .f32 := k0_pay2 (iblk m c 0 (head t)) (iblk m c 1 (head t)) (iblk m c 3 (head t))
def tileAt (c : Dev nD) (t : Fin cfg0.N) : Vec F S1024x1152 .f32 := k0_pay3 (rowsAt m c t) (X0_2 m c t)

/-- The proof data: the arrays as the region finds them, each input's block left in place, the outputs' as computed. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => tileAt m c t
    | ⟨5, _⟩ => gatesAt m c t
    | ⟨6, _⟩ => rowsAt m c t
  Φ _ := Pipeline.ΦA spec0 c
  q _ := fullShare
  owed _ := 0

theorem dat_A (c : Dev nD) (w : Fin cfg0.W) : (dat m 0 c).A w = V m c (Pipeline.arrRef spec0 w) := by dsimp only [dat]
theorem aft5 (c : Dev nD) (t : Fin cfg0.N) : (dat m 0 c).after 5 t = gatesAt m c t := by dsimp only [dat]
theorem aft6 (c : Dev nD) (t : Fin cfg0.N) : (dat m 0 c).after 6 t = rowsAt m c t := by dsimp only [dat]
theorem bef0 (c : Dev nD) (t : Fin cfg0.N) (d) : (dat m 0 c).before 0 t d = iblk m c 0 t := before0_0_of m (dat m 0 c) (dat_A m c 0) (fun _ => rfl) t d
theorem bef1 (c : Dev nD) (t : Fin cfg0.N) (d) : (dat m 0 c).before 1 t d = iblk m c 1 t := before0_1_of m (dat m 0 c) (dat_A m c 1) (fun _ => rfl) t d
theorem bef2 (c : Dev nD) (t : Fin cfg0.N) (d) : (dat m 0 c).before 2 t d = X0_2 m c t := before0_2_of m (dat m 0 c) (dat_A m c 2) (fun _ => rfl) t d
theorem bef3 (c : Dev nD) (t : Fin cfg0.N) (d) : (dat m 0 c).before 3 t d = iblk m c 3 t := before0_3_of m (dat m 0 c) (dat_A m c 3) (fun _ => rfl) t d

/-- Past a block's first tile a buffer that keeps its contents holds at a point what it is to hold after it. -/
theorem bef_kept (c : Dev nD) (w : Fin cfg0.W) (hw : (cfg0.win w).isOut = true) (hclip : ∀ (i : cfg0.grid.Coords) a, (cfg0.win w).clip i a = none)
    (idle : ∀ t : Fin cfg0.N, cfg0.idle w (cfg0.grid.coords t) = true → t.val % 4 ≠ 0)
    (kept : ∀ t : Fin cfg0.N, t.val % 4 ≠ 0 → cfg0.fresh w t.val = false)
    (carry : ∀ t : Fin cfg0.N, t.val % 4 ≠ 0 → (dat m 0 c).after w t = (dat m 0 c).after w ⟨t.val - 1, by omega⟩)
    (t : Fin cfg0.N) (h : t.val % 4 ≠ 0) (d) : (dat m 0 c).before w t d = (dat m 0 c).after w t := by
  rw [(dat m 0 c).before_out_traj w hw hclip (fun t _ hi _ => carry t (idle t hi)) t.val t rfl d, kept t h, carry t h]
  rfl

theorem bef5 (c : Dev nD) (t : Fin cfg0.N) (h : t.val % 4 ≠ 0) (d) : (dat m 0 c).before 5 t d = (dat m 0 c).after 5 t :=
  bef_kept m c 5 rfl (fun _ _ => rfl) idle5 kept5 (fun t h => by rw [aft5, aft5, gatesAt, gatesAt, head_prev h]) t h d
theorem bef6 (c : Dev nD) (t : Fin cfg0.N) (h : t.val % 4 ≠ 0) (d) : (dat m 0 c).before 6 t d = (dat m 0 c).after 6 t :=
  bef_kept m c 6 rfl (fun _ _ => rfl) idle6 kept6 (fun t h => by rw [aft6, aft6, rowsAt, rowsAt, head_prev h]) t h d

/-- A buffer at what it is to hold after a point is as the point has to leave it. -/
theorem leave (c : Dev nD) (w : Fin cfg0.W) (t : Fin cfg0.N)
    (h : cfg0.idle w (cfg0.grid.coords t) = true → ∀ d, (dat m 0 c).before w t d = (dat m 0 c).after w t) :
    owns (c : Thread nD τ) ((cfg0.win w).stage (cfg0.slots t w)) fullShare ((dat m 0 c).after w t) ⊢ ((dat m 0 c).leavesExact w t : sProp 𝕄) := by
  unfold Dat.leavesExact
  cases hi : cfg0.idle w (cfg0.grid.coords t)
  · exact .rfl
  · cases (cfg0.win w).flush t
    · iintro H; iexists (dat m 0 c).after w t
      rw [h hi]; iexact H
    · exact .rfl

/-- Before and after the body at point `t`, buffer by buffer. -/
def pre (c : Dev nD) (t : Fin cfg0.N) : sProp 𝕄 :=
  iprop((dat m 0 c).Φ t.castSucc ∗ (dat m 0 c).owesAt () t.castSucc
    ∗ (∃ d, own c (m0 t) ((dat m 0 c).before 0 t d))
    ∗ (∃ d, own c (m1 t) ((dat m 0 c).before 1 t d))
    ∗ (∃ d, own c (m2 t) ((dat m 0 c).before 2 t d))
    ∗ (∃ d, own c (m3 t) ((dat m 0 c).before 3 t d))
    ∗ (∃ d, own c (m4 t) ((dat m 0 c).before 4 t d))
    ∗ (∃ d, own c (m5 t) ((dat m 0 c).before 5 t d))
    ∗ (∃ d, own c (m6 t) ((dat m 0 c).before 6 t d)))
def post (c : Dev nD) (t : Fin cfg0.N) : sProp 𝕄 :=
  iprop((dat m 0 c).Φ t.castSucc ∗ (dat m 0 c).owesAt () t.castSucc
    ∗ own c (m0 t) (iblk m c 0 t) ∗ own c (m1 t) (iblk m c 1 t) ∗ own c (m2 t) (X0_2 m c t) ∗ own c (m3 t) (iblk m c 3 t)
    ∗ own c (m4 t) (tileAt m c t) ∗ (dat m 0 c).leavesExact 5 t ∗ (dat m 0 c).leavesExact 6 t)

theorem body_ok (c : Dev nD) (t : Fin cfg0.N) :
    pre m c t ⊢ wp frame (wpE (defs₀ (F := F)) Variants.none c none) Set.univ (bodyAt0 t) (fun _ => post m c t) := by
  have l5 := leave m c 5 t fun hi => bef5 m c t (idle5 t hi)
  have l6 := leave m c 6 t fun hi => bef6 m c t (idle6 t hi)
  rw [aft5] at l5; rw [aft6] at l6
  unfold pre post bodyAt0
  simp only [bef0, bef1, bef2, bef3]
  by_cases h : t.val % 4 = 0
  · rw [tileAt, rowsAt, head_self h]; rw [gatesAt, head_self h] at l5; rw [rowsAt, head_self h] at l6
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t) (m0 t) _ (m1 t) _ (m2 t) _ (m3 t) _ (m4 t) _ (m5 t) _ (m6 t) _
      (iblk m c 0 t) (iblk m c 1 t) (X0_2 m c t) (iblk m c 3 t) ((cond_iff t).mpr h) Set.univ _)
    iframe H0 H1 H2 H3
    isplitl [H4]; · iexists _; iexact H4
    isplitl [H5]; · iexists _; iexact H5
    isplitl [H6]; · iexists _; iexact H6
    iintro ⟨H0, H1, H2, H3, H4, H5, H6⟩
    iframe HΦ Ho H0 H1 H2 H3 H4
    isplitl [H5]
    · iapply l5; iexact H5
    iapply l6; iexact H6
  · have b5 := bef5 m c t h
    have b6 := bef6 m c t h
    rw [aft5] at b5; rw [aft6] at b6
    simp only [b5, b6]
    rw [tileAt]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) (m0 t) _ (m1 t) _ (m2 t) _ (m3 t) _ (m4 t) _ (m5 t) _ (m6 t) _
      (X0_2 m c t) (rowsAt m c t) (fun hc => h ((cond_iff t).mp hc)) Set.univ _)
    isplitl [H2]; · iexact H2
    isplitl [H4]; · iexists _; iexact H4
    isplitl [H6]; · iexact H6
    iintro ⟨H2, H4, H6⟩
    iframe HΦ Ho H0 H1 H2 H3 H4
    isplitl [H5]
    · iapply l5; iexact H5
    iapply l6; iexact H6

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ := fun t => by
  rw [bigSep_W0, bigSep_W0, defs_row]
  exact triple_restated (body_ok m c t) rfl .rfl fun _ => .rfl

set_option backward.isDefEq.respectTransparency.types false in
/-- The launch: every execution ends, with each array at what the proof data say and every counter at zero. -/
theorem launch_ends : θ_run defs (onTc (τ := τ) (main (F := F))) (s₀ m ρ) (fun r => (Pipeline.FramePost cfgs (dat m) 0 (V m)) r ∧ r.2.sem = fun _ => 0) :=
  Pipeline.θ_run_frame (Q' := _) cfgs (dat m) (0 : Fin 1) launch0 defs₀ Variants.none m ρ main
    (hbody := fun c => (obligation m c).loose) (hshare := fun c => (dat m 0 c).share_full fun _ => rfl)
    (howed := fun _ _ => rfl) (V := V m) (hmain := hmain m Variants.none) (hA := dat_A m) (hΦ := fun _ _ => rfl)

theorem run_main : θ_run defs (onTc (τ := τ) (main (F := F))) (s₀ m ρ) (Pipeline.FramePost cfgs (dat m) 0 (V m)) :=
  (θ_run defs _ _).mono (fun _ h => h.1) (launch_ends m ρ)

/-- The arguments end as they were and the counters at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dat m) (dat_A m) (run_main m ρ)) ((θ_run defs _ _).mono (fun _ h => h.2) (launch_ends m ρ))

end Cert.ProjProof

end
-- ==== Proof.ProjSame.lean ====
module

public import proofs.«01_k».proof.Defs
public import proofs.«01_k».proof.Proof.Gen.ProjKernel
public import proofs.«01_k».proof.Proof.ProjFrame
public import Idealize.ShloMosaic.Lib.Tactic

/-! The printed in-projection and its idealization are one text: the frame of the one is the frame of the other. -/

@[expose] public section

set_option maxRecDepth 16384

noncomputable section

namespace Cert.ProjProof

open Idealize.ShloMosaic Idealize.ShloMosaic.Tactic Idealize.SL.Sem

local instance : Cert.ProjKernel.Facts := Cert.ProjKernel.Gen.facts

open Cert.ProjKernelIdeal in
/-- The frame of the idealization read over machine words. -/
def Framed : Prop := ∀ (m : (ℓ : Loc nD τ sig) → Buf (Elt Bits) ℓ) (ρ : Dev nD → PrngReg), True →
  θ_run (defs (F := Bits)) (onTc (τ := τ) (main (F := Bits))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ∧ r.2.sem = fun _ => 0)

theorem same : Framed = Cert.quiescent_ProjKernel := by sl_kernel_rfl

theorem frameK : Cert.quiescent_ProjKernel := same ▸ fun m ρ _ => frame (F := Bits) m ρ

end Cert.ProjProof

end
-- ==== Proof.ProjMath.lean ====
module

public import proofs.«01_k».proof.Proof.Gen.ProjKernelIdeal.Skeleton
public import proofs.«01_k».proof.Proof.Gen.ProjReferenceIdeal.Read
public import Idealize.ShloMosaic.Lib.Pipeline.ValueKit
public import Idealize.ShloMosaic.Lib.Claim
public import Idealize.ShloMosaic.Lib.StableHlo.ReadAt

/-! The arithmetic of the in-projection: what the kernel's payloads and the reference compute at an index. -/

@[expose] public section
set_option maxRecDepth 16384
noncomputable section

namespace Cert.ProjProof
open Idealize.ShloMosaic Idealize.ShloMosaic.TcCoe Idealize.SL.Sem

/-- Lane `l` of a row after the norm. -/
def row (x w : Fin 1024 → EReal) (l : Fin 1024) : EReal :=
  x l * Ideal.rsqrt (Ideal.div (∑ k, x k * x k) (Ideal.ofBits .f32 0x44800000#32) + Ideal.ofBits .f32 0x358637BD#32) * w l

section Kernel
open Cert.ProjKernelIdeal Cert.ProjKernelIdeal.Gen
variable (x : FVec Ideal S1024x1024 .f32) (w : FVec Ideal S1x1024 .f32) (r : Fin 1024)

theorem pay1_at (l : Fin 1024) : k0_pay1 (F := Ideal) x w (ix2 r l) = row (fun k => x (ix2 r k)) (fun k => w (ix2 0 k)) l := by
  pointwise [k0_pay1, row]

theorem pay2_at (v : FVec Ideal S128x1024 .bf16) (g : Fin 128) :
    k0_pay2 (F := Ideal) x w v (ix2 r g) = ∑ k : Fin 1024, row (fun k => x (ix2 r k)) (fun k => w (ix2 0 k)) k * v (ix2 g k) := by
  pointwise [k0_pay2, k0_pay1, row]

theorem pay3_at (u : FVec Ideal S1024x1024 .bf16) (v : FVec Ideal S1152x1024 .bf16) (g : Fin 1152) :
    k0_pay3 (F := Ideal) u v (ix2 r g) = ∑ k : Fin 1024, u (ix2 r k) * v (ix2 g k) := by
  pointwise [k0_pay3]
end Kernel

section Reference
open Cert.ProjReferenceIdeal Cert.ProjReferenceIdeal.Read
variable (x : FVec Ideal S1x4096x1024 .f32) (w : FVec Ideal S1x1024 .f32) (i : Fin 4096)

/-- Row `i` after the norm. -/
abbrev nrm : Fin 1024 → EReal := row (fun k => x (ix3 0 i k)) (fun k => w (ix2 0 k))

theorem ref_rows (l : Fin 1024) : val_main_v13 (F := Ideal) x w (ix3 0 i l) = nrm x w i l := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, row]

variable (W : FVec Ideal S1x1024x4616 .f32)

theorem ref_all (j : Fin 4616) : val_main_v15 (F := Ideal) x w W (ix3 0 i j) = ∑ k : Fin 1024, nrm x w i k * W (ix3 0 k j) := by
  refine Eq.trans (b := ∑ k : Fin 1024, val_main_v13 (F := Ideal) x w (ix3 0 i k) * W (ix3 0 k j)) ?_ (Finset.sum_congr rfl fun k _ => congrArg (· * _) (ref_rows x w i k))
  generalize h : val_main_v13 (F := Ideal) x w = y
  pointwise [val_main_v15, val_main_v14]
  rw [h]

/-- The projected columns. -/
theorem ref_tile (j : Fin 4608) : val_main_v20 (F := Ideal) x w W (ix2 i j) = ∑ k : Fin 1024, nrm x w i k * W (ix3 0 k ⟨j, by omega⟩) := by
  refine Eq.trans ?_ (ref_all x w i W ⟨j, by omega⟩)
  generalize h : val_main_v15 (F := Ideal) x w W = y
  pointwise [val_main_v20, val_main_v19]
  rw [h]

/-- The gates' columns, and zeros behind them. -/
theorem ref_gates (g : Fin 128) : val_main_v18 (F := Ideal) x w W (ix2 i g)
    = if h : g.val < 8 then ∑ k : Fin 1024, nrm x w i k * W (ix3 0 k ⟨4608 + g, by omega⟩) else 0 := by
  refine Eq.trans (b := if h : g.val < 8 then val_main_v15 (F := Ideal) x w W (ix3 0 i ⟨4608 + g, by omega⟩) else 0) ?_
    (dite_congr rfl (fun h => ref_all x w i W ⟨4608 + g, by omega⟩) fun _ => rfl)
  generalize h : val_main_v15 (F := Ideal) x w W = y
  pointwise [val_main_v18, val_main_v17, val_main_v16, val_main_call0_v0, val_main_c]
  refine dite_congr rfl (fun _ => by rw [h]) fun _ => ?_
  show ((((0#32 : BitVec 32).toInt : ℤ) : ℝ) : EReal) = 0
  simp

/-- The normalized rows. -/
theorem ref_u (l : Fin 1024) : val_main_v22 (F := Ideal) x w (ix2 i l) = nrm x w i l := by
  refine Eq.trans ?_ (ref_rows x w i l)
  generalize h : val_main_v13 (F := Ideal) x w = y
  pointwise [val_main_v22, val_main_v21]
  rw [h]
end Reference

end Cert.ProjProof
end
-- ==== Proof.ProjBlk.lean ====
module

public import proofs.«01_k».proof.Proof.ProjFrame
public import proofs.«01_k».proof.Proof.ProjMath
public import Idealize.ShloMosaic.Lib.Pipeline.Value

/-! What the in-projection's kernel leaves in its three results, as functions of the arguments. -/

@[expose] public section
set_option maxRecDepth 16384
noncomputable section

namespace Cert.ProjProof
open Idealize.ShloMosaic Idealize.ShloMosaic.TcCoe Idealize.SL.Sem
open Cert.ProjKernelIdeal Cert.ProjKernelIdeal.Gen

variable (m : (ℓ : Loc nD τ sig) → Buf (Elt Ideal) ℓ) (c : Dev nD)

abbrev argX : FVec Ideal S1x4096x1024 .f32 := m ((c : Thread nD τ).loc main_arg0)
abbrev argN : FVec Ideal S1x1024 .f32 := m ((c : Thread nD τ).loc main_arg1)
abbrev argW : FVec Ideal S1x1024x4616 .f32 := m ((c : Thread nD τ).loc main_arg2)

/-- The index maps of the windows, decided over the grid. -/
theorem idx : ∀ t : Fin cfg0.N, win0_0.index t = ![t.val / 4, 0] ∧ win0_1.index t = ![0, 0] ∧ win0_2.index t = ![t.val % 4, 0]
    ∧ win0_3.index t = ![0, 0] ∧ win0_4.index t = ![t.val / 4, t.val % 4] ∧ win0_5.index t = ![t.val / 4, 0] ∧ win0_6.index t = ![t.val / 4, 0] :=
  (by decide +kernel : ∀ t : Fin grid0.N, _)

/-! ## The arrays the region finds -/

theorem rows_entry (i : Fin 4096) (l : Fin 1024) : (show FVec Ideal S4096x1024 .f32 from V m c main_v5) (ix2 i l) = argX m c (ix3 0 i l) := by
  unfold V
  simp only [List.flatten_cons, List.flatten_nil, List.append_nil, List.cons_append, List.nil_append]
  after_reads_at

theorem weight_entry (j : Fin 4616) (k : Fin 1024) : (show FVec Ideal S4616x1024 .bf16 from V m c main_v2) (ix2 j k) = argW m c (ix3 0 k j) := by
  unfold V
  simp only [List.flatten_cons, List.flatten_nil, List.append_nil, List.cons_append, List.nil_append]
  after_reads_at

theorem gate_entry (g : Fin 128) (k : Fin 1024) :
    (show FVec Ideal S128x1024 .bf16 from V m c main_v4) (ix2 g k) = if h : g.val < 8 then argW m c (ix3 0 k ⟨4608 + g, by omega⟩) else 0 := by
  unfold V
  simp only [List.flatten_cons, List.flatten_nil, List.append_nil, List.cons_append, List.nil_append]
  after_reads_at
  refine dite_congr rfl (fun _ => rfl) fun _ => ?_
  show ((((0#32 : BitVec 32).toInt : ℤ) : ℝ) : EReal) = 0
  simp

/-! ## The blocks at a point -/

theorem rows_blk (t : Fin cfg0.N) (r k : Fin 1024) (i : Fin 4096) (hi : (i : ℕ) = t.val / 4 * 1024 + r) :
    (show FVec Ideal S1024x1024 .f32 from iblk m c 0 t) (ix2 r k) = argX m c (ix3 0 i k) := by
  obtain ⟨x0, x1, x2, x3, x4, x5, x6⟩ := idx t
  have he : (win0_0.blk t).view.emb (ix2 r k) = ix2 i k := by blk_ext [x0]
  blk_simp [iblk]
  rw [he]
  exact rows_entry m c i k

theorem norm_blk (t : Fin cfg0.N) (k : Fin 1024) : (show FVec Ideal S1x1024 .f32 from iblk m c 1 t) (ix2 0 k) = argN m c (ix2 0 k) := by
  obtain ⟨x0, x1, x2, x3, x4, x5, x6⟩ := idx t
  blk_ext [iblk, V, x1]

theorem weight_blk (t : Fin cfg0.N) (j : Fin 1152) (k : Fin 1024) (l : Fin 4616) (hl : (l : ℕ) = t.val % 4 * 1152 + j) :
    (show FVec Ideal S1152x1024 .bf16 from X0_2 m c t) (ix2 j k) = argW m c (ix3 0 k l) := by
  obtain ⟨x0, x1, x2, x3, x4, x5, x6⟩ := idx t
  show X0_2 m c t (ix2 j k) = _
  unfold X0_2 Pipeline.Window.fill
  rw [dif_pos (moved0_2 t (ix2 j k))]
  blk_simp [iblk]
  refine (congrArg (V m c main_v2) ?_).trans (weight_entry m c l k)
  blk_ext [x2]

theorem gate_blk (t : Fin cfg0.N) (g : Fin 128) (k : Fin 1024) :
    (show FVec Ideal S128x1024 .bf16 from iblk m c 3 t) (ix2 g k) = if h : g.val < 8 then argW m c (ix3 0 k ⟨4608 + g, by omega⟩) else 0 := by
  obtain ⟨x0, x1, x2, x3, x4, x5, x6⟩ := idx t
  have he : (win0_3.blk t).view.emb (ix2 g k) = ix2 g k := by blk_ext [x3]
  blk_simp [iblk]
  rw [he]
  exact gate_entry m c g k

/-! ## The buffers after a point -/

/-- Row `i` of the input after the norm. -/
abbrev normed (i : Fin 4096) : Fin 1024 → EReal := row (fun k => argX m c (ix3 0 i k)) (fun k => argN m c (ix2 0 k))

theorem head_div (t : Fin cfg0.N) : (head t).val / 4 = t.val / 4 := by unfold head; dsimp only; omega

/-- The norm of a block's row is the norm of the array's. -/
theorem normed_blk (t : Fin cfg0.N) (r : Fin 1024) (i : Fin 4096) (hi : (i : ℕ) = t.val / 4 * 1024 + r) :
    row (fun k => (show FVec Ideal S1024x1024 .f32 from iblk m c 0 (head t)) (ix2 r k)) (fun k => (show FVec Ideal S1x1024 .f32 from iblk m c 1 (head t)) (ix2 0 k))
      = normed m c i :=
  congrArg₂ row (funext fun k => rows_blk m c (head t) r k i (by rw [head_div, hi])) (funext fun k => norm_blk m c (head t) k)

theorem rowsAt_at (t : Fin cfg0.N) (r l : Fin 1024) (i : Fin 4096) (hi : (i : ℕ) = t.val / 4 * 1024 + r) : rowsAt m c t (ix2 r l) = normed m c i l :=
  (pay1_at _ _ r l).trans (congrFun (normed_blk m c t r i hi) l)

theorem gatesAt_at (t : Fin cfg0.N) (r : Fin 1024) (g : Fin 128) (i : Fin 4096) (hi : (i : ℕ) = t.val / 4 * 1024 + r) :
    gatesAt m c t (ix2 r g) = if h : g.val < 8 then ∑ k : Fin 1024, normed m c i k * argW m c (ix3 0 k ⟨4608 + g, by omega⟩) else 0 := by
  refine (pay2_at _ _ r _ g).trans ?_
  refine (Finset.sum_congr rfl fun k _ => congrArg₂ _ (congrFun (normed_blk m c t r i hi) k) (gate_blk m c (head t) g k)).trans ?_
  by_cases h : g.val < 8
  · simp only [dif_pos h]
  · simp only [dif_neg h, mul_zero, Finset.sum_const_zero]

theorem tileAt_at (t : Fin cfg0.N) (r : Fin 1024) (j : Fin 1152) (i : Fin 4096) (l : Fin 4616) (hi : (i : ℕ) = t.val / 4 * 1024 + r) (hl : (l : ℕ) = t.val % 4 * 1152 + j) :
    tileAt m c t (ix2 r j) = ∑ k : Fin 1024, normed m c i k * argW m c (ix3 0 k l) :=
  (pay3_at r _ _ j).trans (Finset.sum_congr rfl fun k _ => congrArg₂ _ (rowsAt_at m c t r k i hi) (weight_blk m c t j k l hl))

/-! ## The arrays after the run -/

theorem inj4 : ∀ t t' : Fin cfg0.N, win0_4.index t = win0_4.index t' → t = t' := (by decide +kernel : ∀ t t' : Fin grid0.N, _)
theorem inj5 : ∀ t t' : Fin cfg0.N, t.val % 4 = 3 → t'.val % 4 = 3 → win0_5.index t = win0_5.index t' → t = t' := (by decide +kernel : ∀ t t' : Fin grid0.N, _)

/-- An array holds at the end what the point that wrote it left, if no two points write the same block. -/
theorem arr_at (w : Fin cfg0.W) (hk : (cfg0.win w).kind = .blocked)
    (inj : ∀ t t', (cfg0.win w).flush t = true → (cfg0.win w).flush t' = true → (cfg0.win w).index t = (cfg0.win w).index t' → t = t')
    (t : Fin cfg0.N) (hf : (cfg0.win w).flush t = true) :
    ((cfg0.win w).blk t).view.read (Elt Ideal) ((dat m 0 c).arrAt w cfg0.N) = (dat m 0 c).flushed w t :=
  (dat m 0 c).read_blk_arrAt_eq_flushed w (fun t t' h h' hne => (cfg0.win w).disjoint_blk (fun e => hne (inj t t' h h' e)) hk) cfg0.N t t.isLt hf

variable (i : Fin 4096)

/-- Row `i` within its block. -/
abbrev low : Fin 1024 := ⟨i.val % 1024, by omega⟩

theorem tile_at (j : Fin 4608) :
    (show FVec Ideal S4096x4608 .f32 from (dat m 0 c).arrAt 4 cfg0.N) (ix2 i j) = ∑ k : Fin 1024, normed m c i k * argW m c (ix3 0 k ⟨j, by omega⟩) := by
  have h16 : cfg0.N = 16 := N_0
  let t : Fin cfg0.N := ⟨4 * (i.val / 1024) + j.val / 1152, by omega⟩
  have hq : t.val / 4 = i.val / 1024 := by show (4 * (i.val / 1024) + j.val / 1152) / 4 = _; omega
  have hr : t.val % 4 = j.val / 1152 := by show (4 * (i.val / 1024) + j.val / 1152) % 4 = _; omega
  obtain ⟨x0, x1, x2, x3, x4, x5, x6⟩ := idx t
  rw [hq, hr] at x4
  have he : (win0_4.blk t).view.emb (ix2 (low i) (⟨j.val % 1152, by omega⟩ : Fin 1152)) = ix2 i j := by blk_ext [x4]
  exact (congrArg ((dat m 0 c).arrAt 4 cfg0.N) he).symm.trans ((congrFun (arr_at m c 4 rfl (fun t t' _ _ => inj4 t t') t (flush0_4 t)) _).trans
    (tileAt_at m c t (low i) ⟨j.val % 1152, by omega⟩ i ⟨j, by omega⟩ (by dsimp only; omega) (by dsimp only; omega)))

/-- The last point of row `i`'s block. -/
def last : Fin cfg0.N := ⟨4 * (i.val / 1024) + 3, by have : cfg0.N = 16 := N_0; omega⟩

theorem last_div : (last i).val / 4 = i.val / 1024 := by unfold last; dsimp only; omega
theorem last_mod : (last i).val % 4 = 3 := by unfold last; dsimp only; omega
theorem last_row : i.val = (last i).val / 4 * 1024 + low i := by rw [last_div]; dsimp only; omega

theorem gates_at (g : Fin 128) : (show FVec Ideal S4096x128 .f32 from (dat m 0 c).arrAt 5 cfg0.N) (ix2 i g)
    = if h : g.val < 8 then ∑ k : Fin 1024, normed m c i k * argW m c (ix3 0 k ⟨4608 + g, by omega⟩) else 0 := by
  obtain ⟨x0, x1, x2, x3, x4, x5, x6⟩ := idx (last i)
  rw [last_div] at x5
  have he : (win0_5.blk (last i)).view.emb (ix2 (low i) g) = ix2 i g := by blk_ext [x5]
  exact (congrArg ((dat m 0 c).arrAt 5 cfg0.N) he).symm.trans ((congrFun (arr_at m c 5 rfl (fun t t' h h' => inj5 t t' ((flush0_5 t).mp h) ((flush0_5 t').mp h')) (last i) ((flush0_5 _).mpr (last_mod i))) _).trans
    (gatesAt_at m c (last i) (low i) g i (last_row i)))

theorem rows_at (l : Fin 1024) : (show FVec Ideal S4096x1024 .bf16 from (dat m 0 c).arrAt 6 cfg0.N) (ix2 i l) = normed m c i l := by
  obtain ⟨x0, x1, x2, x3, x4, x5, x6⟩ := idx (last i)
  rw [last_div] at x6
  have he : (win0_6.blk (last i)).view.emb (ix2 (low i) l) = ix2 i l := by blk_ext [x6]
  exact (congrArg ((dat m 0 c).arrAt 6 cfg0.N) he).symm.trans ((congrFun (arr_at m c 6 rfl (fun t t' h h' => inj5 t t' ((flush0_6 t).mp h) ((flush0_6 t').mp h')) (last i) ((flush0_6 _).mpr (last_mod i))) _).trans
    (rowsAt_at m c (last i) (low i) l i (last_row i)))

end Cert.ProjProof
end
-- ==== Proof.ProjClaim.lean ====
module

public import proofs.«01_k».proof.Defs
public import proofs.«01_k».proof.Proof.ProjBlk
public import proofs.«01_k».proof.Proof.Gen.ProjReferenceIdeal.Run

/-! The in-projection's value claim. -/

@[expose] public section
set_option maxRecDepth 16384
noncomputable section

namespace Cert.ProjProof
open Idealize.ShloMosaic Idealize.ShloMosaic.TcCoe Idealize.SL.Sem

attribute [local instance] Cert.ProjKernelIdeal.Gen.facts Cert.ProjReferenceIdeal.Gen.facts

section
open Cert.ProjKernelIdeal Cert.ProjKernelIdeal.Gen Cert.ProjReferenceIdeal.Read
variable (m : (ℓ : Loc nD τ sig) → Buf (Elt Ideal) ℓ) (c : Dev nD)

theorem res0 : val_main_v20 (F := Ideal) (argX m c) (argN m c) (argW m c) = (show FVec Ideal S4096x4608 .f32 from (dat m 0 c).arrAt 4 cfg0.N) := by
  funext i
  rw [eq_ix2 i]
  exact (ref_tile _ _ _ _ _).trans (tile_at m c _ _).symm

theorem res1 : val_main_v18 (F := Ideal) (argX m c) (argN m c) (argW m c) = (show FVec Ideal S4096x128 .f32 from (dat m 0 c).arrAt 5 cfg0.N) := by
  funext i
  rw [eq_ix2 i]
  exact (ref_gates _ _ _ _ _).trans (gates_at m c _ _).symm

theorem res2 : val_main_v22 (F := Ideal) (argX m c) (argN m c) = (show FVec Ideal S4096x1024 .bf16 from (dat m 0 c).arrAt 6 cfg0.N) := by
  funext i
  rw [eq_ix2 i]
  exact (ref_u _ _ _ _).trans (rows_at m c _ _).symm

theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v6_0) = (dat m 0 c).arrAt 4 cfg0.N
      ∧ r.2.mem ((c.tc : Thread nD τ).loc main_v6_1) = (dat m 0 c).arrAt 5 cfg0.N
      ∧ r.2.mem ((c.tc : Thread nD τ).loc main_v6_2) = (dat m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨(h.1 c).1 4, (h.1 c).1 5, (h.1 c).1 6, h.2.1 c⟩) (θ_run_and (run_main m g) (frame m g))
end

theorem algebraic : Cert.algebraic_ProjKernelIdeal_ProjReferenceIdeal := by
  intro m g m' g' _ hag
  refine ⟨_, _, _, kernel_run m g, ?_⟩
  refine (θ_run _ _ _).mono (fun r h c => ?_) (Cert.ProjReferenceIdeal.Value.run m' g')
  obtain ⟨h0, h1, h2, hrest⟩ := h c
  obtain ⟨e0, e1, e2⟩ := hag c
  refine ⟨h0.trans ?_, h1.trans ?_, h2.trans ?_, hrest⟩
  · rw [Cert.ProjReferenceIdeal.Read.val_main_v20_eq, e0, e1, e2]
    exact res0 m c
  · rw [Cert.ProjReferenceIdeal.Read.val_main_v18_eq, e0, e1, e2]
    exact res1 m c
  · rw [Cert.ProjReferenceIdeal.Read.val_main_v22_eq, e0, e1]
    exact res2 m c

theorem frameR : Cert.quiescent_ProjReferenceIdeal := by
  intro m g _
  exact (θ_run _ _ _).mono (fun r h => ⟨fun c => (h c).2.2.2, sem_eq_zero_of_no_sems (by decide) r.2⟩)
    (Cert.ProjReferenceIdeal.Value.run m g)

end Cert.ProjProof
end
-- ==== Proof.lean ====
module

public import proofs.«01_k».proof.Defs
public import proofs.«01_k».proof.Proof.Gen.InKernel.Frame
public import proofs.«01_k».proof.Proof.InClaim
public import proofs.«01_k».proof.Proof.Gen.SbKernel.Frame
public import proofs.«01_k».proof.Proof.SbClaim
public import proofs.«01_k».proof.Proof.Gen.ConvKernel.Frame
public import proofs.«01_k».proof.Proof.Gen.Pre_conv_in
public import proofs.«01_k».proof.Proof.ConvClaim
public import proofs.«01_k».proof.Proof.Gen.FwdKernel
public import proofs.«01_k».proof.Proof.FwdSame
public import proofs.«01_k».proof.Proof.FwdClaim
public import proofs.«01_k».proof.Proof.Gen.PrepKernel.Frame
public import proofs.«01_k».proof.Proof.PrepClaim
public import proofs.«01_k».proof.Proof.Gen.ProjKernel
public import proofs.«01_k».proof.Proof.ProjSame
public import proofs.«01_k».proof.Proof.ProjClaim
public import Idealize.ShloMosaic.Adequacy
public import Idealize.ShloMosaic.Init

@[expose] public section

noncomputable section

namespace Cert.Proof

open Idealize.ShloMosaic Idealize.SL.Sem Cert.InKernel

theorem claim : Cert.Claim :=
  ⟨Cert.InKernel.Gen.facts, Cert.InKernelIdeal.Gen.facts, Cert.InReferenceIdeal.Gen.facts,
    Cert.SbKernel.Gen.facts, Cert.SbKernelIdeal.Gen.facts, Cert.SbReferenceIdeal.Gen.facts,
    Cert.ConvKernel.Gen.facts, Cert.ConvKernelIdeal.Gen.facts, Cert.ConvReferenceIdeal.Gen.facts,
    Cert.FwdKernel.Gen.facts, Cert.FwdKernelIdeal.Gen.facts, Cert.FwdReferenceIdeal.Gen.facts,
    Cert.PrepKernel.Gen.facts, Cert.PrepKernelIdeal.Gen.facts, Cert.PrepReferenceIdeal.Gen.facts,
    Cert.ProjKernel.Gen.facts, Cert.ProjKernelIdeal.Gen.facts, Cert.ProjReferenceIdeal.Gen.facts,
    Cert.InProof.preFacts, Cert.SbProof.preFacts, Cert.ConvProof.preFacts, Cert.FwdProof.preFacts,
    fun m ρ _ => Cert.InKernel.Gen.frame m ρ,
    fun m ρ _ => Cert.InKernelIdeal.Gen.frame m ρ,
    fun m ρ _ => Cert.InKernelIdeal.Gen.frame m ρ,
    Cert.InProof.frameR,
    fun m ρ _ => Cert.InProof.frameR m ρ trivial,
    fun m ρ _ => Cert.SbKernel.Gen.frame m ρ,
    fun m ρ _ => Cert.SbKernelIdeal.Gen.frame m ρ,
    fun m ρ _ => Cert.SbKernelIdeal.Gen.frame m ρ,
    Cert.SbProof.frameR,
    fun m ρ _ => Cert.SbProof.frameR m ρ trivial,
    fun m ρ _ => Cert.ConvKernel.Gen.frame m ρ,
    fun m ρ _ => Cert.ConvKernelIdeal.Gen.frame m ρ,
    fun m ρ _ => Cert.ConvKernelIdeal.Gen.frame m ρ,
    Cert.ConvProof.frameR,
    fun m ρ _ => Cert.ConvProof.frameR m ρ trivial,
    Cert.FwdProof.frameK,
    fun m ρ _ => Cert.FwdProof.frame m ρ,
    fun m ρ _ => Cert.FwdProof.frame m ρ,
    Cert.FwdProof.frameR,
    fun m ρ _ => Cert.FwdProof.frameR m ρ trivial,
    fun m ρ _ => Cert.PrepKernel.Gen.frame m ρ,
    fun m ρ _ => Cert.PrepKernelIdeal.Gen.frame m ρ,
    Cert.PrepProof.frameR,
    Cert.ProjProof.frameK,
    fun m ρ _ => Cert.ProjProof.frame (F := Ideal) m ρ,
    Cert.ProjProof.frameR,
    trivial, Cert.InProof.algebraic, trivial, Cert.SbProof.algebraic, trivial, Cert.ConvProof.algebraic,
    trivial, Cert.FwdProof.algebraic, trivial, Cert.PrepProof.algebraic, trivial, Cert.ProjProof.algebraic⟩

end Cert.Proof

end
